-- ==== Defs.lean ====
def Pre_Kernel [hPre_sorted_by_expert : Cert.Pre_sorted_by_expert.Facts] (m : (ℓ : Loc Cert.Kernel.nD Cert.Kernel.τ Cert.Kernel.sig) → Buf (Elt Bits) ℓ) : Prop :=
  ∀ c : Dev Cert.Kernel.nD,
    (Cert.Pre_sorted_by_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sorted_by_expert : Cert.Pre_sorted_by_expert.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_by_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_sorted_by_expert : Cert.Pre_sorted_by_expert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_by_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_sorted_by_expert : Cert.Pre_sorted_by_expert.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sorted_by_expert : Cert.Pre_sorted_by_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_sorted_by_expert : Cert.Pre_sorted_by_expert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_by_expert : Cert.Pre_sorted_by_expert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_by_expert : Cert.Pre_sorted_by_expert.Facts),
    quiescent_Kernel (hKernel := hKernel) (hPre_sorted_by_expert := hPre_sorted_by_expert)
    ∧ quiescent_KernelIdeal (hKernelIdeal := hKernelIdeal) (hPre_sorted_by_expert := hPre_sorted_by_expert)
    ∧ quiescent_ReferenceIdeal (hReferenceIdeal := hReferenceIdeal) (hPre_sorted_by_expert := hPre_sorted_by_expert)
    ∧ preserves_Kernel_KernelIdeal
    ∧ algebraic_KernelIdeal_ReferenceIdeal (hKernelIdeal := hKernelIdeal) (hReferenceIdeal := hReferenceIdeal) (hPre_sorted_by_expert := hPre_sorted_by_expert)
-- ==== Pre_sorted_by_expert.lean ====
abbrev S69632x1536 : Shape := ⟨2, ![69632, 1536]⟩
abbrev S69632 : Shape := ⟨1, ![69632]⟩
abbrev S16 : Shape := ⟨1, ![16]⟩
abbrev S16x1536x3072 : Shape := ⟨3, ![16, 1536, 3072]⟩
abbrev S16x3072 : Shape := ⟨2, ![16, 3072]⟩
abbrev S34816x2 : Shape := ⟨2, ![34816, 2]⟩
abbrev S_ : Shape := ⟨0, ![]⟩
abbrev S272x128x2 : Shape := ⟨3, ![272, 128, 2]⟩
abbrev S272x2x128 : Shape := ⟨3, ![272, 2, 128]⟩
abbrev S272x2x128x1 : Shape := ⟨4, ![272, 2, 128, 1]⟩
abbrev S1x1x1x16 : Shape := ⟨4, ![1, 1, 1, 16]⟩
abbrev S272x2x128x16 : Shape := ⟨4, ![272, 2, 128, 16]⟩
abbrev S272x16 : Shape := ⟨2, ![272, 16]⟩
abbrev S272x15 : Shape := ⟨2, ![272, 15]⟩
abbrev S272x1 : Shape := ⟨2, ![272, 1]⟩
abbrev S1x16 : Shape := ⟨2, ![1, 16]⟩
abbrev S271x16 : Shape := ⟨2, ![271, 16]⟩
abbrev S272x1x1x16 : Shape := ⟨4, ![272, 1, 1, 16]⟩

class Facts : Prop where
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S16 : S_.BroadcastsInDim S16 (![] : Fin 0 → Fin S16.rank)
  reducesTo_S16_S_d0 : S16.ReducesTo [0] S_
  shapeCasts_S34816x2_S272x128x2 : S34816x2.ShapeCasts S272x128x2
  transposes_S272x128x2_S272x2x128_0_2_1 : S272x128x2.Transposes [0, 2, 1] S272x2x128
  bcast_S272x2x128_S272x2x128x1_0_1_2 : S272x2x128.BroadcastsInDim S272x2x128x1 (![0, 1, 2] : Fin 3 → Fin S272x2x128x1.rank)
  bcast_S16_S1x1x1x16_3 : S16.BroadcastsInDim S1x1x1x16 (![3] : Fin 1 → Fin S1x1x1x16.rank)
  bcast_S272x2x128x1_S272x2x128x16_0_1_2_3 : S272x2x128x1.BroadcastsInDim S272x2x128x16 (![0, 1, 2, 3] : Fin 4 → Fin S272x2x128x16.rank)
  bcast_S1x1x1x16_S272x2x128x16_0_1_2_3 : S1x1x1x16.BroadcastsInDim S272x2x128x16 (![0, 1, 2, 3] : Fin 4 → Fin S272x2x128x16.rank)
  natLt_1_32 : 1 < 32
  reducesTo_S272x2x128x16_S272x2x128_d3 : S272x2x128x16.ReducesTo [3] S272x2x128
  bcast_S_S272x2x128 : S_.BroadcastsInDim S272x2x128 (![] : Fin 0 → Fin S272x2x128.rank)
  reducesTo_S272x2x128_S_d0_1_2 : S272x2x128.ReducesTo [0, 1, 2] S_
  reducesTo_S272x2x128x16_S272x16_d1_2 : S272x2x128x16.ReducesTo [1, 2] S272x16
  slices_S272x16_S272x15_0_1 : S272x16.Slices ![0, 1] S272x15
  bcast_S_S272x1 : S_.BroadcastsInDim S272x1 (![] : Fin 0 → Fin S272x1.rank)
  concatenates_S272x15_S272x1_S272x16_d1 : Shape.Concatenates [S272x15, S272x1] S272x16 1
  reduceWindows_S272x16_S272x16_w272s1p271_0_w1s1p0_0 : S272x16.ReduceWindows (![272, 1] : Fin 2 → Nat) ![1, 1] ![271, 0] ![0, 0] S272x16
  bcast_S16_S1x16_1 : S16.BroadcastsInDim S1x16 (![1] : Fin 1 → Fin S1x16.rank)
  bcast_S1x16_S272x16_0_1 : S1x16.BroadcastsInDim S272x16 (![0, 1] : Fin 2 → Fin S272x16.rank)
  bcast_S16_S272x16_1 : S16.BroadcastsInDim S272x16 (![1] : Fin 1 → Fin S272x16.rank)
  bcast_S_S272x16 : S_.BroadcastsInDim S272x16 (![] : Fin 0 → Fin S272x16.rank)
  reducesTo_S272x16_S_d0_1 : S272x16.ReducesTo [0, 1] S_
  slices_S272x16_S271x16_1_0 : S272x16.Slices ![1, 0] S271x16
  slices_S272x16_S271x16_0_0 : S272x16.Slices ![0, 0] S271x16
  reducesTo_S271x16_S_d0_1 : S271x16.ReducesTo [0, 1] S_
  bcast_S272x16_S272x1x1x16_0_3 : S272x16.BroadcastsInDim S272x1x1x16 (![0, 3] : Fin 2 → Fin S272x1x1x16.rank)
  bcast_S272x1x1x16_S272x2x128x16_0_1_2_3 : S272x1x1x16.BroadcastsInDim S272x2x128x16 (![0, 1, 2, 3] : Fin 4 → Fin S272x2x128x16.rank)
  bcast_S_S272x2x128x1 : S_.BroadcastsInDim S272x2x128x1 (![] : Fin 0 → Fin S272x2x128x1.rank)
  reducesTo_S272x2x128x16_S_d0_1_2_3 : S272x2x128x16.ReducesTo [0, 1, 2, 3] S_

variable [Facts]

def fn_cumsum_0 {F : FTy → Type} [FloatOps F] (arg0 : IVec S16 32) : IVec S16 32 :=
  let c : IVec S_ 32 := constantI S_ 32 0#32
  let v0 : IVec S_ 32 := broadcastInDim S_ ![] bcast_S_S_ c
  let v1 : IVec S16 32 := (fun x v => Host.reduceWindow IntOp.addi ![16] ![1] ![15] ![0] x v reduceWindows_S16_S16_w16s1p15_0 h_S_) arg0 v0
  v1

def fn_cumsum {F : FTy → Type} [FloatOps F] (arg0 : IVec S16 32) : IVec S16 32 :=
  let v0 : IVec S16 32 := fn_cumsum_0 (F := F) arg0
  v0

def fn_cumsum_2 {F : FTy → Type} [FloatOps F] (arg0 : IVec S272x16 32) : IVec S272x16 32 :=
  let c : IVec S_ 32 := constantI S_ 32 0#32
  let v0 : IVec S_ 32 := broadcastInDim S_ ![] bcast_S_S_ c
  let v1 : IVec S272x16 32 := (fun x v => Host.reduceWindow IntOp.addi ![272, 1] ![1, 1] ![271, 0] ![0, 0] x v reduceWindows_S272x16_S272x16_w272s1p271_0_w1s1p0_0 h_S_) arg0 v0
  v1

def fn_cumsum_1 {F : FTy → Type} [FloatOps F] (arg0 : IVec S272x16 32) : IVec S272x16 32 :=
  let v0 : IVec S272x16 32 := fn_cumsum_2 (F := F) arg0
  v0

def fn_where {F : FTy → Type} [FloatOps F] (arg0 : IVec S272x16 1) (arg1 : IVec S272x16 32) (arg2 : IVec S16 32) : IVec S272x16 32 :=
  let v0 : IVec S272x16 32 := broadcastInDim S272x16 ![1] bcast_S16_S272x16_1 arg2
  let v1 : IVec S272x16 32 := select arg0 arg1 v0
  v1

def fn_part5 {F : FTy → Type} [FloatOps F] (main_v99 : IVec S_ 1) (main_v101 : IVec S_ 1) : IVec S_ 1 :=
  let main_v102 : IVec S_ 1 := andi main_v101 main_v99
  main_v102

def fn_part4 {F : FTy → Type} [FloatOps F] (main_v7 : IVec S_ 1) (main_v9 : IVec S272x2x128 32) (main_v28 : IVec S_ 1) (main_v49 : IVec S272x16 32) (main_v63 : IVec S_ 1) (main_v74 : IVec S272x2x128x16 1) (main_v78 : IVec S272x2x128x16 32) (main_v79 : IVec S272x2x128x16 32) : IVec S_ 1 :=
  let main_v80 : IVec S272x2x128x16 1 := cmpi .eq main_v78 main_v79
  let main_v81 : IVec S272x1x1x16 32 := broadcastInDim S272x1x1x16 ![0, 3] bcast_S272x16_S272x1x1x16_0_3 main_v49
  let main_v82 : IVec S272x2x128x1 32 := broadcastInDim S272x2x128x1 ![0, 1, 2] bcast_S272x2x128_S272x2x128x1_0_1_2 main_v9
  let main_v83 : IVec S272x2x128x16 32 := broadcastInDim S272x2x128x16 ![0, 1, 2, 3] bcast_S272x2x128x1_S272x2x128x16_0_1_2_3 main_v82
  let main_v84 : IVec S272x2x128x16 32 := broadcastInDim S272x2x128x16 ![0, 1, 2, 3] bcast_S272x1x1x16_S272x2x128x16_0_1_2_3 main_v81
  let main_v85 : IVec S272x2x128x16 1 := cmpi .slt main_v83 main_v84
  let main_v86 : IVec S272x2x128x1 32 := broadcastInDim S272x2x128x1 ![0, 1, 2] bcast_S272x2x128_S272x2x128x1_0_1_2 main_v9
  let main_c_15 : IVec S_ 32 := constantI S_ 32 256#32
  let main_v87 : IVec S272x2x128x1 32 := broadcastInDim S272x2x128x1 ![] bcast_S_S272x2x128x1 main_c_15
  let main_v88 : IVec S272x2x128x1 32 := addi main_v86 main_v87
  let main_v89 : IVec S272x2x128x16 32 := broadcastInDim S272x2x128x16 ![0, 1, 2, 3] bcast_S272x1x1x16_S272x2x128x16_0_1_2_3 main_v81
  let main_v90 : IVec S272x2x128x16 32 := broadcastInDim S272x2x128x16 ![0, 1, 2, 3] bcast_S272x2x128x1_S272x2x128x16_0_1_2_3 main_v88
  let main_v91 : IVec S272x2x128x16 1 := cmpi .sle main_v89 main_v90
  let main_v92 : IVec S272x2x128x16 1 := andi main_v85 main_v91
  let main_v93 : IVec S272x2x128x16 1 := andi main_v74 main_v80
  let main_v94 : IVec S272x2x128x16 1 := andi main_v93 main_v92
  let main_v95 : IVec S272x2x128x16 1 := noti main_v74
  let main_v96 : IVec S272x2x128x16 1 := noti main_v80
  let main_v97 : IVec S272x2x128x16 1 := andi main_v95 main_v96
  let main_v98 : IVec S272x2x128x16 1 := ori main_v94 main_v97
  let main_c_16 : IVec S_ 1 := constantI S_ 1 1#1
  let main_v99 : IVec S_ 1 := (fun x v => Host.reduce IntOp.andi x v reducesTo_S272x2x128x16_S_d0_1_2_3 h_S_) main_v98 main_c_16
  let main_v100 : IVec S_ 1 := andi main_v7 main_v28
  let main_v101 : IVec S_ 1 := andi main_v100 main_v63
  fn_part5 (F := F) main_v99 main_v101

def fn_part3 {F : FTy → Type} [FloatOps F] (main_v0 : IVec S16 32) (main_v1 : IVec S16 32) (main_v7 : IVec S_ 1) (main_v9 : IVec S272x2x128 32) (main_v16 : IVec S272x2x128 32) (main_v28 : IVec S_ 1) (main_v49 : IVec S272x16 32) (main_v57 : IVec S272x16 1) : IVec S_ 1 :=
  let main_c_13 : IVec S_ 1 := constantI S_ 1 1#1
  let main_v58 : IVec S_ 1 := (fun x v => Host.reduce IntOp.andi x v reducesTo_S272x16_S_d0_1 h_S_) main_v57 main_c_13
  let main_v59 : IVec S271x16 32 := (extractStridedSlice S271x16 ![1, 0] · slices_S272x16_S271x16_1_0) main_v49
  let main_v60 : IVec S271x16 32 := (extractStridedSlice S271x16 ![0, 0] · slices_S272x16_S271x16_0_0) main_v49
  let main_v61 : IVec S271x16 1 := cmpi .sge main_v59 main_v60
  let main_c_14 : IVec S_ 1 := constantI S_ 1 1#1
  let main_v62 : IVec S_ 1 := (fun x v => Host.reduce IntOp.andi x v reducesTo_S271x16_S_d0_1 h_S_) main_v61 main_c_14
  let main_v63 : IVec S_ 1 := andi main_v58 main_v62
  let main_v64 : IVec S272x2x128x1 32 := broadcastInDim S272x2x128x1 ![0, 1, 2] bcast_S272x2x128_S272x2x128x1_0_1_2 main_v9
  let main_v65 : IVec S1x1x1x16 32 := broadcastInDim S1x1x1x16 ![3] bcast_S16_S1x1x1x16_3 main_v1
  let main_v66 : IVec S272x2x128x16 32 := broadcastInDim S272x2x128x16 ![0, 1, 2, 3] bcast_S272x2x128x1_S272x2x128x16_0_1_2_3 main_v64
  let main_v67 : IVec S272x2x128x16 32 := broadcastInDim S272x2x128x16 ![0, 1, 2, 3] bcast_S1x1x1x16_S272x2x128x16_0_1_2_3 main_v65
  let main_v68 : IVec S272x2x128x16 1 := cmpi .sge main_v66 main_v67
  let main_v69 : IVec S272x2x128x1 32 := broadcastInDim S272x2x128x1 ![0, 1, 2] bcast_S272x2x128_S272x2x128x1_0_1_2 main_v9
  let main_v70 : IVec S1x1x1x16 32 := broadcastInDim S1x1x1x16 ![3] bcast_S16_S1x1x1x16_3 main_v0
  let main_v71 : IVec S272x2x128x16 32 := broadcastInDim S272x2x128x16 ![0, 1, 2, 3] bcast_S272x2x128x1_S272x2x128x16_0_1_2_3 main_v69
  let main_v72 : IVec S272x2x128x16 32 := broadcastInDim S272x2x128x16 ![0, 1, 2, 3] bcast_S1x1x1x16_S272x2x128x16_0_1_2_3 main_v70
  let main_v73 : IVec S272x2x128x16 1 := cmpi .slt main_v71 main_v72
  let main_v74 : IVec S272x2x128x16 1 := andi main_v68 main_v73
  let main_v75 : IVec S272x2x128x1 32 := broadcastInDim S272x2x128x1 ![0, 1, 2] bcast_S272x2x128_S272x2x128x1_0_1_2 main_v16
  let main_v76 : IVec S16 32 := iotaInDim S16 32 0
  let main_v77 : IVec S1x1x1x16 32 := broadcastInDim S1x1x1x16 ![3] bcast_S16_S1x1x1x16_3 main_v76
  let main_v78 : IVec S272x2x128x16 32 := broadcastInDim S272x2x128x16 ![0, 1, 2, 3] bcast_S272x2x128x1_S272x2x128x16_0_1_2_3 main_v75
  let main_v79 : IVec S272x2x128x16 32 := broadcastInDim S272x2x128x16 ![0, 1, 2, 3] bcast_S1x1x1x16_S272x2x128x16_0_1_2_3 main_v77
  fn_part4 (F := F) main_v7 main_v9 main_v28 main_v49 main_v63 main_v74 main_v78 main_v79

def fn_part2 {F : FTy → Type} [FloatOps F] (main_v0 : IVec S16 32) (main_v1 : IVec S16 32) (main_v7 : IVec S_ 1) (main_v9 : IVec S272x2x128 32) (main_v16 : IVec S272x2x128 32) (main_v28 : IVec S_ 1) (main_v35 : IVec S272x16 32) (main_v36 : IVec S272x15 32) (main_c_9 : IVec S_ 32) : IVec S_ 1 :=
  let main_v37 : IVec S272x1 32 := broadcastInDim S272x1 ![] bcast_S_S272x1 main_c_9
  let main_v38 : IVec S272x16 32 := (fun a b => concatenate S272x16 1 [⟨S272x15, a⟩, ⟨S272x1, b⟩] concatenates_S272x15_S272x1_S272x16_d1) main_v36 main_v37
  let main_v39 : IVec S272x16 32 := subi main_v35 main_v38
  let main_v40 : IVec S272x16 32 := fn_cumsum_1 (F := F) main_v39
  let main_v41 : IVec S1x16 32 := broadcastInDim S1x16 ![1] bcast_S16_S1x16_1 main_v1
  let main_v42 : IVec S272x16 32 := broadcastInDim S272x16 ![0, 1] bcast_S1x16_S272x16_0_1 main_v41
  let main_v43 : IVec S272x16 32 := addi main_v42 main_v40
  let main_v44 : IVec S1x16 32 := broadcastInDim S1x16 ![1] bcast_S16_S1x16_1 main_v1
  let main_v45 : IVec S272x16 32 := broadcastInDim S272x16 ![0, 1] bcast_S1x16_S272x16_0_1 main_v44
  let main_v46 : IVec S272x16 1 := cmpi .sgt main_v43 main_v45
  let main_c_10 : IVec S_ 32 := constantI S_ 32 4294967264#32
  let main_v47 : IVec S16 32 := broadcastInDim S16 ![] bcast_S_S16 main_c_10
  let main_v48 : IVec S16 32 := andi main_v1 main_v47
  let main_v49 : IVec S272x16 32 := fn_where (F := F) main_v46 main_v43 main_v48
  let main_c_11 : IVec S_ 32 := constantI S_ 32 4294967264#32
  let main_v50 : IVec S16 32 := broadcastInDim S16 ![] bcast_S_S16 main_c_11
  let main_v51 : IVec S16 32 := andi main_v1 main_v50
  let main_v52 : IVec S1x16 32 := broadcastInDim S1x16 ![1] bcast_S16_S1x16_1 main_v51
  let main_v53 : IVec S272x16 32 := broadcastInDim S272x16 ![0, 1] bcast_S1x16_S272x16_0_1 main_v52
  let main_v54 : IVec S272x16 1 := cmpi .sge main_v49 main_v53
  let main_c_12 : IVec S_ 32 := constantI S_ 32 69632#32
  let main_v55 : IVec S272x16 32 := broadcastInDim S272x16 ![] bcast_S_S272x16 main_c_12
  let main_v56 : IVec S272x16 1 := cmpi .sle main_v49 main_v55
  let main_v57 : IVec S272x16 1 := andi main_v54 main_v56
  fn_part3 (F := F) main_v0 main_v1 main_v7 main_v9 main_v16 main_v28 main_v49 main_v57

def fn_part1 {F : FTy → Type} [FloatOps F] (main_v0 : IVec S16 32) (main_v1 : IVec S16 32) (main_v7 : IVec S_ 1) (main_v9 : IVec S272x2x128 32) (main_v16 : IVec S272x2x128 32) (main_v18 : IVec S272x2x128 1) : IVec S_ 1 :=
  let main_c_4 : IVec S_ 32 := constantI S_ 32 69632#32
  let main_v19 : IVec S272x2x128 32 := broadcastInDim S272x2x128 ![] bcast_S_S272x2x128 main_c_4
  let main_v20 : IVec S272x2x128 1 := cmpi .slt main_v9 main_v19
  let main_v21 : IVec S272x2x128 1 := andi main_v18 main_v20
  let main_c_5 : IVec S_ 32 := constantI S_ 32 0#32
  let main_v22 : IVec S272x2x128 32 := broadcastInDim S272x2x128 ![] bcast_S_S272x2x128 main_c_5
  let main_v23 : IVec S272x2x128 1 := cmpi .sge main_v16 main_v22
  let main_v24 : IVec S272x2x128 1 := andi main_v21 main_v23
  let main_c_6 : IVec S_ 32 := constantI S_ 32 16#32
  let main_v25 : IVec S272x2x128 32 := broadcastInDim S272x2x128 ![] bcast_S_S272x2x128 main_c_6
  let main_v26 : IVec S272x2x128 1 := cmpi .slt main_v16 main_v25
  let main_v27 : IVec S272x2x128 1 := andi main_v24 main_v26
  let main_c_7 : IVec S_ 1 := constantI S_ 1 1#1
  let main_v28 : IVec S_ 1 := (fun x v => Host.reduce IntOp.andi x v reducesTo_S272x2x128_S_d0_1_2 h_S_) main_v27 main_c_7
  let main_v29 : IVec S272x2x128x1 32 := broadcastInDim S272x2x128x1 ![0, 1, 2] bcast_S272x2x128_S272x2x128x1_0_1_2 main_v9
  let main_v30 : IVec S1x1x1x16 32 := broadcastInDim S1x1x1x16 ![3] bcast_S16_S1x1x1x16_3 main_v1
  let main_v31 : IVec S272x2x128x16 32 := broadcastInDim S272x2x128x16 ![0, 1, 2, 3] bcast_S272x2x128x1_S272x2x128x16_0_1_2_3 main_v29
  let main_v32 : IVec S272x2x128x16 32 := broadcastInDim S272x2x128x16 ![0, 1, 2, 3] bcast_S1x1x1x16_S272x2x128x16_0_1_2_3 main_v30
  let main_v33 : IVec S272x2x128x16 1 := cmpi .sge main_v31 main_v32
  let main_v34 : IVec S272x2x128x16 32 := (extui 32 · natLt_1_32) main_v33
  let main_c_8 : IVec S_ 32 := constantI S_ 32 0#32
  let main_v35 : IVec S272x16 32 := (fun x v => Host.reduce IntOp.addi x v reducesTo_S272x2x128x16_S272x16_d1_2 h_S_) main_v34 main_c_8
  let main_v36 : IVec S272x15 32 := (extractStridedSlice S272x15 ![0, 1] · slices_S272x16_S272x15_0_1) main_v35
  let main_c_9 : IVec S_ 32 := constantI S_ 32 0#32
  fn_part2 (F := F) main_v0 main_v1 main_v7 main_v9 main_v16 main_v28 main_v35 main_v36 main_c_9

def fn {F : FTy → Type} [FloatOps F] (main_arg0 : FVec F S69632x1536 .fp8e4m3) (main_arg1 : FVec F S69632 .f32) (main_arg2 : IVec S16 32) (main_arg3 : FVec F S16x1536x3072 .fp8e4m3) (main_arg4 : FVec F S16x3072 .f32) (main_arg5 : IVec S34816x2 32) (main_arg6 : FVec F S34816x2 .f32) : IVec S_ 1 :=
  let main_v0 : IVec S16 32 := fn_cumsum (F := F) main_arg2
  let main_v1 : IVec S16 32 := subi main_v0 main_arg2
  let main_c : IVec S_ 32 := constantI S_ 32 0#32
  let main_v2 : IVec S16 32 := broadcastInDim S16 ![] bcast_S_S16 main_c
  let main_v3 : IVec S16 1 := cmpi .sge main_v1 main_v2
  let main_c_0 : IVec S_ 32 := constantI S_ 32 69632#32
  let main_v4 : IVec S16 32 := broadcastInDim S16 ![] bcast_S_S16 main_c_0
  let main_v5 : IVec S16 1 := cmpi .sle main_v1 main_v4
  let main_v6 : IVec S16 1 := andi main_v3 main_v5
  let main_c_1 : IVec S_ 1 := constantI S_ 1 1#1
  let main_v7 : IVec S_ 1 := (fun x v => Host.reduce IntOp.andi x v reducesTo_S16_S_d0 h_S_) main_v6 main_c_1
  let main_v8 : IVec S272x128x2 32 := shapeCast S272x128x2 main_arg5 shapeCasts_S34816x2_S272x128x2
  let main_v9 : IVec S272x2x128 32 := (transpose S272x2x128 [0, 2, 1] · transposes_S272x128x2_S272x2x128_0_2_1) main_v8
  let main_v10 : IVec S272x2x128x1 32 := broadcastInDim S272x2x128x1 ![0, 1, 2] bcast_S272x2x128_S272x2x128x1_0_1_2 main_v9
  let main_v11 : IVec S1x1x1x16 32 := broadcastInDim S1x1x1x16 ![3] bcast_S16_S1x1x1x16_3 main_v0
  let main_v12 : IVec S272x2x128x16 32 := broadcastInDim S272x2x128x16 ![0, 1, 2, 3] bcast_S272x2x128x1_S272x2x128x16_0_1_2_3 main_v10
  let main_v13 : IVec S272x2x128x16 32 := broadcastInDim S272x2x128x16 ![0, 1, 2, 3] bcast_S1x1x1x16_S272x2x128x16_0_1_2_3 main_v11
  let main_v14 : IVec S272x2x128x16 1 := cmpi .sge main_v12 main_v13
  let main_v15 : IVec S272x2x128x16 32 := (extui 32 · natLt_1_32) main_v14
  let main_c_2 : IVec S_ 32 := constantI S_ 32 0#32
  let main_v16 : IVec S272x2x128 32 := (fun x v => Host.reduce IntOp.addi x v reducesTo_S272x2x128x16_S272x2x128_d3 h_S_) main_v15 main_c_2
  let main_c_3 : IVec S_ 32 := constantI S_ 32 0#32
  let main_v17 : IVec S272x2x128 32 := broadcastInDim S272x2x128 ![] bcast_S_S272x2x128 main_c_3
  let main_v18 : IVec S272x2x128 1 := cmpi .sge main_v9 main_v17
  fn_part1 (F := F) main_v0 main_v1 main_v7 main_v9 main_v16 main_v18
-- ==== Kernel.lean ====
abbrev S69632x1536 : Shape := ⟨2, ![69632, 1536]⟩
abbrev S69632 : Shape := ⟨1, ![69632]⟩
abbrev S16 : Shape := ⟨1, ![16]⟩
abbrev S16x1536x3072 : Shape := ⟨3, ![16, 1536, 3072]⟩
abbrev S16x3072 : Shape := ⟨2, ![16, 3072]⟩
abbrev S34816x2 : Shape := ⟨2, ![34816, 2]⟩
abbrev S_ : Shape := ⟨0, ![]⟩
abbrev S272x128x2 : Shape := ⟨3, ![272, 128, 2]⟩
abbrev S272x2x128 : Shape := ⟨3, ![272, 2, 128]⟩
abbrev S272x2x128x1 : Shape := ⟨4, ![272, 2, 128, 1]⟩
abbrev S1x1x1x16 : Shape := ⟨4, ![1, 1, 1, 16]⟩
abbrev S272x2x128x16 : Shape := ⟨4, ![272, 2, 128, 16]⟩
abbrev S272x16 : Shape := ⟨2, ![272, 16]⟩
abbrev S272x15 : Shape := ⟨2, ![272, 15]⟩
abbrev S272x1 : Shape := ⟨2, ![272, 1]⟩
abbrev S1x16 : Shape := ⟨2, ![1, 16]⟩
abbrev S256 : Shape := ⟨1, ![256]⟩
abbrev S69888 : Shape := ⟨1, ![69888]⟩
abbrev S2184x32 : Shape := ⟨2, ![2184, 32]⟩
abbrev S2176x32 : Shape := ⟨2, ![2176, 32]⟩
abbrev S2176x256 : Shape := ⟨2, ![2176, 256]⟩
abbrev S2176x2x128 : Shape := ⟨3, ![2176, 2, 128]⟩
abbrev S16x1x3072 : Shape := ⟨3, ![16, 1, 3072]⟩
abbrev S34816x3072 : Shape := ⟨2, ![34816, 3072]⟩
abbrev S16x1x1024 : Shape := ⟨3, ![16, 1, 1024]⟩
abbrev S16x1536x1024 : Shape := ⟨3, ![16, 1536, 1024]⟩
abbrev S512x1536 : Shape := ⟨2, ![512, 1536]⟩
abbrev S2x128 : Shape := ⟨2, ![2, 128]⟩
abbrev S65792x128 : Shape := ⟨2, ![65792, 128]⟩
abbrev S1032x128 : Shape := ⟨2, ![1032, 128]⟩
abbrev S128x1024 : Shape := ⟨2, ![128, 1024]⟩
abbrev S1 : Shape := ⟨1, ![1]⟩
abbrev S1x1 : Shape := ⟨2, ![1, 1]⟩
abbrev S256x1536 : Shape := ⟨2, ![256, 1536]⟩
abbrev S1x2x128 : Shape := ⟨3, ![1, 2, 128]⟩
abbrev S1x1536x1024 : Shape := ⟨3, ![1, 1536, 1024]⟩
abbrev S1536x1024 : Shape := ⟨2, ![1536, 1024]⟩
abbrev S256x1024 : Shape := ⟨2, ![256, 1024]⟩
abbrev S1x128 : Shape := ⟨2, ![1, 128]⟩
abbrev S128x128 : Shape := ⟨2, ![128, 128]⟩
abbrev S256x128 : Shape := ⟨2, ![256, 128]⟩
abbrev S1x1x128 : Shape := ⟨3, ![1, 1, 128]⟩
abbrev S8x128 : Shape := ⟨2, ![8, 128]⟩

abbrev nBuf : Space → Nat
  | .hbm => 134
  | .vmem => 8
  | .smem => 5
  | _ => 0

abbrev hbmTy0_0 (i : Nat) : BufTy := match i % 128 with
  | 0 => ⟨S69632x1536, .fp8e4m3⟩
  | 1 => ⟨S69632, .f32⟩
  | 2 => ⟨S16, .i32⟩
  | 3 => ⟨S16x1536x3072, .fp8e4m3⟩
  | 4 => ⟨S16x3072, .f32⟩
  | 5 => ⟨S34816x2, .i32⟩
  | 6 => ⟨S34816x2, .f32⟩
  | 7 => ⟨S_, .i32⟩
  | 8 => ⟨S_, .i32⟩
  | 9 => ⟨S16, .i32⟩
  | 10 => ⟨S16, .i32⟩
  | 11 => ⟨S272x128x2, .i32⟩
  | 12 => ⟨S272x2x128, .i32⟩
  | 13 => ⟨S272x2x128x1, .i32⟩
  | 14 => ⟨S1x1x1x16, .i32⟩
  | 15 => ⟨S272x2x128x16, .i32⟩
  | 16 => ⟨S272x2x128x16, .i32⟩
  | 17 => ⟨S272x2x128x16, .i1⟩
  | 18 => ⟨S272x2x128x1, .i32⟩
  | 19 => ⟨S1x1x1x16, .i32⟩
  | 20 => ⟨S272x2x128x16, .i32⟩
  | 21 => ⟨S272x2x128x16, .i32⟩
  | 22 => ⟨S272x2x128x16, .i1⟩
  | 23 => ⟨S272x2x128x16, .i32⟩
  | 24 => ⟨S_, .i32⟩
  | 25 => ⟨S272x2x128, .i32⟩
  | 26 => ⟨S272x2x128x16, .i32⟩
  | 27 => ⟨S_, .i32⟩
  | 28 => ⟨S272x16, .i32⟩
  | 29 => ⟨S272x15, .i32⟩
  | 30 => ⟨S_, .i32⟩
  | 31 => ⟨S272x1, .i32⟩
  | 32 => ⟨S272x16, .i32⟩
  | 33 => ⟨S272x16, .i32⟩
  | 34 => ⟨S_, .i32⟩
  | 35 => ⟨S_, .i32⟩
  | 36 => ⟨S272x16, .i32⟩
  | 37 => ⟨S1x16, .i32⟩
  | 38 => ⟨S272x16, .i32⟩
  | 39 => ⟨S272x16, .i32⟩
  | 40 => ⟨S1x16, .i32⟩
  | 41 => ⟨S272x16, .i32⟩
  | 42 => ⟨S272x16, .i1⟩
  | 43 => ⟨S_, .i32⟩
  | 44 => ⟨S16, .i32⟩
  | 45 => ⟨S16, .i32⟩
  | 46 => ⟨S272x16, .i32⟩
  | 47 => ⟨S272x16, .i32⟩
  | 48 => ⟨S_, .i32⟩
  | 49 => ⟨S16, .i32⟩
  | 50 => ⟨S16, .i32⟩
  | 51 => ⟨S272x2x128x1, .i32⟩
  | 52 => ⟨S16, .i32⟩
  | 53 => ⟨S1x1x1x16, .i32⟩
  | 54 => ⟨S272x2x128x16, .i32⟩
  | 55 => ⟨S272x2x128x16, .i32⟩
  | 56 => ⟨S272x2x128x16, .i1⟩
  | 57 => ⟨S_, .i32⟩
  | 58 => ⟨S_, .i32⟩
  | 59 => ⟨S272x2x128x16, .i32⟩
  | 60 => ⟨S272x2x128x16, .i32⟩
  | 61 => ⟨S272x2x128x16, .i32⟩
  | 62 => ⟨S_, .i32⟩
  | 63 => ⟨S272x2x128, .i32⟩
  | 64 => ⟨S272x2x128, .i32⟩
  | 65 => ⟨S_, .i32⟩
  | 66 => ⟨S272x2x128, .i32⟩
  | 67 => ⟨S272x2x128, .i32⟩
  | 68 => ⟨S_, .i32⟩
  | 69 => ⟨S_, .i32⟩
  | 70 => ⟨S272x2x128, .i32⟩
  | 71 => ⟨S272x2x128, .i32⟩
  | 72 => ⟨S272x2x128, .i32⟩
  | 73 => ⟨S_, .i32⟩
  | 74 => ⟨S272x2x128, .i32⟩
  | 75 => ⟨S272x2x128, .i1⟩
  | 76 => ⟨S272x2x128, .i32⟩
  | 77 => ⟨S272x2x128, .i32⟩
  | 78 => ⟨S_, .i32⟩
  | 79 => ⟨S272x2x128, .i32⟩
  | 80 => ⟨S272x2x128, .i1⟩
  | 81 => ⟨S272x2x128, .i1⟩
  | 82 => ⟨S_, .i32⟩
  | 83 => ⟨S272x2x128, .i32⟩
  | 84 => ⟨S272x2x128, .i32⟩
  | 85 => ⟨S272x2x128, .i32⟩
  | 86 => ⟨S_, .i32⟩
  | 87 => ⟨S272x2x128, .i32⟩
  | 88 => ⟨S272x2x128, .i32⟩
  | 89 => ⟨S272x2x128, .i32⟩
  | 90 => ⟨S_, .i32⟩
  | 91 => ⟨S272x2x128, .i32⟩
  | 92 => ⟨S272x2x128, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S272x2x128, .i32⟩
  | 100 => ⟨S272x2x128, .i32⟩
  | 101 => ⟨S_, .i32⟩
  | 102 => ⟨S272x2x128, .i32⟩
  | 103 => ⟨S272x2x128, .i1⟩
  | 104 => ⟨S_, .i32⟩
  | 105 => ⟨S272x2x128, .i32⟩
  | 106 => ⟨S272x2x128, .i1⟩
  | 107 => ⟨S_, .i32⟩
  | 108 => ⟨S_, .i1⟩
  | 109 => ⟨S272x2x128, .i1⟩
  | 110 => ⟨S272x2x128, .i1⟩
  | 111 => ⟨S272x2x128, .i1⟩
  | 112 => ⟨S272x2x128, .i32⟩
  | 113 => ⟨S272x2x128, .i32⟩
  | 114 => ⟨S272x2x128, .i32⟩
  | 115 => ⟨S272x2x128, .i32⟩
  | 116 => ⟨S272x128x2, .f32⟩
  | 117 => ⟨S272x2x128, .f32⟩
  | 118 => ⟨S_, .f32⟩
  | 119 => ⟨S256, .f32⟩
  | 120 => ⟨S69888, .f32⟩
  | 121 => ⟨S2184x32, .f32⟩
  | 122 => ⟨S2176x32, .f32⟩
  | 123 => ⟨S2176x32, .f32⟩
  | 124 => ⟨S2176x32, .f32⟩
  | 125 => ⟨S2176x32, .f32⟩
  | 126 => ⟨S2176x32, .f32⟩
  | 127 => ⟨S2176x32, .f32⟩
  | _ => ⟨S69632x1536, .fp8e4m3⟩

abbrev hbmTy0_1 (i : Nat) : BufTy := match i % 128 with
  | 0 => ⟨S2176x32, .f32⟩
  | 1 => ⟨S2176x32, .f32⟩
  | 2 => ⟨S2176x256, .f32⟩
  | 3 => ⟨S2176x2x128, .f32⟩
  | 4 => ⟨S16x1x3072, .f32⟩
  | 5 => ⟨S34816x3072, .bf16⟩
  | _ => ⟨S69632x1536, .fp8e4m3⟩

abbrev hbmTy (i : Nat) : BufTy := match i / 128 with
  | 0 => hbmTy0_0 i
  | 1 => hbmTy0_1 i
  | _ => ⟨S69632x1536, .fp8e4m3⟩

abbrev bufTy : (tb : Table) → Fin (tcTables nBuf tb) → BufTy
  | .hbm, ⟨i, _⟩ => hbmTy i
  | .local _ .vmem, ⟨0, _⟩ => ⟨S16x1x1024, .f32⟩
  | .local _ .vmem, ⟨1, _⟩ => ⟨S16x1x1024, .f32⟩
  | .local _ .vmem, ⟨2, _⟩ => ⟨S16x1536x1024, .fp8e4m3⟩
  | .local _ .vmem, ⟨3, _⟩ => ⟨S512x1536, .fp8e4m3⟩
  | .local _ .vmem, ⟨4, _⟩ => ⟨S2x128, .f32⟩
  | .local _ .vmem, ⟨5, _⟩ => ⟨S65792x128, .f32⟩
  | .local _ .vmem, ⟨6, _⟩ => ⟨S1032x128, .f32⟩
  | .local _ .vmem, ⟨7, _⟩ => ⟨S128x1024, .bf16⟩
  | .local _ .smem, ⟨0, _⟩ => ⟨S272x16, .i32⟩
  | .local _ .smem, ⟨1, _⟩ => ⟨S16, .i32⟩
  | .local _ .smem, ⟨2, _⟩ => ⟨S2x128, .i32⟩
  | .local _ .smem, ⟨3, _⟩ => ⟨S2x128, .f32⟩
  | .local _ .smem, ⟨4, _⟩ => ⟨S16, .i32⟩
  | _, _ => ⟨S69632x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_call0_c : Ref sig .tc := ⟨.hbm, 34, rfl⟩
abbrev main_call1_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_call2_v0 : Ref sig .tc := ⟨.hbm, 46, rfl⟩
abbrev main_v31 : Ref sig .tc := ⟨.hbm, 47, rfl⟩
abbrev main_c_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_c : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_0 : Ref sig .tc := ⟨.hbm, 82, rfl⟩
abbrev main_call4_v12 : Ref sig .tc := ⟨.hbm, 83, rfl⟩
abbrev main_call4_v13 : Ref sig .tc := ⟨.hbm, 84, rfl⟩
abbrev main_v45 : Ref sig .tc := ⟨.hbm, 85, rfl⟩
abbrev main_c_8 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_9 : Ref sig .tc := ⟨.hbm, 90, rfl⟩
abbrev main_v49 : Ref sig .tc := ⟨.hbm, 91, rfl⟩
abbrev main_v50 : Ref sig .tc := ⟨.hbm, 92, rfl⟩
abbrev main_c_10 : Ref sig .tc := ⟨.hbm, 93, rfl⟩
abbrev main_call5_v0 : Ref sig .tc := ⟨.hbm, 94, rfl⟩
abbrev main_call5_c : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_v5 : Ref sig .tc := ⟨.hbm, 102, rfl⟩
abbrev main_call5_v6 : Ref sig .tc := ⟨.hbm, 103, rfl⟩
abbrev main_call5_c_2 : Ref sig .tc := ⟨.hbm, 104, rfl⟩
abbrev main_call5_v7 : Ref sig .tc := ⟨.hbm, 105, rfl⟩
abbrev main_call5_v8 : Ref sig .tc := ⟨.hbm, 106, rfl⟩
abbrev main_call5_c_3 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_v14 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_stg1_0 : Ref sig .tc := ⟨.smem, 1, rfl⟩
abbrev cc0_scratch6 : Ref sig .tc := ⟨.smem, 2, rfl⟩
abbrev cc0_scratch7 : Ref sig .tc := ⟨.smem, 3, rfl⟩
abbrev cc0_scratch8 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![3], ![false]⟩

def k0_off1 (i : grid0.Coords) : Fin 3 → Nat :=
  let c0_i32 : BitVec 32 := 0#32
  let c0_i32_0 : BitVec 32 := 0#32
  let arg0 : BitVec 32 := BitVec.ofNat 32 (i 0).val
  let c1024_i32 : BitVec 32 := 1024#32
  let v0 : BitVec 32 := Scalar.muli arg0 c1024_i32
  ![0, 0, v0.toNat]
@[reducible] def k0_t1_loop : Scf.Loop 32 :=
  let c0_i32_3 : BitVec 32 := 0#32
  let c16_i32 : BitVec 32 := 16#32
  let v3 : BitVec 32 := Scalar.addi c0_i32_3 c16_i32
  let c1_i32 : BitVec 32 := 1#32
  ⟨c0_i32_3, v3, c1_i32⟩
def k0_off2 (k0_t1 : Fin k0_t1_loop.trips) : Fin 1 → Nat :=
  let c0_i32_9 : BitVec 32 := 0#32
  let c0_i32_3 : BitVec 32 := 0#32
  let c1_i32 : BitVec 32 := 1#32
  let arg25 : BitVec 32 := Scf.iv c0_i32_3 c1_i32 k0_t1
  let c1_i32_8 : BitVec 32 := 1#32
  let v5 : BitVec 32 := Scalar.muli arg25 c1_i32_8
  let v6 : BitVec 32 := Scalar.addi c0_i32_9 v5
  let v7 : Index := Scalar.indexCast v6
  ![v7.toNat]
@[reducible] def k0_t2_loop : Scf.Loop 32 :=
  let c0_i32_5 : BitVec 32 := 0#32
  let c272_i32 : BitVec 32 := 272#32
  let v4 : BitVec 32 := Scalar.addi c0_i32_5 c272_i32
  let c1_i32_6 : BitVec 32 := 1#32
  ⟨c0_i32_5, v4, c1_i32_6⟩
@[reducible] def k0_t3_loop : Scf.Loop 32 :=
  let c0_i32_10 : BitVec 32 := 0#32
  let c16_i32_11 : BitVec 32 := 16#32
  let v7 : BitVec 32 := Scalar.addi c0_i32_10 c16_i32_11
  let c1_i32_12 : BitVec 32 := 1#32
  ⟨c0_i32_10, v7, c1_i32_12⟩
def k0_off3 (k0_t2 : Fin k0_t2_loop.trips) (k0_t3 : Fin k0_t3_loop.trips) : Fin 2 → Nat :=
  let c0_i32_9 : BitVec 32 := 0#32
  let c0_i32_5 : BitVec 32 := 0#32
  let c1_i32_6 : BitVec 32 := 1#32
  let arg25 : BitVec 32 := Scf.iv c0_i32_5 c1_i32_6 k0_t2
  let c1_i32_8 : BitVec 32 := 1#32
  let v5 : BitVec 32 := Scalar.muli arg25 c1_i32_8
  let v6 : BitVec 32 := Scalar.addi c0_i32_9 v5
  let v2111 : Index := Scalar.indexCast v6
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2112 : Index := Scalar.indexCast v2110
  ![v2111.toNat, v2112.toNat]
def k0_off4 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2114 : Index := Scalar.indexCast v2110
  ![v2114.toNat]
@[reducible] def k0_t4_loop (v2113 : BitVec 32) (v2115 : BitVec 32) : Scf.Loop 32 :=
  let c0_i32_1465 : BitVec 32 := 0#32
  let v2116 : BitVec 32 := Scalar.subi v2113 v2115
  let c256_i32 : BitVec 32 := 256#32
  let v2117 : BitVec 32 := Scalar.addi v2116 c256_i32
  let c1_i32_1451 : BitVec 32 := 1#32
  let v2118 : BitVec 32 := Scalar.subi v2117 c1_i32_1451
  let c0_i32_1453 : BitVec 32 := 0#32
  let v2120 : BitVec 1 := Scalar.cmpi .sgt v2118 c0_i32_1453
  let v2121 : BitVec 32 := Scalar.extui v2120
  let c0_i32_1454 : BitVec 32 := 0#32
  let v2122 : BitVec 1 := Scalar.cmpi .slt v2118 c0_i32_1454
  let v2123 : BitVec 32 := Scalar.extui v2122
  let v2124 : BitVec 32 := Scalar.subi v2121 v2123
  let c256_i32_1452 : BitVec 32 := 256#32
  let c0_i32_1455 : BitVec 32 := 0#32
  let v2125 : BitVec 1 := Scalar.cmpi .sgt c256_i32_1452 c0_i32_1455
  let v2126 : BitVec 32 := Scalar.extui v2125
  let c0_i32_1456 : BitVec 32 := 0#32
  let v2127 : BitVec 1 := Scalar.cmpi .slt c256_i32_1452 c0_i32_1456
  let v2128 : BitVec 32 := Scalar.extui v2127
  let v2129 : BitVec 32 := Scalar.subi v2126 v2128
  let v2130 : BitVec 1 := Scalar.cmpi .ne v2124 v2129
  let v2131 : BitVec 32 := Scalar.remsi v2118 c256_i32_1452
  let c0_i32_1457 : BitVec 32 := 0#32
  let v2132 : BitVec 1 := Scalar.cmpi .ne v2131 c0_i32_1457
  let v2133 : BitVec 1 := Scalar.andi v2130 v2132
  let v2119 : BitVec 32 := Scalar.divsi v2118 c256_i32_1452
  let c1_i32_1458 : BitVec 32 := 1#32
  let v2134 : BitVec 32 := Scalar.subi v2119 c1_i32_1458
  let v2135 : BitVec 32 := Scalar.select v2133 v2134 v2119
  let c0_i32_1459 : BitVec 32 := 0#32
  let v2136 : BitVec 32 := Scalar.subi v2135 c0_i32_1459
  let c1_i32_1460 : BitVec 32 := 1#32
  let c1_i32_1461 : BitVec 32 := 1#32
  let v2137 : BitVec 32 := Scalar.subi c1_i32_1460 c1_i32_1461
  let v2138 : BitVec 32 := Scalar.addi v2136 v2137
  let c1_i32_1462 : BitVec 32 := 1#32
  let v2139 : BitVec 32 := Scalar.divsi v2138 c1_i32_1462
  let v2140 : BitVec 32 := Scalar.subi v2139 c0_i32_1465
  let c1_i32_1466 : BitVec 32 := 1#32
  let v2142 : BitVec 32 := Scalar.divsi v2140 c1_i32_1466
  let v2143 : BitVec 32 := Scalar.muli v2142 c1_i32_1466
  let v2144 : BitVec 32 := Scalar.addi c0_i32_1465 v2143
  let c1_i32_1467 : BitVec 32 := 1#32
  ⟨c0_i32_1465, v2144, c1_i32_1467⟩

def k0_off5 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2147 : Index := Scalar.indexCast v2110
  ![v2147.toNat]
def k0_mult1 (v2148 : BitVec 32) : BitVec 32 :=
  let c69376_i32 : BitVec 32 := 69376#32
  let v2149 : BitVec 32 := Scalar.minsi v2148 c69376_i32
  v2149

def k0_off6 (v2148 : BitVec 32) : Fin 2 → Nat :=
  let c69376_i32 : BitVec 32 := 69376#32
  let v2149 : BitVec 32 := Scalar.minsi v2148 c69376_i32
  let v2150 : BitVec 32 := v2149
  let c0_i32_1477 : BitVec 32 := 0#32
  ![v2150.toNat, 0]
def k0_off7 (v2148 : BitVec 32) : Fin 3 → Nat :=
  let c0_i32_1469 : BitVec 32 := 0#32
  let v2152 : BitVec 1 := Scalar.cmpi .sgt v2148 c0_i32_1469
  let v2153 : BitVec 32 := Scalar.extui v2152
  let c0_i32_1470 : BitVec 32 := 0#32
  let v2154 : BitVec 1 := Scalar.cmpi .slt v2148 c0_i32_1470
  let v2155 : BitVec 32 := Scalar.extui v2154
  let v2156 : BitVec 32 := Scalar.subi v2153 v2155
  let c32_i32 : BitVec 32 := 32#32
  let c0_i32_1471 : BitVec 32 := 0#32
  let v2157 : BitVec 1 := Scalar.cmpi .sgt c32_i32 c0_i32_1471
  let v2158 : BitVec 32 := Scalar.extui v2157
  let c0_i32_1472 : BitVec 32 := 0#32
  let v2159 : BitVec 1 := Scalar.cmpi .slt c32_i32 c0_i32_1472
  let v2160 : BitVec 32 := Scalar.extui v2159
  let v2161 : BitVec 32 := Scalar.subi v2158 v2160
  let v2162 : BitVec 1 := Scalar.cmpi .ne v2156 v2161
  let v2163 : BitVec 32 := Scalar.remsi v2148 c32_i32
  let c0_i32_1473 : BitVec 32 := 0#32
  let v2164 : BitVec 1 := Scalar.cmpi .ne v2163 c0_i32_1473
  let v2165 : BitVec 1 := Scalar.andi v2162 v2164
  let v2151 : BitVec 32 := Scalar.divsi v2148 c32_i32
  let c1_i32_1474 : BitVec 32 := 1#32
  let v2166 : BitVec 32 := Scalar.subi v2151 c1_i32_1474
  let v2167 : BitVec 32 := Scalar.select v2165 v2166 v2151
  let c0_i32_1478 : BitVec 32 := 0#32
  let c0_i32_1479 : BitVec 32 := 0#32
  ![v2167.toNat, 0, 0]
def k0_mult2 (v2148 : BitVec 32) : BitVec 32 :=
  let c69376_i32 : BitVec 32 := 69376#32
  let v2149 : BitVec 32 := Scalar.minsi v2148 c69376_i32
  let v2176 : BitVec 32 := Scalar.subi v2148 v2149
  v2176
def k0_off8 (v2148 : BitVec 32) : Fin 2 → Nat :=
  let c69376_i32 : BitVec 32 := 69376#32
  let v2149 : BitVec 32 := Scalar.minsi v2148 c69376_i32
  let v2176 : BitVec 32 := Scalar.subi v2148 v2149
  let v2177 : BitVec 32 := v2176
  let v2178 : Index := Scalar.indexCast v2177
  let c0_1485 : Index := 0#32
  ![v2178.toNat, 0]

def k0_chk2 (v2148 : BitVec 32) : Prop :=
  (32 ∣ (k0_mult1 v2148).toNat) ∧
  (∀ a, (k0_off6 v2148) a + S256x1536.size a ≤ S69632x1536.size a) ∧
  (∀ (hinb : ∀ a, (k0_off6 v2148) a + S256x1536.size a ≤ S69632x1536.size a), (Rect.unit (s := S69632x1536) (k0_off6 v2148) S256x1536.size hinb).WholeWords (EltTy.packing .fp8e4m3)) ∧
  (∀ a, (k0_off7 v2148) a + S1x2x128.size a ≤ S2176x2x128.size a) ∧
  (32 ∣ (k0_mult2 v2148).toNat) ∧
  (∀ a, (k0_off8 v2148) a + S256x1536.size a ≤ S512x1536.size a)
theorem k0_mult1_dvd : ∀ (v2148 : BitVec 32) (k0_hw2 : k0_chk2 v2148), 32 ∣ (k0_mult1 v2148).toNat := fun v2148 k0_hw2 => k0_hw2.1
theorem k0_off6_inb : ∀ (v2148 : BitVec 32) (k0_hw2 : k0_chk2 v2148), ∀ a, (k0_off6 v2148) a + S256x1536.size a ≤ S69632x1536.size a := fun v2148 k0_hw2 => k0_hw2.2.1
theorem k0_off6_wordsfp8e4m3 : ∀ (v2148 : BitVec 32) (k0_hw2 : k0_chk2 v2148), (Rect.unit (s := S69632x1536) (k0_off6 v2148) S256x1536.size (k0_off6_inb v2148 k0_hw2)).WholeWords (EltTy.packing .fp8e4m3) := fun v2148 k0_hw2 => k0_hw2.2.2.1 (k0_off6_inb v2148 k0_hw2)
theorem k0_off7_inb : ∀ (v2148 : BitVec 32) (k0_hw2 : k0_chk2 v2148), ∀ a, (k0_off7 v2148) a + S1x2x128.size a ≤ S2176x2x128.size a := fun v2148 k0_hw2 => k0_hw2.2.2.2.1
theorem k0_mult2_dvd : ∀ (v2148 : BitVec 32) (k0_hw2 : k0_chk2 v2148), 32 ∣ (k0_mult2 v2148).toNat := fun v2148 k0_hw2 => k0_hw2.2.2.2.2.1
theorem k0_off8_inb : ∀ (v2148 : BitVec 32) (k0_hw2 : k0_chk2 v2148), ∀ a, (k0_off8 v2148) a + S256x1536.size a ≤ S512x1536.size a := fun v2148 k0_hw2 => k0_hw2.2.2.2.2.2

def k0_off9 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2180 : Index := Scalar.indexCast v2110
  let c0_1486 : Index := 0#32
  let c0_1487 : Index := 0#32
  ![v2180.toNat, 0, 0]
def k0_off10 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2194 : Index := Scalar.indexCast v2110
  ![v2194.toNat]
def k0_off11 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2218 : Index := Scalar.indexCast v2110
  let c0_1500 : Index := 0#32
  let c0_1501 : Index := 0#32
  ![v2218.toNat, 0, 0]
def k0_off12 (k0_t3 : Fin k0_t3_loop.trips) (v2148 : BitVec 32) (v2195 : BitVec 32) (c0_i32_1502 : BitVec 32) : Fin 2 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let c2_i32 : BitVec 32 := 2#32
  let v2193 : BitVec 32 := Scalar.muli v2110 c2_i32
  let c_m32_i32 : BitVec 32 := 4294967264#32
  let v2196 : BitVec 32 := Scalar.andi v2195 c_m32_i32
  let v2197 : BitVec 32 := Scalar.subi v2148 v2196
  let c0_i32_1493 : BitVec 32 := 0#32
  let v2199 : BitVec 1 := Scalar.cmpi .sgt v2197 c0_i32_1493
  let v2200 : BitVec 32 := Scalar.extui v2199
  let c0_i32_1494 : BitVec 32 := 0#32
  let v2201 : BitVec 1 := Scalar.cmpi .slt v2197 c0_i32_1494
  let v2202 : BitVec 32 := Scalar.extui v2201
  let v2203 : BitVec 32 := Scalar.subi v2200 v2202
  let c256_i32_1492 : BitVec 32 := 256#32
  let c0_i32_1495 : BitVec 32 := 0#32
  let v2204 : BitVec 1 := Scalar.cmpi .sgt c256_i32_1492 c0_i32_1495
  let v2205 : BitVec 32 := Scalar.extui v2204
  let c0_i32_1496 : BitVec 32 := 0#32
  let v2206 : BitVec 1 := Scalar.cmpi .slt c256_i32_1492 c0_i32_1496
  let v2207 : BitVec 32 := Scalar.extui v2206
  let v2208 : BitVec 32 := Scalar.subi v2205 v2207
  let v2209 : BitVec 1 := Scalar.cmpi .ne v2203 v2208
  let v2210 : BitVec 32 := Scalar.remsi v2197 c256_i32_1492
  let c0_i32_1497 : BitVec 32 := 0#32
  let v2211 : BitVec 1 := Scalar.cmpi .ne v2210 c0_i32_1497
  let v2212 : BitVec 1 := Scalar.andi v2209 v2211
  let v2198 : BitVec 32 := Scalar.divsi v2197 c256_i32_1492
  let c1_i32_1498 : BitVec 32 := 1#32
  let v2213 : BitVec 32 := Scalar.subi v2198 c1_i32_1498
  let v2214 : BitVec 32 := Scalar.select v2212 v2213 v2198
  let c1_i32_1499 : BitVec 32 := 1#32
  let v2215 : BitVec 32 := Scalar.andi v2214 c1_i32_1499
  let v2216 : BitVec 32 := Scalar.addi v2193 v2215
  let c2056_i32 : BitVec 32 := 2056#32
  let v2217 : BitVec 32 := Scalar.muli v2216 c2056_i32
  let v2225 : BitVec 32 := Scalar.addi v2217 c0_i32_1502
  let v2226 : Index := Scalar.indexCast v2225
  let c0_1503 : Index := 0#32
  ![v2226.toNat, 0]

def k0_chk3 (k0_t3 : Fin k0_t3_loop.trips) (v2148 : BitVec 32) (v2195 : BitVec 32) : Prop :=
  (∀ (r : Fin 8), ∀ a, (k0_off12 k0_t3 v2148 v2195 (BitVec.ofNat 32 (257 * r.val))) a + S256x128.size a ≤ S65792x128.size a)
theorem k0_off12_inb : ∀ (k0_t3 : Fin k0_t3_loop.trips) (v2148 : BitVec 32) (v2195 : BitVec 32) (k0_hw3 : k0_chk3 k0_t3 v2148 v2195), ∀ (r : Fin 8), ∀ a, (k0_off12 k0_t3 v2148 v2195 (BitVec.ofNat 32 (257 * r.val))) a + S256x128.size a ≤ S65792x128.size a := fun k0_t3 v2148 v2195 k0_hw3 r => k0_hw3 r

def k0_off13 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2230 : Index := Scalar.indexCast v2110
  let c0_1504 : Index := 0#32
  let c128_1505 : Index := 128#32
  ![v2230.toNat, 0, 128]
def k0_off14 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2242 : Index := Scalar.indexCast v2110
  let c0_1507 : Index := 0#32
  let c256_1508 : Index := 256#32
  ![v2242.toNat, 0, 256]
def k0_off15 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2254 : Index := Scalar.indexCast v2110
  let c0_1510 : Index := 0#32
  let c384_1511 : Index := 384#32
  ![v2254.toNat, 0, 384]
def k0_off16 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2266 : Index := Scalar.indexCast v2110
  let c0_1513 : Index := 0#32
  let c512_1514 : Index := 512#32
  ![v2266.toNat, 0, 512]
def k0_off17 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2278 : Index := Scalar.indexCast v2110
  let c0_1516 : Index := 0#32
  let c640_1517 : Index := 640#32
  ![v2278.toNat, 0, 640]
def k0_off18 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2290 : Index := Scalar.indexCast v2110
  let c0_1519 : Index := 0#32
  let c768_1520 : Index := 768#32
  ![v2290.toNat, 0, 768]
def k0_off19 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2302 : Index := Scalar.indexCast v2110
  let c0_1522 : Index := 0#32
  let c896_1523 : Index := 896#32
  ![v2302.toNat, 0, 896]
def k0_off20 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2315 : Index := Scalar.indexCast v2110
  ![v2315.toNat]
@[reducible] def k0_t5_loop (v2113 : BitVec 32) (v2115 : BitVec 32) : Scf.Loop 32 :=
  let c0_i32_1465 : BitVec 32 := 0#32
  let v2116 : BitVec 32 := Scalar.subi v2113 v2115
  let c256_i32 : BitVec 32 := 256#32
  let v2117 : BitVec 32 := Scalar.addi v2116 c256_i32
  let c1_i32_1451 : BitVec 32 := 1#32
  let v2118 : BitVec 32 := Scalar.subi v2117 c1_i32_1451
  let c0_i32_1453 : BitVec 32 := 0#32
  let v2120 : BitVec 1 := Scalar.cmpi .sgt v2118 c0_i32_1453
  let v2121 : BitVec 32 := Scalar.extui v2120
  let c0_i32_1454 : BitVec 32 := 0#32
  let v2122 : BitVec 1 := Scalar.cmpi .slt v2118 c0_i32_1454
  let v2123 : BitVec 32 := Scalar.extui v2122
  let v2124 : BitVec 32 := Scalar.subi v2121 v2123
  let c256_i32_1452 : BitVec 32 := 256#32
  let c0_i32_1455 : BitVec 32 := 0#32
  let v2125 : BitVec 1 := Scalar.cmpi .sgt c256_i32_1452 c0_i32_1455
  let v2126 : BitVec 32 := Scalar.extui v2125
  let c0_i32_1456 : BitVec 32 := 0#32
  let v2127 : BitVec 1 := Scalar.cmpi .slt c256_i32_1452 c0_i32_1456
  let v2128 : BitVec 32 := Scalar.extui v2127
  let v2129 : BitVec 32 := Scalar.subi v2126 v2128
  let v2130 : BitVec 1 := Scalar.cmpi .ne v2124 v2129
  let v2131 : BitVec 32 := Scalar.remsi v2118 c256_i32_1452
  let c0_i32_1457 : BitVec 32 := 0#32
  let v2132 : BitVec 1 := Scalar.cmpi .ne v2131 c0_i32_1457
  let v2133 : BitVec 1 := Scalar.andi v2130 v2132
  let v2119 : BitVec 32 := Scalar.divsi v2118 c256_i32_1452
  let c1_i32_1458 : BitVec 32 := 1#32
  let v2134 : BitVec 32 := Scalar.subi v2119 c1_i32_1458
  let v2135 : BitVec 32 := Scalar.select v2133 v2134 v2119
  let c0_i32_1459 : BitVec 32 := 0#32
  let v2136 : BitVec 32 := Scalar.subi v2135 c0_i32_1459
  let c1_i32_1460 : BitVec 32 := 1#32
  let c1_i32_1461 : BitVec 32 := 1#32
  let v2137 : BitVec 32 := Scalar.subi c1_i32_1460 c1_i32_1461
  let v2138 : BitVec 32 := Scalar.addi v2136 v2137
  let c1_i32_1462 : BitVec 32 := 1#32
  let v2139 : BitVec 32 := Scalar.divsi v2138 c1_i32_1462
  let v2140 : BitVec 32 := Scalar.subi v2139 c0_i32_1465
  let c1_i32_1466 : BitVec 32 := 1#32
  let v2142 : BitVec 32 := Scalar.divsi v2140 c1_i32_1466
  let v2143 : BitVec 32 := Scalar.muli v2142 c1_i32_1466
  let v2144 : BitVec 32 := Scalar.addi c0_i32_1465 v2143
  let v2141 : BitVec 32 := Scalar.addi c0_i32_1465 v2140
  let c1_i32_1468 : BitVec 32 := 1#32
  ⟨v2144, v2141, c1_i32_1468⟩

def k0_chk1 (v2113 : BitVec 32) (v2115 : BitVec 32) : Prop :=
  ((k0_t4_loop v2113 v2115).OK) ∧
  ((k0_t5_loop v2113 v2115).OK)
theorem k0_t4_ok : ∀ (v2113 : BitVec 32) (v2115 : BitVec 32) (k0_hw1 : k0_chk1 v2113 v2115), (k0_t4_loop v2113 v2115).OK := fun v2113 v2115 k0_hw1 => k0_hw1.1
theorem k0_t5_ok : ∀ (v2113 : BitVec 32) (v2115 : BitVec 32) (k0_hw1 : k0_chk1 v2113 v2115), (k0_t5_loop v2113 v2115).OK := fun v2113 v2115 k0_hw1 => k0_hw1.2

def k0_off21 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2147 : Index := Scalar.indexCast v2110
  ![v2147.toNat]
def k0_mult3 (v2148 : BitVec 32) : BitVec 32 :=
  let c69376_i32 : BitVec 32 := 69376#32
  let v2149 : BitVec 32 := Scalar.minsi v2148 c69376_i32
  v2149

def k0_off22 (v2148 : BitVec 32) : Fin 2 → Nat :=
  let c69376_i32 : BitVec 32 := 69376#32
  let v2149 : BitVec 32 := Scalar.minsi v2148 c69376_i32
  let v2150 : BitVec 32 := v2149
  let c0_i32_1477 : BitVec 32 := 0#32
  ![v2150.toNat, 0]
def k0_off23 (v2148 : BitVec 32) : Fin 3 → Nat :=
  let c0_i32_1469 : BitVec 32 := 0#32
  let v2152 : BitVec 1 := Scalar.cmpi .sgt v2148 c0_i32_1469
  let v2153 : BitVec 32 := Scalar.extui v2152
  let c0_i32_1470 : BitVec 32 := 0#32
  let v2154 : BitVec 1 := Scalar.cmpi .slt v2148 c0_i32_1470
  let v2155 : BitVec 32 := Scalar.extui v2154
  let v2156 : BitVec 32 := Scalar.subi v2153 v2155
  let c32_i32 : BitVec 32 := 32#32
  let c0_i32_1471 : BitVec 32 := 0#32
  let v2157 : BitVec 1 := Scalar.cmpi .sgt c32_i32 c0_i32_1471
  let v2158 : BitVec 32 := Scalar.extui v2157
  let c0_i32_1472 : BitVec 32 := 0#32
  let v2159 : BitVec 1 := Scalar.cmpi .slt c32_i32 c0_i32_1472
  let v2160 : BitVec 32 := Scalar.extui v2159
  let v2161 : BitVec 32 := Scalar.subi v2158 v2160
  let v2162 : BitVec 1 := Scalar.cmpi .ne v2156 v2161
  let v2163 : BitVec 32 := Scalar.remsi v2148 c32_i32
  let c0_i32_1473 : BitVec 32 := 0#32
  let v2164 : BitVec 1 := Scalar.cmpi .ne v2163 c0_i32_1473
  let v2165 : BitVec 1 := Scalar.andi v2162 v2164
  let v2151 : BitVec 32 := Scalar.divsi v2148 c32_i32
  let c1_i32_1474 : BitVec 32 := 1#32
  let v2166 : BitVec 32 := Scalar.subi v2151 c1_i32_1474
  let v2167 : BitVec 32 := Scalar.select v2165 v2166 v2151
  let c0_i32_1478 : BitVec 32 := 0#32
  let c0_i32_1479 : BitVec 32 := 0#32
  ![v2167.toNat, 0, 0]
def k0_mult4 (v2148 : BitVec 32) : BitVec 32 :=
  let c69376_i32 : BitVec 32 := 69376#32
  let v2149 : BitVec 32 := Scalar.minsi v2148 c69376_i32
  let v2176 : BitVec 32 := Scalar.subi v2148 v2149
  v2176
def k0_off24 (v2148 : BitVec 32) : Fin 2 → Nat :=
  let c69376_i32 : BitVec 32 := 69376#32
  let v2149 : BitVec 32 := Scalar.minsi v2148 c69376_i32
  let v2176 : BitVec 32 := Scalar.subi v2148 v2149
  let v2177 : BitVec 32 := v2176
  let v2178 : Index := Scalar.indexCast v2177
  let c0_1485 : Index := 0#32
  ![v2178.toNat, 0]

def k0_chk4 (v2148 : BitVec 32) : Prop :=
  (32 ∣ (k0_mult3 v2148).toNat) ∧
  (∀ a, (k0_off22 v2148) a + S256x1536.size a ≤ S69632x1536.size a) ∧
  (∀ (hinb : ∀ a, (k0_off22 v2148) a + S256x1536.size a ≤ S69632x1536.size a), (Rect.unit (s := S69632x1536) (k0_off22 v2148) S256x1536.size hinb).WholeWords (EltTy.packing .fp8e4m3)) ∧
  (∀ a, (k0_off23 v2148) a + S1x2x128.size a ≤ S2176x2x128.size a) ∧
  (32 ∣ (k0_mult4 v2148).toNat) ∧
  (∀ a, (k0_off24 v2148) a + S256x1536.size a ≤ S512x1536.size a)
theorem k0_mult3_dvd : ∀ (v2148 : BitVec 32) (k0_hw4 : k0_chk4 v2148), 32 ∣ (k0_mult3 v2148).toNat := fun v2148 k0_hw4 => k0_hw4.1
theorem k0_off22_inb : ∀ (v2148 : BitVec 32) (k0_hw4 : k0_chk4 v2148), ∀ a, (k0_off22 v2148) a + S256x1536.size a ≤ S69632x1536.size a := fun v2148 k0_hw4 => k0_hw4.2.1
theorem k0_off22_wordsfp8e4m3 : ∀ (v2148 : BitVec 32) (k0_hw4 : k0_chk4 v2148), (Rect.unit (s := S69632x1536) (k0_off22 v2148) S256x1536.size (k0_off22_inb v2148 k0_hw4)).WholeWords (EltTy.packing .fp8e4m3) := fun v2148 k0_hw4 => k0_hw4.2.2.1 (k0_off22_inb v2148 k0_hw4)
theorem k0_off23_inb : ∀ (v2148 : BitVec 32) (k0_hw4 : k0_chk4 v2148), ∀ a, (k0_off23 v2148) a + S1x2x128.size a ≤ S2176x2x128.size a := fun v2148 k0_hw4 => k0_hw4.2.2.2.1
theorem k0_mult4_dvd : ∀ (v2148 : BitVec 32) (k0_hw4 : k0_chk4 v2148), 32 ∣ (k0_mult4 v2148).toNat := fun v2148 k0_hw4 => k0_hw4.2.2.2.2.1
theorem k0_off24_inb : ∀ (v2148 : BitVec 32) (k0_hw4 : k0_chk4 v2148), ∀ a, (k0_off24 v2148) a + S256x1536.size a ≤ S512x1536.size a := fun v2148 k0_hw4 => k0_hw4.2.2.2.2.2

def k0_off25 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2180 : Index := Scalar.indexCast v2110
  let c0_1486 : Index := 0#32
  let c0_1487 : Index := 0#32
  ![v2180.toNat, 0, 0]
def k0_off26 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2194 : Index := Scalar.indexCast v2110
  ![v2194.toNat]
def k0_off27 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2218 : Index := Scalar.indexCast v2110
  let c0_1500 : Index := 0#32
  let c0_1501 : Index := 0#32
  ![v2218.toNat, 0, 0]
def k0_off28 (k0_t3 : Fin k0_t3_loop.trips) (v2148 : BitVec 32) (v2195 : BitVec 32) (c0_i32_1502 : BitVec 32) : Fin 2 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let c2_i32 : BitVec 32 := 2#32
  let v2193 : BitVec 32 := Scalar.muli v2110 c2_i32
  let c_m32_i32 : BitVec 32 := 4294967264#32
  let v2196 : BitVec 32 := Scalar.andi v2195 c_m32_i32
  let v2197 : BitVec 32 := Scalar.subi v2148 v2196
  let c0_i32_1493 : BitVec 32 := 0#32
  let v2199 : BitVec 1 := Scalar.cmpi .sgt v2197 c0_i32_1493
  let v2200 : BitVec 32 := Scalar.extui v2199
  let c0_i32_1494 : BitVec 32 := 0#32
  let v2201 : BitVec 1 := Scalar.cmpi .slt v2197 c0_i32_1494
  let v2202 : BitVec 32 := Scalar.extui v2201
  let v2203 : BitVec 32 := Scalar.subi v2200 v2202
  let c256_i32_1492 : BitVec 32 := 256#32
  let c0_i32_1495 : BitVec 32 := 0#32
  let v2204 : BitVec 1 := Scalar.cmpi .sgt c256_i32_1492 c0_i32_1495
  let v2205 : BitVec 32 := Scalar.extui v2204
  let c0_i32_1496 : BitVec 32 := 0#32
  let v2206 : BitVec 1 := Scalar.cmpi .slt c256_i32_1492 c0_i32_1496
  let v2207 : BitVec 32 := Scalar.extui v2206
  let v2208 : BitVec 32 := Scalar.subi v2205 v2207
  let v2209 : BitVec 1 := Scalar.cmpi .ne v2203 v2208
  let v2210 : BitVec 32 := Scalar.remsi v2197 c256_i32_1492
  let c0_i32_1497 : BitVec 32 := 0#32
  let v2211 : BitVec 1 := Scalar.cmpi .ne v2210 c0_i32_1497
  let v2212 : BitVec 1 := Scalar.andi v2209 v2211
  let v2198 : BitVec 32 := Scalar.divsi v2197 c256_i32_1492
  let c1_i32_1498 : BitVec 32 := 1#32
  let v2213 : BitVec 32 := Scalar.subi v2198 c1_i32_1498
  let v2214 : BitVec 32 := Scalar.select v2212 v2213 v2198
  let c1_i32_1499 : BitVec 32 := 1#32
  let v2215 : BitVec 32 := Scalar.andi v2214 c1_i32_1499
  let v2216 : BitVec 32 := Scalar.addi v2193 v2215
  let c2056_i32 : BitVec 32 := 2056#32
  let v2217 : BitVec 32 := Scalar.muli v2216 c2056_i32
  let v2225 : BitVec 32 := Scalar.addi v2217 c0_i32_1502
  let v2226 : Index := Scalar.indexCast v2225
  let c0_1503 : Index := 0#32
  ![v2226.toNat, 0]

def k0_chk5 (k0_t3 : Fin k0_t3_loop.trips) (v2148 : BitVec 32) (v2195 : BitVec 32) : Prop :=
  (∀ (r : Fin 8), ∀ a, (k0_off28 k0_t3 v2148 v2195 (BitVec.ofNat 32 (257 * r.val))) a + S256x128.size a ≤ S65792x128.size a)
theorem k0_off28_inb : ∀ (k0_t3 : Fin k0_t3_loop.trips) (v2148 : BitVec 32) (v2195 : BitVec 32) (k0_hw5 : k0_chk5 k0_t3 v2148 v2195), ∀ (r : Fin 8), ∀ a, (k0_off28 k0_t3 v2148 v2195 (BitVec.ofNat 32 (257 * r.val))) a + S256x128.size a ≤ S65792x128.size a := fun k0_t3 v2148 v2195 k0_hw5 r => k0_hw5 r

def k0_off29 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2230 : Index := Scalar.indexCast v2110
  let c0_1504 : Index := 0#32
  let c128_1505 : Index := 128#32
  ![v2230.toNat, 0, 128]
def k0_off30 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2242 : Index := Scalar.indexCast v2110
  let c0_1507 : Index := 0#32
  let c256_1508 : Index := 256#32
  ![v2242.toNat, 0, 256]
def k0_off31 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2254 : Index := Scalar.indexCast v2110
  let c0_1510 : Index := 0#32
  let c384_1511 : Index := 384#32
  ![v2254.toNat, 0, 384]
def k0_off32 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2266 : Index := Scalar.indexCast v2110
  let c0_1513 : Index := 0#32
  let c512_1514 : Index := 512#32
  ![v2266.toNat, 0, 512]
def k0_off33 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2278 : Index := Scalar.indexCast v2110
  let c0_1516 : Index := 0#32
  let c640_1517 : Index := 640#32
  ![v2278.toNat, 0, 640]
def k0_off34 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2290 : Index := Scalar.indexCast v2110
  let c0_1519 : Index := 0#32
  let c768_1520 : Index := 768#32
  ![v2290.toNat, 0, 768]
def k0_off35 (k0_t3 : Fin k0_t3_loop.trips) : Fin 3 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2302 : Index := Scalar.indexCast v2110
  let c0_1522 : Index := 0#32
  let c896_1523 : Index := 896#32
  ![v2302.toNat, 0, 896]
def k0_off36 (k0_t3 : Fin k0_t3_loop.trips) : Fin 1 → Nat :=
  let c0_i32_1450 : BitVec 32 := 0#32
  let c0_i32_10 : BitVec 32 := 0#32
  let c1_i32_12 : BitVec 32 := 1#32
  let arg26 : BitVec 32 := Scf.iv c0_i32_10 c1_i32_12 k0_t3
  let c1_i32_1449 : BitVec 32 := 1#32
  let v2109 : BitVec 32 := Scalar.muli arg26 c1_i32_1449
  let v2110 : BitVec 32 := Scalar.addi c0_i32_1450 v2109
  let v2315 : Index := Scalar.indexCast v2110
  ![v2315.toNat]
def k0_off37 (k0_t2 : Fin k0_t2_loop.trips) : Fin 3 → Nat :=
  let c0_i32_9 : BitVec 32 := 0#32
  let c0_i32_5 : BitVec 32 := 0#32
  let c1_i32_6 : BitVec 32 := 1#32
  let arg25 : BitVec 32 := Scf.iv c0_i32_5 c1_i32_6 k0_t2
  let c1_i32_8 : BitVec 32 := 1#32
  let v5 : BitVec 32 := Scalar.muli arg25 c1_i32_8
  let v6 : BitVec 32 := Scalar.addi c0_i32_9 v5
  let c0_i32_14 : BitVec 32 := 0#32
  let c0_i32_15 : BitVec 32 := 0#32
  ![v6.toNat, 0, 0]
def k0_off38 (v16 : BitVec 32) : Fin 2 → Nat :=
  let v17 : Index := Scalar.indexCast v16
  let c0_23 : Index := 0#32
  ![v17.toNat, 0]

def k0_chk6 (v16 : BitVec 32) : Prop :=
  (∀ a, S8x128.size a = 0 ∨ (k0_off38 v16) a + (![257, 1] : Fin 2 → Nat) a * (S8x128.size a - 1) < S65792x128.size a)
theorem k0_off38_inb : ∀ (v16 : BitVec 32) (k0_hw6 : k0_chk6 v16), ∀ a, S8x128.size a = 0 ∨ (k0_off38 v16) a + (![257, 1] : Fin 2 → Nat) a * (S8x128.size a - 1) < S65792x128.size a := fun v16 k0_hw6 => k0_hw6

def k0_off39 (v19 : BitVec 32) : Fin 2 → Nat :=
  let v20 : Index := Scalar.indexCast v19
  let c0_25 : Index := 0#32
  ![v20.toNat, 0]

def k0_chk7 (v19 : BitVec 32) : Prop :=
  (∀ a, S8x128.size a = 0 ∨ (k0_off39 v19) a + (![257, 1] : Fin 2 → Nat) a * (S8x128.size a - 1) < S65792x128.size a)
theorem k0_off39_inb : ∀ (v19 : BitVec 32) (k0_hw7 : k0_chk7 v19), ∀ a, S8x128.size a = 0 ∨ (k0_off39 v19) a + (![257, 1] : Fin 2 → Nat) a * (S8x128.size a - 1) < S65792x128.size a := fun v19 k0_hw7 => k0_hw7

def k0_off40 (v32 : BitVec 32) : Fin 2 → Nat :=
  let v33 : Index := Scalar.indexCast v32
  let c0_34 : Index := 0#32
  ![v33.toNat, 0]

def k0_chk8 (v32 : BitVec 32) : Prop :=
  (∀ a, S8x128.size a = 0 ∨ (k0_off40 v32) a + (![257, 1] : Fin 2 → Nat) a * (S8x128.size a - 1) < S65792x128.size a)
theorem k0_off40_inb : ∀ (v32 : BitVec 32) (k0_hw8 : k0_chk8 v32), ∀ a, S8x128.size a = 0 ∨ (k0_off40 v32) a + (![257, 1] : Fin 2 → Nat) a * (S8x128.size a - 1) < S65792x128.size a := fun v32 k0_hw8 => k0_hw8

def k0_off41 (v35 : BitVec 32) : Fin 2 → Nat :=
  let v36 : Index := Scalar.indexCast v35
  let c0_37 : Index := 0#32
  ![v36.toNat, 0]

def k0_chk9 (v35 : BitVec 32) : Prop :=
  (∀ a, S8x128.size a = 0 ∨ (k0_off41 v35) a + (![257, 1] : Fin 2 → Nat) a * (S8x128.size a - 1) < S65792x128.size a)
theorem k0_off41_inb : ∀ (v35 : BitVec 32) (k0_hw9 : k0_chk9 v35), ∀ a, S8x128.size a = 0 ∨ (k0_off41 v35) a + (![257, 1] : Fin 2 → Nat) a * (S8x128.size a - 1) < S65792x128.size a := fun v35 k0_hw9 => k0_hw9

def k0_off42 (v48 : BitVec 32) : Fin 2 → Nat :=
  let v49 : Index := Scalar.indexCast v48
  let c0_45 : Index := 0#32
  ![v49.toNat, 0]

def k0_chk10 (v48 : BitVec 32) : Prop :=
  (∀ a, S8x128.size a = 0 ∨ (k0_off42 v48) a + (![257, 1] : Fin 2 → Nat) a * (S8x128.size a - 1) < S65792x128.size a)
theorem k0_off42_inb : ∀ (v48 : BitVec 32) (k0_hw10 : k0_chk10 v48), ∀ a, S8x128.size a = 0 ∨ (k0_off42 v48) a + (![257, 1] : Fin 2 → Nat) a * (S8x128.size a - 1) < S65792x128.size a := fun v48 k0_hw10 => k0_hw10

def k0_off43 (v51 : BitVec 32) : Fin 2 → Nat :=
  let v52 : Index := Scalar.indexCast v51
  let c0_48 : Index := 0#32
  ![v52.toNat, 0]

def k0_chk11 (v51 : BitVec 32) : Prop :=
  (∀ a, S8x128.size a = 0 ∨ (k0_off43 v51) a + (![257, 1] : Fin 2 → Nat) a * (S8x128.size a - 1) < S65792x128.size a)
theorem k0_off43_inb : ∀ (v51 : BitVec 32) (k0_hw11 : k0_chk11 v51), ∀ a, S8x128.size a = 0 ∨ (k0_off43 v51) a + (![257, 1] : Fin 2 → Nat) a * (S8x128.size a - 1) < S65792x128.size a := fun v51 k0_hw11 => k0_hw11

def k0_off44 (v64 : BitVec 32) : Fin 2 → Nat :=
  let v65 : Index := Scalar.indexCast v64
  let c0_56 : Index := 0#32
  ![v65.toNat, 0]

def k0_chk12 (v64 : BitVec 32) : Prop :=
  (∀ a, S8x128.size a = 0 ∨ (k0_off44 v64) a + (![257, 1] : Fin 2 → Nat) a * (S8x128.size a - 1) < S65792x128.size a)
theorem k0_off44_inb : ∀ (v64 : BitVec 32) (k0_hw12 : k0_chk12 v64), ∀ a, S8x128.size a = 0 ∨ (k0_off44 v64) a + (![257, 1] : Fin 2 → Nat) a * (S8x128.size a - 1) < S65792x128.size a := fun v64 k0_hw12 => k0_hw12

def k0_off45 (v67 : BitVec 32) : Fin 2 → Nat :=
  let v68 : Index := Scalar.indexCast v67
  let c0_59 : Index := 0#32
  ![v68.toNat, 0]

def k0_chk13 (v67 : BitVec 32) : Prop :=
  (∀ a, S8x128.size a = 0 ∨ (k0_off45 v67) a + (![257, 1] : Fin 2 → Nat) a * (S8x128.size a - 1) < S65792x128.size a)
theorem k0_off45_inb : ∀ (v67 : BitVec 32) (k0_hw13 : k0_chk13 v67), ∀ a, S8x128.size a = 0 ∨ (k0_off45 v67) a + (![257, 1] : Fin 2 → Nat) a * (S8x128.size a - 1) < S65792x128.size a := fun v67 k0_hw13 => k0_hw13

def k0_off46 (v80 : BitVec 32) : Fin 2 → Nat :=
  let v81 : Index := Scalar.indexCast v80
  let c0_67 : Index := 0#32
  ![v81.toNat, 0]

def k0_chk14 (v80 : BitVec 32) : Prop :=
  (∀ a, S8x128.size a = 0 ∨ (k0_off46 v80) a + (![257, 1] : Fin 2 → Nat) a * (S8x128.size a - 1) < S65792x128.size a)
theorem k0_off46_inb : ∀ (v80 : BitVec 32) (k0_hw14 : k0_chk14 v80), ∀ a, S8x128.size a = 0 ∨ (k0_off46 v80) a + (![257, 1] : Fin 2 → Nat) a * (S8x128.size a - 1) < S65792x128.size a := fun v80 k0_hw14 => k0_hw14

def k0_off47 (v83 : BitVec 32) : Fin 2 → Nat :=
  let v84 : Index := Scalar.indexCast v83
  let c0_70 : Index := 0#32
  ![v84.toNat, 0]

def k0_chk15 (v83 : BitVec 32) : Prop :=
  (∀ a, S8x128.size a = 0 ∨ (k0_off47 v83) a + (![257, 1] : Fin 2 → Nat) a * (S8x128.size a - 1) < S65792x128.size a)
theorem k0_off47_inb : ∀ (v83 : BitVec 32) (k0_hw15 : k0_chk15 v83), ∀ a, S8x128.size a = 0 ∨ (k0_off47 v83) a + (![257, 1] : Fin 2 → Nat) a * (S8x128.size a - 1) < S65792x128.size a := fun v83 k0_hw15 => k0_hw15

def k0_off48 (v96 : BitVec 32) : Fin 2 → Nat :=
  let v97 : Index := Scalar.indexCast v96
  let c0_78 : Index := 0#32
  ![v97.toNat, 0]

def k0_chk16 (v96 : BitVec 32) : Prop :=
  (∀ a, S8x128.size a = 0 ∨ (k0_off48 v96) a + (![257, 1] : Fin 2 → Nat) a * (S8x128.size a - 1) < S65792x128.size a)
theorem k0_off48_inb : ∀ (v96 : BitVec 32) (k0_hw16 : k0_chk16 v96), ∀ a, S8x128.size a = 0 ∨ (k0_off48 v96) a + (![257, 1] : Fin 2 → Nat) a * (S8x128.size a - 1) < S65792x128.size a := fun v96 k0_hw16 => k0_hw16

def k0_off49 (v99 : BitVec 32) : Fin 2 → Nat :=
  let v100 : Index := Scalar.indexCast v99
  let c0_81 : Index := 0#32
  ![v100.toNat, 0]

def k0_chk17 (v99 : BitVec 32) : Prop :=
  (∀ a, S8x128.size a = 0 ∨ (k0_off49 v99) a + (![257, 1] : Fin 2 → Nat) a * (S8x128.size a - 1) < S65792x128.size a)
theorem k0_off49_inb : ∀ (v99 : BitVec 32) (k0_hw17 : k0_chk17 v99), ∀ a, S8x128.size a = 0 ∨ (k0_off49 v99) a + (![257, 1] : Fin 2 → Nat) a * (S8x128.size a - 1) < S65792x128.size a := fun v99 k0_hw17 => k0_hw17

def k0_off50 (v112 : BitVec 32) : Fin 2 → Nat :=
  let v113 : Index := Scalar.indexCast v112
  let c0_89 : Index := 0#32
  ![v113.toNat, 0]

def k0_chk18 (v112 : BitVec 32) : Prop :=
  (∀ a, S8x128.size a = 0 ∨ (k0_off50 v112) a + (![257, 1] : Fin 2 → Nat) a * (S8x128.size a - 1) < S65792x128.size a)
theorem k0_off50_inb : ∀ (v112 : BitVec 32) (k0_hw18 : k0_chk18 v112), ∀ a, S8x128.size a = 0 ∨ (k0_off50 v112) a + (![257, 1] : Fin 2 → Nat) a * (S8x128.size a - 1) < S65792x128.size a := fun v112 k0_hw18 => k0_hw18

def k0_off51 (v115 : BitVec 32) : Fin 2 → Nat :=
  let v116 : Index := Scalar.indexCast v115
  let c0_92 : Index := 0#32
  ![v116.toNat, 0]

def k0_chk19 (v115 : BitVec 32) : Prop :=
  (∀ a, S8x128.size a = 0 ∨ (k0_off51 v115) a + (![257, 1] : Fin 2 → Nat) a * (S8x128.size a - 1) < S65792x128.size a)
theorem k0_off51_inb : ∀ (v115 : BitVec 32) (k0_hw19 : k0_chk19 v115), ∀ a, S8x128.size a = 0 ∨ (k0_off51 v115) a + (![257, 1] : Fin 2 → Nat) a * (S8x128.size a - 1) < S65792x128.size a := fun v115 k0_hw19 => k0_hw19

def k0_off52 (v128 : BitVec 32) : Fin 2 → Nat :=
  let v129 : Index := Scalar.indexCast v128
  let c0_100 : Index := 0#32
  ![v129.toNat, 0]

def k0_chk20 (v128 : BitVec 32) : Prop :=
  (∀ a, S8x128.size a = 0 ∨ (k0_off52 v128) a + (![257, 1] : Fin 2 → Nat) a * (S8x128.size a - 1) < S65792x128.size a)
theorem k0_off52_inb : ∀ (v128 : BitVec 32) (k0_hw20 : k0_chk20 v128), ∀ a, S8x128.size a = 0 ∨ (k0_off52 v128) a + (![257, 1] : Fin 2 → Nat) a * (S8x128.size a - 1) < S65792x128.size a := fun v128 k0_hw20 => k0_hw20

def k0_off53 (v131 : BitVec 32) : Fin 2 → Nat :=
  let v132 : Index := Scalar.indexCast v131
  let c0_103 : Index := 0#32
  ![v132.toNat, 0]

def k0_chk21 (v131 : BitVec 32) : Prop :=
  (∀ a, S8x128.size a = 0 ∨ (k0_off53 v131) a + (![257, 1] : Fin 2 → Nat) a * (S8x128.size a - 1) < S65792x128.size a)
theorem k0_off53_inb : ∀ (v131 : BitVec 32) (k0_hw21 : k0_chk21 v131), ∀ a, S8x128.size a = 0 ∨ (k0_off53 v131) a + (![257, 1] : Fin 2 → Nat) a * (S8x128.size a - 1) < S65792x128.size a := fun v131 k0_hw21 => k0_hw21

def k0_off54 (v144 : BitVec 32) : Fin 2 → Nat :=
  let v145 : Index := Scalar.indexCast v144
  let c0_111 : Index := 0#32
  ![v145.toNat, 0]

def k0_chk22 (v144 : BitVec 32) : Prop :=
  (∀ a, S8x128.size a = 0 ∨ (k0_off54 v144) a + (![257, 1] : Fin 2 → Nat) a * (S8x128.size a - 1) < S65792x128.size a)
theorem k0_off54_inb : ∀ (v144 : BitVec 32) (k0_hw22 : k0_chk22 v144), ∀ a, S8x128.size a = 0 ∨ (k0_off54 v144) a + (![257, 1] : Fin 2 → Nat) a * (S8x128.size a - 1) < S65792x128.size a := fun v144 k0_hw22 => k0_hw22

def k0_off55 (v147 : BitVec 32) : Fin 2 → Nat :=
  let v148 : Index := Scalar.indexCast v147
  let c0_114 : Index := 0#32
  ![v148.toNat, 0]

def k0_chk23 (v147 : BitVec 32) : Prop :=
  (∀ a, S8x128.size a = 0 ∨ (k0_off55 v147) a + (![257, 1] : Fin 2 → Nat) a * (S8x128.size a - 1) < S65792x128.size a)
theorem k0_off55_inb : ∀ (v147 : BitVec 32) (k0_hw23 : k0_chk23 v147), ∀ a, S8x128.size a = 0 ∨ (k0_off55 v147) a + (![257, 1] : Fin 2 → Nat) a * (S8x128.size a - 1) < S65792x128.size a := fun v147 k0_hw23 => k0_hw23

def k0_off56 (v160 : BitVec 32) : Fin 2 → Nat :=
  let v161 : Index := Scalar.indexCast v160
  let c0_122 : Index := 0#32
  ![v161.toNat, 0]

def k0_chk24 (v160 : BitVec 32) : Prop :=
  (∀ a, S8x128.size a = 0 ∨ (k0_off56 v160) a + (![257, 1] : Fin 2 → Nat) a * (S8x128.size a - 1) < S65792x128.size a)
theorem k0_off56_inb : ∀ (v160 : BitVec 32) (k0_hw24 : k0_chk24 v160), ∀ a, S8x128.size a = 0 ∨ (k0_off56 v160) a + (![257, 1] : Fin 2 → Nat) a * (S8x128.size a - 1) < S65792x128.size a := fun v160 k0_hw24 => k0_hw24

def k0_off57 (v163 : BitVec 32) : Fin 2 → Nat :=
  let v164 : Index := Scalar.indexCast v163
  let c0_125 : Index := 0#32
  ![v164.toNat, 0]

def k0_chk25 (v163 : BitVec 32) : Prop :=
  (∀ a, S8x128.size a = 0 ∨ (k0_off57 v163) a + (![257, 1] : Fin 2 → Nat) a * (S8x128.size a - 1) < S65792x128.size a)
theorem k0_off57_inb : ∀ (v163 : BitVec 32) (k0_hw25 : k0_chk25 v163), ∀ a, S8x128.size a = 0 ∨ (k0_off57 v163) a + (![257, 1] : Fin 2 → Nat) a * (S8x128.size a - 1) < S65792x128.size a := fun v163 k0_hw25 => k0_hw25

def k0_off58 (v176 : BitVec 32) : Fin 2 → Nat :=
  let v177 : Index := Scalar.indexCast v176
  let c0_133 : Index := 0#32
  ![v177.toNat, 0]

def k0_chk26 (v176 : BitVec 32) : Prop :=
  (∀ a, S8x128.size a = 0 ∨ (k0_off58 v176) a + (![257, 1] : Fin 2 → Nat) a * (S8x128.size a - 1) < S65792x128.size a)
theorem k0_off58_inb : ∀ (v176 : BitVec 32) (k0_hw26 : k0_chk26 v176), ∀ a, S8x128.size a = 0 ∨ (k0_off58 v176) a + (![257, 1] : Fin 2 → Nat) a * (S8x128.size a - 1) < S65792x128.size a := fun v176 k0_hw26 => k0_hw26

def k0_off59 (v179 : BitVec 32) : Fin 2 → Nat :=
  let v180 : Index := Scalar.indexCast v179
  let c0_136 : Index := 0#32
  ![v180.toNat, 0]

def k0_chk27 (v179 : BitVec 32) : Prop :=
  (∀ a, S8x128.size a = 0 ∨ (k0_off59 v179) a + (![257, 1] : Fin 2 → Nat) a * (S8x128.size a - 1) < S65792x128.size a)
theorem k0_off59_inb : ∀ (v179 : BitVec 32) (k0_hw27 : k0_chk27 v179), ∀ a, S8x128.size a = 0 ∨ (k0_off59 v179) a + (![257, 1] : Fin 2 → Nat) a * (S8x128.size a - 1) < S65792x128.size a := fun v179 k0_hw27 => k0_hw27

def k0_off60 (v192 : BitVec 32) : Fin 2 → Nat :=
  let v193 : Index := Scalar.indexCast v192
  let c0_144 : Index := 0#32
  ![v193.toNat, 0]

def k0_chk28 (v192 : BitVec 32) : Prop :=
  (∀ a, S8x128.size a = 0 ∨ (k0_off60 v192) a + (![257, 1] : Fin 2 → Nat) a * (S8x128.size a - 1) < S65792x128.size a)
theorem k0_off60_inb : ∀ (v192 : BitVec 32) (k0_hw28 : k0_chk28 v192), ∀ a, S8x128.size a = 0 ∨ (k0_off60 v192) a + (![257, 1] : Fin 2 → Nat) a * (S8x128.size a - 1) < S65792x128.size a := fun v192 k0_hw28 => k0_hw28

def k0_off61 (v195 : BitVec 32) : Fin 2 → Nat :=
  let v196 : Index := Scalar.indexCast v195
  let c0_147 : Index := 0#32
  ![v196.toNat, 0]

def k0_chk29 (v195 : BitVec 32) : Prop :=
  (∀ a, S8x128.size a = 0 ∨ (k0_off61 v195) a + (![257, 1] : Fin 2 → Nat) a * (S8x128.size a - 1) < S65792x128.size a)
theorem k0_off61_inb : ∀ (v195 : BitVec 32) (k0_hw29 : k0_chk29 v195), ∀ a, S8x128.size a = 0 ∨ (k0_off61 v195) a + (![257, 1] : Fin 2 → Nat) a * (S8x128.size a - 1) < S65792x128.size a := fun v195 k0_hw29 => k0_hw29

def k0_off62 (v208 : BitVec 32) : Fin 2 → Nat :=
  let v209 : Index := Scalar.indexCast v208
  let c0_155 : Index := 0#32
  ![v209.toNat, 0]

def k0_chk30 (v208 : BitVec 32) : Prop :=
  (∀ a, S8x128.size a = 0 ∨ (k0_off62 v208) a + (![257, 1] : Fin 2 → Nat) a * (S8x128.size a - 1) < S65792x128.size a)
theorem k0_off62_inb : ∀ (v208 : BitVec 32) (k0_hw30 : k0_chk30 v208), ∀ a, S8x128.size a = 0 ∨ (k0_off62 v208) a + (![257, 1] : Fin 2 → Nat) a * (S8x128.size a - 1) < S65792x128.size a := fun v208 k0_hw30 => k0_hw30

def k0_off63 (v211 : BitVec 32) : Fin 2 → Nat :=
  let v212 : Index := Scalar.indexCast v211
  let c0_158 : Index := 0#32
  ![v212.toNat, 0]

def k0_chk31 (v211 : BitVec 32) : Prop :=
  (∀ a, S8x128.size a = 0 ∨ (k0_off63 v211) a + (![257, 1] : Fin 2 → Nat) a * (S8x128.size a - 1) < S65792x128.size a)
theorem k0_off63_inb : ∀ (v211 : BitVec 32) (k0_hw31 : k0_chk31 v211), ∀ a, S8x128.size a = 0 ∨ (k0_off63 v211) a + (![257, 1] : Fin 2 → Nat) a * (S8x128.size a - 1) < S65792x128.size a := fun v211 k0_hw31 => k0_hw31

def k0_off64 (v224 : BitVec 32) : Fin 2 → Nat :=
  let v225 : Index := Scalar.indexCast v224
  let c0_166 : Index := 0#32
  ![v225.toNat, 0]

def k0_chk32 (v224 : BitVec 32) : Prop :=
  (∀ a, S8x128.size a = 0 ∨ (k0_off64 v224) a + (![257, 1] : Fin 2 → Nat) a * (S8x128.size a - 1) < S65792x128.size a)
theorem k0_off64_inb : ∀ (v224 : BitVec 32) (k0_hw32 : k0_chk32 v224), ∀ a, S8x128.size a = 0 ∨ (k0_off64 v224) a + (![257, 1] : Fin 2 → Nat) a * (S8x128.size a - 1) < S65792x128.size a := fun v224 k0_hw32 => k0_hw32

def k0_off65 (v227 : BitVec 32) : Fin 2 → Nat :=
  let v228 : Index := Scalar.indexCast v227
  let c0_169 : Index := 0#32
  ![v228.toNat, 0]

def k0_chk33 (v227 : BitVec 32) : Prop :=
  (∀ a, S8x128.size a = 0 ∨ (k0_off65 v227) a + (![257, 1] : Fin 2 → Nat) a * (S8x128.size a - 1) < S65792x128.size a)
theorem k0_off65_inb : ∀ (v227 : BitVec 32) (k0_hw33 : k0_chk33 v227), ∀ a, S8x128.size a = 0 ∨ (k0_off65 v227) a + (![257, 1] : Fin 2 → Nat) a * (S8x128.size a - 1) < S65792x128.size a := fun v227 k0_hw33 => k0_hw33

def k0_off66 (v240 : BitVec 32) : Fin 2 → Nat :=
  let v241 : Index := Scalar.indexCast v240
  let c0_177 : Index := 0#32
  ![v241.toNat, 0]

def k0_chk34 (v240 : BitVec 32) : Prop :=
  (∀ a, S8x128.size a = 0 ∨ (k0_off66 v240) a + (![257, 1] : Fin 2 → Nat) a * (S8x128.size a - 1) < S65792x128.size a)
theorem k0_off66_inb : ∀ (v240 : BitVec 32) (k0_hw34 : k0_chk34 v240), ∀ a, S8x128.size a = 0 ∨ (k0_off66 v240) a + (![257, 1] : Fin 2 → Nat) a * (S8x128.size a - 1) < S65792x128.size a := fun v240 k0_hw34 => k0_hw34

def k0_off67 (v243 : BitVec 32) : Fin 2 → Nat :=
  let v244 : Index := Scalar.indexCast v243
  let c0_180 : Index := 0#32
  ![v244.toNat, 0]

def k0_chk35 (v243 : BitVec 32) : Prop :=
  (∀ a, S8x128.size a = 0 ∨ (k0_off67 v243) a + (![257, 1] : Fin 2 → Nat) a * (S8x128.size a - 1) < S65792x128.size a)
theorem k0_off67_inb : ∀ (v243 : BitVec 32) (k0_hw35 : k0_chk35 v243), ∀ a, S8x128.size a = 0 ∨ (k0_off67 v243) a + (![257, 1] : Fin 2 → Nat) a * (S8x128.size a - 1) < S65792x128.size a := fun v243 k0_hw35 => k0_hw35

def k0_off68 (v256 : BitVec 32) : Fin 2 → Nat :=
  let v257 : Index := Scalar.indexCast v256
  let c0_188 : Index := 0#32
  ![v257.toNat, 0]

def k0_chk36 (v256 : BitVec 32) : Prop :=
  (∀ a, S8x128.size a = 0 ∨ (k0_off68 v256) a + (![257, 1] : Fin 2 → Nat) a * (S8x128.size a - 1) < S65792x128.size a)
theorem k0_off68_inb : ∀ (v256 : BitVec 32) (k0_hw36 : k0_chk36 v256), ∀ a, S8x128.size a = 0 ∨ (k0_off68 v256) a + (![257, 1] : Fin 2 → Nat) a * (S8x128.size a - 1) < S65792x128.size a := fun v256 k0_hw36 => k0_hw36

def k0_off69 (v259 : BitVec 32) : Fin 2 → Nat :=
  let v260 : Index := Scalar.indexCast v259
  let c0_191 : Index := 0#32
  ![v260.toNat, 0]

def k0_chk37 (v259 : BitVec 32) : Prop :=
  (∀ a, S8x128.size a = 0 ∨ (k0_off69 v259) a + (![257, 1] : Fin 2 → Nat) a * (S8x128.size a - 1) < S65792x128.size a)
theorem k0_off69_inb : ∀ (v259 : BitVec 32) (k0_hw37 : k0_chk37 v259), ∀ a, S8x128.size a = 0 ∨ (k0_off69 v259) a + (![257, 1] : Fin 2 → Nat) a * (S8x128.size a - 1) < S65792x128.size a := fun v259 k0_hw37 => k0_hw37

def k0_off70 (v272 : BitVec 32) : Fin 2 → Nat :=
  let v273 : Index := Scalar.indexCast v272
  let c0_199 : Index := 0#32
  ![v273.toNat, 0]

def k0_chk38 (v272 : BitVec 32) : Prop :=
  (∀ a, S8x128.size a = 0 ∨ (k0_off70 v272) a + (![257, 1] : Fin 2 → Nat) a * (S8x128.size a - 1) < S65792x128.size a)
theorem k0_off70_inb : ∀ (v272 : BitVec 32) (k0_hw38 : k0_chk38 v272), ∀ a, S8x128.size a = 0 ∨ (k0_off70 v272) a + (![257, 1] : Fin 2 → Nat) a * (S8x128.size a - 1) < S65792x128.size a := fun v272 k0_hw38 => k0_hw38

def k0_off71 (v275 : BitVec 32) : Fin 2 → Nat :=
  let v276 : Index := Scalar.indexCast v275
  let c0_202 : Index := 0#32
  ![v276.toNat, 0]

def k0_chk39 (v275 : BitVec 32) : Prop :=
  (∀ a, S8x128.size a = 0 ∨ (k0_off71 v275) a + (![257, 1] : Fin 2 → Nat) a * (S8x128.size a - 1) < S65792x128.size a)
theorem k0_off71_inb : ∀ (v275 : BitVec 32) (k0_hw39 : k0_chk39 v275), ∀ a, S8x128.size a = 0 ∨ (k0_off71 v275) a + (![257, 1] : Fin 2 → Nat) a * (S8x128.size a - 1) < S65792x128.size a := fun v275 k0_hw39 => k0_hw39

def k0_off72 (v288 : BitVec 32) : Fin 2 → Nat :=
  let v289 : Index := Scalar.indexCast v288
  let c0_210 : Index := 0#32
  ![v289.toNat, 0]

def k0_chk40 (v288 : BitVec 32) : Prop :=
  (∀ a, S8x128.size a = 0 ∨ (k0_off72 v288) a + (![257, 1] : Fin 2 → Nat) a * (S8x128.size a - 1) < S65792x128.size a)
theorem k0_off72_inb : ∀ (v288 : BitVec 32) (k0_hw40 : k0_chk40 v288), ∀ a, S8x128.size a = 0 ∨ (k0_off72 v288) a + (![257, 1] : Fin 2 → Nat) a * (S8x128.size a - 1) < S65792x128.size a := fun v288 k0_hw40 => k0_hw40

def k0_off73 (v291 : BitVec 32) : Fin 2 → Nat :=
  let v292 : Index := Scalar.indexCast v291
  let c0_213 : Index := 0#32
  ![v292.toNat, 0]

def k0_chk41 (v291 : BitVec 32) : Prop :=
  (∀ a, S8x128.size a = 0 ∨ (k0_off73 v291) a + (![257, 1] : Fin 2 → Nat) a * (S8x128.size a - 1) < S65792x128.size a)
theorem k0_off73_inb : ∀ (v291 : BitVec 32) (k0_hw41 : k0_chk41 v291), ∀ a, S8x128.size a = 0 ∨ (k0_off73 v291) a + (![257, 1] : Fin 2 → Nat) a * (S8x128.size a - 1) < S65792x128.size a := fun v291 k0_hw41 => k0_hw41

def k0_off74 (v304 : BitVec 32) : Fin 2 → Nat :=
  let v305 : Index := Scalar.indexCast v304
  let c0_221 : Index := 0#32
  ![v305.toNat, 0]

def k0_chk42 (v304 : BitVec 32) : Prop :=
  (∀ a, S8x128.size a = 0 ∨ (k0_off74 v304) a + (![257, 1] : Fin 2 → Nat) a * (S8x128.size a - 1) < S65792x128.size a)
theorem k0_off74_inb : ∀ (v304 : BitVec 32) (k0_hw42 : k0_chk42 v304), ∀ a, S8x128.size a = 0 ∨ (k0_off74 v304) a + (![257, 1] : Fin 2 → Nat) a * (S8x128.size a - 1) < S65792x128.size a := fun v304 k0_hw42 => k0_hw42

def k0_off75 (v307 : BitVec 32) : Fin 2 → Nat :=
  let v308 : Index := Scalar.indexCast v307
  let c0_224 : Index := 0#32
  ![v308.toNat, 0]

def k0_chk43 (v307 : BitVec 32) : Prop :=
  (∀ a, S8x128.size a = 0 ∨ (k0_off75 v307) a + (![257, 1] : Fin 2 → Nat) a * (S8x128.size a - 1) < S65792x128.size a)
theorem k0_off75_inb : ∀ (v307 : BitVec 32) (k0_hw43 : k0_chk43 v307), ∀ a, S8x128.size a = 0 ∨ (k0_off75 v307) a + (![257, 1] : Fin 2 → Nat) a * (S8x128.size a - 1) < S65792x128.size a := fun v307 k0_hw43 => k0_hw43

def k0_off76 (v320 : BitVec 32) : Fin 2 → Nat :=
  let v321 : Index := Scalar.indexCast v320
  let c0_232 : Index := 0#32
  ![v321.toNat, 0]

def k0_chk44 (v320 : BitVec 32) : Prop :=
  (∀ a, S8x128.size a = 0 ∨ (k0_off76 v320) a + (![257, 1] : Fin 2 → Nat) a * (S8x128.size a - 1) < S65792x128.size a)
theorem k0_off76_inb : ∀ (v320 : BitVec 32) (k0_hw44 : k0_chk44 v320), ∀ a, S8x128.size a = 0 ∨ (k0_off76 v320) a + (![257, 1] : Fin 2 → Nat) a * (S8x128.size a - 1) < S65792x128.size a := fun v320 k0_hw44 => k0_hw44

def k0_off77 (v323 : BitVec 32) : Fin 2 → Nat :=
  let v324 : Index := Scalar.indexCast v323
  let c0_235 : Index := 0#32
  ![v324.toNat, 0]

def k0_chk45 (v323 : BitVec 32) : Prop :=
  (∀ a, S8x128.size a = 0 ∨ (k0_off77 v323) a + (![257, 1] : Fin 2 → Nat) a * (S8x128.size a - 1) < S65792x128.size a)
theorem k0_off77_inb : ∀ (v323 : BitVec 32) (k0_hw45 : k0_chk45 v323), ∀ a, S8x128.size a = 0 ∨ (k0_off77 v323) a + (![257, 1] : Fin 2 → Nat) a * (S8x128.size a - 1) < S65792x128.size a := fun v323 k0_hw45 => k0_hw45

def k0_off78 (v336 : BitVec 32) : Fin 2 → Nat :=
  let v337 : Index := Scalar.indexCast v336
  let c0_243 : Index := 0#32
  ![v337.toNat, 0]

def k0_chk46 (v336 : BitVec 32) : Prop :=
  (∀ a, S8x128.size a = 0 ∨ (k0_off78 v336) a + (![257, 1] : Fin 2 → Nat) a * (S8x128.size a - 1) < S65792x128.size a)
theorem k0_off78_inb : ∀ (v336 : BitVec 32) (k0_hw46 : k0_chk46 v336), ∀ a, S8x128.size a = 0 ∨ (k0_off78 v336) a + (![257, 1] : Fin 2 → Nat) a * (S8x128.size a - 1) < S65792x128.size a := fun v336 k0_hw46 => k0_hw46

def k0_off79 (v339 : BitVec 32) : Fin 2 → Nat :=
  let v340 : Index := Scalar.indexCast v339
  let c0_246 : Index := 0#32
  ![v340.toNat, 0]

def k0_chk47 (v339 : BitVec 32) : Prop :=
  (∀ a, S8x128.size a = 0 ∨ (k0_off79 v339) a + (![257, 1] : Fin 2 → Nat) a * (S8x128.size a - 1) < S65792x128.size a)
theorem k0_off79_inb : ∀ (v339 : BitVec 32) (k0_hw47 : k0_chk47 v339), ∀ a, S8x128.size a = 0 ∨ (k0_off79 v339) a + (![257, 1] : Fin 2 → Nat) a * (S8x128.size a - 1) < S65792x128.size a := fun v339 k0_hw47 => k0_hw47

def k0_off80 (v352 : BitVec 32) : Fin 2 → Nat :=
  let v353 : Index := Scalar.indexCast v352
  let c0_254 : Index := 0#32
  ![v353.toNat, 0]

def k0_chk48 (v352 : BitVec 32) : Prop :=
  (∀ a, S8x128.size a = 0 ∨ (k0_off80 v352) a + (![257, 1] : Fin 2 → Nat) a * (S8x128.size a - 1) < S65792x128.size a)
theorem k0_off80_inb : ∀ (v352 : BitVec 32) (k0_hw48 : k0_chk48 v352), ∀ a, S8x128.size a = 0 ∨ (k0_off80 v352) a + (![257, 1] : Fin 2 → Nat) a * (S8x128.size a - 1) < S65792x128.size a := fun v352 k0_hw48 => k0_hw48

def k0_off81 (v355 : BitVec 32) : Fin 2 → Nat :=
  let v356 : Index := Scalar.indexCast v355
  let c0_257 : Index := 0#32
  ![v356.toNat, 0]

def k0_chk49 (v355 : BitVec 32) : Prop :=
  (∀ a, S8x128.size a = 0 ∨ (k0_off81 v355) a + (![257, 1] : Fin 2 → Nat) a * (S8x128.size a - 1) < S65792x128.size a)
theorem k0_off81_inb : ∀ (v355 : BitVec 32) (k0_hw49 : k0_chk49 v355), ∀ a, S8x128.size a = 0 ∨ (k0_off81 v355) a + (![257, 1] : Fin 2 → Nat) a * (S8x128.size a - 1) < S65792x128.size a := fun v355 k0_hw49 => k0_hw49

def k0_off82 (v368 : BitVec 32) : Fin 2 → Nat :=
  let v369 : Index := Scalar.indexCast v368
  let c0_265 : Index := 0#32
  ![v369.toNat, 0]

def k0_chk50 (v368 : BitVec 32) : Prop :=
  (∀ a, S8x128.size a = 0 ∨ (k0_off82 v368) a + (![257, 1] : Fin 2 → Nat) a * (S8x128.size a - 1) < S65792x128.size a)
theorem k0_off82_inb : ∀ (v368 : BitVec 32) (k0_hw50 : k0_chk50 v368), ∀ a, S8x128.size a = 0 ∨ (k0_off82 v368) a + (![257, 1] : Fin 2 → Nat) a * (S8x128.size a - 1) < S65792x128.size a := fun v368 k0_hw50 => k0_hw50

def k0_off83 (v371 : BitVec 32) : Fin 2 → Nat :=
  let v372 : Index := Scalar.indexCast v371
  let c0_268 : Index := 0#32
  ![v372.toNat, 0]

def k0_chk51 (v371 : BitVec 32) : Prop :=
  (∀ a, S8x128.size a = 0 ∨ (k0_off83 v371) a + (![257, 1] : Fin 2 → Nat) a * (S8x128.size a - 1) < S65792x128.size a)
theorem k0_off83_inb : ∀ (v371 : BitVec 32) (k0_hw51 : k0_chk51 v371), ∀ a, S8x128.size a = 0 ∨ (k0_off83 v371) a + (![257, 1] : Fin 2 → Nat) a * (S8x128.size a - 1) < S65792x128.size a := fun v371 k0_hw51 => k0_hw51

def k0_off84 (v384 : BitVec 32) : Fin 2 → Nat :=
  let v385 : Index := Scalar.indexCast v384
  let c0_276 : Index := 0#32
  ![v385.toNat, 0]

def k0_chk52 (v384 : BitVec 32) : Prop :=
  (∀ a, S8x128.size a = 0 ∨ (k0_off84 v384) a + (![257, 1] : Fin 2 → Nat) a * (S8x128.size a - 1) < S65792x128.size a)
theorem k0_off84_inb : ∀ (v384 : BitVec 32) (k0_hw52 : k0_chk52 v384), ∀ a, S8x128.size a = 0 ∨ (k0_off84 v384) a + (![257, 1] : Fin 2 → Nat) a * (S8x128.size a - 1) < S65792x128.size a := fun v384 k0_hw52 => k0_hw52

def k0_off85 (v387 : BitVec 32) : Fin 2 → Nat :=
  let v388 : Index := Scalar.indexCast v387
  let c0_279 : Index := 0#32
  ![v388.toNat, 0]

def k0_chk53 (v387 : BitVec 32) : Prop :=
  (∀ a, S8x128.size a = 0 ∨ (k0_off85 v387) a + (![257, 1] : Fin 2 → Nat) a * (S8x128.size a - 1) < S65792x128.size a)
theorem k0_off85_inb : ∀ (v387 : BitVec 32) (k0_hw53 : k0_chk53 v387), ∀ a, S8x128.size a = 0 ∨ (k0_off85 v387) a + (![257, 1] : Fin 2 → Nat) a * (S8x128.size a - 1) < S65792x128.size a := fun v387 k0_hw53 => k0_hw53

def k0_off86 (v400 : BitVec 32) : Fin 2 → Nat :=
  let v401 : Index := Scalar.indexCast v400
  let c0_287 : Index := 0#32
  ![v401.toNat, 0]

def k0_chk54 (v400 : BitVec 32) : Prop :=
  (∀ a, S8x128.size a = 0 ∨ (k0_off86 v400) a + (![257, 1] : Fin 2 → Nat) a * (S8x128.size a - 1) < S65792x128.size a)
theorem k0_off86_inb : ∀ (v400 : BitVec 32) (k0_hw54 : k0_chk54 v400), ∀ a, S8x128.size a = 0 ∨ (k0_off86 v400) a + (![257, 1] : Fin 2 → Nat) a * (S8x128.size a - 1) < S65792x128.size a := fun v400 k0_hw54 => k0_hw54

def k0_off87 (v403 : BitVec 32) : Fin 2 → Nat :=
  let v404 : Index := Scalar.indexCast v403
  let c0_290 : Index := 0#32
  ![v404.toNat, 0]

def k0_chk55 (v403 : BitVec 32) : Prop :=
  (∀ a, S8x128.size a = 0 ∨ (k0_off87 v403) a + (![257, 1] : Fin 2 → Nat) a * (S8x128.size a - 1) < S65792x128.size a)
theorem k0_off87_inb : ∀ (v403 : BitVec 32) (k0_hw55 : k0_chk55 v403), ∀ a, S8x128.size a = 0 ∨ (k0_off87 v403) a + (![257, 1] : Fin 2 → Nat) a * (S8x128.size a - 1) < S65792x128.size a := fun v403 k0_hw55 => k0_hw55

def k0_off88 (v416 : BitVec 32) : Fin 2 → Nat :=
  let v417 : Index := Scalar.indexCast v416
  let c0_298 : Index := 0#32
  ![v417.toNat, 0]

def k0_chk56 (v416 : BitVec 32) : Prop :=
  (∀ a, S8x128.size a = 0 ∨ (k0_off88 v416) a + (![257, 1] : Fin 2 → Nat) a * (S8x128.size a - 1) < S65792x128.size a)
theorem k0_off88_inb : ∀ (v416 : BitVec 32) (k0_hw56 : k0_chk56 v416), ∀ a, S8x128.size a = 0 ∨ (k0_off88 v416) a + (![257, 1] : Fin 2 → Nat) a * (S8x128.size a - 1) < S65792x128.size a := fun v416 k0_hw56 => k0_hw56

def k0_off89 (v419 : BitVec 32) : Fin 2 → Nat :=
  let v420 : Index := Scalar.indexCast v419
  let c0_301 : Index := 0#32
  ![v420.toNat, 0]

def k0_chk57 (v419 : BitVec 32) : Prop :=
  (∀ a, S8x128.size a = 0 ∨ (k0_off89 v419) a + (![257, 1] : Fin 2 → Nat) a * (S8x128.size a - 1) < S65792x128.size a)
theorem k0_off89_inb : ∀ (v419 : BitVec 32) (k0_hw57 : k0_chk57 v419), ∀ a, S8x128.size a = 0 ∨ (k0_off89 v419) a + (![257, 1] : Fin 2 → Nat) a * (S8x128.size a - 1) < S65792x128.size a := fun v419 k0_hw57 => k0_hw57

def k0_off90 (v432 : BitVec 32) : Fin 2 → Nat :=
  let v433 : Index := Scalar.indexCast v432
  let c0_309 : Index := 0#32
  ![v433.toNat, 0]

def k0_chk58 (v432 : BitVec 32) : Prop :=
  (∀ a, S8x128.size a = 0 ∨ (k0_off90 v432) a + (![257, 1] : Fin 2 → Nat) a * (S8x128.size a - 1) < S65792x128.size a)
theorem k0_off90_inb : ∀ (v432 : BitVec 32) (k0_hw58 : k0_chk58 v432), ∀ a, S8x128.size a = 0 ∨ (k0_off90 v432) a + (![257, 1] : Fin 2 → Nat) a * (S8x128.size a - 1) < S65792x128.size a := fun v432 k0_hw58 => k0_hw58

def k0_off91 (v435 : BitVec 32) : Fin 2 → Nat :=
  let v436 : Index := Scalar.indexCast v435
  let c0_312 : Index := 0#32
  ![v436.toNat, 0]

def k0_chk59 (v435 : BitVec 32) : Prop :=
  (∀ a, S8x128.size a = 0 ∨ (k0_off91 v435) a + (![257, 1] : Fin 2 → Nat) a * (S8x128.size a - 1) < S65792x128.size a)
theorem k0_off91_inb : ∀ (v435 : BitVec 32) (k0_hw59 : k0_chk59 v435), ∀ a, S8x128.size a = 0 ∨ (k0_off91 v435) a + (![257, 1] : Fin 2 → Nat) a * (S8x128.size a - 1) < S65792x128.size a := fun v435 k0_hw59 => k0_hw59

def k0_off92 (v448 : BitVec 32) : Fin 2 → Nat :=
  let v449 : Index := Scalar.indexCast v448
  let c0_320 : Index := 0#32
  ![v449.toNat, 0]

def k0_chk60 (v448 : BitVec 32) : Prop :=
  (∀ a, S8x128.size a = 0 ∨ (k0_off92 v448) a + (![257, 1] : Fin 2 → Nat) a * (S8x128.size a - 1) < S65792x128.size a)
theorem k0_off92_inb : ∀ (v448 : BitVec 32) (k0_hw60 : k0_chk60 v448), ∀ a, S8x128.size a = 0 ∨ (k0_off92 v448) a + (![257, 1] : Fin 2 → Nat) a * (S8x128.size a - 1) < S65792x128.size a := fun v448 k0_hw60 => k0_hw60

def k0_off93 (v451 : BitVec 32) : Fin 2 → Nat :=
  let v452 : Index := Scalar.indexCast v451
  let c0_323 : Index := 0#32
  ![v452.toNat, 0]

def k0_chk61 (v451 : BitVec 32) : Prop :=
  (∀ a, S8x128.size a = 0 ∨ (k0_off93 v451) a + (![257, 1] : Fin 2 → Nat) a * (S8x128.size a - 1) < S65792x128.size a)
theorem k0_off93_inb : ∀ (v451 : BitVec 32) (k0_hw61 : k0_chk61 v451), ∀ a, S8x128.size a = 0 ∨ (k0_off93 v451) a + (![257, 1] : Fin 2 → Nat) a * (S8x128.size a - 1) < S65792x128.size a := fun v451 k0_hw61 => k0_hw61

def k0_off94 (v464 : BitVec 32) : Fin 2 → Nat :=
  let v465 : Index := Scalar.indexCast v464
  let c0_331 : Index := 0#32
  ![v465.toNat, 0]

def k0_chk62 (v464 : BitVec 32) : Prop :=
  (∀ a, S8x128.size a = 0 ∨ (k0_off94 v464) a + (![257, 1] : Fin 2 → Nat) a * (S8x128.size a - 1) < S65792x128.size a)
theorem k0_off94_inb : ∀ (v464 : BitVec 32) (k0_hw62 : k0_chk62 v464), ∀ a, S8x128.size a = 0 ∨ (k0_off94 v464) a + (![257, 1] : Fin 2 → Nat) a * (S8x128.size a - 1) < S65792x128.size a := fun v464 k0_hw62 => k0_hw62

def k0_off95 (v467 : BitVec 32) : Fin 2 → Nat :=
  let v468 : Index := Scalar.indexCast v467
  let c0_334 : Index := 0#32
  ![v468.toNat, 0]

def k0_chk63 (v467 : BitVec 32) : Prop :=
  (∀ a, S8x128.size a = 0 ∨ (k0_off95 v467) a + (![257, 1] : Fin 2 → Nat) a * (S8x128.size a - 1) < S65792x128.size a)
theorem k0_off95_inb : ∀ (v467 : BitVec 32) (k0_hw63 : k0_chk63 v467), ∀ a, S8x128.size a = 0 ∨ (k0_off95 v467) a + (![257, 1] : Fin 2 → Nat) a * (S8x128.size a - 1) < S65792x128.size a := fun v467 k0_hw63 => k0_hw63

def k0_off96 (v480 : BitVec 32) : Fin 2 → Nat :=
  let v481 : Index := Scalar.indexCast v480
  let c0_342 : Index := 0#32
  ![v481.toNat, 0]

def k0_chk64 (v480 : BitVec 32) : Prop :=
  (∀ a, S8x128.size a = 0 ∨ (k0_off96 v480) a + (![257, 1] : Fin 2 → Nat) a * (S8x128.size a - 1) < S65792x128.size a)
theorem k0_off96_inb : ∀ (v480 : BitVec 32) (k0_hw64 : k0_chk64 v480), ∀ a, S8x128.size a = 0 ∨ (k0_off96 v480) a + (![257, 1] : Fin 2 → Nat) a * (S8x128.size a - 1) < S65792x128.size a := fun v480 k0_hw64 => k0_hw64

def k0_off97 (v483 : BitVec 32) : Fin 2 → Nat :=
  let v484 : Index := Scalar.indexCast v483
  let c0_345 : Index := 0#32
  ![v484.toNat, 0]

def k0_chk65 (v483 : BitVec 32) : Prop :=
  (∀ a, S8x128.size a = 0 ∨ (k0_off97 v483) a + (![257, 1] : Fin 2 → Nat) a * (S8x128.size a - 1) < S65792x128.size a)
theorem k0_off97_inb : ∀ (v483 : BitVec 32) (k0_hw65 : k0_chk65 v483), ∀ a, S8x128.size a = 0 ∨ (k0_off97 v483) a + (![257, 1] : Fin 2 → Nat) a * (S8x128.size a - 1) < S65792x128.size a := fun v483 k0_hw65 => k0_hw65

def k0_off98 (v496 : BitVec 32) : Fin 2 → Nat :=
  let v497 : Index := Scalar.indexCast v496
  let c0_353 : Index := 0#32
  ![v497.toNat, 0]

def k0_chk66 (v496 : BitVec 32) : Prop :=
  (∀ a, S8x128.size a = 0 ∨ (k0_off98 v496) a + (![257, 1] : Fin 2 → Nat) a * (S8x128.size a - 1) < S65792x128.size a)
theorem k0_off98_inb : ∀ (v496 : BitVec 32) (k0_hw66 : k0_chk66 v496), ∀ a, S8x128.size a = 0 ∨ (k0_off98 v496) a + (![257, 1] : Fin 2 → Nat) a * (S8x128.size a - 1) < S65792x128.size a := fun v496 k0_hw66 => k0_hw66

def k0_off99 (v499 : BitVec 32) : Fin 2 → Nat :=
  let v500 : Index := Scalar.indexCast v499
  let c0_356 : Index := 0#32
  ![v500.toNat, 0]

def k0_chk67 (v499 : BitVec 32) : Prop :=
  (∀ a, S8x128.size a = 0 ∨ (k0_off99 v499) a + (![257, 1] : Fin 2 → Nat) a * (S8x128.size a - 1) < S65792x128.size a)
theorem k0_off99_inb : ∀ (v499 : BitVec 32) (k0_hw67 : k0_chk67 v499), ∀ a, S8x128.size a = 0 ∨ (k0_off99 v499) a + (![257, 1] : Fin 2 → Nat) a * (S8x128.size a - 1) < S65792x128.size a := fun v499 k0_hw67 => k0_hw67

def k0_off100 (v512 : BitVec 32) : Fin 2 → Nat :=
  let v513 : Index := Scalar.indexCast v512
  let c0_364 : Index := 0#32
  ![v513.toNat, 0]

def k0_chk68 (v512 : BitVec 32) : Prop :=
  (∀ a, S8x128.size a = 0 ∨ (k0_off100 v512) a + (![257, 1] : Fin 2 → Nat) a * (S8x128.size a - 1) < S65792x128.size a)
theorem k0_off100_inb : ∀ (v512 : BitVec 32) (k0_hw68 : k0_chk68 v512), ∀ a, S8x128.size a = 0 ∨ (k0_off100 v512) a + (![257, 1] : Fin 2 → Nat) a * (S8x128.size a - 1) < S65792x128.size a := fun v512 k0_hw68 => k0_hw68

def k0_off101 (v515 : BitVec 32) : Fin 2 → Nat :=
  let v516 : Index := Scalar.indexCast v515
  let c0_367 : Index := 0#32
  ![v516.toNat, 0]

def k0_chk69 (v515 : BitVec 32) : Prop :=
  (∀ a, S8x128.size a = 0 ∨ (k0_off101 v515) a + (![257, 1] : Fin 2 → Nat) a * (S8x128.size a - 1) < S65792x128.size a)
theorem k0_off101_inb : ∀ (v515 : BitVec 32) (k0_hw69 : k0_chk69 v515), ∀ a, S8x128.size a = 0 ∨ (k0_off101 v515) a + (![257, 1] : Fin 2 → Nat) a * (S8x128.size a - 1) < S65792x128.size a := fun v515 k0_hw69 => k0_hw69

def k0_off102 (v528 : BitVec 32) : Fin 2 → Nat :=
  let v529 : Index := Scalar.indexCast v528
  let c0_375 : Index := 0#32
  ![v529.toNat, 0]

def k0_chk70 (v528 : BitVec 32) : Prop :=
  (∀ a, S8x128.size a = 0 ∨ (k0_off102 v528) a + (![257, 1] : Fin 2 → Nat) a * (S8x128.size a - 1) < S65792x128.size a)
theorem k0_off102_inb : ∀ (v528 : BitVec 32) (k0_hw70 : k0_chk70 v528), ∀ a, S8x128.size a = 0 ∨ (k0_off102 v528) a + (![257, 1] : Fin 2 → Nat) a * (S8x128.size a - 1) < S65792x128.size a := fun v528 k0_hw70 => k0_hw70

def k0_off103 (v531 : BitVec 32) : Fin 2 → Nat :=
  let v532 : Index := Scalar.indexCast v531
  let c0_378 : Index := 0#32
  ![v532.toNat, 0]

def k0_chk71 (v531 : BitVec 32) : Prop :=
  (∀ a, S8x128.size a = 0 ∨ (k0_off103 v531) a + (![257, 1] : Fin 2 → Nat) a * (S8x128.size a - 1) < S65792x128.size a)
theorem k0_off103_inb : ∀ (v531 : BitVec 32) (k0_hw71 : k0_chk71 v531), ∀ a, S8x128.size a = 0 ∨ (k0_off103 v531) a + (![257, 1] : Fin 2 → Nat) a * (S8x128.size a - 1) < S65792x128.size a := fun v531 k0_hw71 => k0_hw71

def k0_off104 (v544 : BitVec 32) : Fin 2 → Nat :=
  let v545 : Index := Scalar.indexCast v544
  let c0_386 : Index := 0#32
  ![v545.toNat, 0]

def k0_chk72 (v544 : BitVec 32) : Prop :=
  (∀ a, S8x128.size a = 0 ∨ (k0_off104 v544) a + (![257, 1] : Fin 2 → Nat) a * (S8x128.size a - 1) < S65792x128.size a)
theorem k0_off104_inb : ∀ (v544 : BitVec 32) (k0_hw72 : k0_chk72 v544), ∀ a, S8x128.size a = 0 ∨ (k0_off104 v544) a + (![257, 1] : Fin 2 → Nat) a * (S8x128.size a - 1) < S65792x128.size a := fun v544 k0_hw72 => k0_hw72

def k0_off105 (v547 : BitVec 32) : Fin 2 → Nat :=
  let v548 : Index := Scalar.indexCast v547
  let c0_389 : Index := 0#32
  ![v548.toNat, 0]

def k0_chk73 (v547 : BitVec 32) : Prop :=
  (∀ a, S8x128.size a = 0 ∨ (k0_off105 v547) a + (![257, 1] : Fin 2 → Nat) a * (S8x128.size a - 1) < S65792x128.size a)
theorem k0_off105_inb : ∀ (v547 : BitVec 32) (k0_hw73 : k0_chk73 v547), ∀ a, S8x128.size a = 0 ∨ (k0_off105 v547) a + (![257, 1] : Fin 2 → Nat) a * (S8x128.size a - 1) < S65792x128.size a := fun v547 k0_hw73 => k0_hw73

def k0_off106 (v560 : BitVec 32) : Fin 2 → Nat :=
  let v561 : Index := Scalar.indexCast v560
  let c0_397 : Index := 0#32
  ![v561.toNat, 0]

def k0_chk74 (v560 : BitVec 32) : Prop :=
  (∀ a, S8x128.size a = 0 ∨ (k0_off106 v560) a + (![257, 1] : Fin 2 → Nat) a * (S8x128.size a - 1) < S65792x128.size a)
theorem k0_off106_inb : ∀ (v560 : BitVec 32) (k0_hw74 : k0_chk74 v560), ∀ a, S8x128.size a = 0 ∨ (k0_off106 v560) a + (![257, 1] : Fin 2 → Nat) a * (S8x128.size a - 1) < S65792x128.size a := fun v560 k0_hw74 => k0_hw74

def k0_off107 (v563 : BitVec 32) : Fin 2 → Nat :=
  let v564 : Index := Scalar.indexCast v563
  let c0_400 : Index := 0#32
  ![v564.toNat, 0]

def k0_chk75 (v563 : BitVec 32) : Prop :=
  (∀ a, S8x128.size a = 0 ∨ (k0_off107 v563) a + (![257, 1] : Fin 2 → Nat) a * (S8x128.size a - 1) < S65792x128.size a)
theorem k0_off107_inb : ∀ (v563 : BitVec 32) (k0_hw75 : k0_chk75 v563), ∀ a, S8x128.size a = 0 ∨ (k0_off107 v563) a + (![257, 1] : Fin 2 → Nat) a * (S8x128.size a - 1) < S65792x128.size a := fun v563 k0_hw75 => k0_hw75

def k0_off108 (v576 : BitVec 32) : Fin 2 → Nat :=
  let v577 : Index := Scalar.indexCast v576
  let c0_408 : Index := 0#32
  ![v577.toNat, 0]

def k0_chk76 (v576 : BitVec 32) : Prop :=
  (∀ a, S8x128.size a = 0 ∨ (k0_off108 v576) a + (![257, 1] : Fin 2 → Nat) a * (S8x128.size a - 1) < S65792x128.size a)
theorem k0_off108_inb : ∀ (v576 : BitVec 32) (k0_hw76 : k0_chk76 v576), ∀ a, S8x128.size a = 0 ∨ (k0_off108 v576) a + (![257, 1] : Fin 2 → Nat) a * (S8x128.size a - 1) < S65792x128.size a := fun v576 k0_hw76 => k0_hw76

def k0_off109 (v579 : BitVec 32) : Fin 2 → Nat :=
  let v580 : Index := Scalar.indexCast v579
  let c0_411 : Index := 0#32
  ![v580.toNat, 0]

def k0_chk77 (v579 : BitVec 32) : Prop :=
  (∀ a, S8x128.size a = 0 ∨ (k0_off109 v579) a + (![257, 1] : Fin 2 → Nat) a * (S8x128.size a - 1) < S65792x128.size a)
theorem k0_off109_inb : ∀ (v579 : BitVec 32) (k0_hw77 : k0_chk77 v579), ∀ a, S8x128.size a = 0 ∨ (k0_off109 v579) a + (![257, 1] : Fin 2 → Nat) a * (S8x128.size a - 1) < S65792x128.size a := fun v579 k0_hw77 => k0_hw77

def k0_off110 (v592 : BitVec 32) : Fin 2 → Nat :=
  let v593 : Index := Scalar.indexCast v592
  let c0_419 : Index := 0#32
  ![v593.toNat, 0]

def k0_chk78 (v592 : BitVec 32) : Prop :=
  (∀ a, S8x128.size a = 0 ∨ (k0_off110 v592) a + (![257, 1] : Fin 2 → Nat) a * (S8x128.size a - 1) < S65792x128.size a)
theorem k0_off110_inb : ∀ (v592 : BitVec 32) (k0_hw78 : k0_chk78 v592), ∀ a, S8x128.size a = 0 ∨ (k0_off110 v592) a + (![257, 1] : Fin 2 → Nat) a * (S8x128.size a - 1) < S65792x128.size a := fun v592 k0_hw78 => k0_hw78

def k0_off111 (v595 : BitVec 32) : Fin 2 → Nat :=
  let v596 : Index := Scalar.indexCast v595
  let c0_422 : Index := 0#32
  ![v596.toNat, 0]

def k0_chk79 (v595 : BitVec 32) : Prop :=
  (∀ a, S8x128.size a = 0 ∨ (k0_off111 v595) a + (![257, 1] : Fin 2 → Nat) a * (S8x128.size a - 1) < S65792x128.size a)
theorem k0_off111_inb : ∀ (v595 : BitVec 32) (k0_hw79 : k0_chk79 v595), ∀ a, S8x128.size a = 0 ∨ (k0_off111 v595) a + (![257, 1] : Fin 2 → Nat) a * (S8x128.size a - 1) < S65792x128.size a := fun v595 k0_hw79 => k0_hw79

def k0_off112 (v608 : BitVec 32) : Fin 2 → Nat :=
  let v609 : Index := Scalar.indexCast v608
  let c0_430 : Index := 0#32
  ![v609.toNat, 0]

def k0_chk80 (v608 : BitVec 32) : Prop :=
  (∀ a, S8x128.size a = 0 ∨ (k0_off112 v608) a + (![257, 1] : Fin 2 → Nat) a * (S8x128.size a - 1) < S65792x128.size a)
theorem k0_off112_inb : ∀ (v608 : BitVec 32) (k0_hw80 : k0_chk80 v608), ∀ a, S8x128.size a = 0 ∨ (k0_off112 v608) a + (![257, 1] : Fin 2 → Nat) a * (S8x128.size a - 1) < S65792x128.size a := fun v608 k0_hw80 => k0_hw80

def k0_off113 (v611 : BitVec 32) : Fin 2 → Nat :=
  let v612 : Index := Scalar.indexCast v611
  let c0_433 : Index := 0#32
  ![v612.toNat, 0]

def k0_chk81 (v611 : BitVec 32) : Prop :=
  (∀ a, S8x128.size a = 0 ∨ (k0_off113 v611) a + (![257, 1] : Fin 2 → Nat) a * (S8x128.size a - 1) < S65792x128.size a)
theorem k0_off113_inb : ∀ (v611 : BitVec 32) (k0_hw81 : k0_chk81 v611), ∀ a, S8x128.size a = 0 ∨ (k0_off113 v611) a + (![257, 1] : Fin 2 → Nat) a * (S8x128.size a - 1) < S65792x128.size a := fun v611 k0_hw81 => k0_hw81

def k0_off114 (v624 : BitVec 32) : Fin 2 → Nat :=
  let v625 : Index := Scalar.indexCast v624
  let c0_441 : Index := 0#32
  ![v625.toNat, 0]

def k0_chk82 (v624 : BitVec 32) : Prop :=
  (∀ a, S8x128.size a = 0 ∨ (k0_off114 v624) a + (![257, 1] : Fin 2 → Nat) a * (S8x128.size a - 1) < S65792x128.size a)
theorem k0_off114_inb : ∀ (v624 : BitVec 32) (k0_hw82 : k0_chk82 v624), ∀ a, S8x128.size a = 0 ∨ (k0_off114 v624) a + (![257, 1] : Fin 2 → Nat) a * (S8x128.size a - 1) < S65792x128.size a := fun v624 k0_hw82 => k0_hw82

def k0_off115 (v627 : BitVec 32) : Fin 2 → Nat :=
  let v628 : Index := Scalar.indexCast v627
  let c0_444 : Index := 0#32
  ![v628.toNat, 0]

def k0_chk83 (v627 : BitVec 32) : Prop :=
  (∀ a, S8x128.size a = 0 ∨ (k0_off115 v627) a + (![257, 1] : Fin 2 → Nat) a * (S8x128.size a - 1) < S65792x128.size a)
theorem k0_off115_inb : ∀ (v627 : BitVec 32) (k0_hw83 : k0_chk83 v627), ∀ a, S8x128.size a = 0 ∨ (k0_off115 v627) a + (![257, 1] : Fin 2 → Nat) a * (S8x128.size a - 1) < S65792x128.size a := fun v627 k0_hw83 => k0_hw83

def k0_off116 (v640 : BitVec 32) : Fin 2 → Nat :=
  let v641 : Index := Scalar.indexCast v640
  let c0_452 : Index := 0#32
  ![v641.toNat, 0]

def k0_chk84 (v640 : BitVec 32) : Prop :=
  (∀ a, S8x128.size a = 0 ∨ (k0_off116 v640) a + (![257, 1] : Fin 2 → Nat) a * (S8x128.size a - 1) < S65792x128.size a)
theorem k0_off116_inb : ∀ (v640 : BitVec 32) (k0_hw84 : k0_chk84 v640), ∀ a, S8x128.size a = 0 ∨ (k0_off116 v640) a + (![257, 1] : Fin 2 → Nat) a * (S8x128.size a - 1) < S65792x128.size a := fun v640 k0_hw84 => k0_hw84

def k0_off117 (v643 : BitVec 32) : Fin 2 → Nat :=
  let v644 : Index := Scalar.indexCast v643
  let c0_455 : Index := 0#32
  ![v644.toNat, 0]

def k0_chk85 (v643 : BitVec 32) : Prop :=
  (∀ a, S8x128.size a = 0 ∨ (k0_off117 v643) a + (![257, 1] : Fin 2 → Nat) a * (S8x128.size a - 1) < S65792x128.size a)
theorem k0_off117_inb : ∀ (v643 : BitVec 32) (k0_hw85 : k0_chk85 v643), ∀ a, S8x128.size a = 0 ∨ (k0_off117 v643) a + (![257, 1] : Fin 2 → Nat) a * (S8x128.size a - 1) < S65792x128.size a := fun v643 k0_hw85 => k0_hw85

def k0_off118 (v656 : BitVec 32) : Fin 2 → Nat :=
  let v657 : Index := Scalar.indexCast v656
  let c0_463 : Index := 0#32
  ![v657.toNat, 0]

def k0_chk86 (v656 : BitVec 32) : Prop :=
  (∀ a, S8x128.size a = 0 ∨ (k0_off118 v656) a + (![257, 1] : Fin 2 → Nat) a * (S8x128.size a - 1) < S65792x128.size a)
theorem k0_off118_inb : ∀ (v656 : BitVec 32) (k0_hw86 : k0_chk86 v656), ∀ a, S8x128.size a = 0 ∨ (k0_off118 v656) a + (![257, 1] : Fin 2 → Nat) a * (S8x128.size a - 1) < S65792x128.size a := fun v656 k0_hw86 => k0_hw86

def k0_off119 (v659 : BitVec 32) : Fin 2 → Nat :=
  let v660 : Index := Scalar.indexCast v659
  let c0_466 : Index := 0#32
  ![v660.toNat, 0]

def k0_chk87 (v659 : BitVec 32) : Prop :=
  (∀ a, S8x128.size a = 0 ∨ (k0_off119 v659) a + (![257, 1] : Fin 2 → Nat) a * (S8x128.size a - 1) < S65792x128.size a)
theorem k0_off119_inb : ∀ (v659 : BitVec 32) (k0_hw87 : k0_chk87 v659), ∀ a, S8x128.size a = 0 ∨ (k0_off119 v659) a + (![257, 1] : Fin 2 → Nat) a * (S8x128.size a - 1) < S65792x128.size a := fun v659 k0_hw87 => k0_hw87

def k0_off120 (v672 : BitVec 32) : Fin 2 → Nat :=
  let v673 : Index := Scalar.indexCast v672
  let c0_474 : Index := 0#32
  ![v673.toNat, 0]

def k0_chk88 (v672 : BitVec 32) : Prop :=
  (∀ a, S8x128.size a = 0 ∨ (k0_off120 v672) a + (![257, 1] : Fin 2 → Nat) a * (S8x128.size a - 1) < S65792x128.size a)
theorem k0_off120_inb : ∀ (v672 : BitVec 32) (k0_hw88 : k0_chk88 v672), ∀ a, S8x128.size a = 0 ∨ (k0_off120 v672) a + (![257, 1] : Fin 2 → Nat) a * (S8x128.size a - 1) < S65792x128.size a := fun v672 k0_hw88 => k0_hw88

def k0_off121 (v675 : BitVec 32) : Fin 2 → Nat :=
  let v676 : Index := Scalar.indexCast v675
  let c0_477 : Index := 0#32
  ![v676.toNat, 0]

def k0_chk89 (v675 : BitVec 32) : Prop :=
  (∀ a, S8x128.size a = 0 ∨ (k0_off121 v675) a + (![257, 1] : Fin 2 → Nat) a * (S8x128.size a - 1) < S65792x128.size a)
theorem k0_off121_inb : ∀ (v675 : BitVec 32) (k0_hw89 : k0_chk89 v675), ∀ a, S8x128.size a = 0 ∨ (k0_off121 v675) a + (![257, 1] : Fin 2 → Nat) a * (S8x128.size a - 1) < S65792x128.size a := fun v675 k0_hw89 => k0_hw89

def k0_off122 (v688 : BitVec 32) : Fin 2 → Nat :=
  let v689 : Index := Scalar.indexCast v688
  let c0_485 : Index := 0#32
  ![v689.toNat, 0]

def k0_chk90 (v688 : BitVec 32) : Prop :=
  (∀ a, S8x128.size a = 0 ∨ (k0_off122 v688) a + (![257, 1] : Fin 2 → Nat) a * (S8x128.size a - 1) < S65792x128.size a)
theorem k0_off122_inb : ∀ (v688 : BitVec 32) (k0_hw90 : k0_chk90 v688), ∀ a, S8x128.size a = 0 ∨ (k0_off122 v688) a + (![257, 1] : Fin 2 → Nat) a * (S8x128.size a - 1) < S65792x128.size a := fun v688 k0_hw90 => k0_hw90

def k0_off123 (v691 : BitVec 32) : Fin 2 → Nat :=
  let v692 : Index := Scalar.indexCast v691
  let c0_488 : Index := 0#32
  ![v692.toNat, 0]

def k0_chk91 (v691 : BitVec 32) : Prop :=
  (∀ a, S8x128.size a = 0 ∨ (k0_off123 v691) a + (![257, 1] : Fin 2 → Nat) a * (S8x128.size a - 1) < S65792x128.size a)
theorem k0_off123_inb : ∀ (v691 : BitVec 32) (k0_hw91 : k0_chk91 v691), ∀ a, S8x128.size a = 0 ∨ (k0_off123 v691) a + (![257, 1] : Fin 2 → Nat) a * (S8x128.size a - 1) < S65792x128.size a := fun v691 k0_hw91 => k0_hw91

def k0_off124 (v704 : BitVec 32) : Fin 2 → Nat :=
  let v705 : Index := Scalar.indexCast v704
  let c0_496 : Index := 0#32
  ![v705.toNat, 0]

def k0_chk92 (v704 : BitVec 32) : Prop :=
  (∀ a, S8x128.size a = 0 ∨ (k0_off124 v704) a + (![257, 1] : Fin 2 → Nat) a * (S8x128.size a - 1) < S65792x128.size a)
theorem k0_off124_inb : ∀ (v704 : BitVec 32) (k0_hw92 : k0_chk92 v704), ∀ a, S8x128.size a = 0 ∨ (k0_off124 v704) a + (![257, 1] : Fin 2 → Nat) a * (S8x128.size a - 1) < S65792x128.size a := fun v704 k0_hw92 => k0_hw92

def k0_off125 (v707 : BitVec 32) : Fin 2 → Nat :=
  let v708 : Index := Scalar.indexCast v707
  let c0_499 : Index := 0#32
  ![v708.toNat, 0]

def k0_chk93 (v707 : BitVec 32) : Prop :=
  (∀ a, S8x128.size a = 0 ∨ (k0_off125 v707) a + (![257, 1] : Fin 2 → Nat) a * (S8x128.size a - 1) < S65792x128.size a)
theorem k0_off125_inb : ∀ (v707 : BitVec 32) (k0_hw93 : k0_chk93 v707), ∀ a, S8x128.size a = 0 ∨ (k0_off125 v707) a + (![257, 1] : Fin 2 → Nat) a * (S8x128.size a - 1) < S65792x128.size a := fun v707 k0_hw93 => k0_hw93

def k0_off126 (v720 : BitVec 32) : Fin 2 → Nat :=
  let v721 : Index := Scalar.indexCast v720
  let c0_507 : Index := 0#32
  ![v721.toNat, 0]

def k0_chk94 (v720 : BitVec 32) : Prop :=
  (∀ a, S8x128.size a = 0 ∨ (k0_off126 v720) a + (![257, 1] : Fin 2 → Nat) a * (S8x128.size a - 1) < S65792x128.size a)
theorem k0_off126_inb : ∀ (v720 : BitVec 32) (k0_hw94 : k0_chk94 v720), ∀ a, S8x128.size a = 0 ∨ (k0_off126 v720) a + (![257, 1] : Fin 2 → Nat) a * (S8x128.size a - 1) < S65792x128.size a := fun v720 k0_hw94 => k0_hw94

def k0_off127 (v723 : BitVec 32) : Fin 2 → Nat :=
  let v724 : Index := Scalar.indexCast v723
  let c0_510 : Index := 0#32
  ![v724.toNat, 0]

def k0_chk95 (v723 : BitVec 32) : Prop :=
  (∀ a, S8x128.size a = 0 ∨ (k0_off127 v723) a + (![257, 1] : Fin 2 → Nat) a * (S8x128.size a - 1) < S65792x128.size a)
theorem k0_off127_inb : ∀ (v723 : BitVec 32) (k0_hw95 : k0_chk95 v723), ∀ a, S8x128.size a = 0 ∨ (k0_off127 v723) a + (![257, 1] : Fin 2 → Nat) a * (S8x128.size a - 1) < S65792x128.size a := fun v723 k0_hw95 => k0_hw95

def k0_off128 (v736 : BitVec 32) : Fin 2 → Nat :=
  let v737 : Index := Scalar.indexCast v736
  let c0_518 : Index := 0#32
  ![v737.toNat, 0]

def k0_chk96 (v736 : BitVec 32) : Prop :=
  (∀ a, S8x128.size a = 0 ∨ (k0_off128 v736) a + (![257, 1] : Fin 2 → Nat) a * (S8x128.size a - 1) < S65792x128.size a)
theorem k0_off128_inb : ∀ (v736 : BitVec 32) (k0_hw96 : k0_chk96 v736), ∀ a, S8x128.size a = 0 ∨ (k0_off128 v736) a + (![257, 1] : Fin 2 → Nat) a * (S8x128.size a - 1) < S65792x128.size a := fun v736 k0_hw96 => k0_hw96

def k0_off129 (v739 : BitVec 32) : Fin 2 → Nat :=
  let v740 : Index := Scalar.indexCast v739
  let c0_521 : Index := 0#32
  ![v740.toNat, 0]

def k0_chk97 (v739 : BitVec 32) : Prop :=
  (∀ a, S8x128.size a = 0 ∨ (k0_off129 v739) a + (![257, 1] : Fin 2 → Nat) a * (S8x128.size a - 1) < S65792x128.size a)
theorem k0_off129_inb : ∀ (v739 : BitVec 32) (k0_hw97 : k0_chk97 v739), ∀ a, S8x128.size a = 0 ∨ (k0_off129 v739) a + (![257, 1] : Fin 2 → Nat) a * (S8x128.size a - 1) < S65792x128.size a := fun v739 k0_hw97 => k0_hw97

def k0_off130 (v752 : BitVec 32) : Fin 2 → Nat :=
  let v753 : Index := Scalar.indexCast v752
  let c0_529 : Index := 0#32
  ![v753.toNat, 0]

def k0_chk98 (v752 : BitVec 32) : Prop :=
  (∀ a, S8x128.size a = 0 ∨ (k0_off130 v752) a + (![257, 1] : Fin 2 → Nat) a * (S8x128.size a - 1) < S65792x128.size a)
theorem k0_off130_inb : ∀ (v752 : BitVec 32) (k0_hw98 : k0_chk98 v752), ∀ a, S8x128.size a = 0 ∨ (k0_off130 v752) a + (![257, 1] : Fin 2 → Nat) a * (S8x128.size a - 1) < S65792x128.size a := fun v752 k0_hw98 => k0_hw98

def k0_off131 (v755 : BitVec 32) : Fin 2 → Nat :=
  let v756 : Index := Scalar.indexCast v755
  let c0_532 : Index := 0#32
  ![v756.toNat, 0]

def k0_chk99 (v755 : BitVec 32) : Prop :=
  (∀ a, S8x128.size a = 0 ∨ (k0_off131 v755) a + (![257, 1] : Fin 2 → Nat) a * (S8x128.size a - 1) < S65792x128.size a)
theorem k0_off131_inb : ∀ (v755 : BitVec 32) (k0_hw99 : k0_chk99 v755), ∀ a, S8x128.size a = 0 ∨ (k0_off131 v755) a + (![257, 1] : Fin 2 → Nat) a * (S8x128.size a - 1) < S65792x128.size a := fun v755 k0_hw99 => k0_hw99

def k0_off132 (v768 : BitVec 32) : Fin 2 → Nat :=
  let v769 : Index := Scalar.indexCast v768
  let c0_540 : Index := 0#32
  ![v769.toNat, 0]

def k0_chk100 (v768 : BitVec 32) : Prop :=
  (∀ a, S8x128.size a = 0 ∨ (k0_off132 v768) a + (![257, 1] : Fin 2 → Nat) a * (S8x128.size a - 1) < S65792x128.size a)
theorem k0_off132_inb : ∀ (v768 : BitVec 32) (k0_hw100 : k0_chk100 v768), ∀ a, S8x128.size a = 0 ∨ (k0_off132 v768) a + (![257, 1] : Fin 2 → Nat) a * (S8x128.size a - 1) < S65792x128.size a := fun v768 k0_hw100 => k0_hw100

def k0_off133 (v771 : BitVec 32) : Fin 2 → Nat :=
  let v772 : Index := Scalar.indexCast v771
  let c0_543 : Index := 0#32
  ![v772.toNat, 0]

def k0_chk101 (v771 : BitVec 32) : Prop :=
  (∀ a, S8x128.size a = 0 ∨ (k0_off133 v771) a + (![257, 1] : Fin 2 → Nat) a * (S8x128.size a - 1) < S65792x128.size a)
theorem k0_off133_inb : ∀ (v771 : BitVec 32) (k0_hw101 : k0_chk101 v771), ∀ a, S8x128.size a = 0 ∨ (k0_off133 v771) a + (![257, 1] : Fin 2 → Nat) a * (S8x128.size a - 1) < S65792x128.size a := fun v771 k0_hw101 => k0_hw101

def k0_off134 (v784 : BitVec 32) : Fin 2 → Nat :=
  let v785 : Index := Scalar.indexCast v784
  let c0_551 : Index := 0#32
  ![v785.toNat, 0]

def k0_chk102 (v784 : BitVec 32) : Prop :=
  (∀ a, S8x128.size a = 0 ∨ (k0_off134 v784) a + (![257, 1] : Fin 2 → Nat) a * (S8x128.size a - 1) < S65792x128.size a)
theorem k0_off134_inb : ∀ (v784 : BitVec 32) (k0_hw102 : k0_chk102 v784), ∀ a, S8x128.size a = 0 ∨ (k0_off134 v784) a + (![257, 1] : Fin 2 → Nat) a * (S8x128.size a - 1) < S65792x128.size a := fun v784 k0_hw102 => k0_hw102

def k0_off135 (v787 : BitVec 32) : Fin 2 → Nat :=
  let v788 : Index := Scalar.indexCast v787
  let c0_554 : Index := 0#32
  ![v788.toNat, 0]

def k0_chk103 (v787 : BitVec 32) : Prop :=
  (∀ a, S8x128.size a = 0 ∨ (k0_off135 v787) a + (![257, 1] : Fin 2 → Nat) a * (S8x128.size a - 1) < S65792x128.size a)
theorem k0_off135_inb : ∀ (v787 : BitVec 32) (k0_hw103 : k0_chk103 v787), ∀ a, S8x128.size a = 0 ∨ (k0_off135 v787) a + (![257, 1] : Fin 2 → Nat) a * (S8x128.size a - 1) < S65792x128.size a := fun v787 k0_hw103 => k0_hw103

def k0_off136 (v800 : BitVec 32) : Fin 2 → Nat :=
  let v801 : Index := Scalar.indexCast v800
  let c0_562 : Index := 0#32
  ![v801.toNat, 0]

def k0_chk104 (v800 : BitVec 32) : Prop :=
  (∀ a, S8x128.size a = 0 ∨ (k0_off136 v800) a + (![257, 1] : Fin 2 → Nat) a * (S8x128.size a - 1) < S65792x128.size a)
theorem k0_off136_inb : ∀ (v800 : BitVec 32) (k0_hw104 : k0_chk104 v800), ∀ a, S8x128.size a = 0 ∨ (k0_off136 v800) a + (![257, 1] : Fin 2 → Nat) a * (S8x128.size a - 1) < S65792x128.size a := fun v800 k0_hw104 => k0_hw104

def k0_off137 (v803 : BitVec 32) : Fin 2 → Nat :=
  let v804 : Index := Scalar.indexCast v803
  let c0_565 : Index := 0#32
  ![v804.toNat, 0]

def k0_chk105 (v803 : BitVec 32) : Prop :=
  (∀ a, S8x128.size a = 0 ∨ (k0_off137 v803) a + (![257, 1] : Fin 2 → Nat) a * (S8x128.size a - 1) < S65792x128.size a)
theorem k0_off137_inb : ∀ (v803 : BitVec 32) (k0_hw105 : k0_chk105 v803), ∀ a, S8x128.size a = 0 ∨ (k0_off137 v803) a + (![257, 1] : Fin 2 → Nat) a * (S8x128.size a - 1) < S65792x128.size a := fun v803 k0_hw105 => k0_hw105

def k0_off138 (v816 : BitVec 32) : Fin 2 → Nat :=
  let v817 : Index := Scalar.indexCast v816
  let c0_573 : Index := 0#32
  ![v817.toNat, 0]

def k0_chk106 (v816 : BitVec 32) : Prop :=
  (∀ a, S8x128.size a = 0 ∨ (k0_off138 v816) a + (![257, 1] : Fin 2 → Nat) a * (S8x128.size a - 1) < S65792x128.size a)
theorem k0_off138_inb : ∀ (v816 : BitVec 32) (k0_hw106 : k0_chk106 v816), ∀ a, S8x128.size a = 0 ∨ (k0_off138 v816) a + (![257, 1] : Fin 2 → Nat) a * (S8x128.size a - 1) < S65792x128.size a := fun v816 k0_hw106 => k0_hw106

def k0_off139 (v819 : BitVec 32) : Fin 2 → Nat :=
  let v820 : Index := Scalar.indexCast v819
  let c0_576 : Index := 0#32
  ![v820.toNat, 0]

def k0_chk107 (v819 : BitVec 32) : Prop :=
  (∀ a, S8x128.size a = 0 ∨ (k0_off139 v819) a + (![257, 1] : Fin 2 → Nat) a * (S8x128.size a - 1) < S65792x128.size a)
theorem k0_off139_inb : ∀ (v819 : BitVec 32) (k0_hw107 : k0_chk107 v819), ∀ a, S8x128.size a = 0 ∨ (k0_off139 v819) a + (![257, 1] : Fin 2 → Nat) a * (S8x128.size a - 1) < S65792x128.size a := fun v819 k0_hw107 => k0_hw107

def k0_off140 (v832 : BitVec 32) : Fin 2 → Nat :=
  let v833 : Index := Scalar.indexCast v832
  let c0_584 : Index := 0#32
  ![v833.toNat, 0]

def k0_chk108 (v832 : BitVec 32) : Prop :=
  (∀ a, S8x128.size a = 0 ∨ (k0_off140 v832) a + (![257, 1] : Fin 2 → Nat) a * (S8x128.size a - 1) < S65792x128.size a)
theorem k0_off140_inb : ∀ (v832 : BitVec 32) (k0_hw108 : k0_chk108 v832), ∀ a, S8x128.size a = 0 ∨ (k0_off140 v832) a + (![257, 1] : Fin 2 → Nat) a * (S8x128.size a - 1) < S65792x128.size a := fun v832 k0_hw108 => k0_hw108

def k0_off141 (v835 : BitVec 32) : Fin 2 → Nat :=
  let v836 : Index := Scalar.indexCast v835
  let c0_587 : Index := 0#32
  ![v836.toNat, 0]

def k0_chk109 (v835 : BitVec 32) : Prop :=
  (∀ a, S8x128.size a = 0 ∨ (k0_off141 v835) a + (![257, 1] : Fin 2 → Nat) a * (S8x128.size a - 1) < S65792x128.size a)
theorem k0_off141_inb : ∀ (v835 : BitVec 32) (k0_hw109 : k0_chk109 v835), ∀ a, S8x128.size a = 0 ∨ (k0_off141 v835) a + (![257, 1] : Fin 2 → Nat) a * (S8x128.size a - 1) < S65792x128.size a := fun v835 k0_hw109 => k0_hw109

def k0_off142 (v848 : BitVec 32) : Fin 2 → Nat :=
  let v849 : Index := Scalar.indexCast v848
  let c0_595 : Index := 0#32
  ![v849.toNat, 0]

def k0_chk110 (v848 : BitVec 32) : Prop :=
  (∀ a, S8x128.size a = 0 ∨ (k0_off142 v848) a + (![257, 1] : Fin 2 → Nat) a * (S8x128.size a - 1) < S65792x128.size a)
theorem k0_off142_inb : ∀ (v848 : BitVec 32) (k0_hw110 : k0_chk110 v848), ∀ a, S8x128.size a = 0 ∨ (k0_off142 v848) a + (![257, 1] : Fin 2 → Nat) a * (S8x128.size a - 1) < S65792x128.size a := fun v848 k0_hw110 => k0_hw110

def k0_off143 (v851 : BitVec 32) : Fin 2 → Nat :=
  let v852 : Index := Scalar.indexCast v851
  let c0_598 : Index := 0#32
  ![v852.toNat, 0]

def k0_chk111 (v851 : BitVec 32) : Prop :=
  (∀ a, S8x128.size a = 0 ∨ (k0_off143 v851) a + (![257, 1] : Fin 2 → Nat) a * (S8x128.size a - 1) < S65792x128.size a)
theorem k0_off143_inb : ∀ (v851 : BitVec 32) (k0_hw111 : k0_chk111 v851), ∀ a, S8x128.size a = 0 ∨ (k0_off143 v851) a + (![257, 1] : Fin 2 → Nat) a * (S8x128.size a - 1) < S65792x128.size a := fun v851 k0_hw111 => k0_hw111

def k0_off144 (v864 : BitVec 32) : Fin 2 → Nat :=
  let v865 : Index := Scalar.indexCast v864
  let c0_606 : Index := 0#32
  ![v865.toNat, 0]

def k0_chk112 (v864 : BitVec 32) : Prop :=
  (∀ a, S8x128.size a = 0 ∨ (k0_off144 v864) a + (![257, 1] : Fin 2 → Nat) a * (S8x128.size a - 1) < S65792x128.size a)
theorem k0_off144_inb : ∀ (v864 : BitVec 32) (k0_hw112 : k0_chk112 v864), ∀ a, S8x128.size a = 0 ∨ (k0_off144 v864) a + (![257, 1] : Fin 2 → Nat) a * (S8x128.size a - 1) < S65792x128.size a := fun v864 k0_hw112 => k0_hw112

def k0_off145 (v867 : BitVec 32) : Fin 2 → Nat :=
  let v868 : Index := Scalar.indexCast v867
  let c0_609 : Index := 0#32
  ![v868.toNat, 0]

def k0_chk113 (v867 : BitVec 32) : Prop :=
  (∀ a, S8x128.size a = 0 ∨ (k0_off145 v867) a + (![257, 1] : Fin 2 → Nat) a * (S8x128.size a - 1) < S65792x128.size a)
theorem k0_off145_inb : ∀ (v867 : BitVec 32) (k0_hw113 : k0_chk113 v867), ∀ a, S8x128.size a = 0 ∨ (k0_off145 v867) a + (![257, 1] : Fin 2 → Nat) a * (S8x128.size a - 1) < S65792x128.size a := fun v867 k0_hw113 => k0_hw113

def k0_off146 (v880 : BitVec 32) : Fin 2 → Nat :=
  let v881 : Index := Scalar.indexCast v880
  let c0_617 : Index := 0#32
  ![v881.toNat, 0]

def k0_chk114 (v880 : BitVec 32) : Prop :=
  (∀ a, S8x128.size a = 0 ∨ (k0_off146 v880) a + (![257, 1] : Fin 2 → Nat) a * (S8x128.size a - 1) < S65792x128.size a)
theorem k0_off146_inb : ∀ (v880 : BitVec 32) (k0_hw114 : k0_chk114 v880), ∀ a, S8x128.size a = 0 ∨ (k0_off146 v880) a + (![257, 1] : Fin 2 → Nat) a * (S8x128.size a - 1) < S65792x128.size a := fun v880 k0_hw114 => k0_hw114

def k0_off147 (v883 : BitVec 32) : Fin 2 → Nat :=
  let v884 : Index := Scalar.indexCast v883
  let c0_620 : Index := 0#32
  ![v884.toNat, 0]

def k0_chk115 (v883 : BitVec 32) : Prop :=
  (∀ a, S8x128.size a = 0 ∨ (k0_off147 v883) a + (![257, 1] : Fin 2 → Nat) a * (S8x128.size a - 1) < S65792x128.size a)
theorem k0_off147_inb : ∀ (v883 : BitVec 32) (k0_hw115 : k0_chk115 v883), ∀ a, S8x128.size a = 0 ∨ (k0_off147 v883) a + (![257, 1] : Fin 2 → Nat) a * (S8x128.size a - 1) < S65792x128.size a := fun v883 k0_hw115 => k0_hw115

def k0_off148 (v896 : BitVec 32) : Fin 2 → Nat :=
  let v897 : Index := Scalar.indexCast v896
  let c0_628 : Index := 0#32
  ![v897.toNat, 0]

def k0_chk116 (v896 : BitVec 32) : Prop :=
  (∀ a, S8x128.size a = 0 ∨ (k0_off148 v896) a + (![257, 1] : Fin 2 → Nat) a * (S8x128.size a - 1) < S65792x128.size a)
theorem k0_off148_inb : ∀ (v896 : BitVec 32) (k0_hw116 : k0_chk116 v896), ∀ a, S8x128.size a = 0 ∨ (k0_off148 v896) a + (![257, 1] : Fin 2 → Nat) a * (S8x128.size a - 1) < S65792x128.size a := fun v896 k0_hw116 => k0_hw116

def k0_off149 (v899 : BitVec 32) : Fin 2 → Nat :=
  let v900 : Index := Scalar.indexCast v899
  let c0_631 : Index := 0#32
  ![v900.toNat, 0]

def k0_chk117 (v899 : BitVec 32) : Prop :=
  (∀ a, S8x128.size a = 0 ∨ (k0_off149 v899) a + (![257, 1] : Fin 2 → Nat) a * (S8x128.size a - 1) < S65792x128.size a)
theorem k0_off149_inb : ∀ (v899 : BitVec 32) (k0_hw117 : k0_chk117 v899), ∀ a, S8x128.size a = 0 ∨ (k0_off149 v899) a + (![257, 1] : Fin 2 → Nat) a * (S8x128.size a - 1) < S65792x128.size a := fun v899 k0_hw117 => k0_hw117

def k0_off150 (v912 : BitVec 32) : Fin 2 → Nat :=
  let v913 : Index := Scalar.indexCast v912
  let c0_639 : Index := 0#32
  ![v913.toNat, 0]

def k0_chk118 (v912 : BitVec 32) : Prop :=
  (∀ a, S8x128.size a = 0 ∨ (k0_off150 v912) a + (![257, 1] : Fin 2 → Nat) a * (S8x128.size a - 1) < S65792x128.size a)
theorem k0_off150_inb : ∀ (v912 : BitVec 32) (k0_hw118 : k0_chk118 v912), ∀ a, S8x128.size a = 0 ∨ (k0_off150 v912) a + (![257, 1] : Fin 2 → Nat) a * (S8x128.size a - 1) < S65792x128.size a := fun v912 k0_hw118 => k0_hw118

def k0_off151 (v915 : BitVec 32) : Fin 2 → Nat :=
  let v916 : Index := Scalar.indexCast v915
  let c0_642 : Index := 0#32
  ![v916.toNat, 0]

def k0_chk119 (v915 : BitVec 32) : Prop :=
  (∀ a, S8x128.size a = 0 ∨ (k0_off151 v915) a + (![257, 1] : Fin 2 → Nat) a * (S8x128.size a - 1) < S65792x128.size a)
theorem k0_off151_inb : ∀ (v915 : BitVec 32) (k0_hw119 : k0_chk119 v915), ∀ a, S8x128.size a = 0 ∨ (k0_off151 v915) a + (![257, 1] : Fin 2 → Nat) a * (S8x128.size a - 1) < S65792x128.size a := fun v915 k0_hw119 => k0_hw119

def k0_off152 (v928 : BitVec 32) : Fin 2 → Nat :=
  let v929 : Index := Scalar.indexCast v928
  let c0_650 : Index := 0#32
  ![v929.toNat, 0]

def k0_chk120 (v928 : BitVec 32) : Prop :=
  (∀ a, S8x128.size a = 0 ∨ (k0_off152 v928) a + (![257, 1] : Fin 2 → Nat) a * (S8x128.size a - 1) < S65792x128.size a)
theorem k0_off152_inb : ∀ (v928 : BitVec 32) (k0_hw120 : k0_chk120 v928), ∀ a, S8x128.size a = 0 ∨ (k0_off152 v928) a + (![257, 1] : Fin 2 → Nat) a * (S8x128.size a - 1) < S65792x128.size a := fun v928 k0_hw120 => k0_hw120

def k0_off153 (v931 : BitVec 32) : Fin 2 → Nat :=
  let v932 : Index := Scalar.indexCast v931
  let c0_653 : Index := 0#32
  ![v932.toNat, 0]

def k0_chk121 (v931 : BitVec 32) : Prop :=
  (∀ a, S8x128.size a = 0 ∨ (k0_off153 v931) a + (![257, 1] : Fin 2 → Nat) a * (S8x128.size a - 1) < S65792x128.size a)
theorem k0_off153_inb : ∀ (v931 : BitVec 32) (k0_hw121 : k0_chk121 v931), ∀ a, S8x128.size a = 0 ∨ (k0_off153 v931) a + (![257, 1] : Fin 2 → Nat) a * (S8x128.size a - 1) < S65792x128.size a := fun v931 k0_hw121 => k0_hw121

def k0_off154 (v944 : BitVec 32) : Fin 2 → Nat :=
  let v945 : Index := Scalar.indexCast v944
  let c0_661 : Index := 0#32
  ![v945.toNat, 0]

def k0_chk122 (v944 : BitVec 32) : Prop :=
  (∀ a, S8x128.size a = 0 ∨ (k0_off154 v944) a + (![257, 1] : Fin 2 → Nat) a * (S8x128.size a - 1) < S65792x128.size a)
theorem k0_off154_inb : ∀ (v944 : BitVec 32) (k0_hw122 : k0_chk122 v944), ∀ a, S8x128.size a = 0 ∨ (k0_off154 v944) a + (![257, 1] : Fin 2 → Nat) a * (S8x128.size a - 1) < S65792x128.size a := fun v944 k0_hw122 => k0_hw122

def k0_off155 (v947 : BitVec 32) : Fin 2 → Nat :=
  let v948 : Index := Scalar.indexCast v947
  let c0_664 : Index := 0#32
  ![v948.toNat, 0]

def k0_chk123 (v947 : BitVec 32) : Prop :=
  (∀ a, S8x128.size a = 0 ∨ (k0_off155 v947) a + (![257, 1] : Fin 2 → Nat) a * (S8x128.size a - 1) < S65792x128.size a)
theorem k0_off155_inb : ∀ (v947 : BitVec 32) (k0_hw123 : k0_chk123 v947), ∀ a, S8x128.size a = 0 ∨ (k0_off155 v947) a + (![257, 1] : Fin 2 → Nat) a * (S8x128.size a - 1) < S65792x128.size a := fun v947 k0_hw123 => k0_hw123

def k0_off156 (v960 : BitVec 32) : Fin 2 → Nat :=
  let v961 : Index := Scalar.indexCast v960
  let c0_672 : Index := 0#32
  ![v961.toNat, 0]

def k0_chk124 (v960 : BitVec 32) : Prop :=
  (∀ a, S8x128.size a = 0 ∨ (k0_off156 v960) a + (![257, 1] : Fin 2 → Nat) a * (S8x128.size a - 1) < S65792x128.size a)
theorem k0_off156_inb : ∀ (v960 : BitVec 32) (k0_hw124 : k0_chk124 v960), ∀ a, S8x128.size a = 0 ∨ (k0_off156 v960) a + (![257, 1] : Fin 2 → Nat) a * (S8x128.size a - 1) < S65792x128.size a := fun v960 k0_hw124 => k0_hw124

def k0_off157 (v963 : BitVec 32) : Fin 2 → Nat :=
  let v964 : Index := Scalar.indexCast v963
  let c0_675 : Index := 0#32
  ![v964.toNat, 0]

def k0_chk125 (v963 : BitVec 32) : Prop :=
  (∀ a, S8x128.size a = 0 ∨ (k0_off157 v963) a + (![257, 1] : Fin 2 → Nat) a * (S8x128.size a - 1) < S65792x128.size a)
theorem k0_off157_inb : ∀ (v963 : BitVec 32) (k0_hw125 : k0_chk125 v963), ∀ a, S8x128.size a = 0 ∨ (k0_off157 v963) a + (![257, 1] : Fin 2 → Nat) a * (S8x128.size a - 1) < S65792x128.size a := fun v963 k0_hw125 => k0_hw125

def k0_off158 (v976 : BitVec 32) : Fin 2 → Nat :=
  let v977 : Index := Scalar.indexCast v976
  let c0_683 : Index := 0#32
  ![v977.toNat, 0]

def k0_chk126 (v976 : BitVec 32) : Prop :=
  (∀ a, S8x128.size a = 0 ∨ (k0_off158 v976) a + (![257, 1] : Fin 2 → Nat) a * (S8x128.size a - 1) < S65792x128.size a)
theorem k0_off158_inb : ∀ (v976 : BitVec 32) (k0_hw126 : k0_chk126 v976), ∀ a, S8x128.size a = 0 ∨ (k0_off158 v976) a + (![257, 1] : Fin 2 → Nat) a * (S8x128.size a - 1) < S65792x128.size a := fun v976 k0_hw126 => k0_hw126

def k0_off159 (v979 : BitVec 32) : Fin 2 → Nat :=
  let v980 : Index := Scalar.indexCast v979
  let c0_686 : Index := 0#32
  ![v980.toNat, 0]

def k0_chk127 (v979 : BitVec 32) : Prop :=
  (∀ a, S8x128.size a = 0 ∨ (k0_off159 v979) a + (![257, 1] : Fin 2 → Nat) a * (S8x128.size a - 1) < S65792x128.size a)
theorem k0_off159_inb : ∀ (v979 : BitVec 32) (k0_hw127 : k0_chk127 v979), ∀ a, S8x128.size a = 0 ∨ (k0_off159 v979) a + (![257, 1] : Fin 2 → Nat) a * (S8x128.size a - 1) < S65792x128.size a := fun v979 k0_hw127 => k0_hw127

def k0_off160 (v992 : BitVec 32) : Fin 2 → Nat :=
  let v993 : Index := Scalar.indexCast v992
  let c0_694 : Index := 0#32
  ![v993.toNat, 0]

def k0_chk128 (v992 : BitVec 32) : Prop :=
  (∀ a, S8x128.size a = 0 ∨ (k0_off160 v992) a + (![257, 1] : Fin 2 → Nat) a * (S8x128.size a - 1) < S65792x128.size a)
theorem k0_off160_inb : ∀ (v992 : BitVec 32) (k0_hw128 : k0_chk128 v992), ∀ a, S8x128.size a = 0 ∨ (k0_off160 v992) a + (![257, 1] : Fin 2 → Nat) a * (S8x128.size a - 1) < S65792x128.size a := fun v992 k0_hw128 => k0_hw128

def k0_off161 (v995 : BitVec 32) : Fin 2 → Nat :=
  let v996 : Index := Scalar.indexCast v995
  let c0_697 : Index := 0#32
  ![v996.toNat, 0]

def k0_chk129 (v995 : BitVec 32) : Prop :=
  (∀ a, S8x128.size a = 0 ∨ (k0_off161 v995) a + (![257, 1] : Fin 2 → Nat) a * (S8x128.size a - 1) < S65792x128.size a)
theorem k0_off161_inb : ∀ (v995 : BitVec 32) (k0_hw129 : k0_chk129 v995), ∀ a, S8x128.size a = 0 ∨ (k0_off161 v995) a + (![257, 1] : Fin 2 → Nat) a * (S8x128.size a - 1) < S65792x128.size a := fun v995 k0_hw129 => k0_hw129

def k0_off162 (v1008 : BitVec 32) : Fin 2 → Nat :=
  let v1009 : Index := Scalar.indexCast v1008
  let c0_705 : Index := 0#32
  ![v1009.toNat, 0]

def k0_chk130 (v1008 : BitVec 32) : Prop :=
  (∀ a, S8x128.size a = 0 ∨ (k0_off162 v1008) a + (![257, 1] : Fin 2 → Nat) a * (S8x128.size a - 1) < S65792x128.size a)
theorem k0_off162_inb : ∀ (v1008 : BitVec 32) (k0_hw130 : k0_chk130 v1008), ∀ a, S8x128.size a = 0 ∨ (k0_off162 v1008) a + (![257, 1] : Fin 2 → Nat) a * (S8x128.size a - 1) < S65792x128.size a := fun v1008 k0_hw130 => k0_hw130

def k0_off163 (v1011 : BitVec 32) : Fin 2 → Nat :=
  let v1012 : Index := Scalar.indexCast v1011
  let c0_708 : Index := 0#32
  ![v1012.toNat, 0]

def k0_chk131 (v1011 : BitVec 32) : Prop :=
  (∀ a, S8x128.size a = 0 ∨ (k0_off163 v1011) a + (![257, 1] : Fin 2 → Nat) a * (S8x128.size a - 1) < S65792x128.size a)
theorem k0_off163_inb : ∀ (v1011 : BitVec 32) (k0_hw131 : k0_chk131 v1011), ∀ a, S8x128.size a = 0 ∨ (k0_off163 v1011) a + (![257, 1] : Fin 2 → Nat) a * (S8x128.size a - 1) < S65792x128.size a := fun v1011 k0_hw131 => k0_hw131

def k0_off164 (v1024 : BitVec 32) : Fin 2 → Nat :=
  let v1025 : Index := Scalar.indexCast v1024
  let c0_716 : Index := 0#32
  ![v1025.toNat, 0]

def k0_chk132 (v1024 : BitVec 32) : Prop :=
  (∀ a, S8x128.size a = 0 ∨ (k0_off164 v1024) a + (![257, 1] : Fin 2 → Nat) a * (S8x128.size a - 1) < S65792x128.size a)
theorem k0_off164_inb : ∀ (v1024 : BitVec 32) (k0_hw132 : k0_chk132 v1024), ∀ a, S8x128.size a = 0 ∨ (k0_off164 v1024) a + (![257, 1] : Fin 2 → Nat) a * (S8x128.size a - 1) < S65792x128.size a := fun v1024 k0_hw132 => k0_hw132

def k0_off165 (v1027 : BitVec 32) : Fin 2 → Nat :=
  let v1028 : Index := Scalar.indexCast v1027
  let c0_719 : Index := 0#32
  ![v1028.toNat, 0]

def k0_chk133 (v1027 : BitVec 32) : Prop :=
  (∀ a, S8x128.size a = 0 ∨ (k0_off165 v1027) a + (![257, 1] : Fin 2 → Nat) a * (S8x128.size a - 1) < S65792x128.size a)
theorem k0_off165_inb : ∀ (v1027 : BitVec 32) (k0_hw133 : k0_chk133 v1027), ∀ a, S8x128.size a = 0 ∨ (k0_off165 v1027) a + (![257, 1] : Fin 2 → Nat) a * (S8x128.size a - 1) < S65792x128.size a := fun v1027 k0_hw133 => k0_hw133

def k0_off166 (v1040 : BitVec 32) : Fin 2 → Nat :=
  let v1041 : Index := Scalar.indexCast v1040
  let c0_727 : Index := 0#32
  ![v1041.toNat, 0]

def k0_chk134 (v1040 : BitVec 32) : Prop :=
  (∀ a, S8x128.size a = 0 ∨ (k0_off166 v1040) a + (![257, 1] : Fin 2 → Nat) a * (S8x128.size a - 1) < S65792x128.size a)
theorem k0_off166_inb : ∀ (v1040 : BitVec 32) (k0_hw134 : k0_chk134 v1040), ∀ a, S8x128.size a = 0 ∨ (k0_off166 v1040) a + (![257, 1] : Fin 2 → Nat) a * (S8x128.size a - 1) < S65792x128.size a := fun v1040 k0_hw134 => k0_hw134

def k0_off167 (v1043 : BitVec 32) : Fin 2 → Nat :=
  let v1044 : Index := Scalar.indexCast v1043
  let c0_730 : Index := 0#32
  ![v1044.toNat, 0]

def k0_chk135 (v1043 : BitVec 32) : Prop :=
  (∀ a, S8x128.size a = 0 ∨ (k0_off167 v1043) a + (![257, 1] : Fin 2 → Nat) a * (S8x128.size a - 1) < S65792x128.size a)
theorem k0_off167_inb : ∀ (v1043 : BitVec 32) (k0_hw135 : k0_chk135 v1043), ∀ a, S8x128.size a = 0 ∨ (k0_off167 v1043) a + (![257, 1] : Fin 2 → Nat) a * (S8x128.size a - 1) < S65792x128.size a := fun v1043 k0_hw135 => k0_hw135

def k0_off168 (v1056 : BitVec 32) : Fin 2 → Nat :=
  let v1057 : Index := Scalar.indexCast v1056
  let c0_738 : Index := 0#32
  ![v1057.toNat, 0]

def k0_chk136 (v1056 : BitVec 32) : Prop :=
  (∀ a, S8x128.size a = 0 ∨ (k0_off168 v1056) a + (![257, 1] : Fin 2 → Nat) a * (S8x128.size a - 1) < S65792x128.size a)
theorem k0_off168_inb : ∀ (v1056 : BitVec 32) (k0_hw136 : k0_chk136 v1056), ∀ a, S8x128.size a = 0 ∨ (k0_off168 v1056) a + (![257, 1] : Fin 2 → Nat) a * (S8x128.size a - 1) < S65792x128.size a := fun v1056 k0_hw136 => k0_hw136

def k0_off169 (v1059 : BitVec 32) : Fin 2 → Nat :=
  let v1060 : Index := Scalar.indexCast v1059
  let c0_741 : Index := 0#32
  ![v1060.toNat, 0]

def k0_chk137 (v1059 : BitVec 32) : Prop :=
  (∀ a, S8x128.size a = 0 ∨ (k0_off169 v1059) a + (![257, 1] : Fin 2 → Nat) a * (S8x128.size a - 1) < S65792x128.size a)
theorem k0_off169_inb : ∀ (v1059 : BitVec 32) (k0_hw137 : k0_chk137 v1059), ∀ a, S8x128.size a = 0 ∨ (k0_off169 v1059) a + (![257, 1] : Fin 2 → Nat) a * (S8x128.size a - 1) < S65792x128.size a := fun v1059 k0_hw137 => k0_hw137

def k0_off170 (v1072 : BitVec 32) : Fin 2 → Nat :=
  let v1073 : Index := Scalar.indexCast v1072
  let c0_749 : Index := 0#32
  ![v1073.toNat, 0]

def k0_chk138 (v1072 : BitVec 32) : Prop :=
  (∀ a, S8x128.size a = 0 ∨ (k0_off170 v1072) a + (![257, 1] : Fin 2 → Nat) a * (S8x128.size a - 1) < S65792x128.size a)
theorem k0_off170_inb : ∀ (v1072 : BitVec 32) (k0_hw138 : k0_chk138 v1072), ∀ a, S8x128.size a = 0 ∨ (k0_off170 v1072) a + (![257, 1] : Fin 2 → Nat) a * (S8x128.size a - 1) < S65792x128.size a := fun v1072 k0_hw138 => k0_hw138

def k0_off171 (v1075 : BitVec 32) : Fin 2 → Nat :=
  let v1076 : Index := Scalar.indexCast v1075
  let c0_752 : Index := 0#32
  ![v1076.toNat, 0]

def k0_chk139 (v1075 : BitVec 32) : Prop :=
  (∀ a, S8x128.size a = 0 ∨ (k0_off171 v1075) a + (![257, 1] : Fin 2 → Nat) a * (S8x128.size a - 1) < S65792x128.size a)
theorem k0_off171_inb : ∀ (v1075 : BitVec 32) (k0_hw139 : k0_chk139 v1075), ∀ a, S8x128.size a = 0 ∨ (k0_off171 v1075) a + (![257, 1] : Fin 2 → Nat) a * (S8x128.size a - 1) < S65792x128.size a := fun v1075 k0_hw139 => k0_hw139

def k0_off172 (v1088 : BitVec 32) : Fin 2 → Nat :=
  let v1089 : Index := Scalar.indexCast v1088
  let c0_760 : Index := 0#32
  ![v1089.toNat, 0]

def k0_chk140 (v1088 : BitVec 32) : Prop :=
  (∀ a, S8x128.size a = 0 ∨ (k0_off172 v1088) a + (![257, 1] : Fin 2 → Nat) a * (S8x128.size a - 1) < S65792x128.size a)
theorem k0_off172_inb : ∀ (v1088 : BitVec 32) (k0_hw140 : k0_chk140 v1088), ∀ a, S8x128.size a = 0 ∨ (k0_off172 v1088) a + (![257, 1] : Fin 2 → Nat) a * (S8x128.size a - 1) < S65792x128.size a := fun v1088 k0_hw140 => k0_hw140

def k0_off173 (v1091 : BitVec 32) : Fin 2 → Nat :=
  let v1092 : Index := Scalar.indexCast v1091
  let c0_763 : Index := 0#32
  ![v1092.toNat, 0]

def k0_chk141 (v1091 : BitVec 32) : Prop :=
  (∀ a, S8x128.size a = 0 ∨ (k0_off173 v1091) a + (![257, 1] : Fin 2 → Nat) a * (S8x128.size a - 1) < S65792x128.size a)
theorem k0_off173_inb : ∀ (v1091 : BitVec 32) (k0_hw141 : k0_chk141 v1091), ∀ a, S8x128.size a = 0 ∨ (k0_off173 v1091) a + (![257, 1] : Fin 2 → Nat) a * (S8x128.size a - 1) < S65792x128.size a := fun v1091 k0_hw141 => k0_hw141

def k0_off174 (v1104 : BitVec 32) : Fin 2 → Nat :=
  let v1105 : Index := Scalar.indexCast v1104
  let c0_771 : Index := 0#32
  ![v1105.toNat, 0]

def k0_chk142 (v1104 : BitVec 32) : Prop :=
  (∀ a, S8x128.size a = 0 ∨ (k0_off174 v1104) a + (![257, 1] : Fin 2 → Nat) a * (S8x128.size a - 1) < S65792x128.size a)
theorem k0_off174_inb : ∀ (v1104 : BitVec 32) (k0_hw142 : k0_chk142 v1104), ∀ a, S8x128.size a = 0 ∨ (k0_off174 v1104) a + (![257, 1] : Fin 2 → Nat) a * (S8x128.size a - 1) < S65792x128.size a := fun v1104 k0_hw142 => k0_hw142

def k0_off175 (v1107 : BitVec 32) : Fin 2 → Nat :=
  let v1108 : Index := Scalar.indexCast v1107
  let c0_774 : Index := 0#32
  ![v1108.toNat, 0]

def k0_chk143 (v1107 : BitVec 32) : Prop :=
  (∀ a, S8x128.size a = 0 ∨ (k0_off175 v1107) a + (![257, 1] : Fin 2 → Nat) a * (S8x128.size a - 1) < S65792x128.size a)
theorem k0_off175_inb : ∀ (v1107 : BitVec 32) (k0_hw143 : k0_chk143 v1107), ∀ a, S8x128.size a = 0 ∨ (k0_off175 v1107) a + (![257, 1] : Fin 2 → Nat) a * (S8x128.size a - 1) < S65792x128.size a := fun v1107 k0_hw143 => k0_hw143

def k0_off176 (v1120 : BitVec 32) : Fin 2 → Nat :=
  let v1121 : Index := Scalar.indexCast v1120
  let c0_782 : Index := 0#32
  ![v1121.toNat, 0]

def k0_chk144 (v1120 : BitVec 32) : Prop :=
  (∀ a, S8x128.size a = 0 ∨ (k0_off176 v1120) a + (![257, 1] : Fin 2 → Nat) a * (S8x128.size a - 1) < S65792x128.size a)
theorem k0_off176_inb : ∀ (v1120 : BitVec 32) (k0_hw144 : k0_chk144 v1120), ∀ a, S8x128.size a = 0 ∨ (k0_off176 v1120) a + (![257, 1] : Fin 2 → Nat) a * (S8x128.size a - 1) < S65792x128.size a := fun v1120 k0_hw144 => k0_hw144

def k0_off177 (v1123 : BitVec 32) : Fin 2 → Nat :=
  let v1124 : Index := Scalar.indexCast v1123
  let c0_785 : Index := 0#32
  ![v1124.toNat, 0]

def k0_chk145 (v1123 : BitVec 32) : Prop :=
  (∀ a, S8x128.size a = 0 ∨ (k0_off177 v1123) a + (![257, 1] : Fin 2 → Nat) a * (S8x128.size a - 1) < S65792x128.size a)
theorem k0_off177_inb : ∀ (v1123 : BitVec 32) (k0_hw145 : k0_chk145 v1123), ∀ a, S8x128.size a = 0 ∨ (k0_off177 v1123) a + (![257, 1] : Fin 2 → Nat) a * (S8x128.size a - 1) < S65792x128.size a := fun v1123 k0_hw145 => k0_hw145

def k0_off178 (v1136 : BitVec 32) : Fin 2 → Nat :=
  let v1137 : Index := Scalar.indexCast v1136
  let c0_793 : Index := 0#32
  ![v1137.toNat, 0]

def k0_chk146 (v1136 : BitVec 32) : Prop :=
  (∀ a, S8x128.size a = 0 ∨ (k0_off178 v1136) a + (![257, 1] : Fin 2 → Nat) a * (S8x128.size a - 1) < S65792x128.size a)
theorem k0_off178_inb : ∀ (v1136 : BitVec 32) (k0_hw146 : k0_chk146 v1136), ∀ a, S8x128.size a = 0 ∨ (k0_off178 v1136) a + (![257, 1] : Fin 2 → Nat) a * (S8x128.size a - 1) < S65792x128.size a := fun v1136 k0_hw146 => k0_hw146

def k0_off179 (v1139 : BitVec 32) : Fin 2 → Nat :=
  let v1140 : Index := Scalar.indexCast v1139
  let c0_796 : Index := 0#32
  ![v1140.toNat, 0]

def k0_chk147 (v1139 : BitVec 32) : Prop :=
  (∀ a, S8x128.size a = 0 ∨ (k0_off179 v1139) a + (![257, 1] : Fin 2 → Nat) a * (S8x128.size a - 1) < S65792x128.size a)
theorem k0_off179_inb : ∀ (v1139 : BitVec 32) (k0_hw147 : k0_chk147 v1139), ∀ a, S8x128.size a = 0 ∨ (k0_off179 v1139) a + (![257, 1] : Fin 2 → Nat) a * (S8x128.size a - 1) < S65792x128.size a := fun v1139 k0_hw147 => k0_hw147

def k0_off180 (v1152 : BitVec 32) : Fin 2 → Nat :=
  let v1153 : Index := Scalar.indexCast v1152
  let c0_804 : Index := 0#32
  ![v1153.toNat, 0]

def k0_chk148 (v1152 : BitVec 32) : Prop :=
  (∀ a, S8x128.size a = 0 ∨ (k0_off180 v1152) a + (![257, 1] : Fin 2 → Nat) a * (S8x128.size a - 1) < S65792x128.size a)
theorem k0_off180_inb : ∀ (v1152 : BitVec 32) (k0_hw148 : k0_chk148 v1152), ∀ a, S8x128.size a = 0 ∨ (k0_off180 v1152) a + (![257, 1] : Fin 2 → Nat) a * (S8x128.size a - 1) < S65792x128.size a := fun v1152 k0_hw148 => k0_hw148

def k0_off181 (v1155 : BitVec 32) : Fin 2 → Nat :=
  let v1156 : Index := Scalar.indexCast v1155
  let c0_807 : Index := 0#32
  ![v1156.toNat, 0]

def k0_chk149 (v1155 : BitVec 32) : Prop :=
  (∀ a, S8x128.size a = 0 ∨ (k0_off181 v1155) a + (![257, 1] : Fin 2 → Nat) a * (S8x128.size a - 1) < S65792x128.size a)
theorem k0_off181_inb : ∀ (v1155 : BitVec 32) (k0_hw149 : k0_chk149 v1155), ∀ a, S8x128.size a = 0 ∨ (k0_off181 v1155) a + (![257, 1] : Fin 2 → Nat) a * (S8x128.size a - 1) < S65792x128.size a := fun v1155 k0_hw149 => k0_hw149

def k0_off182 (v1168 : BitVec 32) : Fin 2 → Nat :=
  let v1169 : Index := Scalar.indexCast v1168
  let c0_815 : Index := 0#32
  ![v1169.toNat, 0]

def k0_chk150 (v1168 : BitVec 32) : Prop :=
  (∀ a, S8x128.size a = 0 ∨ (k0_off182 v1168) a + (![257, 1] : Fin 2 → Nat) a * (S8x128.size a - 1) < S65792x128.size a)
theorem k0_off182_inb : ∀ (v1168 : BitVec 32) (k0_hw150 : k0_chk150 v1168), ∀ a, S8x128.size a = 0 ∨ (k0_off182 v1168) a + (![257, 1] : Fin 2 → Nat) a * (S8x128.size a - 1) < S65792x128.size a := fun v1168 k0_hw150 => k0_hw150

def k0_off183 (v1171 : BitVec 32) : Fin 2 → Nat :=
  let v1172 : Index := Scalar.indexCast v1171
  let c0_818 : Index := 0#32
  ![v1172.toNat, 0]

def k0_chk151 (v1171 : BitVec 32) : Prop :=
  (∀ a, S8x128.size a = 0 ∨ (k0_off183 v1171) a + (![257, 1] : Fin 2 → Nat) a * (S8x128.size a - 1) < S65792x128.size a)
theorem k0_off183_inb : ∀ (v1171 : BitVec 32) (k0_hw151 : k0_chk151 v1171), ∀ a, S8x128.size a = 0 ∨ (k0_off183 v1171) a + (![257, 1] : Fin 2 → Nat) a * (S8x128.size a - 1) < S65792x128.size a := fun v1171 k0_hw151 => k0_hw151

def k0_off184 (v1184 : BitVec 32) : Fin 2 → Nat :=
  let v1185 : Index := Scalar.indexCast v1184
  let c0_826 : Index := 0#32
  ![v1185.toNat, 0]

def k0_chk152 (v1184 : BitVec 32) : Prop :=
  (∀ a, S8x128.size a = 0 ∨ (k0_off184 v1184) a + (![257, 1] : Fin 2 → Nat) a * (S8x128.size a - 1) < S65792x128.size a)
theorem k0_off184_inb : ∀ (v1184 : BitVec 32) (k0_hw152 : k0_chk152 v1184), ∀ a, S8x128.size a = 0 ∨ (k0_off184 v1184) a + (![257, 1] : Fin 2 → Nat) a * (S8x128.size a - 1) < S65792x128.size a := fun v1184 k0_hw152 => k0_hw152

def k0_off185 (v1187 : BitVec 32) : Fin 2 → Nat :=
  let v1188 : Index := Scalar.indexCast v1187
  let c0_829 : Index := 0#32
  ![v1188.toNat, 0]

def k0_chk153 (v1187 : BitVec 32) : Prop :=
  (∀ a, S8x128.size a = 0 ∨ (k0_off185 v1187) a + (![257, 1] : Fin 2 → Nat) a * (S8x128.size a - 1) < S65792x128.size a)
theorem k0_off185_inb : ∀ (v1187 : BitVec 32) (k0_hw153 : k0_chk153 v1187), ∀ a, S8x128.size a = 0 ∨ (k0_off185 v1187) a + (![257, 1] : Fin 2 → Nat) a * (S8x128.size a - 1) < S65792x128.size a := fun v1187 k0_hw153 => k0_hw153

def k0_off186 (v1200 : BitVec 32) : Fin 2 → Nat :=
  let v1201 : Index := Scalar.indexCast v1200
  let c0_837 : Index := 0#32
  ![v1201.toNat, 0]

def k0_chk154 (v1200 : BitVec 32) : Prop :=
  (∀ a, S8x128.size a = 0 ∨ (k0_off186 v1200) a + (![257, 1] : Fin 2 → Nat) a * (S8x128.size a - 1) < S65792x128.size a)
theorem k0_off186_inb : ∀ (v1200 : BitVec 32) (k0_hw154 : k0_chk154 v1200), ∀ a, S8x128.size a = 0 ∨ (k0_off186 v1200) a + (![257, 1] : Fin 2 → Nat) a * (S8x128.size a - 1) < S65792x128.size a := fun v1200 k0_hw154 => k0_hw154

def k0_off187 (v1203 : BitVec 32) : Fin 2 → Nat :=
  let v1204 : Index := Scalar.indexCast v1203
  let c0_840 : Index := 0#32
  ![v1204.toNat, 0]

def k0_chk155 (v1203 : BitVec 32) : Prop :=
  (∀ a, S8x128.size a = 0 ∨ (k0_off187 v1203) a + (![257, 1] : Fin 2 → Nat) a * (S8x128.size a - 1) < S65792x128.size a)
theorem k0_off187_inb : ∀ (v1203 : BitVec 32) (k0_hw155 : k0_chk155 v1203), ∀ a, S8x128.size a = 0 ∨ (k0_off187 v1203) a + (![257, 1] : Fin 2 → Nat) a * (S8x128.size a - 1) < S65792x128.size a := fun v1203 k0_hw155 => k0_hw155

def k0_off188 (v1216 : BitVec 32) : Fin 2 → Nat :=
  let v1217 : Index := Scalar.indexCast v1216
  let c0_848 : Index := 0#32
  ![v1217.toNat, 0]

def k0_chk156 (v1216 : BitVec 32) : Prop :=
  (∀ a, S8x128.size a = 0 ∨ (k0_off188 v1216) a + (![257, 1] : Fin 2 → Nat) a * (S8x128.size a - 1) < S65792x128.size a)
theorem k0_off188_inb : ∀ (v1216 : BitVec 32) (k0_hw156 : k0_chk156 v1216), ∀ a, S8x128.size a = 0 ∨ (k0_off188 v1216) a + (![257, 1] : Fin 2 → Nat) a * (S8x128.size a - 1) < S65792x128.size a := fun v1216 k0_hw156 => k0_hw156

def k0_off189 (v1219 : BitVec 32) : Fin 2 → Nat :=
  let v1220 : Index := Scalar.indexCast v1219
  let c0_851 : Index := 0#32
  ![v1220.toNat, 0]

def k0_chk157 (v1219 : BitVec 32) : Prop :=
  (∀ a, S8x128.size a = 0 ∨ (k0_off189 v1219) a + (![257, 1] : Fin 2 → Nat) a * (S8x128.size a - 1) < S65792x128.size a)
theorem k0_off189_inb : ∀ (v1219 : BitVec 32) (k0_hw157 : k0_chk157 v1219), ∀ a, S8x128.size a = 0 ∨ (k0_off189 v1219) a + (![257, 1] : Fin 2 → Nat) a * (S8x128.size a - 1) < S65792x128.size a := fun v1219 k0_hw157 => k0_hw157

def k0_off190 (v1232 : BitVec 32) : Fin 2 → Nat :=
  let v1233 : Index := Scalar.indexCast v1232
  let c0_859 : Index := 0#32
  ![v1233.toNat, 0]

def k0_chk158 (v1232 : BitVec 32) : Prop :=
  (∀ a, S8x128.size a = 0 ∨ (k0_off190 v1232) a + (![257, 1] : Fin 2 → Nat) a * (S8x128.size a - 1) < S65792x128.size a)
theorem k0_off190_inb : ∀ (v1232 : BitVec 32) (k0_hw158 : k0_chk158 v1232), ∀ a, S8x128.size a = 0 ∨ (k0_off190 v1232) a + (![257, 1] : Fin 2 → Nat) a * (S8x128.size a - 1) < S65792x128.size a := fun v1232 k0_hw158 => k0_hw158

def k0_off191 (v1235 : BitVec 32) : Fin 2 → Nat :=
  let v1236 : Index := Scalar.indexCast v1235
  let c0_862 : Index := 0#32
  ![v1236.toNat, 0]

def k0_chk159 (v1235 : BitVec 32) : Prop :=
  (∀ a, S8x128.size a = 0 ∨ (k0_off191 v1235) a + (![257, 1] : Fin 2 → Nat) a * (S8x128.size a - 1) < S65792x128.size a)
theorem k0_off191_inb : ∀ (v1235 : BitVec 32) (k0_hw159 : k0_chk159 v1235), ∀ a, S8x128.size a = 0 ∨ (k0_off191 v1235) a + (![257, 1] : Fin 2 → Nat) a * (S8x128.size a - 1) < S65792x128.size a := fun v1235 k0_hw159 => k0_hw159

def k0_off192 (v1248 : BitVec 32) : Fin 2 → Nat :=
  let v1249 : Index := Scalar.indexCast v1248
  let c0_870 : Index := 0#32
  ![v1249.toNat, 0]

def k0_chk160 (v1248 : BitVec 32) : Prop :=
  (∀ a, S8x128.size a = 0 ∨ (k0_off192 v1248) a + (![257, 1] : Fin 2 → Nat) a * (S8x128.size a - 1) < S65792x128.size a)
theorem k0_off192_inb : ∀ (v1248 : BitVec 32) (k0_hw160 : k0_chk160 v1248), ∀ a, S8x128.size a = 0 ∨ (k0_off192 v1248) a + (![257, 1] : Fin 2 → Nat) a * (S8x128.size a - 1) < S65792x128.size a := fun v1248 k0_hw160 => k0_hw160

def k0_off193 (v1251 : BitVec 32) : Fin 2 → Nat :=
  let v1252 : Index := Scalar.indexCast v1251
  let c0_873 : Index := 0#32
  ![v1252.toNat, 0]

def k0_chk161 (v1251 : BitVec 32) : Prop :=
  (∀ a, S8x128.size a = 0 ∨ (k0_off193 v1251) a + (![257, 1] : Fin 2 → Nat) a * (S8x128.size a - 1) < S65792x128.size a)
theorem k0_off193_inb : ∀ (v1251 : BitVec 32) (k0_hw161 : k0_chk161 v1251), ∀ a, S8x128.size a = 0 ∨ (k0_off193 v1251) a + (![257, 1] : Fin 2 → Nat) a * (S8x128.size a - 1) < S65792x128.size a := fun v1251 k0_hw161 => k0_hw161

def k0_off194 (v1264 : BitVec 32) : Fin 2 → Nat :=
  let v1265 : Index := Scalar.indexCast v1264
  let c0_881 : Index := 0#32
  ![v1265.toNat, 0]

def k0_chk162 (v1264 : BitVec 32) : Prop :=
  (∀ a, S8x128.size a = 0 ∨ (k0_off194 v1264) a + (![257, 1] : Fin 2 → Nat) a * (S8x128.size a - 1) < S65792x128.size a)
theorem k0_off194_inb : ∀ (v1264 : BitVec 32) (k0_hw162 : k0_chk162 v1264), ∀ a, S8x128.size a = 0 ∨ (k0_off194 v1264) a + (![257, 1] : Fin 2 → Nat) a * (S8x128.size a - 1) < S65792x128.size a := fun v1264 k0_hw162 => k0_hw162

def k0_off195 (v1267 : BitVec 32) : Fin 2 → Nat :=
  let v1268 : Index := Scalar.indexCast v1267
  let c0_884 : Index := 0#32
  ![v1268.toNat, 0]

def k0_chk163 (v1267 : BitVec 32) : Prop :=
  (∀ a, S8x128.size a = 0 ∨ (k0_off195 v1267) a + (![257, 1] : Fin 2 → Nat) a * (S8x128.size a - 1) < S65792x128.size a)
theorem k0_off195_inb : ∀ (v1267 : BitVec 32) (k0_hw163 : k0_chk163 v1267), ∀ a, S8x128.size a = 0 ∨ (k0_off195 v1267) a + (![257, 1] : Fin 2 → Nat) a * (S8x128.size a - 1) < S65792x128.size a := fun v1267 k0_hw163 => k0_hw163

def k0_off196 (v1280 : BitVec 32) : Fin 2 → Nat :=
  let v1281 : Index := Scalar.indexCast v1280
  let c0_892 : Index := 0#32
  ![v1281.toNat, 0]

def k0_chk164 (v1280 : BitVec 32) : Prop :=
  (∀ a, S8x128.size a = 0 ∨ (k0_off196 v1280) a + (![257, 1] : Fin 2 → Nat) a * (S8x128.size a - 1) < S65792x128.size a)
theorem k0_off196_inb : ∀ (v1280 : BitVec 32) (k0_hw164 : k0_chk164 v1280), ∀ a, S8x128.size a = 0 ∨ (k0_off196 v1280) a + (![257, 1] : Fin 2 → Nat) a * (S8x128.size a - 1) < S65792x128.size a := fun v1280 k0_hw164 => k0_hw164

def k0_off197 (v1283 : BitVec 32) : Fin 2 → Nat :=
  let v1284 : Index := Scalar.indexCast v1283
  let c0_895 : Index := 0#32
  ![v1284.toNat, 0]

def k0_chk165 (v1283 : BitVec 32) : Prop :=
  (∀ a, S8x128.size a = 0 ∨ (k0_off197 v1283) a + (![257, 1] : Fin 2 → Nat) a * (S8x128.size a - 1) < S65792x128.size a)
theorem k0_off197_inb : ∀ (v1283 : BitVec 32) (k0_hw165 : k0_chk165 v1283), ∀ a, S8x128.size a = 0 ∨ (k0_off197 v1283) a + (![257, 1] : Fin 2 → Nat) a * (S8x128.size a - 1) < S65792x128.size a := fun v1283 k0_hw165 => k0_hw165

def k0_off198 (v1296 : BitVec 32) : Fin 2 → Nat :=
  let v1297 : Index := Scalar.indexCast v1296
  let c0_903 : Index := 0#32
  ![v1297.toNat, 0]

def k0_chk166 (v1296 : BitVec 32) : Prop :=
  (∀ a, S8x128.size a = 0 ∨ (k0_off198 v1296) a + (![257, 1] : Fin 2 → Nat) a * (S8x128.size a - 1) < S65792x128.size a)
theorem k0_off198_inb : ∀ (v1296 : BitVec 32) (k0_hw166 : k0_chk166 v1296), ∀ a, S8x128.size a = 0 ∨ (k0_off198 v1296) a + (![257, 1] : Fin 2 → Nat) a * (S8x128.size a - 1) < S65792x128.size a := fun v1296 k0_hw166 => k0_hw166

def k0_off199 (v1299 : BitVec 32) : Fin 2 → Nat :=
  let v1300 : Index := Scalar.indexCast v1299
  let c0_906 : Index := 0#32
  ![v1300.toNat, 0]

def k0_chk167 (v1299 : BitVec 32) : Prop :=
  (∀ a, S8x128.size a = 0 ∨ (k0_off199 v1299) a + (![257, 1] : Fin 2 → Nat) a * (S8x128.size a - 1) < S65792x128.size a)
theorem k0_off199_inb : ∀ (v1299 : BitVec 32) (k0_hw167 : k0_chk167 v1299), ∀ a, S8x128.size a = 0 ∨ (k0_off199 v1299) a + (![257, 1] : Fin 2 → Nat) a * (S8x128.size a - 1) < S65792x128.size a := fun v1299 k0_hw167 => k0_hw167

def k0_off200 (v1312 : BitVec 32) : Fin 2 → Nat :=
  let v1313 : Index := Scalar.indexCast v1312
  let c0_914 : Index := 0#32
  ![v1313.toNat, 0]

def k0_chk168 (v1312 : BitVec 32) : Prop :=
  (∀ a, S8x128.size a = 0 ∨ (k0_off200 v1312) a + (![257, 1] : Fin 2 → Nat) a * (S8x128.size a - 1) < S65792x128.size a)
theorem k0_off200_inb : ∀ (v1312 : BitVec 32) (k0_hw168 : k0_chk168 v1312), ∀ a, S8x128.size a = 0 ∨ (k0_off200 v1312) a + (![257, 1] : Fin 2 → Nat) a * (S8x128.size a - 1) < S65792x128.size a := fun v1312 k0_hw168 => k0_hw168

def k0_off201 (v1315 : BitVec 32) : Fin 2 → Nat :=
  let v1316 : Index := Scalar.indexCast v1315
  let c0_917 : Index := 0#32
  ![v1316.toNat, 0]

def k0_chk169 (v1315 : BitVec 32) : Prop :=
  (∀ a, S8x128.size a = 0 ∨ (k0_off201 v1315) a + (![257, 1] : Fin 2 → Nat) a * (S8x128.size a - 1) < S65792x128.size a)
theorem k0_off201_inb : ∀ (v1315 : BitVec 32) (k0_hw169 : k0_chk169 v1315), ∀ a, S8x128.size a = 0 ∨ (k0_off201 v1315) a + (![257, 1] : Fin 2 → Nat) a * (S8x128.size a - 1) < S65792x128.size a := fun v1315 k0_hw169 => k0_hw169

def k0_off202 (v1328 : BitVec 32) : Fin 2 → Nat :=
  let v1329 : Index := Scalar.indexCast v1328
  let c0_925 : Index := 0#32
  ![v1329.toNat, 0]

def k0_chk170 (v1328 : BitVec 32) : Prop :=
  (∀ a, S8x128.size a = 0 ∨ (k0_off202 v1328) a + (![257, 1] : Fin 2 → Nat) a * (S8x128.size a - 1) < S65792x128.size a)
theorem k0_off202_inb : ∀ (v1328 : BitVec 32) (k0_hw170 : k0_chk170 v1328), ∀ a, S8x128.size a = 0 ∨ (k0_off202 v1328) a + (![257, 1] : Fin 2 → Nat) a * (S8x128.size a - 1) < S65792x128.size a := fun v1328 k0_hw170 => k0_hw170

def k0_off203 (v1331 : BitVec 32) : Fin 2 → Nat :=
  let v1332 : Index := Scalar.indexCast v1331
  let c0_928 : Index := 0#32
  ![v1332.toNat, 0]

def k0_chk171 (v1331 : BitVec 32) : Prop :=
  (∀ a, S8x128.size a = 0 ∨ (k0_off203 v1331) a + (![257, 1] : Fin 2 → Nat) a * (S8x128.size a - 1) < S65792x128.size a)
theorem k0_off203_inb : ∀ (v1331 : BitVec 32) (k0_hw171 : k0_chk171 v1331), ∀ a, S8x128.size a = 0 ∨ (k0_off203 v1331) a + (![257, 1] : Fin 2 → Nat) a * (S8x128.size a - 1) < S65792x128.size a := fun v1331 k0_hw171 => k0_hw171

def k0_off204 (v1344 : BitVec 32) : Fin 2 → Nat :=
  let v1345 : Index := Scalar.indexCast v1344
  let c0_936 : Index := 0#32
  ![v1345.toNat, 0]

def k0_chk172 (v1344 : BitVec 32) : Prop :=
  (∀ a, S8x128.size a = 0 ∨ (k0_off204 v1344) a + (![257, 1] : Fin 2 → Nat) a * (S8x128.size a - 1) < S65792x128.size a)
theorem k0_off204_inb : ∀ (v1344 : BitVec 32) (k0_hw172 : k0_chk172 v1344), ∀ a, S8x128.size a = 0 ∨ (k0_off204 v1344) a + (![257, 1] : Fin 2 → Nat) a * (S8x128.size a - 1) < S65792x128.size a := fun v1344 k0_hw172 => k0_hw172

def k0_off205 (v1347 : BitVec 32) : Fin 2 → Nat :=
  let v1348 : Index := Scalar.indexCast v1347
  let c0_939 : Index := 0#32
  ![v1348.toNat, 0]

def k0_chk173 (v1347 : BitVec 32) : Prop :=
  (∀ a, S8x128.size a = 0 ∨ (k0_off205 v1347) a + (![257, 1] : Fin 2 → Nat) a * (S8x128.size a - 1) < S65792x128.size a)
theorem k0_off205_inb : ∀ (v1347 : BitVec 32) (k0_hw173 : k0_chk173 v1347), ∀ a, S8x128.size a = 0 ∨ (k0_off205 v1347) a + (![257, 1] : Fin 2 → Nat) a * (S8x128.size a - 1) < S65792x128.size a := fun v1347 k0_hw173 => k0_hw173

def k0_off206 (v1360 : BitVec 32) : Fin 2 → Nat :=
  let v1361 : Index := Scalar.indexCast v1360
  let c0_947 : Index := 0#32
  ![v1361.toNat, 0]

def k0_chk174 (v1360 : BitVec 32) : Prop :=
  (∀ a, S8x128.size a = 0 ∨ (k0_off206 v1360) a + (![257, 1] : Fin 2 → Nat) a * (S8x128.size a - 1) < S65792x128.size a)
theorem k0_off206_inb : ∀ (v1360 : BitVec 32) (k0_hw174 : k0_chk174 v1360), ∀ a, S8x128.size a = 0 ∨ (k0_off206 v1360) a + (![257, 1] : Fin 2 → Nat) a * (S8x128.size a - 1) < S65792x128.size a := fun v1360 k0_hw174 => k0_hw174

def k0_off207 (v1363 : BitVec 32) : Fin 2 → Nat :=
  let v1364 : Index := Scalar.indexCast v1363
  let c0_950 : Index := 0#32
  ![v1364.toNat, 0]

def k0_chk175 (v1363 : BitVec 32) : Prop :=
  (∀ a, S8x128.size a = 0 ∨ (k0_off207 v1363) a + (![257, 1] : Fin 2 → Nat) a * (S8x128.size a - 1) < S65792x128.size a)
theorem k0_off207_inb : ∀ (v1363 : BitVec 32) (k0_hw175 : k0_chk175 v1363), ∀ a, S8x128.size a = 0 ∨ (k0_off207 v1363) a + (![257, 1] : Fin 2 → Nat) a * (S8x128.size a - 1) < S65792x128.size a := fun v1363 k0_hw175 => k0_hw175

def k0_off208 (v1376 : BitVec 32) : Fin 2 → Nat :=
  let v1377 : Index := Scalar.indexCast v1376
  let c0_958 : Index := 0#32
  ![v1377.toNat, 0]

def k0_chk176 (v1376 : BitVec 32) : Prop :=
  (∀ a, S8x128.size a = 0 ∨ (k0_off208 v1376) a + (![257, 1] : Fin 2 → Nat) a * (S8x128.size a - 1) < S65792x128.size a)
theorem k0_off208_inb : ∀ (v1376 : BitVec 32) (k0_hw176 : k0_chk176 v1376), ∀ a, S8x128.size a = 0 ∨ (k0_off208 v1376) a + (![257, 1] : Fin 2 → Nat) a * (S8x128.size a - 1) < S65792x128.size a := fun v1376 k0_hw176 => k0_hw176

def k0_off209 (v1379 : BitVec 32) : Fin 2 → Nat :=
  let v1380 : Index := Scalar.indexCast v1379
  let c0_961 : Index := 0#32
  ![v1380.toNat, 0]

def k0_chk177 (v1379 : BitVec 32) : Prop :=
  (∀ a, S8x128.size a = 0 ∨ (k0_off209 v1379) a + (![257, 1] : Fin 2 → Nat) a * (S8x128.size a - 1) < S65792x128.size a)
theorem k0_off209_inb : ∀ (v1379 : BitVec 32) (k0_hw177 : k0_chk177 v1379), ∀ a, S8x128.size a = 0 ∨ (k0_off209 v1379) a + (![257, 1] : Fin 2 → Nat) a * (S8x128.size a - 1) < S65792x128.size a := fun v1379 k0_hw177 => k0_hw177

def k0_off210 (v1392 : BitVec 32) : Fin 2 → Nat :=
  let v1393 : Index := Scalar.indexCast v1392
  let c0_969 : Index := 0#32
  ![v1393.toNat, 0]

def k0_chk178 (v1392 : BitVec 32) : Prop :=
  (∀ a, S8x128.size a = 0 ∨ (k0_off210 v1392) a + (![257, 1] : Fin 2 → Nat) a * (S8x128.size a - 1) < S65792x128.size a)
theorem k0_off210_inb : ∀ (v1392 : BitVec 32) (k0_hw178 : k0_chk178 v1392), ∀ a, S8x128.size a = 0 ∨ (k0_off210 v1392) a + (![257, 1] : Fin 2 → Nat) a * (S8x128.size a - 1) < S65792x128.size a := fun v1392 k0_hw178 => k0_hw178

def k0_off211 (v1395 : BitVec 32) : Fin 2 → Nat :=
  let v1396 : Index := Scalar.indexCast v1395
  let c0_972 : Index := 0#32
  ![v1396.toNat, 0]

def k0_chk179 (v1395 : BitVec 32) : Prop :=
  (∀ a, S8x128.size a = 0 ∨ (k0_off211 v1395) a + (![257, 1] : Fin 2 → Nat) a * (S8x128.size a - 1) < S65792x128.size a)
theorem k0_off211_inb : ∀ (v1395 : BitVec 32) (k0_hw179 : k0_chk179 v1395), ∀ a, S8x128.size a = 0 ∨ (k0_off211 v1395) a + (![257, 1] : Fin 2 → Nat) a * (S8x128.size a - 1) < S65792x128.size a := fun v1395 k0_hw179 => k0_hw179

def k0_off212 (v1408 : BitVec 32) : Fin 2 → Nat :=
  let v1409 : Index := Scalar.indexCast v1408
  let c0_980 : Index := 0#32
  ![v1409.toNat, 0]

def k0_chk180 (v1408 : BitVec 32) : Prop :=
  (∀ a, S8x128.size a = 0 ∨ (k0_off212 v1408) a + (![257, 1] : Fin 2 → Nat) a * (S8x128.size a - 1) < S65792x128.size a)
theorem k0_off212_inb : ∀ (v1408 : BitVec 32) (k0_hw180 : k0_chk180 v1408), ∀ a, S8x128.size a = 0 ∨ (k0_off212 v1408) a + (![257, 1] : Fin 2 → Nat) a * (S8x128.size a - 1) < S65792x128.size a := fun v1408 k0_hw180 => k0_hw180

def k0_off213 (v1411 : BitVec 32) : Fin 2 → Nat :=
  let v1412 : Index := Scalar.indexCast v1411
  let c0_983 : Index := 0#32
  ![v1412.toNat, 0]

def k0_chk181 (v1411 : BitVec 32) : Prop :=
  (∀ a, S8x128.size a = 0 ∨ (k0_off213 v1411) a + (![257, 1] : Fin 2 → Nat) a * (S8x128.size a - 1) < S65792x128.size a)
theorem k0_off213_inb : ∀ (v1411 : BitVec 32) (k0_hw181 : k0_chk181 v1411), ∀ a, S8x128.size a = 0 ∨ (k0_off213 v1411) a + (![257, 1] : Fin 2 → Nat) a * (S8x128.size a - 1) < S65792x128.size a := fun v1411 k0_hw181 => k0_hw181

def k0_off214 (v1424 : BitVec 32) : Fin 2 → Nat :=
  let v1425 : Index := Scalar.indexCast v1424
  let c0_991 : Index := 0#32
  ![v1425.toNat, 0]

def k0_chk182 (v1424 : BitVec 32) : Prop :=
  (∀ a, S8x128.size a = 0 ∨ (k0_off214 v1424) a + (![257, 1] : Fin 2 → Nat) a * (S8x128.size a - 1) < S65792x128.size a)
theorem k0_off214_inb : ∀ (v1424 : BitVec 32) (k0_hw182 : k0_chk182 v1424), ∀ a, S8x128.size a = 0 ∨ (k0_off214 v1424) a + (![257, 1] : Fin 2 → Nat) a * (S8x128.size a - 1) < S65792x128.size a := fun v1424 k0_hw182 => k0_hw182

def k0_off215 (v1427 : BitVec 32) : Fin 2 → Nat :=
  let v1428 : Index := Scalar.indexCast v1427
  let c0_994 : Index := 0#32
  ![v1428.toNat, 0]

def k0_chk183 (v1427 : BitVec 32) : Prop :=
  (∀ a, S8x128.size a = 0 ∨ (k0_off215 v1427) a + (![257, 1] : Fin 2 → Nat) a * (S8x128.size a - 1) < S65792x128.size a)
theorem k0_off215_inb : ∀ (v1427 : BitVec 32) (k0_hw183 : k0_chk183 v1427), ∀ a, S8x128.size a = 0 ∨ (k0_off215 v1427) a + (![257, 1] : Fin 2 → Nat) a * (S8x128.size a - 1) < S65792x128.size a := fun v1427 k0_hw183 => k0_hw183

def k0_off216 (v1440 : BitVec 32) : Fin 2 → Nat :=
  let v1441 : Index := Scalar.indexCast v1440
  let c0_1002 : Index := 0#32
  ![v1441.toNat, 0]

def k0_chk184 (v1440 : BitVec 32) : Prop :=
  (∀ a, S8x128.size a = 0 ∨ (k0_off216 v1440) a + (![257, 1] : Fin 2 → Nat) a * (S8x128.size a - 1) < S65792x128.size a)
theorem k0_off216_inb : ∀ (v1440 : BitVec 32) (k0_hw184 : k0_chk184 v1440), ∀ a, S8x128.size a = 0 ∨ (k0_off216 v1440) a + (![257, 1] : Fin 2 → Nat) a * (S8x128.size a - 1) < S65792x128.size a := fun v1440 k0_hw184 => k0_hw184

def k0_off217 (v1443 : BitVec 32) : Fin 2 → Nat :=
  let v1444 : Index := Scalar.indexCast v1443
  let c0_1005 : Index := 0#32
  ![v1444.toNat, 0]

def k0_chk185 (v1443 : BitVec 32) : Prop :=
  (∀ a, S8x128.size a = 0 ∨ (k0_off217 v1443) a + (![257, 1] : Fin 2 → Nat) a * (S8x128.size a - 1) < S65792x128.size a)
theorem k0_off217_inb : ∀ (v1443 : BitVec 32) (k0_hw185 : k0_chk185 v1443), ∀ a, S8x128.size a = 0 ∨ (k0_off217 v1443) a + (![257, 1] : Fin 2 → Nat) a * (S8x128.size a - 1) < S65792x128.size a := fun v1443 k0_hw185 => k0_hw185

def k0_off218 (v1456 : BitVec 32) : Fin 2 → Nat :=
  let v1457 : Index := Scalar.indexCast v1456
  let c0_1013 : Index := 0#32
  ![v1457.toNat, 0]

def k0_chk186 (v1456 : BitVec 32) : Prop :=
  (∀ a, S8x128.size a = 0 ∨ (k0_off218 v1456) a + (![257, 1] : Fin 2 → Nat) a * (S8x128.size a - 1) < S65792x128.size a)
theorem k0_off218_inb : ∀ (v1456 : BitVec 32) (k0_hw186 : k0_chk186 v1456), ∀ a, S8x128.size a = 0 ∨ (k0_off218 v1456) a + (![257, 1] : Fin 2 → Nat) a * (S8x128.size a - 1) < S65792x128.size a := fun v1456 k0_hw186 => k0_hw186

def k0_off219 (v1459 : BitVec 32) : Fin 2 → Nat :=
  let v1460 : Index := Scalar.indexCast v1459
  let c0_1016 : Index := 0#32
  ![v1460.toNat, 0]

def k0_chk187 (v1459 : BitVec 32) : Prop :=
  (∀ a, S8x128.size a = 0 ∨ (k0_off219 v1459) a + (![257, 1] : Fin 2 → Nat) a * (S8x128.size a - 1) < S65792x128.size a)
theorem k0_off219_inb : ∀ (v1459 : BitVec 32) (k0_hw187 : k0_chk187 v1459), ∀ a, S8x128.size a = 0 ∨ (k0_off219 v1459) a + (![257, 1] : Fin 2 → Nat) a * (S8x128.size a - 1) < S65792x128.size a := fun v1459 k0_hw187 => k0_hw187

def k0_off220 (v1472 : BitVec 32) : Fin 2 → Nat :=
  let v1473 : Index := Scalar.indexCast v1472
  let c0_1024 : Index := 0#32
  ![v1473.toNat, 0]

def k0_chk188 (v1472 : BitVec 32) : Prop :=
  (∀ a, S8x128.size a = 0 ∨ (k0_off220 v1472) a + (![257, 1] : Fin 2 → Nat) a * (S8x128.size a - 1) < S65792x128.size a)
theorem k0_off220_inb : ∀ (v1472 : BitVec 32) (k0_hw188 : k0_chk188 v1472), ∀ a, S8x128.size a = 0 ∨ (k0_off220 v1472) a + (![257, 1] : Fin 2 → Nat) a * (S8x128.size a - 1) < S65792x128.size a := fun v1472 k0_hw188 => k0_hw188

def k0_off221 (v1475 : BitVec 32) : Fin 2 → Nat :=
  let v1476 : Index := Scalar.indexCast v1475
  let c0_1027 : Index := 0#32
  ![v1476.toNat, 0]

def k0_chk189 (v1475 : BitVec 32) : Prop :=
  (∀ a, S8x128.size a = 0 ∨ (k0_off221 v1475) a + (![257, 1] : Fin 2 → Nat) a * (S8x128.size a - 1) < S65792x128.size a)
theorem k0_off221_inb : ∀ (v1475 : BitVec 32) (k0_hw189 : k0_chk189 v1475), ∀ a, S8x128.size a = 0 ∨ (k0_off221 v1475) a + (![257, 1] : Fin 2 → Nat) a * (S8x128.size a - 1) < S65792x128.size a := fun v1475 k0_hw189 => k0_hw189

def k0_off222 (v1488 : BitVec 32) : Fin 2 → Nat :=
  let v1489 : Index := Scalar.indexCast v1488
  let c0_1035 : Index := 0#32
  ![v1489.toNat, 0]

def k0_chk190 (v1488 : BitVec 32) : Prop :=
  (∀ a, S8x128.size a = 0 ∨ (k0_off222 v1488) a + (![257, 1] : Fin 2 → Nat) a * (S8x128.size a - 1) < S65792x128.size a)
theorem k0_off222_inb : ∀ (v1488 : BitVec 32) (k0_hw190 : k0_chk190 v1488), ∀ a, S8x128.size a = 0 ∨ (k0_off222 v1488) a + (![257, 1] : Fin 2 → Nat) a * (S8x128.size a - 1) < S65792x128.size a := fun v1488 k0_hw190 => k0_hw190

def k0_off223 (v1491 : BitVec 32) : Fin 2 → Nat :=
  let v1492 : Index := Scalar.indexCast v1491
  let c0_1038 : Index := 0#32
  ![v1492.toNat, 0]

def k0_chk191 (v1491 : BitVec 32) : Prop :=
  (∀ a, S8x128.size a = 0 ∨ (k0_off223 v1491) a + (![257, 1] : Fin 2 → Nat) a * (S8x128.size a - 1) < S65792x128.size a)
theorem k0_off223_inb : ∀ (v1491 : BitVec 32) (k0_hw191 : k0_chk191 v1491), ∀ a, S8x128.size a = 0 ∨ (k0_off223 v1491) a + (![257, 1] : Fin 2 → Nat) a * (S8x128.size a - 1) < S65792x128.size a := fun v1491 k0_hw191 => k0_hw191

def k0_off224 (v1504 : BitVec 32) : Fin 2 → Nat :=
  let v1505 : Index := Scalar.indexCast v1504
  let c0_1046 : Index := 0#32
  ![v1505.toNat, 0]

def k0_chk192 (v1504 : BitVec 32) : Prop :=
  (∀ a, S8x128.size a = 0 ∨ (k0_off224 v1504) a + (![257, 1] : Fin 2 → Nat) a * (S8x128.size a - 1) < S65792x128.size a)
theorem k0_off224_inb : ∀ (v1504 : BitVec 32) (k0_hw192 : k0_chk192 v1504), ∀ a, S8x128.size a = 0 ∨ (k0_off224 v1504) a + (![257, 1] : Fin 2 → Nat) a * (S8x128.size a - 1) < S65792x128.size a := fun v1504 k0_hw192 => k0_hw192

def k0_off225 (v1507 : BitVec 32) : Fin 2 → Nat :=
  let v1508 : Index := Scalar.indexCast v1507
  let c0_1049 : Index := 0#32
  ![v1508.toNat, 0]

def k0_chk193 (v1507 : BitVec 32) : Prop :=
  (∀ a, S8x128.size a = 0 ∨ (k0_off225 v1507) a + (![257, 1] : Fin 2 → Nat) a * (S8x128.size a - 1) < S65792x128.size a)
theorem k0_off225_inb : ∀ (v1507 : BitVec 32) (k0_hw193 : k0_chk193 v1507), ∀ a, S8x128.size a = 0 ∨ (k0_off225 v1507) a + (![257, 1] : Fin 2 → Nat) a * (S8x128.size a - 1) < S65792x128.size a := fun v1507 k0_hw193 => k0_hw193

def k0_off226 (v1520 : BitVec 32) : Fin 2 → Nat :=
  let v1521 : Index := Scalar.indexCast v1520
  let c0_1057 : Index := 0#32
  ![v1521.toNat, 0]

def k0_chk194 (v1520 : BitVec 32) : Prop :=
  (∀ a, S8x128.size a = 0 ∨ (k0_off226 v1520) a + (![257, 1] : Fin 2 → Nat) a * (S8x128.size a - 1) < S65792x128.size a)
theorem k0_off226_inb : ∀ (v1520 : BitVec 32) (k0_hw194 : k0_chk194 v1520), ∀ a, S8x128.size a = 0 ∨ (k0_off226 v1520) a + (![257, 1] : Fin 2 → Nat) a * (S8x128.size a - 1) < S65792x128.size a := fun v1520 k0_hw194 => k0_hw194

def k0_off227 (v1523 : BitVec 32) : Fin 2 → Nat :=
  let v1524 : Index := Scalar.indexCast v1523
  let c0_1060 : Index := 0#32
  ![v1524.toNat, 0]

def k0_chk195 (v1523 : BitVec 32) : Prop :=
  (∀ a, S8x128.size a = 0 ∨ (k0_off227 v1523) a + (![257, 1] : Fin 2 → Nat) a * (S8x128.size a - 1) < S65792x128.size a)
theorem k0_off227_inb : ∀ (v1523 : BitVec 32) (k0_hw195 : k0_chk195 v1523), ∀ a, S8x128.size a = 0 ∨ (k0_off227 v1523) a + (![257, 1] : Fin 2 → Nat) a * (S8x128.size a - 1) < S65792x128.size a := fun v1523 k0_hw195 => k0_hw195

def k0_off228 (v1536 : BitVec 32) : Fin 2 → Nat :=
  let v1537 : Index := Scalar.indexCast v1536
  let c0_1068 : Index := 0#32
  ![v1537.toNat, 0]

def k0_chk196 (v1536 : BitVec 32) : Prop :=
  (∀ a, S8x128.size a = 0 ∨ (k0_off228 v1536) a + (![257, 1] : Fin 2 → Nat) a * (S8x128.size a - 1) < S65792x128.size a)
theorem k0_off228_inb : ∀ (v1536 : BitVec 32) (k0_hw196 : k0_chk196 v1536), ∀ a, S8x128.size a = 0 ∨ (k0_off228 v1536) a + (![257, 1] : Fin 2 → Nat) a * (S8x128.size a - 1) < S65792x128.size a := fun v1536 k0_hw196 => k0_hw196

def k0_off229 (v1539 : BitVec 32) : Fin 2 → Nat :=
  let v1540 : Index := Scalar.indexCast v1539
  let c0_1071 : Index := 0#32
  ![v1540.toNat, 0]

def k0_chk197 (v1539 : BitVec 32) : Prop :=
  (∀ a, S8x128.size a = 0 ∨ (k0_off229 v1539) a + (![257, 1] : Fin 2 → Nat) a * (S8x128.size a - 1) < S65792x128.size a)
theorem k0_off229_inb : ∀ (v1539 : BitVec 32) (k0_hw197 : k0_chk197 v1539), ∀ a, S8x128.size a = 0 ∨ (k0_off229 v1539) a + (![257, 1] : Fin 2 → Nat) a * (S8x128.size a - 1) < S65792x128.size a := fun v1539 k0_hw197 => k0_hw197

def k0_off230 (v1552 : BitVec 32) : Fin 2 → Nat :=
  let v1553 : Index := Scalar.indexCast v1552
  let c0_1079 : Index := 0#32
  ![v1553.toNat, 0]

def k0_chk198 (v1552 : BitVec 32) : Prop :=
  (∀ a, S8x128.size a = 0 ∨ (k0_off230 v1552) a + (![257, 1] : Fin 2 → Nat) a * (S8x128.size a - 1) < S65792x128.size a)
theorem k0_off230_inb : ∀ (v1552 : BitVec 32) (k0_hw198 : k0_chk198 v1552), ∀ a, S8x128.size a = 0 ∨ (k0_off230 v1552) a + (![257, 1] : Fin 2 → Nat) a * (S8x128.size a - 1) < S65792x128.size a := fun v1552 k0_hw198 => k0_hw198

def k0_off231 (v1555 : BitVec 32) : Fin 2 → Nat :=
  let v1556 : Index := Scalar.indexCast v1555
  let c0_1082 : Index := 0#32
  ![v1556.toNat, 0]

def k0_chk199 (v1555 : BitVec 32) : Prop :=
  (∀ a, S8x128.size a = 0 ∨ (k0_off231 v1555) a + (![257, 1] : Fin 2 → Nat) a * (S8x128.size a - 1) < S65792x128.size a)
theorem k0_off231_inb : ∀ (v1555 : BitVec 32) (k0_hw199 : k0_chk199 v1555), ∀ a, S8x128.size a = 0 ∨ (k0_off231 v1555) a + (![257, 1] : Fin 2 → Nat) a * (S8x128.size a - 1) < S65792x128.size a := fun v1555 k0_hw199 => k0_hw199

def k0_off232 (v1568 : BitVec 32) : Fin 2 → Nat :=
  let v1569 : Index := Scalar.indexCast v1568
  let c0_1090 : Index := 0#32
  ![v1569.toNat, 0]

def k0_chk200 (v1568 : BitVec 32) : Prop :=
  (∀ a, S8x128.size a = 0 ∨ (k0_off232 v1568) a + (![257, 1] : Fin 2 → Nat) a * (S8x128.size a - 1) < S65792x128.size a)
theorem k0_off232_inb : ∀ (v1568 : BitVec 32) (k0_hw200 : k0_chk200 v1568), ∀ a, S8x128.size a = 0 ∨ (k0_off232 v1568) a + (![257, 1] : Fin 2 → Nat) a * (S8x128.size a - 1) < S65792x128.size a := fun v1568 k0_hw200 => k0_hw200

def k0_off233 (v1571 : BitVec 32) : Fin 2 → Nat :=
  let v1572 : Index := Scalar.indexCast v1571
  let c0_1093 : Index := 0#32
  ![v1572.toNat, 0]

def k0_chk201 (v1571 : BitVec 32) : Prop :=
  (∀ a, S8x128.size a = 0 ∨ (k0_off233 v1571) a + (![257, 1] : Fin 2 → Nat) a * (S8x128.size a - 1) < S65792x128.size a)
theorem k0_off233_inb : ∀ (v1571 : BitVec 32) (k0_hw201 : k0_chk201 v1571), ∀ a, S8x128.size a = 0 ∨ (k0_off233 v1571) a + (![257, 1] : Fin 2 → Nat) a * (S8x128.size a - 1) < S65792x128.size a := fun v1571 k0_hw201 => k0_hw201

def k0_off234 (v1584 : BitVec 32) : Fin 2 → Nat :=
  let v1585 : Index := Scalar.indexCast v1584
  let c0_1101 : Index := 0#32
  ![v1585.toNat, 0]

def k0_chk202 (v1584 : BitVec 32) : Prop :=
  (∀ a, S8x128.size a = 0 ∨ (k0_off234 v1584) a + (![257, 1] : Fin 2 → Nat) a * (S8x128.size a - 1) < S65792x128.size a)
theorem k0_off234_inb : ∀ (v1584 : BitVec 32) (k0_hw202 : k0_chk202 v1584), ∀ a, S8x128.size a = 0 ∨ (k0_off234 v1584) a + (![257, 1] : Fin 2 → Nat) a * (S8x128.size a - 1) < S65792x128.size a := fun v1584 k0_hw202 => k0_hw202

def k0_off235 (v1587 : BitVec 32) : Fin 2 → Nat :=
  let v1588 : Index := Scalar.indexCast v1587
  let c0_1104 : Index := 0#32
  ![v1588.toNat, 0]

def k0_chk203 (v1587 : BitVec 32) : Prop :=
  (∀ a, S8x128.size a = 0 ∨ (k0_off235 v1587) a + (![257, 1] : Fin 2 → Nat) a * (S8x128.size a - 1) < S65792x128.size a)
theorem k0_off235_inb : ∀ (v1587 : BitVec 32) (k0_hw203 : k0_chk203 v1587), ∀ a, S8x128.size a = 0 ∨ (k0_off235 v1587) a + (![257, 1] : Fin 2 → Nat) a * (S8x128.size a - 1) < S65792x128.size a := fun v1587 k0_hw203 => k0_hw203

def k0_off236 (v1600 : BitVec 32) : Fin 2 → Nat :=
  let v1601 : Index := Scalar.indexCast v1600
  let c0_1112 : Index := 0#32
  ![v1601.toNat, 0]

def k0_chk204 (v1600 : BitVec 32) : Prop :=
  (∀ a, S8x128.size a = 0 ∨ (k0_off236 v1600) a + (![257, 1] : Fin 2 → Nat) a * (S8x128.size a - 1) < S65792x128.size a)
theorem k0_off236_inb : ∀ (v1600 : BitVec 32) (k0_hw204 : k0_chk204 v1600), ∀ a, S8x128.size a = 0 ∨ (k0_off236 v1600) a + (![257, 1] : Fin 2 → Nat) a * (S8x128.size a - 1) < S65792x128.size a := fun v1600 k0_hw204 => k0_hw204

def k0_off237 (v1603 : BitVec 32) : Fin 2 → Nat :=
  let v1604 : Index := Scalar.indexCast v1603
  let c0_1115 : Index := 0#32
  ![v1604.toNat, 0]

def k0_chk205 (v1603 : BitVec 32) : Prop :=
  (∀ a, S8x128.size a = 0 ∨ (k0_off237 v1603) a + (![257, 1] : Fin 2 → Nat) a * (S8x128.size a - 1) < S65792x128.size a)
theorem k0_off237_inb : ∀ (v1603 : BitVec 32) (k0_hw205 : k0_chk205 v1603), ∀ a, S8x128.size a = 0 ∨ (k0_off237 v1603) a + (![257, 1] : Fin 2 → Nat) a * (S8x128.size a - 1) < S65792x128.size a := fun v1603 k0_hw205 => k0_hw205

def k0_off238 (v1616 : BitVec 32) : Fin 2 → Nat :=
  let v1617 : Index := Scalar.indexCast v1616
  let c0_1123 : Index := 0#32
  ![v1617.toNat, 0]

def k0_chk206 (v1616 : BitVec 32) : Prop :=
  (∀ a, S8x128.size a = 0 ∨ (k0_off238 v1616) a + (![257, 1] : Fin 2 → Nat) a * (S8x128.size a - 1) < S65792x128.size a)
theorem k0_off238_inb : ∀ (v1616 : BitVec 32) (k0_hw206 : k0_chk206 v1616), ∀ a, S8x128.size a = 0 ∨ (k0_off238 v1616) a + (![257, 1] : Fin 2 → Nat) a * (S8x128.size a - 1) < S65792x128.size a := fun v1616 k0_hw206 => k0_hw206

def k0_off239 (v1619 : BitVec 32) : Fin 2 → Nat :=
  let v1620 : Index := Scalar.indexCast v1619
  let c0_1126 : Index := 0#32
  ![v1620.toNat, 0]

def k0_chk207 (v1619 : BitVec 32) : Prop :=
  (∀ a, S8x128.size a = 0 ∨ (k0_off239 v1619) a + (![257, 1] : Fin 2 → Nat) a * (S8x128.size a - 1) < S65792x128.size a)
theorem k0_off239_inb : ∀ (v1619 : BitVec 32) (k0_hw207 : k0_chk207 v1619), ∀ a, S8x128.size a = 0 ∨ (k0_off239 v1619) a + (![257, 1] : Fin 2 → Nat) a * (S8x128.size a - 1) < S65792x128.size a := fun v1619 k0_hw207 => k0_hw207

def k0_off240 (v1632 : BitVec 32) : Fin 2 → Nat :=
  let v1633 : Index := Scalar.indexCast v1632
  let c0_1134 : Index := 0#32
  ![v1633.toNat, 0]

def k0_chk208 (v1632 : BitVec 32) : Prop :=
  (∀ a, S8x128.size a = 0 ∨ (k0_off240 v1632) a + (![257, 1] : Fin 2 → Nat) a * (S8x128.size a - 1) < S65792x128.size a)
theorem k0_off240_inb : ∀ (v1632 : BitVec 32) (k0_hw208 : k0_chk208 v1632), ∀ a, S8x128.size a = 0 ∨ (k0_off240 v1632) a + (![257, 1] : Fin 2 → Nat) a * (S8x128.size a - 1) < S65792x128.size a := fun v1632 k0_hw208 => k0_hw208

def k0_off241 (v1635 : BitVec 32) : Fin 2 → Nat :=
  let v1636 : Index := Scalar.indexCast v1635
  let c0_1137 : Index := 0#32
  ![v1636.toNat, 0]

def k0_chk209 (v1635 : BitVec 32) : Prop :=
  (∀ a, S8x128.size a = 0 ∨ (k0_off241 v1635) a + (![257, 1] : Fin 2 → Nat) a * (S8x128.size a - 1) < S65792x128.size a)
theorem k0_off241_inb : ∀ (v1635 : BitVec 32) (k0_hw209 : k0_chk209 v1635), ∀ a, S8x128.size a = 0 ∨ (k0_off241 v1635) a + (![257, 1] : Fin 2 → Nat) a * (S8x128.size a - 1) < S65792x128.size a := fun v1635 k0_hw209 => k0_hw209

def k0_off242 (v1648 : BitVec 32) : Fin 2 → Nat :=
  let v1649 : Index := Scalar.indexCast v1648
  let c0_1145 : Index := 0#32
  ![v1649.toNat, 0]

def k0_chk210 (v1648 : BitVec 32) : Prop :=
  (∀ a, S8x128.size a = 0 ∨ (k0_off242 v1648) a + (![257, 1] : Fin 2 → Nat) a * (S8x128.size a - 1) < S65792x128.size a)
theorem k0_off242_inb : ∀ (v1648 : BitVec 32) (k0_hw210 : k0_chk210 v1648), ∀ a, S8x128.size a = 0 ∨ (k0_off242 v1648) a + (![257, 1] : Fin 2 → Nat) a * (S8x128.size a - 1) < S65792x128.size a := fun v1648 k0_hw210 => k0_hw210

def k0_off243 (v1651 : BitVec 32) : Fin 2 → Nat :=
  let v1652 : Index := Scalar.indexCast v1651
  let c0_1148 : Index := 0#32
  ![v1652.toNat, 0]

def k0_chk211 (v1651 : BitVec 32) : Prop :=
  (∀ a, S8x128.size a = 0 ∨ (k0_off243 v1651) a + (![257, 1] : Fin 2 → Nat) a * (S8x128.size a - 1) < S65792x128.size a)
theorem k0_off243_inb : ∀ (v1651 : BitVec 32) (k0_hw211 : k0_chk211 v1651), ∀ a, S8x128.size a = 0 ∨ (k0_off243 v1651) a + (![257, 1] : Fin 2 → Nat) a * (S8x128.size a - 1) < S65792x128.size a := fun v1651 k0_hw211 => k0_hw211

def k0_off244 (v1664 : BitVec 32) : Fin 2 → Nat :=
  let v1665 : Index := Scalar.indexCast v1664
  let c0_1156 : Index := 0#32
  ![v1665.toNat, 0]

def k0_chk212 (v1664 : BitVec 32) : Prop :=
  (∀ a, S8x128.size a = 0 ∨ (k0_off244 v1664) a + (![257, 1] : Fin 2 → Nat) a * (S8x128.size a - 1) < S65792x128.size a)
theorem k0_off244_inb : ∀ (v1664 : BitVec 32) (k0_hw212 : k0_chk212 v1664), ∀ a, S8x128.size a = 0 ∨ (k0_off244 v1664) a + (![257, 1] : Fin 2 → Nat) a * (S8x128.size a - 1) < S65792x128.size a := fun v1664 k0_hw212 => k0_hw212

def k0_off245 (v1667 : BitVec 32) : Fin 2 → Nat :=
  let v1668 : Index := Scalar.indexCast v1667
  let c0_1159 : Index := 0#32
  ![v1668.toNat, 0]

def k0_chk213 (v1667 : BitVec 32) : Prop :=
  (∀ a, S8x128.size a = 0 ∨ (k0_off245 v1667) a + (![257, 1] : Fin 2 → Nat) a * (S8x128.size a - 1) < S65792x128.size a)
theorem k0_off245_inb : ∀ (v1667 : BitVec 32) (k0_hw213 : k0_chk213 v1667), ∀ a, S8x128.size a = 0 ∨ (k0_off245 v1667) a + (![257, 1] : Fin 2 → Nat) a * (S8x128.size a - 1) < S65792x128.size a := fun v1667 k0_hw213 => k0_hw213

def k0_off246 (v1680 : BitVec 32) : Fin 2 → Nat :=
  let v1681 : Index := Scalar.indexCast v1680
  let c0_1167 : Index := 0#32
  ![v1681.toNat, 0]

def k0_chk214 (v1680 : BitVec 32) : Prop :=
  (∀ a, S8x128.size a = 0 ∨ (k0_off246 v1680) a + (![257, 1] : Fin 2 → Nat) a * (S8x128.size a - 1) < S65792x128.size a)
theorem k0_off246_inb : ∀ (v1680 : BitVec 32) (k0_hw214 : k0_chk214 v1680), ∀ a, S8x128.size a = 0 ∨ (k0_off246 v1680) a + (![257, 1] : Fin 2 → Nat) a * (S8x128.size a - 1) < S65792x128.size a := fun v1680 k0_hw214 => k0_hw214

def k0_off247 (v1683 : BitVec 32) : Fin 2 → Nat :=
  let v1684 : Index := Scalar.indexCast v1683
  let c0_1170 : Index := 0#32
  ![v1684.toNat, 0]

def k0_chk215 (v1683 : BitVec 32) : Prop :=
  (∀ a, S8x128.size a = 0 ∨ (k0_off247 v1683) a + (![257, 1] : Fin 2 → Nat) a * (S8x128.size a - 1) < S65792x128.size a)
theorem k0_off247_inb : ∀ (v1683 : BitVec 32) (k0_hw215 : k0_chk215 v1683), ∀ a, S8x128.size a = 0 ∨ (k0_off247 v1683) a + (![257, 1] : Fin 2 → Nat) a * (S8x128.size a - 1) < S65792x128.size a := fun v1683 k0_hw215 => k0_hw215

def k0_off248 (v1696 : BitVec 32) : Fin 2 → Nat :=
  let v1697 : Index := Scalar.indexCast v1696
  let c0_1178 : Index := 0#32
  ![v1697.toNat, 0]

def k0_chk216 (v1696 : BitVec 32) : Prop :=
  (∀ a, S8x128.size a = 0 ∨ (k0_off248 v1696) a + (![257, 1] : Fin 2 → Nat) a * (S8x128.size a - 1) < S65792x128.size a)
theorem k0_off248_inb : ∀ (v1696 : BitVec 32) (k0_hw216 : k0_chk216 v1696), ∀ a, S8x128.size a = 0 ∨ (k0_off248 v1696) a + (![257, 1] : Fin 2 → Nat) a * (S8x128.size a - 1) < S65792x128.size a := fun v1696 k0_hw216 => k0_hw216

def k0_off249 (v1699 : BitVec 32) : Fin 2 → Nat :=
  let v1700 : Index := Scalar.indexCast v1699
  let c0_1181 : Index := 0#32
  ![v1700.toNat, 0]

def k0_chk217 (v1699 : BitVec 32) : Prop :=
  (∀ a, S8x128.size a = 0 ∨ (k0_off249 v1699) a + (![257, 1] : Fin 2 → Nat) a * (S8x128.size a - 1) < S65792x128.size a)
theorem k0_off249_inb : ∀ (v1699 : BitVec 32) (k0_hw217 : k0_chk217 v1699), ∀ a, S8x128.size a = 0 ∨ (k0_off249 v1699) a + (![257, 1] : Fin 2 → Nat) a * (S8x128.size a - 1) < S65792x128.size a := fun v1699 k0_hw217 => k0_hw217

def k0_off250 (v1712 : BitVec 32) : Fin 2 → Nat :=
  let v1713 : Index := Scalar.indexCast v1712
  let c0_1189 : Index := 0#32
  ![v1713.toNat, 0]

def k0_chk218 (v1712 : BitVec 32) : Prop :=
  (∀ a, S8x128.size a = 0 ∨ (k0_off250 v1712) a + (![257, 1] : Fin 2 → Nat) a * (S8x128.size a - 1) < S65792x128.size a)
theorem k0_off250_inb : ∀ (v1712 : BitVec 32) (k0_hw218 : k0_chk218 v1712), ∀ a, S8x128.size a = 0 ∨ (k0_off250 v1712) a + (![257, 1] : Fin 2 → Nat) a * (S8x128.size a - 1) < S65792x128.size a := fun v1712 k0_hw218 => k0_hw218

def k0_off251 (v1715 : BitVec 32) : Fin 2 → Nat :=
  let v1716 : Index := Scalar.indexCast v1715
  let c0_1192 : Index := 0#32
  ![v1716.toNat, 0]

def k0_chk219 (v1715 : BitVec 32) : Prop :=
  (∀ a, S8x128.size a = 0 ∨ (k0_off251 v1715) a + (![257, 1] : Fin 2 → Nat) a * (S8x128.size a - 1) < S65792x128.size a)
theorem k0_off251_inb : ∀ (v1715 : BitVec 32) (k0_hw219 : k0_chk219 v1715), ∀ a, S8x128.size a = 0 ∨ (k0_off251 v1715) a + (![257, 1] : Fin 2 → Nat) a * (S8x128.size a - 1) < S65792x128.size a := fun v1715 k0_hw219 => k0_hw219

def k0_off252 (v1728 : BitVec 32) : Fin 2 → Nat :=
  let v1729 : Index := Scalar.indexCast v1728
  let c0_1200 : Index := 0#32
  ![v1729.toNat, 0]

def k0_chk220 (v1728 : BitVec 32) : Prop :=
  (∀ a, S8x128.size a = 0 ∨ (k0_off252 v1728) a + (![257, 1] : Fin 2 → Nat) a * (S8x128.size a - 1) < S65792x128.size a)
theorem k0_off252_inb : ∀ (v1728 : BitVec 32) (k0_hw220 : k0_chk220 v1728), ∀ a, S8x128.size a = 0 ∨ (k0_off252 v1728) a + (![257, 1] : Fin 2 → Nat) a * (S8x128.size a - 1) < S65792x128.size a := fun v1728 k0_hw220 => k0_hw220

def k0_off253 (v1731 : BitVec 32) : Fin 2 → Nat :=
  let v1732 : Index := Scalar.indexCast v1731
  let c0_1203 : Index := 0#32
  ![v1732.toNat, 0]

def k0_chk221 (v1731 : BitVec 32) : Prop :=
  (∀ a, S8x128.size a = 0 ∨ (k0_off253 v1731) a + (![257, 1] : Fin 2 → Nat) a * (S8x128.size a - 1) < S65792x128.size a)
theorem k0_off253_inb : ∀ (v1731 : BitVec 32) (k0_hw221 : k0_chk221 v1731), ∀ a, S8x128.size a = 0 ∨ (k0_off253 v1731) a + (![257, 1] : Fin 2 → Nat) a * (S8x128.size a - 1) < S65792x128.size a := fun v1731 k0_hw221 => k0_hw221

def k0_off254 (v1744 : BitVec 32) : Fin 2 → Nat :=
  let v1745 : Index := Scalar.indexCast v1744
  let c0_1211 : Index := 0#32
  ![v1745.toNat, 0]

def k0_chk222 (v1744 : BitVec 32) : Prop :=
  (∀ a, S8x128.size a = 0 ∨ (k0_off254 v1744) a + (![257, 1] : Fin 2 → Nat) a * (S8x128.size a - 1) < S65792x128.size a)
theorem k0_off254_inb : ∀ (v1744 : BitVec 32) (k0_hw222 : k0_chk222 v1744), ∀ a, S8x128.size a = 0 ∨ (k0_off254 v1744) a + (![257, 1] : Fin 2 → Nat) a * (S8x128.size a - 1) < S65792x128.size a := fun v1744 k0_hw222 => k0_hw222

def k0_off255 (v1747 : BitVec 32) : Fin 2 → Nat :=
  let v1748 : Index := Scalar.indexCast v1747
  let c0_1214 : Index := 0#32
  ![v1748.toNat, 0]

def k0_chk223 (v1747 : BitVec 32) : Prop :=
  (∀ a, S8x128.size a = 0 ∨ (k0_off255 v1747) a + (![257, 1] : Fin 2 → Nat) a * (S8x128.size a - 1) < S65792x128.size a)
theorem k0_off255_inb : ∀ (v1747 : BitVec 32) (k0_hw223 : k0_chk223 v1747), ∀ a, S8x128.size a = 0 ∨ (k0_off255 v1747) a + (![257, 1] : Fin 2 → Nat) a * (S8x128.size a - 1) < S65792x128.size a := fun v1747 k0_hw223 => k0_hw223

def k0_off256 (v1760 : BitVec 32) : Fin 2 → Nat :=
  let v1761 : Index := Scalar.indexCast v1760
  let c0_1222 : Index := 0#32
  ![v1761.toNat, 0]

def k0_chk224 (v1760 : BitVec 32) : Prop :=
  (∀ a, S8x128.size a = 0 ∨ (k0_off256 v1760) a + (![257, 1] : Fin 2 → Nat) a * (S8x128.size a - 1) < S65792x128.size a)
theorem k0_off256_inb : ∀ (v1760 : BitVec 32) (k0_hw224 : k0_chk224 v1760), ∀ a, S8x128.size a = 0 ∨ (k0_off256 v1760) a + (![257, 1] : Fin 2 → Nat) a * (S8x128.size a - 1) < S65792x128.size a := fun v1760 k0_hw224 => k0_hw224

def k0_off257 (v1763 : BitVec 32) : Fin 2 → Nat :=
  let v1764 : Index := Scalar.indexCast v1763
  let c0_1225 : Index := 0#32
  ![v1764.toNat, 0]

def k0_chk225 (v1763 : BitVec 32) : Prop :=
  (∀ a, S8x128.size a = 0 ∨ (k0_off257 v1763) a + (![257, 1] : Fin 2 → Nat) a * (S8x128.size a - 1) < S65792x128.size a)
theorem k0_off257_inb : ∀ (v1763 : BitVec 32) (k0_hw225 : k0_chk225 v1763), ∀ a, S8x128.size a = 0 ∨ (k0_off257 v1763) a + (![257, 1] : Fin 2 → Nat) a * (S8x128.size a - 1) < S65792x128.size a := fun v1763 k0_hw225 => k0_hw225

def k0_off258 (v1776 : BitVec 32) : Fin 2 → Nat :=
  let v1777 : Index := Scalar.indexCast v1776
  let c0_1233 : Index := 0#32
  ![v1777.toNat, 0]

def k0_chk226 (v1776 : BitVec 32) : Prop :=
  (∀ a, S8x128.size a = 0 ∨ (k0_off258 v1776) a + (![257, 1] : Fin 2 → Nat) a * (S8x128.size a - 1) < S65792x128.size a)
theorem k0_off258_inb : ∀ (v1776 : BitVec 32) (k0_hw226 : k0_chk226 v1776), ∀ a, S8x128.size a = 0 ∨ (k0_off258 v1776) a + (![257, 1] : Fin 2 → Nat) a * (S8x128.size a - 1) < S65792x128.size a := fun v1776 k0_hw226 => k0_hw226

def k0_off259 (v1779 : BitVec 32) : Fin 2 → Nat :=
  let v1780 : Index := Scalar.indexCast v1779
  let c0_1236 : Index := 0#32
  ![v1780.toNat, 0]

def k0_chk227 (v1779 : BitVec 32) : Prop :=
  (∀ a, S8x128.size a = 0 ∨ (k0_off259 v1779) a + (![257, 1] : Fin 2 → Nat) a * (S8x128.size a - 1) < S65792x128.size a)
theorem k0_off259_inb : ∀ (v1779 : BitVec 32) (k0_hw227 : k0_chk227 v1779), ∀ a, S8x128.size a = 0 ∨ (k0_off259 v1779) a + (![257, 1] : Fin 2 → Nat) a * (S8x128.size a - 1) < S65792x128.size a := fun v1779 k0_hw227 => k0_hw227

def k0_off260 (v1792 : BitVec 32) : Fin 2 → Nat :=
  let v1793 : Index := Scalar.indexCast v1792
  let c0_1244 : Index := 0#32
  ![v1793.toNat, 0]

def k0_chk228 (v1792 : BitVec 32) : Prop :=
  (∀ a, S8x128.size a = 0 ∨ (k0_off260 v1792) a + (![257, 1] : Fin 2 → Nat) a * (S8x128.size a - 1) < S65792x128.size a)
theorem k0_off260_inb : ∀ (v1792 : BitVec 32) (k0_hw228 : k0_chk228 v1792), ∀ a, S8x128.size a = 0 ∨ (k0_off260 v1792) a + (![257, 1] : Fin 2 → Nat) a * (S8x128.size a - 1) < S65792x128.size a := fun v1792 k0_hw228 => k0_hw228

def k0_off261 (v1795 : BitVec 32) : Fin 2 → Nat :=
  let v1796 : Index := Scalar.indexCast v1795
  let c0_1247 : Index := 0#32
  ![v1796.toNat, 0]

def k0_chk229 (v1795 : BitVec 32) : Prop :=
  (∀ a, S8x128.size a = 0 ∨ (k0_off261 v1795) a + (![257, 1] : Fin 2 → Nat) a * (S8x128.size a - 1) < S65792x128.size a)
theorem k0_off261_inb : ∀ (v1795 : BitVec 32) (k0_hw229 : k0_chk229 v1795), ∀ a, S8x128.size a = 0 ∨ (k0_off261 v1795) a + (![257, 1] : Fin 2 → Nat) a * (S8x128.size a - 1) < S65792x128.size a := fun v1795 k0_hw229 => k0_hw229

def k0_off262 (v1808 : BitVec 32) : Fin 2 → Nat :=
  let v1809 : Index := Scalar.indexCast v1808
  let c0_1255 : Index := 0#32
  ![v1809.toNat, 0]

def k0_chk230 (v1808 : BitVec 32) : Prop :=
  (∀ a, S8x128.size a = 0 ∨ (k0_off262 v1808) a + (![257, 1] : Fin 2 → Nat) a * (S8x128.size a - 1) < S65792x128.size a)
theorem k0_off262_inb : ∀ (v1808 : BitVec 32) (k0_hw230 : k0_chk230 v1808), ∀ a, S8x128.size a = 0 ∨ (k0_off262 v1808) a + (![257, 1] : Fin 2 → Nat) a * (S8x128.size a - 1) < S65792x128.size a := fun v1808 k0_hw230 => k0_hw230

def k0_off263 (v1811 : BitVec 32) : Fin 2 → Nat :=
  let v1812 : Index := Scalar.indexCast v1811
  let c0_1258 : Index := 0#32
  ![v1812.toNat, 0]

def k0_chk231 (v1811 : BitVec 32) : Prop :=
  (∀ a, S8x128.size a = 0 ∨ (k0_off263 v1811) a + (![257, 1] : Fin 2 → Nat) a * (S8x128.size a - 1) < S65792x128.size a)
theorem k0_off263_inb : ∀ (v1811 : BitVec 32) (k0_hw231 : k0_chk231 v1811), ∀ a, S8x128.size a = 0 ∨ (k0_off263 v1811) a + (![257, 1] : Fin 2 → Nat) a * (S8x128.size a - 1) < S65792x128.size a := fun v1811 k0_hw231 => k0_hw231

def k0_off264 (v1824 : BitVec 32) : Fin 2 → Nat :=
  let v1825 : Index := Scalar.indexCast v1824
  let c0_1266 : Index := 0#32
  ![v1825.toNat, 0]

def k0_chk232 (v1824 : BitVec 32) : Prop :=
  (∀ a, S8x128.size a = 0 ∨ (k0_off264 v1824) a + (![257, 1] : Fin 2 → Nat) a * (S8x128.size a - 1) < S65792x128.size a)
theorem k0_off264_inb : ∀ (v1824 : BitVec 32) (k0_hw232 : k0_chk232 v1824), ∀ a, S8x128.size a = 0 ∨ (k0_off264 v1824) a + (![257, 1] : Fin 2 → Nat) a * (S8x128.size a - 1) < S65792x128.size a := fun v1824 k0_hw232 => k0_hw232

def k0_off265 (v1827 : BitVec 32) : Fin 2 → Nat :=
  let v1828 : Index := Scalar.indexCast v1827
  let c0_1269 : Index := 0#32
  ![v1828.toNat, 0]

def k0_chk233 (v1827 : BitVec 32) : Prop :=
  (∀ a, S8x128.size a = 0 ∨ (k0_off265 v1827) a + (![257, 1] : Fin 2 → Nat) a * (S8x128.size a - 1) < S65792x128.size a)
theorem k0_off265_inb : ∀ (v1827 : BitVec 32) (k0_hw233 : k0_chk233 v1827), ∀ a, S8x128.size a = 0 ∨ (k0_off265 v1827) a + (![257, 1] : Fin 2 → Nat) a * (S8x128.size a - 1) < S65792x128.size a := fun v1827 k0_hw233 => k0_hw233

def k0_off266 (v1840 : BitVec 32) : Fin 2 → Nat :=
  let v1841 : Index := Scalar.indexCast v1840
  let c0_1277 : Index := 0#32
  ![v1841.toNat, 0]

def k0_chk234 (v1840 : BitVec 32) : Prop :=
  (∀ a, S8x128.size a = 0 ∨ (k0_off266 v1840) a + (![257, 1] : Fin 2 → Nat) a * (S8x128.size a - 1) < S65792x128.size a)
theorem k0_off266_inb : ∀ (v1840 : BitVec 32) (k0_hw234 : k0_chk234 v1840), ∀ a, S8x128.size a = 0 ∨ (k0_off266 v1840) a + (![257, 1] : Fin 2 → Nat) a * (S8x128.size a - 1) < S65792x128.size a := fun v1840 k0_hw234 => k0_hw234

def k0_off267 (v1843 : BitVec 32) : Fin 2 → Nat :=
  let v1844 : Index := Scalar.indexCast v1843
  let c0_1280 : Index := 0#32
  ![v1844.toNat, 0]

def k0_chk235 (v1843 : BitVec 32) : Prop :=
  (∀ a, S8x128.size a = 0 ∨ (k0_off267 v1843) a + (![257, 1] : Fin 2 → Nat) a * (S8x128.size a - 1) < S65792x128.size a)
theorem k0_off267_inb : ∀ (v1843 : BitVec 32) (k0_hw235 : k0_chk235 v1843), ∀ a, S8x128.size a = 0 ∨ (k0_off267 v1843) a + (![257, 1] : Fin 2 → Nat) a * (S8x128.size a - 1) < S65792x128.size a := fun v1843 k0_hw235 => k0_hw235

def k0_off268 (v1856 : BitVec 32) : Fin 2 → Nat :=
  let v1857 : Index := Scalar.indexCast v1856
  let c0_1288 : Index := 0#32
  ![v1857.toNat, 0]

def k0_chk236 (v1856 : BitVec 32) : Prop :=
  (∀ a, S8x128.size a = 0 ∨ (k0_off268 v1856) a + (![257, 1] : Fin 2 → Nat) a * (S8x128.size a - 1) < S65792x128.size a)
theorem k0_off268_inb : ∀ (v1856 : BitVec 32) (k0_hw236 : k0_chk236 v1856), ∀ a, S8x128.size a = 0 ∨ (k0_off268 v1856) a + (![257, 1] : Fin 2 → Nat) a * (S8x128.size a - 1) < S65792x128.size a := fun v1856 k0_hw236 => k0_hw236

def k0_off269 (v1859 : BitVec 32) : Fin 2 → Nat :=
  let v1860 : Index := Scalar.indexCast v1859
  let c0_1291 : Index := 0#32
  ![v1860.toNat, 0]

def k0_chk237 (v1859 : BitVec 32) : Prop :=
  (∀ a, S8x128.size a = 0 ∨ (k0_off269 v1859) a + (![257, 1] : Fin 2 → Nat) a * (S8x128.size a - 1) < S65792x128.size a)
theorem k0_off269_inb : ∀ (v1859 : BitVec 32) (k0_hw237 : k0_chk237 v1859), ∀ a, S8x128.size a = 0 ∨ (k0_off269 v1859) a + (![257, 1] : Fin 2 → Nat) a * (S8x128.size a - 1) < S65792x128.size a := fun v1859 k0_hw237 => k0_hw237

def k0_off270 (v1872 : BitVec 32) : Fin 2 → Nat :=
  let v1873 : Index := Scalar.indexCast v1872
  let c0_1299 : Index := 0#32
  ![v1873.toNat, 0]

def k0_chk238 (v1872 : BitVec 32) : Prop :=
  (∀ a, S8x128.size a = 0 ∨ (k0_off270 v1872) a + (![257, 1] : Fin 2 → Nat) a * (S8x128.size a - 1) < S65792x128.size a)
theorem k0_off270_inb : ∀ (v1872 : BitVec 32) (k0_hw238 : k0_chk238 v1872), ∀ a, S8x128.size a = 0 ∨ (k0_off270 v1872) a + (![257, 1] : Fin 2 → Nat) a * (S8x128.size a - 1) < S65792x128.size a := fun v1872 k0_hw238 => k0_hw238

def k0_off271 (v1875 : BitVec 32) : Fin 2 → Nat :=
  let v1876 : Index := Scalar.indexCast v1875
  let c0_1302 : Index := 0#32
  ![v1876.toNat, 0]

def k0_chk239 (v1875 : BitVec 32) : Prop :=
  (∀ a, S8x128.size a = 0 ∨ (k0_off271 v1875) a + (![257, 1] : Fin 2 → Nat) a * (S8x128.size a - 1) < S65792x128.size a)
theorem k0_off271_inb : ∀ (v1875 : BitVec 32) (k0_hw239 : k0_chk239 v1875), ∀ a, S8x128.size a = 0 ∨ (k0_off271 v1875) a + (![257, 1] : Fin 2 → Nat) a * (S8x128.size a - 1) < S65792x128.size a := fun v1875 k0_hw239 => k0_hw239

def k0_off272 (v1888 : BitVec 32) : Fin 2 → Nat :=
  let v1889 : Index := Scalar.indexCast v1888
  let c0_1310 : Index := 0#32
  ![v1889.toNat, 0]

def k0_chk240 (v1888 : BitVec 32) : Prop :=
  (∀ a, S8x128.size a = 0 ∨ (k0_off272 v1888) a + (![257, 1] : Fin 2 → Nat) a * (S8x128.size a - 1) < S65792x128.size a)
theorem k0_off272_inb : ∀ (v1888 : BitVec 32) (k0_hw240 : k0_chk240 v1888), ∀ a, S8x128.size a = 0 ∨ (k0_off272 v1888) a + (![257, 1] : Fin 2 → Nat) a * (S8x128.size a - 1) < S65792x128.size a := fun v1888 k0_hw240 => k0_hw240

def k0_off273 (v1891 : BitVec 32) : Fin 2 → Nat :=
  let v1892 : Index := Scalar.indexCast v1891
  let c0_1313 : Index := 0#32
  ![v1892.toNat, 0]

def k0_chk241 (v1891 : BitVec 32) : Prop :=
  (∀ a, S8x128.size a = 0 ∨ (k0_off273 v1891) a + (![257, 1] : Fin 2 → Nat) a * (S8x128.size a - 1) < S65792x128.size a)
theorem k0_off273_inb : ∀ (v1891 : BitVec 32) (k0_hw241 : k0_chk241 v1891), ∀ a, S8x128.size a = 0 ∨ (k0_off273 v1891) a + (![257, 1] : Fin 2 → Nat) a * (S8x128.size a - 1) < S65792x128.size a := fun v1891 k0_hw241 => k0_hw241

def k0_off274 (v1904 : BitVec 32) : Fin 2 → Nat :=
  let v1905 : Index := Scalar.indexCast v1904
  let c0_1321 : Index := 0#32
  ![v1905.toNat, 0]

def k0_chk242 (v1904 : BitVec 32) : Prop :=
  (∀ a, S8x128.size a = 0 ∨ (k0_off274 v1904) a + (![257, 1] : Fin 2 → Nat) a * (S8x128.size a - 1) < S65792x128.size a)
theorem k0_off274_inb : ∀ (v1904 : BitVec 32) (k0_hw242 : k0_chk242 v1904), ∀ a, S8x128.size a = 0 ∨ (k0_off274 v1904) a + (![257, 1] : Fin 2 → Nat) a * (S8x128.size a - 1) < S65792x128.size a := fun v1904 k0_hw242 => k0_hw242

def k0_off275 (v1907 : BitVec 32) : Fin 2 → Nat :=
  let v1908 : Index := Scalar.indexCast v1907
  let c0_1324 : Index := 0#32
  ![v1908.toNat, 0]

def k0_chk243 (v1907 : BitVec 32) : Prop :=
  (∀ a, S8x128.size a = 0 ∨ (k0_off275 v1907) a + (![257, 1] : Fin 2 → Nat) a * (S8x128.size a - 1) < S65792x128.size a)
theorem k0_off275_inb : ∀ (v1907 : BitVec 32) (k0_hw243 : k0_chk243 v1907), ∀ a, S8x128.size a = 0 ∨ (k0_off275 v1907) a + (![257, 1] : Fin 2 → Nat) a * (S8x128.size a - 1) < S65792x128.size a := fun v1907 k0_hw243 => k0_hw243

def k0_off276 (v1920 : BitVec 32) : Fin 2 → Nat :=
  let v1921 : Index := Scalar.indexCast v1920
  let c0_1332 : Index := 0#32
  ![v1921.toNat, 0]

def k0_chk244 (v1920 : BitVec 32) : Prop :=
  (∀ a, S8x128.size a = 0 ∨ (k0_off276 v1920) a + (![257, 1] : Fin 2 → Nat) a * (S8x128.size a - 1) < S65792x128.size a)
theorem k0_off276_inb : ∀ (v1920 : BitVec 32) (k0_hw244 : k0_chk244 v1920), ∀ a, S8x128.size a = 0 ∨ (k0_off276 v1920) a + (![257, 1] : Fin 2 → Nat) a * (S8x128.size a - 1) < S65792x128.size a := fun v1920 k0_hw244 => k0_hw244

def k0_off277 (v1923 : BitVec 32) : Fin 2 → Nat :=
  let v1924 : Index := Scalar.indexCast v1923
  let c0_1335 : Index := 0#32
  ![v1924.toNat, 0]

def k0_chk245 (v1923 : BitVec 32) : Prop :=
  (∀ a, S8x128.size a = 0 ∨ (k0_off277 v1923) a + (![257, 1] : Fin 2 → Nat) a * (S8x128.size a - 1) < S65792x128.size a)
theorem k0_off277_inb : ∀ (v1923 : BitVec 32) (k0_hw245 : k0_chk245 v1923), ∀ a, S8x128.size a = 0 ∨ (k0_off277 v1923) a + (![257, 1] : Fin 2 → Nat) a * (S8x128.size a - 1) < S65792x128.size a := fun v1923 k0_hw245 => k0_hw245

def k0_off278 (v1936 : BitVec 32) : Fin 2 → Nat :=
  let v1937 : Index := Scalar.indexCast v1936
  let c0_1343 : Index := 0#32
  ![v1937.toNat, 0]

def k0_chk246 (v1936 : BitVec 32) : Prop :=
  (∀ a, S8x128.size a = 0 ∨ (k0_off278 v1936) a + (![257, 1] : Fin 2 → Nat) a * (S8x128.size a - 1) < S65792x128.size a)
theorem k0_off278_inb : ∀ (v1936 : BitVec 32) (k0_hw246 : k0_chk246 v1936), ∀ a, S8x128.size a = 0 ∨ (k0_off278 v1936) a + (![257, 1] : Fin 2 → Nat) a * (S8x128.size a - 1) < S65792x128.size a := fun v1936 k0_hw246 => k0_hw246

def k0_off279 (v1939 : BitVec 32) : Fin 2 → Nat :=
  let v1940 : Index := Scalar.indexCast v1939
  let c0_1346 : Index := 0#32
  ![v1940.toNat, 0]

def k0_chk247 (v1939 : BitVec 32) : Prop :=
  (∀ a, S8x128.size a = 0 ∨ (k0_off279 v1939) a + (![257, 1] : Fin 2 → Nat) a * (S8x128.size a - 1) < S65792x128.size a)
theorem k0_off279_inb : ∀ (v1939 : BitVec 32) (k0_hw247 : k0_chk247 v1939), ∀ a, S8x128.size a = 0 ∨ (k0_off279 v1939) a + (![257, 1] : Fin 2 → Nat) a * (S8x128.size a - 1) < S65792x128.size a := fun v1939 k0_hw247 => k0_hw247

def k0_off280 (v1952 : BitVec 32) : Fin 2 → Nat :=
  let v1953 : Index := Scalar.indexCast v1952
  let c0_1354 : Index := 0#32
  ![v1953.toNat, 0]

def k0_chk248 (v1952 : BitVec 32) : Prop :=
  (∀ a, S8x128.size a = 0 ∨ (k0_off280 v1952) a + (![257, 1] : Fin 2 → Nat) a * (S8x128.size a - 1) < S65792x128.size a)
theorem k0_off280_inb : ∀ (v1952 : BitVec 32) (k0_hw248 : k0_chk248 v1952), ∀ a, S8x128.size a = 0 ∨ (k0_off280 v1952) a + (![257, 1] : Fin 2 → Nat) a * (S8x128.size a - 1) < S65792x128.size a := fun v1952 k0_hw248 => k0_hw248

def k0_off281 (v1955 : BitVec 32) : Fin 2 → Nat :=
  let v1956 : Index := Scalar.indexCast v1955
  let c0_1357 : Index := 0#32
  ![v1956.toNat, 0]

def k0_chk249 (v1955 : BitVec 32) : Prop :=
  (∀ a, S8x128.size a = 0 ∨ (k0_off281 v1955) a + (![257, 1] : Fin 2 → Nat) a * (S8x128.size a - 1) < S65792x128.size a)
theorem k0_off281_inb : ∀ (v1955 : BitVec 32) (k0_hw249 : k0_chk249 v1955), ∀ a, S8x128.size a = 0 ∨ (k0_off281 v1955) a + (![257, 1] : Fin 2 → Nat) a * (S8x128.size a - 1) < S65792x128.size a := fun v1955 k0_hw249 => k0_hw249

def k0_off282 (v1968 : BitVec 32) : Fin 2 → Nat :=
  let v1969 : Index := Scalar.indexCast v1968
  let c0_1365 : Index := 0#32
  ![v1969.toNat, 0]

def k0_chk250 (v1968 : BitVec 32) : Prop :=
  (∀ a, S8x128.size a = 0 ∨ (k0_off282 v1968) a + (![257, 1] : Fin 2 → Nat) a * (S8x128.size a - 1) < S65792x128.size a)
theorem k0_off282_inb : ∀ (v1968 : BitVec 32) (k0_hw250 : k0_chk250 v1968), ∀ a, S8x128.size a = 0 ∨ (k0_off282 v1968) a + (![257, 1] : Fin 2 → Nat) a * (S8x128.size a - 1) < S65792x128.size a := fun v1968 k0_hw250 => k0_hw250

def k0_off283 (v1971 : BitVec 32) : Fin 2 → Nat :=
  let v1972 : Index := Scalar.indexCast v1971
  let c0_1368 : Index := 0#32
  ![v1972.toNat, 0]

def k0_chk251 (v1971 : BitVec 32) : Prop :=
  (∀ a, S8x128.size a = 0 ∨ (k0_off283 v1971) a + (![257, 1] : Fin 2 → Nat) a * (S8x128.size a - 1) < S65792x128.size a)
theorem k0_off283_inb : ∀ (v1971 : BitVec 32) (k0_hw251 : k0_chk251 v1971), ∀ a, S8x128.size a = 0 ∨ (k0_off283 v1971) a + (![257, 1] : Fin 2 → Nat) a * (S8x128.size a - 1) < S65792x128.size a := fun v1971 k0_hw251 => k0_hw251

def k0_off284 (v1984 : BitVec 32) : Fin 2 → Nat :=
  let v1985 : Index := Scalar.indexCast v1984
  let c0_1376 : Index := 0#32
  ![v1985.toNat, 0]

def k0_chk252 (v1984 : BitVec 32) : Prop :=
  (∀ a, S8x128.size a = 0 ∨ (k0_off284 v1984) a + (![257, 1] : Fin 2 → Nat) a * (S8x128.size a - 1) < S65792x128.size a)
theorem k0_off284_inb : ∀ (v1984 : BitVec 32) (k0_hw252 : k0_chk252 v1984), ∀ a, S8x128.size a = 0 ∨ (k0_off284 v1984) a + (![257, 1] : Fin 2 → Nat) a * (S8x128.size a - 1) < S65792x128.size a := fun v1984 k0_hw252 => k0_hw252

def k0_off285 (v1987 : BitVec 32) : Fin 2 → Nat :=
  let v1988 : Index := Scalar.indexCast v1987
  let c0_1379 : Index := 0#32
  ![v1988.toNat, 0]

def k0_chk253 (v1987 : BitVec 32) : Prop :=
  (∀ a, S8x128.size a = 0 ∨ (k0_off285 v1987) a + (![257, 1] : Fin 2 → Nat) a * (S8x128.size a - 1) < S65792x128.size a)
theorem k0_off285_inb : ∀ (v1987 : BitVec 32) (k0_hw253 : k0_chk253 v1987), ∀ a, S8x128.size a = 0 ∨ (k0_off285 v1987) a + (![257, 1] : Fin 2 → Nat) a * (S8x128.size a - 1) < S65792x128.size a := fun v1987 k0_hw253 => k0_hw253

def k0_off286 (v2000 : BitVec 32) : Fin 2 → Nat :=
  let v2001 : Index := Scalar.indexCast v2000
  let c0_1387 : Index := 0#32
  ![v2001.toNat, 0]

def k0_chk254 (v2000 : BitVec 32) : Prop :=
  (∀ a, S8x128.size a = 0 ∨ (k0_off286 v2000) a + (![257, 1] : Fin 2 → Nat) a * (S8x128.size a - 1) < S65792x128.size a)
theorem k0_off286_inb : ∀ (v2000 : BitVec 32) (k0_hw254 : k0_chk254 v2000), ∀ a, S8x128.size a = 0 ∨ (k0_off286 v2000) a + (![257, 1] : Fin 2 → Nat) a * (S8x128.size a - 1) < S65792x128.size a := fun v2000 k0_hw254 => k0_hw254

def k0_off287 (v2003 : BitVec 32) : Fin 2 → Nat :=
  let v2004 : Index := Scalar.indexCast v2003
  let c0_1390 : Index := 0#32
  ![v2004.toNat, 0]

def k0_chk255 (v2003 : BitVec 32) : Prop :=
  (∀ a, S8x128.size a = 0 ∨ (k0_off287 v2003) a + (![257, 1] : Fin 2 → Nat) a * (S8x128.size a - 1) < S65792x128.size a)
theorem k0_off287_inb : ∀ (v2003 : BitVec 32) (k0_hw255 : k0_chk255 v2003), ∀ a, S8x128.size a = 0 ∨ (k0_off287 v2003) a + (![257, 1] : Fin 2 → Nat) a * (S8x128.size a - 1) < S65792x128.size a := fun v2003 k0_hw255 => k0_hw255

def k0_off288 (v2016 : BitVec 32) : Fin 2 → Nat :=
  let v2017 : Index := Scalar.indexCast v2016
  let c0_1398 : Index := 0#32
  ![v2017.toNat, 0]

def k0_chk256 (v2016 : BitVec 32) : Prop :=
  (∀ a, S8x128.size a = 0 ∨ (k0_off288 v2016) a + (![257, 1] : Fin 2 → Nat) a * (S8x128.size a - 1) < S65792x128.size a)
theorem k0_off288_inb : ∀ (v2016 : BitVec 32) (k0_hw256 : k0_chk256 v2016), ∀ a, S8x128.size a = 0 ∨ (k0_off288 v2016) a + (![257, 1] : Fin 2 → Nat) a * (S8x128.size a - 1) < S65792x128.size a := fun v2016 k0_hw256 => k0_hw256

def k0_off289 (v2019 : BitVec 32) : Fin 2 → Nat :=
  let v2020 : Index := Scalar.indexCast v2019
  let c0_1401 : Index := 0#32
  ![v2020.toNat, 0]

def k0_chk257 (v2019 : BitVec 32) : Prop :=
  (∀ a, S8x128.size a = 0 ∨ (k0_off289 v2019) a + (![257, 1] : Fin 2 → Nat) a * (S8x128.size a - 1) < S65792x128.size a)
theorem k0_off289_inb : ∀ (v2019 : BitVec 32) (k0_hw257 : k0_chk257 v2019), ∀ a, S8x128.size a = 0 ∨ (k0_off289 v2019) a + (![257, 1] : Fin 2 → Nat) a * (S8x128.size a - 1) < S65792x128.size a := fun v2019 k0_hw257 => k0_hw257

def k0_off290 (v2032 : BitVec 32) : Fin 2 → Nat :=
  let v2033 : Index := Scalar.indexCast v2032
  let c0_1409 : Index := 0#32
  ![v2033.toNat, 0]

def k0_chk258 (v2032 : BitVec 32) : Prop :=
  (∀ a, S8x128.size a = 0 ∨ (k0_off290 v2032) a + (![257, 1] : Fin 2 → Nat) a * (S8x128.size a - 1) < S65792x128.size a)
theorem k0_off290_inb : ∀ (v2032 : BitVec 32) (k0_hw258 : k0_chk258 v2032), ∀ a, S8x128.size a = 0 ∨ (k0_off290 v2032) a + (![257, 1] : Fin 2 → Nat) a * (S8x128.size a - 1) < S65792x128.size a := fun v2032 k0_hw258 => k0_hw258

def k0_off291 (v2035 : BitVec 32) : Fin 2 → Nat :=
  let v2036 : Index := Scalar.indexCast v2035
  let c0_1412 : Index := 0#32
  ![v2036.toNat, 0]

def k0_chk259 (v2035 : BitVec 32) : Prop :=
  (∀ a, S8x128.size a = 0 ∨ (k0_off291 v2035) a + (![257, 1] : Fin 2 → Nat) a * (S8x128.size a - 1) < S65792x128.size a)
theorem k0_off291_inb : ∀ (v2035 : BitVec 32) (k0_hw259 : k0_chk259 v2035), ∀ a, S8x128.size a = 0 ∨ (k0_off291 v2035) a + (![257, 1] : Fin 2 → Nat) a * (S8x128.size a - 1) < S65792x128.size a := fun v2035 k0_hw259 => k0_hw259

def k0_off292 (v2048 : BitVec 32) : Fin 2 → Nat :=
  let v2049 : Index := Scalar.indexCast v2048
  let c0_1420 : Index := 0#32
  ![v2049.toNat, 0]

def k0_chk260 (v2048 : BitVec 32) : Prop :=
  (∀ a, S8x128.size a = 0 ∨ (k0_off292 v2048) a + (![257, 1] : Fin 2 → Nat) a * (S8x128.size a - 1) < S65792x128.size a)
theorem k0_off292_inb : ∀ (v2048 : BitVec 32) (k0_hw260 : k0_chk260 v2048), ∀ a, S8x128.size a = 0 ∨ (k0_off292 v2048) a + (![257, 1] : Fin 2 → Nat) a * (S8x128.size a - 1) < S65792x128.size a := fun v2048 k0_hw260 => k0_hw260

def k0_off293 (v2051 : BitVec 32) : Fin 2 → Nat :=
  let v2052 : Index := Scalar.indexCast v2051
  let c0_1423 : Index := 0#32
  ![v2052.toNat, 0]

def k0_chk261 (v2051 : BitVec 32) : Prop :=
  (∀ a, S8x128.size a = 0 ∨ (k0_off293 v2051) a + (![257, 1] : Fin 2 → Nat) a * (S8x128.size a - 1) < S65792x128.size a)
theorem k0_off293_inb : ∀ (v2051 : BitVec 32) (k0_hw261 : k0_chk261 v2051), ∀ a, S8x128.size a = 0 ∨ (k0_off293 v2051) a + (![257, 1] : Fin 2 → Nat) a * (S8x128.size a - 1) < S65792x128.size a := fun v2051 k0_hw261 => k0_hw261

def k0_mult5 (k0_t2 : Fin k0_t2_loop.trips) : BitVec 32 :=
  let c0_i32_9 : BitVec 32 := 0#32
  let c0_i32_5 : BitVec 32 := 0#32
  let c1_i32_6 : BitVec 32 := 1#32
  let arg25 : BitVec 32 := Scf.iv c0_i32_5 c1_i32_6 k0_t2
  let c1_i32_8 : BitVec 32 := 1#32
  let v5 : BitVec 32 := Scalar.muli arg25 c1_i32_8
  let v6 : BitVec 32 := Scalar.addi c0_i32_9 v5
  let c128_i32 : BitVec 32 := 128#32
  let v2104 : BitVec 32 := Scalar.muli v6 c128_i32
  v2104
def k0_off294 (i : grid0.Coords) (k0_t2 : Fin k0_t2_loop.trips) : Fin 2 → Nat :=
  let c0_i32_9 : BitVec 32 := 0#32
  let c0_i32_5 : BitVec 32 := 0#32
  let c1_i32_6 : BitVec 32 := 1#32
  let arg25 : BitVec 32 := Scf.iv c0_i32_5 c1_i32_6 k0_t2
  let c1_i32_8 : BitVec 32 := 1#32
  let v5 : BitVec 32 := Scalar.muli arg25 c1_i32_8
  let v6 : BitVec 32 := Scalar.addi c0_i32_9 v5
  let c128_i32 : BitVec 32 := 128#32
  let v2104 : BitVec 32 := Scalar.muli v6 c128_i32
  let v2105 : BitVec 32 := v2104
  let arg0 : BitVec 32 := BitVec.ofNat 32 (i 0).val
  let c1024_i32_1448 : BitVec 32 := 1024#32
  let v2106 : BitVec 32 := Scalar.muli arg0 c1024_i32_1448
  ![v2105.toNat, v2106.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S272x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S69632x1536 : Shape := ⟨2, ![69632, 1536]⟩
abbrev S69632 : Shape := ⟨1, ![69632]⟩
abbrev S16 : Shape := ⟨1, ![16]⟩
abbrev S16x1536x3072 : Shape := ⟨3, ![16, 1536, 3072]⟩
abbrev S16x3072 : Shape := ⟨2, ![16, 3072]⟩
abbrev S34816x2 : Shape := ⟨2, ![34816, 2]⟩
abbrev S_ : Shape := ⟨0, ![]⟩
abbrev S1x69632 : Shape := ⟨2, ![1, 69632]⟩
abbrev S16x1 : Shape := ⟨2, ![16, 1]⟩
abbrev S16x69632 : Shape := ⟨2, ![16, 69632]⟩
abbrev S16x3072x69632 : Shape := ⟨3, ![16, 3072, 69632]⟩
abbrev S16x69632x3072 : Shape := ⟨3, ![16, 69632, 3072]⟩
abbrev S1x69632x1 : Shape := ⟨3, ![1, 69632, 1]⟩
abbrev S16x1x3072 : Shape := ⟨3, ![16, 1, 3072]⟩
abbrev S16x69632x1 : Shape := ⟨3, ![16, 69632, 1]⟩
abbrev S69632x3072 : Shape := ⟨2, ![69632, 3072]⟩
abbrev S34816x2x1 : Shape := ⟨3, ![34816, 2, 1]⟩
abbrev S34816x2x3072 : Shape := ⟨3, ![34816, 2, 3072]⟩
abbrev S34816x3072 : Shape := ⟨2, ![34816, 3072]⟩

abbrev nBuf : Space → Nat
  | .hbm => 56
  | .vmem => 4
  | .smem => 0
  | _ => 0

abbrev bufTy : (tb : Table) → Fin (tcTables nBuf tb) → BufTy
  | .hbm, ⟨0, _⟩ => ⟨S69632x1536, .fp8e4m3⟩
  | .hbm, ⟨1, _⟩ => ⟨S69632, .f32⟩
  | .hbm, ⟨2, _⟩ => ⟨S16, .i32⟩
  | .hbm, ⟨3, _⟩ => ⟨S16x1536x3072, .fp8e4m3⟩
  | .hbm, ⟨4, _⟩ => ⟨S16x3072, .f32⟩
  | .hbm, ⟨5, _⟩ => ⟨S34816x2, .i32⟩
  | .hbm, ⟨6, _⟩ => ⟨S34816x2, .f32⟩
  | .hbm, ⟨7, _⟩ => ⟨S69632x1536, .f32⟩
  | .hbm, ⟨8, _⟩ => ⟨S16x1536x3072, .f32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S69632, .i32⟩
  | .hbm, ⟨13, _⟩ => ⟨S1x69632, .i32⟩
  | .hbm, ⟨14, _⟩ => ⟨S16, .i32⟩
  | .hbm, ⟨15, _⟩ => ⟨S16x1, .i32⟩
  | .hbm, ⟨16, _⟩ => ⟨S16x69632, .i32⟩
  | .hbm, ⟨17, _⟩ => ⟨S16x69632, .i32⟩
  | .hbm, ⟨18, _⟩ => ⟨S16x69632, .i1⟩
  | .hbm, ⟨19, _⟩ => ⟨S1x69632, .i32⟩
  | .hbm, ⟨20, _⟩ => ⟨S16x1, .i32⟩
  | .hbm, ⟨21, _⟩ => ⟨S16x69632, .i32⟩
  | .hbm, ⟨22, _⟩ => ⟨S16x69632, .i32⟩
  | .hbm, ⟨23, _⟩ => ⟨S16x69632, .i1⟩
  | .hbm, ⟨24, _⟩ => ⟨S16x69632, .i1⟩
  | .hbm, ⟨25, _⟩ => ⟨S16x3072x69632, .f32⟩
  | .hbm, ⟨26, _⟩ => ⟨S16x69632x3072, .f32⟩
  | .hbm, ⟨27, _⟩ => ⟨S1x69632x1, .f32⟩
  | .hbm, ⟨28, _⟩ => ⟨S16x69632x3072, .f32⟩
  | .hbm, ⟨29, _⟩ => ⟨S16x69632x3072, .f32⟩
  | .hbm, ⟨30, _⟩ => ⟨S16x1x3072, .f32⟩
  | .hbm, ⟨31, _⟩ => ⟨S16x69632x3072, .f32⟩
  | .hbm, ⟨32, _⟩ => ⟨S16x69632x3072, .f32⟩
  | .hbm, ⟨33, _⟩ => ⟨S16x69632x1, .i1⟩
  | .hbm, ⟨34, _⟩ => ⟨S_, .f32⟩
  | .hbm, ⟨35, _⟩ => ⟨S_, .f32⟩
  | .hbm, ⟨36, _⟩ => ⟨S16x69632x3072, .i1⟩
  | .hbm, ⟨37, _⟩ => ⟨S16x69632x3072, .f32⟩
  | .hbm, ⟨38, _⟩ => ⟨S16x69632x3072, .f32⟩
  | .hbm, ⟨39, _⟩ => ⟨S_, .f32⟩
  | .hbm, ⟨40, _⟩ => ⟨S69632x3072, .f32⟩
  | .hbm, ⟨41, _⟩ => ⟨S_, .i32⟩
  | .hbm, ⟨42, _⟩ => ⟨S34816x2, .i32⟩
  | .hbm, ⟨43, _⟩ => ⟨S34816x2, .i1⟩
  | .hbm, ⟨44, _⟩ => ⟨S_, .i32⟩
  | .hbm, ⟨45, _⟩ => ⟨S34816x2, .i32⟩
  | .hbm, ⟨46, _⟩ => ⟨S34816x2, .i32⟩
  | .hbm, ⟨47, _⟩ => ⟨S34816x2, .i32⟩
  | .hbm, ⟨48, _⟩ => ⟨S34816x2x1, .i32⟩
  | .hbm, ⟨49, _⟩ => ⟨S34816x2x3072, .f32⟩
  | .hbm, ⟨50, _⟩ => ⟨S34816x2x1, .f32⟩
  | .hbm, ⟨51, _⟩ => ⟨S34816x2x3072, .f32⟩
  | .hbm, ⟨52, _⟩ => ⟨S34816x2x3072, .f32⟩
  | .hbm, ⟨53, _⟩ => ⟨S_, .f32⟩
  | .hbm, ⟨54, _⟩ => ⟨S34816x3072, .f32⟩
  | .hbm, ⟨55, _⟩ => ⟨S34816x3072, .bf16⟩
  | .local _ .vmem, ⟨0, _⟩ => ⟨S69632x1536, .fp8e4m3⟩
  | .local _ .vmem, ⟨1, _⟩ => ⟨S16x1536x3072, .fp8e4m3⟩
  | .local _ .vmem, ⟨2, _⟩ => ⟨S69632x1536, .f32⟩
  | .local _ .vmem, ⟨3, _⟩ => ⟨S16x1536x3072, .f32⟩
  | _, _ => ⟨S69632x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_call0_call0_c : Ref sig .tc := ⟨.hbm, 9, rfl⟩
abbrev main_call0_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S69632x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S69632x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ideal.HostDefs.lean ====
module

public import proofs.«01_k».proof.Proof.Gen.KernelIdeal.Frame
public import Idealize.ShloMosaic.Lib.StableHlo.ReadAt
public import Idealize.ShloMosaic.Lib.StableHlo.RunClose
public import Idealize.ShloMosaic.Lib.Claim

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

/-! ## What the host prepares, as functions of the arguments -/

def kEnds (a : IVec S16 32) : IVec S16 32 :=
  Host.reduceWindow IntOp.addi ![16] ![1] ![15] ![0] a (broadcastInDim S_ ![] bcast_S_S_ (constantI S_ 32 0#32)) reduceWindows_S16_S16_w16s1p15_0 h_S_
def kOff (a : IVec S16 32) : IVec S16 32 := subi (kEnds a) a
def kIdx (x : IVec S34816x2 32) : IVec S272x2x128 32 :=
  transpose S272x2x128 [0, 2, 1] (shapeCast S272x128x2 x shapeCasts_S34816x2_S272x128x2) transposes_S272x128x2_S272x2x128_0_2_1
def kB3 (x : IVec S272x2x128 32) : IVec S272x2x128x16 32 :=
  broadcastInDim S272x2x128x16 ![0, 1, 2, 3] bcast_S272x2x128x1_S272x2x128x16_0_1_2_3 (broadcastInDim S272x2x128x1 ![0, 1, 2] bcast_S272x2x128_S272x2x128x1_0_1_2 x)
def kB1 (x : IVec S16 32) : IVec S272x2x128x16 32 :=
  broadcastInDim S272x2x128x16 ![0, 1, 2, 3] bcast_S1x1x1x16_S272x2x128x16_0_1_2_3 (broadcastInDim S1x1x1x16 ![3] bcast_S16_S1x1x1x16_3 x)
def kExpert (ends : IVec S16 32) (x : IVec S272x2x128 32) : IVec S272x2x128 32 :=
  Host.reduce IntOp.addi (extui 32 (cmpi .sge (kB3 x) (kB1 ends)) natLt_1_32) (constantI S_ 32 0#32) reducesTo_S272x2x128x16_S272x2x128_d3 h_S_
def kCnt (off : IVec S16 32) (x : IVec S272x2x128 32) : IVec S272x16 32 :=
  Host.reduce IntOp.addi (extui 32 (cmpi .sge (kB3 x) (kB1 off)) natLt_1_32) (constantI S_ 32 0#32) reducesTo_S272x2x128x16_S272x16_d1_2 h_S_
def kHist (cnt : IVec S272x16 32) : IVec S272x16 32 :=
  subi cnt (concatenate S272x16 1 [⟨S272x15, extractStridedSlice S272x15 ![0, 1] cnt slices_S272x16_S272x15_0_1⟩, ⟨S272x1, broadcastInDim S272x1 ![] bcast_S_S272x1 (constantI S_ 32 0#32)⟩] concatenates_S272x15_S272x1_S272x16_d1)
def kUpto (off : IVec S16 32) (hist : IVec S272x16 32) : IVec S272x16 32 :=
  addi (broadcastInDim S272x16 ![0, 1] bcast_S1x16_S272x16_0_1 (broadcastInDim S1x16 ![1] bcast_S16_S1x16_1 off))
    (Host.reduceWindow IntOp.addi ![272, 1] ![1, 1] ![271, 0] ![0, 0] hist (broadcastInDim S_ ![] bcast_S_S_ (constantI S_ 32 0#32)) reduceWindows_S272x16_S272x16_w272s1p271_0_w1s1p0_0 h_S_)
def kAl (off : IVec S16 32) : IVec S16 32 := andi off (broadcastInDim S16 ![] bcast_S_S16 (constantI S_ 32 4294967264#32))
def kNeed (off : IVec S16 32) (x : IVec S272x2x128 32) : IVec S272x16 32 :=
  select (cmpi .sgt (kUpto off (kHist (kCnt off x))) (broadcastInDim S272x16 ![0, 1] bcast_S1x16_S272x16_0_1 (broadcastInDim S1x16 ![1] bcast_S16_S1x16_1 off)))
    (kUpto off (kHist (kCnt off x))) (broadcastInDim S272x16 ![1] bcast_S16_S272x16_1 (kAl off))
def kRel (off ends : IVec S16 32) (x : IVec S272x2x128 32) : IVec S272x2x128 32 :=
  subi x (Host.reduce IntOp.addi (select (cmpi .eq (kB3 (kExpert ends x)) (kB1 (iotaInDim S16 32 0)))
    (broadcastInDim S272x2x128x16 ![3] bcast_S16_S272x2x128x16_3 (kAl off))
    (broadcastInDim S272x2x128x16 ![] bcast_S_S272x2x128x16 (constantI S_ 32 0#32))) (constantI S_ 32 0#32) reducesTo_S272x2x128x16_S272x2x128_d3 h_S_)
def kK (v : BitVec 32) : IVec S272x2x128 32 := broadcastInDim S272x2x128 ![] bcast_S_S272x2x128 (constantI S_ 32 v)
/-- The quotient by 256, rounded down. -/
def kDiv (r : IVec S272x2x128 32) : IVec S272x2x128 32 :=
  select (andi (cmpi .ne (signi r) (broadcastInDim S272x2x128 ![] bcast_S_S272x2x128 (signi (constantI S_ 32 256#32)))) (cmpi .ne (Host.remsi r (kK 256#32)) (kK 0#32)))
    (subi (Host.divsi r (kK 256#32)) (kK 1#32)) (Host.divsi r (kK 256#32))
def k256 : IVec S_ 32 := select (cmpi .eq (constantI S_ 32 256#32) (constantI S_ 32 0#32)) (constantI S_ 32 1#32) (constantI S_ 32 256#32)
def kB0 (x : IVec S_ 32) : IVec S272x2x128 32 := broadcastInDim S272x2x128 ![] bcast_S_S272x2x128 x
/-- The remainder by 256, with the divisor's sign. -/
def kMod (r : IVec S272x2x128 32) : IVec S272x2x128 32 :=
  select (andi (cmpi .ne (cmpi .slt (Host.remsi r (kB0 k256)) (kK 0#32)) (broadcastInDim S272x2x128 ![] bcast_S_S272x2x128 (cmpi .slt k256 (constantI S_ 32 0#32)))) (cmpi .ne (Host.remsi r (kB0 k256)) (kK 0#32)))
    (addi (Host.remsi r (kB0 k256)) (kB0 k256)) (Host.remsi r (kB0 k256))
def kAddrOf (ex r : IVec S272x2x128 32) : IVec S272x2x128 32 :=
  addi (muli (addi (muli ex (kK 2#32)) (andi (kDiv r) (kK 1#32))) (kK 2056#32)) (kMod r)

variable {F : FTy → Type} [FloatOps F]
variable (m : (ℓ : Loc nD τ sig) → Buf (Elt F) ℓ)

def kTw (x : S34816x2.Idx → Elt F .f32) : S272x2x128.Idx → Elt F .f32 :=
  transpose S272x2x128 [0, 2, 1] (shapeCast S272x128x2 x shapeCasts_S34816x2_S272x128x2) transposes_S272x128x2_S272x2x128_0_2_1
def kPad (x : S69632.Idx → Elt F .f32) : S2184x32.Idx → Elt F .f32 :=
  shapeCast S2184x32 (concatenate S69888 0 [⟨S69632, x⟩, ⟨S256, broadcastInDim S256 ![] bcast_S_S256 (constant S_ .f32 0x3F800000#32)⟩] concatenates_S69632_S256_S69888_d0) shapeCasts_S69888_S2184x32
def kHs (y : S2184x32.Idx → Elt F .f32) : S2176x2x128.Idx → Elt F .f32 :=
  shapeCast S2176x2x128 (concatenate S2176x256 1 [⟨S2176x32, extractStridedSlice S2176x32 ![0, 0] y slices_S2184x32_S2176x32_0_0⟩,
    ⟨S2176x32, extractStridedSlice S2176x32 ![1, 0] y slices_S2184x32_S2176x32_1_0⟩, ⟨S2176x32, extractStridedSlice S2176x32 ![2, 0] y slices_S2184x32_S2176x32_2_0⟩,
    ⟨S2176x32, extractStridedSlice S2176x32 ![3, 0] y slices_S2184x32_S2176x32_3_0⟩, ⟨S2176x32, extractStridedSlice S2176x32 ![4, 0] y slices_S2184x32_S2176x32_4_0⟩,
    ⟨S2176x32, extractStridedSlice S2176x32 ![5, 0] y slices_S2184x32_S2176x32_5_0⟩, ⟨S2176x32, extractStridedSlice S2176x32 ![6, 0] y slices_S2184x32_S2176x32_6_0⟩,
    ⟨S2176x32, extractStridedSlice S2176x32 ![7, 0] y slices_S2184x32_S2176x32_7_0⟩] concatenates_S2176x32_S2176x32_S2176x32_S2176x32_S2176x32_S2176x32_S2176x32_S2176x32_S2176x256_d1) shapeCasts_S2176x256_S2176x2x128
def kWs (x : S16x3072.Idx → Elt F .f32) : S16x1x3072.Idx → Elt F .f32 := shapeCast S16x1x3072 x shapeCasts_S16x3072_S16x1x3072

end Cert.KernelIdeal.Hand

end
-- ==== Proof.Ideal.Words.lean ====
/- The kernel's index words as natural numbers: what each offset, side condition and trip count is
   once the words it reads are known. -/
module

public import proofs.«01_k».proof.Proof.Gen.KernelIdeal.Skeleton
public import Idealize.ShloMosaic.Lib.Affine
public import Idealize.ShloMosaic.Lib.WordCmp
public import Idealize.ShloMosaic.Lib.Tactic

@[expose] public section

namespace Cert.KernelIdeal.Hand

open Idealize.ShloMosaic Cert.KernelIdeal.Gen

/-! ## Words that are natural numbers -/

theorem toInt_ofNat32 (n : Nat) (h : n < 2 ^ 31) : (BitVec.ofNat 32 n).toInt = n := by
  rw [BitVec.toInt_eq_toNat_of_lt (by rw [BitVec.toNat_ofNat]; omega), BitVec.toNat_ofNat, Nat.mod_eq_of_lt (by omega)]

theorem toNat_ofNat32 (n : Nat) (h : n < 2 ^ 32) : (BitVec.ofNat 32 n).toNat = n := by
  rw [BitVec.toNat_ofNat, Nat.mod_eq_of_lt (by omega)]

theorem w_addi (a b : Nat) : Scalar.addi (BitVec.ofNat 32 a) (BitVec.ofNat 32 b) = BitVec.ofNat 32 (a + b) :=
  (BitVec.ofNat_add a b).symm

theorem w_muli (a b : Nat) : Scalar.muli (BitVec.ofNat 32 a) (BitVec.ofNat 32 b) = BitVec.ofNat 32 (a * b) :=
  (BitVec.ofNat_mul a b).symm

theorem w_subi (a b : Nat) (h : b ≤ a) : Scalar.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [Nat.add_sub_cancel_left, BitVec.ofNat_add, BitVec.add_comm, BitVec.add_sub_cancel]

theorem w_minsi (a b : Nat) (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then _ else _) = _
  by_cases h : (BitVec.ofNat 32 a).slt (BitVec.ofNat 32 b) = true
  · rw [if_pos h]
    rw [BitVec.slt_iff_toInt_lt, toInt_ofNat32 a ha, toInt_ofNat32 b hb] at h
    rw [min_eq_left (by omega)]
  · rw [if_neg h]
    rw [BitVec.slt_iff_toInt_lt, toInt_ofNat32 a ha, toInt_ofNat32 b hb] at h
    rw [min_eq_right (by omega)]

theorem isInt_ofNat32 (n : Nat) (h : n < 2 ^ 31) : Affine.IsInt (BitVec.ofNat 32 n) n := Affine.ofNat n ⟨rfl, h⟩

theorem eq_ofNat_of_isInt {x : BitVec 32} {n : Nat} (h : Affine.IsInt x n) (hn : n < 2 ^ 31) : x = BitVec.ofNat 32 n := by
  unfold Affine.IsInt at h
  apply BitVec.eq_of_toInt_eq
  rw [h, toInt_ofNat32 n hn]

theorem w_divsi (a b : Nat) (ha : a < 2 ^ 31) (hb : b < 2 ^ 31) (h0 : 0 < b) :
    Scalar.divsi (BitVec.ofNat 32 a) (BitVec.ofNat 32 b) = BitVec.ofNat 32 (a / b) := by
  refine eq_ofNat_of_isInt ?_ (lt_of_le_of_lt (Nat.div_le_self a b) ha)
  exact Affine.divsi (isInt_ofNat32 a ha) (isInt_ofNat32 b hb) ⟨by simp, by omega, by omega⟩

theorem w_remsi (a b : Nat) (ha : a < 2 ^ 31) (hb : b < 2 ^ 31) (h0 : 0 < b) :
    Scalar.remsi (BitVec.ofNat 32 a) (BitVec.ofNat 32 b) = BitVec.ofNat 32 (a % b) := by
  refine eq_ofNat_of_isInt ?_ (lt_of_le_of_lt (Nat.mod_le a b) ha)
  exact Affine.remsi (isInt_ofNat32 a ha) (isInt_ofNat32 b hb) ⟨by simp, by omega, by omega⟩

theorem w_andi_one (a : Nat) : Scalar.andi (BitVec.ofNat 32 a) 1#32 = BitVec.ofNat 32 (a % 2) := by
  show BitVec.ofNat 32 a &&& 1#32 = _
  apply BitVec.eq_of_toNat_eq
  rw [BitVec.toNat_and]
  simp only [BitVec.toNat_ofNat]
  rw [show 1 % 2 ^ 32 = 1 from rfl, Nat.and_one_is_mod]
  omega

theorem w_andi_m32 (a : Nat) (ha : a < 2 ^ 31) : Scalar.andi (BitVec.ofNat 32 a) 4294967264#32 = BitVec.ofNat 32 (a / 32 * 32) := by
  show BitVec.ofNat 32 a &&& 4294967264#32 = _
  have h1 : (4294967264#32 : BitVec 32) = ~~~(31#32) := by decide
  apply BitVec.eq_of_toNat_eq
  have h2 : (BitVec.ofNat 32 a &&& 4294967264#32) = ((BitVec.ofNat 32 a) >>> 5) <<< 5 := by
    apply BitVec.eq_of_getLsbD_eq
    intro i hi
    have hm : ∀ j : Fin 32, (4294967264#32 : BitVec 32).getLsbD j.val = decide (5 ≤ j.val) := by decide
    rw [BitVec.getLsbD_and, hm ⟨i, hi⟩, BitVec.getLsbD_shiftLeft, BitVec.getLsbD_ushiftRight]
    by_cases h5 : 5 ≤ i
    · have e5 : 5 + (i - 5) = i := by omega
      simp [hi, h5, e5, show ¬ i < 5 by omega]
    · simp [h5, show i < 5 by omega]
  rw [h2, BitVec.toNat_shiftLeft, BitVec.toNat_ushiftRight, toNat_ofNat32 a (by omega), toNat_ofNat32 _ (by omega),
    Nat.shiftLeft_eq, Nat.shiftRight_eq_div_pow]
  omega

theorem w_cmpi_sgt (a b : Nat) (ha : a < 2 ^ 31) (hb : b < 2 ^ 31) :
    Scalar.cmpi .sgt (BitVec.ofNat 32 a) (BitVec.ofNat 32 b) = if b < a then 1#1 else 0#1 := by
  have h : Scalar.cmpi .sgt (BitVec.ofNat 32 a) (BitVec.ofNat 32 b) = 1#1 ↔ b < a := by
    show IntOp.cmpi .sgt _ _ = 1#1 ↔ _
    rw [IntOp.cmpi_sgt, toInt_ofNat32 a ha, toInt_ofNat32 b hb]; omega
  split
  · exact h.2 ‹_›
  · rename_i hn
    rcases BitVec.eq_zero_or_eq_one (Scalar.cmpi .sgt (BitVec.ofNat 32 a) (BitVec.ofNat 32 b)) with h0 | h0
    · exact h0
    · exact absurd (h.1 h0) hn

theorem w_cmpi_slt (a b : Nat) (ha : a < 2 ^ 31) (hb : b < 2 ^ 31) :
    Scalar.cmpi .slt (BitVec.ofNat 32 a) (BitVec.ofNat 32 b) = if a < b then 1#1 else 0#1 := by
  have h : Scalar.cmpi .slt (BitVec.ofNat 32 a) (BitVec.ofNat 32 b) = 1#1 ↔ a < b := by
    show IntOp.cmpi .slt _ _ = 1#1 ↔ _
    rw [IntOp.cmpi_slt, toInt_ofNat32 a ha, toInt_ofNat32 b hb]; omega
  split
  · exact h.2 ‹_›
  · rename_i hn
    rcases BitVec.eq_zero_or_eq_one (Scalar.cmpi .slt (BitVec.ofNat 32 a) (BitVec.ofNat 32 b)) with h0 | h0
    · exact h0
    · exact absurd (h.1 h0) hn

/-- The floor division the kernel writes out, at a dividend that is not negative, is the division. -/
theorem w_floor (a d : Nat) (ha : a < 2 ^ 31) (hd : d < 2 ^ 31) (h0 : 0 < d) :
    Scalar.select
      (Scalar.andi
        (Scalar.cmpi .ne
          (Scalar.subi (Scalar.extui (Scalar.cmpi .sgt (BitVec.ofNat 32 a) 0#32)) (Scalar.extui (Scalar.cmpi .slt (BitVec.ofNat 32 a) 0#32)))
          (Scalar.subi (Scalar.extui (Scalar.cmpi .sgt (BitVec.ofNat 32 d) 0#32)) (Scalar.extui (Scalar.cmpi .slt (BitVec.ofNat 32 d) 0#32))))
        (Scalar.cmpi .ne (Scalar.remsi (BitVec.ofNat 32 a) (BitVec.ofNat 32 d)) 0#32))
      (Scalar.subi (Scalar.divsi (BitVec.ofNat 32 a) (BitVec.ofNat 32 d)) 1#32)
      (Scalar.divsi (BitVec.ofNat 32 a) (BitVec.ofNat 32 d)) = BitVec.ofNat 32 (a / d) := by
  have e0 : (0#32 : BitVec 32) = BitVec.ofNat 32 0 := rfl
  rw [w_divsi a d ha hd h0, w_remsi a d ha hd h0, e0, w_cmpi_sgt a 0 ha (by omega), w_cmpi_slt a 0 ha (by omega),
    w_cmpi_sgt d 0 hd (by omega), w_cmpi_slt d 0 hd (by omega), if_pos h0, if_neg (show ¬ a < 0 by omega), if_neg (show ¬ d < 0 by omega)]
  by_cases h : 0 < a
  · rw [if_pos h]
    have : Scalar.cmpi .ne (Scalar.subi (Scalar.extui 1#1) (Scalar.extui 0#1)) (Scalar.subi (Scalar.extui 1#1) (Scalar.extui 0#1)) = 0#1 := by decide
    rw [this]
    have h2 : ∀ x : BitVec 1, Scalar.andi 0#1 x = 0#1 := by decide
    rw [h2]
    rfl
  · obtain rfl : a = 0 := by omega
    rw [Nat.zero_mod]
    have : Scalar.cmpi .ne (BitVec.ofNat 32 0) (BitVec.ofNat 32 0) = 0#1 := by decide
    rw [this]
    have h2 : ∀ x : BitVec 1, Scalar.andi x 0#1 = 0#1 := by decide
    rw [h2]
    rfl

theorem w_iv (k : Nat) : Scf.iv 0#32 1#32 k = BitVec.ofNat 32 k := by
  unfold Scf.iv; simp

theorem w_muli_one (x : BitVec 32) : Scalar.muli x 1#32 = x := BitVec.mul_one x
theorem w_zero_addi (x : BitVec 32) : Scalar.addi 0#32 x = x := BitVec.zero_add x
theorem w_subi_zero (x : BitVec 32) : Scalar.subi x 0#32 = x := BitVec.sub_zero x
theorem w_indexCast (x : BitVec 32) : Scalar.indexCast x = x := rfl

/-! ## The loops' trips -/

theorem t1_lt (k : Fin k0_t1_loop.trips) : k.val < 16 := Nat.lt_of_lt_of_le k.isLt k0_t1_abs.2.1
theorem t2_lt (k : Fin k0_t2_loop.trips) : k.val < 272 := Nat.lt_of_lt_of_le k.isLt k0_t2_abs.2.1
theorem t3_lt (k : Fin k0_t3_loop.trips) : k.val < 16 := Nat.lt_of_lt_of_le k.isLt k0_t3_abs.2.1
theorem t1_trips : k0_t1_loop.trips = 16 := by decide
theorem t2_trips : k0_t2_loop.trips = 272 := by decide
theorem t3_trips : k0_t3_loop.trips = 16 := by decide

/-! ## The offsets -/

theorem off2_eq (k : Fin k0_t1_loop.trips) : k0_off2 k = ![k.val] := by
  have := t1_lt k
  simp only [k0_off2, w_iv, w_muli_one, w_zero_addi, w_indexCast]
  rw [toNat_ofNat32 _ (by omega)]

theorem off3_eq (b : Fin k0_t2_loop.trips) (e : Fin k0_t3_loop.trips) : k0_off3 b e = ![b.val, e.val] := by
  have := t2_lt b; have := t3_lt e
  simp only [k0_off3, w_iv, w_muli_one, w_zero_addi, w_indexCast]
  rw [toNat_ofNat32 _ (by omega), toNat_ofNat32 _ (by omega)]

theorem off4_eq (e : Fin k0_t3_loop.trips) : k0_off4 e = ![e.val] := by
  have := t3_lt e
  simp only [k0_off4, w_iv, w_muli_one, w_zero_addi, w_indexCast]
  rw [toNat_ofNat32 _ (by omega)]

theorem off5_eq (e : Fin k0_t3_loop.trips) : k0_off5 e = ![e.val] := off4_eq e
theorem off10_eq (e : Fin k0_t3_loop.trips) : k0_off10 e = ![e.val] := off4_eq e
theorem off20_eq (e : Fin k0_t3_loop.trips) : k0_off20 e = ![e.val] := off4_eq e

theorem off9_eq (e : Fin k0_t3_loop.trips) : k0_off9 e = ![e.val, 0, 0] := by
  have := t3_lt e
  simp only [k0_off9, w_iv, w_muli_one, w_zero_addi, w_indexCast]
  rw [toNat_ofNat32 _ (by omega)]

theorem off6_eq (s : Nat) (hs : s < 2 ^ 31) : k0_off6 (BitVec.ofNat 32 s) = ![min s 69376, 0] := by
  simp only [k0_off6]
  rw [w_minsi s 69376 hs (by omega), toNat_ofNat32 _ (by omega)]

theorem off8_eq (s : Nat) (hs : s < 2 ^ 31) : k0_off8 (BitVec.ofNat 32 s) = ![s - min s 69376, 0] := by
  simp only [k0_off8, w_indexCast]
  rw [w_minsi s 69376 hs (by omega), w_subi _ _ (by omega), toNat_ofNat32 _ (by omega)]

theorem off7_eq (s : Nat) (hs : s < 2 ^ 31) : k0_off7 (BitVec.ofNat 32 s) = ![s / 32, 0, 0] := by
  simp only [k0_off7]
  rw [w_floor s 32 hs (by omega) (by omega), toNat_ofNat32 _ (by omega)]

/-- The page of the ring a chunk of rows goes to, and the row of the page. -/
theorem off12_eq (e : Fin k0_t3_loop.trips) (s o c : Nat) (hs : s < 2 ^ 31) (ho : o < 2 ^ 31) (hso : o / 32 * 32 ≤ s) (hc : c < 2056) :
    k0_off12 e (BitVec.ofNat 32 s) (BitVec.ofNat 32 o) (BitVec.ofNat 32 c) = ![(e.val * 2 + (s - o / 32 * 32) / 256 % 2) * 2056 + c, 0] := by
  have := t3_lt e
  simp only [k0_off12, w_iv, w_muli_one, w_zero_addi, w_indexCast]
  rw [w_andi_m32 o ho, w_subi _ _ hso, w_floor _ 256 (by omega) (by omega) (by omega), w_andi_one, w_muli, w_addi, w_muli, w_addi,
    toNat_ofNat32 _ (by omega)]

theorem chk2_of (s : Nat) (hs : s ≤ 69600) (h32 : 32 ∣ s) : k0_chk2 (BitVec.ofNat 32 s) := by
  have h6 := off6_eq s (by omega)
  have h7 := off7_eq s (by omega)
  have h8 := off8_eq s (by omega)
  have e1 : (k0_mult1 (BitVec.ofNat 32 s)).toNat = min s 69376 := by
    simp only [k0_mult1]; rw [w_minsi s 69376 (by omega) (by omega), toNat_ofNat32 _ (by omega)]
  have e2 : (k0_mult2 (BitVec.ofNat 32 s)).toNat = s - min s 69376 := by
    simp only [k0_mult2]; rw [w_minsi s 69376 (by omega) (by omega), w_subi _ _ (by omega), toNat_ofNat32 _ (by omega)]
  have i6 : ∀ a, (k0_off6 (BitVec.ofNat 32 s)) a + S256x1536.size a ≤ S69632x1536.size a := by
    rw [h6]; intro a; fin_cases a
    · show min s 69376 + 256 ≤ 69632; omega
    · show 0 + 1536 ≤ 1536; omega
  refine ⟨by rw [e1]; omega, i6, ?_, ?_, by rw [e2]; omega, ?_⟩
  · intro hinb
    refine Affine.words_of_packed (Affine.packed_dvd (of_decide_eq_true rfl) ?_ (by decide))
    show 4 ∣ k0_off6 (BitVec.ofNat 32 s) 0
    rw [h6]; show 4 ∣ min s 69376; omega
  · rw [h7]; intro a; fin_cases a
    · show s / 32 + 1 ≤ 2176; omega
    · show 0 + 2 ≤ 2; omega
    · show 0 + 128 ≤ 128; omega
  · rw [h8]; intro a; fin_cases a
    · show s - min s 69376 + 256 ≤ 512; omega
    · show 0 + 1536 ≤ 1536; omega

theorem chk3_of (e : Fin k0_t3_loop.trips) (s o : Nat) (hs : s < 2 ^ 31) (ho : o < 2 ^ 31) (hso : o / 32 * 32 ≤ s) :
    k0_chk3 e (BitVec.ofNat 32 s) (BitVec.ofNat 32 o) := by
  intro r
  have := t3_lt e
  have hr := r.isLt
  rw [off12_eq e s o (257 * r.val) hs ho hso (by omega)]
  intro a; fin_cases a
  · show (e.val * 2 + (s - o / 32 * 32) / 256 % 2) * 2056 + 257 * r.val + 256 ≤ 65792; omega
  · show 0 + 128 ≤ 128; omega

/-! ## The item loop's trip count -/

theorem t4_loop_eq (need done : Nat) (hn : need < 2 ^ 30) (hd : done ≤ need + 255) :
    k0_t4_loop (BitVec.ofNat 32 need) (BitVec.ofNat 32 done) = ⟨0#32, BitVec.ofNat 32 ((need + 255 - done) / 256), 1#32⟩ := by
  have hx : Scalar.subi (Scalar.addi (Scalar.subi (BitVec.ofNat 32 need) (BitVec.ofNat 32 done)) 256#32) 1#32
      = BitVec.ofNat 32 (need + 255 - done) := by
    show (BitVec.ofNat 32 need - BitVec.ofNat 32 done) + 256#32 - 1#32 = _
    apply BitVec.eq_of_toNat_eq
    simp only [BitVec.toNat_sub, BitVec.toNat_add, BitVec.toNat_ofNat]
    omega
  simp only [k0_t4_loop, hx]
  rw [w_floor _ 256 (by omega) (by omega) (by omega)]
  have h00 : Scalar.subi 1#32 1#32 = 0#32 := by decide
  rw [h00, w_subi_zero]
  have hz : ∀ x : BitVec 32, Scalar.addi x 0#32 = x := fun x => BitVec.add_zero x
  rw [hz]
  have hdiv : Scalar.divsi (BitVec.ofNat 32 ((need + 255 - done) / 256)) 1#32 = BitVec.ofNat 32 ((need + 255 - done) / 256) := by
    have := w_divsi ((need + 255 - done) / 256) 1 (by omega) (by omega) (by omega)
    rwa [Nat.div_one] at this
  simp only [w_subi_zero, w_muli_one, w_zero_addi, hdiv]

theorem t5_loop_eq (need done : Nat) (hn : need < 2 ^ 30) (hd : done ≤ need + 255) :
    k0_t5_loop (BitVec.ofNat 32 need) (BitVec.ofNat 32 done)
      = ⟨BitVec.ofNat 32 ((need + 255 - done) / 256), BitVec.ofNat 32 ((need + 255 - done) / 256), 1#32⟩ := by
  have h := t4_loop_eq need done hn hd
  have hub : (k0_t4_loop (BitVec.ofNat 32 need) (BitVec.ofNat 32 done)).ub = BitVec.ofNat 32 ((need + 255 - done) / 256) := by rw [h]
  have hx : Scalar.subi (Scalar.addi (Scalar.subi (BitVec.ofNat 32 need) (BitVec.ofNat 32 done)) 256#32) 1#32
      = BitVec.ofNat 32 (need + 255 - done) := by
    show (BitVec.ofNat 32 need - BitVec.ofNat 32 done) + 256#32 - 1#32 = _
    apply BitVec.eq_of_toNat_eq
    simp only [BitVec.toNat_sub, BitVec.toNat_add, BitVec.toNat_ofNat]
    omega
  simp only [k0_t5_loop, hx]
  rw [w_floor _ 256 (by omega) (by omega) (by omega)]
  have h00 : Scalar.subi 1#32 1#32 = 0#32 := by decide
  rw [h00, w_subi_zero]
  have hz : ∀ x : BitVec 32, Scalar.addi x 0#32 = x := fun x => BitVec.add_zero x
  rw [hz]
  have hdiv : Scalar.divsi (BitVec.ofNat 32 ((need + 255 - done) / 256)) 1#32 = BitVec.ofNat 32 ((need + 255 - done) / 256) := by
    have := w_divsi ((need + 255 - done) / 256) 1 (by omega) (by omega) (by omega)
    rwa [Nat.div_one] at this
  simp only [w_subi_zero, w_muli_one, w_zero_addi, hdiv]

theorem trips_unit (n : Nat) (hn : n < 2 ^ 30) : Scf.trips 0#32 (BitVec.ofNat 32 n) 1#32 = n := by
  unfold Scf.trips
  rw [toInt_ofNat32 n (by omega)]
  have h0 : (0#32 : BitVec 32).toInt = 0 := by decide
  have h1 : (1#32 : BitVec 32).toInt = 1 := by decide
  rw [h0, h1]; omega

theorem trips_none (n : Nat) (hn : n < 2 ^ 30) : Scf.trips (BitVec.ofNat 32 n) (BitVec.ofNat 32 n) 1#32 = 0 := by
  unfold Scf.trips
  rw [toInt_ofNat32 n (by omega)]
  have h1 : (1#32 : BitVec 32).toInt = 1 := by decide
  rw [h1]; omega

theorem t4_trips (need done : Nat) (hn : need < 2 ^ 30) (hd : done ≤ need + 255) :
    (k0_t4_loop (BitVec.ofNat 32 need) (BitVec.ofNat 32 done)).trips = (need + 255 - done) / 256 := by
  rw [t4_loop_eq need done hn hd]; exact trips_unit _ (by omega)

theorem t5_trips (need done : Nat) (hn : need < 2 ^ 30) (hd : done ≤ need + 255) :
    (k0_t5_loop (BitVec.ofNat 32 need) (BitVec.ofNat 32 done)).trips = 0 := by
  rw [t5_loop_eq need done hn hd]; exact trips_none _ (by omega)

theorem chk1_of (need done : Nat) (hn : need < 2 ^ 30) (hd : done ≤ need + 255) :
    k0_chk1 (BitVec.ofNat 32 need) (BitVec.ofNat 32 done) := by
  have h1 : (1#32 : BitVec 32).toInt = 1 := by decide
  have h0 : (0#32 : BitVec 32).toInt = 0 := by decide
  constructor
  · rw [t4_loop_eq need done hn hd]
    refine ⟨by rw [h1]; omega, ?_⟩
    show (0#32 : BitVec 32).toInt + (Scf.trips _ _ _ : ℕ) * (1#32 : BitVec 32).toInt < _
    rw [trips_unit _ (by omega), h0, h1]; omega
  · rw [t5_loop_eq need done hn hd]
    refine ⟨by rw [h1]; omega, ?_⟩
    show (BitVec.ofNat 32 ((need + 255 - done) / 256)).toInt + (Scf.trips _ _ _ : ℕ) * (1#32 : BitVec 32).toInt < _
    rw [trips_none _ (by omega), toInt_ofNat32 _ (by omega), h1]; omega

/-! ## The blocks' offsets -/

theorem off38_eq (v : Nat) (hv : v < 2 ^ 32) : k0_off38 (BitVec.ofNat 32 v) = ![v, 0] := by
  simp only [k0_off38, w_indexCast]
  rw [toNat_ofNat32 _ hv]

theorem chk6_of (v : Nat) (hv : v + 1799 < 65792) : k0_chk6 (BitVec.ofNat 32 v) := by
  intro a
  rw [off38_eq v (by omega)]
  fin_cases a
  · right; show v + 257 * (8 - 1) < 65792; omega
  · right; show 0 + 1 * (128 - 1) < 128; omega

theorem off37_eq (b : Fin k0_t2_loop.trips) : k0_off37 b = ![b.val, 0, 0] := by
  have := t2_lt b
  simp only [k0_off37, w_iv, w_muli_one, w_zero_addi, w_indexCast]
  rw [toNat_ofNat32 _ (by omega)]

theorem off294_eq (i : grid0.Coords) (b : Fin k0_t2_loop.trips) : k0_off294 i b = ![b.val * 128, (i 0).val * 1024] := by
  have := t2_lt b
  have h3 : (i 0).val < 3 := (i 0).isLt
  simp only [k0_off294, w_iv, w_muli_one, w_zero_addi, w_indexCast]
  rw [w_muli, w_muli, toNat_ofNat32 _ (by omega), toNat_ofNat32 _ (by omega)]

theorem off1_eq (i : grid0.Coords) : k0_off1 i = ![0, 0, (i 0).val * 1024] := by
  have h3 : (i 0).val < 3 := (i 0).isLt
  simp only [k0_off1]
  rw [w_muli, toNat_ofNat32 _ (by omega)]

end Cert.KernelIdeal.Hand
-- ==== Proof.Ideal.Pay.lean ====
module

public import proofs.«01_k».proof.Proof.Ideal.Words
public import Idealize.ShloMosaic.Lib.Pointwise

@[expose] public section

set_option maxRecDepth 8192
set_option maxHeartbeats 4000000

noncomputable section

namespace Cert.KernelIdeal.Hand

open Cert.KernelIdeal.Gen
open Idealize.ShloMosaic
open Idealize.ShloMosaic.Pointwise

variable {F : FTy → Type} [FloatOps F]

/-- One scaled product: the accumulator at lane `128 cc + q`, times the row's scale, times the column's scale. -/
def itemPay (cc : ℕ) (hcc : cc < 8) (acc : FVec F S256x1024 .f32) (rs : FVec F S256x128 .f32) (ws : Vec F S1x1x128 .f32)
    (p : Fin 256) (q : Fin 128) : F .f32 :=
  FloatOps.mulf (FloatOps.mulf (acc (ix2 p (⟨128 * cc + q.val, by omega⟩ : Fin 1024))) (rs (ix2 p q))) (ws (ix3 (0 : Fin 1) (0 : Fin 1) q))

theorem ws_apply (ws : Vec F S1x1x128 .f32) (p : Fin 256) (q : Fin 128) :
    broadcastTo S256x128 (shapeCast S1x128 ws shapeCasts_S1x1x128_S1x128) broadcasts_S1x128_S256x128 (ix2 p q) = ws (ix3 (0 : Fin 1) (0 : Fin 1) q) := by
  pointwise

theorem pay3_apply (acc : FVec F S256x1024 .f32) (rs : FVec F S256x128 .f32) (ws : Vec F S1x1x128 .f32) (p : Fin 256) (q : Fin 128) :
    k0_pay3 acc rs ws (ix2 p q) = itemPay 0 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay4_apply (acc : FVec F S256x1024 .f32) (rs : FVec F S256x128 .f32) (ws : Vec F S1x1x128 .f32) (p : Fin 256) (q : Fin 128) :
    k0_pay4 acc rs ws (ix2 p q) = itemPay 1 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay5_apply (acc : FVec F S256x1024 .f32) (rs : FVec F S256x128 .f32) (ws : Vec F S1x1x128 .f32) (p : Fin 256) (q : Fin 128) :
    k0_pay5 acc rs ws (ix2 p q) = itemPay 2 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay7_apply (acc : FVec F S256x1024 .f32) (rs : FVec F S256x128 .f32) (ws : Vec F S1x1x128 .f32) (p : Fin 256) (q : Fin 128) :
    k0_pay7 (k0_pay6 acc rs ws) (ix2 p q) = itemPay 3 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay8_apply (acc : FVec F S256x1024 .f32) (rs : FVec F S256x128 .f32) (ws : Vec F S1x1x128 .f32) (p : Fin 256) (q : Fin 128) :
    k0_pay8 acc rs ws (ix2 p q) = itemPay 4 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay9_apply (acc : FVec F S256x1024 .f32) (rs : FVec F S256x128 .f32) (ws : Vec F S1x1x128 .f32) (p : Fin 256) (q : Fin 128) :
    k0_pay9 acc rs ws (ix2 p q) = itemPay 5 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay10_apply (acc : FVec F S256x1024 .f32) (rs : FVec F S256x128 .f32) (ws : Vec F S1x1x128 .f32) (p : Fin 256) (q : Fin 128) :
    k0_pay10 acc rs ws (ix2 p q) = itemPay 6 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay21_apply (acc : FVec F S256x1024 .f32) (rs : FVec F S256x128 .f32) (ws : Vec F S1x1x128 .f32) (p : Fin 256) (q : Fin 128) :
    k0_pay21 acc rs ws (ix2 p q) = itemPay 7 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

end Cert.KernelIdeal.Hand
-- ==== Proof.Ideal.Item.lean ====
module

public import proofs.«01_k».proof.Proof.Ideal.Pay
public import Idealize.ShloMosaic.Lib.WritesUnit
public import Idealize.ShloMosaic.Lib.VecWindow
public import Idealize.ShloMosaic.Lib.CellWrites

@[expose] public section

set_option maxRecDepth 8192
set_option maxHeartbeats 4000000

noncomputable section

namespace Cert.KernelIdeal.Hand

open Cert.KernelIdeal.Gen
open Idealize.ShloMosaic
open Idealize.ShloMosaic.Pointwise

variable {F : FTy → Type} [FloatOps F]

theorem off11_eq (e : Fin k0_t3_loop.trips) : k0_off11 e = ![e.val, 0, 128 * 0] := off9_eq e
theorem off13_eq (e : Fin k0_t3_loop.trips) : k0_off13 e = ![e.val, 0, 128 * 1] := by
  have h := off9_eq e; funext a; fin_cases a <;> first | rfl | exact congrFun h 0
theorem off14_eq (e : Fin k0_t3_loop.trips) : k0_off14 e = ![e.val, 0, 128 * 2] := by
  have h := off9_eq e; funext a; fin_cases a <;> first | rfl | exact congrFun h 0
theorem off15_eq (e : Fin k0_t3_loop.trips) : k0_off15 e = ![e.val, 0, 128 * 3] := by
  have h := off9_eq e; funext a; fin_cases a <;> first | rfl | exact congrFun h 0
theorem off16_eq (e : Fin k0_t3_loop.trips) : k0_off16 e = ![e.val, 0, 128 * 4] := by
  have h := off9_eq e; funext a; fin_cases a <;> first | rfl | exact congrFun h 0
theorem off17_eq (e : Fin k0_t3_loop.trips) : k0_off17 e = ![e.val, 0, 128 * 5] := by
  have h := off9_eq e; funext a; fin_cases a <;> first | rfl | exact congrFun h 0
theorem off18_eq (e : Fin k0_t3_loop.trips) : k0_off18 e = ![e.val, 0, 128 * 6] := by
  have h := off9_eq e; funext a; fin_cases a <;> first | rfl | exact congrFun h 0
theorem off19_eq (e : Fin k0_t3_loop.trips) : k0_off19 e = ![e.val, 0, 128 * 7] := by
  have h := off9_eq e; funext a; fin_cases a <;> first | rfl | exact congrFun h 0

theorem lhs_read (arg3 : Memref sig .tc .hbm S69632x1536 .fp8e4m3) (arg11 : Memref sig .tc .vmem S512x1536 .fp8e4m3)
    (X3 : BufTy.Contents (Elt F) arg3.view.ty) (f11 : BufTy.Contents (Elt F) arg11.view.ty) (r : BitVec 32) (k2 : k0_chk2 r)
    (s : ℕ) (hs : s ≤ 69600) (hr : r = BitVec.ofNat 32 s) (p : Fin 256) (k : Fin 1536) (h : s + p.val < 69632)
    (w : S256x1536.Idx → Elt F .fp8e4m3)
    (hw : w = View.read (Elt F) (arg3.slice (Rect.unit (s := S69632x1536) (k0_off6 r) S256x1536.size (k0_off6_inb r k2)) (fun _ => rfl)).view X3)
    (inb0) :
    View.readAt (Elt F) arg11.view (Rect.unit (s := S512x1536) (k0_off8 r) S256x1536.size (k0_off8_inb r k2)).toLoadRect
      (arg11.view.writes (Elt F) f11 [⟨Rect.unit (s := S512x1536) ![0, 0] S256x1536.size inb0, w⟩]) (ix2 p k)
    = arg3.view.read (Elt F) X3 (ix2 (⟨s + p.val, h⟩ : Fin 69632) k) := by
  subst hr
  have h6 := off6_eq s (by omega)
  have h8 := off8_eq s (by omega)
  have hp := p.isLt
  have hk := k.isLt
  have hmin : min s 69376 + (s - min s 69376) = s := by omega
  refine (View.read_writes_cons_rows_of_mem (o := 0) arg11.view f11 inb0 w [] _
    (ix2 (⟨s - min s 69376 + p.val, by omega⟩ : Fin 256) k) rfl ?_ ?_).trans ?_
  · show k0_off8 (BitVec.ofNat 32 s) 0 + 1 * p.val = 0 + (s - min s 69376 + p.val)
    rw [h8]; show s - min s 69376 + 1 * p.val = _; omega
  · show k0_off8 (BitVec.ofNat 32 s) 1 + 1 * k.val = k.val
    rw [h8]; show 0 + 1 * k.val = _; omega
  · subst hw
    refine congrArg (arg3.view.read (Elt F) X3) ?_
    funext a
    fin_cases a
    · refine Fin.ext ?_
      show k0_off6 (BitVec.ofNat 32 s) 0 + 1 * (s - min s 69376 + p.val) = s + p.val
      rw [h6]; show min s 69376 + 1 * (s - min s 69376 + p.val) = s + p.val; omega
    · refine Fin.ext ?_
      show k0_off6 (BitVec.ofNat 32 s) 1 + 1 * k.val = k.val
      rw [h6]; show 0 + 1 * k.val = _; omega

theorem resh_2x128 (h : (S2x128).numel = (S1x2x128).numel) (a : Fin 2) (b : Fin 128) :
    Shape.reshapeEquiv h (ix2 a b) = ix3 (0 : Fin 1) a b := by
  pointwise

theorem rs_read (arg4 : Memref sig .tc .hbm S2176x2x128 .f32) (arg12 : Memref sig .tc .vmem S2x128 .f32)
    (X4 : BufTy.Contents (Elt F) arg4.view.ty) (f12 : BufTy.Contents (Elt F) arg12.view.ty) (r : BitVec 32) (k2 : k0_chk2 r)
    (s : ℕ) (hs : s ≤ 69600) (hr : r = BitVec.ofNat 32 s) (g : ℕ) (hg : g < 2) (q : Fin 128) (hsq : S1x2x128.Squeezes S2x128)
    (w : S2x128.Idx → Elt F .f32)
    (hw : w = View.read (Elt F) ((arg4.slice (Rect.unit (s := S2176x2x128) (k0_off7 r) S1x2x128.size (k0_off7_inb r k2)) (fun _ => rfl)).squeeze S2x128 hsq).view X4)
    (inb0) :
    View.readAt (Elt F) arg12.view (Rect.unit (s := S2x128) ![g, 0] S1x128.size inb0).toLoadRect
      (arg12.view.writes (Elt F) f12 [⟨Rect.whole S2x128, w⟩]) (ix2 (0 : Fin 1) q)
    = arg4.view.read (Elt F) X4 (ix3 (⟨s / 32, by omega⟩ : Fin 2176) (⟨g, hg⟩ : Fin 2) q) := by
  subst hr
  have h7 := off7_eq s (by omega)
  have e1 : (Rect.unit (s := S2x128) ![g, 0] S1x128.size inb0).toLoadRect.idx (ix2 (0 : Fin 1) q) = (Rect.whole S2x128).emb (ix2 (⟨g, hg⟩ : Fin 2) q) := by
    funext a
    fin_cases a
    · exact Fin.ext (by show g + 1 * 0 = 0 + 1 * g; omega)
    · exact Fin.ext (by show 0 + 1 * q.val = 0 + 1 * q.val; omega)
  refine (congrArg (arg12.view.read (Elt F) _) e1).trans ((View.read_writes_cons_emb arg12.view f12 (Rect.whole S2x128) w [] (ix2 (⟨g, hg⟩ : Fin 2) q)).trans ?_)
  subst hw
  show arg4.view.read (Elt F) X4 ((Rect.unit (s := S2176x2x128) (k0_off7 (BitVec.ofNat 32 s)) S1x2x128.size (k0_off7_inb _ k2)).emb
    (Shape.reshapeEquiv hsq.numel_eq (ix2 (⟨g, hg⟩ : Fin 2) q))) = _
  rw [resh_2x128]
  refine congrArg (arg4.view.read (Elt F) X4) ?_
  funext a
  fin_cases a
  · refine Fin.ext ?_
    show k0_off7 (BitVec.ofNat 32 s) 0 + 1 * 0 = s / 32
    rw [h7]; rfl
  · refine Fin.ext ?_
    show k0_off7 (BitVec.ofNat 32 s) 1 + 1 * g = g
    rw [h7]; show 0 + 1 * g = _; omega
  · refine Fin.ext ?_
    show k0_off7 (BitVec.ofNat 32 s) 2 + 1 * q.val = q.val
    rw [h7]; show 0 + 1 * q.val = _; omega

/-- What a read of a unit-stride rectangle at a known offset gives, in coordinates. -/
theorem read3 {d : Fin 3 → ℕ} {sp : Space} {el : EltTy} (v : View sig .tc sp ⟨3, d⟩ el) (X : BufTy.Contents (Elt F) v.ty)
    {off size : Fin 3 → ℕ} (inb) {a0 a1 a2 : ℕ} (ho : off = ![a0, a1, a2])
    (x : (⟨3, size⟩ : Shape).Idx) (y : (⟨3, d⟩ : Shape).Idx)
    (h0 : (y 0).val = a0 + (x 0).val) (h1 : (y 1).val = a1 + (x 1).val) (h2 : (y 2).val = a2 + (x 2).val) :
    View.readAt (Elt F) v (Rect.unit (s := ⟨3, d⟩) off size inb).toLoadRect X x = v.read (Elt F) X y := by
  subst ho
  refine congrArg (v.read (Elt F) X) ?_
  funext a
  fin_cases a
  · exact Fin.ext (by show a0 + 1 * (x 0).val = (y 0).val; omega)
  · exact Fin.ext (by show a1 + 1 * (x 1).val = (y 1).val; omega)
  · exact Fin.ext (by show a2 + 1 * (x 2).val = (y 2).val; omega)

end Cert.KernelIdeal.Hand
-- ==== Proof.Ideal.Trip.lean ====
module

public import proofs.«01_k».proof.Proof.Ideal.Item
public import proofs.«01_k».proof.Proof.Gen.KernelIdeal.Points
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first row of the page of the ring that the chunk of expert `e` starting at row `s` goes to, `o` the expert's first
row. -/
def pageBase (e s o : ℕ) : ℕ := (e * 2 + (s - o / 32 * 32) / 256 % 2) * 2056

/-- What a scaled product of one chunk is asked to be: `P e row col x` says that `x` may stand for row `row` and column
`col` of expert `e`'s product. -/
def PayOK (P : ℕ → ℕ → ℕ → Elt F .f32 → Prop) (H : S69632x1536.Idx → Elt F .fp8e4m3) (HS : S2176x2x128.Idx → Elt F .f32)
    (WS : S16x1x1024.Idx → Elt F .f32) (Wt : S16x1536x1024.Idx → Elt F .fp8e4m3) : Prop :=
  ∀ (e : Fin 16) (s : ℕ) (hs : s ≤ 69600) (h32 : 32 ∣ s) (lhs : S256x1536.Idx → Elt F .fp8e4m3) (wb : S1x1536x1024.Idx → Elt F .fp8e4m3)
    (r0 r1 : S1x128.Idx → Elt F .f32),
    (∀ (p : Fin 256) (k : Fin 1536) (h : s + p.val < 69632), lhs (ix2 p k) = H (ix2 (⟨s + p.val, h⟩ : Fin 69632) k)) →
    (∀ (k : Fin 1536) (n : Fin 1024), wb (ix3 (0 : Fin 1) k n) = Wt (ix3 e k n)) →
    (∀ q : Fin 128, r0 (ix2 (0 : Fin 1) q) = HS (ix3 (⟨s / 32, by omega⟩ : Fin 2176) (0 : Fin 2) q)) →
    (∀ q : Fin 128, r1 (ix2 (0 : Fin 1) q) = HS (ix3 (⟨s / 32, by omega⟩ : Fin 2176) (1 : Fin 2) q)) →
    ∀ (p : Fin 256) (q : Fin 128) (cc : ℕ) (hcc : cc < 8) (ws : S1x1x128.Idx → Elt F .f32),
      (∀ q : Fin 128, ws (ix3 (0 : Fin 1) (0 : Fin 1) q) = WS (ix3 e (0 : Fin 1) (⟨128 * cc + q.val, by omega⟩ : Fin 1024))) →
      s + p.val < 69632 → P e.val (s + p.val) (128 * cc + q.val) (itemPay cc hcc (k0_pay1 lhs wb) (k0_pay2 r0 r1) ws p q)

/-- One chunk's effect on the ring and on the word of rows done. -/
structure ItemStep (P : ℕ → ℕ → ℕ → Elt F .f32 → Prop) (e s o : ℕ) (Y : S65792x128.Idx → Elt F .f32) (D : S16.Idx → Elt F .i32)
    (Y' : S65792x128.Idx → Elt F .f32) (D' : S16.Idx → Elt F .i32) : Prop where
  miss : ∀ z : S65792x128.Idx, ((z 0).val < pageBase e s o ∨ pageBase e s o + 2056 ≤ (z 0).val) → Y' z = Y z
  hit : ∀ (z : S65792x128.Idx) (cc p : ℕ), cc < 8 → p < 256 → (z 0).val = pageBase e s o + 257 * cc + p → s + p < 69632 →
    P e (s + p) (128 * cc + (z 1).val) (Y' z)
  done : ∀ x : S16.Idx, D' x = if (x 0).val = e then BitVec.ofNat 32 (s + 256) else D x

section Pieces
variable (arg13 : Memref sig .tc .vmem S65792x128 .f32) (Y : BufTy.Contents (Elt F) arg13.view.ty)

theorem rows_miss {off : Fin 2 → ℕ} {o : ℕ} (inb) (w : S256x128.Idx → Elt F .f32) (L) (z : S65792x128.Idx) (a : Elt F .f32)
    (hoff : off = ![o, 0]) (hz : (z 0).val < o ∨ o + 256 ≤ (z 0).val)
    (h : arg13.view.read (Elt F) (arg13.view.writes (Elt F) Y L) z = a) :
    arg13.view.read (Elt F) (arg13.view.writes (Elt F) Y (⟨Rect.unit (s := S65792x128) off S256x128.size inb, w⟩ :: L)) z = a :=
  (View.read_writes_cons_rows_of_not_mem arg13.view Y inb w L z hoff rfl hz).trans h

theorem rows_hit {off : Fin 2 → ℕ} {o : ℕ} (inb) (w : S256x128.Idx → Elt F .f32) (L) (z : S65792x128.Idx) (p : Fin 256) (q : Fin 128)
    (hoff : off = ![o, 0]) (hz : (z 0).val = o + p.val) (hq : (z 1).val = q.val) :
    arg13.view.read (Elt F) (arg13.view.writes (Elt F) Y (⟨Rect.unit (s := S65792x128) off S256x128.size inb, w⟩ :: L)) z = w (ix2 p q) :=
  View.read_writes_cons_rows_of_mem arg13.view Y inb w L z (ix2 p q) hoff hz hq

theorem pieces_hit (ro : ℕ → ℕ → ℕ → Elt F .f32 → Prop) {base s e : ℕ} (off : BitVec 32 → Fin 2 → ℕ)
    (hoff : ∀ cc : ℕ, cc < 2056 → off (BitVec.ofNat 32 cc) = ![base + cc, 0])
    (w0 w1 w2 w3 w4 w5 w6 w7 : S256x128.Idx → Elt F .f32) (i0) (i1) (i2) (i3) (i4) (i5) (i6) (i7)
    (h0 : ∀ (p : Fin 256) (q : Fin 128), s + p.val < 69632 → ro e (s + p.val) (128 * 0 + q.val) (w0 (ix2 p q)))
    (h1 : ∀ (p : Fin 256) (q : Fin 128), s + p.val < 69632 → ro e (s + p.val) (128 * 1 + q.val) (w1 (ix2 p q)))
    (h2 : ∀ (p : Fin 256) (q : Fin 128), s + p.val < 69632 → ro e (s + p.val) (128 * 2 + q.val) (w2 (ix2 p q)))
    (h3 : ∀ (p : Fin 256) (q : Fin 128), s + p.val < 69632 → ro e (s + p.val) (128 * 3 + q.val) (w3 (ix2 p q)))
    (h4 : ∀ (p : Fin 256) (q : Fin 128), s + p.val < 69632 → ro e (s + p.val) (128 * 4 + q.val) (w4 (ix2 p q)))
    (h5 : ∀ (p : Fin 256) (q : Fin 128), s + p.val < 69632 → ro e (s + p.val) (128 * 5 + q.val) (w5 (ix2 p q)))
    (h6 : ∀ (p : Fin 256) (q : Fin 128), s + p.val < 69632 → ro e (s + p.val) (128 * 6 + q.val) (w6 (ix2 p q)))
    (h7 : ∀ (p : Fin 256) (q : Fin 128), s + p.val < 69632 → ro e (s + p.val) (128 * 7 + q.val) (w7 (ix2 p q)))
    (z : S65792x128.Idx) (cc p : ℕ) (hcc : cc < 8) (hp : p < 256) (hz : (z 0).val = base + 257 * cc + p) (hsp : s + p < 69632) :
    ro e (s + p) (128 * cc + (z 1).val) (arg13.view.read (Elt F) (arg13.view.writes (Elt F) Y [
      ⟨Rect.unit (s := S65792x128) (off 1799#32) S256x128.size i7, w7⟩,
      ⟨Rect.unit (s := S65792x128) (off 1542#32) S256x128.size i6, w6⟩,
      ⟨Rect.unit (s := S65792x128) (off 1285#32) S256x128.size i5, w5⟩,
      ⟨Rect.unit (s := S65792x128) (off 1028#32) S256x128.size i4, w4⟩,
      ⟨Rect.unit (s := S65792x128) (off 771#32) S256x128.size i3, w3⟩,
      ⟨Rect.unit (s := S65792x128) (off 514#32) S256x128.size i2, w2⟩,
      ⟨Rect.unit (s := S65792x128) (off 257#32) S256x128.size i1, w1⟩,
      ⟨Rect.unit (s := S65792x128) (off 0#32) S256x128.size i0, w0⟩]) z) := by
  have m : ∀ (a b : Elt F .f32) (cc : ℕ), a = b → ro e (s + p) (128 * cc + (z 1).val) b → ro e (s + p) (128 * cc + (z 1).val) a :=
    fun a b cc h hb => h ▸ hb
  rcases (by omega : cc = 0 ∨ cc = 1 ∨ cc = 2 ∨ cc = 3 ∨ cc = 4 ∨ cc = 5 ∨ cc = 6 ∨ cc = 7) with h | h | h | h | h | h | h | h <;> subst h
  · refine m _ _ _ ?_ (h0 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    refine rows_miss arg13 Y _ _ _ z _ (hoff 514 (by omega)) (by omega) ?_
    refine rows_miss arg13 Y _ _ _ z _ (hoff 257 (by omega)) (by omega) ?_
    exact rows_hit arg13 Y _ _ _ z ⟨p, hp⟩ ⟨(z 1).val, (z 1).isLt⟩ (hoff 0 (by omega)) (by show _ = _ + p; omega) rfl
  · refine m _ _ _ ?_ (h1 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    refine rows_miss arg13 Y _ _ _ z _ (hoff 514 (by omega)) (by omega) ?_
    exact rows_hit arg13 Y _ _ _ z ⟨p, hp⟩ ⟨(z 1).val, (z 1).isLt⟩ (hoff 257 (by omega)) (by show _ = _ + p; omega) rfl
  · refine m _ _ _ ?_ (h2 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    exact rows_hit arg13 Y _ _ _ z ⟨p, hp⟩ ⟨(z 1).val, (z 1).isLt⟩ (hoff 514 (by omega)) (by show _ = _ + p; omega) rfl
  · refine m _ _ _ ?_ (h3 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    exact rows_hit arg13 Y _ _ _ z ⟨p, hp⟩ ⟨(z 1).val, (z 1).isLt⟩ (hoff 771 (by omega)) (by show _ = _ + p; omega) rfl
  · refine m _ _ _ ?_ (h4 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    exact rows_hit arg13 Y _ _ _ z ⟨p, hp⟩ ⟨(z 1).val, (z 1).isLt⟩ (hoff 1028 (by omega)) (by show _ = _ + p; omega) rfl
  · refine m _ _ _ ?_ (h5 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    exact rows_hit arg13 Y _ _ _ z ⟨p, hp⟩ ⟨(z 1).val, (z 1).isLt⟩ (hoff 1285 (by omega)) (by show _ = _ + p; omega) rfl
  · refine m _ _ _ ?_ (h6 ⟨p, hp⟩ ⟨(z 1).val, (z 1).isLt⟩ hsp)
    refine rows_miss arg13 Y _ _ _ z _ (hoff 1799 (by omega)) (by omega) ?_
    exact rows_hit arg13 Y _ _ _ z ⟨p, hp⟩ ⟨(z 1).val, (z 1).isLt⟩ (hoff 1542 (by omega)) (by show _ = _ + p; omega) rfl
  · refine m _ _ _ ?_ (h7 ⟨p, hp⟩ ⟨(z 1).val, (z 1).isLt⟩ hsp)
    exact rows_hit arg13 Y _ _ _ z ⟨p, hp⟩ ⟨(z 1).val, (z 1).isLt⟩ (hoff 1799 (by omega)) (by show _ = _ + p; omega) rfl

end Pieces

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- What the chunk loop holds besides the ring and the words of rows done. -/
def Rest4 (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty) : sProp 𝕄 :=
  iprop(∃ (f11 : BufTy.Contents (Elt F) arg11.view.ty) (f12 : BufTy.Contents (Elt F) arg12.view.ty) (W : Waits sig Unit),
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg6.view.loc (c : Thread nD τ) ↦[arg6.view.set]{fullShare} X6) ∗
    (arg10.view.loc (c : Thread nD τ) ↦[arg10.view.set]{fullShare} X10) ∗
    (arg11.view.loc (c : Thread nD τ) ↦[arg11.view.set]{fullShare} f11) ∗
    (arg12.view.loc (c : Thread nD τ) ↦[arg12.view.set]{fullShare} f12) ∗
    semVal ((c : Thread nD τ), SemLoc.dma arg20.sem) 0 ∗ semVal ((c : Thread nD τ), SemLoc.dma arg21.sem) 0 ∗ owes (c : Thread nD τ) 0 W)

/-- The ring and the words of rows done, at contents with the property `J` of what they read. -/
def Ring4 (J : (S65792x128.Idx → Elt F .f32) → (S16.Idx → Elt F .i32) → Prop) : sProp 𝕄 :=
  iprop(∃ (Y : BufTy.Contents (Elt F) arg13.view.ty) (D : BufTy.Contents (Elt F) arg18.view.ty),
    (arg13.view.loc (c : Thread nD τ) ↦[arg13.view.set]{fullShare} Y) ∗
    (arg18.view.loc (c : Thread nD τ) ↦[arg18.view.set]{fullShare} D) ∗
    ⌜J (arg13.view.read (Elt F) Y) (arg18.view.read (Elt F) D)⌝)

set_option maxHeartbeats 16000000 in
theorem t4_trip (k0_t2 : Fin k0_t2_loop.trips) (v6 c10 c12 : BitVec 32) (e : Fin k0_t3_loop.trips) (v2110 : BitVec 32)
    (v2113 v2115 : Elt F .i32) (hw : k0_chk1 v2113 v2115) (k : Fin (k0_t4_loop v2113 v2115).trips)
    (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (J J' : (S65792x128.Idx → Elt F .f32) → (S16.Idx → Elt F .i32) → Prop)
    (s o : ℕ) (hs : s ≤ 69600) (h32 : 32 ∣ s) (ho : o ≤ 69632) (hos : o / 32 * 32 ≤ s)
    (hD : ∀ Y D, J Y D → ∀ x : S16.Idx, (x 0).val = e.val → D x = BitVec.ofNat 32 s)
    (hX2 : ∀ x : S16.Idx, (x 0).val = e.val → arg2.view.read (Elt F) X2 x = BitVec.ofNat 32 o)
    (P : ℕ → ℕ → ℕ → Elt F .f32 → Prop)
    (hP : PayOK P (arg3.view.read (Elt F) X3) (arg4.view.read (Elt F) X4) (arg6.view.read (Elt F) X6) (arg10.view.read (Elt F) X10))
    (hJ : ∀ Y D Y' D', J Y D → ItemStep P e.val s o Y D Y' D' → J' Y' D') :
    iprop(Ring4 c arg13 arg18 J ∗ Rest4 c arg2 arg3 arg4 arg6 arg10 arg11 arg12 arg20 arg21 X2 X3 X4 X6 X10)
    ⊢ wp frame (wpE (defs₀ (F := F)) Variants.none (c : Thread nD τ) none) Set.univ
        (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw k PUnit.unit)
        (fun _ => iprop(Ring4 c arg13 arg18 J' ∗ Rest4 c arg2 arg3 arg4 arg6 arg10 arg11 arg12 arg20 arg21 X2 X3 X4 X6 X10)) := by
  unfold Ring4 Rest4
  iintro ⟨⟨%Y, %D, H13, H18, %hYD⟩, %f11, %f12, %W, H2, H3, H4, H6, H10, H11, H12, Hs20, Hs21, HW⟩
  replace hD := hD _ _ hYD
  have hd : arg18.view.readAt (Elt F) (Rect.unit (s := S16) (k0_off5 e) S1.size (k0_off5_inb e)).toLoadRect D
      (Shape.Idx.first (numel1_S1.symm ▸ Nat.one_pos)) = BitVec.ofNat 32 s := hD _ (by
    show k0_off5 e 0 + 1 * 0 = _; rw [off5_eq]; rfl)
  have hx : arg2.view.readAt (Elt F) (Rect.unit (s := S16) (k0_off10 e) S1.size (k0_off10_inb e)).toLoadRect X2
      (Shape.Idx.first (numel1_S1.symm ▸ Nat.one_pos)) = BitVec.ofNat 32 o := hX2 _ (by
    show k0_off10 e 0 + 1 * 0 = _; rw [off10_eq]; rfl)
  have k2 := chk2_of s hs h32
  rw [← hd] at k2
  have k3 := chk3_of e s o (by omega) (by omega) hos
  rw [← hd, ← hx] at k3
  unfold k0_t4_body
  sl_exec (disch := first | exact k2 | exact k3)
  sl_step
  isplitl [H13 H18]
  · iexists _; iexists _
    isplitl [H13]
    · iexact H13
    isplitl [H18]
    · iexact H18
    ipureintro
    refine hJ _ _ _ _ hYD ?_
    have hr : t4_trip.sl.r arg18 e D = BitVec.ofNat 32 s := hd
    have hr1 : t4_trip.sl.r_1 arg2 e X2 = BitVec.ofNat 32 o := hx
    have ho12 : ∀ cc : ℕ, cc < 2056 → k0_off12 e (t4_trip.sl.r arg18 e D) (t4_trip.sl.r_1 arg2 e X2) (BitVec.ofNat 32 cc)
        = ![pageBase e.val s o + cc, 0] := fun cc hcc => by
      rw [hr, hr1]; exact off12_eq e s o cc (by omega) (by omega) hos hcc
    generalize hb : pageBase e.val s o = base at ho12
    refine ⟨fun z hz => ?_, fun z cc p hcc hp hz hsp => ?_, fun x => ?_⟩
    · rw [hb] at hz
      refine rows_miss arg13 Y _ _ _ z _ (ho12 1799 (by omega)) (by omega) ?_
      refine rows_miss arg13 Y _ _ _ z _ (ho12 1542 (by omega)) (by omega) ?_
      refine rows_miss arg13 Y _ _ _ z _ (ho12 1285 (by omega)) (by omega) ?_
      refine rows_miss arg13 Y _ _ _ z _ (ho12 1028 (by omega)) (by omega) ?_
      refine rows_miss arg13 Y _ _ _ z _ (ho12 771 (by omega)) (by omega) ?_
      refine rows_miss arg13 Y _ _ _ z _ (ho12 514 (by omega)) (by omega) ?_
      refine rows_miss arg13 Y _ _ _ z _ (ho12 257 (by omega)) (by omega) ?_
      refine rows_miss arg13 Y _ _ _ z _ (ho12 0 (by omega)) (by omega) ?_
      rfl
    · rw [hb] at hz
      have hl : ∀ (p : Fin 256) (k : Fin 1536) (h : s + p.val < 69632), t4_trip.sl.v2179 (F := F) arg3 arg11 arg18 e X3 D f11 k2 (ix2 p k) = arg3.view.read (Elt F) X3 (ix2 (⟨s + p.val, h⟩ : Fin 69632) k) := by
        intro p k h
        unfold t4_trip.sl.v2179
        exact lhs_read arg3 arg11 X3 f11 (t4_trip.sl.r (F := F) arg18 e D) k2 s hs hd p k h (t4_trip.sl.dma1 (F := F) arg3 arg18 e X3 D k2) (by unfold t4_trip.sl.dma1; rfl) inb_S512x1536_S256x1536_0_0
      have hr0 : ∀ q : Fin 128, t4_trip.sl.v2184 (F := F) arg4 arg12 arg18 e X4 D k2 (ix2 (0 : Fin 1) q) = arg4.view.read (Elt F) X4 (ix3 (⟨s / 32, by omega⟩ : Fin 2176) (0 : Fin 2) q) := by
        intro q
        unfold t4_trip.sl.v2184
        exact rs_read arg4 arg12 X4 arg12.view.junk (t4_trip.sl.r (F := F) arg18 e D) k2 s hs hd 0 (by omega) q squeezes_S1x2x128_S2x128 (t4_trip.sl.dma1_1 (F := F) arg4 arg18 e X4 D k2) (by unfold t4_trip.sl.dma1_1; rfl) inb_S2x128_S1x128_0_0
      have hr1' : ∀ q : Fin 128, t4_trip.sl.v2188 (F := F) arg4 arg12 arg18 e X4 D k2 (ix2 (0 : Fin 1) q) = arg4.view.read (Elt F) X4 (ix3 (⟨s / 32, by omega⟩ : Fin 2176) (1 : Fin 2) q) := by
        intro q
        unfold t4_trip.sl.v2188
        exact rs_read arg4 arg12 X4 arg12.view.junk (t4_trip.sl.r (F := F) arg18 e D) k2 s hs hd 1 (by omega) q squeezes_S1x2x128_S2x128 (t4_trip.sl.dma1_1 (F := F) arg4 arg18 e X4 D k2) (by unfold t4_trip.sl.dma1_1; rfl) inb_S2x128_S1x128_1_0
      have hP' := hP ⟨e.val, t3_lt e⟩ s hs h32 _ _ _ _ hl
        (fun k n => read3 arg10.view X10 (k0_off9_inb e) (off9_eq e) (ix3 (0 : Fin 1) k n) (ix3 (⟨e.val, t3_lt e⟩ : Fin 16) k n) rfl (Nat.zero_add _).symm (Nat.zero_add _).symm)
        hr0 hr1'
      have e11 := fun q : Fin 128 => read3 arg6.view X6 (k0_off11_inb e) (off11_eq e) (ix3 (0 : Fin 1) (0 : Fin 1) q) (ix3 (⟨e.val, t3_lt e⟩ : Fin 16) (0 : Fin 1) (⟨128 * 0 + q.val, by omega⟩ : Fin 1024)) rfl rfl rfl
      have e13 := fun q : Fin 128 => read3 arg6.view X6 (k0_off13_inb e) (off13_eq e) (ix3 (0 : Fin 1) (0 : Fin 1) q) (ix3 (⟨e.val, t3_lt e⟩ : Fin 16) (0 : Fin 1) (⟨128 * 1 + q.val, by omega⟩ : Fin 1024)) rfl rfl rfl
      have e14 := fun q : Fin 128 => read3 arg6.view X6 (k0_off14_inb e) (off14_eq e) (ix3 (0 : Fin 1) (0 : Fin 1) q) (ix3 (⟨e.val, t3_lt e⟩ : Fin 16) (0 : Fin 1) (⟨128 * 2 + q.val, by omega⟩ : Fin 1024)) rfl rfl rfl
      have e15 := fun q : Fin 128 => read3 arg6.view X6 (k0_off15_inb e) (off15_eq e) (ix3 (0 : Fin 1) (0 : Fin 1) q) (ix3 (⟨e.val, t3_lt e⟩ : Fin 16) (0 : Fin 1) (⟨128 * 3 + q.val, by omega⟩ : Fin 1024)) rfl rfl rfl
      have e16 := fun q : Fin 128 => read3 arg6.view X6 (k0_off16_inb e) (off16_eq e) (ix3 (0 : Fin 1) (0 : Fin 1) q) (ix3 (⟨e.val, t3_lt e⟩ : Fin 16) (0 : Fin 1) (⟨128 * 4 + q.val, by omega⟩ : Fin 1024)) rfl rfl rfl
      have e17 := fun q : Fin 128 => read3 arg6.view X6 (k0_off17_inb e) (off17_eq e) (ix3 (0 : Fin 1) (0 : Fin 1) q) (ix3 (⟨e.val, t3_lt e⟩ : Fin 16) (0 : Fin 1) (⟨128 * 5 + q.val, by omega⟩ : Fin 1024)) rfl rfl rfl
      have e18 := fun q : Fin 128 => read3 arg6.view X6 (k0_off18_inb e) (off18_eq e) (ix3 (0 : Fin 1) (0 : Fin 1) q) (ix3 (⟨e.val, t3_lt e⟩ : Fin 16) (0 : Fin 1) (⟨128 * 6 + q.val, by omega⟩ : Fin 1024)) rfl rfl rfl
      have e19 := fun q : Fin 128 => read3 arg6.view X6 (k0_off19_inb e) (off19_eq e) (ix3 (0 : Fin 1) (0 : Fin 1) q) (ix3 (⟨e.val, t3_lt e⟩ : Fin 16) (0 : Fin 1) (⟨128 * 7 + q.val, by omega⟩ : Fin 1024)) rfl rfl rfl
      refine pieces_hit arg13 Y P (k0_off12 e (t4_trip.sl.r arg18 e D) (t4_trip.sl.r_1 arg2 e X2)) ho12 _ _ _ _ _ _ _ _ _ _ _ _ _ _ _ _ ?_ ?_ ?_ ?_ ?_ ?_ ?_ ?_ z cc p hcc hp hz hsp
      · intro p q h
        rw [pay3_apply]
        exact hP' p q 0 (by omega) _ e11 h
      · intro p q h
        rw [pay4_apply]
        exact hP' p q 1 (by omega) _ e13 h
      · intro p q h
        rw [pay5_apply]
        exact hP' p q 2 (by omega) _ e14 h
      · intro p q h
        refine (congrArg (P _ _ _) (pay7_apply _ _ _ p q)).mpr ?_
        exact hP' p q 3 (by omega) _ e15 h
      · intro p q h
        rw [pay8_apply]
        exact hP' p q 4 (by omega) _ e16 h
      · intro p q h
        rw [pay9_apply]
        exact hP' p q 5 (by omega) _ e17 h
      · intro p q h
        rw [pay10_apply]
        exact hP' p q 6 (by omega) _ e18 h
      · intro p q h
        rw [pay21_apply]
        exact hP' p q 7 (by omega) _ e19 h
    · refine (View.read_writes_cons_cell arg18.view D _ _ [] x).trans ?_
      have hv : t4_trip.sl.v2314 arg18 e D = BitVec.ofNat 32 (s + 256) := by
        show Scalar.addi (t4_trip.sl.r arg18 e D) 256#32 = _
        rw [hr]; exact w_addi s 256
      rw [off20_eq, hv]
      rfl
  · iexists _; iexists _; iexists _
    sl_close

end Cert.KernelIdeal.Hand
-- ==== Proof.Ideal.Ring.lean ====
module

public import proofs.«01_k».proof.Proof.Ideal.Trip

@[expose] public section

set_option maxRecDepth 8192
set_option maxHeartbeats 4000000

noncomputable section

namespace Cert.KernelIdeal.Hand

open Cert.KernelIdeal.Gen
open Idealize.ShloMosaic
open Idealize.ShloMosaic.Pointwise

variable {F : FTy → Type} [FloatOps F]

/-- The first row of the chunk grid of an expert whose rows begin at `o`. -/
def al (o : ℕ) : ℕ := o / 32 * 32

/-- The row at which the chunk grid beginning at `a` first reaches `n`. -/
def dn (a n : ℕ) : ℕ := a + (n - a + 255) / 256 * 256

/-- The words of rows done are `done`, and the ring holds the last two chunks of every expert. -/
structure RingInv (P : ℕ → ℕ → ℕ → Elt F .f32 → Prop) (off done : ℕ → ℕ) (Y : S65792x128.Idx → Elt F .f32) (D : S16.Idx → Elt F .i32) : Prop where
  words : ∀ x : S16.Idx, D x = BitVec.ofNat 32 (done (x 0).val)
  rows : ∀ (e r cc : ℕ) (z : S65792x128.Idx), e < 16 → cc < 8 → al (off e) ≤ r → r < done e → done e ≤ r + 512 → r < 69632 →
    (z 0).val = (e * 2 + (r - al (off e)) / 256 % 2) * 2056 + 257 * cc + (r - al (off e)) % 256 →
    P e r (128 * cc + (z 1).val) (Y z)

theorem ring_step {P : ℕ → ℕ → ℕ → Elt F .f32 → Prop} {off done done' : ℕ → ℕ} {Y Y' : S65792x128.Idx → Elt F .f32} {D D' : S16.Idx → Elt F .i32}
    {e : ℕ} (h : RingInv P off done Y D) (ha : al (off e) ≤ done e) (hm : (done e - al (off e)) % 256 = 0)
    (hs : ItemStep P e (done e) (off e) Y D Y' D') (hd : done' e = done e + 256) (ho : ∀ e', e' ≠ e → done' e' = done e') :
    RingInv P off done' Y' D' := by
  refine ⟨fun x => ?_, fun e' r cc z he hcc har hr1 hr2 hr3 hz => ?_⟩
  · rw [hs.done x]
    by_cases hx : (x 0).val = e
    · rw [if_pos hx, hx, hd]
    · rw [if_neg hx, h.words x, ho _ hx]
  · have hb : pageBase e (done e) (off e) = (e * 2 + (done e - al (off e)) / 256 % 2) * 2056 := rfl
    have hm2 := Nat.mod_lt (r - al (off e')) (by omega : 0 < 256)
    have hm3 := Nat.mod_lt ((r - al (off e')) / 256) (by omega : 0 < 2)
    have hm4 := Nat.mod_lt ((done e - al (off e)) / 256) (by omega : 0 < 2)
    by_cases hx : e' = e
    · subst hx
      rw [hd] at hr1 hr2
      by_cases hlt : r < done e'
      · rw [hs.miss z]
        · exact h.rows e' r cc z he hcc har hlt (by omega) hr3 hz
        · rw [hb, hz]
          have e4 : (done e' - al (off e')) / 256 = (r - al (off e')) / 256 + 1 := by omega
          rw [e4]
          omega
      · have e1 : r = done e' + (r - done e') := by omega
        have e2 : (r - al (off e')) % 256 = r - done e' := by omega
        have e3 : (r - al (off e')) / 256 = (done e' - al (off e')) / 256 := by omega
        rw [e2, e3] at hz
        rw [e1]
        exact hs.hit z cc (r - done e') hcc (by omega) (by rw [hb]; exact hz) (by omega)
    · rw [ho _ hx] at hr1 hr2
      rw [hs.miss z]
      · exact h.rows e' r cc z he hcc har hr1 hr2 hr3 hz
      · rw [hb, hz]
        omega

/-- What the host's tables say: `off e` is expert `e`'s first row, `np b e` the row below which expert `e` must be done
before block `b`. -/
structure HF (off : ℕ → ℕ) (np : ℕ → ℕ → ℕ) : Prop where
  off_le : ∀ e, e < 16 → off e ≤ 69632
  np0 : ∀ e, e < 16 → np 0 e = al (off e)
  mono : ∀ b e, b < 272 → e < 16 → np b e ≤ np (b + 1) e
  le : ∀ b e, b ≤ 272 → e < 16 → np b e ≤ 69632

theorem HF.al_le {off : ℕ → ℕ} {np : ℕ → ℕ → ℕ} (h : HF off np) : ∀ b e, b ≤ 272 → e < 16 → al (off e) ≤ np b e
  | 0, e, _, he => (h.np0 e he).symm ▸ Nat.le_refl _
  | b + 1, e, hb, he => Nat.le_trans (HF.al_le h b e (by omega) he) (h.mono b e (by omega) he)

/-- The rows done while block `b` is at expert `k`. -/
def doneAt (off : ℕ → ℕ) (np : ℕ → ℕ → ℕ) (b k e : ℕ) : ℕ := dn (al (off e)) (if e < k then np (b + 1) e else np b e)

end Cert.KernelIdeal.Hand
-- ==== Proof.Ideal.T3.lean ====
module

public import proofs.«01_k».proof.Proof.Ideal.Ring

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

theorem t4_loop_wp (k0_t2 : Fin k0_t2_loop.trips) (v6 c10 c12 : BitVec 32) (e : Fin k0_t3_loop.trips) (v2110 : BitVec 32)
    (v2113 v2115 : Elt F .i32) (hw : k0_chk1 v2113 v2115) (ok)
    (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off done done' : ℕ → ℕ) (need : ℕ) (hX2 : ∀ x : S16.Idx, arg2.view.read (Elt F) X2 x = BitVec.ofNat 32 (off (x 0).val))
    (hoff : off e.val ≤ 69632) (h13 : v2113 = BitVec.ofNat 32 need) (h15 : v2115 = BitVec.ofNat 32 (done e.val))
    (hn : need ≤ 69632) (hdn : done e.val ≤ need + 255) (ha : al (off e.val) ≤ done e.val) (hm : (done e.val - al (off e.val)) % 256 = 0)
    (hd' : done' e.val = done e.val + 256 * ((need + 255 - done e.val) / 256)) (ho' : ∀ e', e' ≠ e.val → done' e' = done e') :
    iprop(Ring4 c arg13 arg18 (RingInv P off done) ∗ Rest4 c arg2 arg3 arg4 arg6 arg10 arg11 arg12 arg20 arg21 X2 X3 X4 X6 X10)
    ⊢ wp frame (wpE (defs₀ (F := F)) Variants.none (c : Thread nD τ) none) Set.univ
        (Scf.Loop.for (k0_t4_loop v2113 v2115) ok PUnit.unit (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw))
        (fun _ => iprop(Ring4 c arg13 arg18 (RingInv P off done') ∗ Rest4 c arg2 arg3 arg4 arg6 arg10 arg11 arg12 arg20 arg21 X2 X3 X4 X6 X10)) := by
  have htr : (k0_t4_loop v2113 v2115).trips = (need + 255 - done e.val) / 256 := by
    rw [h13, h15]; exact t4_trips need _ (by omega) hdn
  refine BIBase.Entails.trans ?_ (Scf.wp_for frame _ _ _ _ _ ok PUnit.unit _
    (fun k _ => iprop(Ring4 c arg13 arg18 (RingInv P off (fun e' => if e' = e.val then done e.val + 256 * k else done e')) ∗ Rest4 c arg2 arg3 arg4 arg6 arg10 arg11 arg12 arg20 arg21 X2 X3 X4 X6 X10))
    (fun k acc => ?_))
  · have e0 : (fun e' => if e' = e.val then done e.val + 256 * 0 else done e') = done := by
      funext e'; split
      · next h => rw [h]; rfl
      · rfl
    have e1 : (fun e' => if e' = e.val then done e.val + 256 * (k0_t4_loop v2113 v2115).trips else done e') = done' := by
      funext e'; split
      · next h => rw [h, hd', htr]
      · next h => exact (ho' _ h).symm
    rw [e0]
    iintro H
    isplitl [H]
    · iexact H
    · iintro %acc H
      have e1' := e1
      simp only [Scf.Loop.trips] at e1'
      rw [e1']
      iexact H
  · have hk : k.val < (need + 255 - done e.val) / 256 := htr ▸ k.isLt
    have haa : al (off e.val) = off e.val / 32 * 32 := rfl
    refine t4_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw k X2 X3 X4 X6 X10 _ _ (done e.val + 256 * k.val) (off e.val)
      (by omega) (by omega) hoff (by omega) (fun Y D hJ x hx => ?_) (fun x hx => ?_) P hP (fun Y D Y' D' hJ hs => ?_)
    · rw [hJ.words x, hx, if_pos rfl]
    · rw [hX2 x, hx]
    · refine ring_step (e := e.val) hJ ?_ ?_ ?_ ?_ ?_
      · rw [if_pos rfl]; omega
      · rw [if_pos rfl]; omega
      · rw [if_pos rfl]; exact hs
      · rw [if_pos rfl, if_pos rfl]; omega
      · intro e' he'; rw [if_neg he', if_neg he']

theorem seq_wp {α β : Type} {p : Prog (TpuEff nD τ sig (Elt F) Λ₀ .tc) α} {A B : sProp 𝕄} (h : A ⊢ wp frame (wpE (defs₀ (F := F)) Variants.none (c : Thread nD τ) none) Set.univ p (fun _ => B))
    {kk : α → Prog (TpuEff nD τ sig (Elt F) Λ₀ .tc) β} {Q : β → sProp 𝕄} :
    iprop(A ∗ (∀ a, B -∗ wp frame (wpE (defs₀ (F := F)) Variants.none (c : Thread nD τ) none) Set.univ (kk a) Q))
      ⊢ wp frame (wpE (defs₀ (F := F)) Variants.none (c : Thread nD τ) none) Set.univ (p >>= kk) Q := by
  rw [wp_bind]
  iintro ⟨HA, HK⟩
  iapply (wp_wand_r frame _ _)
  isplitl [HA]
  · iapply h; iexact HA
  · iintro %a HB
    iapply HK; iexact HB

theorem dn_eq (a n : ℕ) : dn a n = a + (n - a + 255) / 256 * 256 := rfl

theorem t3_trip (c0 c1 : BitVec 32) (k0_t2 : Fin k0_t2_loop.trips) (v6 : BitVec 32) (e : Fin k0_t3_loop.trips)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val)) :
    iprop((arg1.view.loc (c : Thread nD τ) ↦[arg1.view.set]{fullShare} X1) ∗ Ring4 c arg13 arg18 (RingInv P off (doneAt off np k0_t2.val e.val)) ∗ Rest4 c arg2 arg3 arg4 arg6 arg10 arg11 arg12 arg20 arg21 X2 X3 X4 X6 X10)
    ⊢ wp frame (wpE (defs₀ (F := F)) Variants.none (c : Thread nD τ) none) Set.univ
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6 e PUnit.unit)
        (fun _ => iprop((arg1.view.loc (c : Thread nD τ) ↦[arg1.view.set]{fullShare} X1) ∗ Ring4 c arg13 arg18 (RingInv P off (doneAt off np k0_t2.val (e.val + 1))) ∗ Rest4 c arg2 arg3 arg4 arg6 arg10 arg11 arg12 arg20 arg21 X2 X3 X4 X6 X10)) := by
  iintro ⟨H1, HR, H4⟩
  unfold Ring4
  icases HR with ⟨%Y, %D, H13, H18, %hYD⟩
  have hd : arg18.view.readAt (Elt F) (Rect.unit (s := S16) (k0_off4 e) S1.size (k0_off4_inb e)).toLoadRect D
      (Shape.Idx.first (numel1_S1.symm ▸ Nat.one_pos)) = BitVec.ofNat 32 (doneAt off np k0_t2.val e.val e.val) := (hYD.words _).trans (by
    congr 2; show k0_off4 e 0 + 1 * 0 = _; rw [off4_eq]; rfl)
  have hx : arg1.view.readAt (Elt F) (Rect.unit (s := S272x16) (k0_off3 k0_t2 e) S1x1.size (k0_off3_inb k0_t2 e)).toLoadRect X1
      (Shape.Idx.first (numel1_S1x1.symm ▸ Nat.one_pos)) = BitVec.ofNat 32 (np (k0_t2.val + 1) e.val) := (hX1 _).trans (by
    have e0 : (k0_off3 k0_t2 e 0 + 1 * 0) = k0_t2.val := by rw [off3_eq]; rfl
    have e1 : (k0_off3 k0_t2 e 1 + 1 * 0) = e.val := by rw [off3_eq]; rfl
    exact congrArg (BitVec.ofNat 32) (congrArg₂ np (congrArg (· + 1) e0) e1))
  have he := t3_lt e
  have hb := t2_lt k0_t2
  have hde : doneAt off np k0_t2.val e.val e.val = al (off e.val) + (np k0_t2.val e.val - al (off e.val) + 255) / 256 * 256 := by
    unfold doneAt; rw [if_neg (by omega), dn_eq]
  have hal := hf.al_le k0_t2.val e.val (by omega) he
  have hmono := hf.mono k0_t2.val e.val hb he
  have hle := hf.le (k0_t2.val + 1) e.val (by omega) he
  have k1 := chk1_of (np (k0_t2.val + 1) e.val) (doneAt off np k0_t2.val e.val e.val) (by omega) (by omega)
  rw [← hd, ← hx] at k1
  unfold k0_t3_body
  sl_exec (disch := exact k1)
  have hd2 : doneAt off np k0_t2.val (e.val + 1) e.val = al (off e.val) + (np (k0_t2.val + 1) e.val - al (off e.val) + 255) / 256 * 256 := by
    unfold doneAt; rw [if_pos (by omega), dn_eq]
  have hdo : ∀ e', e' ≠ e.val → doneAt off np k0_t2.val (e.val + 1) e' = doneAt off np k0_t2.val e.val e' := by
    intro e' he'
    unfold doneAt
    by_cases h : e' < e.val
    · rw [if_pos h, if_pos (by omega)]
    · rw [if_neg h, if_neg (by omega)]
  have hoff := hf.off_le e.val he
  have hT := t4_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 (0#32) (1#32) e (t3_trip.sl.v2110 e) (t3_trip.sl.r arg1 k0_t2 e X1) (t3_trip.sl.r_1 arg18 e D) k1 (k0_t4_ok _ _ k1)
    X2 X3 X4 X6 X10 P hP off (doneAt off np k0_t2.val e.val) (doneAt off np k0_t2.val (e.val + 1)) (np (k0_t2.val + 1) e.val) hX2 (by omega) hx hd
    (by omega) (by omega) (by omega) (by omega) (by omega) hdo
  iapply (seq_wp c hT)
  isplitl [H13 H18 H4]
  · isplitr [H4]
    · unfold Ring4
      iexists _, _
      isplitl [H13]
      · iexact H13
      isplitl [H18]
      · iexact H18
      ipureintro
      exact hYD
    · iexact H4
  iintro %a ⟨HR, H4⟩
  have h5 : Scf.trips (k0_t5_loop (t3_trip.sl.r arg1 k0_t2 e X1) (t3_trip.sl.r_1 arg18 e D)).lb (k0_t5_loop (t3_trip.sl.r arg1 k0_t2 e X1) (t3_trip.sl.r_1 arg18 e D)).ub (k0_t5_loop (t3_trip.sl.r arg1 k0_t2 e X1) (t3_trip.sl.r_1 arg18 e D)).st = 0 := by
    have := t5_trips (np (k0_t2.val + 1) e.val) (doneAt off np k0_t2.val e.val e.val) (by omega) (by omega)
    rw [← hd, ← hx] at this
    exact this
  sl_step
  dsimp only
  sl_for0 h5
  sl_step
  isplitl [H1]
  · iexact H1
  isplitl [HR]
  · unfold Ring4; iexact HR
  · iexact H4

theorem doneAt_next (off : ℕ → ℕ) (np : ℕ → ℕ → ℕ) (b e : ℕ) (he : e < 16) : doneAt off np b 16 e = doneAt off np (b + 1) 0 e := by
  unfold doneAt
  rw [if_pos he, if_neg (Nat.not_lt_zero _)]

theorem t3_loop_wp (ok) (c0 c1 : BitVec 32) (k0_t2 : Fin k0_t2_loop.trips) (v6 : BitVec 32)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val)) :
    iprop((arg1.view.loc (c : Thread nD τ) ↦[arg1.view.set]{fullShare} X1) ∗ Ring4 c arg13 arg18 (RingInv P off (doneAt off np k0_t2.val 0)) ∗ Rest4 c arg2 arg3 arg4 arg6 arg10 arg11 arg12 arg20 arg21 X2 X3 X4 X6 X10)
    ⊢ wp frame (wpE (defs₀ (F := F)) Variants.none (c : Thread nD τ) none) Set.univ
        (Scf.Loop.for k0_t3_loop ok PUnit.unit (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6))
        (fun _ => iprop((arg1.view.loc (c : Thread nD τ) ↦[arg1.view.set]{fullShare} X1) ∗ Ring4 c arg13 arg18 (RingInv P off (doneAt off np k0_t2.val 16)) ∗ Rest4 c arg2 arg3 arg4 arg6 arg10 arg11 arg12 arg20 arg21 X2 X3 X4 X6 X10)) := by
  refine BIBase.Entails.trans ?_ (Scf.wp_for frame _ _ _ _ _ ok PUnit.unit _
    (fun k _ => iprop((arg1.view.loc (c : Thread nD τ) ↦[arg1.view.set]{fullShare} X1) ∗ Ring4 c arg13 arg18 (RingInv P off (doneAt off np k0_t2.val k)) ∗ Rest4 c arg2 arg3 arg4 arg6 arg10 arg11 arg12 arg20 arg21 X2 X3 X4 X6 X10))
    (fun k acc => t3_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6 k X1 X2 X3 X4 X6 X10 P hP off np hf hX1 hX2))
  iintro H
  isplitl [H]
  · iexact H
  · iintro %acc H
    have e1 := t3_trips
    simp only [Scf.Loop.trips] at e1
    rw [e1]
    iexact H

end Cert.KernelIdeal.Hand
-- ==== Proof.Ideal.Tok.lean ====
module

public import proofs.«01_k».proof.Proof.Ideal.T3

@[expose] public section

set_option maxRecDepth 8192
set_option maxHeartbeats 4000000

noncomputable section

namespace Cert.KernelIdeal.Hand

open Cert.KernelIdeal.Gen
open Idealize.ShloMosaic
open Idealize.ShloMosaic.Pointwise

variable {F : FTy → Type} [FloatOps F]

theorem chk6_of' (v : BitVec 32) (h : v.toNat + 1799 < 65792) : k0_chk6 v := by
  have := chk6_of v.toNat h
  rwa [BitVec.ofNat_toNat, BitVec.setWidth_eq] at this

theorem off38_eq' (v : BitVec 32) : k0_off38 v = ![v.toNat, 0] := by
  have := off38_eq v.toNat v.isLt
  rwa [BitVec.ofNat_toNat, BitVec.setWidth_eq] at this

theorem blk_read {sp : Space} {t : EltTy} (M7 : Memref sig .tc .hbm S272x2x128 t) (M16 : Memref sig .tc sp S2x128 t)
    (X7 : BufTy.Contents (Elt F) M7.view.ty) (f16 : BufTy.Contents (Elt F) M16.view.ty) (b : Fin k0_t2_loop.trips) (hsq : S1x2x128.Squeezes S2x128)
    (w : S2x128.Idx → Elt F t)
    (hw : w = View.read (Elt F) ((M7.slice (Rect.unit (s := S272x2x128) (k0_off37 b) S1x2x128.size (k0_off37_inb b)) (fun _ => rfl)).squeeze S2x128 hsq).view X7)
    (g : Fin 2) (q : Fin 128) :
    M16.view.read (Elt F) (M16.view.writes (Elt F) f16 [⟨Rect.whole S2x128, w⟩]) (ix2 g q)
    = M7.view.read (Elt F) X7 (ix3 (⟨b.val, t2_lt b⟩ : Fin 272) g q) := by
  have e1 : (ix2 g q : S2x128.Idx) = (Rect.whole S2x128).emb (ix2 g q) := by
    funext a
    fin_cases a
    · exact Fin.ext (by show g.val = 0 + 1 * g.val; omega)
    · exact Fin.ext (by show q.val = 0 + 1 * q.val; omega)
  refine (congrArg (M16.view.read (Elt F) _) e1).trans ((View.read_writes_cons_emb M16.view f16 (Rect.whole S2x128) w [] (ix2 g q)).trans ?_)
  subst hw
  show M7.view.read (Elt F) X7 ((Rect.unit (s := S272x2x128) (k0_off37 b) S1x2x128.size (k0_off37_inb b)).emb
    (Shape.reshapeEquiv hsq.numel_eq (ix2 g q))) = _
  rw [resh_2x128]
  refine congrArg (M7.view.read (Elt F) X7) ?_
  have h := off37_eq b
  funext a
  fin_cases a
  · refine Fin.ext ?_
    show k0_off37 b 0 + 1 * 0 = b.val
    rw [h]; rfl
  · refine Fin.ext ?_
    show k0_off37 b 1 + 1 * g.val = g.val
    rw [h]; show 0 + 1 * g.val = _; omega
  · refine Fin.ext ?_
    show k0_off37 b 2 + 1 * q.val = q.val
    rw [h]; show 0 + 1 * q.val = _; omega

/-- The word `w` names row `r` of expert `e` among the two chunks of the expert held at the block's tokens. -/
structure TokOK (off done : ℕ → ℕ) (e r : ℕ) (w : BitVec 32) : Prop where
  he : e < 16
  lo : al (off e) ≤ r
  hi : r < done e
  win : done e ≤ r + 512
  row : r < 69632
  word : w.toNat = (e * 2 + (r - al (off e)) / 256 % 2) * 2056 + (r - al (off e)) % 256

theorem TokOK.bound {off done : ℕ → ℕ} {e r : ℕ} {w : BitVec 32} (h : TokOK off done e r w) : w.toNat + 1799 < 65792 := by
  have := h.word
  have := h.he
  have := Nat.mod_lt (r - al (off e)) (by omega : 0 < 256)
  have := Nat.mod_lt ((r - al (off e)) / 256) (by omega : 0 < 2)
  omega

theorem ring_read (M13 : Memref sig .tc .vmem S65792x128 .f32) (Y : BufTy.Contents (Elt F) M13.view.ty) {P : ℕ → ℕ → ℕ → Elt F .f32 → Prop} {off done : ℕ → ℕ}
    {D : S16.Idx → Elt F .i32} (h : RingInv P off done (M13.view.read (Elt F) Y) D) {e r : ℕ} {w : BitVec 32} (hw : TokOK off done e r w)
    (hk : k0_chk6 w) (cc : Fin 8) (q : Fin 128) :
    P e r (128 * cc.val + q.val) (M13.view.readAt (Elt F) (⟨k0_off38 w, S8x128.size, ![257, 1], k0_off38_inb w hk⟩ : LoadRect S65792x128) Y (ix2 cc q)) := by
  have e1 := off38_eq' w
  refine (congrArg (fun n => P e r (128 * cc.val + n) _) ?_).mp (h.rows e r cc.val ((⟨k0_off38 w, S8x128.size, ![257, 1], k0_off38_inb w hk⟩ : LoadRect S65792x128).idx (ix2 cc q)) hw.he cc.isLt hw.lo hw.hi hw.win hw.row ?_)
  · show k0_off38 w 1 + 1 * q.val = q.val
    rw [e1]; show 0 + 1 * q.val = _; omega
  · show k0_off38 w 0 + 257 * cc.val = _
    rw [e1]
    show w.toNat + 257 * cc.val = _
    rw [hw.word]
    omega

theorem ring_next {P : ℕ → ℕ → ℕ → Elt F .f32 → Prop} {off : ℕ → ℕ} {np : ℕ → ℕ → ℕ} (hf : HF off np) {b : ℕ} {Y : S65792x128.Idx → Elt F .f32} {D : S16.Idx → Elt F .i32}
    (h : RingInv P off (doneAt off np b 16) Y D) : RingInv P off (doneAt off np (b + 1) 0) Y D := by
  refine ⟨fun x => ?_, fun e r cc z he => ?_⟩
  · rw [h.words x, doneAt_next off np b _ (x 0).isLt]
  · rw [← doneAt_next off np b e he]
    exact h.rows e r cc z he

/-- One token's eight rows. -/
def tokPay (M13 : Memref sig .tc .vmem S65792x128 .f32) (Y : BufTy.Contents (Elt F) M13.view.ty) (w0 w1 : BitVec 32) (h0 : k0_chk6 w0) (h1 : k0_chk6 w1) (t0 t1 : Elt F .f32) : FVec F S8x128 .f32 :=
  k0_pay25 (M13.view.readAt (Elt F) (⟨k0_off38 w0, S8x128.size, ![257, 1], k0_off38_inb w0 h0⟩ : LoadRect S65792x128) Y)
    (M13.view.readAt (Elt F) (⟨k0_off38 w1, S8x128.size, ![257, 1], k0_off38_inb w1 h1⟩ : LoadRect S65792x128) Y) t0 t1

theorem pay25_apply (a b : Vec F S8x128 .f32) (s t : Elt F .f32) (x : S8x128.Idx) :
    k0_pay25 a b s t x = FloatOps.addf (FloatOps.mulf (a x) s) (FloatOps.mulf (b x) t) := by
  simp only [k0_pay25]
  rw [shapeCast_self (s := S8x128)]
  rfl

/-- The tokens below `n` are in the staging buffer, each value with the property `Q`. -/
def StInv (Q : ℕ → ℕ → Elt F .f32 → Prop) (n : ℕ) (S : S1032x128.Idx → Elt F .f32) : Prop :=
  ∀ (s cc : ℕ) (z : S1032x128.Idx), s < n → cc < 8 → (z 0).val = 129 * cc + s → Q s (128 * cc + (z 1).val) (S z)

theorem st_nil (Q : ℕ → ℕ → Elt F .f32 → Prop) (S : S1032x128.Idx → Elt F .f32) : StInv Q 0 S :=
  fun s cc z h => absurd h (Nat.not_lt_zero _)

theorem st_cons (M14 : Memref sig .tc .vmem S1032x128 .f32) {Q : ℕ → ℕ → Elt F .f32 → Prop} (t : ℕ) (ht : t < 128)
    (f : BufTy.Contents (Elt F) M14.view.ty) (L : List (View.Piece (Elt F) S1032x128 .f32)) (inb sp) (pay : S8x128.Idx → Elt F .f32)
    (hp : ∀ (cc : Fin 8) (q : Fin 128), Q t (128 * cc.val + q.val) (pay (ix2 cc q)))
    (ih : StInv Q t (M14.view.read (Elt F) (M14.view.writes (Elt F) f L))) :
    StInv Q (t + 1) (M14.view.read (Elt F) (M14.view.writes (Elt F) f ((⟨⟨(⟨![t, 0], S8x128.size, ![129, 1], inb⟩ : LoadRect S1032x128), sp⟩, pay⟩ : View.Piece (Elt F) S1032x128 .f32) :: L))) := by
  intro s cc z hs hcc hz
  by_cases hst : s = t
  · subst hst
    have e1 : z = (⟨(⟨![s, 0], S8x128.size, ![129, 1], inb⟩ : LoadRect S1032x128), sp⟩ : Rect S1032x128).emb (ix2 (⟨cc, hcc⟩ : Fin 8) (⟨(z 1).val, (z 1).isLt⟩ : Fin 128)) := by
      funext a
      fin_cases a
      · exact Fin.ext (by show (z 0).val = s + 129 * cc; omega)
      · exact Fin.ext (by show (z 1).val = 0 + 1 * (z 1).val; omega)
    have e2 := View.read_writes_cons_emb M14.view f (⟨(⟨![s, 0], S8x128.size, ![129, 1], inb⟩ : LoadRect S1032x128), sp⟩ : Rect S1032x128) pay L (ix2 (⟨cc, hcc⟩ : Fin 8) (⟨(z 1).val, (z 1).isLt⟩ : Fin 128))
    rw [← e1] at e2
    rw [e2]
    exact hp ⟨cc, hcc⟩ ⟨(z 1).val, (z 1).isLt⟩
  · rw [View.writes_cons, View.read_slice_write_of_not_mem]
    · exact ih s cc z (by omega) hcc hz
    · rw [Rect.map_emb_univ, LoadRect.mem_set]
      intro hall
      obtain ⟨j, hj, hh⟩ := hall 0
      have hj' : j < 8 := hj
      have hh' : (z 0).val = t + 129 * j := hh
      omega

/-- One chunk of the block's columns, as stored. -/
theorem chunk_row (M14 : Memref sig .tc .vmem S1032x128 .f32) {Q : ℕ → ℕ → Elt F .f32 → Prop} (f : BufTy.Contents (Elt F) M14.view.ty)
    (h : StInv Q 128 (M14.view.read (Elt F) f)) (cc : ℕ) (hcc : cc < 8) (inb) (s q : Fin 128) :
    ∃ v, Q s.val (128 * cc + q.val) v ∧ k0_pay186 (M14.view.readAt (Elt F) (Rect.unit (s := S1032x128) ![129 * cc, 0] S128x128.size inb).toLoadRect f) (ix2 s q) = FloatOps.truncf .bf16 bitsLt_bf16_f32 v := by
  refine ⟨M14.view.readAt (Elt F) (Rect.unit (s := S1032x128) ![129 * cc, 0] S128x128.size inb).toLoadRect f (ix2 s q), ?_, ?_⟩
  · have := h s.val cc ((Rect.unit (s := S1032x128) ![129 * cc, 0] S128x128.size inb).toLoadRect.idx (ix2 s q)) s.isLt hcc (by show 129 * cc + 1 * s.val = _; omega)
    have e : (((Rect.unit (s := S1032x128) ![129 * cc, 0] S128x128.size inb).toLoadRect.idx (ix2 s q)) 1).val = q.val := by show 0 + 1 * q.val = _; omega
    rw [e] at this
    exact this
  · simp only [k0_pay186]
    rw [shapeCast_self (s := S128x128)]
    rfl

theorem inb_cell (g t : ℕ) (hg : g < 2) (ht : t < 128) : ∀ a, (![g, t] : Fin 2 → ℕ) a + S1x1.size a ≤ S2x128.size a := by
  intro a
  fin_cases a
  · show g + 1 ≤ 2; omega
  · show t + 1 ≤ 128; omega

/-- The word at `(g, t)` of a block's table. -/
def wAt {t : EltTy} (M : Memref sig .tc .smem S2x128 t) (A : BufTy.Contents (Elt F) M.view.ty) (g s : ℕ) (hg : g < 2) (hs : s < 128) : Elt F t :=
  M.view.readAt (Elt F) (Rect.unit (s := S2x128) ![g, s] S1x1.size (inb_cell g s hg hs)).toLoadRect A (Shape.Idx.first (numel1_S1x1.symm ▸ Nat.one_pos))

theorem wAt_eq {t : EltTy} (M : Memref sig .tc .smem S2x128 t) (A : BufTy.Contents (Elt F) M.view.ty) (g s : ℕ) (hg : g < 2) (hs : s < 128) :
    wAt M A g s hg hs = M.view.read (Elt F) A (ix2 (⟨g, hg⟩ : Fin 2) (⟨s, hs⟩ : Fin 128)) := by
  refine congrArg (M.view.read (Elt F) A) ?_
  funext a
  fin_cases a
  · exact Fin.ext rfl
  · exact Fin.ext rfl

theorem tok_Q (M13 : Memref sig .tc .vmem S65792x128 .f32) (Y : BufTy.Contents (Elt F) M13.view.ty) {P : ℕ → ℕ → ℕ → Elt F .f32 → Prop} {off done : ℕ → ℕ}
    {D : S16.Idx → Elt F .i32} (h : RingInv P off done (M13.view.read (Elt F) Y) D) {e0 r0 e1 r1 : ℕ} {w0 w1 : BitVec 32} (hw0 : TokOK off done e0 r0 w0) (hw1 : TokOK off done e1 r1 w1)
    (h0 : k0_chk6 w0) (h1 : k0_chk6 w1) (t0 t1 : Elt F .f32) {Q : ℕ → Elt F .f32 → Prop}
    (hQ : ∀ (col : ℕ) (y0 y1 : Elt F .f32), col < 1024 → P e0 r0 col y0 → P e1 r1 col y1 → Q col (FloatOps.addf (FloatOps.mulf y0 t0) (FloatOps.mulf y1 t1)))
    (cc : Fin 8) (q : Fin 128) : Q (128 * cc.val + q.val) (tokPay M13 Y w0 w1 h0 h1 t0 t1 (ix2 cc q)) := by
  unfold tokPay
  rw [pay25_apply]
  exact hQ _ _ _ (by omega) (ring_read M13 Y h hw0 h0 cc q) (ring_read M13 Y h hw1 h1 cc q)

/-- One more token in the staging buffer. -/
theorem st_tok (M13 : Memref sig .tc .vmem S65792x128 .f32) (M14 : Memref sig .tc .vmem S1032x128 .f32) (M16 : Memref sig .tc .smem S2x128 .i32) (M17 : Memref sig .tc .smem S2x128 .f32)
    (Y : BufTy.Contents (Elt F) M13.view.ty) (A : BufTy.Contents (Elt F) M16.view.ty) (T : BufTy.Contents (Elt F) M17.view.ty)
    {P : ℕ → ℕ → ℕ → Elt F .f32 → Prop} {off done : ℕ → ℕ}
    {D : S16.Idx → Elt F .i32} (h : RingInv P off done (M13.view.read (Elt F) Y) D) (E R : ℕ → ℕ → ℕ) (ws : S2x128.Idx → Elt F .i32) (ts : S2x128.Idx → Elt F .f32)
    (hw : ∀ (g : Fin 2) (s : Fin 128), TokOK off done (E g.val s.val) (R g.val s.val) (ws (ix2 g s)))
    (hA : ∀ (g : Fin 2) (s : Fin 128), M16.view.read (Elt F) A (ix2 g s) = ws (ix2 g s)) (hT : ∀ (g : Fin 2) (s : Fin 128), M17.view.read (Elt F) T (ix2 g s) = ts (ix2 g s))
    {Q : ℕ → ℕ → Elt F .f32 → Prop}
    (hQ : ∀ (s : Fin 128) (col : ℕ) (y0 y1 : Elt F .f32), col < 1024 → P (E 0 s.val) (R 0 s.val) col y0 → P (E 1 s.val) (R 1 s.val) col y1 →
      Q s.val col (FloatOps.addf (FloatOps.mulf y0 (ts (ix2 (0 : Fin 2) s))) (FloatOps.mulf y1 (ts (ix2 (1 : Fin 2) s)))))
    (h6 : ∀ (g s : ℕ) (hg : g < 2) (hs : s < 128), k0_chk6 (wAt M16 A g s hg hs))
    (t : ℕ) (ht : t < 128) (w0 : BitVec 32) (hw0 : w0 = ws (ix2 (0 : Fin 2) (⟨t, ht⟩ : Fin 128))) (h0 : k0_chk6 w0)
    (f : BufTy.Contents (Elt F) M14.view.ty) (L : List (View.Piece (Elt F) S1032x128 .f32)) (inb sp) (pay : S8x128.Idx → Elt F .f32)
    (he : pay = tokPay M13 Y w0 (wAt M16 A 1 t (by omega) ht) h0 (h6 1 t (by omega) ht) (wAt M17 T 0 t (by omega) ht) (wAt M17 T 1 t (by omega) ht))
    (ih : StInv Q t (M14.view.read (Elt F) (M14.view.writes (Elt F) f L))) :
    StInv Q (t + 1) (M14.view.read (Elt F) (M14.view.writes (Elt F) f ((⟨⟨(⟨![t, 0], S8x128.size, ![129, 1], inb⟩ : LoadRect S1032x128), sp⟩, pay⟩ : View.Piece (Elt F) S1032x128 .f32) :: L))) := by
  refine st_cons M14 t ht f L inb sp pay (fun cc q => ?_) ih
  rw [he]
  have hq := hQ ⟨t, ht⟩
  have g0 := hw 0 ⟨t, ht⟩
  rw [← hw0] at g0
  have g1 := hw 1 ⟨t, ht⟩
  have e1 : wAt M16 A 1 t (by omega) ht = ws (ix2 (1 : Fin 2) (⟨t, ht⟩ : Fin 128)) := (wAt_eq M16 A 1 t (by omega) ht).trans (hA 1 ⟨t, ht⟩)
  rw [← e1] at g1
  have e2 : wAt M17 T 0 t (by omega) ht = ts (ix2 (0 : Fin 2) (⟨t, ht⟩ : Fin 128)) := (wAt_eq M17 T 0 t (by omega) ht).trans (hT 0 ⟨t, ht⟩)
  have e3 : wAt M17 T 1 t (by omega) ht = ts (ix2 (1 : Fin 2) (⟨t, ht⟩ : Fin 128)) := (wAt_eq M17 T 1 t (by omega) ht).trans (hT 1 ⟨t, ht⟩)
  rw [← e2, ← e3] at hq
  exact tok_Q M13 Y h g0 g1 h0 _ _ _ hq cc q

/-- The block's eight column chunks, as copied out. -/
theorem os_read (M15 : Memref sig .tc .vmem S128x1024 .bf16) (f : BufTy.Contents (Elt F) M15.view.ty) (Z : ℕ → ℕ → Elt F .bf16 → Prop)
    (i0 i1 i2 i3 i4 i5 i6 i7) (p0 p1 p2 p3 p4 p5 p6 p7 : S128x128.Idx → Elt F .bf16)
    (h0 : ∀ s q : Fin 128, Z s.val (128 * 0 + q.val) (p0 (ix2 s q))) (h1 : ∀ s q : Fin 128, Z s.val (128 * 1 + q.val) (p1 (ix2 s q)))
    (h2 : ∀ s q : Fin 128, Z s.val (128 * 2 + q.val) (p2 (ix2 s q))) (h3 : ∀ s q : Fin 128, Z s.val (128 * 3 + q.val) (p3 (ix2 s q)))
    (h4 : ∀ s q : Fin 128, Z s.val (128 * 4 + q.val) (p4 (ix2 s q))) (h5 : ∀ s q : Fin 128, Z s.val (128 * 5 + q.val) (p5 (ix2 s q)))
    (h6 : ∀ s q : Fin 128, Z s.val (128 * 6 + q.val) (p6 (ix2 s q))) (h7 : ∀ s q : Fin 128, Z s.val (128 * 7 + q.val) (p7 (ix2 s q)))
    (s : Fin 128) (col : Fin 1024) :
    Z s.val col.val (M15.view.read (Elt F) (M15.view.writes (Elt F) f
      [⟨Rect.unit (s := S128x1024) ![0, 896] S128x128.size i7, p7⟩, ⟨Rect.unit (s := S128x1024) ![0, 768] S128x128.size i6, p6⟩,
       ⟨Rect.unit (s := S128x1024) ![0, 640] S128x128.size i5, p5⟩, ⟨Rect.unit (s := S128x1024) ![0, 512] S128x128.size i4, p4⟩,
       ⟨Rect.unit (s := S128x1024) ![0, 384] S128x128.size i3, p3⟩, ⟨Rect.unit (s := S128x1024) ![0, 256] S128x128.size i2, p2⟩,
       ⟨Rect.unit (s := S128x1024) ![0, 128] S128x128.size i1, p1⟩, ⟨Rect.unit (s := S128x1024) ![0, 0] S128x128.size i0, p0⟩]) (ix2 s col)) := by
  have step : ∀ (o cc : ℕ) (ho : o = 128 * cc) (inb) (p : S128x128.Idx → Elt F .bf16) (L : List (View.Piece (Elt F) S128x1024 .bf16)),
      (∀ s q : Fin 128, Z s.val (128 * cc + q.val) (p (ix2 s q))) →
      (col.val < 128 * cc → Z s.val col.val (M15.view.read (Elt F) (M15.view.writes (Elt F) f L) (ix2 s col))) → col.val < 128 * (cc + 1) →
      Z s.val col.val (M15.view.read (Elt F) (M15.view.writes (Elt F) f (⟨Rect.unit (s := S128x1024) ![0, o] S128x128.size inb, p⟩ :: L)) (ix2 s col)) := by
    intro o cc ho inb p L hp hL hc
    by_cases hlt : col.val < 128 * cc
    · rw [View.read_writes_cons_unit_of_not_mem M15.view f inb p L (ix2 s col) rfl 1 (Or.inl (by show col.val < o; omega))]
      exact hL hlt
    · rw [View.read_writes_cons_unit_of_mem M15.view f inb p L (ix2 s col) (ix2 s (⟨col.val - 128 * cc, by omega⟩ : Fin 128)) rfl (Fin.forall_fin_two.mpr ⟨by show s.val = 0 + s.val; omega, by show col.val = o + (col.val - 128 * cc); omega⟩)]
      have := hp s (⟨col.val - 128 * cc, by omega⟩ : Fin 128)
      rwa [show 128 * cc + (⟨col.val - 128 * cc, by omega⟩ : Fin 128).val = col.val from (by show 128 * cc + (col.val - 128 * cc) = _; omega)] at this
  refine step 896 7 rfl _ _ _ h7 (fun c7 => ?_) (by omega)
  refine step 768 6 rfl _ _ _ h6 (fun c6 => ?_) (by omega)
  refine step 640 5 rfl _ _ _ h5 (fun c5 => ?_) (by omega)
  refine step 512 4 rfl _ _ _ h4 (fun c4 => ?_) (by omega)
  refine step 384 3 rfl _ _ _ h3 (fun c3 => ?_) (by omega)
  refine step 256 2 rfl _ _ _ h2 (fun c2 => ?_) (by omega)
  refine step 128 1 rfl _ _ _ h1 (fun c1 => ?_) (by omega)
  refine step 0 0 rfl _ _ _ h0 (fun c0 => absurd c0 (by omega)) (by omega)

/-- One block's effect on the result. -/
structure OutStep (n b : ℕ) (Z : ℕ → ℕ → Elt F .bf16 → Prop) (O O' : S34816x3072.Idx → Elt F .bf16) : Prop where
  miss : ∀ z : S34816x3072.Idx, ((z 0).val < b * 128 ∨ b * 128 + 128 ≤ (z 0).val ∨ (z 1).val < n * 1024 ∨ n * 1024 + 1024 ≤ (z 1).val) → O' z = O z
  hit : ∀ (z : S34816x3072.Idx) (s col : ℕ), s < 128 → col < 1024 → (z 0).val = b * 128 + s → (z 1).val = n * 1024 + col → Z s col (O' z)

theorem out_read (i : grid0.Coords) (b : Fin k0_t2_loop.trips) (M9 : Memref sig .tc .hbm S34816x3072 .bf16) (O : BufTy.Contents (Elt F) M9.view.ty)
    (w : S128x1024.Idx → Elt F .bf16) (Z : ℕ → ℕ → Elt F .bf16 → Prop) (hw : ∀ (s : Fin 128) (col : Fin 1024), Z s.val col.val (w (ix2 s col))) (inb) :
    OutStep (i 0).val b.val Z (M9.view.read (Elt F) O)
      (M9.view.read (Elt F) (M9.view.writes (Elt F) O [⟨Rect.unit (s := S34816x3072) (k0_off294 i b) S128x1024.size inb, w⟩])) := by
  have h := off294_eq i b
  refine ⟨fun z hz => ?_, fun z s col hs hc z0 z1 => ?_⟩
  · rcases hz with hz | hz | hz | hz
    · exact View.read_writes_cons_unit_of_not_mem M9.view O inb w [] z h 0 (Or.inl hz)
    · exact View.read_writes_cons_unit_of_not_mem M9.view O inb w [] z h 0 (Or.inr hz)
    · exact View.read_writes_cons_unit_of_not_mem M9.view O inb w [] z h 1 (Or.inl hz)
    · exact View.read_writes_cons_unit_of_not_mem M9.view O inb w [] z h 1 (Or.inr hz)
  · rw [View.read_writes_cons_unit_of_mem M9.view O inb w [] z (ix2 (⟨s, hs⟩ : Fin 128) (⟨col, hc⟩ : Fin 1024)) h (Fin.forall_fin_two.mpr ⟨z0, z1⟩)]
    exact hw ⟨s, hs⟩ ⟨col, hc⟩

end Cert.KernelIdeal.Hand
-- ==== Proof.Ideal.PreK.lean ====
module

public import proofs.«01_k».proof.Proof.Ideal.HostDefs
public import proofs.«01_k».proof.Proof.Gen.Pre_sorted_by_expert
public import proofs.«01_k».proof.Proof.Ideal.Tok
public import Idealize.ShloMosaic.Lib.ReduceAll

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pointwise
open Idealize.SL.Sem

variable {F : FTy → Type} [FloatOps F]

def p1 (off : IVec S16 32) : IVec S16 1 :=
  andi (cmpi .sge off (broadcastInDim S16 ![] bcast_S_S16 (constantI S_ 32 0#32))) (cmpi .sle off (broadcastInDim S16 ![] bcast_S_S16 (constantI S_ 32 69632#32)))
def p2 (x ex : IVec S272x2x128 32) : IVec S272x2x128 1 :=
  andi (andi (andi (cmpi .sge x (kK 0#32)) (cmpi .slt x (kK 69632#32))) (cmpi .sge ex (kK 0#32))) (cmpi .slt ex (kK 16#32))
def p3 (off : IVec S16 32) (need : IVec S272x16 32) : IVec S272x16 1 :=
  andi (cmpi .sge need (broadcastInDim S272x16 ![0, 1] bcast_S1x16_S272x16_0_1 (broadcastInDim S1x16 ![1] bcast_S16_S1x16_1 (kAl off))))
    (cmpi .sle need (broadcastInDim S272x16 ![] Cert.Pre_sorted_by_expert.Gen.bcast_S_S272x16 (constantI S_ 32 69632#32)))
def p4 (need : IVec S272x16 32) : IVec Cert.Pre_sorted_by_expert.S271x16 1 :=
  cmpi .sge (extractStridedSlice Cert.Pre_sorted_by_expert.S271x16 ![1, 0] need Cert.Pre_sorted_by_expert.Gen.slices_S272x16_S271x16_1_0)
    (extractStridedSlice Cert.Pre_sorted_by_expert.S271x16 ![0, 0] need Cert.Pre_sorted_by_expert.Gen.slices_S272x16_S271x16_0_0)
def kUp (need : IVec S272x16 32) : IVec S272x2x128x16 32 :=
  broadcastInDim S272x2x128x16 ![0, 1, 2, 3] Cert.Pre_sorted_by_expert.Gen.bcast_S272x1x1x16_S272x2x128x16_0_1_2_3
    (broadcastInDim Cert.Pre_sorted_by_expert.S272x1x1x16 ![0, 3] Cert.Pre_sorted_by_expert.Gen.bcast_S272x16_S272x1x1x16_0_3 need)
def kB256 (x : IVec S272x2x128 32) : IVec S272x2x128x16 32 :=
  broadcastInDim S272x2x128x16 ![0, 1, 2, 3] bcast_S272x2x128x1_S272x2x128x16_0_1_2_3
    (addi (broadcastInDim S272x2x128x1 ![0, 1, 2] bcast_S272x2x128_S272x2x128x1_0_1_2 x) (broadcastInDim S272x2x128x1 ![] Cert.Pre_sorted_by_expert.Gen.bcast_S_S272x2x128x1 (constantI S_ 32 256#32)))
def pMine (off ends : IVec S16 32) (x : IVec S272x2x128 32) : IVec S272x2x128x16 1 :=
  andi (cmpi .sge (kB3 x) (kB1 off)) (cmpi .slt (kB3 x) (kB1 ends))
def pHot (ex : IVec S272x2x128 32) : IVec S272x2x128x16 1 := cmpi .eq (kB3 ex) (kB1 (iotaInDim S16 32 0))
def p5 (off ends : IVec S16 32) (x ex : IVec S272x2x128 32) (need : IVec S272x16 32) : IVec S272x2x128x16 1 :=
  ori (andi (andi (pMine off ends x) (pHot ex)) (andi (cmpi .slt (kB3 x) (kUp need)) (cmpi .sle (kUp need) (kB256 x))))
    (andi (noti (pMine off ends x)) (noti (pHot ex)))
def one0 : IVec S_ 1 := constantI S_ 1 1#1

theorem fn_eq (a0 : FVec F S69632x1536 .fp8e4m3) (a1 : FVec F S69632 .f32) (a2 : IVec S16 32) (a3 : FVec F S16x1536x3072 .fp8e4m3) (a4 : FVec F S16x3072 .f32)
    (a5 : IVec S34816x2 32) (a6 : FVec F S34816x2 .f32) :
    Cert.Pre_sorted_by_expert.fn (F := F) a0 a1 a2 a3 a4 a5 a6
      = andi (andi (andi (Host.reduce IntOp.andi (p1 (kOff a2)) one0 Cert.Pre_sorted_by_expert.Gen.reducesTo_S16_S_d0 h_S_)
          (Host.reduce IntOp.andi (p2 (kIdx a5) (kExpert (kEnds a2) (kIdx a5))) one0 Cert.Pre_sorted_by_expert.Gen.reducesTo_S272x2x128_S_d0_1_2 h_S_))
          (andi (Host.reduce IntOp.andi (p3 (kOff a2) (kNeed (kOff a2) (kIdx a5))) one0 Cert.Pre_sorted_by_expert.Gen.reducesTo_S272x16_S_d0_1 h_S_)
            (Host.reduce IntOp.andi (p4 (kNeed (kOff a2) (kIdx a5))) one0 Cert.Pre_sorted_by_expert.Gen.reducesTo_S271x16_S_d0_1 h_S_)))
          (Host.reduce IntOp.andi (p5 (kOff a2) (kEnds a2) (kIdx a5) (kExpert (kEnds a2) (kIdx a5)) (kNeed (kOff a2) (kIdx a5))) one0 Cert.Pre_sorted_by_expert.Gen.reducesTo_S272x2x128x16_S_d0_1_2_3 h_S_) := rfl

instance : Subsingleton S_.Idx := ⟨fun a b => funext fun k => k.elim0⟩

theorem and_one {a b : BitVec 1} (h : IntOp.andi a b = 1#1) : a = 1#1 ∧ b = 1#1 := by
  revert h; unfold IntOp.andi; revert a b; decide
theorem or_one {a b : BitVec 1} (h : IntOp.ori a b = 1#1) : a = 1#1 ∨ b = 1#1 := by
  revert h; unfold IntOp.ori; revert a b; decide
theorem not_one {a : BitVec 1} (h : ~~~ a = 1#1) : ¬ a = 1#1 := by
  revert h; revert a; decide

theorem pre_all {a0 : FVec F S69632x1536 .fp8e4m3} {a1 : FVec F S69632 .f32} {a2 : IVec S16 32} {a3 : FVec F S16x1536x3072 .fp8e4m3} {a4 : FVec F S16x3072 .f32}
    {a5 : IVec S34816x2 32} {a6 : FVec F S34816x2 .f32} (h : Cert.Pre_sorted_by_expert.fn (F := F) a0 a1 a2 a3 a4 a5 a6 = fun _ => 1#1) :
    (∀ i, p1 (kOff a2) i = 1#1) ∧ (∀ i, p2 (kIdx a5) (kExpert (kEnds a2) (kIdx a5)) i = 1#1) ∧ (∀ i, p3 (kOff a2) (kNeed (kOff a2) (kIdx a5)) i = 1#1)
      ∧ (∀ i, p4 (kNeed (kOff a2) (kIdx a5)) i = 1#1) ∧ (∀ i, p5 (kOff a2) (kEnds a2) (kIdx a5) (kExpert (kEnds a2) (kIdx a5)) (kNeed (kOff a2) (kIdx a5)) i = 1#1) := by
  rw [fn_eq] at h
  have h0 := congrFun h (fun k => k.elim0)
  obtain ⟨h1234, h5⟩ := and_one h0
  obtain ⟨h12, h34⟩ := and_one h1234
  obtain ⟨h1, h2⟩ := and_one h12
  obtain ⟨h3, h4⟩ := and_one h34
  exact ⟨fun i => Host.reduce_andi_all _ _ _ _ _ h1 i, fun i => Host.reduce_andi_all _ _ _ _ _ h2 i, fun i => Host.reduce_andi_all _ _ _ _ _ h3 i,
    fun i => Host.reduce_andi_all _ _ _ _ _ h4 i, fun i => Host.reduce_andi_all _ _ _ _ _ h5 i⟩

/-! ## Reading the arrays -/

theorem kB3_at (x : IVec S272x2x128 32) (b : Fin 272) (g : Fin 2) (s : Fin 128) (e : Fin 16) : kB3 x (ix4 b g s e) = x (ix3 b g s) := by
  pointwise [kB3]
theorem kB1_at (x : IVec S16 32) (b : Fin 272) (g : Fin 2) (s : Fin 128) (e : Fin 16) : kB1 x (ix4 b g s e) = x (ix1 e) := by
  pointwise [kB1]
theorem kUp_at (x : IVec S272x16 32) (b : Fin 272) (g : Fin 2) (s : Fin 128) (e : Fin 16) : kUp x (ix4 b g s e) = x (ix2 b e) := by
  pointwise [kUp]
theorem kB256_at (x : IVec S272x2x128 32) (b : Fin 272) (g : Fin 2) (s : Fin 128) (e : Fin 16) : kB256 x (ix4 b g s e) = IntOp.addi (x (ix3 b g s)) 256#32 := by
  pointwise [kB256]
theorem kAl_at (x : IVec S16 32) (e : Fin 16) : kAl x (ix1 e) = IntOp.andi (x (ix1 e)) 4294967264#32 := by
  pointwise [kAl]
theorem p4_at (x : IVec S272x16 32) (b : Fin 271) (e : Fin 16) : p4 x (ix2 b e) = IntOp.cmpi .sge (x (ix2 (⟨1 + b.val, by omega⟩ : Fin 272) e)) (x (ix2 (⟨b.val, by omega⟩ : Fin 272) e)) := by
  pointwise [p4]
theorem p3_at (off : IVec S16 32) (x : IVec S272x16 32) (b : Fin 272) (e : Fin 16) :
    p3 off x (ix2 b e) = IntOp.andi (IntOp.cmpi .sge (x (ix2 b e)) (kAl off (ix1 e))) (IntOp.cmpi .sle (x (ix2 b e)) 69632#32) := by
  pointwise [p3]

theorem p5_at (off ends : IVec S16 32) (x ex : IVec S272x2x128 32) (need : IVec S272x16 32) (b : Fin 272) (g : Fin 2) (s : Fin 128) (e : Fin 16) :
    p5 off ends x ex need (ix4 b g s e) =
      IntOp.ori (IntOp.andi (IntOp.andi (IntOp.andi (IntOp.cmpi .sge (x (ix3 b g s)) (off (ix1 e))) (IntOp.cmpi .slt (x (ix3 b g s)) (ends (ix1 e)))) (IntOp.cmpi .eq (ex (ix3 b g s)) (BitVec.ofNat 32 e.val)))
          (IntOp.andi (IntOp.cmpi .slt (x (ix3 b g s)) (need (ix2 b e))) (IntOp.cmpi .sle (need (ix2 b e)) (IntOp.addi (x (ix3 b g s)) 256#32))))
        (IntOp.andi (~~~ (IntOp.andi (IntOp.cmpi .sge (x (ix3 b g s)) (off (ix1 e))) (IntOp.cmpi .slt (x (ix3 b g s)) (ends (ix1 e))))) (~~~ (IntOp.cmpi .eq (ex (ix3 b g s)) (BitVec.ofNat 32 e.val)))) := by
  have h1 : kB1 (iotaInDim S16 32 0) (ix4 b g s e) = BitVec.ofNat 32 e.val := by rw [kB1_at]; rfl
  simp only [p5, pMine, pHot, ori, andi, noti, cmpi, kB3_at, kUp_at, kB256_at, h1, kB1_at]

theorem ob {p : Bool} : BitVec.ofBool p = 1#1 ↔ p = true := by cases p <;> decide

theorem i_sge {x y : BitVec 32} : IntOp.cmpi .sge x y = 1#1 ↔ y.toInt ≤ x.toInt := by
  show BitVec.ofBool _ = 1#1 ↔ _
  rw [ob]; simp [BitVec.sle]
theorem i_sle {x y : BitVec 32} : IntOp.cmpi .sle x y = 1#1 ↔ x.toInt ≤ y.toInt := by
  show BitVec.ofBool _ = 1#1 ↔ _
  rw [ob]; simp [BitVec.sle]
theorem i_slt {x y : BitVec 32} : IntOp.cmpi .slt x y = 1#1 ↔ x.toInt < y.toInt := by
  show BitVec.ofBool _ = 1#1 ↔ _
  rw [ob]; simp [BitVec.slt]
theorem i_eq {x y : BitVec 32} : IntOp.cmpi .eq x y = 1#1 ↔ x = y := by
  show BitVec.ofBool _ = 1#1 ↔ _
  rw [ob]; simp
theorem c_sge {x y : BitVec 32} (h : IntOp.cmpi .sge x y = 1#1) : y.toInt ≤ x.toInt := i_sge.1 h
theorem c_sle {x y : BitVec 32} (h : IntOp.cmpi .sle x y = 1#1) : x.toInt ≤ y.toInt := i_sle.1 h
theorem c_slt {x y : BitVec 32} (h : IntOp.cmpi .slt x y = 1#1) : x.toInt < y.toInt := i_slt.1 h
theorem c_eq {x y : BitVec 32} (h : IntOp.cmpi .eq x y = 1#1) : x = y := i_eq.1 h
theorem c_sge' {x y : BitVec 32} (h : ¬ IntOp.cmpi .sge x y = 1#1) : x.toInt < y.toInt := by rw [i_sge] at h; omega
theorem c_slt' {x y : BitVec 32} (h : ¬ IntOp.cmpi .slt x y = 1#1) : y.toInt ≤ x.toInt := by rw [i_slt] at h; omega

/-- A word whose value is a natural number below 2 ^ 31. -/
theorem nat_of_int {x : BitVec 32} (h0 : 0 ≤ x.toInt) : x.toInt = (x.toNat : ℤ) ∧ x.toNat < 2 ^ 31 := by
  have := x.isLt
  rw [BitVec.toInt_eq_toNat_cond] at h0 ⊢
  split at h0 <;> split <;> omega

/-- What the precondition says of the rows, the groups' starts and the words `need`, as natural numbers. -/
structure PreOK (off ends : IVec S16 32) (x ex : IVec S272x2x128 32) (need : IVec S272x16 32) : Prop where
  off_le : ∀ e : Fin 16, (off (ix1 e)).toNat ≤ 69632
  x_lt : ∀ b g s, (x (ix3 b g s)).toNat < 69632
  ex_lt : ∀ b g s, (ex (ix3 b g s)).toNat < 16
  need_ge : ∀ b (e : Fin 16), al (off (ix1 e)).toNat ≤ (need (ix2 b e)).toNat
  need_le : ∀ b (e : Fin 16), (need (ix2 b e)).toNat ≤ 69632
  mono : ∀ (b : Fin 271) (e : Fin 16), (need (ix2 (⟨b.val, by omega⟩ : Fin 272) e)).toNat ≤ (need (ix2 (⟨1 + b.val, by omega⟩ : Fin 272) e)).toNat
  mine : ∀ b g s (e : Fin 16), (ex (ix3 b g s)).toNat = e.val → (off (ix1 e)).toNat ≤ (x (ix3 b g s)).toNat ∧ (x (ix3 b g s)).toInt < (ends (ix1 e)).toInt
      ∧ (x (ix3 b g s)).toNat < (need (ix2 b e)).toNat ∧ (need (ix2 b e)).toNat ≤ (x (ix3 b g s)).toNat + 256
  other : ∀ b g s (e : Fin 16), (ex (ix3 b g s)).toNat ≠ e.val → ¬ ((off (ix1 e)).toInt ≤ (x (ix3 b g s)).toInt ∧ (x (ix3 b g s)).toInt < (ends (ix1 e)).toInt)

theorem preOK {off ends : IVec S16 32} {x ex : IVec S272x2x128 32} {need : IVec S272x16 32}
    (h1 : ∀ i, p1 off i = 1#1) (h2 : ∀ i, p2 x ex i = 1#1) (h3 : ∀ i, p3 off need i = 1#1) (h4 : ∀ i, p4 need i = 1#1) (h5 : ∀ i, p5 off ends x ex need i = 1#1) :
    PreOK off ends x ex need := by
  have z : (0#32 : BitVec 32).toInt = 0 := by decide
  have z1 : (69632#32 : BitVec 32).toInt = 69632 := by decide
  have z2 : (16#32 : BitVec 32).toInt = 16 := by decide
  have hoff : ∀ e : Fin 16, 0 ≤ (off (ix1 e)).toInt ∧ (off (ix1 e)).toInt ≤ 69632 := by
    intro e
    have := h1 (ix1 e)
    obtain ⟨a, b⟩ := and_one (a := IntOp.cmpi .sge (off (ix1 e)) 0#32) (b := IntOp.cmpi .sle (off (ix1 e)) 69632#32) this
    have := c_sge a; have := c_sle b; omega
  have hx : ∀ b g s, (0 ≤ (x (ix3 b g s)).toInt ∧ (x (ix3 b g s)).toInt < 69632) ∧ 0 ≤ (ex (ix3 b g s)).toInt ∧ (ex (ix3 b g s)).toInt < 16 := by
    intro b g s
    have := h2 (ix3 b g s)
    obtain ⟨a, d⟩ := and_one (a := IntOp.andi (IntOp.andi (IntOp.cmpi .sge (x (ix3 b g s)) 0#32) (IntOp.cmpi .slt (x (ix3 b g s)) 69632#32)) (IntOp.cmpi .sge (ex (ix3 b g s)) 0#32)) (b := IntOp.cmpi .slt (ex (ix3 b g s)) 16#32) this
    obtain ⟨a, d2⟩ := and_one a
    obtain ⟨a, d3⟩ := and_one a
    have := c_sge a; have := c_slt d3; have := c_sge d2; have := c_slt d; omega
  have hal : ∀ e : Fin 16, (kAl off (ix1 e)).toInt = (al (off (ix1 e)).toNat : ℤ) := by
    intro e
    rw [kAl_at]
    have h := nat_of_int (hoff e).1
    have hw : off (ix1 e) = BitVec.ofNat 32 (off (ix1 e)).toNat := by simp
    rw [hw]
    show (Scalar.andi (BitVec.ofNat 32 (off (ix1 e)).toNat) 4294967264#32).toInt = _
    rw [w_andi_m32 _ h.2, toInt_ofNat32 _ (by omega)]
    simp [al]
  have hneed : ∀ b (e : Fin 16), (al (off (ix1 e)).toNat : ℤ) ≤ (need (ix2 b e)).toInt ∧ (need (ix2 b e)).toInt ≤ 69632 := by
    intro b e
    have := h3 (ix2 b e)
    rw [p3_at] at this
    obtain ⟨a, d⟩ := and_one this
    have := c_sge a; have := c_sle d
    rw [hal] at *
    omega
  have nn : ∀ b (e : Fin 16), (need (ix2 b e)).toInt = ((need (ix2 b e)).toNat : ℤ) := fun b e => (nat_of_int (by have := (hneed b e).1; omega)).1
  have xn : ∀ b g s, (x (ix3 b g s)).toInt = ((x (ix3 b g s)).toNat : ℤ) := fun b g s => (nat_of_int (hx b g s).1.1).1
  have en : ∀ b g s, (ex (ix3 b g s)).toInt = ((ex (ix3 b g s)).toNat : ℤ) := fun b g s => (nat_of_int (hx b g s).2.1).1
  have on : ∀ e : Fin 16, (off (ix1 e)).toInt = ((off (ix1 e)).toNat : ℤ) := fun e => (nat_of_int (hoff e).1).1
  have hone : ∀ b g s (e : Fin 16), IntOp.cmpi .eq (ex (ix3 b g s)) (BitVec.ofNat 32 e.val) = 1#1 ↔ (ex (ix3 b g s)).toNat = e.val := by
    intro b g s e
    have he := e.isLt
    constructor
    · intro h; rw [c_eq h, BitVec.toNat_ofNat]; omega
    · intro h
      have : ex (ix3 b g s) = BitVec.ofNat 32 e.val := by rw [← h]; simp
      rw [this]; simp [IntOp.cmpi]
  refine ⟨fun e => ?_, fun b g s => ?_, fun b g s => ?_, fun b e => ?_, fun b e => ?_, fun b e => ?_, fun b g s e h => ?_, fun b g s e h => ?_⟩
  · have := hoff e; have := on e; omega
  · have := hx b g s; have := xn b g s; omega
  · have := hx b g s; have := en b g s; omega
  · have := hneed b e; have := nn b e; omega
  · have := hneed b e; have := nn b e; omega
  · have := h4 (ix2 b e)
    rw [p4_at] at this
    have := c_sge this
    rw [nn, nn] at this
    omega
  · have := h5 (ix4 b g s e)
    rw [p5_at] at this
    rcases or_one this with a | a
    · obtain ⟨a, d⟩ := and_one a
      obtain ⟨a, d1⟩ := and_one a
      obtain ⟨a, d2⟩ := and_one a
      obtain ⟨d3, d4⟩ := and_one d
      have i1 := c_sge a; have i2 := c_slt d2; have i3 := c_slt d3; have i4 := c_sle d4
      have hX := hx b g s
      have e4 : (IntOp.addi (x (ix3 b g s)) 256#32).toInt = (x (ix3 b g s)).toNat + 256 := by
        have hw : x (ix3 b g s) = BitVec.ofNat 32 (x (ix3 b g s)).toNat := by simp
        have hl := xn b g s
        generalize (x (ix3 b g s)).toNat = n at *
        rw [hw]
        show (Scalar.addi (BitVec.ofNat 32 n) (BitVec.ofNat 32 256)).toInt = _
        rw [w_addi, toInt_ofNat32 _ (by omega)]; push_cast; rfl
      rw [e4] at i4
      have := nn b e; have := xn b g s; have := on e
      exact ⟨by omega, i2, by omega, by omega⟩
    · obtain ⟨_, a⟩ := and_one a
      exact absurd ((hone b g s e).2 h) (not_one a)
  · have := h5 (ix4 b g s e)
    rw [p5_at] at this
    rcases or_one this with a | a
    · obtain ⟨a, d⟩ := and_one a
      obtain ⟨a, d1⟩ := and_one a
      exact absurd ((hone b g s e).1 d1) h
    · obtain ⟨a, _⟩ := and_one a
      intro hh
      apply not_one a
      have c1 : IntOp.cmpi .sge (x (ix3 b g s)) (off (ix1 e)) = 1#1 := by by_contra hc; have := c_sge' hc; omega
      have c2 : IntOp.cmpi .slt (x (ix3 b g s)) (ends (ix1 e)) = 1#1 := by by_contra hc; have := c_slt' hc; omega
      rw [c1, c2]; decide

end Cert.KernelIdeal.Hand

end
-- ==== Proof.Ideal.Fit.lean ====
module

public import proofs.«01_k».proof.Proof.Ideal.PreK
public import proofs.«01_k».proof.Proof.Ideal.Ring
public import Mathlib.Data.BitVec

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pointwise
open Idealize.SL.Sem

/-! ## The words of the ring, from the rows and the experts -/

theorem fold_one {K : ℕ} (f : Fin K → BitVec 32) (e : Fin K) (h : ∀ k, k ≠ e → f k = 0#32) :
    Finset.fold IntOp.addi 0#32 f Finset.univ = f e := by
  have h1 : Finset.fold IntOp.addi 0#32 f Finset.univ = ∑ k, f k := by
    rw [Finset.sum_eq_fold]; rfl
  rw [h1, Finset.sum_eq_single e (fun k _ hk => h k hk) (fun hk => absurd (Finset.mem_univ e) hk)]

def kSum (ex : IVec S272x2x128 32) (off : IVec S16 32) : IVec S272x2x128 32 :=
  Host.reduce IntOp.addi (select (cmpi .eq (kB3 ex) (kB1 (iotaInDim S16 32 0)))
    (broadcastInDim S272x2x128x16 ![3] bcast_S16_S272x2x128x16_3 (kAl off))
    (broadcastInDim S272x2x128x16 ![] bcast_S_S272x2x128x16 (constantI S_ 32 0#32))) (constantI S_ 32 0#32) reducesTo_S272x2x128x16_S272x2x128_d3 h_S_

theorem kSum_at (ex : IVec S272x2x128 32) (off : IVec S16 32) (b : Fin 272) (g : Fin 2) (s : Fin 128) :
    kSum ex off (ix3 b g s) = Finset.fold IntOp.addi 0#32
      (fun e : Fin 16 => if IntOp.cmpi .eq (ex (ix3 b g s)) (BitVec.ofNat 32 e.val) = 1#1 then kAl off (ix1 e) else 0#32) Finset.univ := by
  pointwise [kSum, kB3, kB1]
  rfl

theorem kSum_one (ex : IVec S272x2x128 32) (off : IVec S16 32) (b : Fin 272) (g : Fin 2) (s : Fin 128) (e : Fin 16) (h : (ex (ix3 b g s)).toNat = e.val) :
    kSum ex off (ix3 b g s) = kAl off (ix1 e) := by
  have hx : ex (ix3 b g s) = BitVec.ofNat 32 e.val := by rw [← h]; simp
  rw [kSum_at, fold_one _ e]
  · rw [if_pos (i_eq.2 hx)]
  · intro k hk
    rw [if_neg]
    rw [i_eq, hx]
    intro hh
    apply hk
    have := congrArg BitVec.toNat hh
    simp only [BitVec.toNat_ofNat] at this
    have := k.isLt; have := e.isLt
    exact Fin.ext (by omega)

theorem h_div (n : ℕ) (hn : n < 2 ^ 31) : IntOp.divsi .host (BitVec.ofNat 32 n) 256#32 = BitVec.ofNat 32 (n / 256) := by
  refine Eq.trans ?_ (w_divsi n 256 hn (by decide) (by decide))
  have : ¬ IntOp.SDivCorner (BitVec.ofNat 32 n) 256#32 := by
    intro h; rcases h with h | h
    · exact absurd h (by decide)
    · exact absurd h.2 (by decide)
  show IntOp.divsi .host (BitVec.ofNat 32 n) 256#32 = IntOp.divsi .scalar (BitVec.ofNat 32 n) 256#32
  unfold IntOp.divsi; rw [if_neg this, if_neg this]
theorem h_rem (n : ℕ) (hn : n < 2 ^ 31) : IntOp.remsi .host (BitVec.ofNat 32 n) 256#32 = BitVec.ofNat 32 (n % 256) := by
  refine Eq.trans ?_ (w_remsi n 256 hn (by decide) (by decide))
  have : ¬ IntOp.SDivCorner (BitVec.ofNat 32 n) 256#32 := by
    intro h; rcases h with h | h
    · exact absurd h (by decide)
    · exact absurd h.2 (by decide)
  show IntOp.remsi .host (BitVec.ofNat 32 n) 256#32 = IntOp.remsi .scalar (BitVec.ofNat 32 n) 256#32
  unfold IntOp.remsi; rw [if_neg this, if_neg this]

theorem kDiv_at (r : IVec S272x2x128 32) (b : Fin 272) (g : Fin 2) (s : Fin 128) (n : ℕ) (hn : n < 2 ^ 31) (h : r (ix3 b g s) = BitVec.ofNat 32 n) :
    kDiv r (ix3 b g s) = BitVec.ofNat 32 (n / 256) := by
  have h1 : kDiv r (ix3 b g s) = Scalar.select
    (IntOp.andi
      (IntOp.cmpi CmpIPredicate.ne (if r (ix3 b g s) = 0 then 0 else if (r (ix3 b g s)).msb = true then -1 else 1)
        (if (256#32 : BitVec 32) = 0 then 0 else if (256#32 : BitVec 32).msb = true then -1 else (1 : BitVec 32)))
      (IntOp.cmpi CmpIPredicate.ne (IntOp.remsi ArithUnit.host (r (ix3 b g s)) 256#32) 0#32))
    (IntOp.subi (IntOp.divsi ArithUnit.host (r (ix3 b g s)) 256#32) 1#32)
    (IntOp.divsi ArithUnit.host (r (ix3 b g s)) 256#32) := by
    pointwise [kDiv, kK]
  rw [h1, h, h_div n hn, h_rem n hn]
  by_cases h0 : n = 0
  · subst h0; rfl
  · have e1 : (BitVec.ofNat 32 n).msb = false := by
      rw [BitVec.msb_eq_decide, toNat_ofNat32 _ (by omega)]; simp; omega
    have e2 : ¬ BitVec.ofNat 32 n = 0 := by
      intro hh
      have := congrArg BitVec.toNat hh
      rw [toNat_ofNat32 _ (by omega)] at this
      simp at this; omega
    rw [if_neg e2, e1]
    have e3 : IntOp.cmpi CmpIPredicate.ne (if false = true then -1 else 1) (if (256#32 : BitVec 32) = 0 then 0 else if (256#32 : BitVec 32).msb = true then -1 else (1 : BitVec 32)) = 0#1 := by decide
    rw [e3]
    have h4 : ∀ z : BitVec 1, IntOp.andi 0#1 z = 0#1 := by decide
    rw [h4]; rfl

theorem kMod_at (r : IVec S272x2x128 32) (b : Fin 272) (g : Fin 2) (s : Fin 128) (n : ℕ) (hn : n < 2 ^ 31) (h : r (ix3 b g s) = BitVec.ofNat 32 n) :
    kMod r (ix3 b g s) = BitVec.ofNat 32 (n % 256) := by
  have hk : Scalar.select (IntOp.cmpi CmpIPredicate.eq (256#32 : BitVec 32) 0#32) 1#32 256#32 = 256#32 := by decide
  have h1 : kMod r (ix3 b g s) = Scalar.select (IntOp.andi (IntOp.cmpi .ne (IntOp.cmpi .slt (IntOp.remsi .host (r (ix3 b g s)) 256#32) 0#32) 0#1) (IntOp.cmpi .ne (IntOp.remsi .host (r (ix3 b g s)) 256#32) 0#32))
      (IntOp.addi (IntOp.remsi .host (r (ix3 b g s)) 256#32) 256#32) (IntOp.remsi .host (r (ix3 b g s)) 256#32) := by
    pointwise [kMod, kK, kB0, k256]
    simp only [hk]
    rfl
  rw [h1, h, h_rem n hn]
  have h3 : IntOp.cmpi .slt (BitVec.ofNat 32 (n % 256)) 0#32 = 0#1 := by
    have : ¬ IntOp.cmpi .slt (BitVec.ofNat 32 (n % 256)) 0#32 = 1#1 := by
      rw [i_slt, toInt_ofNat32 _ (by omega)]
      have : (0#32 : BitVec 32).toInt = 0 := by decide
      omega
    rcases BitVec.eq_zero_or_eq_one (IntOp.cmpi .slt (BitVec.ofNat 32 (n % 256)) 0#32) with h | h
    · exact h
    · exact absurd h this
  rw [h3]
  have h4 : ∀ z : BitVec 1, IntOp.andi (IntOp.cmpi .ne (0#1) (0#1)) z = 0#1 := by
    intro z
    have : IntOp.cmpi .ne (0#1) (0#1) = 0#1 := by decide
    rw [this]; exact BitVec.zero_and
  rw [h4]
  rfl

theorem kAddrOf_at (ex r : IVec S272x2x128 32) (b : Fin 272) (g : Fin 2) (s : Fin 128) (e n : ℕ) (he : e < 16) (hn : n < 2 ^ 31)
    (h : ex (ix3 b g s) = BitVec.ofNat 32 e) (hr : r (ix3 b g s) = BitVec.ofNat 32 n) :
    (kAddrOf ex r (ix3 b g s)).toNat = (e * 2 + n / 256 % 2) * 2056 + n % 256 := by
  have h1 : kAddrOf ex r (ix3 b g s) = Scalar.addi (Scalar.muli (Scalar.addi (Scalar.muli (ex (ix3 b g s)) 2#32) (Scalar.andi (kDiv r (ix3 b g s)) 1#32)) 2056#32) (kMod r (ix3 b g s)) := rfl
  rw [h1, kDiv_at r b g s n hn hr, kMod_at r b g s n hn hr, h, w_andi_one]
  have e1 : Scalar.muli (BitVec.ofNat 32 e) 2#32 = BitVec.ofNat 32 (e * 2) := w_muli e 2
  rw [e1, w_addi]
  have e2 : ∀ k, Scalar.muli (BitVec.ofNat 32 k) 2056#32 = BitVec.ofNat 32 (k * 2056) := fun k => w_muli k 2056
  rw [e2, w_addi, toNat_ofNat32 _ (by omega)]

section
variable (off ends : IVec S16 32) (x ex : IVec S272x2x128 32) (need : IVec S272x16 32)

def nOff (e : ℕ) : ℕ := if h : e < 16 then (off (ix1 (⟨e, h⟩ : Fin 16))).toNat else 0
def nNp : ℕ → ℕ → ℕ
  | 0, e => al (nOff off e)
  | b + 1, e => if h : b < 272 ∧ e < 16 then (need (ix2 (⟨b, h.1⟩ : Fin 272) (⟨e, h.2⟩ : Fin 16))).toNat else 0
def nAt (y : IVec S272x2x128 32) (b g s : ℕ) : ℕ := if h : b < 272 ∧ g < 2 ∧ s < 128 then (y (ix3 (⟨b, h.1⟩ : Fin 272) (⟨g, h.2.1⟩ : Fin 2) (⟨s, h.2.2⟩ : Fin 128))).toNat else 0

theorem nAt_eq (y : IVec S272x2x128 32) (b : Fin 272) (g : Fin 2) (s : Fin 128) : nAt y b.val g.val s.val = (y (ix3 b g s)).toNat := by
  unfold nAt; rw [dif_pos ⟨b.isLt, g.isLt, s.isLt⟩]
theorem nOff_eq (e : Fin 16) : nOff off e.val = (off (ix1 e)).toNat := by
  unfold nOff; rw [dif_pos e.isLt]
theorem nNp_eq (b : Fin 272) (e : Fin 16) : nNp off need (b.val + 1) e.val = (need (ix2 b e)).toNat := by
  show (if h : b.val < 272 ∧ e.val < 16 then (need (ix2 (⟨b.val, h.1⟩ : Fin 272) (⟨e.val, h.2⟩ : Fin 16))).toNat else 0) = _
  rw [dif_pos ⟨b.isLt, e.isLt⟩]

variable {off ends x ex need}

theorem hf_of (h : PreOK off ends x ex need) : HF (nOff off) (nNp off need) := by
  refine ⟨fun e he => ?_, fun e he => rfl, fun b e hb he => ?_, fun b e hb he => ?_⟩
  · have := h.off_le ⟨e, he⟩
    rw [← nOff_eq] at this; exact this
  · have e1 := nNp_eq off need ⟨b, hb⟩ ⟨e, he⟩
    cases b with
    | zero =>
      have := h.need_ge ⟨0, hb⟩ ⟨e, he⟩
      rw [← nOff_eq] at this
      show al (nOff off e) ≤ nNp off need (0 + 1) e
      rw [e1]; exact this
    | succ b =>
      have e2 := nNp_eq off need ⟨b, by omega⟩ ⟨e, he⟩
      have := h.mono ⟨b, by omega⟩ ⟨e, he⟩
      show nNp off need (b + 1) e ≤ nNp off need (b + 1 + 1) e
      rw [e1, e2]
      refine Nat.le_trans this (Nat.le_of_eq ?_)
      congr 3
      exact Fin.ext (Nat.add_comm 1 b)
  · cases b with
    | zero =>
      have := h.off_le ⟨e, he⟩
      rw [← nOff_eq] at this
      show al (nOff off e) ≤ _
      unfold al; simp only at this; omega
    | succ b =>
      have e2 := nNp_eq off need ⟨b, by omega⟩ ⟨e, he⟩
      rw [e2]; exact h.need_le _ _

theorem tok_of (h : PreOK off ends x ex need) (b : Fin 272) (g : Fin 2) (s : Fin 128) :
    TokOK (nOff off) (doneAt (nOff off) (nNp off need) b.val 16) (nAt ex b.val g.val s.val) (nAt x b.val g.val s.val) (kAddrOf ex (subi x (kSum ex off)) (ix3 b g s)) := by
  rw [nAt_eq, nAt_eq]
  have he := h.ex_lt b g s
  have hx := h.x_lt b g s
  obtain ⟨m1, m2, m3, m4⟩ := h.mine b g s ⟨_, he⟩ rfl
  have e1 := nOff_eq off ⟨_, he⟩
  have e2 := nNp_eq off need b ⟨_, he⟩
  have ge := h.need_ge b ⟨_, he⟩
  simp only at e1 e2
  have hd : doneAt (nOff off) (nNp off need) b.val 16 (ex (ix3 b g s)).toNat = dn (al (off (ix1 ⟨_, he⟩)).toNat) (need (ix2 b ⟨_, he⟩)).toNat := by
    unfold doneAt; rw [if_pos he, e1, e2]
  have ale : al (off (ix1 ⟨_, he⟩)).toNat ≤ (off (ix1 ⟨_, he⟩)).toNat := by unfold al; omega
  have dge : (need (ix2 b ⟨_, he⟩)).toNat ≤ dn (al (off (ix1 ⟨_, he⟩)).toNat) (need (ix2 b ⟨_, he⟩)).toNat
      ∧ dn (al (off (ix1 ⟨_, he⟩)).toNat) (need (ix2 b ⟨_, he⟩)).toNat ≤ (need (ix2 b ⟨_, he⟩)).toNat + 255 := by
    unfold dn; constructor <;> omega
  have hal : kAl off (ix1 ⟨_, he⟩) = BitVec.ofNat 32 (al (off (ix1 ⟨_, he⟩)).toNat) := by
    rw [kAl_at]
    have hw : off (ix1 ⟨_, he⟩) = BitVec.ofNat 32 (off (ix1 ⟨_, he⟩)).toNat := by simp
    have ho := h.off_le ⟨_, he⟩
    generalize (off (ix1 ⟨_, he⟩)).toNat = n at *
    rw [hw]; exact w_andi_m32 n (by omega)
  have hrel : subi x (kSum ex off) (ix3 b g s) = BitVec.ofNat 32 ((x (ix3 b g s)).toNat - al (off (ix1 ⟨_, he⟩)).toNat) := by
    show IntOp.subi (x (ix3 b g s)) (kSum ex off (ix3 b g s)) = _
    rw [kSum_one ex off b g s ⟨_, he⟩ rfl, hal]
    have hw : x (ix3 b g s) = BitVec.ofNat 32 (x (ix3 b g s)).toNat := by simp
    generalize (x (ix3 b g s)).toNat = n at *
    rw [hw]; exact w_subi n _ (by omega)
  have hex : ex (ix3 b g s) = BitVec.ofNat 32 (ex (ix3 b g s)).toNat := by simp
  refine ⟨he, ?_, ?_, ?_, hx, ?_⟩
  · rw [e1]; omega
  · rw [hd]; omega
  · rw [hd]; omega
  · rw [kAddrOf_at ex _ b g s _ _ he (by omega) hex hrel, e1]
end

end Cert.KernelIdeal.Hand

end
-- ==== Proof.Ideal.HostV.lean ====
module

public import proofs.«01_k».proof.Proof.Ideal.HostDefs

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (M : Valuation τ sig (Elt F))

theorem afterApp (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The buffer a value of the host program is in. -/
abbrev at_ (b : Ref sig .tc) : DevRef τ sig := Proc.devRef .tc b

def kModOf (r : IVec S272x2x128 32) (d : IVec S_ 32) : IVec S272x2x128 32 :=
  let k : IVec S_ 32 := select (cmpi .eq d (constantI S_ 32 0#32)) (constantI S_ 32 1#32) d
  select (andi (cmpi .ne (cmpi .slt (Host.remsi r (kB0 k)) (kK 0#32)) (broadcastInDim S272x2x128 ![] bcast_S_S272x2x128 (cmpi .slt k (constantI S_ 32 0#32)))) (cmpi .ne (Host.remsi r (kB0 k)) (kK 0#32)))
    (addi (Host.remsi r (kB0 k)) (kB0 k)) (Host.remsi r (kB0 k))

theorem cat2 {a a' : S272x15.Idx → BitVec 32} {b b' : S272x1.Idx → BitVec 32} (h1 : a = a') (h2 : b = b') :
    concatenate S272x16 1 [⟨S272x15, a⟩, ⟨S272x1, b⟩] concatenates_S272x15_S272x1_S272x16_d1 = concatenate S272x16 1 [⟨S272x15, a'⟩, ⟨S272x1, b'⟩] concatenates_S272x15_S272x1_S272x16_d1 := by
  rw [h1, h2]
theorem catP {a a' : S69632.Idx → Elt F .f32} {b b' : S256.Idx → Elt F .f32} (h1 : a = a') (h2 : b = b') :
    concatenate S69888 0 [⟨S69632, a⟩, ⟨S256, b⟩] concatenates_S69632_S256_S69888_d0 = concatenate S69888 0 [⟨S69632, a'⟩, ⟨S256, b'⟩] concatenates_S69632_S256_S69888_d0 := by
  rw [h1, h2]
theorem cat8 {a a' b b' c c' d d' e e' f f' g g' h h' : S2176x32.Idx → Elt F .f32} (h1 : a = a') (h2 : b = b') (h3 : c = c') (h4 : d = d') (h5 : e = e') (h6 : f = f') (h7 : g = g') (h8 : h = h') :
    concatenate S2176x256 1 [⟨S2176x32, a⟩, ⟨S2176x32, b⟩, ⟨S2176x32, c⟩, ⟨S2176x32, d⟩, ⟨S2176x32, e⟩, ⟨S2176x32, f⟩, ⟨S2176x32, g⟩, ⟨S2176x32, h⟩] concatenates_S2176x32_S2176x32_S2176x32_S2176x32_S2176x32_S2176x32_S2176x32_S2176x32_S2176x256_d1
      = concatenate S2176x256 1 [⟨S2176x32, a'⟩, ⟨S2176x32, b'⟩, ⟨S2176x32, c'⟩, ⟨S2176x32, d'⟩, ⟨S2176x32, e'⟩, ⟨S2176x32, f'⟩, ⟨S2176x32, g'⟩, ⟨S2176x32, h'⟩] concatenates_S2176x32_S2176x32_S2176x32_S2176x32_S2176x32_S2176x32_S2176x32_S2176x32_S2176x256_d1 := by
  rw [h1, h2, h3, h4, h5, h6, h7, h8]
theorem s0_v0 : (StableHlo.after (hostOps0 (F := F)) M (at_ main_v0) : IVec S16 32) = kEnds (M (at_ main_arg2) : IVec S16 32) := by
  simp only [hostOps0, at_]
  after_results_simp
  try simp -implicitDefEqProofs only [StableHlo.TRef.toBuf, StableHlo.TRef.ofBuf, cast_cast, cast_eq]
  all_goals rfl
theorem s0_arg2 : StableHlo.after (hostOps0 (F := F)) M (at_ main_arg2) = M (at_ main_arg2) := by
  simp only [hostOps0, at_]
  after_results_simp
theorem s0_arg5 : StableHlo.after (hostOps0 (F := F)) M (at_ main_arg5) = M (at_ main_arg5) := by
  simp only [hostOps0, at_]
  after_results_simp
theorem s0_arg1 : StableHlo.after (hostOps0 (F := F)) M (at_ main_arg1) = M (at_ main_arg1) := by
  simp only [hostOps0, at_]
  after_results_simp
theorem s1_v1 : (StableHlo.after (hostOps0_1 (F := F)) M (at_ main_v1) : IVec S16 32) = subi (M (at_ main_v0) : IVec S16 32) (M (at_ main_arg2) : IVec S16 32) := by
  simp only [hostOps0_1, at_]
  after_results_simp
  try simp -implicitDefEqProofs only [StableHlo.TRef.toBuf, StableHlo.TRef.ofBuf, cast_cast, cast_eq]
  all_goals rfl
theorem s1_v3 : (StableHlo.after (hostOps0_1 (F := F)) M (at_ main_v3) : IVec S272x2x128 32) = kIdx (M (at_ main_arg5) : IVec S34816x2 32) := by
  simp only [hostOps0_1, at_]
  after_results_simp
  try simp -implicitDefEqProofs only [StableHlo.TRef.toBuf, StableHlo.TRef.ofBuf, cast_cast, cast_eq]
  all_goals rfl
theorem s1_v15 : (StableHlo.after (hostOps0_1 (F := F)) M (at_ main_v15) : IVec S272x2x128 32) = kExpert (M (at_ main_v0) : IVec S16 32) (kIdx (M (at_ main_arg5) : IVec S34816x2 32)) := by
  simp only [hostOps0_1, at_]
  after_results_simp
  try simp -implicitDefEqProofs only [StableHlo.TRef.toBuf, StableHlo.TRef.ofBuf, cast_cast, cast_eq]
  all_goals rfl
theorem s1_v21 : (StableHlo.after (hostOps0_1 (F := F)) M (at_ main_v21) : IVec S272x16 32) = kHist (kCnt (subi (M (at_ main_v0) : IVec S16 32) (M (at_ main_arg2) : IVec S16 32)) (kIdx (M (at_ main_arg5) : IVec S34816x2 32))) := by
  simp only [hostOps0_1, at_]
  after_results_simp
  refine congrArg₂ subi ?_ (cat2 ?_ ?_)
  all_goals try after_results_simp
  all_goals try simp -implicitDefEqProofs only [StableHlo.TRef.toBuf, StableHlo.TRef.ofBuf, cast_cast, cast_eq]
  all_goals rfl
theorem s1_arg1 : StableHlo.after (hostOps0_1 (F := F)) M (at_ main_arg1) = M (at_ main_arg1) := by
  simp only [hostOps0_1, at_]
  after_results_simp
theorem s2_v22 : (StableHlo.after (hostOps0_2 (F := F)) M (at_ main_v22) : IVec S272x16 32) = Host.reduceWindow IntOp.addi ![272, 1] ![1, 1] ![271, 0] ![0, 0] (M (at_ main_v21) : IVec S272x16 32) (broadcastInDim S_ ![] bcast_S_S_ (constantI S_ 32 0#32)) reduceWindows_S272x16_S272x16_w272s1p271_0_w1s1p0_0 h_S_ := by
  simp only [hostOps0_2, at_]
  after_results_simp
  try simp -implicitDefEqProofs only [StableHlo.TRef.toBuf, StableHlo.TRef.ofBuf, cast_cast, cast_eq]
  all_goals rfl
theorem s2_v1 : StableHlo.after (hostOps0_2 (F := F)) M (at_ main_v1) = M (at_ main_v1) := by
  simp only [hostOps0_2, at_]
  after_results_simp
theorem s2_v3 : StableHlo.after (hostOps0_2 (F := F)) M (at_ main_v3) = M (at_ main_v3) := by
  simp only [hostOps0_2, at_]
  after_results_simp
theorem s2_v15 : StableHlo.after (hostOps0_2 (F := F)) M (at_ main_v15) = M (at_ main_v15) := by
  simp only [hostOps0_2, at_]
  after_results_simp
theorem s2_arg1 : StableHlo.after (hostOps0_2 (F := F)) M (at_ main_arg1) = M (at_ main_arg1) := by
  simp only [hostOps0_2, at_]
  after_results_simp
theorem s3_v25 : (StableHlo.after (hostOps0_3 (F := F)) M (at_ main_v25) : IVec S272x16 32) = addi (broadcastInDim S272x16 ![0, 1] bcast_S1x16_S272x16_0_1 (broadcastInDim S1x16 ![1] bcast_S16_S1x16_1 (M (at_ main_v1) : IVec S16 32))) (M (at_ main_v22) : IVec S272x16 32) := by
  simp only [hostOps0_3, at_]
  after_results_simp
  try simp -implicitDefEqProofs only [StableHlo.TRef.toBuf, StableHlo.TRef.ofBuf, cast_cast, cast_eq]
  all_goals rfl
theorem s3_v28 : (StableHlo.after (hostOps0_3 (F := F)) M (at_ main_v28) : IVec S272x16 1) = cmpi .sgt (addi (broadcastInDim S272x16 ![0, 1] bcast_S1x16_S272x16_0_1 (broadcastInDim S1x16 ![1] bcast_S16_S1x16_1 (M (at_ main_v1) : IVec S16 32))) (M (at_ main_v22) : IVec S272x16 32)) (broadcastInDim S272x16 ![0, 1] bcast_S1x16_S272x16_0_1 (broadcastInDim S1x16 ![1] bcast_S16_S1x16_1 (M (at_ main_v1) : IVec S16 32))) := by
  simp only [hostOps0_3, at_]
  after_results_simp
  try simp -implicitDefEqProofs only [StableHlo.TRef.toBuf, StableHlo.TRef.ofBuf, cast_cast, cast_eq]
  all_goals rfl
theorem s3_v30 : (StableHlo.after (hostOps0_3 (F := F)) M (at_ main_v30) : IVec S16 32) = kAl (M (at_ main_v1) : IVec S16 32) := by
  simp only [hostOps0_3, at_]
  after_results_simp
  try simp -implicitDefEqProofs only [StableHlo.TRef.toBuf, StableHlo.TRef.ofBuf, cast_cast, cast_eq]
  all_goals rfl
theorem s3_v1 : StableHlo.after (hostOps0_3 (F := F)) M (at_ main_v1) = M (at_ main_v1) := by
  simp only [hostOps0_3, at_]
  after_results_simp
theorem s3_v3 : StableHlo.after (hostOps0_3 (F := F)) M (at_ main_v3) = M (at_ main_v3) := by
  simp only [hostOps0_3, at_]
  after_results_simp
theorem s3_v15 : StableHlo.after (hostOps0_3 (F := F)) M (at_ main_v15) = M (at_ main_v15) := by
  simp only [hostOps0_3, at_]
  after_results_simp
theorem s3_arg1 : StableHlo.after (hostOps0_3 (F := F)) M (at_ main_arg1) = M (at_ main_arg1) := by
  simp only [hostOps0_3, at_]
  after_results_simp
theorem s4_v31 : (StableHlo.after (hostOps0_4 (F := F)) M (at_ main_v31) : IVec S272x16 32) = select (M (at_ main_v28) : IVec S272x16 1) (M (at_ main_v25) : IVec S272x16 32) (broadcastInDim S272x16 ![1] bcast_S16_S272x16_1 (M (at_ main_v30) : IVec S16 32)) := by
  simp only [hostOps0_4, at_]
  after_results_simp
  try simp -implicitDefEqProofs only [StableHlo.TRef.toBuf, StableHlo.TRef.ofBuf, cast_cast, cast_eq]
  all_goals rfl
theorem s4_v1 : StableHlo.after (hostOps0_4 (F := F)) M (at_ main_v1) = M (at_ main_v1) := by
  simp only [hostOps0_4, at_]
  after_results_simp
theorem s4_v3 : StableHlo.after (hostOps0_4 (F := F)) M (at_ main_v3) = M (at_ main_v3) := by
  simp only [hostOps0_4, at_]
  after_results_simp
theorem s4_v15 : StableHlo.after (hostOps0_4 (F := F)) M (at_ main_v15) = M (at_ main_v15) := by
  simp only [hostOps0_4, at_]
  after_results_simp
theorem s4_arg1 : StableHlo.after (hostOps0_4 (F := F)) M (at_ main_arg1) = M (at_ main_arg1) := by
  simp only [hostOps0_4, at_]
  after_results_simp
theorem s5_v33 : (StableHlo.after (hostOps0_5 (F := F)) M (at_ main_v33) : IVec S16 32) = kAl (M (at_ main_v1) : IVec S16 32) := by
  simp only [hostOps0_5, at_]
  after_results_simp
  try simp -implicitDefEqProofs only [StableHlo.TRef.toBuf, StableHlo.TRef.ofBuf, cast_cast, cast_eq]
  all_goals rfl
theorem s5_v39 : (StableHlo.after (hostOps0_5 (F := F)) M (at_ main_v39) : IVec S272x2x128x16 1) = cmpi .eq (kB3 (M (at_ main_v15) : IVec S272x2x128 32)) (kB1 (iotaInDim S16 32 0)) := by
  simp only [hostOps0_5, at_]
  after_results_simp
  try simp -implicitDefEqProofs only [StableHlo.TRef.toBuf, StableHlo.TRef.ofBuf, cast_cast, cast_eq]
  all_goals rfl
theorem s5_c_4 : (StableHlo.after (hostOps0_5 (F := F)) M (at_ main_c_4) : IVec S_ 32) = constantI S_ 32 0#32 := by
  simp only [hostOps0_5, at_]
  after_results_simp
  try simp -implicitDefEqProofs only [StableHlo.TRef.toBuf, StableHlo.TRef.ofBuf, cast_cast, cast_eq]
  all_goals rfl
theorem s5_v1 : StableHlo.after (hostOps0_5 (F := F)) M (at_ main_v1) = M (at_ main_v1) := by
  simp only [hostOps0_5, at_]
  after_results_simp
theorem s5_v31 : StableHlo.after (hostOps0_5 (F := F)) M (at_ main_v31) = M (at_ main_v31) := by
  simp only [hostOps0_5, at_]
  after_results_simp
theorem s5_v3 : StableHlo.after (hostOps0_5 (F := F)) M (at_ main_v3) = M (at_ main_v3) := by
  simp only [hostOps0_5, at_]
  after_results_simp
theorem s5_v15 : StableHlo.after (hostOps0_5 (F := F)) M (at_ main_v15) = M (at_ main_v15) := by
  simp only [hostOps0_5, at_]
  after_results_simp
theorem s5_arg1 : StableHlo.after (hostOps0_5 (F := F)) M (at_ main_arg1) = M (at_ main_arg1) := by
  simp only [hostOps0_5, at_]
  after_results_simp
theorem s6_v40 : (StableHlo.after (hostOps0_6 (F := F)) M (at_ main_v40) : IVec S272x2x128x16 32) = select (M (at_ main_v39) : IVec S272x2x128x16 1) (broadcastInDim S272x2x128x16 ![3] bcast_S16_S272x2x128x16_3 (M (at_ main_v33) : IVec S16 32)) (broadcastInDim S272x2x128x16 ![] bcast_S_S272x2x128x16 (M (at_ main_c_4) : IVec S_ 32)) := by
  simp only [hostOps0_6, at_]
  after_results_simp
  try simp -implicitDefEqProofs only [StableHlo.TRef.toBuf, StableHlo.TRef.ofBuf, cast_cast, cast_eq]
  all_goals rfl
theorem s6_v1 : StableHlo.after (hostOps0_6 (F := F)) M (at_ main_v1) = M (at_ main_v1) := by
  simp only [hostOps0_6, at_]
  after_results_simp
theorem s6_v31 : StableHlo.after (hostOps0_6 (F := F)) M (at_ main_v31) = M (at_ main_v31) := by
  simp only [hostOps0_6, at_]
  after_results_simp
theorem s6_v3 : StableHlo.after (hostOps0_6 (F := F)) M (at_ main_v3) = M (at_ main_v3) := by
  simp only [hostOps0_6, at_]
  after_results_simp
theorem s6_v15 : StableHlo.after (hostOps0_6 (F := F)) M (at_ main_v15) = M (at_ main_v15) := by
  simp only [hostOps0_6, at_]
  after_results_simp
theorem s6_arg1 : StableHlo.after (hostOps0_6 (F := F)) M (at_ main_arg1) = M (at_ main_arg1) := by
  simp only [hostOps0_6, at_]
  after_results_simp
theorem s7_v42 : (StableHlo.after (hostOps0_7 (F := F)) M (at_ main_v42) : IVec S272x2x128 32) = subi (M (at_ main_v3) : IVec S272x2x128 32) (Host.reduce IntOp.addi (M (at_ main_v40) : IVec S272x2x128x16 32) (constantI S_ 32 0#32) reducesTo_S272x2x128x16_S272x2x128_d3 h_S_) := by
  simp only [hostOps0_7, at_]
  after_results_simp
  try simp -implicitDefEqProofs only [StableHlo.TRef.toBuf, StableHlo.TRef.ofBuf, cast_cast, cast_eq]
  all_goals rfl
theorem s7_v44 : (StableHlo.after (hostOps0_7 (F := F)) M (at_ main_v44) : IVec S272x2x128 32) = muli (M (at_ main_v15) : IVec S272x2x128 32) (kK 2#32) := by
  simp only [hostOps0_7, at_]
  after_results_simp
  try simp -implicitDefEqProofs only [StableHlo.TRef.toBuf, StableHlo.TRef.ofBuf, cast_cast, cast_eq]
  all_goals rfl
theorem s7_c_7 : (StableHlo.after (hostOps0_7 (F := F)) M (at_ main_c_7) : IVec S_ 32) = constantI S_ 32 256#32 := by
  simp only [hostOps0_7, at_]
  after_results_simp
  try simp -implicitDefEqProofs only [StableHlo.TRef.toBuf, StableHlo.TRef.ofBuf, cast_cast, cast_eq]
  all_goals rfl
theorem s7_v1 : StableHlo.after (hostOps0_7 (F := F)) M (at_ main_v1) = M (at_ main_v1) := by
  simp only [hostOps0_7, at_]
  after_results_simp
theorem s7_v31 : StableHlo.after (hostOps0_7 (F := F)) M (at_ main_v31) = M (at_ main_v31) := by
  simp only [hostOps0_7, at_]
  after_results_simp
theorem s7_arg1 : StableHlo.after (hostOps0_7 (F := F)) M (at_ main_arg1) = M (at_ main_arg1) := by
  simp only [hostOps0_7, at_]
  after_results_simp
theorem s8_v45 : (StableHlo.after (hostOps0_8 (F := F)) M (at_ main_v45) : IVec S272x2x128 32) = select (andi (cmpi .ne (signi (M (at_ main_v42) : IVec S272x2x128 32)) (broadcastInDim S272x2x128 ![] bcast_S_S272x2x128 (signi (M (at_ main_c_7) : IVec S_ 32)))) (cmpi .ne (Host.remsi (M (at_ main_v42) : IVec S272x2x128 32) (kB0 (M (at_ main_c_7) : IVec S_ 32))) (kK 0#32))) (subi (Host.divsi (M (at_ main_v42) : IVec S272x2x128 32) (kB0 (M (at_ main_c_7) : IVec S_ 32))) (kK 1#32)) (Host.divsi (M (at_ main_v42) : IVec S272x2x128 32) (kB0 (M (at_ main_c_7) : IVec S_ 32))) := by
  simp only [hostOps0_8, at_]
  after_results_simp
  try simp -implicitDefEqProofs only [StableHlo.TRef.toBuf, StableHlo.TRef.ofBuf, cast_cast, cast_eq]
  all_goals rfl
theorem s8_v1 : StableHlo.after (hostOps0_8 (F := F)) M (at_ main_v1) = M (at_ main_v1) := by
  simp only [hostOps0_8, at_]
  after_results_simp
theorem s8_v31 : StableHlo.after (hostOps0_8 (F := F)) M (at_ main_v31) = M (at_ main_v31) := by
  simp only [hostOps0_8, at_]
  after_results_simp
theorem s8_v42 : StableHlo.after (hostOps0_8 (F := F)) M (at_ main_v42) = M (at_ main_v42) := by
  simp only [hostOps0_8, at_]
  after_results_simp
theorem s8_v44 : StableHlo.after (hostOps0_8 (F := F)) M (at_ main_v44) = M (at_ main_v44) := by
  simp only [hostOps0_8, at_]
  after_results_simp
theorem s8_arg1 : StableHlo.after (hostOps0_8 (F := F)) M (at_ main_arg1) = M (at_ main_arg1) := by
  simp only [hostOps0_8, at_]
  after_results_simp
theorem s9_v50 : (StableHlo.after (hostOps0_9 (F := F)) M (at_ main_v50) : IVec S272x2x128 32) = muli (addi (M (at_ main_v44) : IVec S272x2x128 32) (andi (M (at_ main_v45) : IVec S272x2x128 32) (kK 1#32))) (kK 2056#32) := by
  simp only [hostOps0_9, at_]
  after_results_simp
  try simp -implicitDefEqProofs only [StableHlo.TRef.toBuf, StableHlo.TRef.ofBuf, cast_cast, cast_eq]
  all_goals rfl
theorem s9_c_10 : (StableHlo.after (hostOps0_9 (F := F)) M (at_ main_c_10) : IVec S_ 32) = constantI S_ 32 256#32 := by
  simp only [hostOps0_9, at_]
  after_results_simp
  try simp -implicitDefEqProofs only [StableHlo.TRef.toBuf, StableHlo.TRef.ofBuf, cast_cast, cast_eq]
  all_goals rfl
theorem s9_v1 : StableHlo.after (hostOps0_9 (F := F)) M (at_ main_v1) = M (at_ main_v1) := by
  simp only [hostOps0_9, at_]
  after_results_simp
theorem s9_v31 : StableHlo.after (hostOps0_9 (F := F)) M (at_ main_v31) = M (at_ main_v31) := by
  simp only [hostOps0_9, at_]
  after_results_simp
theorem s9_v42 : StableHlo.after (hostOps0_9 (F := F)) M (at_ main_v42) = M (at_ main_v42) := by
  simp only [hostOps0_9, at_]
  after_results_simp
theorem s9_arg1 : StableHlo.after (hostOps0_9 (F := F)) M (at_ main_arg1) = M (at_ main_arg1) := by
  simp only [hostOps0_9, at_]
  after_results_simp
theorem s10_v51 : (StableHlo.after (hostOps0_10 (F := F)) M (at_ main_v51) : IVec S272x2x128 32) = kModOf (M (at_ main_v42) : IVec S272x2x128 32) (M (at_ main_c_10) : IVec S_ 32) := by
  simp only [hostOps0_10, at_]
  after_results_simp
  try simp -implicitDefEqProofs only [StableHlo.TRef.toBuf, StableHlo.TRef.ofBuf, cast_cast, cast_eq]
  all_goals rfl
theorem s10_v1 : StableHlo.after (hostOps0_10 (F := F)) M (at_ main_v1) = M (at_ main_v1) := by
  simp only [hostOps0_10, at_]
  after_results_simp
theorem s10_v31 : StableHlo.after (hostOps0_10 (F := F)) M (at_ main_v31) = M (at_ main_v31) := by
  simp only [hostOps0_10, at_]
  after_results_simp
theorem s10_v50 : StableHlo.after (hostOps0_10 (F := F)) M (at_ main_v50) = M (at_ main_v50) := by
  simp only [hostOps0_10, at_]
  after_results_simp
theorem s10_arg1 : StableHlo.after (hostOps0_10 (F := F)) M (at_ main_arg1) = M (at_ main_arg1) := by
  simp only [hostOps0_10, at_]
  after_results_simp
theorem s11_v52 : (StableHlo.after (hostOps0_11 (F := F)) M (at_ main_v52) : IVec S272x2x128 32) = addi (M (at_ main_v50) : IVec S272x2x128 32) (M (at_ main_v51) : IVec S272x2x128 32) := by
  simp only [hostOps0_11, at_]
  after_results_simp
  try simp -implicitDefEqProofs only [StableHlo.TRef.toBuf, StableHlo.TRef.ofBuf, cast_cast, cast_eq]
  all_goals rfl
theorem s11_v1 : StableHlo.after (hostOps0_11 (F := F)) M (at_ main_v1) = M (at_ main_v1) := by
  simp only [hostOps0_11, at_]
  after_results_simp
theorem s11_v31 : StableHlo.after (hostOps0_11 (F := F)) M (at_ main_v31) = M (at_ main_v31) := by
  simp only [hostOps0_11, at_]
  after_results_simp
theorem s11_split (b : Ref sig .tc) : StableHlo.after (hostOps0_11 (F := F)) M (at_ b) = StableHlo.after ((hostOps0_11 (F := F)).drop 7) (StableHlo.after ((hostOps0_11 (F := F)).take 7) M) (at_ b) := by
  rw [← afterApp, List.take_append_drop]

theorem s11_v57 : (StableHlo.after ((hostOps0_11 (F := F)).take 7) M (at_ main_v57) : S2184x32.Idx → Elt F .f32) = kPad (M (at_ main_arg1) : S69632.Idx → Elt F .f32) := by
  simp only [hostOps0_11, at_, List.take]
  after_results_simp
  try simp -implicitDefEqProofs only [StableHlo.TRef.toBuf, StableHlo.TRef.ofBuf, cast_cast, cast_eq]
  refine congrArg (fun z : S69888.Idx → Elt F .f32 => shapeCast S2184x32 z shapeCasts_S69888_S2184x32) (catP ?_ ?_)
  · after_results_simp
    all_goals rfl
  · after_results_simp
    all_goals rfl

theorem s11_drop : (StableHlo.after ((hostOps0_11 (F := F)).drop 7) M (at_ main_v67) : S2176x2x128.Idx → Elt F .f32) = kHs (M (at_ main_v57) : S2184x32.Idx → Elt F .f32) := by
  simp only [hostOps0_11, at_, List.drop]
  after_results_simp
  try simp -implicitDefEqProofs only [StableHlo.TRef.toBuf, StableHlo.TRef.ofBuf, cast_cast, cast_eq]
  refine congrArg (fun z : S2176x256.Idx → Elt F .f32 => shapeCast S2176x2x128 z shapeCasts_S2176x256_S2176x2x128) (cat8 ?_ ?_ ?_ ?_ ?_ ?_ ?_ ?_)
  · change HloOp.result _ _ (Proc.devRef .tc main_v58) = _
    after_results_simp
    all_goals try simp -implicitDefEqProofs only [StableHlo.TRef.toBuf, StableHlo.TRef.ofBuf, cast_cast, cast_eq]
    all_goals rfl
  · change HloOp.result _ _ (Proc.devRef .tc main_v59) = _
    after_results_simp
    all_goals try simp -implicitDefEqProofs only [StableHlo.TRef.toBuf, StableHlo.TRef.ofBuf, cast_cast, cast_eq]
    all_goals rfl
  · change HloOp.result _ _ (Proc.devRef .tc main_v60) = _
    after_results_simp
    all_goals try simp -implicitDefEqProofs only [StableHlo.TRef.toBuf, StableHlo.TRef.ofBuf, cast_cast, cast_eq]
    all_goals rfl
  · change HloOp.result _ _ (Proc.devRef .tc main_v61) = _
    after_results_simp
    all_goals try simp -implicitDefEqProofs only [StableHlo.TRef.toBuf, StableHlo.TRef.ofBuf, cast_cast, cast_eq]
    all_goals rfl
  · change HloOp.result _ _ (Proc.devRef .tc main_v62) = _
    after_results_simp
    all_goals try simp -implicitDefEqProofs only [StableHlo.TRef.toBuf, StableHlo.TRef.ofBuf, cast_cast, cast_eq]
    all_goals rfl
  · change HloOp.result _ _ (Proc.devRef .tc main_v63) = _
    after_results_simp
    all_goals try simp -implicitDefEqProofs only [StableHlo.TRef.toBuf, StableHlo.TRef.ofBuf, cast_cast, cast_eq]
    all_goals rfl
  · change HloOp.result _ _ (Proc.devRef .tc main_v64) = _
    after_results_simp
    all_goals try simp -implicitDefEqProofs only [StableHlo.TRef.toBuf, StableHlo.TRef.ofBuf, cast_cast, cast_eq]
    all_goals rfl
  · change HloOp.result _ _ (Proc.devRef .tc main_v65) = _
    after_results_simp
    all_goals try simp -implicitDefEqProofs only [StableHlo.TRef.toBuf, StableHlo.TRef.ofBuf, cast_cast, cast_eq]
    all_goals rfl

theorem s11_v67 : (StableHlo.after (hostOps0_11 (F := F)) M (at_ main_v67) : S2176x2x128.Idx → Elt F .f32) = kHs (kPad (M (at_ main_arg1) : S69632.Idx → Elt F .f32)) := by
  rw [s11_split, s11_drop, s11_v57]

variable (m : (ℓ : Loc nD τ sig) → Buf (Elt F) ℓ)

theorem V_seg (c : Dev nD) (b : Ref sig .tc) : V m c b
    = StableHlo.after hostOps0_11 (StableHlo.after hostOps0_10 (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2 (StableHlo.after hostOps0_1 (StableHlo.after hostOps0 (fun b => m (c, b))))))))))))) (at_ b) := by
  unfold V
  simp only [List.flatten_cons, List.flatten_nil, List.append_nil, afterApp]
  all_goals rfl

theorem V_v67 (c : Dev nD) : (V m c main_v67 : S2176x2x128.Idx → Elt F .f32) = kHs (kPad (m ((c : Thread nD τ).loc main_arg1))) := by
  rw [V_seg]
  rw [s11_v67, s10_arg1, s9_arg1, s8_arg1, s7_arg1, s6_arg1, s5_arg1, s4_arg1, s3_arg1, s2_arg1, s1_arg1, s0_arg1]
  all_goals rfl

theorem V_v1 (c : Dev nD) : (V m c main_v1 : IVec S16 32) = kOff (m ((c : Thread nD τ).loc main_arg2)) := by
  rw [V_seg]
  rw [s11_v1, s10_v1, s9_v1, s8_v1, s7_v1, s6_v1, s5_v1, s4_v1, s3_v1, s2_v1, s1_v1, s0_v0, s0_arg2]
  all_goals rfl

theorem V_v31 (c : Dev nD) : (V m c main_v31 : IVec S272x16 32) = kNeed (kOff (m ((c : Thread nD τ).loc main_arg2))) (kIdx (m ((c : Thread nD τ).loc main_arg5))) := by
  rw [V_seg]
  rw [s11_v31, s10_v31, s9_v31, s8_v31, s7_v31, s6_v31, s5_v31, s4_v31, s3_v28, s3_v25, s3_v30, s2_v1, s2_v22, s1_v21, s1_v1, s0_v0, s0_arg2, s0_arg5]
  all_goals rfl

theorem V_v52 (c : Dev nD) : (V m c main_v52 : IVec S272x2x128 32) = kAddrOf (kExpert (kEnds (m ((c : Thread nD τ).loc main_arg2))) (kIdx (m ((c : Thread nD τ).loc main_arg5))))
      (kRel (kOff (m ((c : Thread nD τ).loc main_arg2))) (kEnds (m ((c : Thread nD τ).loc main_arg2))) (kIdx (m ((c : Thread nD τ).loc main_arg5)))) := by
  rw [V_seg]
  rw [s11_v52, s10_v50, s10_v51, s9_v50, s9_v42, s9_c_10, s8_v44, s8_v45, s8_v42, s7_v42, s7_v44, s7_c_7, s6_v40, s6_v3, s6_v15, s5_v3, s5_v15, s5_v39, s5_v33, s5_c_4, s4_v3, s4_v15, s4_v1, s3_v3, s3_v15, s3_v1, s2_v3, s2_v15, s2_v1, s1_v1, s1_v15, s1_v3, s0_v0, s0_arg2, s0_arg5]
  all_goals rfl

theorem V_v54 (c : Dev nD) : (V m c main_v54 : S272x2x128.Idx → Elt F .f32) = kTw (m ((c : Thread nD τ).loc main_arg6)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  try simp -implicitDefEqProofs only [StableHlo.TRef.toBuf, StableHlo.TRef.ofBuf, cast_cast, cast_eq]
  all_goals rfl

theorem V_v68 (c : Dev nD) : (V m c main_v68 : S16x1x3072.Idx → Elt F .f32) = kWs (m ((c : Thread nD τ).loc main_arg4)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  try simp -implicitDefEqProofs only [StableHlo.TRef.toBuf, StableHlo.TRef.ofBuf, cast_cast, cast_eq]
  all_goals rfl

end Cert.KernelIdeal.Hand

end
-- ==== Proof.Ideal.T2.lean ====
module

public import proofs.«01_k».proof.Proof.Ideal.Tok

@[expose] public section

set_option maxRecDepth 65536
set_option maxHeartbeats 40000000

noncomputable section

namespace Cert.KernelIdeal.Hand

open Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The rest of what a block of tokens uses. -/
def Rest2 (X7 : BufTy.Contents (Elt F) arg7.view.ty) (X8 : BufTy.Contents (Elt F) arg8.view.ty) (J : (S34816x3072.Idx → Elt F .bf16) → Prop) : sProp 𝕄 :=
  iprop(∃ (O : BufTy.Contents (Elt F) arg9.view.ty) (f14 : BufTy.Contents (Elt F) arg14.view.ty) (f15 : BufTy.Contents (Elt F) arg15.view.ty)
      (f16 : BufTy.Contents (Elt F) arg16.view.ty) (f17 : BufTy.Contents (Elt F) arg17.view.ty),
    (arg7.view.loc (c : Thread nD τ) ↦[arg7.view.set]{fullShare} X7) ∗
    (arg8.view.loc (c : Thread nD τ) ↦[arg8.view.set]{fullShare} X8) ∗
    (arg9.view.loc (c : Thread nD τ) ↦[arg9.view.set]{fullShare} O) ∗
    (arg14.view.loc (c : Thread nD τ) ↦[arg14.view.set]{fullShare} f14) ∗
    (arg15.view.loc (c : Thread nD τ) ↦[arg15.view.set]{fullShare} f15) ∗
    (arg16.view.loc (c : Thread nD τ) ↦[arg16.view.set]{fullShare} f16) ∗
    (arg17.view.loc (c : Thread nD τ) ↦[arg17.view.set]{fullShare} f17) ∗
    semVal ((c : Thread nD τ), SemLoc.dma arg22.sem) 0 ∗ semVal ((c : Thread nD τ), SemLoc.dma arg23.sem) 0 ∗ semVal ((c : Thread nD τ), SemLoc.dma arg24.sem) 0 ∗
    ⌜J (arg9.view.read (Elt F) O)⌝)

theorem keep {sp : Space} {s : Shape} {t : EltTy} (M : Memref sig .tc sp s t) (f : BufTy.Contents (Elt F) M.view.ty) :
    (M.view.loc (c : Thread nD τ) ↦[M.view.set]{fullShare} f : sProp 𝕄) ⊢ iprop(∃ g, (M.view.loc (c : Thread nD τ) ↦[M.view.set]{fullShare} g) ∗ ⌜g = f⌝) := by
  iintro H
  iexists f
  isplitl [H]
  · iexact H
  · ipureintro; rfl

set_option maxHeartbeats 400000000 in
theorem t2_trip (k0_t2 : Fin k0_t2_loop.trips)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (X7 : BufTy.Contents (Elt F) arg7.view.ty) (X8 : BufTy.Contents (Elt F) arg8.view.ty) (J J' : (S34816x3072.Idx → Elt F .bf16) → Prop)
    (E R : ℕ → ℕ → ℕ) (Z : ℕ → ℕ → Elt F .f32 → Prop) (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (g : Fin 2) (s : Fin 128), TokOK off (doneAt off np k0_t2.val 16) (E g.val s.val) (R g.val s.val) (arg7.view.read (Elt F) X7 (ix3 (⟨k0_t2.val, t2_lt k0_t2⟩ : Fin 272) g s)))
    (hZ : ∀ (s : Fin 128) (col : ℕ) (y0 y1 : Elt F .f32), col < 1024 → P (E 0 s.val) (R 0 s.val) col y0 → P (E 1 s.val) (R 1 s.val) col y1 →
      Z s.val col (FloatOps.addf (FloatOps.mulf y0 (arg8.view.read (Elt F) X8 (ix3 (⟨k0_t2.val, t2_lt k0_t2⟩ : Fin 272) (0 : Fin 2) s))) (FloatOps.mulf y1 (arg8.view.read (Elt F) X8 (ix3 (⟨k0_t2.val, t2_lt k0_t2⟩ : Fin 272) (1 : Fin 2) s)))))
    (hJ : ∀ O O', J O → OutStep (i 0).val k0_t2.val (fun s col x => ∃ v, Z s col v ∧ x = FloatOps.truncf .bf16 bitsLt_bf16_f32 v) O O' → J' O') :
    iprop((arg1.view.loc (c : Thread nD τ) ↦[arg1.view.set]{fullShare} X1) ∗ Ring4 c arg13 arg18 (RingInv P off (doneAt off np k0_t2.val 0)) ∗ Rest4 c arg2 arg3 arg4 arg6 arg10 arg11 arg12 arg20 arg21 X2 X3 X4 X6 X10 ∗ Rest2 c arg7 arg8 arg9 arg14 arg15 arg16 arg17 arg22 arg23 arg24 X7 X8 J)
    ⊢ wp (M := 𝕄) frame (wpE (defs₀ (F := F)) Variants.none (c : Thread nD τ) none) (Set.univ : Set ℕ)
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 PUnit.unit)
        (fun _ => iprop((arg1.view.loc (c : Thread nD τ) ↦[arg1.view.set]{fullShare} X1) ∗ Ring4 c arg13 arg18 (RingInv P off (doneAt off np (k0_t2.val + 1) 0)) ∗ Rest4 c arg2 arg3 arg4 arg6 arg10 arg11 arg12 arg20 arg21 X2 X3 X4 X6 X10 ∗ Rest2 c arg7 arg8 arg9 arg14 arg15 arg16 arg17 arg22 arg23 arg24 X7 X8 J')) := by
  iintro ⟨H1, HR, H4, HZ⟩
  unfold k0_t2_body
  sl_exec
  have hT := t3_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t3_ok (0#32) (1#32) k0_t2 (t2_trip.sl.v6 k0_t2) X1 X2 X3 X4 X6 X10 P hP off np hf hX1 hX2
  iapply (seq_wp c hT)
  isplitl [H1 HR H4]
  · isplitl [H1]
    · iexact H1
    isplitl [HR]
    · iexact HR
    · iexact H4
  iintro %a ⟨H1, HR, H4⟩
  unfold Ring4 Rest4 Rest2
  icases HR with ⟨%Y, %D, H13, H18, %hYD⟩
  icases H4 with ⟨%f11, %f12, %W, H2, H3, H4, H6, H10, H11, H12, Hs20, Hs21, HW⟩
  icases HZ with ⟨%O, %f14, %f15, %f16, %f17, H7, H8, H9, H14, H15, H16, H17, Hs22, Hs23, Hs24, %hO⟩
  sl_exec
  ihave HK := (keep c arg16 _) $$ H16
  icases HK with ⟨%A, H16, %hA⟩
  ihave HK := (keep c arg17 _) $$ H17
  icases HK with ⟨%T, H17, %hTT⟩
  have hAr : ∀ (g : Fin 2) (q : Fin 128), arg16.view.read (Elt F) A (ix2 g q) = arg7.view.read (Elt F) X7 (ix3 (⟨k0_t2.val, t2_lt k0_t2⟩ : Fin 272) g q) := fun g q => by
    rw [hA]
    exact blk_read arg7 arg16 X7 f16 k0_t2 squeezes_S1x2x128_S2x128 _ (by unfold t2_trip.sl.dma0; rfl) g q
  have hTr : ∀ (g : Fin 2) (q : Fin 128), arg17.view.read (Elt F) T (ix2 g q) = arg8.view.read (Elt F) X8 (ix3 (⟨k0_t2.val, t2_lt k0_t2⟩ : Fin 272) g q) := fun g q => by
    rw [hTT]
    exact blk_read arg8 arg17 X8 f17 k0_t2 squeezes_S1x2x128_S2x128 _ (by unfold t2_trip.sl.dma0_1; rfl) g q
  have hr0 : t2_trip.sl.r (F := F) arg7 arg16 k0_t2 X7 = arg7.view.read (Elt F) X7 (ix3 (⟨k0_t2.val, t2_lt k0_t2⟩ : Fin 272) (0 : Fin 2) (⟨0, by omega⟩ : Fin 128)) := by
    unfold t2_trip.sl.r t2_trip.sl.f
    have e := blk_read arg7 arg16 X7 arg16.view.junk k0_t2 squeezes_S1x2x128_S2x128 (t2_trip.sl.dma0 (F := F) arg7 k0_t2 X7) (by unfold t2_trip.sl.dma0; rfl) (0 : Fin 2) (⟨0, by omega⟩ : Fin 128)
    exact (wAt_eq arg16 _ 0 0 (by omega) (by omega)).trans e
  have kk : k0_chk6 (t2_trip.sl.r (F := F) arg7 arg16 k0_t2 X7) := chk6_of' _ (by rw [hr0]; exact (hX7 0 ⟨0, by omega⟩).bound)
  have hA' : ∀ x : S2x128.Idx, (arg16.view.read (Elt F) A x).toNat + 1799 < 65792 := fun x => by
    obtain ⟨g, q, rfl⟩ : ∃ (g : Fin 2) (q : Fin 128), x = ix2 g q := ⟨x 0, x 1, eq_ix2 x⟩
    rw [hAr]; exact (hX7 g q).bound
  have h6 : ∀ (g s : ℕ) (hg : g < 2) (hs : s < 128), k0_chk6 (wAt arg16 A g s hg hs) := fun g s hg hs => chk6_of' _ (hA' _)
  have hwA : ∀ (g s : ℕ) (hg : g < 2) (hs : s < 128), wAt arg16 A g s hg hs = arg7.view.read (Elt F) X7 (ix3 (⟨k0_t2.val, t2_lt k0_t2⟩ : Fin 272) (⟨g, hg⟩ : Fin 2) (⟨s, hs⟩ : Fin 128)) :=
    fun g s hg hs => (wAt_eq arg16 A g s hg hs).trans (hAr _ _)
  have tok := st_tok (F := F) arg13 arg14 arg16 arg17 Y A T hYD E R
    (fun x => arg7.view.read (Elt F) X7 (ix3 (⟨k0_t2.val, t2_lt k0_t2⟩ : Fin 272) (x 0) (x 1))) (fun x => arg8.view.read (Elt F) X8 (ix3 (⟨k0_t2.val, t2_lt k0_t2⟩ : Fin 272) (x 0) (x 1)))
    hX7 hAr hTr (Q := Z) hZ h6
  have tokA := fun (t : ℕ) (ht : t < 128) => tok t ht (wAt arg16 A 0 t (by omega) ht) (hwA 0 t (by omega) ht) (h6 0 t (by omega) ht)
  sl_exec (disch := first | sl_exact kk | exact chk6_of' _ (hA' _))
  have hS : ∀ f14 : BufTy.Contents (Elt F) arg14.view.ty, StInv Z 128 (arg14.view.read (Elt F) (arg14.view.writes (Elt F) f14 (t2_trip.sl.H14_128 (F := F) c arg7 arg13 arg16 arg17 k0_t2 X7 Y A T kk hA'))) := by
    intro f14
    unfold t2_trip.sl.H14_128
    refine tokA 127 (by omega) _ _ _ _ _ (by sl_kernel_rfl) ?_
    refine tokA 126 (by omega) _ _ _ _ _ (by sl_kernel_rfl) ?_
    refine tokA 125 (by omega) _ _ _ _ _ (by sl_kernel_rfl) ?_
    refine tokA 124 (by omega) _ _ _ _ _ (by sl_kernel_rfl) ?_
    refine tokA 123 (by omega) _ _ _ _ _ (by sl_kernel_rfl) ?_
    refine tokA 122 (by omega) _ _ _ _ _ (by sl_kernel_rfl) ?_
    refine tokA 121 (by omega) _ _ _ _ _ (by sl_kernel_rfl) ?_
    refine tokA 120 (by omega) _ _ _ _ _ (by sl_kernel_rfl) ?_
    refine tokA 119 (by omega) _ _ _ _ _ (by sl_kernel_rfl) ?_
    refine tokA 118 (by omega) _ _ _ _ _ (by sl_kernel_rfl) ?_
    refine tokA 117 (by omega) _ _ _ _ _ (by sl_kernel_rfl) ?_
    refine tokA 116 (by omega) _ _ _ _ _ (by sl_kernel_rfl) ?_
    refine tokA 115 (by omega) _ _ _ _ _ (by sl_kernel_rfl) ?_
    refine tokA 114 (by omega) _ _ _ _ _ (by sl_kernel_rfl) ?_
    refine tokA 113 (by omega) _ _ _ _ _ (by sl_kernel_rfl) ?_
    refine tokA 112 (by omega) _ _ _ _ _ (by sl_kernel_rfl) ?_
    refine tokA 111 (by omega) _ _ _ _ _ (by sl_kernel_rfl) ?_
    refine tokA 110 (by omega) _ _ _ _ _ (by sl_kernel_rfl) ?_
    refine tokA 109 (by omega) _ _ _ _ _ (by sl_kernel_rfl) ?_
    refine tokA 108 (by omega) _ _ _ _ _ (by sl_kernel_rfl) ?_
    refine tokA 107 (by omega) _ _ _ _ _ (by sl_kernel_rfl) ?_
    refine tokA 106 (by omega) _ _ _ _ _ (by sl_kernel_rfl) ?_
    refine tokA 105 (by omega) _ _ _ _ _ (by sl_kernel_rfl) ?_
    refine tokA 104 (by omega) _ _ _ _ _ (by sl_kernel_rfl) ?_
    refine tokA 103 (by omega) _ _ _ _ _ (by sl_kernel_rfl) ?_
    refine tokA 102 (by omega) _ _ _ _ _ (by sl_kernel_rfl) ?_
    refine tokA 101 (by omega) _ _ _ _ _ (by sl_kernel_rfl) ?_
    refine tokA 100 (by omega) _ _ _ _ _ (by sl_kernel_rfl) ?_
    refine tokA 99 (by omega) _ _ _ _ _ (by sl_kernel_rfl) ?_
    refine tokA 98 (by omega) _ _ _ _ _ (by sl_kernel_rfl) ?_
    refine tokA 97 (by omega) _ _ _ _ _ (by sl_kernel_rfl) ?_
    refine tokA 96 (by omega) _ _ _ _ _ (by sl_kernel_rfl) ?_
    refine tokA 95 (by omega) _ _ _ _ _ (by sl_kernel_rfl) ?_
    refine tokA 94 (by omega) _ _ _ _ _ (by sl_kernel_rfl) ?_
    refine tokA 93 (by omega) _ _ _ _ _ (by sl_kernel_rfl) ?_
    refine tokA 92 (by omega) _ _ _ _ _ (by sl_kernel_rfl) ?_
    refine tokA 91 (by omega) _ _ _ _ _ (by sl_kernel_rfl) ?_
    refine tokA 90 (by omega) _ _ _ _ _ (by sl_kernel_rfl) ?_
    refine tokA 89 (by omega) _ _ _ _ _ (by sl_kernel_rfl) ?_
    refine tokA 88 (by omega) _ _ _ _ _ (by sl_kernel_rfl) ?_
    refine tokA 87 (by omega) _ _ _ _ _ (by sl_kernel_rfl) ?_
    refine tokA 86 (by omega) _ _ _ _ _ (by sl_kernel_rfl) ?_
    refine tokA 85 (by omega) _ _ _ _ _ (by sl_kernel_rfl) ?_
    refine tokA 84 (by omega) _ _ _ _ _ (by sl_kernel_rfl) ?_
    refine tokA 83 (by omega) _ _ _ _ _ (by sl_kernel_rfl) ?_
    refine tokA 82 (by omega) _ _ _ _ _ (by sl_kernel_rfl) ?_
    refine tokA 81 (by omega) _ _ _ _ _ (by sl_kernel_rfl) ?_
    refine tokA 80 (by omega) _ _ _ _ _ (by sl_kernel_rfl) ?_
    refine tokA 79 (by omega) _ _ _ _ _ (by sl_kernel_rfl) ?_
    refine tokA 78 (by omega) _ _ _ _ _ (by sl_kernel_rfl) ?_
    refine tokA 77 (by omega) _ _ _ _ _ (by sl_kernel_rfl) ?_
    refine tokA 76 (by omega) _ _ _ _ _ (by sl_kernel_rfl) ?_
    refine tokA 75 (by omega) _ _ _ _ _ (by sl_kernel_rfl) ?_
    refine tokA 74 (by omega) _ _ _ _ _ (by sl_kernel_rfl) ?_
    refine tokA 73 (by omega) _ _ _ _ _ (by sl_kernel_rfl) ?_
    refine tokA 72 (by omega) _ _ _ _ _ (by sl_kernel_rfl) ?_
    refine tokA 71 (by omega) _ _ _ _ _ (by sl_kernel_rfl) ?_
    refine tokA 70 (by omega) _ _ _ _ _ (by sl_kernel_rfl) ?_
    refine tokA 69 (by omega) _ _ _ _ _ (by sl_kernel_rfl) ?_
    refine tokA 68 (by omega) _ _ _ _ _ (by sl_kernel_rfl) ?_
    refine tokA 67 (by omega) _ _ _ _ _ (by sl_kernel_rfl) ?_
    refine tokA 66 (by omega) _ _ _ _ _ (by sl_kernel_rfl) ?_
    refine tokA 65 (by omega) _ _ _ _ _ (by sl_kernel_rfl) ?_
    refine tokA 64 (by omega) _ _ _ _ _ (by sl_kernel_rfl) ?_
    refine tokA 63 (by omega) _ _ _ _ _ (by sl_kernel_rfl) ?_
    refine tokA 62 (by omega) _ _ _ _ _ (by sl_kernel_rfl) ?_
    refine tokA 61 (by omega) _ _ _ _ _ (by sl_kernel_rfl) ?_
    refine tokA 60 (by omega) _ _ _ _ _ (by sl_kernel_rfl) ?_
    refine tokA 59 (by omega) _ _ _ _ _ (by sl_kernel_rfl) ?_
    refine tokA 58 (by omega) _ _ _ _ _ (by sl_kernel_rfl) ?_
    refine tokA 57 (by omega) _ _ _ _ _ (by sl_kernel_rfl) ?_
    refine tokA 56 (by omega) _ _ _ _ _ (by sl_kernel_rfl) ?_
    refine tokA 55 (by omega) _ _ _ _ _ (by sl_kernel_rfl) ?_
    refine tokA 54 (by omega) _ _ _ _ _ (by sl_kernel_rfl) ?_
    refine tokA 53 (by omega) _ _ _ _ _ (by sl_kernel_rfl) ?_
    refine tokA 52 (by omega) _ _ _ _ _ (by sl_kernel_rfl) ?_
    refine tokA 51 (by omega) _ _ _ _ _ (by sl_kernel_rfl) ?_
    refine tokA 50 (by omega) _ _ _ _ _ (by sl_kernel_rfl) ?_
    refine tokA 49 (by omega) _ _ _ _ _ (by sl_kernel_rfl) ?_
    refine tokA 48 (by omega) _ _ _ _ _ (by sl_kernel_rfl) ?_
    refine tokA 47 (by omega) _ _ _ _ _ (by sl_kernel_rfl) ?_
    refine tokA 46 (by omega) _ _ _ _ _ (by sl_kernel_rfl) ?_
    refine tokA 45 (by omega) _ _ _ _ _ (by sl_kernel_rfl) ?_
    refine tokA 44 (by omega) _ _ _ _ _ (by sl_kernel_rfl) ?_
    refine tokA 43 (by omega) _ _ _ _ _ (by sl_kernel_rfl) ?_
    refine tokA 42 (by omega) _ _ _ _ _ (by sl_kernel_rfl) ?_
    refine tokA 41 (by omega) _ _ _ _ _ (by sl_kernel_rfl) ?_
    refine tokA 40 (by omega) _ _ _ _ _ (by sl_kernel_rfl) ?_
    refine tokA 39 (by omega) _ _ _ _ _ (by sl_kernel_rfl) ?_
    refine tokA 38 (by omega) _ _ _ _ _ (by sl_kernel_rfl) ?_
    refine tokA 37 (by omega) _ _ _ _ _ (by sl_kernel_rfl) ?_
    refine tokA 36 (by omega) _ _ _ _ _ (by sl_kernel_rfl) ?_
    refine tokA 35 (by omega) _ _ _ _ _ (by sl_kernel_rfl) ?_
    refine tokA 34 (by omega) _ _ _ _ _ (by sl_kernel_rfl) ?_
    refine tokA 33 (by omega) _ _ _ _ _ (by sl_kernel_rfl) ?_
    refine tokA 32 (by omega) _ _ _ _ _ (by sl_kernel_rfl) ?_
    refine tokA 31 (by omega) _ _ _ _ _ (by sl_kernel_rfl) ?_
    refine tokA 30 (by omega) _ _ _ _ _ (by sl_kernel_rfl) ?_
    refine tokA 29 (by omega) _ _ _ _ _ (by sl_kernel_rfl) ?_
    refine tokA 28 (by omega) _ _ _ _ _ (by sl_kernel_rfl) ?_
    refine tokA 27 (by omega) _ _ _ _ _ (by sl_kernel_rfl) ?_
    refine tokA 26 (by omega) _ _ _ _ _ (by sl_kernel_rfl) ?_
    refine tokA 25 (by omega) _ _ _ _ _ (by sl_kernel_rfl) ?_
    refine tokA 24 (by omega) _ _ _ _ _ (by sl_kernel_rfl) ?_
    refine tokA 23 (by omega) _ _ _ _ _ (by sl_kernel_rfl) ?_
    refine tokA 22 (by omega) _ _ _ _ _ (by sl_kernel_rfl) ?_
    refine tokA 21 (by omega) _ _ _ _ _ (by sl_kernel_rfl) ?_
    refine tokA 20 (by omega) _ _ _ _ _ (by sl_kernel_rfl) ?_
    refine tokA 19 (by omega) _ _ _ _ _ (by sl_kernel_rfl) ?_
    refine tokA 18 (by omega) _ _ _ _ _ (by sl_kernel_rfl) ?_
    refine tokA 17 (by omega) _ _ _ _ _ (by sl_kernel_rfl) ?_
    refine tokA 16 (by omega) _ _ _ _ _ (by sl_kernel_rfl) ?_
    refine tokA 15 (by omega) _ _ _ _ _ (by sl_kernel_rfl) ?_
    refine tokA 14 (by omega) _ _ _ _ _ (by sl_kernel_rfl) ?_
    refine tokA 13 (by omega) _ _ _ _ _ (by sl_kernel_rfl) ?_
    refine tokA 12 (by omega) _ _ _ _ _ (by sl_kernel_rfl) ?_
    refine tokA 11 (by omega) _ _ _ _ _ (by sl_kernel_rfl) ?_
    refine tokA 10 (by omega) _ _ _ _ _ (by sl_kernel_rfl) ?_
    refine tokA 9 (by omega) _ _ _ _ _ (by sl_kernel_rfl) ?_
    refine tokA 8 (by omega) _ _ _ _ _ (by sl_kernel_rfl) ?_
    refine tokA 7 (by omega) _ _ _ _ _ (by sl_kernel_rfl) ?_
    refine tokA 6 (by omega) _ _ _ _ _ (by sl_kernel_rfl) ?_
    refine tokA 5 (by omega) _ _ _ _ _ (by sl_kernel_rfl) ?_
    refine tokA 4 (by omega) _ _ _ _ _ (by sl_kernel_rfl) ?_
    refine tokA 3 (by omega) _ _ _ _ _ (by sl_kernel_rfl) ?_
    refine tokA 2 (by omega) _ _ _ _ _ (by sl_kernel_rfl) ?_
    refine tokA 1 (by omega) _ _ _ _ _ (by sl_kernel_rfl) ?_
    refine tok 0 (by omega) (t2_trip.sl.r (F := F) arg7 arg16 k0_t2 X7) hr0 kk _ _ _ _ _ (by sl_kernel_rfl) ?_
    exact st_nil _ _
  have hO' : OutStep (i 0).val k0_t2.val (fun s col x => ∃ v, Z s col v ∧ x = FloatOps.truncf .bf16 bitsLt_bf16_f32 v) (arg9.view.read (Elt F) O)
      (arg9.view.read (Elt F) (t2_trip.sl.H9_w0 (F := F) c i arg7 arg9 arg13 arg14 arg15 arg16 arg17 k0_t2 X7 Y O f14 f15 A T kk hA')) := by
    unfold t2_trip.sl.H9_w0
    refine out_read i k0_t2 arg9 O (t2_trip.sl.dma1047 (F := F) c arg7 arg13 arg14 arg15 arg16 arg17 k0_t2 X7 Y f14 f15 A T kk hA') _ (fun s col => ?_) (k0_off294_inb i k0_t2)
    unfold t2_trip.sl.dma1047 t2_trip.sl.H15_8
    have hc := chunk_row (F := F) arg14 _ (hS f14)
    have hc0 := chunk_row (F := F) arg14 _ (hS arg14.view.junk)
    exact os_read arg15 f15 (fun s col x => ∃ v, Z s col v ∧ x = FloatOps.truncf .bf16 bitsLt_bf16_f32 v) _ _ _ _ _ _ _ _ _ _ _ _ _ _ _ _
      (hc0 0 (by omega) inb_S1032x128_S128x128_0_0) (hc 1 (by omega) inb_S1032x128_S128x128_129_0) (hc 2 (by omega) inb_S1032x128_S128x128_258_0)
      (hc 3 (by omega) inb_S1032x128_S128x128_387_0) (hc 4 (by omega) inb_S1032x128_S128x128_516_0) (hc 5 (by omega) inb_S1032x128_S128x128_645_0)
      (hc 6 (by omega) inb_S1032x128_S128x128_774_0) (hc 7 (by omega) inb_S1032x128_S128x128_903_0) s col
  have hdn : doneAt off np k0_t2.val 16 = doneAt off np k0_t2.val 16 := rfl
  sl_step
  isplitl [H1]
  · iexact H1
  isplitl [H13 H18]
  · iexists _, _
    isplitl [H13]
    · iexact H13
    isplitl [H18]
    · iexact H18
    ipureintro
    exact ring_next hf hYD
  isplitl [H2 H3 H4 H6 H10 H11 H12 Hs20 Hs21 HW]
  · iexists _; iexists _; iexists _
    sl_close
  iexists _; iexists _; iexists _; iexists _; iexists _
  isplitl [H7]
  · iexact H7
  isplitl [H8]
  · iexact H8
  isplitl [H9]
  · iexact H9
  isplitl [H14]
  · iexact H14
  isplitl [H15]
  · iexact H15
  isplitl [H16]
  · iexact H16
  isplitl [H17]
  · iexact H17
  isplitl [Hs22]
  · iexact Hs22
  isplitl [Hs23]
  · iexact Hs23
  isplitl [Hs24]
  · iexact Hs24
  ipureintro
  exact hJ _ _ hO hO'

end Cert.KernelIdeal.Hand
-- ==== Proof.Ideal.T1.lean ====
module

public import proofs.«01_k».proof.Proof.Ideal.T3

@[expose] public section

set_option maxRecDepth 8192
set_option maxHeartbeats 40000000

noncomputable section

namespace Cert.KernelIdeal.Hand

open Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The first `k` words of rows done are where the experts' rows begin, rounded down. -/
def DoneTo (off : ℕ → ℕ) (k : ℕ) (D : S16.Idx → Elt F .i32) : Prop := ∀ x : S16.Idx, (x 0).val < k → D x = BitVec.ofNat 32 (al (off (x 0).val))

theorem t1_trip (k : Fin k0_t1_loop.trips) (acc : Unit) (X2 : BufTy.Contents (Elt F) arg2.view.ty) (off : ℕ → ℕ) (hoff : ∀ e, e < 16 → off e ≤ 69632)
    (hX2 : ∀ x : S16.Idx, arg2.view.read (Elt F) X2 x = BitVec.ofNat 32 (off (x 0).val)) :
    iprop((arg2.view.loc (c : Thread nD τ) ↦[arg2.view.set]{fullShare} X2) ∗ Ring4 c arg13 arg18 (fun _ D => DoneTo off k.val D))
    ⊢ wp (M := 𝕄) frame (wpE (defs₀ (F := F)) Variants.none (c : Thread nD τ) none) (Set.univ : Set ℕ)
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k acc)
        (fun _ => iprop((arg2.view.loc (c : Thread nD τ) ↦[arg2.view.set]{fullShare} X2) ∗ Ring4 c arg13 arg18 (fun _ D => DoneTo off (k.val + 1) D))) := by
  unfold Ring4
  iintro ⟨H2, %Y, %D, H13, H18, %hD⟩
  unfold k0_t1_body
  sl_exec
  sl_step
  isplitl [H2]
  · iexact H2
  iexists _, _
  isplitl [H13]
  · iexact H13
  isplitl [H18]
  · iexact H18
  ipureintro
  intro x hx
  refine (View.read_writes_cons_cell arg18.view D _ _ [] x).trans ?_
  have h2 := off2_eq k
  have hk := t1_lt k
  have hr : arg2.view.readAt (Elt F) (Rect.unit (s := S16) (k0_off2 k) S1.size (k0_off2_inb k)).toLoadRect X2 (Shape.Idx.first (numel1_S1.symm ▸ Nat.one_pos)) = BitVec.ofNat 32 (off k.val) := by
    refine (hX2 _).trans ?_
    congr 2
    show k0_off2 k 0 + 1 * 0 = k.val
    rw [h2]; rfl
  have e0 : k0_off2 k 0 = k.val := congrFun h2 0
  rw [e0]
  split
  · next he =>
    rw [he]
    show Scalar.andi (arg2.view.readAt (Elt F) (Rect.unit (s := S16) (k0_off2 k) S1.size (k0_off2_inb k)).toLoadRect X2 (Shape.Idx.first (numel1_S1.symm ▸ Nat.one_pos))) 4294967264#32 = _
    rw [hr]
    have := hoff k.val hk
    exact w_andi_m32 _ (by omega)
  · next he => exact hD x (by omega)

theorem t1_loop_wp (ok) (X2 : BufTy.Contents (Elt F) arg2.view.ty) (off : ℕ → ℕ) (hoff : ∀ e, e < 16 → off e ≤ 69632)
    (hX2 : ∀ x : S16.Idx, arg2.view.read (Elt F) X2 x = BitVec.ofNat 32 (off (x 0).val)) :
    iprop((arg2.view.loc (c : Thread nD τ) ↦[arg2.view.set]{fullShare} X2) ∗ Ring4 c arg13 arg18 (fun _ D => DoneTo off 0 D))
    ⊢ wp (M := 𝕄) frame (wpE (defs₀ (F := F)) Variants.none (c : Thread nD τ) none) (Set.univ : Set ℕ)
        (Scf.Loop.for k0_t1_loop ok PUnit.unit (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24))
        (fun _ => iprop((arg2.view.loc (c : Thread nD τ) ↦[arg2.view.set]{fullShare} X2) ∗ Ring4 c arg13 arg18 (fun _ D => DoneTo off 16 D))) := by
  refine BIBase.Entails.trans ?_ (Scf.wp_for frame _ _ _ _ _ ok PUnit.unit _
    (fun k _ => iprop((arg2.view.loc (c : Thread nD τ) ↦[arg2.view.set]{fullShare} X2) ∗ Ring4 c arg13 arg18 (fun _ D => DoneTo off k D)))
    (fun k acc => t1_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k acc X2 off hoff hX2))
  iintro H
  isplitl [H]
  · iexact H
  · iintro %acc H
    have e1 := t1_trips
    simp only [Scf.Loop.trips] at e1
    rw [e1]
    iexact H

theorem ring_start {P : ℕ → ℕ → ℕ → Elt F .f32 → Prop} {off : ℕ → ℕ} {np : ℕ → ℕ → ℕ} (hf : HF off np) {Y : S65792x128.Idx → Elt F .f32} {D : S16.Idx → Elt F .i32}
    (h : DoneTo off 16 D) : RingInv P off (doneAt off np 0 0) Y D := by
  have e : ∀ e, e < 16 → doneAt off np 0 0 e = al (off e) := fun e he => by
    simp only [doneAt, Nat.not_lt_zero, if_false, dn]
    have := hf.np0 e he
    rw [this]; omega
  refine ⟨fun x => ?_, fun e' r cc z he hcc h1 h2 => ?_⟩
  · rw [h x (x 0).isLt, e _ (x 0).isLt]
  · rw [e e' he] at h2; omega

/-- The strip of weights as copied in. -/
theorem strip_read (M5 : Memref sig .tc .hbm S16x1536x3072 .fp8e4m3) (M10 : Memref sig .tc .vmem S16x1536x1024 .fp8e4m3)
    (X5 : BufTy.Contents (Elt F) M5.view.ty) (f10 : BufTy.Contents (Elt F) M10.view.ty) (w : S16x1536x1024.Idx → Elt F .fp8e4m3)
    (hw : w = View.read (Elt F) (M5.slice (Rect.unit (s := S16x1536x3072) (k0_off1 i) S16x1536x1024.size (k0_off1_inb i)) (fun _ => rfl)).view X5)
    (e : Fin 16) (k : Fin 1536) (n : Fin 1024) (hn : (i 0).val * 1024 + n.val < 3072) :
    M10.view.read (Elt F) (M10.view.writes (Elt F) f10 [⟨Rect.whole S16x1536x1024, w⟩]) (ix3 e k n)
    = M5.view.read (Elt F) X5 (ix3 e k (⟨(i 0).val * 1024 + n.val, hn⟩ : Fin 3072)) := by
  have e1 : (ix3 e k n : S16x1536x1024.Idx) = (Rect.whole S16x1536x1024).emb (ix3 e k n) := by
    funext a
    fin_cases a
    · exact Fin.ext (by show e.val = 0 + 1 * e.val; omega)
    · exact Fin.ext (by show k.val = 0 + 1 * k.val; omega)
    · exact Fin.ext (by show n.val = 0 + 1 * n.val; omega)
  refine (congrArg (M10.view.read (Elt F) _) e1).trans ((View.read_writes_cons_emb M10.view f10 (Rect.whole S16x1536x1024) w [] (ix3 e k n)).trans ?_)
  subst hw
  refine congrArg (M5.view.read (Elt F) X5) ?_
  have h := off1_eq i
  funext a
  fin_cases a
  · refine Fin.ext ?_
    show k0_off1 i 0 + 1 * e.val = e.val
    rw [h]; show 0 + 1 * e.val = _; omega
  · refine Fin.ext ?_
    show k0_off1 i 1 + 1 * k.val = k.val
    rw [h]; show 0 + 1 * k.val = _; omega
  · refine Fin.ext ?_
    show k0_off1 i 2 + 1 * n.val = (i 0).val * 1024 + n.val
    rw [h]; show (i 0).val * 1024 + 1 * n.val = _; omega

end Cert.KernelIdeal.Hand
-- ==== Proof.Ideal.Body.lean ====
module

public import proofs.«01_k».proof.Proof.Ideal.T2
public import proofs.«01_k».proof.Proof.Ideal.T1

@[expose] public section

set_option maxRecDepth 8192
set_option maxHeartbeats 40000000

noncomputable section

namespace Cert.KernelIdeal.Hand

open Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The result before block `b` of strip `n`: everything to the left of the strip, and the strip's rows above the block. -/
def OutInv (Qf : ℕ → ℕ → Elt F .bf16 → Prop) (n b : ℕ) (O : S34816x3072.Idx → Elt F .bf16) : Prop :=
  ∀ z : S34816x3072.Idx, ((z 1).val < n * 1024 ∨ ((z 1).val < n * 1024 + 1024 ∧ (z 0).val < b * 128)) → Qf (z 0).val (z 1).val (O z)

theorem OutInv.step {Qf : ℕ → ℕ → Elt F .bf16 → Prop} {n b : ℕ} {Z : ℕ → ℕ → Elt F .bf16 → Prop} {O O' : S34816x3072.Idx → Elt F .bf16}
    (h : OutInv Qf n b O) (hs : OutStep n b Z O O') (hQ : ∀ s col x, s < 128 → col < 1024 → Z s col x → Qf (b * 128 + s) (n * 1024 + col) x) : OutInv Qf n (b + 1) O' := by
  intro z hz
  by_cases hc : (z 1).val < n * 1024
  · rw [hs.miss z (by omega)]; exact h z (Or.inl hc)
  · by_cases hr : (z 0).val < b * 128
    · rw [hs.miss z (by omega)]; exact h z (by omega)
    · have e0 : (z 0).val = b * 128 + ((z 0).val - b * 128) := by omega
      have e1 : (z 1).val = n * 1024 + ((z 1).val - n * 1024) := by omega
      have := hQ ((z 0).val - b * 128) ((z 1).val - n * 1024) (O' z) (by omega) (by omega) (hs.hit z _ _ (by omega) (by omega) e0 e1)
      rw [← e0, ← e1] at this
      exact this

theorem OutInv.next {Qf : ℕ → ℕ → Elt F .bf16 → Prop} {n : ℕ} {O : S34816x3072.Idx → Elt F .bf16}
    (h : OutInv Qf n 272 O) : OutInv Qf (n + 1) 0 O := by
  intro z hz
  have : (z 0).val < 34816 := (z 0).isLt
  exact h z (by omega)

theorem OutInv.first {Qf : ℕ → ℕ → Elt F .bf16 → Prop} {O : S34816x3072.Idx → Elt F .bf16} : OutInv Qf 0 0 O := by
  intro z hz; omega

/-- What a token of a block and a column of the strip is due, from the two rows it takes. -/
def TokZ (P : ℕ → ℕ → ℕ → Elt F .f32 → Prop) (E R : ℕ → ℕ → ℕ → ℕ) (tw : S272x2x128.Idx → Elt F .f32) (b : ℕ) (hb : b < 272) (s col : ℕ) (v : Elt F .f32) : Prop :=
  ∃ (hs : s < 128) (y0 y1 : Elt F .f32), P (E b 0 s) (R b 0 s) col y0 ∧ P (E b 1 s) (R b 1 s) col y1 ∧
    v = FloatOps.addf (FloatOps.mulf y0 (tw (ix3 (⟨b, hb⟩ : Fin 272) (0 : Fin 2) (⟨s, hs⟩ : Fin 128)))) (FloatOps.mulf y1 (tw (ix3 (⟨b, hb⟩ : Fin 272) (1 : Fin 2) (⟨s, hs⟩ : Fin 128))))

/-- What the rows and weights of a strip must give the result. -/
def OutOK (P : ℕ → ℕ → ℕ → Elt F .f32 → Prop) (E R : ℕ → ℕ → ℕ → ℕ) (tw : S272x2x128.Idx → Elt F .f32) (Qf : ℕ → ℕ → Elt F .bf16 → Prop) (n : ℕ) : Prop :=
  ∀ (b : ℕ) (hb : b < 272) (s col : ℕ) (v : Elt F .f32), col < 1024 → TokZ P E R tw b hb s col v → Qf (b * 128 + s) (n * 1024 + col) (FloatOps.truncf .bf16 bitsLt_bf16_f32 v)

theorem t2_loop_wp (ok)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (X7 : BufTy.Contents (Elt F) arg7.view.ty) (X8 : BufTy.Contents (Elt F) arg8.view.ty)
    (E R : ℕ → ℕ → ℕ → ℕ) (Qf : ℕ → ℕ → Elt F .bf16 → Prop) (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (b : Fin 272) (g : Fin 2) (s : Fin 128), TokOK off (doneAt off np b.val 16) (E b.val g.val s.val) (R b.val g.val s.val) (arg7.view.read (Elt F) X7 (ix3 b g s)))
    (hQ : OutOK P E R (arg8.view.read (Elt F) X8) Qf (i 0).val) :
    iprop((arg1.view.loc (c : Thread nD τ) ↦[arg1.view.set]{fullShare} X1) ∗ Ring4 c arg13 arg18 (RingInv P off (doneAt off np 0 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val 0))
    ⊢ wp (M := 𝕄) frame (wpE (defs₀ (F := F)) Variants.none (c : Thread nD τ) none) (Set.univ : Set ℕ)
        (Scf.Loop.for k0_t2_loop ok PUnit.unit (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24))
        (fun _ => iprop((arg1.view.loc (c : Thread nD τ) ↦[arg1.view.set]{fullShare} X1) ∗ Ring4 c arg13 arg18 (RingInv P off (doneAt off np 272 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val 272))) := by
  refine BIBase.Entails.trans ?_ (Scf.wp_for frame _ _ _ _ _ ok PUnit.unit _
    (fun k _ => iprop((arg1.view.loc (c : Thread nD τ) ↦[arg1.view.set]{fullShare} X1) ∗ Ring4 c arg13 arg18 (RingInv P off (doneAt off np k 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val k)))
    (fun k acc => t2_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k X1 X2 X3 X4 X6 X10 X7 X8 (OutInv Qf (i 0).val k.val) (OutInv Qf (i 0).val (k.val + 1)) (E k.val) (R k.val)
      (TokZ P E R (arg8.view.read (Elt F) X8) k.val (t2_lt k)) P hP off np hf hX1 hX2 (fun g s => hX7 ⟨k.val, t2_lt k⟩ g s)
      (fun s col y0 y1 hc h0 h1 => ⟨s.isLt, y0, y1, h0, h1, rfl⟩)
      (fun O O' hO hs => hO.step hs (fun s col x hs' hc hx => by
        obtain ⟨v, hv, rfl⟩ := hx
        exact hQ k.val (t2_lt k) s col v hc hv))))
  iintro H
  isplitl [H]
  · iexact H
  · iintro %acc H
    have e1 := t2_trips
    simp only [Scf.Loop.trips] at e1
    rw [e1]
    iexact H

/-- The buffers of one grid point besides the words needed: operands whole at their contents, the scratch at anything, counters at zero. -/
def Pt (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) : sProp 𝕄 :=
  iprop(∃ (f10 : BufTy.Contents (Elt F) arg10.view.ty) (f11 : BufTy.Contents (Elt F) arg11.view.ty) (f12 : BufTy.Contents (Elt F) arg12.view.ty) (W : Waits sig Unit),
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg5.view.loc (c : Thread nD τ) ↦[arg5.view.set]{fullShare} X5) ∗
    (arg6.view.loc (c : Thread nD τ) ↦[arg6.view.set]{fullShare} X6) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    semVal ((c : Thread nD τ), SemLoc.dma arg19.sem) 0 ∗ semVal ((c : Thread nD τ), SemLoc.dma arg20.sem) 0 ∗ semVal ((c : Thread nD τ), SemLoc.dma arg21.sem) 0 ∗ owes (c : Thread nD τ) 0 W)

theorem point_wp
    (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (E R : ℕ → ℕ → ℕ → ℕ) (Qf : ℕ → ℕ → Elt F .bf16 → Prop) (P : ℕ → ℕ → ℕ → Elt F .f32 → Prop)
    (hP : ∀ Wt : S16x1536x1024.Idx → Elt F .fp8e4m3, (∀ (e : Fin 16) (k : Fin 1536) (n : Fin 1024) (hn : (i 0).val * 1024 + n.val < 3072), Wt (ix3 e k n) = arg5.view.read (Elt F) X5 (ix3 e k (⟨(i 0).val * 1024 + n.val, hn⟩ : Fin 3072))) →
      PayOK P (arg3.view.read (Elt F) X3) (arg4.view.read (Elt F) X4) (arg6.view.read (Elt F) X6) Wt)
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (b : Fin 272) (g : Fin 2) (s : Fin 128), TokOK off (doneAt off np b.val 16) (E b.val g.val s.val) (R b.val g.val s.val) (arg7.view.read (Elt F) X7 (ix3 b g s)))
    (hQ : OutOK P E R (arg8.view.read (Elt F) X8) Qf (i 0).val) :
    iprop((arg1.view.loc (c : Thread nD τ) ↦[arg1.view.set]{fullShare} X1) ∗ Ring4 c arg13 arg18 (fun _ _ => True) ∗ Pt c arg2 arg3 arg4 arg5 arg6 arg10 arg11 arg12 arg19 arg20 arg21 X2 X3 X4 X5 X6 ∗ Rest2 c arg7 arg8 arg9 arg14 arg15 arg16 arg17 arg22 arg23 arg24 X7 X8 (OutInv Qf (i 0).val 0))
    ⊢ wp (M := 𝕄) frame (wpE (defs₀ (F := F)) Variants.none (c : Thread nD τ) none) (Set.univ : Set ℕ)
        (cc0_moe_down_combine_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24)
        (fun _ => iprop((arg1.view.loc (c : Thread nD τ) ↦[arg1.view.set]{fullShare} X1) ∗ Ring4 c arg13 arg18 (fun _ _ => True) ∗ Pt c arg2 arg3 arg4 arg5 arg6 arg10 arg11 arg12 arg19 arg20 arg21 X2 X3 X4 X5 X6 ∗ Rest2 c arg7 arg8 arg9 arg14 arg15 arg16 arg17 arg22 arg23 arg24 X7 X8 (OutInv Qf ((i 0).val + 1) 0))) := by
  unfold Pt
  iintro ⟨H1, HR, ⟨%f10, %f11, %f12, %W, H2, H3, H4, H5, H6, H10, H11, H12, Hs19, Hs20, Hs21, HW⟩, HZ⟩
  unfold cc0_moe_down_combine_skel
  sl_exec
  have hT := t1_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t1_ok X2 off hf.off_le hX2
  iapply (seq_wp c hT)
  isplitl [H2 HR]
  · isplitl [H2]
    · iexact H2
    · unfold Ring4
      icases HR with ⟨%Y, %D, H13, H18, -⟩
      iexists _, _
      isplitl [H13]
      · iexact H13
      isplitl [H18]
      · iexact H18
      ipureintro
      intro x hx; omega
  iintro %a ⟨H2, HR⟩
  ihave HK := (keep c arg10 _) $$ H10
  icases HK with ⟨%X10, H10, %h10⟩
  have hP' := hP (arg10.view.read (Elt F) X10) (fun e k n hn => by
    rw [h10]
    exact strip_read i arg5 arg10 X5 arg10.view.junk (point_wp.sl.dma0 (F := F) i arg5 X5) (by unfold point_wp.sl.dma0; rfl) e k n hn)
  have hT2 := t2_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2_ok X1 X2 X3 X4 X6 X10 X7 X8 E R Qf P hP' off np hf hX1 hX2 hX7 hQ
  iapply (seq_wp c hT2)
  isplitl [H1 H2 H3 H4 H6 H10 H11 H12 Hs20 Hs21 HW HR HZ]
  · isplitl [H1]
    · iexact H1
    isplitl [HR]
    · unfold Ring4
      icases HR with ⟨%Y, %D, H13, H18, %hD⟩
      iexists _, _
      isplitl [H13]
      · iexact H13
      isplitl [H18]
      · iexact H18
      ipureintro
      exact ring_start hf hD
    isplitl [H2 H3 H4 H6 H10 H11 H12 Hs20 Hs21 HW]
    · unfold Rest4
      iexists _; iexists _; iexists _
      sl_close
    · iexact HZ
  iintro %a2 ⟨H1, HR, H4, HZ⟩
  unfold Ring4 Rest4 Rest2
  icases HR with ⟨%Y, %D, H13, H18, -⟩
  icases H4 with ⟨%g11, %g12, %W2, H2, H3, H4, H6, H10, H11, H12, Hs20, Hs21, HW⟩
  icases HZ with ⟨%O, %f14, %f15, %f16, %f17, H7, H8, H9, H14, H15, H16, H17, Hs22, Hs23, Hs24, %hO⟩
  sl_step
  isplitl [H1]
  · iexact H1
  isplitl [H13 H18]
  · iexists _, _
    isplitl [H13]
    · iexact H13
    isplitl [H18]
    · iexact H18
    ipureintro
    trivial
  isplitl [H2 H3 H4 H5 H6 H10 H11 H12 Hs19 Hs20 Hs21 HW]
  · iexists _; iexists _; iexists _; iexists _
    sl_close
  iexists _; iexists _; iexists _; iexists _; iexists _
  isplitl [H7]
  · iexact H7
  isplitl [H8]
  · iexact H8
  isplitl [H9]
  · iexact H9
  isplitl [H14]
  · iexact H14
  isplitl [H15]
  · iexact H15
  isplitl [H16]
  · iexact H16
  isplitl [H17]
  · iexact H17
  isplitl [Hs22]
  · iexact Hs22
  isplitl [Hs23]
  · iexact Hs23
  isplitl [Hs24]
  · iexact Hs24
  ipureintro
  exact hO.next

end Cert.KernelIdeal.Hand
-- ==== Proof.Ideal.Run.lean ====
module

public import proofs.«01_k».proof.Proof.Ideal.Body
public import proofs.«01_k».proof.Proof.Gen.KernelIdeal.Frame
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The five arrays the kernel reads where they are. -/
def H0 : Finset (Ref sig .tc) := {main_arg0, main_v67, main_arg3, main_v52, main_v54}
/-- The result, which the kernel writes where it is. -/
def R0 : Finset (Ref sig .tc) := {main_v69}

/-- The kernel's own six transfer counters. -/
abbrev osem0 : Fin 6 → SemLoc sig := fun j =>
  (![SemLoc.dma 4, SemLoc.dma 5, SemLoc.dma 6, SemLoc.dma 7, SemLoc.dma 8, SemLoc.dma 9] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5] (by decide) (by decide)]; rfl

theorem H0_sub : H0 ⊆ Pipeline.restRefs sig spec0 := by decide
theorem R0_sub : R0 ⊆ Pipeline.restRefs sig spec0 \ H0 := by decide

/-- A buffer held whole at given contents. -/
abbrev hbPt0 (c : Dev nD) (b : Ref sig .tc) (f : Buf (Elt F) ((c : Thread nD τ).loc b)) : sProp 𝕄 :=
  ((c : Thread nD τ).loc b) ↦{fullShare} f

theorem hbmPts0_eq (c : Dev nD) :
    (bigSep H0 (fun b => ((c : Thread nD τ).loc b) ↦{fullShare} V m c b) : sProp 𝕄)
      = iprop(hbPt0 c main_arg0 (V m c main_arg0) ∗ hbPt0 c main_v67 (V m c main_v67) ∗ hbPt0 c main_arg3 (V m c main_arg3)
          ∗ hbPt0 c main_v52 (V m c main_v52) ∗ hbPt0 c main_v54 (V m c main_v54)) := by
  rw [BI.bigSep_eq_bigSepL_of_eq [main_arg0, main_v67, main_arg3, main_v52, main_v54] (by decide) (by decide)]; rfl

theorem routed0_eq (c : Dev nD) (W : (b : Ref sig .tc) → Buf (Elt F) ((c.tc : Thread nD τ).loc b)) :
    (Pipeline.routed R0 c W : sProp 𝕄) = hbPt0 c main_v69 (W main_v69) := by
  unfold Pipeline.routed; rw [BI.bigSep_eq_bigSepL_of_eq [main_v69] (by decide) (by decide)]; rfl

theorem ownedPts0_eq (c : Dev nD) :
    (Pipeline.owned R0 c : sProp 𝕄) = iprop(∃ f, hbPt0 c main_v69 f) := by
  unfold Pipeline.owned; rw [BI.bigSep_eq_bigSepL_of_eq [main_v69] (by decide) (by decide)]; rfl

/-- The kernel's scratch, each buffer whole at some contents. -/
def scr0 (c : Dev nD) : sProp 𝕄 :=
  iprop((∃ f, hbPt0 (F := F) c cc0_scratch0 f) ∗ (∃ f, hbPt0 (F := F) c cc0_scratch1 f) ∗ (∃ f, hbPt0 (F := F) c cc0_scratch2 f)
    ∗ (∃ f, hbPt0 (F := F) c cc0_scratch3 f) ∗ (∃ f, hbPt0 (F := F) c cc0_scratch4 f) ∗ (∃ f, hbPt0 (F := F) c cc0_scratch5 f)
    ∗ (∃ f, hbPt0 (F := F) c cc0_scratch6 f) ∗ (∃ f, hbPt0 (F := F) c cc0_scratch7 f) ∗ (∃ f, hbPt0 (F := F) c cc0_scratch8 f))

theorem scr0_eq (c : Dev nD) :
    (Pipeline.scopedRest (Ix := Unit) (Name := ℕ) (U := Pipeline.UD sig nD τ) (Lvl := ℕ) (Val := Elt F) spec0 c : sProp 𝕄) = scr0 c := by
  rw [scopedRest0_eq]; rfl

/-- What the body keeps from point to point: the scratch, the generator register, the counters at zero, the arrays it
    reads, and the result right on the strips done. -/
def PhiN (Qf : ℕ → ℕ → Elt F .bf16 → Prop) (c : Dev nD) (n : ℕ) : sProp 𝕄 :=
  iprop(scr0 c ∗ (∃ r, prngReg c r)
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V m c b)
    ∗ ∃ O : S34816x3072.Idx → Elt F .bf16, hbPt0 c main_v69 O ∗ ⌜OutInv Qf n 0 O⌝)

variable (Qf : Dev nD → ℕ → ℕ → Elt F .bf16 → Prop)

/-- The proof data: the three staged inputs as they are, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiN m (Qf c) c t.val
  q _ := fullShare
  owed _ := 0

theorem A_eq (c : Dev nD) (w : Fin cfg0.W) : (dats m Qf 0 c).A w = V m c (Pipeline.arrRef spec0 w) := by
  dsimp only [dats]
theorem after_0 (c : Dev nD) (t : Fin cfg0.N) : (dats m Qf 0 c).after 0 t = iblk m c 0 t := by dsimp only [dats]
theorem after_1 (c : Dev nD) (t : Fin cfg0.N) : (dats m Qf 0 c).after 1 t = iblk m c 1 t := by dsimp only [dats]
theorem after_2 (c : Dev nD) (t : Fin cfg0.N) : (dats m Qf 0 c).after 2 t = iblk m c 2 t := by dsimp only [dats]

theorem before_0 (c : Dev nD) (t : Fin cfg0.N) (d) : (dats m Qf 0 c).before 0 t d = iblk m c 0 t :=
  ((dats m Qf 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m Qf 0 c).before 1 t d = iblk m c 1 t :=
  ((dats m Qf 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m Qf 0 c).before 2 t d = iblk m c 2 t :=
  ((dats m Qf 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

set_option maxHeartbeats 800000 in
/-- The program up to the kernel. -/
theorem hmainU (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- What the arrays the body reads must be for it to be right at strip `n`. -/
structure PtOK (n : ℕ) (A1 : S272x16.Idx → Elt F .i32) (A2 : S16.Idx → Elt F .i32) (A3 : S69632x1536.Idx → Elt F .fp8e4m3) (A4 : S2176x2x128.Idx → Elt F .f32)
    (A5 : S16x1536x3072.Idx → Elt F .fp8e4m3) (A6 : S16x1x1024.Idx → Elt F .f32) (A7 : S272x2x128.Idx → Elt F .i32) (A8 : S272x2x128.Idx → Elt F .f32)
    (q : ℕ → ℕ → Elt F .bf16 → Prop) (off : ℕ → ℕ) (np : ℕ → ℕ → ℕ) (E R : ℕ → ℕ → ℕ → ℕ) (P : ℕ → ℕ → ℕ → Elt F .f32 → Prop) : Prop where
  hf : HF off np
  hX1 : ∀ x : S272x16.Idx, A1 x = BitVec.ofNat 32 (np ((x 0).val + 1) (x 1).val)
  hX2 : ∀ x : S16.Idx, A2 x = BitVec.ofNat 32 (off (x 0).val)
  hX7 : ∀ (b : Fin 272) (g : Fin 2) (s : Fin 128), TokOK off (doneAt off np b.val 16) (E b.val g.val s.val) (R b.val g.val s.val) (A7 (ix3 b g s))
  hP : ∀ Wt : S16x1536x1024.Idx → Elt F .fp8e4m3, (∀ (e : Fin 16) (k : Fin 1536) (j : Fin 1024) (hn : n * 1024 + j.val < 3072), Wt (ix3 e k j) = A5 (ix3 e k (⟨n * 1024 + j.val, hn⟩ : Fin 3072))) →
      PayOK P A3 A4 A6 Wt
  hQ : OutOK P E R A8 q n

/-- What the arrays the host prepares must be for the body to be right at core `c`. -/
def HostOK (c : Dev nD) (off : ℕ → ℕ) (np : ℕ → ℕ → ℕ) (E R : ℕ → ℕ → ℕ → ℕ) (P : ℕ → ℕ → ℕ → ℕ → Elt F .f32 → Prop) : Prop :=
  ∀ t : Fin cfg0.N, PtOK t.val (iblk m c 0 t) (iblk m c 1 t) (V m c main_arg0) (V m c main_v67) (V m c main_arg3) (iblk m c 2 t) (V m c main_v52) (V m c main_v54) (Qf c) off np E R (P t.val)

theorem coord0 (t : Fin cfg0.N) : (grid0.coords t 0).val = t.val := by
  revert t; decide

def bodyPre (c : Dev nD) (t : Fin cfg0.N) : sProp 𝕄 :=
  iprop((dats m Qf 0 c).Φ t.castSucc ∗ (dats m Qf 0 c).owesAt () t.castSucc
    ∗ (∃ d, owns (c : Thread nD τ) (st0_0 t) fullShare ((dats m Qf 0 c).before 0 t d))
    ∗ (∃ d, owns (c : Thread nD τ) (st0_1 t) fullShare ((dats m Qf 0 c).before 1 t d))
    ∗ (∃ d, owns (c : Thread nD τ) (st0_2 t) fullShare ((dats m Qf 0 c).before 2 t d)))
def bodyPost (c : Dev nD) (t : Fin cfg0.N) : sProp 𝕄 :=
  iprop((dats m Qf 0 c).Φ t.succ ∗ (dats m Qf 0 c).owesAt () t.succ
    ∗ owns (c : Thread nD τ) (st0_0 t) fullShare ((dats m Qf 0 c).after 0 t)
    ∗ owns (c : Thread nD τ) (st0_1 t) fullShare ((dats m Qf 0 c).after 1 t)
    ∗ owns (c : Thread nD τ) (st0_2 t) fullShare ((dats m Qf 0 c).after 2 t))

/-- A run of a program proved between two assertions, to any postcondition that follows. -/
theorem wp_to (c : Dev nD) {α : Type} {p : Prog (TpuEff nD τ sig (Elt F) Λ₀ .tc) α} {A B : sProp 𝕄} (h : A ⊢ wp frame (wpE (defs₀ (F := F)) Variants.none (c : Thread nD τ) none) Set.univ p (fun _ => B))
    {Q : α → sProp 𝕄} :
    iprop(A ∗ (∀ a, B -∗ Q a)) ⊢ wp frame (wpE (defs₀ (F := F)) Variants.none (c : Thread nD τ) none) Set.univ p Q := by
  iintro ⟨HA, HK⟩
  iapply (wp_wand_r frame _ _)
  isplitl [HA]
  · iapply h; iexact HA
  · iintro %a HB
    iapply HK; iexact HB

/-- What a point of the grid holds besides the staged inputs, with the result at `O`. -/
def ptPre (c : Dev nD) (X3 : Buf (Elt F) ((c : Thread nD τ).loc main_arg0)) (X4 : Buf (Elt F) ((c : Thread nD τ).loc main_v67)) (X5 : Buf (Elt F) ((c : Thread nD τ).loc main_arg3))
    (X7 : Buf (Elt F) ((c : Thread nD τ).loc main_v52)) (X8 : Buf (Elt F) ((c : Thread nD τ).loc main_v54)) (q : ℕ → ℕ → Elt F .bf16 → Prop) (n : ℕ) : sProp 𝕄 :=
  iprop(scr0 c ∗ (semVal ((c : Thread nD τ), SemLoc.dma 4) 0 ∗ semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0 ∗ semVal ((c : Thread nD τ), SemLoc.dma 9) 0)
      ∗ (hbPt0 c main_arg0 X3 ∗ hbPt0 c main_v67 X4 ∗ hbPt0 c main_arg3 X5 ∗ hbPt0 c main_v52 X7 ∗ hbPt0 c main_v54 X8)
      ∗ (∃ O : S34816x3072.Idx → Elt F .bf16, hbPt0 c main_v69 O ∗ ⌜OutInv q n 0 O⌝) ∗ (∃ W : Waits sig Unit, owes (c : Thread nD τ) 0 W))

set_option maxHeartbeats 4000000 in
theorem body_at (c : Dev nD) (t : Fin cfg0.N) (A1 : S272x16.Idx → Elt F .i32) (A2 : S16.Idx → Elt F .i32) (A6 : S16x1x1024.Idx → Elt F .f32)
    (X3 : Buf (Elt F) ((c : Thread nD τ).loc main_arg0)) (X4 : Buf (Elt F) ((c : Thread nD τ).loc main_v67)) (X5 : Buf (Elt F) ((c : Thread nD τ).loc main_arg3))
    (X7 : Buf (Elt F) ((c : Thread nD τ).loc main_v52)) (X8 : Buf (Elt F) ((c : Thread nD τ).loc main_v54)) (q : ℕ → ℕ → Elt F .bf16 → Prop)
    {off : ℕ → ℕ} {np : ℕ → ℕ → ℕ} {E R : ℕ → ℕ → ℕ → ℕ} {P : ℕ → ℕ → ℕ → Elt F .f32 → Prop}
    (hok : PtOK t.val A1 A2 X3 X4 X5 A6 X7 X8 q off np E R P) :
    iprop(ptPre c X3 X4 X5 X7 X8 q t.val ∗ owns (c : Thread nD τ) (st0_0 t) fullShare A1 ∗ owns (c : Thread nD τ) (st0_1 t) fullShare A2 ∗ owns (c : Thread nD τ) (st0_2 t) fullShare A6)
    ⊢ wp (M := 𝕄) frame (wpE (defs₀ (F := F)) Variants.none (c : Thread nD τ) none) (Set.univ : Set ℕ) (bodyAt0 t)
        (fun _ => iprop(ptPre c X3 X4 X5 X7 X8 q (t.val + 1) ∗ owns (c : Thread nD τ) (st0_0 t) fullShare A1 ∗ owns (c : Thread nD τ) (st0_1 t) fullShare A2 ∗ owns (c : Thread nD τ) (st0_2 t) fullShare A6)) := by
  unfold bodyAt0 ptPre scr0 owns
  simp only [cc0_moe_down_combine_eq_skeleton]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, ⟨Hq4, Hq5, Hq6, Hq7, Hq8, Hq9⟩, ⟨H3, H4, H5, H7, H8⟩, ⟨%O, H9, %hO⟩, ⟨%W, HW⟩⟩, ⟨%X1, %hX1, H1⟩, ⟨%X2, %hX2, H2⟩, ⟨%X6, %hX6, H6⟩⟩
  have hT := point_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_arg0) (Memref.isWhole_whole _) (Memref.whole main_v67) (Memref.isWhole_whole _) (Memref.whole main_arg3) (Memref.isWhole_whole _) (win0_2.stage (cfg0.slots t 2)) (hstage0_2 ((cfg0.slots t 2).cast nbuf0_2)) (Memref.whole main_v52) (Memref.isWhole_whole _) (Memref.whole main_v54) (Memref.isWhole_whole _) (Memref.whole main_v69) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14
    X1 X2 X3 X4 X5 X6 X7 X8 E R q P
    (by
      intro Wt hW
      rw [hX6]
      refine hok.hP Wt (fun e k n hn => ?_)
      have := hW e k n (by rw [coord0]; exact hn)
      simp only [coord0] at this
      exact this) off np hok.hf
    (fun x => by rw [hX1]; exact hok.hX1 x) (fun x => by rw [hX2]; exact hok.hX2 x) hok.hX7
    (by rw [coord0]; exact hok.hQ)
  rw [coord0] at hT
  iapply (wp_to c hT)
  unfold Ring4 Pt Rest2
  simp only [Memref.view_whole, View.set_whole]
  isplitl [H10 H11 H12 H13 H14 H15 H16 H17 H18 Hq4 Hq5 Hq6 Hq7 Hq8 Hq9 H3 H4 H5 H7 H8 H9 HW H1 H2 H6]
  · isplitl [H1]
    · iexact H1
    isplitl [H13 H18]
    · iexists f13, f18
      isplitl [H13]; · iexact H13
      isplitl [H18]; · iexact H18
      ipureintro; trivial
    isplitl [H2 H3 H4 H5 H6 H10 H11 H12 Hq4 Hq5 Hq6 HW]
    · iexists f10, f11, f12, W
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [Hq4]; · iexact Hq4
      isplitl [Hq5]; · iexact Hq5
      isplitl [Hq6]; · iexact Hq6
      iexact HW
    · iexists O, f14, f15, f16, f17
      isplitl [H7]; · iexact H7
      isplitl [H8]; · iexact H8
      isplitl [H9]; · iexact H9
      isplitl [H14]; · iexact H14
      isplitl [H15]; · iexact H15
      isplitl [H16]; · iexact H16
      isplitl [H17]; · iexact H17
      isplitl [Hq7]; · iexact Hq7
      isplitl [Hq8]; · iexact Hq8
      isplitl [Hq9]; · iexact Hq9
      ipureintro; exact hO
  iintro %a ⟨H1, ⟨%g13, %g18, H13, H18, -⟩, ⟨%g10, %g11, %g12, %W', H2, H3, H4, H5, H6, H10, H11, H12, Hq4, Hq5, Hq6, HW⟩, ⟨%O', %g14, %g15, %g16, %g17, H7, H8, H9, H14, H15, H16, H17, Hq7, Hq8, Hq9, %hO'⟩⟩
  isplitl [H10 H11 H12 H13 H14 H15 H16 H17 H18 Hq4 Hq5 Hq6 Hq7 Hq8 Hq9 H3 H4 H5 H7 H8 H9 HW]
  · isplitl [H10 H11 H12 H13 H14 H15 H16 H17 H18]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    isplitl [Hq4 Hq5 Hq6 Hq7 Hq8 Hq9]
    · isplitl [Hq4]; · iexact Hq4
      isplitl [Hq5]; · iexact Hq5
      isplitl [Hq6]; · iexact Hq6
      isplitl [Hq7]; · iexact Hq7
      isplitl [Hq8]; · iexact Hq8
      iexact Hq9
    isplitl [H3 H4 H5 H7 H8]
    · isplitl [H3]; · iexact H3
      isplitl [H4]; · iexact H4
      isplitl [H5]; · iexact H5
      isplitl [H7]; · iexact H7
      iexact H8
    isplitl [H9]
    · iexists O'
      isplitl [H9]; · iexact H9
      ipureintro; exact hO'
    iexists W'; iexact HW
  isplitl [H1]
  · iexists X1
    isplitr
    · ipureintro; exact hX1
    · iexact H1
  isplitl [H2]
  · iexists X2
    isplitr
    · ipureintro; exact hX2
    · iexact H2
  · iexists X6
    isplitr
    · ipureintro; exact hX6
    · iexact H6

theorem sound_body (c : Dev nD) (t : Fin cfg0.N) {off : ℕ → ℕ} {np : ℕ → ℕ → ℕ} {E R : ℕ → ℕ → ℕ → ℕ} {P : ℕ → ℕ → ℕ → ℕ → Elt F .f32 → Prop}
    (hok : HostOK m Qf c off np E R P) :
    bodyPre m Qf c t ⊢ wp frame (wpE (defs₀ (F := F)) Variants.none c none) Set.univ (bodyAt0 t) (fun _ => bodyPost m Qf c t) := by
  have hB := body_at (F := F) c t _ _ _ _ _ _ _ _ _ (hok t)
  unfold bodyPre bodyPost
  rw [after_0, after_1, after_2]
  rw [show (dats m Qf 0 c).Φ t.castSucc = PhiN m (Qf c) c t.val from rfl, show (dats m Qf 0 c).Φ t.succ = PhiN m (Qf c) c (t.val + 1) from rfl]
  unfold Dat.owesAt Pipeline.owesWithin PhiN
  rw [show (dats m Qf 0 c).owed t.castSucc = 0 from rfl, show (dats m Qf 0 c).owed t.succ = 0 from rfl, hbmPts0_eq, ownSems00_eq]
  generalize bodyAt0 (F := F) t = pr at hB ⊢
  iintro ⟨⟨HS, Hg, HQ, HH, HO⟩, ⟨%W, -, HW⟩, ⟨%d0, H1⟩, ⟨%d1, H2⟩, ⟨%d2, H6⟩⟩
  rw [before_0, before_1, before_2]
  iapply (wp_to c hB)
  unfold ptPre
  isplitl [HS HQ HH HO HW H1 H2 H6]
  · isplitl [HS HQ HH HO HW]
    · isplitl [HS]; · iexact HS
      isplitl [HQ]; · iexact HQ
      isplitl [HH]; · iexact HH
      isplitl [HO]; · iexact HO
      iexists W; iexact HW
    isplitl [H1]; · iexact H1
    isplitl [H2]; · iexact H2
    iexact H6
  iintro %a ⟨⟨HS, HQ, HH, HO, ⟨%W', HW⟩⟩, H1, H2, H6⟩
  isplitl [HS Hg HQ HH HO]
  · isplitl [HS]; · iexact HS
    isplitl [Hg]; · iexact Hg
    isplitl [HQ]; · iexact HQ
    isplitl [HH]; · iexact HH
    iexact HO
  isplitl [HW]
  · iexists W'
    isplitr
    · ipureintro; exact fun _ _ => Or.inl trivial
    · iexact HW
  isplitl [H1]; · iexact H1
  isplitl [H2]; · iexact H2
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) {off : ℕ → ℕ} {np : ℕ → ℕ → ℕ} {E R : ℕ → ℕ → ℕ → ℕ} {P : ℕ → ℕ → ℕ → ℕ → Elt F .f32 → Prop}
    (hok : HostOK m Qf c off np E R P) : BodyObligation (dats (F := F) m Qf 0 c) (defs₀ (F := F)) Variants.none () Set.univ := fun t => by
  rw [bigSep_W0, bigSep_W0, defs₀_row]
  exact triple_restated (sound_body m Qf c t hok) rfl .rfl fun _ => .rfl

/-- The host's arrays are right at every core. -/
def AllOK : Prop := ∀ c : Dev nD, ∃ off np E R P, HostOK m Qf c off np E R P

set_option backward.isDefEq.respectTransparency.types false in
/-- The whole run, with the result named: at any contents that the result's per-element specification pins. -/
theorem run_value (hok : AllOK m Qf) (Y : (c : Dev nD) → S34816x3072.Idx → Elt F .bf16)
    (hY : ∀ (c : Dev nD) (z : S34816x3072.Idx) (x : Elt F .bf16), Qf c (z 0).val (z 1).val x → x = Y c z) :
    θ_run defs (onTc (τ := τ) (main (F := F))) (s₀ m ρ) (fun r => (∀ c : Dev nD, r.2.mem ((c.tc : Thread nD τ).loc main_v69) = Y c) ∧ Pipeline.FramePostR cfgs (dats m Qf) 0 R0 (V m) r ∧ r.2.sem = fun _ => 0) :=
  Pipeline.θ_run_frame_dmaRG cfgs (dats m Qf) (0 : Fin 1) launch0 osem0 defs₀ Variants.none ownSemFacts0 H0 R0 H0_sub R0_sub m ρ main
    (hbody := fun c => by obtain ⟨off, np, E, R, P, h⟩ := hok c; exact (body_obligation m Qf c h).loose)
    (hshare := fun c => (dats m Qf 0 c).share_full fun _ => rfl)
    (howed := fun _ _ => rfl) (V := V m) (hmain := hmainU m Variants.none) (hA := A_eq m Qf)
    (G := fun c => Function.update (V m c) main_v69 (Y c))
    (hin := fun c => by
      rw [Pipeline.ΦDRG_eq, scr0_eq, routed0_eq]
      show _ ⊢ PhiN m (Qf c) c 0
      unfold PhiN
      iintro ⟨H1, H2, H3, H4, H5⟩
      isplitl [H1]; · iexact H1
      isplitl [H2]; · iexact H2
      isplitl [H3]; · iexact H3
      isplitl [H4]; · iexact H4
      iexists _
      isplitl [H5]; · iexact H5
      ipureintro; exact OutInv.first)
    (hout := fun c => by
      rw [Pipeline.ΦDRG_eq, scr0_eq, routed0_eq, Function.update_self]
      show PhiN m (Qf c) c 3 ⊢ _
      unfold PhiN
      iintro ⟨H1, H2, H3, H4, ⟨%O, H5, %hO⟩⟩
      have hE : O = Y c := funext fun z => hY c z _ (hO z (Or.inl (z 1).isLt))
      subst hE
      isplitl [H1]; · iexact H1
      isplitl [H2]; · iexact H2
      isplitl [H3]; · iexact H3
      isplitl [H4]; · iexact H4
      iexact H5)
    (Q' := _)
    (hQ' := fun r h => ⟨fun c => (h.1.written c (b := main_v69) (by decide)).trans (Function.update_self _ _ _), h.1.toR, h.2⟩)

set_option backward.isDefEq.respectTransparency.types false in
theorem run_main (hok : AllOK m Qf) :
    θ_run defs (onTc (τ := τ) (main (F := F))) (s₀ m ρ) (fun r => Pipeline.FramePostR cfgs (dats m Qf) 0 R0 (V m) r ∧ r.2.sem = fun _ => 0) :=
  Pipeline.θ_run_frame_dmaR (Q' := _) cfgs (dats m Qf) (0 : Fin 1) launch0 osem0 defs₀ Variants.none ownSemFacts0 H0 R0 H0_sub R0_sub m ρ main
    (hbody := fun c => by obtain ⟨off, np, E, R, P, h⟩ := hok c; exact (body_obligation m Qf c h).loose)
    (hshare := fun c => (dats m Qf 0 c).share_full fun _ => rfl)
    (howed := fun _ _ => rfl) (V := V m) (hmain := hmainU m Variants.none) (hA := A_eq m Qf)
    (hin := fun c => by
      rw [Pipeline.ΦDR_eq, scr0_eq, ownedPts0_eq]
      show _ ⊢ PhiN m (Qf c) c 0
      unfold PhiN
      iintro ⟨H1, H2, H3, H4, ⟨%f, H5⟩⟩
      isplitl [H1]; · iexact H1
      isplitl [H2]; · iexact H2
      isplitl [H3]; · iexact H3
      isplitl [H4]; · iexact H4
      iexists _
      isplitl [H5]; · iexact H5
      ipureintro; exact OutInv.first)
    (hout := fun c => by
      rw [Pipeline.ΦDR_eq, scr0_eq, ownedPts0_eq]
      show PhiN m (Qf c) c 3 ⊢ _
      unfold PhiN
      iintro ⟨H1, H2, H3, H4, ⟨%O, H5, -⟩⟩
      isplitl [H1]; · iexact H1
      isplitl [H2]; · iexact H2
      isplitl [H3]; · iexact H3
      isplitl [H4]; · iexact H4
      iexists _; iexact H5)

/-- The frame's post from the run's. -/
theorem frame_post {r : PUnit × MemSt nD τ sig (Elt F)} (h : Pipeline.FramePostR cfgs (dats m Qf) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Finset.mem_sdiff.mpr ⟨Pipeline.mem_restRefs_of main_arg0 (by decide) (by decide), by decide⟩)).trans (V_main_arg0 m c),
   ((h c).2 main_arg1 (Finset.mem_sdiff.mpr ⟨Pipeline.mem_restRefs_of main_arg1 (by decide) (by decide), by decide⟩)).trans (V_main_arg1 m c),
   ((h c).2 main_arg2 (Finset.mem_sdiff.mpr ⟨Pipeline.mem_restRefs_of main_arg2 (by decide) (by decide), by decide⟩)).trans (V_main_arg2 m c),
   ((h c).2 main_arg3 (Finset.mem_sdiff.mpr ⟨Pipeline.mem_restRefs_of main_arg3 (by decide) (by decide), by decide⟩)).trans (V_main_arg3 m c),
   ((h c).2 main_arg4 (Finset.mem_sdiff.mpr ⟨Pipeline.mem_restRefs_of main_arg4 (by decide) (by decide), by decide⟩)).trans (V_main_arg4 m c),
   ((h c).2 main_arg5 (Finset.mem_sdiff.mpr ⟨Pipeline.mem_restRefs_of main_arg5 (by decide) (by decide), by decide⟩)).trans (V_main_arg5 m c),
   ((h c).2 main_arg6 (Finset.mem_sdiff.mpr ⟨Pipeline.mem_restRefs_of main_arg6 (by decide) (by decide), by decide⟩)).trans (V_main_arg6 m c)⟩

end Cert.KernelIdeal.Hand

end
-- ==== Proof.Ideal.Fits.lean ====
module

public import proofs.«01_k».proof.Proof.Ideal.Fit
public import proofs.«01_k».proof.Proof.Ideal.HostV
public import proofs.«01_k».proof.Proof.Ideal.Run

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

theorem index0 (t : Fin cfg0.N) : win0_0.index t (0 : Fin 2) = 0 ∧ win0_0.index t (1 : Fin 2) = 0 := by revert t; decide
theorem index1 (t : Fin cfg0.N) : win0_1.index t (0 : Fin 1) = 0 := by revert t; decide
theorem index2 (t : Fin cfg0.N) : win0_2.index t (0 : Fin 3) = 0 ∧ win0_2.index t (1 : Fin 3) = 0 ∧ win0_2.index t (2 : Fin 3) = t.val := by revert t; decide

theorem iblk0 (c : Dev nD) (t : Fin cfg0.N) (x : S272x16.Idx) : iblk m c 0 t x = (V m c main_v31 : S272x16.Idx → Elt F .i32) x := by
  obtain ⟨e0, e1⟩ := index0 t
  show V m c main_v31 (((cfg0.win 0).blk t).view.emb x) = V m c main_v31 x
  congr 1
  funext a; apply Fin.ext
  match a with
  | ⟨0, _⟩ => show win0_0.index t (0 : Fin 2) * 272 + 1 * (x 0).val = (x 0).val; omega
  | ⟨1, _⟩ => show win0_0.index t (1 : Fin 2) * 16 + 1 * (x 1).val = (x 1).val; omega

theorem iblk1 (c : Dev nD) (t : Fin cfg0.N) (x : S16.Idx) : iblk m c 1 t x = (V m c main_v1 : S16.Idx → Elt F .i32) x := by
  have e0 := index1 t
  show V m c main_v1 (((cfg0.win 1).blk t).view.emb x) = V m c main_v1 x
  congr 1
  funext a; apply Fin.ext
  match a with
  | ⟨0, _⟩ => show win0_1.index t (0 : Fin 1) * 16 + 1 * (x 0).val = (x 0).val; omega

theorem iblk2 (c : Dev nD) (t : Fin cfg0.N) (e : Fin 16) (j : Fin 1024) (hn : t.val * 1024 + j.val < 3072) :
    iblk m c 2 t (ix3 e (0 : Fin 1) j) = (V m c main_v68 : S16x1x3072.Idx → Elt F .f32) (ix3 e (0 : Fin 1) (⟨t.val * 1024 + j.val, hn⟩ : Fin 3072)) := by
  obtain ⟨e0, e1, e2⟩ := index2 t
  show V m c main_v68 (((cfg0.win 2).blk t).view.emb (ix3 e (0 : Fin 1) j)) = V m c main_v68 _
  congr 1
  funext a; apply Fin.ext
  match a with
  | ⟨0, _⟩ => show win0_2.index t (0 : Fin 3) * 16 + 1 * e.val = e.val; omega
  | ⟨1, _⟩ => show win0_2.index t (1 : Fin 3) * 1 + 1 * 0 = 0; omega
  | ⟨2, _⟩ => show win0_2.index t (2 : Fin 3) * 1024 + 1 * j.val = t.val * 1024 + j.val; omega

abbrev ar2 (c : Dev nD) : IVec S16 32 := m ((c : Thread nD τ).loc main_arg2)
abbrev ar5 (c : Dev nD) : IVec S34816x2 32 := m ((c : Thread nD τ).loc main_arg5)
abbrev oOff (c : Dev nD) : ℕ → ℕ := nOff (kOff (ar2 m c))
abbrev oNp (c : Dev nD) : ℕ → ℕ → ℕ := nNp (kOff (ar2 m c)) (kNeed (kOff (ar2 m c)) (kIdx (ar5 m c)))
abbrev oE (c : Dev nD) : ℕ → ℕ → ℕ → ℕ := nAt (kExpert (kEnds (ar2 m c)) (kIdx (ar5 m c)))
abbrev oR (c : Dev nD) : ℕ → ℕ → ℕ → ℕ := nAt (kIdx (ar5 m c))
abbrev OK (c : Dev nD) : Prop := PreOK (kOff (ar2 m c)) (kEnds (ar2 m c)) (kIdx (ar5 m c)) (kExpert (kEnds (ar2 m c)) (kIdx (ar5 m c))) (kNeed (kOff (ar2 m c)) (kIdx (ar5 m c)))

theorem ok_of_pre (c : Dev nD) {a0 : FVec F S69632x1536 .fp8e4m3} {a1 : FVec F S69632 .f32} {a3 : FVec F S16x1536x3072 .fp8e4m3} {a4 : FVec F S16x3072 .f32} {a6 : FVec F S34816x2 .f32}
    (h : Cert.Pre_sorted_by_expert.fn (F := F) a0 a1 (ar2 m c) a3 a4 (ar5 m c) a6 = fun _ => 1#1) : OK m c := by
  obtain ⟨h1, h2, h3, h4, h5⟩ := pre_all h
  exact preOK h1 h2 h3 h4 h5

theorem fits (Qf : Dev nD → ℕ → ℕ → Elt F .bf16 → Prop) (c : Dev nD) (h : OK m c) (P : ℕ → ℕ → ℕ → ℕ → Elt F .f32 → Prop)
    (hP : ∀ (t : Fin cfg0.N) (Wt : S16x1536x1024.Idx → Elt F .fp8e4m3) (W6 : S16x1x1024.Idx → Elt F .f32),
      (∀ (e : Fin 16) (k : Fin 1536) (j : Fin 1024) (hn : t.val * 1024 + j.val < 3072), Wt (ix3 e k j) = (m ((c : Thread nD τ).loc main_arg3) : S16x1536x3072.Idx → Elt F .fp8e4m3) (ix3 e k (⟨t.val * 1024 + j.val, hn⟩ : Fin 3072))) →
      (∀ (e : Fin 16) (j : Fin 1024) (hn : t.val * 1024 + j.val < 3072), W6 (ix3 e (0 : Fin 1) j) = kWs (m ((c : Thread nD τ).loc main_arg4)) (ix3 e (0 : Fin 1) (⟨t.val * 1024 + j.val, hn⟩ : Fin 3072))) →
      PayOK (P t.val) (m ((c : Thread nD τ).loc main_arg0)) (kHs (kPad (m ((c : Thread nD τ).loc main_arg1)))) W6 Wt)
    (hQ : ∀ t : Fin cfg0.N, OutOK (P t.val) (oE m c) (oR m c) (kTw (m ((c : Thread nD τ).loc main_arg6))) (Qf c) t.val) :
    HostOK m Qf c (oOff m c) (oNp m c) (oE m c) (oR m c) P := by
  intro t
  refine ⟨hf_of h, fun x => ?_, fun x => ?_, fun b g s => ?_, fun Wt hW => ?_, ?_⟩
  · rw [iblk0, V_v31]
    obtain ⟨b, e, rfl⟩ : ∃ b e, x = ix2 b e := ⟨x 0, x 1, eq_ix2 x⟩
    have := nNp_eq (kOff (ar2 m c)) (kNeed (kOff (ar2 m c)) (kIdx (ar5 m c))) b e
    show _ = BitVec.ofNat 32 (nNp _ _ (b.val + 1) e.val)
    rw [this]; simp
  · rw [iblk1, V_v1]
    obtain ⟨e, rfl⟩ : ∃ e, x = ix1 e := ⟨x 0, eq_ix1 x⟩
    have := nOff_eq (kOff (ar2 m c)) e
    show _ = BitVec.ofNat 32 (nOff _ e.val)
    rw [this]; simp
  · have e := V_v52 m c
    rw [e]
    exact tok_of h b g s
  · rw [V_v67, V_main_arg0]
    refine hP t Wt _ ?_ ?_
    · intro e k j hn; rw [hW e k j hn, V_main_arg3]
    · intro e j hn; rw [iblk2 m c t e j hn, V_v68]
  · rw [V_v54]; exact hQ t

/-- The launch runs, ends with every argument as it was and every counter at zero. -/
theorem frame_run (ρ : Dev nD → PrngReg) (h : ∀ c, OK m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c => frame_post m (fun _ _ _ _ => True) hr.1 c, hr.2⟩)
    (run_main m ρ (fun _ _ _ _ => True) (fun c => ⟨_, _, _, _, fun _ _ _ _ _ => True,
      fits m _ c (h c) _ (fun t Wt W6 _ _ => by intro e s hs h32 lhs wb r0 r1 _ _ _ _ p q cc hcc ws _ _; trivial)
        (fun t => by intro b hb s col v _ _; trivial)⟩))

end Cert.KernelIdeal.Hand

end
-- ==== Proof.Bits.HostDefs.lean ====
module

public import proofs.«01_k».proof.Proof.Gen.Kernel.Frame
public import Idealize.ShloMosaic.Lib.StableHlo.ReadAt
public import Idealize.ShloMosaic.Lib.StableHlo.RunClose
public import Idealize.ShloMosaic.Lib.Claim

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL.Sem

/-! ## What the host prepares, as functions of the arguments -/

def kEnds (a : IVec S16 32) : IVec S16 32 :=
  Host.reduceWindow IntOp.addi ![16] ![1] ![15] ![0] a (broadcastInDim S_ ![] bcast_S_S_ (constantI S_ 32 0#32)) reduceWindows_S16_S16_w16s1p15_0 h_S_
def kOff (a : IVec S16 32) : IVec S16 32 := subi (kEnds a) a
def kIdx (x : IVec S34816x2 32) : IVec S272x2x128 32 :=
  transpose S272x2x128 [0, 2, 1] (shapeCast S272x128x2 x shapeCasts_S34816x2_S272x128x2) transposes_S272x128x2_S272x2x128_0_2_1
def kB3 (x : IVec S272x2x128 32) : IVec S272x2x128x16 32 :=
  broadcastInDim S272x2x128x16 ![0, 1, 2, 3] bcast_S272x2x128x1_S272x2x128x16_0_1_2_3 (broadcastInDim S272x2x128x1 ![0, 1, 2] bcast_S272x2x128_S272x2x128x1_0_1_2 x)
def kB1 (x : IVec S16 32) : IVec S272x2x128x16 32 :=
  broadcastInDim S272x2x128x16 ![0, 1, 2, 3] bcast_S1x1x1x16_S272x2x128x16_0_1_2_3 (broadcastInDim S1x1x1x16 ![3] bcast_S16_S1x1x1x16_3 x)
def kExpert (ends : IVec S16 32) (x : IVec S272x2x128 32) : IVec S272x2x128 32 :=
  Host.reduce IntOp.addi (extui 32 (cmpi .sge (kB3 x) (kB1 ends)) natLt_1_32) (constantI S_ 32 0#32) reducesTo_S272x2x128x16_S272x2x128_d3 h_S_
def kCnt (off : IVec S16 32) (x : IVec S272x2x128 32) : IVec S272x16 32 :=
  Host.reduce IntOp.addi (extui 32 (cmpi .sge (kB3 x) (kB1 off)) natLt_1_32) (constantI S_ 32 0#32) reducesTo_S272x2x128x16_S272x16_d1_2 h_S_
def kHist (cnt : IVec S272x16 32) : IVec S272x16 32 :=
  subi cnt (concatenate S272x16 1 [⟨S272x15, extractStridedSlice S272x15 ![0, 1] cnt slices_S272x16_S272x15_0_1⟩, ⟨S272x1, broadcastInDim S272x1 ![] bcast_S_S272x1 (constantI S_ 32 0#32)⟩] concatenates_S272x15_S272x1_S272x16_d1)
def kUpto (off : IVec S16 32) (hist : IVec S272x16 32) : IVec S272x16 32 :=
  addi (broadcastInDim S272x16 ![0, 1] bcast_S1x16_S272x16_0_1 (broadcastInDim S1x16 ![1] bcast_S16_S1x16_1 off))
    (Host.reduceWindow IntOp.addi ![272, 1] ![1, 1] ![271, 0] ![0, 0] hist (broadcastInDim S_ ![] bcast_S_S_ (constantI S_ 32 0#32)) reduceWindows_S272x16_S272x16_w272s1p271_0_w1s1p0_0 h_S_)
def kAl (off : IVec S16 32) : IVec S16 32 := andi off (broadcastInDim S16 ![] bcast_S_S16 (constantI S_ 32 4294967264#32))
def kNeed (off : IVec S16 32) (x : IVec S272x2x128 32) : IVec S272x16 32 :=
  select (cmpi .sgt (kUpto off (kHist (kCnt off x))) (broadcastInDim S272x16 ![0, 1] bcast_S1x16_S272x16_0_1 (broadcastInDim S1x16 ![1] bcast_S16_S1x16_1 off)))
    (kUpto off (kHist (kCnt off x))) (broadcastInDim S272x16 ![1] bcast_S16_S272x16_1 (kAl off))
def kRel (off ends : IVec S16 32) (x : IVec S272x2x128 32) : IVec S272x2x128 32 :=
  subi x (Host.reduce IntOp.addi (select (cmpi .eq (kB3 (kExpert ends x)) (kB1 (iotaInDim S16 32 0)))
    (broadcastInDim S272x2x128x16 ![3] bcast_S16_S272x2x128x16_3 (kAl off))
    (broadcastInDim S272x2x128x16 ![] bcast_S_S272x2x128x16 (constantI S_ 32 0#32))) (constantI S_ 32 0#32) reducesTo_S272x2x128x16_S272x2x128_d3 h_S_)
def kK (v : BitVec 32) : IVec S272x2x128 32 := broadcastInDim S272x2x128 ![] bcast_S_S272x2x128 (constantI S_ 32 v)
/-- The quotient by 256, rounded down. -/
def kDiv (r : IVec S272x2x128 32) : IVec S272x2x128 32 :=
  select (andi (cmpi .ne (signi r) (broadcastInDim S272x2x128 ![] bcast_S_S272x2x128 (signi (constantI S_ 32 256#32)))) (cmpi .ne (Host.remsi r (kK 256#32)) (kK 0#32)))
    (subi (Host.divsi r (kK 256#32)) (kK 1#32)) (Host.divsi r (kK 256#32))
def k256 : IVec S_ 32 := select (cmpi .eq (constantI S_ 32 256#32) (constantI S_ 32 0#32)) (constantI S_ 32 1#32) (constantI S_ 32 256#32)
def kB0 (x : IVec S_ 32) : IVec S272x2x128 32 := broadcastInDim S272x2x128 ![] bcast_S_S272x2x128 x
/-- The remainder by 256, with the divisor's sign. -/
def kMod (r : IVec S272x2x128 32) : IVec S272x2x128 32 :=
  select (andi (cmpi .ne (cmpi .slt (Host.remsi r (kB0 k256)) (kK 0#32)) (broadcastInDim S272x2x128 ![] bcast_S_S272x2x128 (cmpi .slt k256 (constantI S_ 32 0#32)))) (cmpi .ne (Host.remsi r (kB0 k256)) (kK 0#32)))
    (addi (Host.remsi r (kB0 k256)) (kB0 k256)) (Host.remsi r (kB0 k256))
def kAddrOf (ex r : IVec S272x2x128 32) : IVec S272x2x128 32 :=
  addi (muli (addi (muli ex (kK 2#32)) (andi (kDiv r) (kK 1#32))) (kK 2056#32)) (kMod r)

variable {F : FTy → Type} [FloatOps F]
variable (m : (ℓ : Loc nD τ sig) → Buf (Elt F) ℓ)

def kTw (x : S34816x2.Idx → Elt F .f32) : S272x2x128.Idx → Elt F .f32 :=
  transpose S272x2x128 [0, 2, 1] (shapeCast S272x128x2 x shapeCasts_S34816x2_S272x128x2) transposes_S272x128x2_S272x2x128_0_2_1
def kPad (x : S69632.Idx → Elt F .f32) : S2184x32.Idx → Elt F .f32 :=
  shapeCast S2184x32 (concatenate S69888 0 [⟨S69632, x⟩, ⟨S256, broadcastInDim S256 ![] bcast_S_S256 (constant S_ .f32 0x3F800000#32)⟩] concatenates_S69632_S256_S69888_d0) shapeCasts_S69888_S2184x32
def kHs (y : S2184x32.Idx → Elt F .f32) : S2176x2x128.Idx → Elt F .f32 :=
  shapeCast S2176x2x128 (concatenate S2176x256 1 [⟨S2176x32, extractStridedSlice S2176x32 ![0, 0] y slices_S2184x32_S2176x32_0_0⟩,
    ⟨S2176x32, extractStridedSlice S2176x32 ![1, 0] y slices_S2184x32_S2176x32_1_0⟩, ⟨S2176x32, extractStridedSlice S2176x32 ![2, 0] y slices_S2184x32_S2176x32_2_0⟩,
    ⟨S2176x32, extractStridedSlice S2176x32 ![3, 0] y slices_S2184x32_S2176x32_3_0⟩, ⟨S2176x32, extractStridedSlice S2176x32 ![4, 0] y slices_S2184x32_S2176x32_4_0⟩,
    ⟨S2176x32, extractStridedSlice S2176x32 ![5, 0] y slices_S2184x32_S2176x32_5_0⟩, ⟨S2176x32, extractStridedSlice S2176x32 ![6, 0] y slices_S2184x32_S2176x32_6_0⟩,
    ⟨S2176x32, extractStridedSlice S2176x32 ![7, 0] y slices_S2184x32_S2176x32_7_0⟩] concatenates_S2176x32_S2176x32_S2176x32_S2176x32_S2176x32_S2176x32_S2176x32_S2176x32_S2176x256_d1) shapeCasts_S2176x256_S2176x2x128
def kWs (x : S16x3072.Idx → Elt F .f32) : S16x1x3072.Idx → Elt F .f32 := shapeCast S16x1x3072 x shapeCasts_S16x3072_S16x1x3072

end Cert.Kernel.Hand

end
-- ==== Proof.Bits.Words.lean ====
/- The kernel's index words as natural numbers: what each offset, side condition and trip count is
   once the words it reads are known. -/
module

public import proofs.«01_k».proof.Proof.Gen.Kernel.Skeleton
public import Idealize.ShloMosaic.Lib.Affine
public import Idealize.ShloMosaic.Lib.WordCmp
public import Idealize.ShloMosaic.Lib.Tactic

@[expose] public section

namespace Cert.Kernel.Hand

open Idealize.ShloMosaic Cert.Kernel.Gen

/-! ## Words that are natural numbers -/

theorem toInt_ofNat32 (n : Nat) (h : n < 2 ^ 31) : (BitVec.ofNat 32 n).toInt = n := by
  rw [BitVec.toInt_eq_toNat_of_lt (by rw [BitVec.toNat_ofNat]; omega), BitVec.toNat_ofNat, Nat.mod_eq_of_lt (by omega)]

theorem toNat_ofNat32 (n : Nat) (h : n < 2 ^ 32) : (BitVec.ofNat 32 n).toNat = n := by
  rw [BitVec.toNat_ofNat, Nat.mod_eq_of_lt (by omega)]

theorem w_addi (a b : Nat) : Scalar.addi (BitVec.ofNat 32 a) (BitVec.ofNat 32 b) = BitVec.ofNat 32 (a + b) :=
  (BitVec.ofNat_add a b).symm

theorem w_muli (a b : Nat) : Scalar.muli (BitVec.ofNat 32 a) (BitVec.ofNat 32 b) = BitVec.ofNat 32 (a * b) :=
  (BitVec.ofNat_mul a b).symm

theorem w_subi (a b : Nat) (h : b ≤ a) : Scalar.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [Nat.add_sub_cancel_left, BitVec.ofNat_add, BitVec.add_comm, BitVec.add_sub_cancel]

theorem w_minsi (a b : Nat) (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then _ else _) = _
  by_cases h : (BitVec.ofNat 32 a).slt (BitVec.ofNat 32 b) = true
  · rw [if_pos h]
    rw [BitVec.slt_iff_toInt_lt, toInt_ofNat32 a ha, toInt_ofNat32 b hb] at h
    rw [min_eq_left (by omega)]
  · rw [if_neg h]
    rw [BitVec.slt_iff_toInt_lt, toInt_ofNat32 a ha, toInt_ofNat32 b hb] at h
    rw [min_eq_right (by omega)]

theorem isInt_ofNat32 (n : Nat) (h : n < 2 ^ 31) : Affine.IsInt (BitVec.ofNat 32 n) n := Affine.ofNat n ⟨rfl, h⟩

theorem eq_ofNat_of_isInt {x : BitVec 32} {n : Nat} (h : Affine.IsInt x n) (hn : n < 2 ^ 31) : x = BitVec.ofNat 32 n := by
  unfold Affine.IsInt at h
  apply BitVec.eq_of_toInt_eq
  rw [h, toInt_ofNat32 n hn]

theorem w_divsi (a b : Nat) (ha : a < 2 ^ 31) (hb : b < 2 ^ 31) (h0 : 0 < b) :
    Scalar.divsi (BitVec.ofNat 32 a) (BitVec.ofNat 32 b) = BitVec.ofNat 32 (a / b) := by
  refine eq_ofNat_of_isInt ?_ (lt_of_le_of_lt (Nat.div_le_self a b) ha)
  exact Affine.divsi (isInt_ofNat32 a ha) (isInt_ofNat32 b hb) ⟨by simp, by omega, by omega⟩

theorem w_remsi (a b : Nat) (ha : a < 2 ^ 31) (hb : b < 2 ^ 31) (h0 : 0 < b) :
    Scalar.remsi (BitVec.ofNat 32 a) (BitVec.ofNat 32 b) = BitVec.ofNat 32 (a % b) := by
  refine eq_ofNat_of_isInt ?_ (lt_of_le_of_lt (Nat.mod_le a b) ha)
  exact Affine.remsi (isInt_ofNat32 a ha) (isInt_ofNat32 b hb) ⟨by simp, by omega, by omega⟩

theorem w_andi_one (a : Nat) : Scalar.andi (BitVec.ofNat 32 a) 1#32 = BitVec.ofNat 32 (a % 2) := by
  show BitVec.ofNat 32 a &&& 1#32 = _
  apply BitVec.eq_of_toNat_eq
  rw [BitVec.toNat_and]
  simp only [BitVec.toNat_ofNat]
  rw [show 1 % 2 ^ 32 = 1 from rfl, Nat.and_one_is_mod]
  omega

theorem w_andi_m32 (a : Nat) (ha : a < 2 ^ 31) : Scalar.andi (BitVec.ofNat 32 a) 4294967264#32 = BitVec.ofNat 32 (a / 32 * 32) := by
  show BitVec.ofNat 32 a &&& 4294967264#32 = _
  have h1 : (4294967264#32 : BitVec 32) = ~~~(31#32) := by decide
  apply BitVec.eq_of_toNat_eq
  have h2 : (BitVec.ofNat 32 a &&& 4294967264#32) = ((BitVec.ofNat 32 a) >>> 5) <<< 5 := by
    apply BitVec.eq_of_getLsbD_eq
    intro i hi
    have hm : ∀ j : Fin 32, (4294967264#32 : BitVec 32).getLsbD j.val = decide (5 ≤ j.val) := by decide
    rw [BitVec.getLsbD_and, hm ⟨i, hi⟩, BitVec.getLsbD_shiftLeft, BitVec.getLsbD_ushiftRight]
    by_cases h5 : 5 ≤ i
    · have e5 : 5 + (i - 5) = i := by omega
      simp [hi, h5, e5, show ¬ i < 5 by omega]
    · simp [h5, show i < 5 by omega]
  rw [h2, BitVec.toNat_shiftLeft, BitVec.toNat_ushiftRight, toNat_ofNat32 a (by omega), toNat_ofNat32 _ (by omega),
    Nat.shiftLeft_eq, Nat.shiftRight_eq_div_pow]
  omega

theorem w_cmpi_sgt (a b : Nat) (ha : a < 2 ^ 31) (hb : b < 2 ^ 31) :
    Scalar.cmpi .sgt (BitVec.ofNat 32 a) (BitVec.ofNat 32 b) = if b < a then 1#1 else 0#1 := by
  have h : Scalar.cmpi .sgt (BitVec.ofNat 32 a) (BitVec.ofNat 32 b) = 1#1 ↔ b < a := by
    show IntOp.cmpi .sgt _ _ = 1#1 ↔ _
    rw [IntOp.cmpi_sgt, toInt_ofNat32 a ha, toInt_ofNat32 b hb]; omega
  split
  · exact h.2 ‹_›
  · rename_i hn
    rcases BitVec.eq_zero_or_eq_one (Scalar.cmpi .sgt (BitVec.ofNat 32 a) (BitVec.ofNat 32 b)) with h0 | h0
    · exact h0
    · exact absurd (h.1 h0) hn

theorem w_cmpi_slt (a b : Nat) (ha : a < 2 ^ 31) (hb : b < 2 ^ 31) :
    Scalar.cmpi .slt (BitVec.ofNat 32 a) (BitVec.ofNat 32 b) = if a < b then 1#1 else 0#1 := by
  have h : Scalar.cmpi .slt (BitVec.ofNat 32 a) (BitVec.ofNat 32 b) = 1#1 ↔ a < b := by
    show IntOp.cmpi .slt _ _ = 1#1 ↔ _
    rw [IntOp.cmpi_slt, toInt_ofNat32 a ha, toInt_ofNat32 b hb]; omega
  split
  · exact h.2 ‹_›
  · rename_i hn
    rcases BitVec.eq_zero_or_eq_one (Scalar.cmpi .slt (BitVec.ofNat 32 a) (BitVec.ofNat 32 b)) with h0 | h0
    · exact h0
    · exact absurd (h.1 h0) hn

/-- The floor division the kernel writes out, at a dividend that is not negative, is the division. -/
theorem w_floor (a d : Nat) (ha : a < 2 ^ 31) (hd : d < 2 ^ 31) (h0 : 0 < d) :
    Scalar.select
      (Scalar.andi
        (Scalar.cmpi .ne
          (Scalar.subi (Scalar.extui (Scalar.cmpi .sgt (BitVec.ofNat 32 a) 0#32)) (Scalar.extui (Scalar.cmpi .slt (BitVec.ofNat 32 a) 0#32)))
          (Scalar.subi (Scalar.extui (Scalar.cmpi .sgt (BitVec.ofNat 32 d) 0#32)) (Scalar.extui (Scalar.cmpi .slt (BitVec.ofNat 32 d) 0#32))))
        (Scalar.cmpi .ne (Scalar.remsi (BitVec.ofNat 32 a) (BitVec.ofNat 32 d)) 0#32))
      (Scalar.subi (Scalar.divsi (BitVec.ofNat 32 a) (BitVec.ofNat 32 d)) 1#32)
      (Scalar.divsi (BitVec.ofNat 32 a) (BitVec.ofNat 32 d)) = BitVec.ofNat 32 (a / d) := by
  have e0 : (0#32 : BitVec 32) = BitVec.ofNat 32 0 := rfl
  rw [w_divsi a d ha hd h0, w_remsi a d ha hd h0, e0, w_cmpi_sgt a 0 ha (by omega), w_cmpi_slt a 0 ha (by omega),
    w_cmpi_sgt d 0 hd (by omega), w_cmpi_slt d 0 hd (by omega), if_pos h0, if_neg (show ¬ a < 0 by omega), if_neg (show ¬ d < 0 by omega)]
  by_cases h : 0 < a
  · rw [if_pos h]
    have : Scalar.cmpi .ne (Scalar.subi (Scalar.extui 1#1) (Scalar.extui 0#1)) (Scalar.subi (Scalar.extui 1#1) (Scalar.extui 0#1)) = 0#1 := by decide
    rw [this]
    have h2 : ∀ x : BitVec 1, Scalar.andi 0#1 x = 0#1 := by decide
    rw [h2]
    rfl
  · obtain rfl : a = 0 := by omega
    rw [Nat.zero_mod]
    have : Scalar.cmpi .ne (BitVec.ofNat 32 0) (BitVec.ofNat 32 0) = 0#1 := by decide
    rw [this]
    have h2 : ∀ x : BitVec 1, Scalar.andi x 0#1 = 0#1 := by decide
    rw [h2]
    rfl

theorem w_iv (k : Nat) : Scf.iv 0#32 1#32 k = BitVec.ofNat 32 k := by
  unfold Scf.iv; simp

theorem w_muli_one (x : BitVec 32) : Scalar.muli x 1#32 = x := BitVec.mul_one x
theorem w_zero_addi (x : BitVec 32) : Scalar.addi 0#32 x = x := BitVec.zero_add x
theorem w_subi_zero (x : BitVec 32) : Scalar.subi x 0#32 = x := BitVec.sub_zero x
theorem w_indexCast (x : BitVec 32) : Scalar.indexCast x = x := rfl

/-! ## The loops' trips -/

theorem t1_lt (k : Fin k0_t1_loop.trips) : k.val < 16 := Nat.lt_of_lt_of_le k.isLt k0_t1_abs.2.1
theorem t2_lt (k : Fin k0_t2_loop.trips) : k.val < 272 := Nat.lt_of_lt_of_le k.isLt k0_t2_abs.2.1
theorem t3_lt (k : Fin k0_t3_loop.trips) : k.val < 16 := Nat.lt_of_lt_of_le k.isLt k0_t3_abs.2.1
theorem t1_trips : k0_t1_loop.trips = 16 := by decide
theorem t2_trips : k0_t2_loop.trips = 272 := by decide
theorem t3_trips : k0_t3_loop.trips = 16 := by decide

/-! ## The offsets -/

theorem off2_eq (k : Fin k0_t1_loop.trips) : k0_off2 k = ![k.val] := by
  have := t1_lt k
  simp only [k0_off2, w_iv, w_muli_one, w_zero_addi, w_indexCast]
  rw [toNat_ofNat32 _ (by omega)]

theorem off3_eq (b : Fin k0_t2_loop.trips) (e : Fin k0_t3_loop.trips) : k0_off3 b e = ![b.val, e.val] := by
  have := t2_lt b; have := t3_lt e
  simp only [k0_off3, w_iv, w_muli_one, w_zero_addi, w_indexCast]
  rw [toNat_ofNat32 _ (by omega), toNat_ofNat32 _ (by omega)]

theorem off4_eq (e : Fin k0_t3_loop.trips) : k0_off4 e = ![e.val] := by
  have := t3_lt e
  simp only [k0_off4, w_iv, w_muli_one, w_zero_addi, w_indexCast]
  rw [toNat_ofNat32 _ (by omega)]

theorem off5_eq (e : Fin k0_t3_loop.trips) : k0_off5 e = ![e.val] := off4_eq e
theorem off10_eq (e : Fin k0_t3_loop.trips) : k0_off10 e = ![e.val] := off4_eq e
theorem off20_eq (e : Fin k0_t3_loop.trips) : k0_off20 e = ![e.val] := off4_eq e

theorem off9_eq (e : Fin k0_t3_loop.trips) : k0_off9 e = ![e.val, 0, 0] := by
  have := t3_lt e
  simp only [k0_off9, w_iv, w_muli_one, w_zero_addi, w_indexCast]
  rw [toNat_ofNat32 _ (by omega)]

theorem off6_eq (s : Nat) (hs : s < 2 ^ 31) : k0_off6 (BitVec.ofNat 32 s) = ![min s 69376, 0] := by
  simp only [k0_off6]
  rw [w_minsi s 69376 hs (by omega), toNat_ofNat32 _ (by omega)]

theorem off8_eq (s : Nat) (hs : s < 2 ^ 31) : k0_off8 (BitVec.ofNat 32 s) = ![s - min s 69376, 0] := by
  simp only [k0_off8, w_indexCast]
  rw [w_minsi s 69376 hs (by omega), w_subi _ _ (by omega), toNat_ofNat32 _ (by omega)]

theorem off7_eq (s : Nat) (hs : s < 2 ^ 31) : k0_off7 (BitVec.ofNat 32 s) = ![s / 32, 0, 0] := by
  simp only [k0_off7]
  rw [w_floor s 32 hs (by omega) (by omega), toNat_ofNat32 _ (by omega)]

/-- The page of the ring a chunk of rows goes to, and the row of the page. -/
theorem off12_eq (e : Fin k0_t3_loop.trips) (s o c : Nat) (hs : s < 2 ^ 31) (ho : o < 2 ^ 31) (hso : o / 32 * 32 ≤ s) (hc : c < 2056) :
    k0_off12 e (BitVec.ofNat 32 s) (BitVec.ofNat 32 o) (BitVec.ofNat 32 c) = ![(e.val * 2 + (s - o / 32 * 32) / 256 % 2) * 2056 + c, 0] := by
  have := t3_lt e
  simp only [k0_off12, w_iv, w_muli_one, w_zero_addi, w_indexCast]
  rw [w_andi_m32 o ho, w_subi _ _ hso, w_floor _ 256 (by omega) (by omega) (by omega), w_andi_one, w_muli, w_addi, w_muli, w_addi,
    toNat_ofNat32 _ (by omega)]

theorem chk2_of (s : Nat) (hs : s ≤ 69600) (h32 : 32 ∣ s) : k0_chk2 (BitVec.ofNat 32 s) := by
  have h6 := off6_eq s (by omega)
  have h7 := off7_eq s (by omega)
  have h8 := off8_eq s (by omega)
  have e1 : (k0_mult1 (BitVec.ofNat 32 s)).toNat = min s 69376 := by
    simp only [k0_mult1]; rw [w_minsi s 69376 (by omega) (by omega), toNat_ofNat32 _ (by omega)]
  have e2 : (k0_mult2 (BitVec.ofNat 32 s)).toNat = s - min s 69376 := by
    simp only [k0_mult2]; rw [w_minsi s 69376 (by omega) (by omega), w_subi _ _ (by omega), toNat_ofNat32 _ (by omega)]
  have i6 : ∀ a, (k0_off6 (BitVec.ofNat 32 s)) a + S256x1536.size a ≤ S69632x1536.size a := by
    rw [h6]; intro a; fin_cases a
    · show min s 69376 + 256 ≤ 69632; omega
    · show 0 + 1536 ≤ 1536; omega
  refine ⟨by rw [e1]; omega, i6, ?_, ?_, by rw [e2]; omega, ?_⟩
  · intro hinb
    refine Affine.words_of_packed (Affine.packed_dvd (of_decide_eq_true rfl) ?_ (by decide))
    show 4 ∣ k0_off6 (BitVec.ofNat 32 s) 0
    rw [h6]; show 4 ∣ min s 69376; omega
  · rw [h7]; intro a; fin_cases a
    · show s / 32 + 1 ≤ 2176; omega
    · show 0 + 2 ≤ 2; omega
    · show 0 + 128 ≤ 128; omega
  · rw [h8]; intro a; fin_cases a
    · show s - min s 69376 + 256 ≤ 512; omega
    · show 0 + 1536 ≤ 1536; omega

theorem chk3_of (e : Fin k0_t3_loop.trips) (s o : Nat) (hs : s < 2 ^ 31) (ho : o < 2 ^ 31) (hso : o / 32 * 32 ≤ s) :
    k0_chk3 e (BitVec.ofNat 32 s) (BitVec.ofNat 32 o) := by
  intro r
  have := t3_lt e
  have hr := r.isLt
  rw [off12_eq e s o (257 * r.val) hs ho hso (by omega)]
  intro a; fin_cases a
  · show (e.val * 2 + (s - o / 32 * 32) / 256 % 2) * 2056 + 257 * r.val + 256 ≤ 65792; omega
  · show 0 + 128 ≤ 128; omega

/-! ## The item loop's trip count -/

theorem t4_loop_eq (need done : Nat) (hn : need < 2 ^ 30) (hd : done ≤ need + 255) :
    k0_t4_loop (BitVec.ofNat 32 need) (BitVec.ofNat 32 done) = ⟨0#32, BitVec.ofNat 32 ((need + 255 - done) / 256), 1#32⟩ := by
  have hx : Scalar.subi (Scalar.addi (Scalar.subi (BitVec.ofNat 32 need) (BitVec.ofNat 32 done)) 256#32) 1#32
      = BitVec.ofNat 32 (need + 255 - done) := by
    show (BitVec.ofNat 32 need - BitVec.ofNat 32 done) + 256#32 - 1#32 = _
    apply BitVec.eq_of_toNat_eq
    simp only [BitVec.toNat_sub, BitVec.toNat_add, BitVec.toNat_ofNat]
    omega
  simp only [k0_t4_loop, hx]
  rw [w_floor _ 256 (by omega) (by omega) (by omega)]
  have h00 : Scalar.subi 1#32 1#32 = 0#32 := by decide
  rw [h00, w_subi_zero]
  have hz : ∀ x : BitVec 32, Scalar.addi x 0#32 = x := fun x => BitVec.add_zero x
  rw [hz]
  have hdiv : Scalar.divsi (BitVec.ofNat 32 ((need + 255 - done) / 256)) 1#32 = BitVec.ofNat 32 ((need + 255 - done) / 256) := by
    have := w_divsi ((need + 255 - done) / 256) 1 (by omega) (by omega) (by omega)
    rwa [Nat.div_one] at this
  simp only [w_subi_zero, w_muli_one, w_zero_addi, hdiv]

theorem t5_loop_eq (need done : Nat) (hn : need < 2 ^ 30) (hd : done ≤ need + 255) :
    k0_t5_loop (BitVec.ofNat 32 need) (BitVec.ofNat 32 done)
      = ⟨BitVec.ofNat 32 ((need + 255 - done) / 256), BitVec.ofNat 32 ((need + 255 - done) / 256), 1#32⟩ := by
  have h := t4_loop_eq need done hn hd
  have hub : (k0_t4_loop (BitVec.ofNat 32 need) (BitVec.ofNat 32 done)).ub = BitVec.ofNat 32 ((need + 255 - done) / 256) := by rw [h]
  have hx : Scalar.subi (Scalar.addi (Scalar.subi (BitVec.ofNat 32 need) (BitVec.ofNat 32 done)) 256#32) 1#32
      = BitVec.ofNat 32 (need + 255 - done) := by
    show (BitVec.ofNat 32 need - BitVec.ofNat 32 done) + 256#32 - 1#32 = _
    apply BitVec.eq_of_toNat_eq
    simp only [BitVec.toNat_sub, BitVec.toNat_add, BitVec.toNat_ofNat]
    omega
  simp only [k0_t5_loop, hx]
  rw [w_floor _ 256 (by omega) (by omega) (by omega)]
  have h00 : Scalar.subi 1#32 1#32 = 0#32 := by decide
  rw [h00, w_subi_zero]
  have hz : ∀ x : BitVec 32, Scalar.addi x 0#32 = x := fun x => BitVec.add_zero x
  rw [hz]
  have hdiv : Scalar.divsi (BitVec.ofNat 32 ((need + 255 - done) / 256)) 1#32 = BitVec.ofNat 32 ((need + 255 - done) / 256) := by
    have := w_divsi ((need + 255 - done) / 256) 1 (by omega) (by omega) (by omega)
    rwa [Nat.div_one] at this
  simp only [w_subi_zero, w_muli_one, w_zero_addi, hdiv]

theorem trips_unit (n : Nat) (hn : n < 2 ^ 30) : Scf.trips 0#32 (BitVec.ofNat 32 n) 1#32 = n := by
  unfold Scf.trips
  rw [toInt_ofNat32 n (by omega)]
  have h0 : (0#32 : BitVec 32).toInt = 0 := by decide
  have h1 : (1#32 : BitVec 32).toInt = 1 := by decide
  rw [h0, h1]; omega

theorem trips_none (n : Nat) (hn : n < 2 ^ 30) : Scf.trips (BitVec.ofNat 32 n) (BitVec.ofNat 32 n) 1#32 = 0 := by
  unfold Scf.trips
  rw [toInt_ofNat32 n (by omega)]
  have h1 : (1#32 : BitVec 32).toInt = 1 := by decide
  rw [h1]; omega

theorem t4_trips (need done : Nat) (hn : need < 2 ^ 30) (hd : done ≤ need + 255) :
    (k0_t4_loop (BitVec.ofNat 32 need) (BitVec.ofNat 32 done)).trips = (need + 255 - done) / 256 := by
  rw [t4_loop_eq need done hn hd]; exact trips_unit _ (by omega)

theorem t5_trips (need done : Nat) (hn : need < 2 ^ 30) (hd : done ≤ need + 255) :
    (k0_t5_loop (BitVec.ofNat 32 need) (BitVec.ofNat 32 done)).trips = 0 := by
  rw [t5_loop_eq need done hn hd]; exact trips_none _ (by omega)

theorem chk1_of (need done : Nat) (hn : need < 2 ^ 30) (hd : done ≤ need + 255) :
    k0_chk1 (BitVec.ofNat 32 need) (BitVec.ofNat 32 done) := by
  have h1 : (1#32 : BitVec 32).toInt = 1 := by decide
  have h0 : (0#32 : BitVec 32).toInt = 0 := by decide
  constructor
  · rw [t4_loop_eq need done hn hd]
    refine ⟨by rw [h1]; omega, ?_⟩
    show (0#32 : BitVec 32).toInt + (Scf.trips _ _ _ : ℕ) * (1#32 : BitVec 32).toInt < _
    rw [trips_unit _ (by omega), h0, h1]; omega
  · rw [t5_loop_eq need done hn hd]
    refine ⟨by rw [h1]; omega, ?_⟩
    show (BitVec.ofNat 32 ((need + 255 - done) / 256)).toInt + (Scf.trips _ _ _ : ℕ) * (1#32 : BitVec 32).toInt < _
    rw [trips_none _ (by omega), toInt_ofNat32 _ (by omega), h1]; omega

/-! ## The blocks' offsets -/

theorem off38_eq (v : Nat) (hv : v < 2 ^ 32) : k0_off38 (BitVec.ofNat 32 v) = ![v, 0] := by
  simp only [k0_off38, w_indexCast]
  rw [toNat_ofNat32 _ hv]

theorem chk6_of (v : Nat) (hv : v + 1799 < 65792) : k0_chk6 (BitVec.ofNat 32 v) := by
  intro a
  rw [off38_eq v (by omega)]
  fin_cases a
  · right; show v + 257 * (8 - 1) < 65792; omega
  · right; show 0 + 1 * (128 - 1) < 128; omega

theorem off37_eq (b : Fin k0_t2_loop.trips) : k0_off37 b = ![b.val, 0, 0] := by
  have := t2_lt b
  simp only [k0_off37, w_iv, w_muli_one, w_zero_addi, w_indexCast]
  rw [toNat_ofNat32 _ (by omega)]

theorem off294_eq (i : grid0.Coords) (b : Fin k0_t2_loop.trips) : k0_off294 i b = ![b.val * 128, (i 0).val * 1024] := by
  have := t2_lt b
  have h3 : (i 0).val < 3 := (i 0).isLt
  simp only [k0_off294, w_iv, w_muli_one, w_zero_addi, w_indexCast]
  rw [w_muli, w_muli, toNat_ofNat32 _ (by omega), toNat_ofNat32 _ (by omega)]

theorem off1_eq (i : grid0.Coords) : k0_off1 i = ![0, 0, (i 0).val * 1024] := by
  have h3 : (i 0).val < 3 := (i 0).isLt
  simp only [k0_off1]
  rw [w_muli, toNat_ofNat32 _ (by omega)]

end Cert.Kernel.Hand
-- ==== Proof.Bits.Pay.lean ====
module

public import proofs.«01_k».proof.Proof.Bits.Words
public import Idealize.ShloMosaic.Lib.Pointwise

@[expose] public section

set_option maxRecDepth 8192
set_option maxHeartbeats 4000000

noncomputable section

namespace Cert.Kernel.Hand

open Cert.Kernel.Gen
open Idealize.ShloMosaic
open Idealize.ShloMosaic.Pointwise

variable {F : FTy → Type} [FloatOps F]

/-- One scaled product: the accumulator at lane `128 cc + q`, times the row's scale, times the column's scale. -/
def itemPay (cc : ℕ) (hcc : cc < 8) (acc : FVec F S256x1024 .f32) (rs : FVec F S256x128 .f32) (ws : Vec F S1x1x128 .f32)
    (p : Fin 256) (q : Fin 128) : F .f32 :=
  FloatOps.mulf (FloatOps.mulf (acc (ix2 p (⟨128 * cc + q.val, by omega⟩ : Fin 1024))) (rs (ix2 p q))) (ws (ix3 (0 : Fin 1) (0 : Fin 1) q))

theorem ws_apply (ws : Vec F S1x1x128 .f32) (p : Fin 256) (q : Fin 128) :
    broadcastTo S256x128 (shapeCast S1x128 ws shapeCasts_S1x1x128_S1x128) broadcasts_S1x128_S256x128 (ix2 p q) = ws (ix3 (0 : Fin 1) (0 : Fin 1) q) := by
  pointwise

theorem pay3_apply (acc : FVec F S256x1024 .f32) (rs : FVec F S256x128 .f32) (ws : Vec F S1x1x128 .f32) (p : Fin 256) (q : Fin 128) :
    k0_pay3 acc rs ws (ix2 p q) = itemPay 0 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay4_apply (acc : FVec F S256x1024 .f32) (rs : FVec F S256x128 .f32) (ws : Vec F S1x1x128 .f32) (p : Fin 256) (q : Fin 128) :
    k0_pay4 acc rs ws (ix2 p q) = itemPay 1 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay5_apply (acc : FVec F S256x1024 .f32) (rs : FVec F S256x128 .f32) (ws : Vec F S1x1x128 .f32) (p : Fin 256) (q : Fin 128) :
    k0_pay5 acc rs ws (ix2 p q) = itemPay 2 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay7_apply (acc : FVec F S256x1024 .f32) (rs : FVec F S256x128 .f32) (ws : Vec F S1x1x128 .f32) (p : Fin 256) (q : Fin 128) :
    k0_pay7 (k0_pay6 acc rs ws) (ix2 p q) = itemPay 3 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay8_apply (acc : FVec F S256x1024 .f32) (rs : FVec F S256x128 .f32) (ws : Vec F S1x1x128 .f32) (p : Fin 256) (q : Fin 128) :
    k0_pay8 acc rs ws (ix2 p q) = itemPay 4 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay9_apply (acc : FVec F S256x1024 .f32) (rs : FVec F S256x128 .f32) (ws : Vec F S1x1x128 .f32) (p : Fin 256) (q : Fin 128) :
    k0_pay9 acc rs ws (ix2 p q) = itemPay 5 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay10_apply (acc : FVec F S256x1024 .f32) (rs : FVec F S256x128 .f32) (ws : Vec F S1x1x128 .f32) (p : Fin 256) (q : Fin 128) :
    k0_pay10 acc rs ws (ix2 p q) = itemPay 6 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

theorem pay21_apply (acc : FVec F S256x1024 .f32) (rs : FVec F S256x128 .f32) (ws : Vec F S1x1x128 .f32) (p : Fin 256) (q : Fin 128) :
    k0_pay21 acc rs ws (ix2 p q) = itemPay 7 (by omega) acc rs ws p q := by
  simp only [k0_pay3, k0_pay4, k0_pay5, k0_pay6, k0_pay7, k0_pay8, k0_pay9, k0_pay10, k0_pay21]
  rw [shapeCast_self (s := S256x128)]
  refine congrArg₂ FloatOps.mulf (congrArg₂ FloatOps.mulf (congrArg acc ?_) rfl) (ws_apply ws p q)
  funext a
  fin_cases a
  · exact Fin.ext (Nat.zero_add _)
  · exact Fin.ext (by first | rfl | exact Nat.zero_add _ | exact (Nat.zero_add _).trans (by simp))

end Cert.Kernel.Hand
-- ==== Proof.Bits.Item.lean ====
module

public import proofs.«01_k».proof.Proof.Bits.Pay
public import Idealize.ShloMosaic.Lib.WritesUnit
public import Idealize.ShloMosaic.Lib.VecWindow
public import Idealize.ShloMosaic.Lib.CellWrites

@[expose] public section

set_option maxRecDepth 8192
set_option maxHeartbeats 4000000

noncomputable section

namespace Cert.Kernel.Hand

open Cert.Kernel.Gen
open Idealize.ShloMosaic
open Idealize.ShloMosaic.Pointwise

variable {F : FTy → Type} [FloatOps F]

theorem off11_eq (e : Fin k0_t3_loop.trips) : k0_off11 e = ![e.val, 0, 128 * 0] := off9_eq e
theorem off13_eq (e : Fin k0_t3_loop.trips) : k0_off13 e = ![e.val, 0, 128 * 1] := by
  have h := off9_eq e; funext a; fin_cases a <;> first | rfl | exact congrFun h 0
theorem off14_eq (e : Fin k0_t3_loop.trips) : k0_off14 e = ![e.val, 0, 128 * 2] := by
  have h := off9_eq e; funext a; fin_cases a <;> first | rfl | exact congrFun h 0
theorem off15_eq (e : Fin k0_t3_loop.trips) : k0_off15 e = ![e.val, 0, 128 * 3] := by
  have h := off9_eq e; funext a; fin_cases a <;> first | rfl | exact congrFun h 0
theorem off16_eq (e : Fin k0_t3_loop.trips) : k0_off16 e = ![e.val, 0, 128 * 4] := by
  have h := off9_eq e; funext a; fin_cases a <;> first | rfl | exact congrFun h 0
theorem off17_eq (e : Fin k0_t3_loop.trips) : k0_off17 e = ![e.val, 0, 128 * 5] := by
  have h := off9_eq e; funext a; fin_cases a <;> first | rfl | exact congrFun h 0
theorem off18_eq (e : Fin k0_t3_loop.trips) : k0_off18 e = ![e.val, 0, 128 * 6] := by
  have h := off9_eq e; funext a; fin_cases a <;> first | rfl | exact congrFun h 0
theorem off19_eq (e : Fin k0_t3_loop.trips) : k0_off19 e = ![e.val, 0, 128 * 7] := by
  have h := off9_eq e; funext a; fin_cases a <;> first | rfl | exact congrFun h 0

theorem lhs_read (arg3 : Memref sig .tc .hbm S69632x1536 .fp8e4m3) (arg11 : Memref sig .tc .vmem S512x1536 .fp8e4m3)
    (X3 : BufTy.Contents (Elt F) arg3.view.ty) (f11 : BufTy.Contents (Elt F) arg11.view.ty) (r : BitVec 32) (k2 : k0_chk2 r)
    (s : ℕ) (hs : s ≤ 69600) (hr : r = BitVec.ofNat 32 s) (p : Fin 256) (k : Fin 1536) (h : s + p.val < 69632)
    (w : S256x1536.Idx → Elt F .fp8e4m3)
    (hw : w = View.read (Elt F) (arg3.slice (Rect.unit (s := S69632x1536) (k0_off6 r) S256x1536.size (k0_off6_inb r k2)) (fun _ => rfl)).view X3)
    (inb0) :
    View.readAt (Elt F) arg11.view (Rect.unit (s := S512x1536) (k0_off8 r) S256x1536.size (k0_off8_inb r k2)).toLoadRect
      (arg11.view.writes (Elt F) f11 [⟨Rect.unit (s := S512x1536) ![0, 0] S256x1536.size inb0, w⟩]) (ix2 p k)
    = arg3.view.read (Elt F) X3 (ix2 (⟨s + p.val, h⟩ : Fin 69632) k) := by
  subst hr
  have h6 := off6_eq s (by omega)
  have h8 := off8_eq s (by omega)
  have hp := p.isLt
  have hk := k.isLt
  have hmin : min s 69376 + (s - min s 69376) = s := by omega
  refine (View.read_writes_cons_rows_of_mem (o := 0) arg11.view f11 inb0 w [] _
    (ix2 (⟨s - min s 69376 + p.val, by omega⟩ : Fin 256) k) rfl ?_ ?_).trans ?_
  · show k0_off8 (BitVec.ofNat 32 s) 0 + 1 * p.val = 0 + (s - min s 69376 + p.val)
    rw [h8]; show s - min s 69376 + 1 * p.val = _; omega
  · show k0_off8 (BitVec.ofNat 32 s) 1 + 1 * k.val = k.val
    rw [h8]; show 0 + 1 * k.val = _; omega
  · subst hw
    refine congrArg (arg3.view.read (Elt F) X3) ?_
    funext a
    fin_cases a
    · refine Fin.ext ?_
      show k0_off6 (BitVec.ofNat 32 s) 0 + 1 * (s - min s 69376 + p.val) = s + p.val
      rw [h6]; show min s 69376 + 1 * (s - min s 69376 + p.val) = s + p.val; omega
    · refine Fin.ext ?_
      show k0_off6 (BitVec.ofNat 32 s) 1 + 1 * k.val = k.val
      rw [h6]; show 0 + 1 * k.val = _; omega

theorem resh_2x128 (h : (S2x128).numel = (S1x2x128).numel) (a : Fin 2) (b : Fin 128) :
    Shape.reshapeEquiv h (ix2 a b) = ix3 (0 : Fin 1) a b := by
  pointwise

theorem rs_read (arg4 : Memref sig .tc .hbm S2176x2x128 .f32) (arg12 : Memref sig .tc .vmem S2x128 .f32)
    (X4 : BufTy.Contents (Elt F) arg4.view.ty) (f12 : BufTy.Contents (Elt F) arg12.view.ty) (r : BitVec 32) (k2 : k0_chk2 r)
    (s : ℕ) (hs : s ≤ 69600) (hr : r = BitVec.ofNat 32 s) (g : ℕ) (hg : g < 2) (q : Fin 128) (hsq : S1x2x128.Squeezes S2x128)
    (w : S2x128.Idx → Elt F .f32)
    (hw : w = View.read (Elt F) ((arg4.slice (Rect.unit (s := S2176x2x128) (k0_off7 r) S1x2x128.size (k0_off7_inb r k2)) (fun _ => rfl)).squeeze S2x128 hsq).view X4)
    (inb0) :
    View.readAt (Elt F) arg12.view (Rect.unit (s := S2x128) ![g, 0] S1x128.size inb0).toLoadRect
      (arg12.view.writes (Elt F) f12 [⟨Rect.whole S2x128, w⟩]) (ix2 (0 : Fin 1) q)
    = arg4.view.read (Elt F) X4 (ix3 (⟨s / 32, by omega⟩ : Fin 2176) (⟨g, hg⟩ : Fin 2) q) := by
  subst hr
  have h7 := off7_eq s (by omega)
  have e1 : (Rect.unit (s := S2x128) ![g, 0] S1x128.size inb0).toLoadRect.idx (ix2 (0 : Fin 1) q) = (Rect.whole S2x128).emb (ix2 (⟨g, hg⟩ : Fin 2) q) := by
    funext a
    fin_cases a
    · exact Fin.ext (by show g + 1 * 0 = 0 + 1 * g; omega)
    · exact Fin.ext (by show 0 + 1 * q.val = 0 + 1 * q.val; omega)
  refine (congrArg (arg12.view.read (Elt F) _) e1).trans ((View.read_writes_cons_emb arg12.view f12 (Rect.whole S2x128) w [] (ix2 (⟨g, hg⟩ : Fin 2) q)).trans ?_)
  subst hw
  show arg4.view.read (Elt F) X4 ((Rect.unit (s := S2176x2x128) (k0_off7 (BitVec.ofNat 32 s)) S1x2x128.size (k0_off7_inb _ k2)).emb
    (Shape.reshapeEquiv hsq.numel_eq (ix2 (⟨g, hg⟩ : Fin 2) q))) = _
  rw [resh_2x128]
  refine congrArg (arg4.view.read (Elt F) X4) ?_
  funext a
  fin_cases a
  · refine Fin.ext ?_
    show k0_off7 (BitVec.ofNat 32 s) 0 + 1 * 0 = s / 32
    rw [h7]; rfl
  · refine Fin.ext ?_
    show k0_off7 (BitVec.ofNat 32 s) 1 + 1 * g = g
    rw [h7]; show 0 + 1 * g = _; omega
  · refine Fin.ext ?_
    show k0_off7 (BitVec.ofNat 32 s) 2 + 1 * q.val = q.val
    rw [h7]; show 0 + 1 * q.val = _; omega

/-- What a read of a unit-stride rectangle at a known offset gives, in coordinates. -/
theorem read3 {d : Fin 3 → ℕ} {sp : Space} {el : EltTy} (v : View sig .tc sp ⟨3, d⟩ el) (X : BufTy.Contents (Elt F) v.ty)
    {off size : Fin 3 → ℕ} (inb) {a0 a1 a2 : ℕ} (ho : off = ![a0, a1, a2])
    (x : (⟨3, size⟩ : Shape).Idx) (y : (⟨3, d⟩ : Shape).Idx)
    (h0 : (y 0).val = a0 + (x 0).val) (h1 : (y 1).val = a1 + (x 1).val) (h2 : (y 2).val = a2 + (x 2).val) :
    View.readAt (Elt F) v (Rect.unit (s := ⟨3, d⟩) off size inb).toLoadRect X x = v.read (Elt F) X y := by
  subst ho
  refine congrArg (v.read (Elt F) X) ?_
  funext a
  fin_cases a
  · exact Fin.ext (by show a0 + 1 * (x 0).val = (y 0).val; omega)
  · exact Fin.ext (by show a1 + 1 * (x 1).val = (y 1).val; omega)
  · exact Fin.ext (by show a2 + 1 * (x 2).val = (y 2).val; omega)

end Cert.Kernel.Hand
-- ==== Proof.Bits.Trip.lean ====
module

public import proofs.«01_k».proof.Proof.Bits.Item
public import proofs.«01_k».proof.Proof.Gen.Kernel.Points
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first row of the page of the ring that the chunk of expert `e` starting at row `s` goes to, `o` the expert's first
row. -/
def pageBase (e s o : ℕ) : ℕ := (e * 2 + (s - o / 32 * 32) / 256 % 2) * 2056

/-- What a scaled product of one chunk is asked to be: `P e row col x` says that `x` may stand for row `row` and column
`col` of expert `e`'s product. -/
def PayOK (P : ℕ → ℕ → ℕ → Elt F .f32 → Prop) (H : S69632x1536.Idx → Elt F .fp8e4m3) (HS : S2176x2x128.Idx → Elt F .f32)
    (WS : S16x1x1024.Idx → Elt F .f32) (Wt : S16x1536x1024.Idx → Elt F .fp8e4m3) : Prop :=
  ∀ (e : Fin 16) (s : ℕ) (hs : s ≤ 69600) (h32 : 32 ∣ s) (lhs : S256x1536.Idx → Elt F .fp8e4m3) (wb : S1x1536x1024.Idx → Elt F .fp8e4m3)
    (r0 r1 : S1x128.Idx → Elt F .f32),
    (∀ (p : Fin 256) (k : Fin 1536) (h : s + p.val < 69632), lhs (ix2 p k) = H (ix2 (⟨s + p.val, h⟩ : Fin 69632) k)) →
    (∀ (k : Fin 1536) (n : Fin 1024), wb (ix3 (0 : Fin 1) k n) = Wt (ix3 e k n)) →
    (∀ q : Fin 128, r0 (ix2 (0 : Fin 1) q) = HS (ix3 (⟨s / 32, by omega⟩ : Fin 2176) (0 : Fin 2) q)) →
    (∀ q : Fin 128, r1 (ix2 (0 : Fin 1) q) = HS (ix3 (⟨s / 32, by omega⟩ : Fin 2176) (1 : Fin 2) q)) →
    ∀ (p : Fin 256) (q : Fin 128) (cc : ℕ) (hcc : cc < 8) (ws : S1x1x128.Idx → Elt F .f32),
      (∀ q : Fin 128, ws (ix3 (0 : Fin 1) (0 : Fin 1) q) = WS (ix3 e (0 : Fin 1) (⟨128 * cc + q.val, by omega⟩ : Fin 1024))) →
      s + p.val < 69632 → P e.val (s + p.val) (128 * cc + q.val) (itemPay cc hcc (k0_pay1 lhs wb) (k0_pay2 r0 r1) ws p q)

/-- One chunk's effect on the ring and on the word of rows done. -/
structure ItemStep (P : ℕ → ℕ → ℕ → Elt F .f32 → Prop) (e s o : ℕ) (Y : S65792x128.Idx → Elt F .f32) (D : S16.Idx → Elt F .i32)
    (Y' : S65792x128.Idx → Elt F .f32) (D' : S16.Idx → Elt F .i32) : Prop where
  miss : ∀ z : S65792x128.Idx, ((z 0).val < pageBase e s o ∨ pageBase e s o + 2056 ≤ (z 0).val) → Y' z = Y z
  hit : ∀ (z : S65792x128.Idx) (cc p : ℕ), cc < 8 → p < 256 → (z 0).val = pageBase e s o + 257 * cc + p → s + p < 69632 →
    P e (s + p) (128 * cc + (z 1).val) (Y' z)
  done : ∀ x : S16.Idx, D' x = if (x 0).val = e then BitVec.ofNat 32 (s + 256) else D x

section Pieces
variable (arg13 : Memref sig .tc .vmem S65792x128 .f32) (Y : BufTy.Contents (Elt F) arg13.view.ty)

theorem rows_miss {off : Fin 2 → ℕ} {o : ℕ} (inb) (w : S256x128.Idx → Elt F .f32) (L) (z : S65792x128.Idx) (a : Elt F .f32)
    (hoff : off = ![o, 0]) (hz : (z 0).val < o ∨ o + 256 ≤ (z 0).val)
    (h : arg13.view.read (Elt F) (arg13.view.writes (Elt F) Y L) z = a) :
    arg13.view.read (Elt F) (arg13.view.writes (Elt F) Y (⟨Rect.unit (s := S65792x128) off S256x128.size inb, w⟩ :: L)) z = a :=
  (View.read_writes_cons_rows_of_not_mem arg13.view Y inb w L z hoff rfl hz).trans h

theorem rows_hit {off : Fin 2 → ℕ} {o : ℕ} (inb) (w : S256x128.Idx → Elt F .f32) (L) (z : S65792x128.Idx) (p : Fin 256) (q : Fin 128)
    (hoff : off = ![o, 0]) (hz : (z 0).val = o + p.val) (hq : (z 1).val = q.val) :
    arg13.view.read (Elt F) (arg13.view.writes (Elt F) Y (⟨Rect.unit (s := S65792x128) off S256x128.size inb, w⟩ :: L)) z = w (ix2 p q) :=
  View.read_writes_cons_rows_of_mem arg13.view Y inb w L z (ix2 p q) hoff hz hq

theorem pieces_hit (ro : ℕ → ℕ → ℕ → Elt F .f32 → Prop) {base s e : ℕ} (off : BitVec 32 → Fin 2 → ℕ)
    (hoff : ∀ cc : ℕ, cc < 2056 → off (BitVec.ofNat 32 cc) = ![base + cc, 0])
    (w0 w1 w2 w3 w4 w5 w6 w7 : S256x128.Idx → Elt F .f32) (i0) (i1) (i2) (i3) (i4) (i5) (i6) (i7)
    (h0 : ∀ (p : Fin 256) (q : Fin 128), s + p.val < 69632 → ro e (s + p.val) (128 * 0 + q.val) (w0 (ix2 p q)))
    (h1 : ∀ (p : Fin 256) (q : Fin 128), s + p.val < 69632 → ro e (s + p.val) (128 * 1 + q.val) (w1 (ix2 p q)))
    (h2 : ∀ (p : Fin 256) (q : Fin 128), s + p.val < 69632 → ro e (s + p.val) (128 * 2 + q.val) (w2 (ix2 p q)))
    (h3 : ∀ (p : Fin 256) (q : Fin 128), s + p.val < 69632 → ro e (s + p.val) (128 * 3 + q.val) (w3 (ix2 p q)))
    (h4 : ∀ (p : Fin 256) (q : Fin 128), s + p.val < 69632 → ro e (s + p.val) (128 * 4 + q.val) (w4 (ix2 p q)))
    (h5 : ∀ (p : Fin 256) (q : Fin 128), s + p.val < 69632 → ro e (s + p.val) (128 * 5 + q.val) (w5 (ix2 p q)))
    (h6 : ∀ (p : Fin 256) (q : Fin 128), s + p.val < 69632 → ro e (s + p.val) (128 * 6 + q.val) (w6 (ix2 p q)))
    (h7 : ∀ (p : Fin 256) (q : Fin 128), s + p.val < 69632 → ro e (s + p.val) (128 * 7 + q.val) (w7 (ix2 p q)))
    (z : S65792x128.Idx) (cc p : ℕ) (hcc : cc < 8) (hp : p < 256) (hz : (z 0).val = base + 257 * cc + p) (hsp : s + p < 69632) :
    ro e (s + p) (128 * cc + (z 1).val) (arg13.view.read (Elt F) (arg13.view.writes (Elt F) Y [
      ⟨Rect.unit (s := S65792x128) (off 1799#32) S256x128.size i7, w7⟩,
      ⟨Rect.unit (s := S65792x128) (off 1542#32) S256x128.size i6, w6⟩,
      ⟨Rect.unit (s := S65792x128) (off 1285#32) S256x128.size i5, w5⟩,
      ⟨Rect.unit (s := S65792x128) (off 1028#32) S256x128.size i4, w4⟩,
      ⟨Rect.unit (s := S65792x128) (off 771#32) S256x128.size i3, w3⟩,
      ⟨Rect.unit (s := S65792x128) (off 514#32) S256x128.size i2, w2⟩,
      ⟨Rect.unit (s := S65792x128) (off 257#32) S256x128.size i1, w1⟩,
      ⟨Rect.unit (s := S65792x128) (off 0#32) S256x128.size i0, w0⟩]) z) := by
  have m : ∀ (a b : Elt F .f32) (cc : ℕ), a = b → ro e (s + p) (128 * cc + (z 1).val) b → ro e (s + p) (128 * cc + (z 1).val) a :=
    fun a b cc h hb => h ▸ hb
  rcases (by omega : cc = 0 ∨ cc = 1 ∨ cc = 2 ∨ cc = 3 ∨ cc = 4 ∨ cc = 5 ∨ cc = 6 ∨ cc = 7) with h | h | h | h | h | h | h | h <;> subst h
  · refine m _ _ _ ?_ (h0 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    refine rows_miss arg13 Y _ _ _ z _ (hoff 514 (by omega)) (by omega) ?_
    refine rows_miss arg13 Y _ _ _ z _ (hoff 257 (by omega)) (by omega) ?_
    exact rows_hit arg13 Y _ _ _ z ⟨p, hp⟩ ⟨(z 1).val, (z 1).isLt⟩ (hoff 0 (by omega)) (by show _ = _ + p; omega) rfl
  · refine m _ _ _ ?_ (h1 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    refine rows_miss arg13 Y _ _ _ z _ (hoff 514 (by omega)) (by omega) ?_
    exact rows_hit arg13 Y _ _ _ z ⟨p, hp⟩ ⟨(z 1).val, (z 1).isLt⟩ (hoff 257 (by omega)) (by show _ = _ + p; omega) rfl
  · refine m _ _ _ ?_ (h2 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    refine rows_miss arg13 Y _ _ _ z _ (hoff 771 (by omega)) (by omega) ?_
    exact rows_hit arg13 Y _ _ _ z ⟨p, hp⟩ ⟨(z 1).val, (z 1).isLt⟩ (hoff 514 (by omega)) (by show _ = _ + p; omega) rfl
  · refine m _ _ _ ?_ (h3 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    refine rows_miss arg13 Y _ _ _ z _ (hoff 1028 (by omega)) (by omega) ?_
    exact rows_hit arg13 Y _ _ _ z ⟨p, hp⟩ ⟨(z 1).val, (z 1).isLt⟩ (hoff 771 (by omega)) (by show _ = _ + p; omega) rfl
  · refine m _ _ _ ?_ (h4 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    refine rows_miss arg13 Y _ _ _ z _ (hoff 1285 (by omega)) (by omega) ?_
    exact rows_hit arg13 Y _ _ _ z ⟨p, hp⟩ ⟨(z 1).val, (z 1).isLt⟩ (hoff 1028 (by omega)) (by show _ = _ + p; omega) rfl
  · refine m _ _ _ ?_ (h5 ⟨p, hp⟩ ⟨(z 1).val, (z 1).isLt⟩ hsp)
    refine rows_miss arg13 Y _ _ _ z _ (hoff 1799 (by omega)) (by omega) ?_
    refine rows_miss arg13 Y _ _ _ z _ (hoff 1542 (by omega)) (by omega) ?_
    exact rows_hit arg13 Y _ _ _ z ⟨p, hp⟩ ⟨(z 1).val, (z 1).isLt⟩ (hoff 1285 (by omega)) (by show _ = _ + p; omega) rfl
  · refine m _ _ _ ?_ (h6 ⟨p, hp⟩ ⟨(z 1).val, (z 1).isLt⟩ hsp)
    refine rows_miss arg13 Y _ _ _ z _ (hoff 1799 (by omega)) (by omega) ?_
    exact rows_hit arg13 Y _ _ _ z ⟨p, hp⟩ ⟨(z 1).val, (z 1).isLt⟩ (hoff 1542 (by omega)) (by show _ = _ + p; omega) rfl
  · refine m _ _ _ ?_ (h7 ⟨p, hp⟩ ⟨(z 1).val, (z 1).isLt⟩ hsp)
    exact rows_hit arg13 Y _ _ _ z ⟨p, hp⟩ ⟨(z 1).val, (z 1).isLt⟩ (hoff 1799 (by omega)) (by show _ = _ + p; omega) rfl

end Pieces

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- What the chunk loop holds besides the ring and the words of rows done. -/
def Rest4 (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty) : sProp 𝕄 :=
  iprop(∃ (f11 : BufTy.Contents (Elt F) arg11.view.ty) (f12 : BufTy.Contents (Elt F) arg12.view.ty) (W : Waits sig Unit),
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg6.view.loc (c : Thread nD τ) ↦[arg6.view.set]{fullShare} X6) ∗
    (arg10.view.loc (c : Thread nD τ) ↦[arg10.view.set]{fullShare} X10) ∗
    (arg11.view.loc (c : Thread nD τ) ↦[arg11.view.set]{fullShare} f11) ∗
    (arg12.view.loc (c : Thread nD τ) ↦[arg12.view.set]{fullShare} f12) ∗
    semVal ((c : Thread nD τ), SemLoc.dma arg20.sem) 0 ∗ semVal ((c : Thread nD τ), SemLoc.dma arg21.sem) 0 ∗ owes (c : Thread nD τ) 0 W)

/-- The ring and the words of rows done, at contents with the property `J` of what they read. -/
def Ring4 (J : (S65792x128.Idx → Elt F .f32) → (S16.Idx → Elt F .i32) → Prop) : sProp 𝕄 :=
  iprop(∃ (Y : BufTy.Contents (Elt F) arg13.view.ty) (D : BufTy.Contents (Elt F) arg18.view.ty),
    (arg13.view.loc (c : Thread nD τ) ↦[arg13.view.set]{fullShare} Y) ∗
    (arg18.view.loc (c : Thread nD τ) ↦[arg18.view.set]{fullShare} D) ∗
    ⌜J (arg13.view.read (Elt F) Y) (arg18.view.read (Elt F) D)⌝)

set_option maxHeartbeats 16000000 in
theorem t4_trip (k0_t2 : Fin k0_t2_loop.trips) (v6 c10 c12 : BitVec 32) (e : Fin k0_t3_loop.trips) (v2110 : BitVec 32)
    (v2113 v2115 : Elt F .i32) (hw : k0_chk1 v2113 v2115) (k : Fin (k0_t4_loop v2113 v2115).trips)
    (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (J J' : (S65792x128.Idx → Elt F .f32) → (S16.Idx → Elt F .i32) → Prop)
    (s o : ℕ) (hs : s ≤ 69600) (h32 : 32 ∣ s) (ho : o ≤ 69632) (hos : o / 32 * 32 ≤ s)
    (hD : ∀ Y D, J Y D → ∀ x : S16.Idx, (x 0).val = e.val → D x = BitVec.ofNat 32 s)
    (hX2 : ∀ x : S16.Idx, (x 0).val = e.val → arg2.view.read (Elt F) X2 x = BitVec.ofNat 32 o)
    (P : ℕ → ℕ → ℕ → Elt F .f32 → Prop)
    (hP : PayOK P (arg3.view.read (Elt F) X3) (arg4.view.read (Elt F) X4) (arg6.view.read (Elt F) X6) (arg10.view.read (Elt F) X10))
    (hJ : ∀ Y D Y' D', J Y D → ItemStep P e.val s o Y D Y' D' → J' Y' D') :
    iprop(Ring4 c arg13 arg18 J ∗ Rest4 c arg2 arg3 arg4 arg6 arg10 arg11 arg12 arg20 arg21 X2 X3 X4 X6 X10)
    ⊢ wp frame (wpE (defs₀ (F := F)) Variants.none (c : Thread nD τ) none) Set.univ
        (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw k PUnit.unit)
        (fun _ => iprop(Ring4 c arg13 arg18 J' ∗ Rest4 c arg2 arg3 arg4 arg6 arg10 arg11 arg12 arg20 arg21 X2 X3 X4 X6 X10)) := by
  unfold Ring4 Rest4
  iintro ⟨⟨%Y, %D, H13, H18, %hYD⟩, %f11, %f12, %W, H2, H3, H4, H6, H10, H11, H12, Hs20, Hs21, HW⟩
  replace hD := hD _ _ hYD
  have hd : arg18.view.readAt (Elt F) (Rect.unit (s := S16) (k0_off5 e) S1.size (k0_off5_inb e)).toLoadRect D
      (Shape.Idx.first (numel1_S1.symm ▸ Nat.one_pos)) = BitVec.ofNat 32 s := hD _ (by
    show k0_off5 e 0 + 1 * 0 = _; rw [off5_eq]; rfl)
  have hx : arg2.view.readAt (Elt F) (Rect.unit (s := S16) (k0_off10 e) S1.size (k0_off10_inb e)).toLoadRect X2
      (Shape.Idx.first (numel1_S1.symm ▸ Nat.one_pos)) = BitVec.ofNat 32 o := hX2 _ (by
    show k0_off10 e 0 + 1 * 0 = _; rw [off10_eq]; rfl)
  have k2 := chk2_of s hs h32
  rw [← hd] at k2
  have k3 := chk3_of e s o (by omega) (by omega) hos
  rw [← hd, ← hx] at k3
  unfold k0_t4_body
  sl_exec (disch := first | exact k2 | exact k3)
  sl_step
  isplitl [H13 H18]
  · iexists _; iexists _
    isplitl [H13]
    · iexact H13
    isplitl [H18]
    · iexact H18
    ipureintro
    refine hJ _ _ _ _ hYD ?_
    have hr : t4_trip.sl.r arg18 e D = BitVec.ofNat 32 s := hd
    have hr1 : t4_trip.sl.r_1 arg2 e X2 = BitVec.ofNat 32 o := hx
    have ho12 : ∀ cc : ℕ, cc < 2056 → k0_off12 e (t4_trip.sl.r arg18 e D) (t4_trip.sl.r_1 arg2 e X2) (BitVec.ofNat 32 cc)
        = ![pageBase e.val s o + cc, 0] := fun cc hcc => by
      rw [hr, hr1]; exact off12_eq e s o cc (by omega) (by omega) hos hcc
    generalize hb : pageBase e.val s o = base at ho12
    refine ⟨fun z hz => ?_, fun z cc p hcc hp hz hsp => ?_, fun x => ?_⟩
    · rw [hb] at hz
      refine rows_miss arg13 Y _ _ _ z _ (ho12 1799 (by omega)) (by omega) ?_
      refine rows_miss arg13 Y _ _ _ z _ (ho12 1542 (by omega)) (by omega) ?_
      refine rows_miss arg13 Y _ _ _ z _ (ho12 1285 (by omega)) (by omega) ?_
      refine rows_miss arg13 Y _ _ _ z _ (ho12 1028 (by omega)) (by omega) ?_
      refine rows_miss arg13 Y _ _ _ z _ (ho12 771 (by omega)) (by omega) ?_
      refine rows_miss arg13 Y _ _ _ z _ (ho12 514 (by omega)) (by omega) ?_
      refine rows_miss arg13 Y _ _ _ z _ (ho12 257 (by omega)) (by omega) ?_
      refine rows_miss arg13 Y _ _ _ z _ (ho12 0 (by omega)) (by omega) ?_
      rfl
    · rw [hb] at hz
      have hl : ∀ (p : Fin 256) (k : Fin 1536) (h : s + p.val < 69632), t4_trip.sl.v2179 (F := F) arg3 arg11 arg18 e X3 D f11 k2 (ix2 p k) = arg3.view.read (Elt F) X3 (ix2 (⟨s + p.val, h⟩ : Fin 69632) k) := by
        intro p k h
        unfold t4_trip.sl.v2179
        exact lhs_read arg3 arg11 X3 f11 (t4_trip.sl.r (F := F) arg18 e D) k2 s hs hd p k h (t4_trip.sl.dma1 (F := F) arg3 arg18 e X3 D k2) (by unfold t4_trip.sl.dma1; rfl) inb_S512x1536_S256x1536_0_0
      have hr0 : ∀ q : Fin 128, t4_trip.sl.v2184 (F := F) arg4 arg12 arg18 e X4 D k2 (ix2 (0 : Fin 1) q) = arg4.view.read (Elt F) X4 (ix3 (⟨s / 32, by omega⟩ : Fin 2176) (0 : Fin 2) q) := by
        intro q
        unfold t4_trip.sl.v2184
        exact rs_read arg4 arg12 X4 arg12.view.junk (t4_trip.sl.r (F := F) arg18 e D) k2 s hs hd 0 (by omega) q squeezes_S1x2x128_S2x128 (t4_trip.sl.dma1_1 (F := F) arg4 arg18 e X4 D k2) (by unfold t4_trip.sl.dma1_1; rfl) inb_S2x128_S1x128_0_0
      have hr1' : ∀ q : Fin 128, t4_trip.sl.v2188 (F := F) arg4 arg12 arg18 e X4 D k2 (ix2 (0 : Fin 1) q) = arg4.view.read (Elt F) X4 (ix3 (⟨s / 32, by omega⟩ : Fin 2176) (1 : Fin 2) q) := by
        intro q
        unfold t4_trip.sl.v2188
        exact rs_read arg4 arg12 X4 arg12.view.junk (t4_trip.sl.r (F := F) arg18 e D) k2 s hs hd 1 (by omega) q squeezes_S1x2x128_S2x128 (t4_trip.sl.dma1_1 (F := F) arg4 arg18 e X4 D k2) (by unfold t4_trip.sl.dma1_1; rfl) inb_S2x128_S1x128_1_0
      have hP' := hP ⟨e.val, t3_lt e⟩ s hs h32 _ _ _ _ hl
        (fun k n => read3 arg10.view X10 (k0_off9_inb e) (off9_eq e) (ix3 (0 : Fin 1) k n) (ix3 (⟨e.val, t3_lt e⟩ : Fin 16) k n) rfl (Nat.zero_add _).symm (Nat.zero_add _).symm)
        hr0 hr1'
      have e11 := fun q : Fin 128 => read3 arg6.view X6 (k0_off11_inb e) (off11_eq e) (ix3 (0 : Fin 1) (0 : Fin 1) q) (ix3 (⟨e.val, t3_lt e⟩ : Fin 16) (0 : Fin 1) (⟨128 * 0 + q.val, by omega⟩ : Fin 1024)) rfl rfl rfl
      have e13 := fun q : Fin 128 => read3 arg6.view X6 (k0_off13_inb e) (off13_eq e) (ix3 (0 : Fin 1) (0 : Fin 1) q) (ix3 (⟨e.val, t3_lt e⟩ : Fin 16) (0 : Fin 1) (⟨128 * 1 + q.val, by omega⟩ : Fin 1024)) rfl rfl rfl
      have e14 := fun q : Fin 128 => read3 arg6.view X6 (k0_off14_inb e) (off14_eq e) (ix3 (0 : Fin 1) (0 : Fin 1) q) (ix3 (⟨e.val, t3_lt e⟩ : Fin 16) (0 : Fin 1) (⟨128 * 2 + q.val, by omega⟩ : Fin 1024)) rfl rfl rfl
      have e15 := fun q : Fin 128 => read3 arg6.view X6 (k0_off15_inb e) (off15_eq e) (ix3 (0 : Fin 1) (0 : Fin 1) q) (ix3 (⟨e.val, t3_lt e⟩ : Fin 16) (0 : Fin 1) (⟨128 * 3 + q.val, by omega⟩ : Fin 1024)) rfl rfl rfl
      have e16 := fun q : Fin 128 => read3 arg6.view X6 (k0_off16_inb e) (off16_eq e) (ix3 (0 : Fin 1) (0 : Fin 1) q) (ix3 (⟨e.val, t3_lt e⟩ : Fin 16) (0 : Fin 1) (⟨128 * 4 + q.val, by omega⟩ : Fin 1024)) rfl rfl rfl
      have e17 := fun q : Fin 128 => read3 arg6.view X6 (k0_off17_inb e) (off17_eq e) (ix3 (0 : Fin 1) (0 : Fin 1) q) (ix3 (⟨e.val, t3_lt e⟩ : Fin 16) (0 : Fin 1) (⟨128 * 5 + q.val, by omega⟩ : Fin 1024)) rfl rfl rfl
      have e18 := fun q : Fin 128 => read3 arg6.view X6 (k0_off18_inb e) (off18_eq e) (ix3 (0 : Fin 1) (0 : Fin 1) q) (ix3 (⟨e.val, t3_lt e⟩ : Fin 16) (0 : Fin 1) (⟨128 * 6 + q.val, by omega⟩ : Fin 1024)) rfl rfl rfl
      have e19 := fun q : Fin 128 => read3 arg6.view X6 (k0_off19_inb e) (off19_eq e) (ix3 (0 : Fin 1) (0 : Fin 1) q) (ix3 (⟨e.val, t3_lt e⟩ : Fin 16) (0 : Fin 1) (⟨128 * 7 + q.val, by omega⟩ : Fin 1024)) rfl rfl rfl
      refine pieces_hit arg13 Y P (k0_off12 e (t4_trip.sl.r arg18 e D) (t4_trip.sl.r_1 arg2 e X2)) ho12 _ _ _ _ _ _ _ _ _ _ _ _ _ _ _ _ ?_ ?_ ?_ ?_ ?_ ?_ ?_ ?_ z cc p hcc hp hz hsp
      · intro p q h
        rw [pay3_apply]
        exact hP' p q 0 (by omega) _ e11 h
      · intro p q h
        rw [pay4_apply]
        exact hP' p q 1 (by omega) _ e13 h
      · intro p q h
        rw [pay5_apply]
        exact hP' p q 2 (by omega) _ e14 h
      · intro p q h
        refine (congrArg (P _ _ _) (pay7_apply _ _ _ p q)).mpr ?_
        exact hP' p q 3 (by omega) _ e15 h
      · intro p q h
        rw [pay8_apply]
        exact hP' p q 4 (by omega) _ e16 h
      · intro p q h
        rw [pay9_apply]
        exact hP' p q 5 (by omega) _ e17 h
      · intro p q h
        rw [pay10_apply]
        exact hP' p q 6 (by omega) _ e18 h
      · intro p q h
        rw [pay21_apply]
        exact hP' p q 7 (by omega) _ e19 h
    · refine (View.read_writes_cons_cell arg18.view D _ _ [] x).trans ?_
      have hv : t4_trip.sl.v2314 arg18 e D = BitVec.ofNat 32 (s + 256) := by
        show Scalar.addi (t4_trip.sl.r arg18 e D) 256#32 = _
        rw [hr]; exact w_addi s 256
      rw [off20_eq, hv]
      rfl
  · iexists _; iexists _; iexists _
    sl_close

end Cert.Kernel.Hand
-- ==== Proof.Bits.Ring.lean ====
module

public import proofs.«01_k».proof.Proof.Bits.Trip

@[expose] public section

set_option maxRecDepth 8192
set_option maxHeartbeats 4000000

noncomputable section

namespace Cert.Kernel.Hand

open Cert.Kernel.Gen
open Idealize.ShloMosaic
open Idealize.ShloMosaic.Pointwise

variable {F : FTy → Type} [FloatOps F]

/-- The first row of the chunk grid of an expert whose rows begin at `o`. -/
def al (o : ℕ) : ℕ := o / 32 * 32

/-- The row at which the chunk grid beginning at `a` first reaches `n`. -/
def dn (a n : ℕ) : ℕ := a + (n - a + 255) / 256 * 256

/-- The words of rows done are `done`, and the ring holds the last two chunks of every expert. -/
structure RingInv (P : ℕ → ℕ → ℕ → Elt F .f32 → Prop) (off done : ℕ → ℕ) (Y : S65792x128.Idx → Elt F .f32) (D : S16.Idx → Elt F .i32) : Prop where
  words : ∀ x : S16.Idx, D x = BitVec.ofNat 32 (done (x 0).val)
  rows : ∀ (e r cc : ℕ) (z : S65792x128.Idx), e < 16 → cc < 8 → al (off e) ≤ r → r < done e → done e ≤ r + 512 → r < 69632 →
    (z 0).val = (e * 2 + (r - al (off e)) / 256 % 2) * 2056 + 257 * cc + (r - al (off e)) % 256 →
    P e r (128 * cc + (z 1).val) (Y z)

theorem ring_step {P : ℕ → ℕ → ℕ → Elt F .f32 → Prop} {off done done' : ℕ → ℕ} {Y Y' : S65792x128.Idx → Elt F .f32} {D D' : S16.Idx → Elt F .i32}
    {e : ℕ} (h : RingInv P off done Y D) (ha : al (off e) ≤ done e) (hm : (done e - al (off e)) % 256 = 0)
    (hs : ItemStep P e (done e) (off e) Y D Y' D') (hd : done' e = done e + 256) (ho : ∀ e', e' ≠ e → done' e' = done e') :
    RingInv P off done' Y' D' := by
  refine ⟨fun x => ?_, fun e' r cc z he hcc har hr1 hr2 hr3 hz => ?_⟩
  · rw [hs.done x]
    by_cases hx : (x 0).val = e
    · rw [if_pos hx, hx, hd]
    · rw [if_neg hx, h.words x, ho _ hx]
  · have hb : pageBase e (done e) (off e) = (e * 2 + (done e - al (off e)) / 256 % 2) * 2056 := rfl
    have hm2 := Nat.mod_lt (r - al (off e')) (by omega : 0 < 256)
    have hm3 := Nat.mod_lt ((r - al (off e')) / 256) (by omega : 0 < 2)
    have hm4 := Nat.mod_lt ((done e - al (off e)) / 256) (by omega : 0 < 2)
    by_cases hx : e' = e
    · subst hx
      rw [hd] at hr1 hr2
      by_cases hlt : r < done e'
      · rw [hs.miss z]
        · exact h.rows e' r cc z he hcc har hlt (by omega) hr3 hz
        · rw [hb, hz]
          have e4 : (done e' - al (off e')) / 256 = (r - al (off e')) / 256 + 1 := by omega
          rw [e4]
          omega
      · have e1 : r = done e' + (r - done e') := by omega
        have e2 : (r - al (off e')) % 256 = r - done e' := by omega
        have e3 : (r - al (off e')) / 256 = (done e' - al (off e')) / 256 := by omega
        rw [e2, e3] at hz
        rw [e1]
        exact hs.hit z cc (r - done e') hcc (by omega) (by rw [hb]; exact hz) (by omega)
    · rw [ho _ hx] at hr1 hr2
      rw [hs.miss z]
      · exact h.rows e' r cc z he hcc har hr1 hr2 hr3 hz
      · rw [hb, hz]
        omega

/-- What the host's tables say: `off e` is expert `e`'s first row, `np b e` the row below which expert `e` must be done
before block `b`. -/
structure HF (off : ℕ → ℕ) (np : ℕ → ℕ → ℕ) : Prop where
  off_le : ∀ e, e < 16 → off e ≤ 69632
  np0 : ∀ e, e < 16 → np 0 e = al (off e)
  mono : ∀ b e, b < 272 → e < 16 → np b e ≤ np (b + 1) e
  le : ∀ b e, b ≤ 272 → e < 16 → np b e ≤ 69632

theorem HF.al_le {off : ℕ → ℕ} {np : ℕ → ℕ → ℕ} (h : HF off np) : ∀ b e, b ≤ 272 → e < 16 → al (off e) ≤ np b e
  | 0, e, _, he => (h.np0 e he).symm ▸ Nat.le_refl _
  | b + 1, e, hb, he => Nat.le_trans (HF.al_le h b e (by omega) he) (h.mono b e (by omega) he)

/-- The rows done while block `b` is at expert `k`. -/
def doneAt (off : ℕ → ℕ) (np : ℕ → ℕ → ℕ) (b k e : ℕ) : ℕ := dn (al (off e)) (if e < k then np (b + 1) e else np b e)

end Cert.Kernel.Hand
-- ==== Proof.Bits.T3.lean ====
module

public import proofs.«01_k».proof.Proof.Bits.Ring

@[expose] public section

set_option maxRecDepth 8192
set_option maxHeartbeats 4000000

noncomputable section

namespace Cert.Kernel.Hand

open Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

theorem t4_loop_wp (k0_t2 : Fin k0_t2_loop.trips) (v6 c10 c12 : BitVec 32) (e : Fin k0_t3_loop.trips) (v2110 : BitVec 32)
    (v2113 v2115 : Elt F .i32) (hw : k0_chk1 v2113 v2115) (ok)
    (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off done done' : ℕ → ℕ) (need : ℕ) (hX2 : ∀ x : S16.Idx, arg2.view.read (Elt F) X2 x = BitVec.ofNat 32 (off (x 0).val))
    (hoff : off e.val ≤ 69632) (h13 : v2113 = BitVec.ofNat 32 need) (h15 : v2115 = BitVec.ofNat 32 (done e.val))
    (hn : need ≤ 69632) (hdn : done e.val ≤ need + 255) (ha : al (off e.val) ≤ done e.val) (hm : (done e.val - al (off e.val)) % 256 = 0)
    (hd' : done' e.val = done e.val + 256 * ((need + 255 - done e.val) / 256)) (ho' : ∀ e', e' ≠ e.val → done' e' = done e') :
    iprop(Ring4 c arg13 arg18 (RingInv P off done) ∗ Rest4 c arg2 arg3 arg4 arg6 arg10 arg11 arg12 arg20 arg21 X2 X3 X4 X6 X10)
    ⊢ wp frame (wpE (defs₀ (F := F)) Variants.none (c : Thread nD τ) none) Set.univ
        (Scf.Loop.for (k0_t4_loop v2113 v2115) ok PUnit.unit (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw))
        (fun _ => iprop(Ring4 c arg13 arg18 (RingInv P off done') ∗ Rest4 c arg2 arg3 arg4 arg6 arg10 arg11 arg12 arg20 arg21 X2 X3 X4 X6 X10)) := by
  have htr : (k0_t4_loop v2113 v2115).trips = (need + 255 - done e.val) / 256 := by
    rw [h13, h15]; exact t4_trips need _ (by omega) hdn
  refine BIBase.Entails.trans ?_ (Scf.wp_for frame _ _ _ _ _ ok PUnit.unit _
    (fun k _ => iprop(Ring4 c arg13 arg18 (RingInv P off (fun e' => if e' = e.val then done e.val + 256 * k else done e')) ∗ Rest4 c arg2 arg3 arg4 arg6 arg10 arg11 arg12 arg20 arg21 X2 X3 X4 X6 X10))
    (fun k acc => ?_))
  · have e0 : (fun e' => if e' = e.val then done e.val + 256 * 0 else done e') = done := by
      funext e'; split
      · next h => rw [h]; rfl
      · rfl
    have e1 : (fun e' => if e' = e.val then done e.val + 256 * (k0_t4_loop v2113 v2115).trips else done e') = done' := by
      funext e'; split
      · next h => rw [h, hd', htr]
      · next h => exact (ho' _ h).symm
    rw [e0]
    iintro H
    isplitl [H]
    · iexact H
    · iintro %acc H
      have e1' := e1
      simp only [Scf.Loop.trips] at e1'
      rw [e1']
      iexact H
  · have hk : k.val < (need + 255 - done e.val) / 256 := htr ▸ k.isLt
    have haa : al (off e.val) = off e.val / 32 * 32 := rfl
    refine t4_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 c10 c12 e v2110 v2113 v2115 hw k X2 X3 X4 X6 X10 _ _ (done e.val + 256 * k.val) (off e.val)
      (by omega) (by omega) hoff (by omega) (fun Y D hJ x hx => ?_) (fun x hx => ?_) P hP (fun Y D Y' D' hJ hs => ?_)
    · rw [hJ.words x, hx, if_pos rfl]
    · rw [hX2 x, hx]
    · refine ring_step (e := e.val) hJ ?_ ?_ ?_ ?_ ?_
      · rw [if_pos rfl]; omega
      · rw [if_pos rfl]; omega
      · rw [if_pos rfl]; exact hs
      · rw [if_pos rfl, if_pos rfl]; omega
      · intro e' he'; rw [if_neg he', if_neg he']

theorem seq_wp {α β : Type} {p : Prog (TpuEff nD τ sig (Elt F) Λ₀ .tc) α} {A B : sProp 𝕄} (h : A ⊢ wp frame (wpE (defs₀ (F := F)) Variants.none (c : Thread nD τ) none) Set.univ p (fun _ => B))
    {kk : α → Prog (TpuEff nD τ sig (Elt F) Λ₀ .tc) β} {Q : β → sProp 𝕄} :
    iprop(A ∗ (∀ a, B -∗ wp frame (wpE (defs₀ (F := F)) Variants.none (c : Thread nD τ) none) Set.univ (kk a) Q))
      ⊢ wp frame (wpE (defs₀ (F := F)) Variants.none (c : Thread nD τ) none) Set.univ (p >>= kk) Q := by
  rw [wp_bind]
  iintro ⟨HA, HK⟩
  iapply (wp_wand_r frame _ _)
  isplitl [HA]
  · iapply h; iexact HA
  · iintro %a HB
    iapply HK; iexact HB

theorem dn_eq (a n : ℕ) : dn a n = a + (n - a + 255) / 256 * 256 := rfl

theorem t3_trip (c0 c1 : BitVec 32) (k0_t2 : Fin k0_t2_loop.trips) (v6 : BitVec 32) (e : Fin k0_t3_loop.trips)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val)) :
    iprop((arg1.view.loc (c : Thread nD τ) ↦[arg1.view.set]{fullShare} X1) ∗ Ring4 c arg13 arg18 (RingInv P off (doneAt off np k0_t2.val e.val)) ∗ Rest4 c arg2 arg3 arg4 arg6 arg10 arg11 arg12 arg20 arg21 X2 X3 X4 X6 X10)
    ⊢ wp frame (wpE (defs₀ (F := F)) Variants.none (c : Thread nD τ) none) Set.univ
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6 e PUnit.unit)
        (fun _ => iprop((arg1.view.loc (c : Thread nD τ) ↦[arg1.view.set]{fullShare} X1) ∗ Ring4 c arg13 arg18 (RingInv P off (doneAt off np k0_t2.val (e.val + 1))) ∗ Rest4 c arg2 arg3 arg4 arg6 arg10 arg11 arg12 arg20 arg21 X2 X3 X4 X6 X10)) := by
  iintro ⟨H1, HR, H4⟩
  unfold Ring4
  icases HR with ⟨%Y, %D, H13, H18, %hYD⟩
  have hd : arg18.view.readAt (Elt F) (Rect.unit (s := S16) (k0_off4 e) S1.size (k0_off4_inb e)).toLoadRect D
      (Shape.Idx.first (numel1_S1.symm ▸ Nat.one_pos)) = BitVec.ofNat 32 (doneAt off np k0_t2.val e.val e.val) := (hYD.words _).trans (by
    congr 2; show k0_off4 e 0 + 1 * 0 = _; rw [off4_eq]; rfl)
  have hx : arg1.view.readAt (Elt F) (Rect.unit (s := S272x16) (k0_off3 k0_t2 e) S1x1.size (k0_off3_inb k0_t2 e)).toLoadRect X1
      (Shape.Idx.first (numel1_S1x1.symm ▸ Nat.one_pos)) = BitVec.ofNat 32 (np (k0_t2.val + 1) e.val) := (hX1 _).trans (by
    have e0 : (k0_off3 k0_t2 e 0 + 1 * 0) = k0_t2.val := by rw [off3_eq]; rfl
    have e1 : (k0_off3 k0_t2 e 1 + 1 * 0) = e.val := by rw [off3_eq]; rfl
    exact congrArg (BitVec.ofNat 32) (congrArg₂ np (congrArg (· + 1) e0) e1))
  have he := t3_lt e
  have hb := t2_lt k0_t2
  have hde : doneAt off np k0_t2.val e.val e.val = al (off e.val) + (np k0_t2.val e.val - al (off e.val) + 255) / 256 * 256 := by
    unfold doneAt; rw [if_neg (by omega), dn_eq]
  have hal := hf.al_le k0_t2.val e.val (by omega) he
  have hmono := hf.mono k0_t2.val e.val hb he
  have hle := hf.le (k0_t2.val + 1) e.val (by omega) he
  have k1 := chk1_of (np (k0_t2.val + 1) e.val) (doneAt off np k0_t2.val e.val e.val) (by omega) (by omega)
  rw [← hd, ← hx] at k1
  unfold k0_t3_body
  sl_exec (disch := exact k1)
  have hd2 : doneAt off np k0_t2.val (e.val + 1) e.val = al (off e.val) + (np (k0_t2.val + 1) e.val - al (off e.val) + 255) / 256 * 256 := by
    unfold doneAt; rw [if_pos (by omega), dn_eq]
  have hdo : ∀ e', e' ≠ e.val → doneAt off np k0_t2.val (e.val + 1) e' = doneAt off np k0_t2.val e.val e' := by
    intro e' he'
    unfold doneAt
    by_cases h : e' < e.val
    · rw [if_pos h, if_pos (by omega)]
    · rw [if_neg h, if_neg (by omega)]
  have hoff := hf.off_le e.val he
  have hT := t4_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 v6 (0#32) (1#32) e (t3_trip.sl.v2110 e) (t3_trip.sl.r arg1 k0_t2 e X1) (t3_trip.sl.r_1 arg18 e D) k1 (k0_t4_ok _ _ k1)
    X2 X3 X4 X6 X10 P hP off (doneAt off np k0_t2.val e.val) (doneAt off np k0_t2.val (e.val + 1)) (np (k0_t2.val + 1) e.val) hX2 (by omega) hx hd
    (by omega) (by omega) (by omega) (by omega) (by omega) hdo
  iapply (seq_wp c hT)
  isplitl [H13 H18 H4]
  · isplitr [H4]
    · unfold Ring4
      iexists _, _
      isplitl [H13]
      · iexact H13
      isplitl [H18]
      · iexact H18
      ipureintro
      exact hYD
    · iexact H4
  iintro %a ⟨HR, H4⟩
  have h5 : Scf.trips (k0_t5_loop (t3_trip.sl.r arg1 k0_t2 e X1) (t3_trip.sl.r_1 arg18 e D)).lb (k0_t5_loop (t3_trip.sl.r arg1 k0_t2 e X1) (t3_trip.sl.r_1 arg18 e D)).ub (k0_t5_loop (t3_trip.sl.r arg1 k0_t2 e X1) (t3_trip.sl.r_1 arg18 e D)).st = 0 := by
    have := t5_trips (np (k0_t2.val + 1) e.val) (doneAt off np k0_t2.val e.val e.val) (by omega) (by omega)
    rw [← hd, ← hx] at this
    exact this
  sl_step
  dsimp only
  sl_for0 h5
  sl_step
  isplitl [H1]
  · iexact H1
  isplitl [HR]
  · unfold Ring4; iexact HR
  · iexact H4

theorem doneAt_next (off : ℕ → ℕ) (np : ℕ → ℕ → ℕ) (b e : ℕ) (he : e < 16) : doneAt off np b 16 e = doneAt off np (b + 1) 0 e := by
  unfold doneAt
  rw [if_pos he, if_neg (Nat.not_lt_zero _)]

theorem t3_loop_wp (ok) (c0 c1 : BitVec 32) (k0_t2 : Fin k0_t2_loop.trips) (v6 : BitVec 32)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val)) :
    iprop((arg1.view.loc (c : Thread nD τ) ↦[arg1.view.set]{fullShare} X1) ∗ Ring4 c arg13 arg18 (RingInv P off (doneAt off np k0_t2.val 0)) ∗ Rest4 c arg2 arg3 arg4 arg6 arg10 arg11 arg12 arg20 arg21 X2 X3 X4 X6 X10)
    ⊢ wp frame (wpE (defs₀ (F := F)) Variants.none (c : Thread nD τ) none) Set.univ
        (Scf.Loop.for k0_t3_loop ok PUnit.unit (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6))
        (fun _ => iprop((arg1.view.loc (c : Thread nD τ) ↦[arg1.view.set]{fullShare} X1) ∗ Ring4 c arg13 arg18 (RingInv P off (doneAt off np k0_t2.val 16)) ∗ Rest4 c arg2 arg3 arg4 arg6 arg10 arg11 arg12 arg20 arg21 X2 X3 X4 X6 X10)) := by
  refine BIBase.Entails.trans ?_ (Scf.wp_for frame _ _ _ _ _ ok PUnit.unit _
    (fun k _ => iprop((arg1.view.loc (c : Thread nD τ) ↦[arg1.view.set]{fullShare} X1) ∗ Ring4 c arg13 arg18 (RingInv P off (doneAt off np k0_t2.val k)) ∗ Rest4 c arg2 arg3 arg4 arg6 arg10 arg11 arg12 arg20 arg21 X2 X3 X4 X6 X10))
    (fun k acc => t3_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 c0 c1 k0_t2 v6 k X1 X2 X3 X4 X6 X10 P hP off np hf hX1 hX2))
  iintro H
  isplitl [H]
  · iexact H
  · iintro %acc H
    have e1 := t3_trips
    simp only [Scf.Loop.trips] at e1
    rw [e1]
    iexact H

end Cert.Kernel.Hand
-- ==== Proof.Bits.Tok.lean ====
module

public import proofs.«01_k».proof.Proof.Bits.T3

@[expose] public section

set_option maxRecDepth 8192
set_option maxHeartbeats 4000000

noncomputable section

namespace Cert.Kernel.Hand

open Cert.Kernel.Gen
open Idealize.ShloMosaic
open Idealize.ShloMosaic.Pointwise

variable {F : FTy → Type} [FloatOps F]

theorem chk6_of' (v : BitVec 32) (h : v.toNat + 1799 < 65792) : k0_chk6 v := by
  have := chk6_of v.toNat h
  rwa [BitVec.ofNat_toNat, BitVec.setWidth_eq] at this

theorem off38_eq' (v : BitVec 32) : k0_off38 v = ![v.toNat, 0] := by
  have := off38_eq v.toNat v.isLt
  rwa [BitVec.ofNat_toNat, BitVec.setWidth_eq] at this

theorem blk_read {sp : Space} {t : EltTy} (M7 : Memref sig .tc .hbm S272x2x128 t) (M16 : Memref sig .tc sp S2x128 t)
    (X7 : BufTy.Contents (Elt F) M7.view.ty) (f16 : BufTy.Contents (Elt F) M16.view.ty) (b : Fin k0_t2_loop.trips) (hsq : S1x2x128.Squeezes S2x128)
    (w : S2x128.Idx → Elt F t)
    (hw : w = View.read (Elt F) ((M7.slice (Rect.unit (s := S272x2x128) (k0_off37 b) S1x2x128.size (k0_off37_inb b)) (fun _ => rfl)).squeeze S2x128 hsq).view X7)
    (g : Fin 2) (q : Fin 128) :
    M16.view.read (Elt F) (M16.view.writes (Elt F) f16 [⟨Rect.whole S2x128, w⟩]) (ix2 g q)
    = M7.view.read (Elt F) X7 (ix3 (⟨b.val, t2_lt b⟩ : Fin 272) g q) := by
  have e1 : (ix2 g q : S2x128.Idx) = (Rect.whole S2x128).emb (ix2 g q) := by
    funext a
    fin_cases a
    · exact Fin.ext (by show g.val = 0 + 1 * g.val; omega)
    · exact Fin.ext (by show q.val = 0 + 1 * q.val; omega)
  refine (congrArg (M16.view.read (Elt F) _) e1).trans ((View.read_writes_cons_emb M16.view f16 (Rect.whole S2x128) w [] (ix2 g q)).trans ?_)
  subst hw
  show M7.view.read (Elt F) X7 ((Rect.unit (s := S272x2x128) (k0_off37 b) S1x2x128.size (k0_off37_inb b)).emb
    (Shape.reshapeEquiv hsq.numel_eq (ix2 g q))) = _
  rw [resh_2x128]
  refine congrArg (M7.view.read (Elt F) X7) ?_
  have h := off37_eq b
  funext a
  fin_cases a
  · refine Fin.ext ?_
    show k0_off37 b 0 + 1 * 0 = b.val
    rw [h]; rfl
  · refine Fin.ext ?_
    show k0_off37 b 1 + 1 * g.val = g.val
    rw [h]; show 0 + 1 * g.val = _; omega
  · refine Fin.ext ?_
    show k0_off37 b 2 + 1 * q.val = q.val
    rw [h]; show 0 + 1 * q.val = _; omega

/-- The word `w` names row `r` of expert `e` among the two chunks of the expert held at the block's tokens. -/
structure TokOK (off done : ℕ → ℕ) (e r : ℕ) (w : BitVec 32) : Prop where
  he : e < 16
  lo : al (off e) ≤ r
  hi : r < done e
  win : done e ≤ r + 512
  row : r < 69632
  word : w.toNat = (e * 2 + (r - al (off e)) / 256 % 2) * 2056 + (r - al (off e)) % 256

theorem TokOK.bound {off done : ℕ → ℕ} {e r : ℕ} {w : BitVec 32} (h : TokOK off done e r w) : w.toNat + 1799 < 65792 := by
  have := h.word
  have := h.he
  have := Nat.mod_lt (r - al (off e)) (by omega : 0 < 256)
  have := Nat.mod_lt ((r - al (off e)) / 256) (by omega : 0 < 2)
  omega

theorem ring_read (M13 : Memref sig .tc .vmem S65792x128 .f32) (Y : BufTy.Contents (Elt F) M13.view.ty) {P : ℕ → ℕ → ℕ → Elt F .f32 → Prop} {off done : ℕ → ℕ}
    {D : S16.Idx → Elt F .i32} (h : RingInv P off done (M13.view.read (Elt F) Y) D) {e r : ℕ} {w : BitVec 32} (hw : TokOK off done e r w)
    (hk : k0_chk6 w) (cc : Fin 8) (q : Fin 128) :
    P e r (128 * cc.val + q.val) (M13.view.readAt (Elt F) (⟨k0_off38 w, S8x128.size, ![257, 1], k0_off38_inb w hk⟩ : LoadRect S65792x128) Y (ix2 cc q)) := by
  have e1 := off38_eq' w
  refine (congrArg (fun n => P e r (128 * cc.val + n) _) ?_).mp (h.rows e r cc.val ((⟨k0_off38 w, S8x128.size, ![257, 1], k0_off38_inb w hk⟩ : LoadRect S65792x128).idx (ix2 cc q)) hw.he cc.isLt hw.lo hw.hi hw.win hw.row ?_)
  · show k0_off38 w 1 + 1 * q.val = q.val
    rw [e1]; show 0 + 1 * q.val = _; omega
  · show k0_off38 w 0 + 257 * cc.val = _
    rw [e1]
    show w.toNat + 257 * cc.val = _
    rw [hw.word]
    omega

theorem ring_next {P : ℕ → ℕ → ℕ → Elt F .f32 → Prop} {off : ℕ → ℕ} {np : ℕ → ℕ → ℕ} (hf : HF off np) {b : ℕ} {Y : S65792x128.Idx → Elt F .f32} {D : S16.Idx → Elt F .i32}
    (h : RingInv P off (doneAt off np b 16) Y D) : RingInv P off (doneAt off np (b + 1) 0) Y D := by
  refine ⟨fun x => ?_, fun e r cc z he => ?_⟩
  · rw [h.words x, doneAt_next off np b _ (x 0).isLt]
  · rw [← doneAt_next off np b e he]
    exact h.rows e r cc z he

/-- One token's eight rows. -/
def tokPay (M13 : Memref sig .tc .vmem S65792x128 .f32) (Y : BufTy.Contents (Elt F) M13.view.ty) (w0 w1 : BitVec 32) (h0 : k0_chk6 w0) (h1 : k0_chk6 w1) (t0 t1 : Elt F .f32) : FVec F S8x128 .f32 :=
  k0_pay25 (M13.view.readAt (Elt F) (⟨k0_off38 w0, S8x128.size, ![257, 1], k0_off38_inb w0 h0⟩ : LoadRect S65792x128) Y)
    (M13.view.readAt (Elt F) (⟨k0_off38 w1, S8x128.size, ![257, 1], k0_off38_inb w1 h1⟩ : LoadRect S65792x128) Y) t0 t1

theorem pay25_apply (a b : Vec F S8x128 .f32) (s t : Elt F .f32) (x : S8x128.Idx) :
    k0_pay25 a b s t x = FloatOps.addf (FloatOps.mulf (a x) s) (FloatOps.mulf (b x) t) := by
  simp only [k0_pay25]
  rw [shapeCast_self (s := S8x128)]
  rfl

/-- The tokens below `n` are in the staging buffer, each value with the property `Q`. -/
def StInv (Q : ℕ → ℕ → Elt F .f32 → Prop) (n : ℕ) (S : S1032x128.Idx → Elt F .f32) : Prop :=
  ∀ (s cc : ℕ) (z : S1032x128.Idx), s < n → cc < 8 → (z 0).val = 129 * cc + s → Q s (128 * cc + (z 1).val) (S z)

theorem st_nil (Q : ℕ → ℕ → Elt F .f32 → Prop) (S : S1032x128.Idx → Elt F .f32) : StInv Q 0 S :=
  fun s cc z h => absurd h (Nat.not_lt_zero _)

theorem st_cons (M14 : Memref sig .tc .vmem S1032x128 .f32) {Q : ℕ → ℕ → Elt F .f32 → Prop} (t : ℕ) (ht : t < 128)
    (f : BufTy.Contents (Elt F) M14.view.ty) (L : List (View.Piece (Elt F) S1032x128 .f32)) (inb sp) (pay : S8x128.Idx → Elt F .f32)
    (hp : ∀ (cc : Fin 8) (q : Fin 128), Q t (128 * cc.val + q.val) (pay (ix2 cc q)))
    (ih : StInv Q t (M14.view.read (Elt F) (M14.view.writes (Elt F) f L))) :
    StInv Q (t + 1) (M14.view.read (Elt F) (M14.view.writes (Elt F) f ((⟨⟨(⟨![t, 0], S8x128.size, ![129, 1], inb⟩ : LoadRect S1032x128), sp⟩, pay⟩ : View.Piece (Elt F) S1032x128 .f32) :: L))) := by
  intro s cc z hs hcc hz
  by_cases hst : s = t
  · subst hst
    have e1 : z = (⟨(⟨![s, 0], S8x128.size, ![129, 1], inb⟩ : LoadRect S1032x128), sp⟩ : Rect S1032x128).emb (ix2 (⟨cc, hcc⟩ : Fin 8) (⟨(z 1).val, (z 1).isLt⟩ : Fin 128)) := by
      funext a
      fin_cases a
      · exact Fin.ext (by show (z 0).val = s + 129 * cc; omega)
      · exact Fin.ext (by show (z 1).val = 0 + 1 * (z 1).val; omega)
    have e2 := View.read_writes_cons_emb M14.view f (⟨(⟨![s, 0], S8x128.size, ![129, 1], inb⟩ : LoadRect S1032x128), sp⟩ : Rect S1032x128) pay L (ix2 (⟨cc, hcc⟩ : Fin 8) (⟨(z 1).val, (z 1).isLt⟩ : Fin 128))
    rw [← e1] at e2
    rw [e2]
    exact hp ⟨cc, hcc⟩ ⟨(z 1).val, (z 1).isLt⟩
  · rw [View.writes_cons, View.read_slice_write_of_not_mem]
    · exact ih s cc z (by omega) hcc hz
    · rw [Rect.map_emb_univ, LoadRect.mem_set]
      intro hall
      obtain ⟨j, hj, hh⟩ := hall 0
      have hj' : j < 8 := hj
      have hh' : (z 0).val = t + 129 * j := hh
      omega

/-- One chunk of the block's columns, as stored. -/
theorem chunk_row (M14 : Memref sig .tc .vmem S1032x128 .f32) {Q : ℕ → ℕ → Elt F .f32 → Prop} (f : BufTy.Contents (Elt F) M14.view.ty)
    (h : StInv Q 128 (M14.view.read (Elt F) f)) (cc : ℕ) (hcc : cc < 8) (inb) (s q : Fin 128) :
    ∃ v, Q s.val (128 * cc + q.val) v ∧ k0_pay186 (M14.view.readAt (Elt F) (Rect.unit (s := S1032x128) ![129 * cc, 0] S128x128.size inb).toLoadRect f) (ix2 s q) = FloatOps.truncf .bf16 bitsLt_bf16_f32 v := by
  refine ⟨M14.view.readAt (Elt F) (Rect.unit (s := S1032x128) ![129 * cc, 0] S128x128.size inb).toLoadRect f (ix2 s q), ?_, ?_⟩
  · have := h s.val cc ((Rect.unit (s := S1032x128) ![129 * cc, 0] S128x128.size inb).toLoadRect.idx (ix2 s q)) s.isLt hcc (by show 129 * cc + 1 * s.val = _; omega)
    have e : (((Rect.unit (s := S1032x128) ![129 * cc, 0] S128x128.size inb).toLoadRect.idx (ix2 s q)) 1).val = q.val := by show 0 + 1 * q.val = _; omega
    rw [e] at this
    exact this
  · simp only [k0_pay186]
    rw [shapeCast_self (s := S128x128)]
    rfl

theorem inb_cell (g t : ℕ) (hg : g < 2) (ht : t < 128) : ∀ a, (![g, t] : Fin 2 → ℕ) a + S1x1.size a ≤ S2x128.size a := by
  intro a
  fin_cases a
  · show g + 1 ≤ 2; omega
  · show t + 1 ≤ 128; omega

/-- The word at `(g, t)` of a block's table. -/
def wAt {t : EltTy} (M : Memref sig .tc .smem S2x128 t) (A : BufTy.Contents (Elt F) M.view.ty) (g s : ℕ) (hg : g < 2) (hs : s < 128) : Elt F t :=
  M.view.readAt (Elt F) (Rect.unit (s := S2x128) ![g, s] S1x1.size (inb_cell g s hg hs)).toLoadRect A (Shape.Idx.first (numel1_S1x1.symm ▸ Nat.one_pos))

theorem wAt_eq {t : EltTy} (M : Memref sig .tc .smem S2x128 t) (A : BufTy.Contents (Elt F) M.view.ty) (g s : ℕ) (hg : g < 2) (hs : s < 128) :
    wAt M A g s hg hs = M.view.read (Elt F) A (ix2 (⟨g, hg⟩ : Fin 2) (⟨s, hs⟩ : Fin 128)) := by
  refine congrArg (M.view.read (Elt F) A) ?_
  funext a
  fin_cases a
  · exact Fin.ext rfl
  · exact Fin.ext rfl

theorem tok_Q (M13 : Memref sig .tc .vmem S65792x128 .f32) (Y : BufTy.Contents (Elt F) M13.view.ty) {P : ℕ → ℕ → ℕ → Elt F .f32 → Prop} {off done : ℕ → ℕ}
    {D : S16.Idx → Elt F .i32} (h : RingInv P off done (M13.view.read (Elt F) Y) D) {e0 r0 e1 r1 : ℕ} {w0 w1 : BitVec 32} (hw0 : TokOK off done e0 r0 w0) (hw1 : TokOK off done e1 r1 w1)
    (h0 : k0_chk6 w0) (h1 : k0_chk6 w1) (t0 t1 : Elt F .f32) {Q : ℕ → Elt F .f32 → Prop}
    (hQ : ∀ (col : ℕ) (y0 y1 : Elt F .f32), col < 1024 → P e0 r0 col y0 → P e1 r1 col y1 → Q col (FloatOps.addf (FloatOps.mulf y0 t0) (FloatOps.mulf y1 t1)))
    (cc : Fin 8) (q : Fin 128) : Q (128 * cc.val + q.val) (tokPay M13 Y w0 w1 h0 h1 t0 t1 (ix2 cc q)) := by
  unfold tokPay
  rw [pay25_apply]
  exact hQ _ _ _ (by omega) (ring_read M13 Y h hw0 h0 cc q) (ring_read M13 Y h hw1 h1 cc q)

/-- One more token in the staging buffer. -/
theorem st_tok (M13 : Memref sig .tc .vmem S65792x128 .f32) (M14 : Memref sig .tc .vmem S1032x128 .f32) (M16 : Memref sig .tc .smem S2x128 .i32) (M17 : Memref sig .tc .smem S2x128 .f32)
    (Y : BufTy.Contents (Elt F) M13.view.ty) (A : BufTy.Contents (Elt F) M16.view.ty) (T : BufTy.Contents (Elt F) M17.view.ty)
    {P : ℕ → ℕ → ℕ → Elt F .f32 → Prop} {off done : ℕ → ℕ}
    {D : S16.Idx → Elt F .i32} (h : RingInv P off done (M13.view.read (Elt F) Y) D) (E R : ℕ → ℕ → ℕ) (ws : S2x128.Idx → Elt F .i32) (ts : S2x128.Idx → Elt F .f32)
    (hw : ∀ (g : Fin 2) (s : Fin 128), TokOK off done (E g.val s.val) (R g.val s.val) (ws (ix2 g s)))
    (hA : ∀ (g : Fin 2) (s : Fin 128), M16.view.read (Elt F) A (ix2 g s) = ws (ix2 g s)) (hT : ∀ (g : Fin 2) (s : Fin 128), M17.view.read (Elt F) T (ix2 g s) = ts (ix2 g s))
    {Q : ℕ → ℕ → Elt F .f32 → Prop}
    (hQ : ∀ (s : Fin 128) (col : ℕ) (y0 y1 : Elt F .f32), col < 1024 → P (E 0 s.val) (R 0 s.val) col y0 → P (E 1 s.val) (R 1 s.val) col y1 →
      Q s.val col (FloatOps.addf (FloatOps.mulf y0 (ts (ix2 (0 : Fin 2) s))) (FloatOps.mulf y1 (ts (ix2 (1 : Fin 2) s)))))
    (h6 : ∀ (g s : ℕ) (hg : g < 2) (hs : s < 128), k0_chk6 (wAt M16 A g s hg hs))
    (t : ℕ) (ht : t < 128) (w0 : BitVec 32) (hw0 : w0 = ws (ix2 (0 : Fin 2) (⟨t, ht⟩ : Fin 128))) (h0 : k0_chk6 w0)
    (f : BufTy.Contents (Elt F) M14.view.ty) (L : List (View.Piece (Elt F) S1032x128 .f32)) (inb sp) (pay : S8x128.Idx → Elt F .f32)
    (he : pay = tokPay M13 Y w0 (wAt M16 A 1 t (by omega) ht) h0 (h6 1 t (by omega) ht) (wAt M17 T 0 t (by omega) ht) (wAt M17 T 1 t (by omega) ht))
    (ih : StInv Q t (M14.view.read (Elt F) (M14.view.writes (Elt F) f L))) :
    StInv Q (t + 1) (M14.view.read (Elt F) (M14.view.writes (Elt F) f ((⟨⟨(⟨![t, 0], S8x128.size, ![129, 1], inb⟩ : LoadRect S1032x128), sp⟩, pay⟩ : View.Piece (Elt F) S1032x128 .f32) :: L))) := by
  refine st_cons M14 t ht f L inb sp pay (fun cc q => ?_) ih
  rw [he]
  have hq := hQ ⟨t, ht⟩
  have g0 := hw 0 ⟨t, ht⟩
  rw [← hw0] at g0
  have g1 := hw 1 ⟨t, ht⟩
  have e1 : wAt M16 A 1 t (by omega) ht = ws (ix2 (1 : Fin 2) (⟨t, ht⟩ : Fin 128)) := (wAt_eq M16 A 1 t (by omega) ht).trans (hA 1 ⟨t, ht⟩)
  rw [← e1] at g1
  have e2 : wAt M17 T 0 t (by omega) ht = ts (ix2 (0 : Fin 2) (⟨t, ht⟩ : Fin 128)) := (wAt_eq M17 T 0 t (by omega) ht).trans (hT 0 ⟨t, ht⟩)
  have e3 : wAt M17 T 1 t (by omega) ht = ts (ix2 (1 : Fin 2) (⟨t, ht⟩ : Fin 128)) := (wAt_eq M17 T 1 t (by omega) ht).trans (hT 1 ⟨t, ht⟩)
  rw [← e2, ← e3] at hq
  exact tok_Q M13 Y h g0 g1 h0 _ _ _ hq cc q

/-- The block's eight column chunks, as copied out. -/
theorem os_read (M15 : Memref sig .tc .vmem S128x1024 .bf16) (f : BufTy.Contents (Elt F) M15.view.ty) (Z : ℕ → ℕ → Elt F .bf16 → Prop)
    (i0 i1 i2 i3 i4 i5 i6 i7) (p0 p1 p2 p3 p4 p5 p6 p7 : S128x128.Idx → Elt F .bf16)
    (h0 : ∀ s q : Fin 128, Z s.val (128 * 0 + q.val) (p0 (ix2 s q))) (h1 : ∀ s q : Fin 128, Z s.val (128 * 1 + q.val) (p1 (ix2 s q)))
    (h2 : ∀ s q : Fin 128, Z s.val (128 * 2 + q.val) (p2 (ix2 s q))) (h3 : ∀ s q : Fin 128, Z s.val (128 * 3 + q.val) (p3 (ix2 s q)))
    (h4 : ∀ s q : Fin 128, Z s.val (128 * 4 + q.val) (p4 (ix2 s q))) (h5 : ∀ s q : Fin 128, Z s.val (128 * 5 + q.val) (p5 (ix2 s q)))
    (h6 : ∀ s q : Fin 128, Z s.val (128 * 6 + q.val) (p6 (ix2 s q))) (h7 : ∀ s q : Fin 128, Z s.val (128 * 7 + q.val) (p7 (ix2 s q)))
    (s : Fin 128) (col : Fin 1024) :
    Z s.val col.val (M15.view.read (Elt F) (M15.view.writes (Elt F) f
      [⟨Rect.unit (s := S128x1024) ![0, 896] S128x128.size i7, p7⟩, ⟨Rect.unit (s := S128x1024) ![0, 768] S128x128.size i6, p6⟩,
       ⟨Rect.unit (s := S128x1024) ![0, 640] S128x128.size i5, p5⟩, ⟨Rect.unit (s := S128x1024) ![0, 512] S128x128.size i4, p4⟩,
       ⟨Rect.unit (s := S128x1024) ![0, 384] S128x128.size i3, p3⟩, ⟨Rect.unit (s := S128x1024) ![0, 256] S128x128.size i2, p2⟩,
       ⟨Rect.unit (s := S128x1024) ![0, 128] S128x128.size i1, p1⟩, ⟨Rect.unit (s := S128x1024) ![0, 0] S128x128.size i0, p0⟩]) (ix2 s col)) := by
  have step : ∀ (o cc : ℕ) (ho : o = 128 * cc) (inb) (p : S128x128.Idx → Elt F .bf16) (L : List (View.Piece (Elt F) S128x1024 .bf16)),
      (∀ s q : Fin 128, Z s.val (128 * cc + q.val) (p (ix2 s q))) →
      (col.val < 128 * cc → Z s.val col.val (M15.view.read (Elt F) (M15.view.writes (Elt F) f L) (ix2 s col))) → col.val < 128 * (cc + 1) →
      Z s.val col.val (M15.view.read (Elt F) (M15.view.writes (Elt F) f (⟨Rect.unit (s := S128x1024) ![0, o] S128x128.size inb, p⟩ :: L)) (ix2 s col)) := by
    intro o cc ho inb p L hp hL hc
    by_cases hlt : col.val < 128 * cc
    · rw [View.read_writes_cons_unit_of_not_mem M15.view f inb p L (ix2 s col) rfl 1 (Or.inl (by show col.val < o; omega))]
      exact hL hlt
    · rw [View.read_writes_cons_unit_of_mem M15.view f inb p L (ix2 s col) (ix2 s (⟨col.val - 128 * cc, by omega⟩ : Fin 128)) rfl (Fin.forall_fin_two.mpr ⟨by show s.val = 0 + s.val; omega, by show col.val = o + (col.val - 128 * cc); omega⟩)]
      have := hp s (⟨col.val - 128 * cc, by omega⟩ : Fin 128)
      rwa [show 128 * cc + (⟨col.val - 128 * cc, by omega⟩ : Fin 128).val = col.val from (by show 128 * cc + (col.val - 128 * cc) = _; omega)] at this
  refine step 896 7 rfl _ _ _ h7 (fun c7 => ?_) (by omega)
  refine step 768 6 rfl _ _ _ h6 (fun c6 => ?_) (by omega)
  refine step 640 5 rfl _ _ _ h5 (fun c5 => ?_) (by omega)
  refine step 512 4 rfl _ _ _ h4 (fun c4 => ?_) (by omega)
  refine step 384 3 rfl _ _ _ h3 (fun c3 => ?_) (by omega)
  refine step 256 2 rfl _ _ _ h2 (fun c2 => ?_) (by omega)
  refine step 128 1 rfl _ _ _ h1 (fun c1 => ?_) (by omega)
  refine step 0 0 rfl _ _ _ h0 (fun c0 => absurd c0 (by omega)) (by omega)

/-- One block's effect on the result. -/
structure OutStep (n b : ℕ) (Z : ℕ → ℕ → Elt F .bf16 → Prop) (O O' : S34816x3072.Idx → Elt F .bf16) : Prop where
  miss : ∀ z : S34816x3072.Idx, ((z 0).val < b * 128 ∨ b * 128 + 128 ≤ (z 0).val ∨ (z 1).val < n * 1024 ∨ n * 1024 + 1024 ≤ (z 1).val) → O' z = O z
  hit : ∀ (z : S34816x3072.Idx) (s col : ℕ), s < 128 → col < 1024 → (z 0).val = b * 128 + s → (z 1).val = n * 1024 + col → Z s col (O' z)

theorem out_read (i : grid0.Coords) (b : Fin k0_t2_loop.trips) (M9 : Memref sig .tc .hbm S34816x3072 .bf16) (O : BufTy.Contents (Elt F) M9.view.ty)
    (w : S128x1024.Idx → Elt F .bf16) (Z : ℕ → ℕ → Elt F .bf16 → Prop) (hw : ∀ (s : Fin 128) (col : Fin 1024), Z s.val col.val (w (ix2 s col))) (inb) :
    OutStep (i 0).val b.val Z (M9.view.read (Elt F) O)
      (M9.view.read (Elt F) (M9.view.writes (Elt F) O [⟨Rect.unit (s := S34816x3072) (k0_off294 i b) S128x1024.size inb, w⟩])) := by
  have h := off294_eq i b
  refine ⟨fun z hz => ?_, fun z s col hs hc z0 z1 => ?_⟩
  · rcases hz with hz | hz | hz | hz
    · exact View.read_writes_cons_unit_of_not_mem M9.view O inb w [] z h 0 (Or.inl hz)
    · exact View.read_writes_cons_unit_of_not_mem M9.view O inb w [] z h 0 (Or.inr hz)
    · exact View.read_writes_cons_unit_of_not_mem M9.view O inb w [] z h 1 (Or.inl hz)
    · exact View.read_writes_cons_unit_of_not_mem M9.view O inb w [] z h 1 (Or.inr hz)
  · rw [View.read_writes_cons_unit_of_mem M9.view O inb w [] z (ix2 (⟨s, hs⟩ : Fin 128) (⟨col, hc⟩ : Fin 1024)) h (Fin.forall_fin_two.mpr ⟨z0, z1⟩)]
    exact hw ⟨s, hs⟩ ⟨col, hc⟩

end Cert.Kernel.Hand
-- ==== Proof.Bits.PreK.lean ====
module

public import proofs.«01_k».proof.Proof.Bits.HostDefs
public import proofs.«01_k».proof.Proof.Gen.Pre_sorted_by_expert
public import proofs.«01_k».proof.Proof.Bits.Tok
public import Idealize.ShloMosaic.Lib.ReduceAll

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.ShloMosaic.Pointwise
open Idealize.SL.Sem

variable {F : FTy → Type} [FloatOps F]

def p1 (off : IVec S16 32) : IVec S16 1 :=
  andi (cmpi .sge off (broadcastInDim S16 ![] bcast_S_S16 (constantI S_ 32 0#32))) (cmpi .sle off (broadcastInDim S16 ![] bcast_S_S16 (constantI S_ 32 69632#32)))
def p2 (x ex : IVec S272x2x128 32) : IVec S272x2x128 1 :=
  andi (andi (andi (cmpi .sge x (kK 0#32)) (cmpi .slt x (kK 69632#32))) (cmpi .sge ex (kK 0#32))) (cmpi .slt ex (kK 16#32))
def p3 (off : IVec S16 32) (need : IVec S272x16 32) : IVec S272x16 1 :=
  andi (cmpi .sge need (broadcastInDim S272x16 ![0, 1] bcast_S1x16_S272x16_0_1 (broadcastInDim S1x16 ![1] bcast_S16_S1x16_1 (kAl off))))
    (cmpi .sle need (broadcastInDim S272x16 ![] Cert.Pre_sorted_by_expert.Gen.bcast_S_S272x16 (constantI S_ 32 69632#32)))
def p4 (need : IVec S272x16 32) : IVec Cert.Pre_sorted_by_expert.S271x16 1 :=
  cmpi .sge (extractStridedSlice Cert.Pre_sorted_by_expert.S271x16 ![1, 0] need Cert.Pre_sorted_by_expert.Gen.slices_S272x16_S271x16_1_0)
    (extractStridedSlice Cert.Pre_sorted_by_expert.S271x16 ![0, 0] need Cert.Pre_sorted_by_expert.Gen.slices_S272x16_S271x16_0_0)
def kUp (need : IVec S272x16 32) : IVec S272x2x128x16 32 :=
  broadcastInDim S272x2x128x16 ![0, 1, 2, 3] Cert.Pre_sorted_by_expert.Gen.bcast_S272x1x1x16_S272x2x128x16_0_1_2_3
    (broadcastInDim Cert.Pre_sorted_by_expert.S272x1x1x16 ![0, 3] Cert.Pre_sorted_by_expert.Gen.bcast_S272x16_S272x1x1x16_0_3 need)
def kB256 (x : IVec S272x2x128 32) : IVec S272x2x128x16 32 :=
  broadcastInDim S272x2x128x16 ![0, 1, 2, 3] bcast_S272x2x128x1_S272x2x128x16_0_1_2_3
    (addi (broadcastInDim S272x2x128x1 ![0, 1, 2] bcast_S272x2x128_S272x2x128x1_0_1_2 x) (broadcastInDim S272x2x128x1 ![] Cert.Pre_sorted_by_expert.Gen.bcast_S_S272x2x128x1 (constantI S_ 32 256#32)))
def pMine (off ends : IVec S16 32) (x : IVec S272x2x128 32) : IVec S272x2x128x16 1 :=
  andi (cmpi .sge (kB3 x) (kB1 off)) (cmpi .slt (kB3 x) (kB1 ends))
def pHot (ex : IVec S272x2x128 32) : IVec S272x2x128x16 1 := cmpi .eq (kB3 ex) (kB1 (iotaInDim S16 32 0))
def p5 (off ends : IVec S16 32) (x ex : IVec S272x2x128 32) (need : IVec S272x16 32) : IVec S272x2x128x16 1 :=
  ori (andi (andi (pMine off ends x) (pHot ex)) (andi (cmpi .slt (kB3 x) (kUp need)) (cmpi .sle (kUp need) (kB256 x))))
    (andi (noti (pMine off ends x)) (noti (pHot ex)))
def one0 : IVec S_ 1 := constantI S_ 1 1#1

theorem fn_eq (a0 : FVec F S69632x1536 .fp8e4m3) (a1 : FVec F S69632 .f32) (a2 : IVec S16 32) (a3 : FVec F S16x1536x3072 .fp8e4m3) (a4 : FVec F S16x3072 .f32)
    (a5 : IVec S34816x2 32) (a6 : FVec F S34816x2 .f32) :
    Cert.Pre_sorted_by_expert.fn (F := F) a0 a1 a2 a3 a4 a5 a6
      = andi (andi (andi (Host.reduce IntOp.andi (p1 (kOff a2)) one0 Cert.Pre_sorted_by_expert.Gen.reducesTo_S16_S_d0 h_S_)
          (Host.reduce IntOp.andi (p2 (kIdx a5) (kExpert (kEnds a2) (kIdx a5))) one0 Cert.Pre_sorted_by_expert.Gen.reducesTo_S272x2x128_S_d0_1_2 h_S_))
          (andi (Host.reduce IntOp.andi (p3 (kOff a2) (kNeed (kOff a2) (kIdx a5))) one0 Cert.Pre_sorted_by_expert.Gen.reducesTo_S272x16_S_d0_1 h_S_)
            (Host.reduce IntOp.andi (p4 (kNeed (kOff a2) (kIdx a5))) one0 Cert.Pre_sorted_by_expert.Gen.reducesTo_S271x16_S_d0_1 h_S_)))
          (Host.reduce IntOp.andi (p5 (kOff a2) (kEnds a2) (kIdx a5) (kExpert (kEnds a2) (kIdx a5)) (kNeed (kOff a2) (kIdx a5))) one0 Cert.Pre_sorted_by_expert.Gen.reducesTo_S272x2x128x16_S_d0_1_2_3 h_S_) := rfl

instance : Subsingleton S_.Idx := ⟨fun a b => funext fun k => k.elim0⟩

theorem and_one {a b : BitVec 1} (h : IntOp.andi a b = 1#1) : a = 1#1 ∧ b = 1#1 := by
  revert h; unfold IntOp.andi; revert a b; decide
theorem or_one {a b : BitVec 1} (h : IntOp.ori a b = 1#1) : a = 1#1 ∨ b = 1#1 := by
  revert h; unfold IntOp.ori; revert a b; decide
theorem not_one {a : BitVec 1} (h : ~~~ a = 1#1) : ¬ a = 1#1 := by
  revert h; revert a; decide

theorem pre_all {a0 : FVec F S69632x1536 .fp8e4m3} {a1 : FVec F S69632 .f32} {a2 : IVec S16 32} {a3 : FVec F S16x1536x3072 .fp8e4m3} {a4 : FVec F S16x3072 .f32}
    {a5 : IVec S34816x2 32} {a6 : FVec F S34816x2 .f32} (h : Cert.Pre_sorted_by_expert.fn (F := F) a0 a1 a2 a3 a4 a5 a6 = fun _ => 1#1) :
    (∀ i, p1 (kOff a2) i = 1#1) ∧ (∀ i, p2 (kIdx a5) (kExpert (kEnds a2) (kIdx a5)) i = 1#1) ∧ (∀ i, p3 (kOff a2) (kNeed (kOff a2) (kIdx a5)) i = 1#1)
      ∧ (∀ i, p4 (kNeed (kOff a2) (kIdx a5)) i = 1#1) ∧ (∀ i, p5 (kOff a2) (kEnds a2) (kIdx a5) (kExpert (kEnds a2) (kIdx a5)) (kNeed (kOff a2) (kIdx a5)) i = 1#1) := by
  rw [fn_eq] at h
  have h0 := congrFun h (fun k => k.elim0)
  obtain ⟨h1234, h5⟩ := and_one h0
  obtain ⟨h12, h34⟩ := and_one h1234
  obtain ⟨h1, h2⟩ := and_one h12
  obtain ⟨h3, h4⟩ := and_one h34
  exact ⟨fun i => Host.reduce_andi_all _ _ _ _ _ h1 i, fun i => Host.reduce_andi_all _ _ _ _ _ h2 i, fun i => Host.reduce_andi_all _ _ _ _ _ h3 i,
    fun i => Host.reduce_andi_all _ _ _ _ _ h4 i, fun i => Host.reduce_andi_all _ _ _ _ _ h5 i⟩

/-! ## Reading the arrays -/

theorem kB3_at (x : IVec S272x2x128 32) (b : Fin 272) (g : Fin 2) (s : Fin 128) (e : Fin 16) : kB3 x (ix4 b g s e) = x (ix3 b g s) := by
  pointwise [kB3]
theorem kB1_at (x : IVec S16 32) (b : Fin 272) (g : Fin 2) (s : Fin 128) (e : Fin 16) : kB1 x (ix4 b g s e) = x (ix1 e) := by
  pointwise [kB1]
theorem kUp_at (x : IVec S272x16 32) (b : Fin 272) (g : Fin 2) (s : Fin 128) (e : Fin 16) : kUp x (ix4 b g s e) = x (ix2 b e) := by
  pointwise [kUp]
theorem kB256_at (x : IVec S272x2x128 32) (b : Fin 272) (g : Fin 2) (s : Fin 128) (e : Fin 16) : kB256 x (ix4 b g s e) = IntOp.addi (x (ix3 b g s)) 256#32 := by
  pointwise [kB256]
theorem kAl_at (x : IVec S16 32) (e : Fin 16) : kAl x (ix1 e) = IntOp.andi (x (ix1 e)) 4294967264#32 := by
  pointwise [kAl]
theorem p4_at (x : IVec S272x16 32) (b : Fin 271) (e : Fin 16) : p4 x (ix2 b e) = IntOp.cmpi .sge (x (ix2 (⟨1 + b.val, by omega⟩ : Fin 272) e)) (x (ix2 (⟨b.val, by omega⟩ : Fin 272) e)) := by
  pointwise [p4]
theorem p3_at (off : IVec S16 32) (x : IVec S272x16 32) (b : Fin 272) (e : Fin 16) :
    p3 off x (ix2 b e) = IntOp.andi (IntOp.cmpi .sge (x (ix2 b e)) (kAl off (ix1 e))) (IntOp.cmpi .sle (x (ix2 b e)) 69632#32) := by
  pointwise [p3]

theorem p5_at (off ends : IVec S16 32) (x ex : IVec S272x2x128 32) (need : IVec S272x16 32) (b : Fin 272) (g : Fin 2) (s : Fin 128) (e : Fin 16) :
    p5 off ends x ex need (ix4 b g s e) =
      IntOp.ori (IntOp.andi (IntOp.andi (IntOp.andi (IntOp.cmpi .sge (x (ix3 b g s)) (off (ix1 e))) (IntOp.cmpi .slt (x (ix3 b g s)) (ends (ix1 e)))) (IntOp.cmpi .eq (ex (ix3 b g s)) (BitVec.ofNat 32 e.val)))
          (IntOp.andi (IntOp.cmpi .slt (x (ix3 b g s)) (need (ix2 b e))) (IntOp.cmpi .sle (need (ix2 b e)) (IntOp.addi (x (ix3 b g s)) 256#32))))
        (IntOp.andi (~~~ (IntOp.andi (IntOp.cmpi .sge (x (ix3 b g s)) (off (ix1 e))) (IntOp.cmpi .slt (x (ix3 b g s)) (ends (ix1 e))))) (~~~ (IntOp.cmpi .eq (ex (ix3 b g s)) (BitVec.ofNat 32 e.val)))) := by
  have h1 : kB1 (iotaInDim S16 32 0) (ix4 b g s e) = BitVec.ofNat 32 e.val := by rw [kB1_at]; rfl
  simp only [p5, pMine, pHot, ori, andi, noti, cmpi, kB3_at, kUp_at, kB256_at, h1, kB1_at]

theorem ob {p : Bool} : BitVec.ofBool p = 1#1 ↔ p = true := by cases p <;> decide

theorem i_sge {x y : BitVec 32} : IntOp.cmpi .sge x y = 1#1 ↔ y.toInt ≤ x.toInt := by
  show BitVec.ofBool _ = 1#1 ↔ _
  rw [ob]; simp [BitVec.sle]
theorem i_sle {x y : BitVec 32} : IntOp.cmpi .sle x y = 1#1 ↔ x.toInt ≤ y.toInt := by
  show BitVec.ofBool _ = 1#1 ↔ _
  rw [ob]; simp [BitVec.sle]
theorem i_slt {x y : BitVec 32} : IntOp.cmpi .slt x y = 1#1 ↔ x.toInt < y.toInt := by
  show BitVec.ofBool _ = 1#1 ↔ _
  rw [ob]; simp [BitVec.slt]
theorem i_eq {x y : BitVec 32} : IntOp.cmpi .eq x y = 1#1 ↔ x = y := by
  show BitVec.ofBool _ = 1#1 ↔ _
  rw [ob]; simp
theorem c_sge {x y : BitVec 32} (h : IntOp.cmpi .sge x y = 1#1) : y.toInt ≤ x.toInt := i_sge.1 h
theorem c_sle {x y : BitVec 32} (h : IntOp.cmpi .sle x y = 1#1) : x.toInt ≤ y.toInt := i_sle.1 h
theorem c_slt {x y : BitVec 32} (h : IntOp.cmpi .slt x y = 1#1) : x.toInt < y.toInt := i_slt.1 h
theorem c_eq {x y : BitVec 32} (h : IntOp.cmpi .eq x y = 1#1) : x = y := i_eq.1 h
theorem c_sge' {x y : BitVec 32} (h : ¬ IntOp.cmpi .sge x y = 1#1) : x.toInt < y.toInt := by rw [i_sge] at h; omega
theorem c_slt' {x y : BitVec 32} (h : ¬ IntOp.cmpi .slt x y = 1#1) : y.toInt ≤ x.toInt := by rw [i_slt] at h; omega

/-- A word whose value is a natural number below 2 ^ 31. -/
theorem nat_of_int {x : BitVec 32} (h0 : 0 ≤ x.toInt) : x.toInt = (x.toNat : ℤ) ∧ x.toNat < 2 ^ 31 := by
  have := x.isLt
  rw [BitVec.toInt_eq_toNat_cond] at h0 ⊢
  split at h0 <;> split <;> omega

/-- What the precondition says of the rows, the groups' starts and the words `need`, as natural numbers. -/
structure PreOK (off ends : IVec S16 32) (x ex : IVec S272x2x128 32) (need : IVec S272x16 32) : Prop where
  off_le : ∀ e : Fin 16, (off (ix1 e)).toNat ≤ 69632
  x_lt : ∀ b g s, (x (ix3 b g s)).toNat < 69632
  ex_lt : ∀ b g s, (ex (ix3 b g s)).toNat < 16
  need_ge : ∀ b (e : Fin 16), al (off (ix1 e)).toNat ≤ (need (ix2 b e)).toNat
  need_le : ∀ b (e : Fin 16), (need (ix2 b e)).toNat ≤ 69632
  mono : ∀ (b : Fin 271) (e : Fin 16), (need (ix2 (⟨b.val, by omega⟩ : Fin 272) e)).toNat ≤ (need (ix2 (⟨1 + b.val, by omega⟩ : Fin 272) e)).toNat
  mine : ∀ b g s (e : Fin 16), (ex (ix3 b g s)).toNat = e.val → (off (ix1 e)).toNat ≤ (x (ix3 b g s)).toNat ∧ (x (ix3 b g s)).toInt < (ends (ix1 e)).toInt
      ∧ (x (ix3 b g s)).toNat < (need (ix2 b e)).toNat ∧ (need (ix2 b e)).toNat ≤ (x (ix3 b g s)).toNat + 256
  other : ∀ b g s (e : Fin 16), (ex (ix3 b g s)).toNat ≠ e.val → ¬ ((off (ix1 e)).toInt ≤ (x (ix3 b g s)).toInt ∧ (x (ix3 b g s)).toInt < (ends (ix1 e)).toInt)

theorem preOK {off ends : IVec S16 32} {x ex : IVec S272x2x128 32} {need : IVec S272x16 32}
    (h1 : ∀ i, p1 off i = 1#1) (h2 : ∀ i, p2 x ex i = 1#1) (h3 : ∀ i, p3 off need i = 1#1) (h4 : ∀ i, p4 need i = 1#1) (h5 : ∀ i, p5 off ends x ex need i = 1#1) :
    PreOK off ends x ex need := by
  have z : (0#32 : BitVec 32).toInt = 0 := by decide
  have z1 : (69632#32 : BitVec 32).toInt = 69632 := by decide
  have z2 : (16#32 : BitVec 32).toInt = 16 := by decide
  have hoff : ∀ e : Fin 16, 0 ≤ (off (ix1 e)).toInt ∧ (off (ix1 e)).toInt ≤ 69632 := by
    intro e
    have := h1 (ix1 e)
    obtain ⟨a, b⟩ := and_one (a := IntOp.cmpi .sge (off (ix1 e)) 0#32) (b := IntOp.cmpi .sle (off (ix1 e)) 69632#32) this
    have := c_sge a; have := c_sle b; omega
  have hx : ∀ b g s, (0 ≤ (x (ix3 b g s)).toInt ∧ (x (ix3 b g s)).toInt < 69632) ∧ 0 ≤ (ex (ix3 b g s)).toInt ∧ (ex (ix3 b g s)).toInt < 16 := by
    intro b g s
    have := h2 (ix3 b g s)
    obtain ⟨a, d⟩ := and_one (a := IntOp.andi (IntOp.andi (IntOp.cmpi .sge (x (ix3 b g s)) 0#32) (IntOp.cmpi .slt (x (ix3 b g s)) 69632#32)) (IntOp.cmpi .sge (ex (ix3 b g s)) 0#32)) (b := IntOp.cmpi .slt (ex (ix3 b g s)) 16#32) this
    obtain ⟨a, d2⟩ := and_one a
    obtain ⟨a, d3⟩ := and_one a
    have := c_sge a; have := c_slt d3; have := c_sge d2; have := c_slt d; omega
  have hal : ∀ e : Fin 16, (kAl off (ix1 e)).toInt = (al (off (ix1 e)).toNat : ℤ) := by
    intro e
    rw [kAl_at]
    have h := nat_of_int (hoff e).1
    have hw : off (ix1 e) = BitVec.ofNat 32 (off (ix1 e)).toNat := by simp
    rw [hw]
    show (Scalar.andi (BitVec.ofNat 32 (off (ix1 e)).toNat) 4294967264#32).toInt = _
    rw [w_andi_m32 _ h.2, toInt_ofNat32 _ (by omega)]
    simp [al]
  have hneed : ∀ b (e : Fin 16), (al (off (ix1 e)).toNat : ℤ) ≤ (need (ix2 b e)).toInt ∧ (need (ix2 b e)).toInt ≤ 69632 := by
    intro b e
    have := h3 (ix2 b e)
    rw [p3_at] at this
    obtain ⟨a, d⟩ := and_one this
    have := c_sge a; have := c_sle d
    rw [hal] at *
    omega
  have nn : ∀ b (e : Fin 16), (need (ix2 b e)).toInt = ((need (ix2 b e)).toNat : ℤ) := fun b e => (nat_of_int (by have := (hneed b e).1; omega)).1
  have xn : ∀ b g s, (x (ix3 b g s)).toInt = ((x (ix3 b g s)).toNat : ℤ) := fun b g s => (nat_of_int (hx b g s).1.1).1
  have en : ∀ b g s, (ex (ix3 b g s)).toInt = ((ex (ix3 b g s)).toNat : ℤ) := fun b g s => (nat_of_int (hx b g s).2.1).1
  have on : ∀ e : Fin 16, (off (ix1 e)).toInt = ((off (ix1 e)).toNat : ℤ) := fun e => (nat_of_int (hoff e).1).1
  have hone : ∀ b g s (e : Fin 16), IntOp.cmpi .eq (ex (ix3 b g s)) (BitVec.ofNat 32 e.val) = 1#1 ↔ (ex (ix3 b g s)).toNat = e.val := by
    intro b g s e
    have he := e.isLt
    constructor
    · intro h; rw [c_eq h, BitVec.toNat_ofNat]; omega
    · intro h
      have : ex (ix3 b g s) = BitVec.ofNat 32 e.val := by rw [← h]; simp
      rw [this]; simp [IntOp.cmpi]
  refine ⟨fun e => ?_, fun b g s => ?_, fun b g s => ?_, fun b e => ?_, fun b e => ?_, fun b e => ?_, fun b g s e h => ?_, fun b g s e h => ?_⟩
  · have := hoff e; have := on e; omega
  · have := hx b g s; have := xn b g s; omega
  · have := hx b g s; have := en b g s; omega
  · have := hneed b e; have := nn b e; omega
  · have := hneed b e; have := nn b e; omega
  · have := h4 (ix2 b e)
    rw [p4_at] at this
    have := c_sge this
    rw [nn, nn] at this
    omega
  · have := h5 (ix4 b g s e)
    rw [p5_at] at this
    rcases or_one this with a | a
    · obtain ⟨a, d⟩ := and_one a
      obtain ⟨a, d1⟩ := and_one a
      obtain ⟨a, d2⟩ := and_one a
      obtain ⟨d3, d4⟩ := and_one d
      have i1 := c_sge a; have i2 := c_slt d2; have i3 := c_slt d3; have i4 := c_sle d4
      have hX := hx b g s
      have e4 : (IntOp.addi (x (ix3 b g s)) 256#32).toInt = (x (ix3 b g s)).toNat + 256 := by
        have hw : x (ix3 b g s) = BitVec.ofNat 32 (x (ix3 b g s)).toNat := by simp
        have hl := xn b g s
        generalize (x (ix3 b g s)).toNat = n at *
        rw [hw]
        show (Scalar.addi (BitVec.ofNat 32 n) (BitVec.ofNat 32 256)).toInt = _
        rw [w_addi, toInt_ofNat32 _ (by omega)]; push_cast; rfl
      rw [e4] at i4
      have := nn b e; have := xn b g s; have := on e
      exact ⟨by omega, i2, by omega, by omega⟩
    · obtain ⟨_, a⟩ := and_one a
      exact absurd ((hone b g s e).2 h) (not_one a)
  · have := h5 (ix4 b g s e)
    rw [p5_at] at this
    rcases or_one this with a | a
    · obtain ⟨a, d⟩ := and_one a
      obtain ⟨a, d1⟩ := and_one a
      exact absurd ((hone b g s e).1 d1) h
    · obtain ⟨a, _⟩ := and_one a
      intro hh
      apply not_one a
      have c1 : IntOp.cmpi .sge (x (ix3 b g s)) (off (ix1 e)) = 1#1 := by by_contra hc; have := c_sge' hc; omega
      have c2 : IntOp.cmpi .slt (x (ix3 b g s)) (ends (ix1 e)) = 1#1 := by by_contra hc; have := c_slt' hc; omega
      rw [c1, c2]; decide

end Cert.Kernel.Hand

end
-- ==== Proof.Bits.Fit.lean ====
module

public import proofs.«01_k».proof.Proof.Bits.PreK
public import proofs.«01_k».proof.Proof.Bits.Ring
public import Mathlib.Data.BitVec

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.ShloMosaic.Pointwise
open Idealize.SL.Sem

/-! ## The words of the ring, from the rows and the experts -/

theorem fold_one {K : ℕ} (f : Fin K → BitVec 32) (e : Fin K) (h : ∀ k, k ≠ e → f k = 0#32) :
    Finset.fold IntOp.addi 0#32 f Finset.univ = f e := by
  have h1 : Finset.fold IntOp.addi 0#32 f Finset.univ = ∑ k, f k := by
    rw [Finset.sum_eq_fold]; rfl
  rw [h1, Finset.sum_eq_single e (fun k _ hk => h k hk) (fun hk => absurd (Finset.mem_univ e) hk)]

def kSum (ex : IVec S272x2x128 32) (off : IVec S16 32) : IVec S272x2x128 32 :=
  Host.reduce IntOp.addi (select (cmpi .eq (kB3 ex) (kB1 (iotaInDim S16 32 0)))
    (broadcastInDim S272x2x128x16 ![3] bcast_S16_S272x2x128x16_3 (kAl off))
    (broadcastInDim S272x2x128x16 ![] bcast_S_S272x2x128x16 (constantI S_ 32 0#32))) (constantI S_ 32 0#32) reducesTo_S272x2x128x16_S272x2x128_d3 h_S_

theorem kSum_at (ex : IVec S272x2x128 32) (off : IVec S16 32) (b : Fin 272) (g : Fin 2) (s : Fin 128) :
    kSum ex off (ix3 b g s) = Finset.fold IntOp.addi 0#32
      (fun e : Fin 16 => if IntOp.cmpi .eq (ex (ix3 b g s)) (BitVec.ofNat 32 e.val) = 1#1 then kAl off (ix1 e) else 0#32) Finset.univ := by
  pointwise [kSum, kB3, kB1]
  rfl

theorem kSum_one (ex : IVec S272x2x128 32) (off : IVec S16 32) (b : Fin 272) (g : Fin 2) (s : Fin 128) (e : Fin 16) (h : (ex (ix3 b g s)).toNat = e.val) :
    kSum ex off (ix3 b g s) = kAl off (ix1 e) := by
  have hx : ex (ix3 b g s) = BitVec.ofNat 32 e.val := by rw [← h]; simp
  rw [kSum_at, fold_one _ e]
  · rw [if_pos (i_eq.2 hx)]
  · intro k hk
    rw [if_neg]
    rw [i_eq, hx]
    intro hh
    apply hk
    have := congrArg BitVec.toNat hh
    simp only [BitVec.toNat_ofNat] at this
    have := k.isLt; have := e.isLt
    exact Fin.ext (by omega)

theorem h_div (n : ℕ) (hn : n < 2 ^ 31) : IntOp.divsi .host (BitVec.ofNat 32 n) 256#32 = BitVec.ofNat 32 (n / 256) := by
  refine Eq.trans ?_ (w_divsi n 256 hn (by decide) (by decide))
  have : ¬ IntOp.SDivCorner (BitVec.ofNat 32 n) 256#32 := by
    intro h; rcases h with h | h
    · exact absurd h (by decide)
    · exact absurd h.2 (by decide)
  show IntOp.divsi .host (BitVec.ofNat 32 n) 256#32 = IntOp.divsi .scalar (BitVec.ofNat 32 n) 256#32
  unfold IntOp.divsi; rw [if_neg this, if_neg this]
theorem h_rem (n : ℕ) (hn : n < 2 ^ 31) : IntOp.remsi .host (BitVec.ofNat 32 n) 256#32 = BitVec.ofNat 32 (n % 256) := by
  refine Eq.trans ?_ (w_remsi n 256 hn (by decide) (by decide))
  have : ¬ IntOp.SDivCorner (BitVec.ofNat 32 n) 256#32 := by
    intro h; rcases h with h | h
    · exact absurd h (by decide)
    · exact absurd h.2 (by decide)
  show IntOp.remsi .host (BitVec.ofNat 32 n) 256#32 = IntOp.remsi .scalar (BitVec.ofNat 32 n) 256#32
  unfold IntOp.remsi; rw [if_neg this, if_neg this]

theorem kDiv_at (r : IVec S272x2x128 32) (b : Fin 272) (g : Fin 2) (s : Fin 128) (n : ℕ) (hn : n < 2 ^ 31) (h : r (ix3 b g s) = BitVec.ofNat 32 n) :
    kDiv r (ix3 b g s) = BitVec.ofNat 32 (n / 256) := by
  have h1 : kDiv r (ix3 b g s) = Scalar.select
    (IntOp.andi
      (IntOp.cmpi CmpIPredicate.ne (if r (ix3 b g s) = 0 then 0 else if (r (ix3 b g s)).msb = true then -1 else 1)
        (if (256#32 : BitVec 32) = 0 then 0 else if (256#32 : BitVec 32).msb = true then -1 else (1 : BitVec 32)))
      (IntOp.cmpi CmpIPredicate.ne (IntOp.remsi ArithUnit.host (r (ix3 b g s)) 256#32) 0#32))
    (IntOp.subi (IntOp.divsi ArithUnit.host (r (ix3 b g s)) 256#32) 1#32)
    (IntOp.divsi ArithUnit.host (r (ix3 b g s)) 256#32) := by
    pointwise [kDiv, kK]
  rw [h1, h, h_div n hn, h_rem n hn]
  by_cases h0 : n = 0
  · subst h0; rfl
  · have e1 : (BitVec.ofNat 32 n).msb = false := by
      rw [BitVec.msb_eq_decide, toNat_ofNat32 _ (by omega)]; simp; omega
    have e2 : ¬ BitVec.ofNat 32 n = 0 := by
      intro hh
      have := congrArg BitVec.toNat hh
      rw [toNat_ofNat32 _ (by omega)] at this
      simp at this; omega
    rw [if_neg e2, e1]
    have e3 : IntOp.cmpi CmpIPredicate.ne (if false = true then -1 else 1) (if (256#32 : BitVec 32) = 0 then 0 else if (256#32 : BitVec 32).msb = true then -1 else (1 : BitVec 32)) = 0#1 := by decide
    rw [e3]
    have h4 : ∀ z : BitVec 1, IntOp.andi 0#1 z = 0#1 := by decide
    rw [h4]; rfl

theorem kMod_at (r : IVec S272x2x128 32) (b : Fin 272) (g : Fin 2) (s : Fin 128) (n : ℕ) (hn : n < 2 ^ 31) (h : r (ix3 b g s) = BitVec.ofNat 32 n) :
    kMod r (ix3 b g s) = BitVec.ofNat 32 (n % 256) := by
  have hk : Scalar.select (IntOp.cmpi CmpIPredicate.eq (256#32 : BitVec 32) 0#32) 1#32 256#32 = 256#32 := by decide
  have h1 : kMod r (ix3 b g s) = Scalar.select (IntOp.andi (IntOp.cmpi .ne (IntOp.cmpi .slt (IntOp.remsi .host (r (ix3 b g s)) 256#32) 0#32) 0#1) (IntOp.cmpi .ne (IntOp.remsi .host (r (ix3 b g s)) 256#32) 0#32))
      (IntOp.addi (IntOp.remsi .host (r (ix3 b g s)) 256#32) 256#32) (IntOp.remsi .host (r (ix3 b g s)) 256#32) := by
    pointwise [kMod, kK, kB0, k256]
    simp only [hk]
    rfl
  rw [h1, h, h_rem n hn]
  have h3 : IntOp.cmpi .slt (BitVec.ofNat 32 (n % 256)) 0#32 = 0#1 := by
    have : ¬ IntOp.cmpi .slt (BitVec.ofNat 32 (n % 256)) 0#32 = 1#1 := by
      rw [i_slt, toInt_ofNat32 _ (by omega)]
      have : (0#32 : BitVec 32).toInt = 0 := by decide
      omega
    rcases BitVec.eq_zero_or_eq_one (IntOp.cmpi .slt (BitVec.ofNat 32 (n % 256)) 0#32) with h | h
    · exact h
    · exact absurd h this
  rw [h3]
  have h4 : ∀ z : BitVec 1, IntOp.andi (IntOp.cmpi .ne (0#1) (0#1)) z = 0#1 := by
    intro z
    have : IntOp.cmpi .ne (0#1) (0#1) = 0#1 := by decide
    rw [this]; exact BitVec.zero_and
  rw [h4]
  rfl

theorem kAddrOf_at (ex r : IVec S272x2x128 32) (b : Fin 272) (g : Fin 2) (s : Fin 128) (e n : ℕ) (he : e < 16) (hn : n < 2 ^ 31)
    (h : ex (ix3 b g s) = BitVec.ofNat 32 e) (hr : r (ix3 b g s) = BitVec.ofNat 32 n) :
    (kAddrOf ex r (ix3 b g s)).toNat = (e * 2 + n / 256 % 2) * 2056 + n % 256 := by
  have h1 : kAddrOf ex r (ix3 b g s) = Scalar.addi (Scalar.muli (Scalar.addi (Scalar.muli (ex (ix3 b g s)) 2#32) (Scalar.andi (kDiv r (ix3 b g s)) 1#32)) 2056#32) (kMod r (ix3 b g s)) := rfl
  rw [h1, kDiv_at r b g s n hn hr, kMod_at r b g s n hn hr, h, w_andi_one]
  have e1 : Scalar.muli (BitVec.ofNat 32 e) 2#32 = BitVec.ofNat 32 (e * 2) := w_muli e 2
  rw [e1, w_addi]
  have e2 : ∀ k, Scalar.muli (BitVec.ofNat 32 k) 2056#32 = BitVec.ofNat 32 (k * 2056) := fun k => w_muli k 2056
  rw [e2, w_addi, toNat_ofNat32 _ (by omega)]

section
variable (off ends : IVec S16 32) (x ex : IVec S272x2x128 32) (need : IVec S272x16 32)

def nOff (e : ℕ) : ℕ := if h : e < 16 then (off (ix1 (⟨e, h⟩ : Fin 16))).toNat else 0
def nNp : ℕ → ℕ → ℕ
  | 0, e => al (nOff off e)
  | b + 1, e => if h : b < 272 ∧ e < 16 then (need (ix2 (⟨b, h.1⟩ : Fin 272) (⟨e, h.2⟩ : Fin 16))).toNat else 0
def nAt (y : IVec S272x2x128 32) (b g s : ℕ) : ℕ := if h : b < 272 ∧ g < 2 ∧ s < 128 then (y (ix3 (⟨b, h.1⟩ : Fin 272) (⟨g, h.2.1⟩ : Fin 2) (⟨s, h.2.2⟩ : Fin 128))).toNat else 0

theorem nAt_eq (y : IVec S272x2x128 32) (b : Fin 272) (g : Fin 2) (s : Fin 128) : nAt y b.val g.val s.val = (y (ix3 b g s)).toNat := by
  unfold nAt; rw [dif_pos ⟨b.isLt, g.isLt, s.isLt⟩]
theorem nOff_eq (e : Fin 16) : nOff off e.val = (off (ix1 e)).toNat := by
  unfold nOff; rw [dif_pos e.isLt]
theorem nNp_eq (b : Fin 272) (e : Fin 16) : nNp off need (b.val + 1) e.val = (need (ix2 b e)).toNat := by
  show (if h : b.val < 272 ∧ e.val < 16 then (need (ix2 (⟨b.val, h.1⟩ : Fin 272) (⟨e.val, h.2⟩ : Fin 16))).toNat else 0) = _
  rw [dif_pos ⟨b.isLt, e.isLt⟩]

variable {off ends x ex need}

theorem hf_of (h : PreOK off ends x ex need) : HF (nOff off) (nNp off need) := by
  refine ⟨fun e he => ?_, fun e he => rfl, fun b e hb he => ?_, fun b e hb he => ?_⟩
  · have := h.off_le ⟨e, he⟩
    rw [← nOff_eq] at this; exact this
  · have e1 := nNp_eq off need ⟨b, hb⟩ ⟨e, he⟩
    cases b with
    | zero =>
      have := h.need_ge ⟨0, hb⟩ ⟨e, he⟩
      rw [← nOff_eq] at this
      show al (nOff off e) ≤ nNp off need (0 + 1) e
      rw [e1]; exact this
    | succ b =>
      have e2 := nNp_eq off need ⟨b, by omega⟩ ⟨e, he⟩
      have := h.mono ⟨b, by omega⟩ ⟨e, he⟩
      show nNp off need (b + 1) e ≤ nNp off need (b + 1 + 1) e
      rw [e1, e2]
      refine Nat.le_trans this (Nat.le_of_eq ?_)
      congr 3
      exact Fin.ext (Nat.add_comm 1 b)
  · cases b with
    | zero =>
      have := h.off_le ⟨e, he⟩
      rw [← nOff_eq] at this
      show al (nOff off e) ≤ _
      unfold al; simp only at this; omega
    | succ b =>
      have e2 := nNp_eq off need ⟨b, by omega⟩ ⟨e, he⟩
      rw [e2]; exact h.need_le _ _

theorem tok_of (h : PreOK off ends x ex need) (b : Fin 272) (g : Fin 2) (s : Fin 128) :
    TokOK (nOff off) (doneAt (nOff off) (nNp off need) b.val 16) (nAt ex b.val g.val s.val) (nAt x b.val g.val s.val) (kAddrOf ex (subi x (kSum ex off)) (ix3 b g s)) := by
  rw [nAt_eq, nAt_eq]
  have he := h.ex_lt b g s
  have hx := h.x_lt b g s
  obtain ⟨m1, m2, m3, m4⟩ := h.mine b g s ⟨_, he⟩ rfl
  have e1 := nOff_eq off ⟨_, he⟩
  have e2 := nNp_eq off need b ⟨_, he⟩
  have ge := h.need_ge b ⟨_, he⟩
  simp only at e1 e2
  have hd : doneAt (nOff off) (nNp off need) b.val 16 (ex (ix3 b g s)).toNat = dn (al (off (ix1 ⟨_, he⟩)).toNat) (need (ix2 b ⟨_, he⟩)).toNat := by
    unfold doneAt; rw [if_pos he, e1, e2]
  have ale : al (off (ix1 ⟨_, he⟩)).toNat ≤ (off (ix1 ⟨_, he⟩)).toNat := by unfold al; omega
  have dge : (need (ix2 b ⟨_, he⟩)).toNat ≤ dn (al (off (ix1 ⟨_, he⟩)).toNat) (need (ix2 b ⟨_, he⟩)).toNat
      ∧ dn (al (off (ix1 ⟨_, he⟩)).toNat) (need (ix2 b ⟨_, he⟩)).toNat ≤ (need (ix2 b ⟨_, he⟩)).toNat + 255 := by
    unfold dn; constructor <;> omega
  have hal : kAl off (ix1 ⟨_, he⟩) = BitVec.ofNat 32 (al (off (ix1 ⟨_, he⟩)).toNat) := by
    rw [kAl_at]
    have hw : off (ix1 ⟨_, he⟩) = BitVec.ofNat 32 (off (ix1 ⟨_, he⟩)).toNat := by simp
    have ho := h.off_le ⟨_, he⟩
    generalize (off (ix1 ⟨_, he⟩)).toNat = n at *
    rw [hw]; exact w_andi_m32 n (by omega)
  have hrel : subi x (kSum ex off) (ix3 b g s) = BitVec.ofNat 32 ((x (ix3 b g s)).toNat - al (off (ix1 ⟨_, he⟩)).toNat) := by
    show IntOp.subi (x (ix3 b g s)) (kSum ex off (ix3 b g s)) = _
    rw [kSum_one ex off b g s ⟨_, he⟩ rfl, hal]
    have hw : x (ix3 b g s) = BitVec.ofNat 32 (x (ix3 b g s)).toNat := by simp
    generalize (x (ix3 b g s)).toNat = n at *
    rw [hw]; exact w_subi n _ (by omega)
  have hex : ex (ix3 b g s) = BitVec.ofNat 32 (ex (ix3 b g s)).toNat := by simp
  refine ⟨he, ?_, ?_, ?_, hx, ?_⟩
  · rw [e1]; omega
  · rw [hd]; omega
  · rw [hd]; omega
  · rw [kAddrOf_at ex _ b g s _ _ he (by omega) hex hrel, e1]
end

end Cert.Kernel.Hand

end
-- ==== Proof.Bits.HostV.lean ====
module

public import proofs.«01_k».proof.Proof.Bits.HostDefs

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]
variable (M : Valuation τ sig (Elt F))

theorem afterApp (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The buffer a value of the host program is in. -/
abbrev at_ (b : Ref sig .tc) : DevRef τ sig := Proc.devRef .tc b

def kModOf (r : IVec S272x2x128 32) (d : IVec S_ 32) : IVec S272x2x128 32 :=
  let k : IVec S_ 32 := select (cmpi .eq d (constantI S_ 32 0#32)) (constantI S_ 32 1#32) d
  select (andi (cmpi .ne (cmpi .slt (Host.remsi r (kB0 k)) (kK 0#32)) (broadcastInDim S272x2x128 ![] bcast_S_S272x2x128 (cmpi .slt k (constantI S_ 32 0#32)))) (cmpi .ne (Host.remsi r (kB0 k)) (kK 0#32)))
    (addi (Host.remsi r (kB0 k)) (kB0 k)) (Host.remsi r (kB0 k))

theorem cat2 {a a' : S272x15.Idx → BitVec 32} {b b' : S272x1.Idx → BitVec 32} (h1 : a = a') (h2 : b = b') :
    concatenate S272x16 1 [⟨S272x15, a⟩, ⟨S272x1, b⟩] concatenates_S272x15_S272x1_S272x16_d1 = concatenate S272x16 1 [⟨S272x15, a'⟩, ⟨S272x1, b'⟩] concatenates_S272x15_S272x1_S272x16_d1 := by
  rw [h1, h2]
theorem catP {a a' : S69632.Idx → Elt F .f32} {b b' : S256.Idx → Elt F .f32} (h1 : a = a') (h2 : b = b') :
    concatenate S69888 0 [⟨S69632, a⟩, ⟨S256, b⟩] concatenates_S69632_S256_S69888_d0 = concatenate S69888 0 [⟨S69632, a'⟩, ⟨S256, b'⟩] concatenates_S69632_S256_S69888_d0 := by
  rw [h1, h2]
theorem cat8 {a a' b b' c c' d d' e e' f f' g g' h h' : S2176x32.Idx → Elt F .f32} (h1 : a = a') (h2 : b = b') (h3 : c = c') (h4 : d = d') (h5 : e = e') (h6 : f = f') (h7 : g = g') (h8 : h = h') :
    concatenate S2176x256 1 [⟨S2176x32, a⟩, ⟨S2176x32, b⟩, ⟨S2176x32, c⟩, ⟨S2176x32, d⟩, ⟨S2176x32, e⟩, ⟨S2176x32, f⟩, ⟨S2176x32, g⟩, ⟨S2176x32, h⟩] concatenates_S2176x32_S2176x32_S2176x32_S2176x32_S2176x32_S2176x32_S2176x32_S2176x32_S2176x256_d1
      = concatenate S2176x256 1 [⟨S2176x32, a'⟩, ⟨S2176x32, b'⟩, ⟨S2176x32, c'⟩, ⟨S2176x32, d'⟩, ⟨S2176x32, e'⟩, ⟨S2176x32, f'⟩, ⟨S2176x32, g'⟩, ⟨S2176x32, h'⟩] concatenates_S2176x32_S2176x32_S2176x32_S2176x32_S2176x32_S2176x32_S2176x32_S2176x32_S2176x256_d1 := by
  rw [h1, h2, h3, h4, h5, h6, h7, h8]
theorem s0_v0 : (StableHlo.after (hostOps0 (F := F)) M (at_ main_v0) : IVec S16 32) = kEnds (M (at_ main_arg2) : IVec S16 32) := by
  simp only [hostOps0, at_]
  after_results_simp
  try simp -implicitDefEqProofs only [StableHlo.TRef.toBuf, StableHlo.TRef.ofBuf, cast_cast, cast_eq]
  all_goals rfl
theorem s0_arg2 : StableHlo.after (hostOps0 (F := F)) M (at_ main_arg2) = M (at_ main_arg2) := by
  simp only [hostOps0, at_]
  after_results_simp
theorem s0_arg5 : StableHlo.after (hostOps0 (F := F)) M (at_ main_arg5) = M (at_ main_arg5) := by
  simp only [hostOps0, at_]
  after_results_simp
theorem s0_arg1 : StableHlo.after (hostOps0 (F := F)) M (at_ main_arg1) = M (at_ main_arg1) := by
  simp only [hostOps0, at_]
  after_results_simp
theorem s1_v1 : (StableHlo.after (hostOps0_1 (F := F)) M (at_ main_v1) : IVec S16 32) = subi (M (at_ main_v0) : IVec S16 32) (M (at_ main_arg2) : IVec S16 32) := by
  simp only [hostOps0_1, at_]
  after_results_simp
  try simp -implicitDefEqProofs only [StableHlo.TRef.toBuf, StableHlo.TRef.ofBuf, cast_cast, cast_eq]
  all_goals rfl
theorem s1_v3 : (StableHlo.after (hostOps0_1 (F := F)) M (at_ main_v3) : IVec S272x2x128 32) = kIdx (M (at_ main_arg5) : IVec S34816x2 32) := by
  simp only [hostOps0_1, at_]
  after_results_simp
  try simp -implicitDefEqProofs only [StableHlo.TRef.toBuf, StableHlo.TRef.ofBuf, cast_cast, cast_eq]
  all_goals rfl
theorem s1_v15 : (StableHlo.after (hostOps0_1 (F := F)) M (at_ main_v15) : IVec S272x2x128 32) = kExpert (M (at_ main_v0) : IVec S16 32) (kIdx (M (at_ main_arg5) : IVec S34816x2 32)) := by
  simp only [hostOps0_1, at_]
  after_results_simp
  try simp -implicitDefEqProofs only [StableHlo.TRef.toBuf, StableHlo.TRef.ofBuf, cast_cast, cast_eq]
  all_goals rfl
theorem s1_v21 : (StableHlo.after (hostOps0_1 (F := F)) M (at_ main_v21) : IVec S272x16 32) = kHist (kCnt (subi (M (at_ main_v0) : IVec S16 32) (M (at_ main_arg2) : IVec S16 32)) (kIdx (M (at_ main_arg5) : IVec S34816x2 32))) := by
  simp only [hostOps0_1, at_]
  after_results_simp
  refine congrArg₂ subi ?_ (cat2 ?_ ?_)
  all_goals try after_results_simp
  all_goals try simp -implicitDefEqProofs only [StableHlo.TRef.toBuf, StableHlo.TRef.ofBuf, cast_cast, cast_eq]
  all_goals rfl
theorem s1_arg1 : StableHlo.after (hostOps0_1 (F := F)) M (at_ main_arg1) = M (at_ main_arg1) := by
  simp only [hostOps0_1, at_]
  after_results_simp
theorem s2_v22 : (StableHlo.after (hostOps0_2 (F := F)) M (at_ main_v22) : IVec S272x16 32) = Host.reduceWindow IntOp.addi ![272, 1] ![1, 1] ![271, 0] ![0, 0] (M (at_ main_v21) : IVec S272x16 32) (broadcastInDim S_ ![] bcast_S_S_ (constantI S_ 32 0#32)) reduceWindows_S272x16_S272x16_w272s1p271_0_w1s1p0_0 h_S_ := by
  simp only [hostOps0_2, at_]
  after_results_simp
  try simp -implicitDefEqProofs only [StableHlo.TRef.toBuf, StableHlo.TRef.ofBuf, cast_cast, cast_eq]
  all_goals rfl
theorem s2_v1 : StableHlo.after (hostOps0_2 (F := F)) M (at_ main_v1) = M (at_ main_v1) := by
  simp only [hostOps0_2, at_]
  after_results_simp
theorem s2_v3 : StableHlo.after (hostOps0_2 (F := F)) M (at_ main_v3) = M (at_ main_v3) := by
  simp only [hostOps0_2, at_]
  after_results_simp
theorem s2_v15 : StableHlo.after (hostOps0_2 (F := F)) M (at_ main_v15) = M (at_ main_v15) := by
  simp only [hostOps0_2, at_]
  after_results_simp
theorem s2_arg1 : StableHlo.after (hostOps0_2 (F := F)) M (at_ main_arg1) = M (at_ main_arg1) := by
  simp only [hostOps0_2, at_]
  after_results_simp
theorem s3_v25 : (StableHlo.after (hostOps0_3 (F := F)) M (at_ main_v25) : IVec S272x16 32) = addi (broadcastInDim S272x16 ![0, 1] bcast_S1x16_S272x16_0_1 (broadcastInDim S1x16 ![1] bcast_S16_S1x16_1 (M (at_ main_v1) : IVec S16 32))) (M (at_ main_v22) : IVec S272x16 32) := by
  simp only [hostOps0_3, at_]
  after_results_simp
  try simp -implicitDefEqProofs only [StableHlo.TRef.toBuf, StableHlo.TRef.ofBuf, cast_cast, cast_eq]
  all_goals rfl
theorem s3_v28 : (StableHlo.after (hostOps0_3 (F := F)) M (at_ main_v28) : IVec S272x16 1) = cmpi .sgt (addi (broadcastInDim S272x16 ![0, 1] bcast_S1x16_S272x16_0_1 (broadcastInDim S1x16 ![1] bcast_S16_S1x16_1 (M (at_ main_v1) : IVec S16 32))) (M (at_ main_v22) : IVec S272x16 32)) (broadcastInDim S272x16 ![0, 1] bcast_S1x16_S272x16_0_1 (broadcastInDim S1x16 ![1] bcast_S16_S1x16_1 (M (at_ main_v1) : IVec S16 32))) := by
  simp only [hostOps0_3, at_]
  after_results_simp
  try simp -implicitDefEqProofs only [StableHlo.TRef.toBuf, StableHlo.TRef.ofBuf, cast_cast, cast_eq]
  all_goals rfl
theorem s3_v30 : (StableHlo.after (hostOps0_3 (F := F)) M (at_ main_v30) : IVec S16 32) = kAl (M (at_ main_v1) : IVec S16 32) := by
  simp only [hostOps0_3, at_]
  after_results_simp
  try simp -implicitDefEqProofs only [StableHlo.TRef.toBuf, StableHlo.TRef.ofBuf, cast_cast, cast_eq]
  all_goals rfl
theorem s3_v1 : StableHlo.after (hostOps0_3 (F := F)) M (at_ main_v1) = M (at_ main_v1) := by
  simp only [hostOps0_3, at_]
  after_results_simp
theorem s3_v3 : StableHlo.after (hostOps0_3 (F := F)) M (at_ main_v3) = M (at_ main_v3) := by
  simp only [hostOps0_3, at_]
  after_results_simp
theorem s3_v15 : StableHlo.after (hostOps0_3 (F := F)) M (at_ main_v15) = M (at_ main_v15) := by
  simp only [hostOps0_3, at_]
  after_results_simp
theorem s3_arg1 : StableHlo.after (hostOps0_3 (F := F)) M (at_ main_arg1) = M (at_ main_arg1) := by
  simp only [hostOps0_3, at_]
  after_results_simp
theorem s4_v31 : (StableHlo.after (hostOps0_4 (F := F)) M (at_ main_v31) : IVec S272x16 32) = select (M (at_ main_v28) : IVec S272x16 1) (M (at_ main_v25) : IVec S272x16 32) (broadcastInDim S272x16 ![1] bcast_S16_S272x16_1 (M (at_ main_v30) : IVec S16 32)) := by
  simp only [hostOps0_4, at_]
  after_results_simp
  try simp -implicitDefEqProofs only [StableHlo.TRef.toBuf, StableHlo.TRef.ofBuf, cast_cast, cast_eq]
  all_goals rfl
theorem s4_v1 : StableHlo.after (hostOps0_4 (F := F)) M (at_ main_v1) = M (at_ main_v1) := by
  simp only [hostOps0_4, at_]
  after_results_simp
theorem s4_v3 : StableHlo.after (hostOps0_4 (F := F)) M (at_ main_v3) = M (at_ main_v3) := by
  simp only [hostOps0_4, at_]
  after_results_simp
theorem s4_v15 : StableHlo.after (hostOps0_4 (F := F)) M (at_ main_v15) = M (at_ main_v15) := by
  simp only [hostOps0_4, at_]
  after_results_simp
theorem s4_arg1 : StableHlo.after (hostOps0_4 (F := F)) M (at_ main_arg1) = M (at_ main_arg1) := by
  simp only [hostOps0_4, at_]
  after_results_simp
theorem s5_v33 : (StableHlo.after (hostOps0_5 (F := F)) M (at_ main_v33) : IVec S16 32) = kAl (M (at_ main_v1) : IVec S16 32) := by
  simp only [hostOps0_5, at_]
  after_results_simp
  try simp -implicitDefEqProofs only [StableHlo.TRef.toBuf, StableHlo.TRef.ofBuf, cast_cast, cast_eq]
  all_goals rfl
theorem s5_v39 : (StableHlo.after (hostOps0_5 (F := F)) M (at_ main_v39) : IVec S272x2x128x16 1) = cmpi .eq (kB3 (M (at_ main_v15) : IVec S272x2x128 32)) (kB1 (iotaInDim S16 32 0)) := by
  simp only [hostOps0_5, at_]
  after_results_simp
  try simp -implicitDefEqProofs only [StableHlo.TRef.toBuf, StableHlo.TRef.ofBuf, cast_cast, cast_eq]
  all_goals rfl
theorem s5_c_4 : (StableHlo.after (hostOps0_5 (F := F)) M (at_ main_c_4) : IVec S_ 32) = constantI S_ 32 0#32 := by
  simp only [hostOps0_5, at_]
  after_results_simp
  try simp -implicitDefEqProofs only [StableHlo.TRef.toBuf, StableHlo.TRef.ofBuf, cast_cast, cast_eq]
  all_goals rfl
theorem s5_v1 : StableHlo.after (hostOps0_5 (F := F)) M (at_ main_v1) = M (at_ main_v1) := by
  simp only [hostOps0_5, at_]
  after_results_simp
theorem s5_v31 : StableHlo.after (hostOps0_5 (F := F)) M (at_ main_v31) = M (at_ main_v31) := by
  simp only [hostOps0_5, at_]
  after_results_simp
theorem s5_v3 : StableHlo.after (hostOps0_5 (F := F)) M (at_ main_v3) = M (at_ main_v3) := by
  simp only [hostOps0_5, at_]
  after_results_simp
theorem s5_v15 : StableHlo.after (hostOps0_5 (F := F)) M (at_ main_v15) = M (at_ main_v15) := by
  simp only [hostOps0_5, at_]
  after_results_simp
theorem s5_arg1 : StableHlo.after (hostOps0_5 (F := F)) M (at_ main_arg1) = M (at_ main_arg1) := by
  simp only [hostOps0_5, at_]
  after_results_simp
theorem s6_v40 : (StableHlo.after (hostOps0_6 (F := F)) M (at_ main_v40) : IVec S272x2x128x16 32) = select (M (at_ main_v39) : IVec S272x2x128x16 1) (broadcastInDim S272x2x128x16 ![3] bcast_S16_S272x2x128x16_3 (M (at_ main_v33) : IVec S16 32)) (broadcastInDim S272x2x128x16 ![] bcast_S_S272x2x128x16 (M (at_ main_c_4) : IVec S_ 32)) := by
  simp only [hostOps0_6, at_]
  after_results_simp
  try simp -implicitDefEqProofs only [StableHlo.TRef.toBuf, StableHlo.TRef.ofBuf, cast_cast, cast_eq]
  all_goals rfl
theorem s6_v1 : StableHlo.after (hostOps0_6 (F := F)) M (at_ main_v1) = M (at_ main_v1) := by
  simp only [hostOps0_6, at_]
  after_results_simp
theorem s6_v31 : StableHlo.after (hostOps0_6 (F := F)) M (at_ main_v31) = M (at_ main_v31) := by
  simp only [hostOps0_6, at_]
  after_results_simp
theorem s6_v3 : StableHlo.after (hostOps0_6 (F := F)) M (at_ main_v3) = M (at_ main_v3) := by
  simp only [hostOps0_6, at_]
  after_results_simp
theorem s6_v15 : StableHlo.after (hostOps0_6 (F := F)) M (at_ main_v15) = M (at_ main_v15) := by
  simp only [hostOps0_6, at_]
  after_results_simp
theorem s6_arg1 : StableHlo.after (hostOps0_6 (F := F)) M (at_ main_arg1) = M (at_ main_arg1) := by
  simp only [hostOps0_6, at_]
  after_results_simp
theorem s7_v42 : (StableHlo.after (hostOps0_7 (F := F)) M (at_ main_v42) : IVec S272x2x128 32) = subi (M (at_ main_v3) : IVec S272x2x128 32) (Host.reduce IntOp.addi (M (at_ main_v40) : IVec S272x2x128x16 32) (constantI S_ 32 0#32) reducesTo_S272x2x128x16_S272x2x128_d3 h_S_) := by
  simp only [hostOps0_7, at_]
  after_results_simp
  try simp -implicitDefEqProofs only [StableHlo.TRef.toBuf, StableHlo.TRef.ofBuf, cast_cast, cast_eq]
  all_goals rfl
theorem s7_v44 : (StableHlo.after (hostOps0_7 (F := F)) M (at_ main_v44) : IVec S272x2x128 32) = muli (M (at_ main_v15) : IVec S272x2x128 32) (kK 2#32) := by
  simp only [hostOps0_7, at_]
  after_results_simp
  try simp -implicitDefEqProofs only [StableHlo.TRef.toBuf, StableHlo.TRef.ofBuf, cast_cast, cast_eq]
  all_goals rfl
theorem s7_c_7 : (StableHlo.after (hostOps0_7 (F := F)) M (at_ main_c_7) : IVec S_ 32) = constantI S_ 32 256#32 := by
  simp only [hostOps0_7, at_]
  after_results_simp
  try simp -implicitDefEqProofs only [StableHlo.TRef.toBuf, StableHlo.TRef.ofBuf, cast_cast, cast_eq]
  all_goals rfl
theorem s7_v1 : StableHlo.after (hostOps0_7 (F := F)) M (at_ main_v1) = M (at_ main_v1) := by
  simp only [hostOps0_7, at_]
  after_results_simp
theorem s7_v31 : StableHlo.after (hostOps0_7 (F := F)) M (at_ main_v31) = M (at_ main_v31) := by
  simp only [hostOps0_7, at_]
  after_results_simp
theorem s7_arg1 : StableHlo.after (hostOps0_7 (F := F)) M (at_ main_arg1) = M (at_ main_arg1) := by
  simp only [hostOps0_7, at_]
  after_results_simp
theorem s8_v45 : (StableHlo.after (hostOps0_8 (F := F)) M (at_ main_v45) : IVec S272x2x128 32) = select (andi (cmpi .ne (signi (M (at_ main_v42) : IVec S272x2x128 32)) (broadcastInDim S272x2x128 ![] bcast_S_S272x2x128 (signi (M (at_ main_c_7) : IVec S_ 32)))) (cmpi .ne (Host.remsi (M (at_ main_v42) : IVec S272x2x128 32) (kB0 (M (at_ main_c_7) : IVec S_ 32))) (kK 0#32))) (subi (Host.divsi (M (at_ main_v42) : IVec S272x2x128 32) (kB0 (M (at_ main_c_7) : IVec S_ 32))) (kK 1#32)) (Host.divsi (M (at_ main_v42) : IVec S272x2x128 32) (kB0 (M (at_ main_c_7) : IVec S_ 32))) := by
  simp only [hostOps0_8, at_]
  after_results_simp
  try simp -implicitDefEqProofs only [StableHlo.TRef.toBuf, StableHlo.TRef.ofBuf, cast_cast, cast_eq]
  all_goals rfl
theorem s8_v1 : StableHlo.after (hostOps0_8 (F := F)) M (at_ main_v1) = M (at_ main_v1) := by
  simp only [hostOps0_8, at_]
  after_results_simp
theorem s8_v31 : StableHlo.after (hostOps0_8 (F := F)) M (at_ main_v31) = M (at_ main_v31) := by
  simp only [hostOps0_8, at_]
  after_results_simp
theorem s8_v42 : StableHlo.after (hostOps0_8 (F := F)) M (at_ main_v42) = M (at_ main_v42) := by
  simp only [hostOps0_8, at_]
  after_results_simp
theorem s8_v44 : StableHlo.after (hostOps0_8 (F := F)) M (at_ main_v44) = M (at_ main_v44) := by
  simp only [hostOps0_8, at_]
  after_results_simp
theorem s8_arg1 : StableHlo.after (hostOps0_8 (F := F)) M (at_ main_arg1) = M (at_ main_arg1) := by
  simp only [hostOps0_8, at_]
  after_results_simp
theorem s9_v50 : (StableHlo.after (hostOps0_9 (F := F)) M (at_ main_v50) : IVec S272x2x128 32) = muli (addi (M (at_ main_v44) : IVec S272x2x128 32) (andi (M (at_ main_v45) : IVec S272x2x128 32) (kK 1#32))) (kK 2056#32) := by
  simp only [hostOps0_9, at_]
  after_results_simp
  try simp -implicitDefEqProofs only [StableHlo.TRef.toBuf, StableHlo.TRef.ofBuf, cast_cast, cast_eq]
  all_goals rfl
theorem s9_c_10 : (StableHlo.after (hostOps0_9 (F := F)) M (at_ main_c_10) : IVec S_ 32) = constantI S_ 32 256#32 := by
  simp only [hostOps0_9, at_]
  after_results_simp
  try simp -implicitDefEqProofs only [StableHlo.TRef.toBuf, StableHlo.TRef.ofBuf, cast_cast, cast_eq]
  all_goals rfl
theorem s9_v1 : StableHlo.after (hostOps0_9 (F := F)) M (at_ main_v1) = M (at_ main_v1) := by
  simp only [hostOps0_9, at_]
  after_results_simp
theorem s9_v31 : StableHlo.after (hostOps0_9 (F := F)) M (at_ main_v31) = M (at_ main_v31) := by
  simp only [hostOps0_9, at_]
  after_results_simp
theorem s9_v42 : StableHlo.after (hostOps0_9 (F := F)) M (at_ main_v42) = M (at_ main_v42) := by
  simp only [hostOps0_9, at_]
  after_results_simp
theorem s9_arg1 : StableHlo.after (hostOps0_9 (F := F)) M (at_ main_arg1) = M (at_ main_arg1) := by
  simp only [hostOps0_9, at_]
  after_results_simp
theorem s10_v51 : (StableHlo.after (hostOps0_10 (F := F)) M (at_ main_v51) : IVec S272x2x128 32) = kModOf (M (at_ main_v42) : IVec S272x2x128 32) (M (at_ main_c_10) : IVec S_ 32) := by
  simp only [hostOps0_10, at_]
  after_results_simp
  try simp -implicitDefEqProofs only [StableHlo.TRef.toBuf, StableHlo.TRef.ofBuf, cast_cast, cast_eq]
  all_goals rfl
theorem s10_v1 : StableHlo.after (hostOps0_10 (F := F)) M (at_ main_v1) = M (at_ main_v1) := by
  simp only [hostOps0_10, at_]
  after_results_simp
theorem s10_v31 : StableHlo.after (hostOps0_10 (F := F)) M (at_ main_v31) = M (at_ main_v31) := by
  simp only [hostOps0_10, at_]
  after_results_simp
theorem s10_v50 : StableHlo.after (hostOps0_10 (F := F)) M (at_ main_v50) = M (at_ main_v50) := by
  simp only [hostOps0_10, at_]
  after_results_simp
theorem s10_arg1 : StableHlo.after (hostOps0_10 (F := F)) M (at_ main_arg1) = M (at_ main_arg1) := by
  simp only [hostOps0_10, at_]
  after_results_simp
theorem s11_v52 : (StableHlo.after (hostOps0_11 (F := F)) M (at_ main_v52) : IVec S272x2x128 32) = addi (M (at_ main_v50) : IVec S272x2x128 32) (M (at_ main_v51) : IVec S272x2x128 32) := by
  simp only [hostOps0_11, at_]
  after_results_simp
  try simp -implicitDefEqProofs only [StableHlo.TRef.toBuf, StableHlo.TRef.ofBuf, cast_cast, cast_eq]
  all_goals rfl
theorem s11_v1 : StableHlo.after (hostOps0_11 (F := F)) M (at_ main_v1) = M (at_ main_v1) := by
  simp only [hostOps0_11, at_]
  after_results_simp
theorem s11_v31 : StableHlo.after (hostOps0_11 (F := F)) M (at_ main_v31) = M (at_ main_v31) := by
  simp only [hostOps0_11, at_]
  after_results_simp
theorem s11_split (b : Ref sig .tc) : StableHlo.after (hostOps0_11 (F := F)) M (at_ b) = StableHlo.after ((hostOps0_11 (F := F)).drop 7) (StableHlo.after ((hostOps0_11 (F := F)).take 7) M) (at_ b) := by
  rw [← afterApp, List.take_append_drop]

theorem s11_v57 : (StableHlo.after ((hostOps0_11 (F := F)).take 7) M (at_ main_v57) : S2184x32.Idx → Elt F .f32) = kPad (M (at_ main_arg1) : S69632.Idx → Elt F .f32) := by
  simp only [hostOps0_11, at_, List.take]
  after_results_simp
  try simp -implicitDefEqProofs only [StableHlo.TRef.toBuf, StableHlo.TRef.ofBuf, cast_cast, cast_eq]
  refine congrArg (fun z : S69888.Idx → Elt F .f32 => shapeCast S2184x32 z shapeCasts_S69888_S2184x32) (catP ?_ ?_)
  · after_results_simp
    all_goals rfl
  · after_results_simp
    all_goals rfl

theorem s11_drop : (StableHlo.after ((hostOps0_11 (F := F)).drop 7) M (at_ main_v67) : S2176x2x128.Idx → Elt F .f32) = kHs (M (at_ main_v57) : S2184x32.Idx → Elt F .f32) := by
  simp only [hostOps0_11, at_, List.drop]
  after_results_simp
  try simp -implicitDefEqProofs only [StableHlo.TRef.toBuf, StableHlo.TRef.ofBuf, cast_cast, cast_eq]
  refine congrArg (fun z : S2176x256.Idx → Elt F .f32 => shapeCast S2176x2x128 z shapeCasts_S2176x256_S2176x2x128) (cat8 ?_ ?_ ?_ ?_ ?_ ?_ ?_ ?_)
  · change HloOp.result _ _ (Proc.devRef .tc main_v58) = _
    after_results_simp
    all_goals try simp -implicitDefEqProofs only [StableHlo.TRef.toBuf, StableHlo.TRef.ofBuf, cast_cast, cast_eq]
    all_goals rfl
  · change HloOp.result _ _ (Proc.devRef .tc main_v59) = _
    after_results_simp
    all_goals try simp -implicitDefEqProofs only [StableHlo.TRef.toBuf, StableHlo.TRef.ofBuf, cast_cast, cast_eq]
    all_goals rfl
  · change HloOp.result _ _ (Proc.devRef .tc main_v60) = _
    after_results_simp
    all_goals try simp -implicitDefEqProofs only [StableHlo.TRef.toBuf, StableHlo.TRef.ofBuf, cast_cast, cast_eq]
    all_goals rfl
  · change HloOp.result _ _ (Proc.devRef .tc main_v61) = _
    after_results_simp
    all_goals try simp -implicitDefEqProofs only [StableHlo.TRef.toBuf, StableHlo.TRef.ofBuf, cast_cast, cast_eq]
    all_goals rfl
  · change HloOp.result _ _ (Proc.devRef .tc main_v62) = _
    after_results_simp
    all_goals try simp -implicitDefEqProofs only [StableHlo.TRef.toBuf, StableHlo.TRef.ofBuf, cast_cast, cast_eq]
    all_goals rfl
  · change HloOp.result _ _ (Proc.devRef .tc main_v63) = _
    after_results_simp
    all_goals try simp -implicitDefEqProofs only [StableHlo.TRef.toBuf, StableHlo.TRef.ofBuf, cast_cast, cast_eq]
    all_goals rfl
  · change HloOp.result _ _ (Proc.devRef .tc main_v64) = _
    after_results_simp
    all_goals try simp -implicitDefEqProofs only [StableHlo.TRef.toBuf, StableHlo.TRef.ofBuf, cast_cast, cast_eq]
    all_goals rfl
  · change HloOp.result _ _ (Proc.devRef .tc main_v65) = _
    after_results_simp
    all_goals try simp -implicitDefEqProofs only [StableHlo.TRef.toBuf, StableHlo.TRef.ofBuf, cast_cast, cast_eq]
    all_goals rfl

theorem s11_v67 : (StableHlo.after (hostOps0_11 (F := F)) M (at_ main_v67) : S2176x2x128.Idx → Elt F .f32) = kHs (kPad (M (at_ main_arg1) : S69632.Idx → Elt F .f32)) := by
  rw [s11_split, s11_drop, s11_v57]

variable (m : (ℓ : Loc nD τ sig) → Buf (Elt F) ℓ)

theorem V_seg (c : Dev nD) (b : Ref sig .tc) : V m c b
    = StableHlo.after hostOps0_11 (StableHlo.after hostOps0_10 (StableHlo.after hostOps0_9 (StableHlo.after hostOps0_8 (StableHlo.after hostOps0_7 (StableHlo.after hostOps0_6
      (StableHlo.after hostOps0_5 (StableHlo.after hostOps0_4 (StableHlo.after hostOps0_3 (StableHlo.after hostOps0_2 (StableHlo.after hostOps0_1 (StableHlo.after hostOps0 (fun b => m (c, b))))))))))))) (at_ b) := by
  unfold V
  simp only [List.flatten_cons, List.flatten_nil, List.append_nil, afterApp]
  all_goals rfl

theorem V_v67 (c : Dev nD) : (V m c main_v67 : S2176x2x128.Idx → Elt F .f32) = kHs (kPad (m ((c : Thread nD τ).loc main_arg1))) := by
  rw [V_seg]
  rw [s11_v67, s10_arg1, s9_arg1, s8_arg1, s7_arg1, s6_arg1, s5_arg1, s4_arg1, s3_arg1, s2_arg1, s1_arg1, s0_arg1]
  all_goals rfl

theorem V_v1 (c : Dev nD) : (V m c main_v1 : IVec S16 32) = kOff (m ((c : Thread nD τ).loc main_arg2)) := by
  rw [V_seg]
  rw [s11_v1, s10_v1, s9_v1, s8_v1, s7_v1, s6_v1, s5_v1, s4_v1, s3_v1, s2_v1, s1_v1, s0_v0, s0_arg2]
  all_goals rfl

theorem V_v31 (c : Dev nD) : (V m c main_v31 : IVec S272x16 32) = kNeed (kOff (m ((c : Thread nD τ).loc main_arg2))) (kIdx (m ((c : Thread nD τ).loc main_arg5))) := by
  rw [V_seg]
  rw [s11_v31, s10_v31, s9_v31, s8_v31, s7_v31, s6_v31, s5_v31, s4_v31, s3_v28, s3_v25, s3_v30, s2_v1, s2_v22, s1_v21, s1_v1, s0_v0, s0_arg2, s0_arg5]
  all_goals rfl

theorem V_v52 (c : Dev nD) : (V m c main_v52 : IVec S272x2x128 32) = kAddrOf (kExpert (kEnds (m ((c : Thread nD τ).loc main_arg2))) (kIdx (m ((c : Thread nD τ).loc main_arg5))))
      (kRel (kOff (m ((c : Thread nD τ).loc main_arg2))) (kEnds (m ((c : Thread nD τ).loc main_arg2))) (kIdx (m ((c : Thread nD τ).loc main_arg5)))) := by
  rw [V_seg]
  rw [s11_v52, s10_v50, s10_v51, s9_v50, s9_v42, s9_c_10, s8_v44, s8_v45, s8_v42, s7_v42, s7_v44, s7_c_7, s6_v40, s6_v3, s6_v15, s5_v3, s5_v15, s5_v39, s5_v33, s5_c_4, s4_v3, s4_v15, s4_v1, s3_v3, s3_v15, s3_v1, s2_v3, s2_v15, s2_v1, s1_v1, s1_v15, s1_v3, s0_v0, s0_arg2, s0_arg5]
  all_goals rfl

theorem V_v54 (c : Dev nD) : (V m c main_v54 : S272x2x128.Idx → Elt F .f32) = kTw (m ((c : Thread nD τ).loc main_arg6)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  try simp -implicitDefEqProofs only [StableHlo.TRef.toBuf, StableHlo.TRef.ofBuf, cast_cast, cast_eq]
  all_goals rfl

theorem V_v68 (c : Dev nD) : (V m c main_v68 : S16x1x3072.Idx → Elt F .f32) = kWs (m ((c : Thread nD τ).loc main_arg4)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  try simp -implicitDefEqProofs only [StableHlo.TRef.toBuf, StableHlo.TRef.ofBuf, cast_cast, cast_eq]
  all_goals rfl

end Cert.Kernel.Hand

end
-- ==== Proof.Bits.T2.lean ====
module

public import proofs.«01_k».proof.Proof.Bits.Tok

@[expose] public section

set_option maxRecDepth 65536
set_option maxHeartbeats 40000000

noncomputable section

namespace Cert.Kernel.Hand

open Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The rest of what a block of tokens uses. -/
def Rest2 (X7 : BufTy.Contents (Elt F) arg7.view.ty) (X8 : BufTy.Contents (Elt F) arg8.view.ty) (J : (S34816x3072.Idx → Elt F .bf16) → Prop) : sProp 𝕄 :=
  iprop(∃ (O : BufTy.Contents (Elt F) arg9.view.ty) (f14 : BufTy.Contents (Elt F) arg14.view.ty) (f15 : BufTy.Contents (Elt F) arg15.view.ty)
      (f16 : BufTy.Contents (Elt F) arg16.view.ty) (f17 : BufTy.Contents (Elt F) arg17.view.ty),
    (arg7.view.loc (c : Thread nD τ) ↦[arg7.view.set]{fullShare} X7) ∗
    (arg8.view.loc (c : Thread nD τ) ↦[arg8.view.set]{fullShare} X8) ∗
    (arg9.view.loc (c : Thread nD τ) ↦[arg9.view.set]{fullShare} O) ∗
    (arg14.view.loc (c : Thread nD τ) ↦[arg14.view.set]{fullShare} f14) ∗
    (arg15.view.loc (c : Thread nD τ) ↦[arg15.view.set]{fullShare} f15) ∗
    (arg16.view.loc (c : Thread nD τ) ↦[arg16.view.set]{fullShare} f16) ∗
    (arg17.view.loc (c : Thread nD τ) ↦[arg17.view.set]{fullShare} f17) ∗
    semVal ((c : Thread nD τ), SemLoc.dma arg22.sem) 0 ∗ semVal ((c : Thread nD τ), SemLoc.dma arg23.sem) 0 ∗ semVal ((c : Thread nD τ), SemLoc.dma arg24.sem) 0 ∗
    ⌜J (arg9.view.read (Elt F) O)⌝)

theorem keep {sp : Space} {s : Shape} {t : EltTy} (M : Memref sig .tc sp s t) (f : BufTy.Contents (Elt F) M.view.ty) :
    (M.view.loc (c : Thread nD τ) ↦[M.view.set]{fullShare} f : sProp 𝕄) ⊢ iprop(∃ g, (M.view.loc (c : Thread nD τ) ↦[M.view.set]{fullShare} g) ∗ ⌜g = f⌝) := by
  iintro H
  iexists f
  isplitl [H]
  · iexact H
  · ipureintro; rfl

set_option maxHeartbeats 400000000 in
theorem t2_trip (k0_t2 : Fin k0_t2_loop.trips)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (X7 : BufTy.Contents (Elt F) arg7.view.ty) (X8 : BufTy.Contents (Elt F) arg8.view.ty) (J J' : (S34816x3072.Idx → Elt F .bf16) → Prop)
    (E R : ℕ → ℕ → ℕ) (Z : ℕ → ℕ → Elt F .f32 → Prop) (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (g : Fin 2) (s : Fin 128), TokOK off (doneAt off np k0_t2.val 16) (E g.val s.val) (R g.val s.val) (arg7.view.read (Elt F) X7 (ix3 (⟨k0_t2.val, t2_lt k0_t2⟩ : Fin 272) g s)))
    (hZ : ∀ (s : Fin 128) (col : ℕ) (y0 y1 : Elt F .f32), col < 1024 → P (E 0 s.val) (R 0 s.val) col y0 → P (E 1 s.val) (R 1 s.val) col y1 →
      Z s.val col (FloatOps.addf (FloatOps.mulf y0 (arg8.view.read (Elt F) X8 (ix3 (⟨k0_t2.val, t2_lt k0_t2⟩ : Fin 272) (0 : Fin 2) s))) (FloatOps.mulf y1 (arg8.view.read (Elt F) X8 (ix3 (⟨k0_t2.val, t2_lt k0_t2⟩ : Fin 272) (1 : Fin 2) s)))))
    (hJ : ∀ O O', J O → OutStep (i 0).val k0_t2.val (fun s col x => ∃ v, Z s col v ∧ x = FloatOps.truncf .bf16 bitsLt_bf16_f32 v) O O' → J' O') :
    iprop((arg1.view.loc (c : Thread nD τ) ↦[arg1.view.set]{fullShare} X1) ∗ Ring4 c arg13 arg18 (RingInv P off (doneAt off np k0_t2.val 0)) ∗ Rest4 c arg2 arg3 arg4 arg6 arg10 arg11 arg12 arg20 arg21 X2 X3 X4 X6 X10 ∗ Rest2 c arg7 arg8 arg9 arg14 arg15 arg16 arg17 arg22 arg23 arg24 X7 X8 J)
    ⊢ wp (M := 𝕄) frame (wpE (defs₀ (F := F)) Variants.none (c : Thread nD τ) none) (Set.univ : Set ℕ)
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2 PUnit.unit)
        (fun _ => iprop((arg1.view.loc (c : Thread nD τ) ↦[arg1.view.set]{fullShare} X1) ∗ Ring4 c arg13 arg18 (RingInv P off (doneAt off np (k0_t2.val + 1) 0)) ∗ Rest4 c arg2 arg3 arg4 arg6 arg10 arg11 arg12 arg20 arg21 X2 X3 X4 X6 X10 ∗ Rest2 c arg7 arg8 arg9 arg14 arg15 arg16 arg17 arg22 arg23 arg24 X7 X8 J')) := by
  iintro ⟨H1, HR, H4, HZ⟩
  unfold k0_t2_body
  sl_exec
  have hT := t3_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t3_ok (0#32) (1#32) k0_t2 (t2_trip.sl.v6 k0_t2) X1 X2 X3 X4 X6 X10 P hP off np hf hX1 hX2
  iapply (seq_wp c hT)
  isplitl [H1 HR H4]
  · isplitl [H1]
    · iexact H1
    isplitl [HR]
    · iexact HR
    · iexact H4
  iintro %a ⟨H1, HR, H4⟩
  unfold Ring4 Rest4 Rest2
  icases HR with ⟨%Y, %D, H13, H18, %hYD⟩
  icases H4 with ⟨%f11, %f12, %W, H2, H3, H4, H6, H10, H11, H12, Hs20, Hs21, HW⟩
  icases HZ with ⟨%O, %f14, %f15, %f16, %f17, H7, H8, H9, H14, H15, H16, H17, Hs22, Hs23, Hs24, %hO⟩
  sl_exec
  ihave HK := (keep c arg16 _) $$ H16
  icases HK with ⟨%A, H16, %hA⟩
  ihave HK := (keep c arg17 _) $$ H17
  icases HK with ⟨%T, H17, %hTT⟩
  have hAr : ∀ (g : Fin 2) (q : Fin 128), arg16.view.read (Elt F) A (ix2 g q) = arg7.view.read (Elt F) X7 (ix3 (⟨k0_t2.val, t2_lt k0_t2⟩ : Fin 272) g q) := fun g q => by
    rw [hA]
    exact blk_read arg7 arg16 X7 f16 k0_t2 squeezes_S1x2x128_S2x128 _ (by unfold t2_trip.sl.dma0; rfl) g q
  have hTr : ∀ (g : Fin 2) (q : Fin 128), arg17.view.read (Elt F) T (ix2 g q) = arg8.view.read (Elt F) X8 (ix3 (⟨k0_t2.val, t2_lt k0_t2⟩ : Fin 272) g q) := fun g q => by
    rw [hTT]
    exact blk_read arg8 arg17 X8 f17 k0_t2 squeezes_S1x2x128_S2x128 _ (by unfold t2_trip.sl.dma0_1; rfl) g q
  have hr0 : t2_trip.sl.r (F := F) arg7 arg16 k0_t2 X7 = arg7.view.read (Elt F) X7 (ix3 (⟨k0_t2.val, t2_lt k0_t2⟩ : Fin 272) (0 : Fin 2) (⟨0, by omega⟩ : Fin 128)) := by
    unfold t2_trip.sl.r t2_trip.sl.f
    have e := blk_read arg7 arg16 X7 arg16.view.junk k0_t2 squeezes_S1x2x128_S2x128 (t2_trip.sl.dma0 (F := F) arg7 k0_t2 X7) (by unfold t2_trip.sl.dma0; rfl) (0 : Fin 2) (⟨0, by omega⟩ : Fin 128)
    exact (wAt_eq arg16 _ 0 0 (by omega) (by omega)).trans e
  have kk : k0_chk6 (t2_trip.sl.r (F := F) arg7 arg16 k0_t2 X7) := chk6_of' _ (by rw [hr0]; exact (hX7 0 ⟨0, by omega⟩).bound)
  have hA' : ∀ x : S2x128.Idx, (arg16.view.read (Elt F) A x).toNat + 1799 < 65792 := fun x => by
    obtain ⟨g, q, rfl⟩ : ∃ (g : Fin 2) (q : Fin 128), x = ix2 g q := ⟨x 0, x 1, eq_ix2 x⟩
    rw [hAr]; exact (hX7 g q).bound
  have h6 : ∀ (g s : ℕ) (hg : g < 2) (hs : s < 128), k0_chk6 (wAt arg16 A g s hg hs) := fun g s hg hs => chk6_of' _ (hA' _)
  have hwA : ∀ (g s : ℕ) (hg : g < 2) (hs : s < 128), wAt arg16 A g s hg hs = arg7.view.read (Elt F) X7 (ix3 (⟨k0_t2.val, t2_lt k0_t2⟩ : Fin 272) (⟨g, hg⟩ : Fin 2) (⟨s, hs⟩ : Fin 128)) :=
    fun g s hg hs => (wAt_eq arg16 A g s hg hs).trans (hAr _ _)
  have tok := st_tok (F := F) arg13 arg14 arg16 arg17 Y A T hYD E R
    (fun x => arg7.view.read (Elt F) X7 (ix3 (⟨k0_t2.val, t2_lt k0_t2⟩ : Fin 272) (x 0) (x 1))) (fun x => arg8.view.read (Elt F) X8 (ix3 (⟨k0_t2.val, t2_lt k0_t2⟩ : Fin 272) (x 0) (x 1)))
    hX7 hAr hTr (Q := Z) hZ h6
  have tokA := fun (t : ℕ) (ht : t < 128) => tok t ht (wAt arg16 A 0 t (by omega) ht) (hwA 0 t (by omega) ht) (h6 0 t (by omega) ht)
  sl_exec (disch := first | sl_exact kk | exact chk6_of' _ (hA' _))
  have hS : ∀ f14 : BufTy.Contents (Elt F) arg14.view.ty, StInv Z 128 (arg14.view.read (Elt F) (arg14.view.writes (Elt F) f14 (t2_trip.sl.H14_128 (F := F) c arg7 arg13 arg16 arg17 k0_t2 X7 Y A T kk hA'))) := by
    intro f14
    unfold t2_trip.sl.H14_128
    refine tokA 127 (by omega) _ _ _ _ _ (by sl_kernel_rfl) ?_
    refine tokA 126 (by omega) _ _ _ _ _ (by sl_kernel_rfl) ?_
    refine tokA 125 (by omega) _ _ _ _ _ (by sl_kernel_rfl) ?_
    refine tokA 124 (by omega) _ _ _ _ _ (by sl_kernel_rfl) ?_
    refine tokA 123 (by omega) _ _ _ _ _ (by sl_kernel_rfl) ?_
    refine tokA 122 (by omega) _ _ _ _ _ (by sl_kernel_rfl) ?_
    refine tokA 121 (by omega) _ _ _ _ _ (by sl_kernel_rfl) ?_
    refine tokA 120 (by omega) _ _ _ _ _ (by sl_kernel_rfl) ?_
    refine tokA 119 (by omega) _ _ _ _ _ (by sl_kernel_rfl) ?_
    refine tokA 118 (by omega) _ _ _ _ _ (by sl_kernel_rfl) ?_
    refine tokA 117 (by omega) _ _ _ _ _ (by sl_kernel_rfl) ?_
    refine tokA 116 (by omega) _ _ _ _ _ (by sl_kernel_rfl) ?_
    refine tokA 115 (by omega) _ _ _ _ _ (by sl_kernel_rfl) ?_
    refine tokA 114 (by omega) _ _ _ _ _ (by sl_kernel_rfl) ?_
    refine tokA 113 (by omega) _ _ _ _ _ (by sl_kernel_rfl) ?_
    refine tokA 112 (by omega) _ _ _ _ _ (by sl_kernel_rfl) ?_
    refine tokA 111 (by omega) _ _ _ _ _ (by sl_kernel_rfl) ?_
    refine tokA 110 (by omega) _ _ _ _ _ (by sl_kernel_rfl) ?_
    refine tokA 109 (by omega) _ _ _ _ _ (by sl_kernel_rfl) ?_
    refine tokA 108 (by omega) _ _ _ _ _ (by sl_kernel_rfl) ?_
    refine tokA 107 (by omega) _ _ _ _ _ (by sl_kernel_rfl) ?_
    refine tokA 106 (by omega) _ _ _ _ _ (by sl_kernel_rfl) ?_
    refine tokA 105 (by omega) _ _ _ _ _ (by sl_kernel_rfl) ?_
    refine tokA 104 (by omega) _ _ _ _ _ (by sl_kernel_rfl) ?_
    refine tokA 103 (by omega) _ _ _ _ _ (by sl_kernel_rfl) ?_
    refine tokA 102 (by omega) _ _ _ _ _ (by sl_kernel_rfl) ?_
    refine tokA 101 (by omega) _ _ _ _ _ (by sl_kernel_rfl) ?_
    refine tokA 100 (by omega) _ _ _ _ _ (by sl_kernel_rfl) ?_
    refine tokA 99 (by omega) _ _ _ _ _ (by sl_kernel_rfl) ?_
    refine tokA 98 (by omega) _ _ _ _ _ (by sl_kernel_rfl) ?_
    refine tokA 97 (by omega) _ _ _ _ _ (by sl_kernel_rfl) ?_
    refine tokA 96 (by omega) _ _ _ _ _ (by sl_kernel_rfl) ?_
    refine tokA 95 (by omega) _ _ _ _ _ (by sl_kernel_rfl) ?_
    refine tokA 94 (by omega) _ _ _ _ _ (by sl_kernel_rfl) ?_
    refine tokA 93 (by omega) _ _ _ _ _ (by sl_kernel_rfl) ?_
    refine tokA 92 (by omega) _ _ _ _ _ (by sl_kernel_rfl) ?_
    refine tokA 91 (by omega) _ _ _ _ _ (by sl_kernel_rfl) ?_
    refine tokA 90 (by omega) _ _ _ _ _ (by sl_kernel_rfl) ?_
    refine tokA 89 (by omega) _ _ _ _ _ (by sl_kernel_rfl) ?_
    refine tokA 88 (by omega) _ _ _ _ _ (by sl_kernel_rfl) ?_
    refine tokA 87 (by omega) _ _ _ _ _ (by sl_kernel_rfl) ?_
    refine tokA 86 (by omega) _ _ _ _ _ (by sl_kernel_rfl) ?_
    refine tokA 85 (by omega) _ _ _ _ _ (by sl_kernel_rfl) ?_
    refine tokA 84 (by omega) _ _ _ _ _ (by sl_kernel_rfl) ?_
    refine tokA 83 (by omega) _ _ _ _ _ (by sl_kernel_rfl) ?_
    refine tokA 82 (by omega) _ _ _ _ _ (by sl_kernel_rfl) ?_
    refine tokA 81 (by omega) _ _ _ _ _ (by sl_kernel_rfl) ?_
    refine tokA 80 (by omega) _ _ _ _ _ (by sl_kernel_rfl) ?_
    refine tokA 79 (by omega) _ _ _ _ _ (by sl_kernel_rfl) ?_
    refine tokA 78 (by omega) _ _ _ _ _ (by sl_kernel_rfl) ?_
    refine tokA 77 (by omega) _ _ _ _ _ (by sl_kernel_rfl) ?_
    refine tokA 76 (by omega) _ _ _ _ _ (by sl_kernel_rfl) ?_
    refine tokA 75 (by omega) _ _ _ _ _ (by sl_kernel_rfl) ?_
    refine tokA 74 (by omega) _ _ _ _ _ (by sl_kernel_rfl) ?_
    refine tokA 73 (by omega) _ _ _ _ _ (by sl_kernel_rfl) ?_
    refine tokA 72 (by omega) _ _ _ _ _ (by sl_kernel_rfl) ?_
    refine tokA 71 (by omega) _ _ _ _ _ (by sl_kernel_rfl) ?_
    refine tokA 70 (by omega) _ _ _ _ _ (by sl_kernel_rfl) ?_
    refine tokA 69 (by omega) _ _ _ _ _ (by sl_kernel_rfl) ?_
    refine tokA 68 (by omega) _ _ _ _ _ (by sl_kernel_rfl) ?_
    refine tokA 67 (by omega) _ _ _ _ _ (by sl_kernel_rfl) ?_
    refine tokA 66 (by omega) _ _ _ _ _ (by sl_kernel_rfl) ?_
    refine tokA 65 (by omega) _ _ _ _ _ (by sl_kernel_rfl) ?_
    refine tokA 64 (by omega) _ _ _ _ _ (by sl_kernel_rfl) ?_
    refine tokA 63 (by omega) _ _ _ _ _ (by sl_kernel_rfl) ?_
    refine tokA 62 (by omega) _ _ _ _ _ (by sl_kernel_rfl) ?_
    refine tokA 61 (by omega) _ _ _ _ _ (by sl_kernel_rfl) ?_
    refine tokA 60 (by omega) _ _ _ _ _ (by sl_kernel_rfl) ?_
    refine tokA 59 (by omega) _ _ _ _ _ (by sl_kernel_rfl) ?_
    refine tokA 58 (by omega) _ _ _ _ _ (by sl_kernel_rfl) ?_
    refine tokA 57 (by omega) _ _ _ _ _ (by sl_kernel_rfl) ?_
    refine tokA 56 (by omega) _ _ _ _ _ (by sl_kernel_rfl) ?_
    refine tokA 55 (by omega) _ _ _ _ _ (by sl_kernel_rfl) ?_
    refine tokA 54 (by omega) _ _ _ _ _ (by sl_kernel_rfl) ?_
    refine tokA 53 (by omega) _ _ _ _ _ (by sl_kernel_rfl) ?_
    refine tokA 52 (by omega) _ _ _ _ _ (by sl_kernel_rfl) ?_
    refine tokA 51 (by omega) _ _ _ _ _ (by sl_kernel_rfl) ?_
    refine tokA 50 (by omega) _ _ _ _ _ (by sl_kernel_rfl) ?_
    refine tokA 49 (by omega) _ _ _ _ _ (by sl_kernel_rfl) ?_
    refine tokA 48 (by omega) _ _ _ _ _ (by sl_kernel_rfl) ?_
    refine tokA 47 (by omega) _ _ _ _ _ (by sl_kernel_rfl) ?_
    refine tokA 46 (by omega) _ _ _ _ _ (by sl_kernel_rfl) ?_
    refine tokA 45 (by omega) _ _ _ _ _ (by sl_kernel_rfl) ?_
    refine tokA 44 (by omega) _ _ _ _ _ (by sl_kernel_rfl) ?_
    refine tokA 43 (by omega) _ _ _ _ _ (by sl_kernel_rfl) ?_
    refine tokA 42 (by omega) _ _ _ _ _ (by sl_kernel_rfl) ?_
    refine tokA 41 (by omega) _ _ _ _ _ (by sl_kernel_rfl) ?_
    refine tokA 40 (by omega) _ _ _ _ _ (by sl_kernel_rfl) ?_
    refine tokA 39 (by omega) _ _ _ _ _ (by sl_kernel_rfl) ?_
    refine tokA 38 (by omega) _ _ _ _ _ (by sl_kernel_rfl) ?_
    refine tokA 37 (by omega) _ _ _ _ _ (by sl_kernel_rfl) ?_
    refine tokA 36 (by omega) _ _ _ _ _ (by sl_kernel_rfl) ?_
    refine tokA 35 (by omega) _ _ _ _ _ (by sl_kernel_rfl) ?_
    refine tokA 34 (by omega) _ _ _ _ _ (by sl_kernel_rfl) ?_
    refine tokA 33 (by omega) _ _ _ _ _ (by sl_kernel_rfl) ?_
    refine tokA 32 (by omega) _ _ _ _ _ (by sl_kernel_rfl) ?_
    refine tokA 31 (by omega) _ _ _ _ _ (by sl_kernel_rfl) ?_
    refine tokA 30 (by omega) _ _ _ _ _ (by sl_kernel_rfl) ?_
    refine tokA 29 (by omega) _ _ _ _ _ (by sl_kernel_rfl) ?_
    refine tokA 28 (by omega) _ _ _ _ _ (by sl_kernel_rfl) ?_
    refine tokA 27 (by omega) _ _ _ _ _ (by sl_kernel_rfl) ?_
    refine tokA 26 (by omega) _ _ _ _ _ (by sl_kernel_rfl) ?_
    refine tokA 25 (by omega) _ _ _ _ _ (by sl_kernel_rfl) ?_
    refine tokA 24 (by omega) _ _ _ _ _ (by sl_kernel_rfl) ?_
    refine tokA 23 (by omega) _ _ _ _ _ (by sl_kernel_rfl) ?_
    refine tokA 22 (by omega) _ _ _ _ _ (by sl_kernel_rfl) ?_
    refine tokA 21 (by omega) _ _ _ _ _ (by sl_kernel_rfl) ?_
    refine tokA 20 (by omega) _ _ _ _ _ (by sl_kernel_rfl) ?_
    refine tokA 19 (by omega) _ _ _ _ _ (by sl_kernel_rfl) ?_
    refine tokA 18 (by omega) _ _ _ _ _ (by sl_kernel_rfl) ?_
    refine tokA 17 (by omega) _ _ _ _ _ (by sl_kernel_rfl) ?_
    refine tokA 16 (by omega) _ _ _ _ _ (by sl_kernel_rfl) ?_
    refine tokA 15 (by omega) _ _ _ _ _ (by sl_kernel_rfl) ?_
    refine tokA 14 (by omega) _ _ _ _ _ (by sl_kernel_rfl) ?_
    refine tokA 13 (by omega) _ _ _ _ _ (by sl_kernel_rfl) ?_
    refine tokA 12 (by omega) _ _ _ _ _ (by sl_kernel_rfl) ?_
    refine tokA 11 (by omega) _ _ _ _ _ (by sl_kernel_rfl) ?_
    refine tokA 10 (by omega) _ _ _ _ _ (by sl_kernel_rfl) ?_
    refine tokA 9 (by omega) _ _ _ _ _ (by sl_kernel_rfl) ?_
    refine tokA 8 (by omega) _ _ _ _ _ (by sl_kernel_rfl) ?_
    refine tokA 7 (by omega) _ _ _ _ _ (by sl_kernel_rfl) ?_
    refine tokA 6 (by omega) _ _ _ _ _ (by sl_kernel_rfl) ?_
    refine tokA 5 (by omega) _ _ _ _ _ (by sl_kernel_rfl) ?_
    refine tokA 4 (by omega) _ _ _ _ _ (by sl_kernel_rfl) ?_
    refine tokA 3 (by omega) _ _ _ _ _ (by sl_kernel_rfl) ?_
    refine tokA 2 (by omega) _ _ _ _ _ (by sl_kernel_rfl) ?_
    refine tokA 1 (by omega) _ _ _ _ _ (by sl_kernel_rfl) ?_
    refine tok 0 (by omega) (t2_trip.sl.r (F := F) arg7 arg16 k0_t2 X7) hr0 kk _ _ _ _ _ (by sl_kernel_rfl) ?_
    exact st_nil _ _
  have hO' : OutStep (i 0).val k0_t2.val (fun s col x => ∃ v, Z s col v ∧ x = FloatOps.truncf .bf16 bitsLt_bf16_f32 v) (arg9.view.read (Elt F) O)
      (arg9.view.read (Elt F) (t2_trip.sl.H9_w0 (F := F) c i arg7 arg9 arg13 arg14 arg15 arg16 arg17 k0_t2 X7 Y O f14 f15 A T kk hA')) := by
    unfold t2_trip.sl.H9_w0
    refine out_read i k0_t2 arg9 O (t2_trip.sl.dma1047 (F := F) c arg7 arg13 arg14 arg15 arg16 arg17 k0_t2 X7 Y f14 f15 A T kk hA') _ (fun s col => ?_) (k0_off294_inb i k0_t2)
    unfold t2_trip.sl.dma1047 t2_trip.sl.H15_8
    have hc := chunk_row (F := F) arg14 _ (hS f14)
    have hc0 := chunk_row (F := F) arg14 _ (hS arg14.view.junk)
    exact os_read arg15 f15 (fun s col x => ∃ v, Z s col v ∧ x = FloatOps.truncf .bf16 bitsLt_bf16_f32 v) _ _ _ _ _ _ _ _ _ _ _ _ _ _ _ _
      (hc0 0 (by omega) inb_S1032x128_S128x128_0_0) (hc 1 (by omega) inb_S1032x128_S128x128_129_0) (hc 2 (by omega) inb_S1032x128_S128x128_258_0)
      (hc 3 (by omega) inb_S1032x128_S128x128_387_0) (hc 4 (by omega) inb_S1032x128_S128x128_516_0) (hc 5 (by omega) inb_S1032x128_S128x128_645_0)
      (hc 6 (by omega) inb_S1032x128_S128x128_774_0) (hc 7 (by omega) inb_S1032x128_S128x128_903_0) s col
  have hdn : doneAt off np k0_t2.val 16 = doneAt off np k0_t2.val 16 := rfl
  sl_step
  isplitl [H1]
  · iexact H1
  isplitl [H13 H18]
  · iexists _, _
    isplitl [H13]
    · iexact H13
    isplitl [H18]
    · iexact H18
    ipureintro
    exact ring_next hf hYD
  isplitl [H2 H3 H4 H6 H10 H11 H12 Hs20 Hs21 HW]
  · iexists _; iexists _; iexists _
    sl_close
  iexists _; iexists _; iexists _; iexists _; iexists _
  isplitl [H7]
  · iexact H7
  isplitl [H8]
  · iexact H8
  isplitl [H9]
  · iexact H9
  isplitl [H14]
  · iexact H14
  isplitl [H15]
  · iexact H15
  isplitl [H16]
  · iexact H16
  isplitl [H17]
  · iexact H17
  isplitl [Hs22]
  · iexact Hs22
  isplitl [Hs23]
  · iexact Hs23
  isplitl [Hs24]
  · iexact Hs24
  ipureintro
  exact hJ _ _ hO hO'

end Cert.Kernel.Hand
-- ==== Proof.Bits.T1.lean ====
module

public import proofs.«01_k».proof.Proof.Bits.T3

@[expose] public section

set_option maxRecDepth 8192
set_option maxHeartbeats 40000000

noncomputable section

namespace Cert.Kernel.Hand

open Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The first `k` words of rows done are where the experts' rows begin, rounded down. -/
def DoneTo (off : ℕ → ℕ) (k : ℕ) (D : S16.Idx → Elt F .i32) : Prop := ∀ x : S16.Idx, (x 0).val < k → D x = BitVec.ofNat 32 (al (off (x 0).val))

theorem t1_trip (k : Fin k0_t1_loop.trips) (acc : Unit) (X2 : BufTy.Contents (Elt F) arg2.view.ty) (off : ℕ → ℕ) (hoff : ∀ e, e < 16 → off e ≤ 69632)
    (hX2 : ∀ x : S16.Idx, arg2.view.read (Elt F) X2 x = BitVec.ofNat 32 (off (x 0).val)) :
    iprop((arg2.view.loc (c : Thread nD τ) ↦[arg2.view.set]{fullShare} X2) ∗ Ring4 c arg13 arg18 (fun _ D => DoneTo off k.val D))
    ⊢ wp (M := 𝕄) frame (wpE (defs₀ (F := F)) Variants.none (c : Thread nD τ) none) (Set.univ : Set ℕ)
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k acc)
        (fun _ => iprop((arg2.view.loc (c : Thread nD τ) ↦[arg2.view.set]{fullShare} X2) ∗ Ring4 c arg13 arg18 (fun _ D => DoneTo off (k.val + 1) D))) := by
  unfold Ring4
  iintro ⟨H2, %Y, %D, H13, H18, %hD⟩
  unfold k0_t1_body
  sl_exec
  sl_step
  isplitl [H2]
  · iexact H2
  iexists _, _
  isplitl [H13]
  · iexact H13
  isplitl [H18]
  · iexact H18
  ipureintro
  intro x hx
  refine (View.read_writes_cons_cell arg18.view D _ _ [] x).trans ?_
  have h2 := off2_eq k
  have hk := t1_lt k
  have hr : arg2.view.readAt (Elt F) (Rect.unit (s := S16) (k0_off2 k) S1.size (k0_off2_inb k)).toLoadRect X2 (Shape.Idx.first (numel1_S1.symm ▸ Nat.one_pos)) = BitVec.ofNat 32 (off k.val) := by
    refine (hX2 _).trans ?_
    congr 2
    show k0_off2 k 0 + 1 * 0 = k.val
    rw [h2]; rfl
  have e0 : k0_off2 k 0 = k.val := congrFun h2 0
  rw [e0]
  split
  · next he =>
    rw [he]
    show Scalar.andi (arg2.view.readAt (Elt F) (Rect.unit (s := S16) (k0_off2 k) S1.size (k0_off2_inb k)).toLoadRect X2 (Shape.Idx.first (numel1_S1.symm ▸ Nat.one_pos))) 4294967264#32 = _
    rw [hr]
    have := hoff k.val hk
    exact w_andi_m32 _ (by omega)
  · next he => exact hD x (by omega)

theorem t1_loop_wp (ok) (X2 : BufTy.Contents (Elt F) arg2.view.ty) (off : ℕ → ℕ) (hoff : ∀ e, e < 16 → off e ≤ 69632)
    (hX2 : ∀ x : S16.Idx, arg2.view.read (Elt F) X2 x = BitVec.ofNat 32 (off (x 0).val)) :
    iprop((arg2.view.loc (c : Thread nD τ) ↦[arg2.view.set]{fullShare} X2) ∗ Ring4 c arg13 arg18 (fun _ D => DoneTo off 0 D))
    ⊢ wp (M := 𝕄) frame (wpE (defs₀ (F := F)) Variants.none (c : Thread nD τ) none) (Set.univ : Set ℕ)
        (Scf.Loop.for k0_t1_loop ok PUnit.unit (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24))
        (fun _ => iprop((arg2.view.loc (c : Thread nD τ) ↦[arg2.view.set]{fullShare} X2) ∗ Ring4 c arg13 arg18 (fun _ D => DoneTo off 16 D))) := by
  refine BIBase.Entails.trans ?_ (Scf.wp_for frame _ _ _ _ _ ok PUnit.unit _
    (fun k _ => iprop((arg2.view.loc (c : Thread nD τ) ↦[arg2.view.set]{fullShare} X2) ∗ Ring4 c arg13 arg18 (fun _ D => DoneTo off k D)))
    (fun k acc => t1_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k acc X2 off hoff hX2))
  iintro H
  isplitl [H]
  · iexact H
  · iintro %acc H
    have e1 := t1_trips
    simp only [Scf.Loop.trips] at e1
    rw [e1]
    iexact H

theorem ring_start {P : ℕ → ℕ → ℕ → Elt F .f32 → Prop} {off : ℕ → ℕ} {np : ℕ → ℕ → ℕ} (hf : HF off np) {Y : S65792x128.Idx → Elt F .f32} {D : S16.Idx → Elt F .i32}
    (h : DoneTo off 16 D) : RingInv P off (doneAt off np 0 0) Y D := by
  have e : ∀ e, e < 16 → doneAt off np 0 0 e = al (off e) := fun e he => by
    simp only [doneAt, Nat.not_lt_zero, if_false, dn]
    have := hf.np0 e he
    rw [this]; omega
  refine ⟨fun x => ?_, fun e' r cc z he hcc h1 h2 => ?_⟩
  · rw [h x (x 0).isLt, e _ (x 0).isLt]
  · rw [e e' he] at h2; omega

/-- The strip of weights as copied in. -/
theorem strip_read (M5 : Memref sig .tc .hbm S16x1536x3072 .fp8e4m3) (M10 : Memref sig .tc .vmem S16x1536x1024 .fp8e4m3)
    (X5 : BufTy.Contents (Elt F) M5.view.ty) (f10 : BufTy.Contents (Elt F) M10.view.ty) (w : S16x1536x1024.Idx → Elt F .fp8e4m3)
    (hw : w = View.read (Elt F) (M5.slice (Rect.unit (s := S16x1536x3072) (k0_off1 i) S16x1536x1024.size (k0_off1_inb i)) (fun _ => rfl)).view X5)
    (e : Fin 16) (k : Fin 1536) (n : Fin 1024) (hn : (i 0).val * 1024 + n.val < 3072) :
    M10.view.read (Elt F) (M10.view.writes (Elt F) f10 [⟨Rect.whole S16x1536x1024, w⟩]) (ix3 e k n)
    = M5.view.read (Elt F) X5 (ix3 e k (⟨(i 0).val * 1024 + n.val, hn⟩ : Fin 3072)) := by
  have e1 : (ix3 e k n : S16x1536x1024.Idx) = (Rect.whole S16x1536x1024).emb (ix3 e k n) := by
    funext a
    fin_cases a
    · exact Fin.ext (by show e.val = 0 + 1 * e.val; omega)
    · exact Fin.ext (by show k.val = 0 + 1 * k.val; omega)
    · exact Fin.ext (by show n.val = 0 + 1 * n.val; omega)
  refine (congrArg (M10.view.read (Elt F) _) e1).trans ((View.read_writes_cons_emb M10.view f10 (Rect.whole S16x1536x1024) w [] (ix3 e k n)).trans ?_)
  subst hw
  refine congrArg (M5.view.read (Elt F) X5) ?_
  have h := off1_eq i
  funext a
  fin_cases a
  · refine Fin.ext ?_
    show k0_off1 i 0 + 1 * e.val = e.val
    rw [h]; show 0 + 1 * e.val = _; omega
  · refine Fin.ext ?_
    show k0_off1 i 1 + 1 * k.val = k.val
    rw [h]; show 0 + 1 * k.val = _; omega
  · refine Fin.ext ?_
    show k0_off1 i 2 + 1 * n.val = (i 0).val * 1024 + n.val
    rw [h]; show (i 0).val * 1024 + 1 * n.val = _; omega

end Cert.Kernel.Hand
-- ==== Proof.Bits.Body.lean ====
module

public import proofs.«01_k».proof.Proof.Bits.T2
public import proofs.«01_k».proof.Proof.Bits.T1

@[expose] public section

set_option maxRecDepth 8192
set_option maxHeartbeats 40000000

noncomputable section

namespace Cert.Kernel.Hand

open Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S272x16 .i32) (harg1 : arg1.IsWhole) (arg2 : Memref sig .tc .smem S16 .i32) (harg2 : arg2.IsWhole) (arg3 : Memref sig .tc .hbm S69632x1536 .fp8e4m3) (harg3 : arg3.IsWhole) (arg4 : Memref sig .tc .hbm S2176x2x128 .f32) (harg4 : arg4.IsWhole) (arg5 : Memref sig .tc .hbm S16x1536x3072 .fp8e4m3) (harg5 : arg5.IsWhole) (arg6 : Memref sig .tc .vmem S16x1x1024 .f32) (harg6 : arg6.IsWhole) (arg7 : Memref sig .tc .hbm S272x2x128 .i32) (harg7 : arg7.IsWhole) (arg8 : Memref sig .tc .hbm S272x2x128 .f32) (harg8 : arg8.IsWhole) (arg9 : Memref sig .tc .hbm S34816x3072 .bf16) (harg9 : arg9.IsWhole) (arg10 : Memref sig .tc .vmem S16x1536x1024 .fp8e4m3) (harg10 : arg10.IsWhole) (arg11 : Memref sig .tc .vmem S512x1536 .fp8e4m3) (harg11 : arg11.IsWhole) (arg12 : Memref sig .tc .vmem S2x128 .f32) (harg12 : arg12.IsWhole) (arg13 : Memref sig .tc .vmem S65792x128 .f32) (harg13 : arg13.IsWhole) (arg14 : Memref sig .tc .vmem S1032x128 .f32) (harg14 : arg14.IsWhole) (arg15 : Memref sig .tc .vmem S128x1024 .bf16) (harg15 : arg15.IsWhole) (arg16 : Memref sig .tc .smem S2x128 .i32) (harg16 : arg16.IsWhole) (arg17 : Memref sig .tc .smem S2x128 .f32) (harg17 : arg17.IsWhole) (arg18 : Memref sig .tc .smem S16 .i32) (harg18 : arg18.IsWhole) (arg19 : DmaSems sig S_) (arg20 : DmaSems sig S_) (arg21 : DmaSems sig S_) (arg22 : DmaSems sig S_) (arg23 : DmaSems sig S_) (arg24 : DmaSems sig S_)

/-- The result before block `b` of strip `n`: everything to the left of the strip, and the strip's rows above the block. -/
def OutInv (Qf : ℕ → ℕ → Elt F .bf16 → Prop) (n b : ℕ) (O : S34816x3072.Idx → Elt F .bf16) : Prop :=
  ∀ z : S34816x3072.Idx, ((z 1).val < n * 1024 ∨ ((z 1).val < n * 1024 + 1024 ∧ (z 0).val < b * 128)) → Qf (z 0).val (z 1).val (O z)

theorem OutInv.step {Qf : ℕ → ℕ → Elt F .bf16 → Prop} {n b : ℕ} {Z : ℕ → ℕ → Elt F .bf16 → Prop} {O O' : S34816x3072.Idx → Elt F .bf16}
    (h : OutInv Qf n b O) (hs : OutStep n b Z O O') (hQ : ∀ s col x, s < 128 → col < 1024 → Z s col x → Qf (b * 128 + s) (n * 1024 + col) x) : OutInv Qf n (b + 1) O' := by
  intro z hz
  by_cases hc : (z 1).val < n * 1024
  · rw [hs.miss z (by omega)]; exact h z (Or.inl hc)
  · by_cases hr : (z 0).val < b * 128
    · rw [hs.miss z (by omega)]; exact h z (by omega)
    · have e0 : (z 0).val = b * 128 + ((z 0).val - b * 128) := by omega
      have e1 : (z 1).val = n * 1024 + ((z 1).val - n * 1024) := by omega
      have := hQ ((z 0).val - b * 128) ((z 1).val - n * 1024) (O' z) (by omega) (by omega) (hs.hit z _ _ (by omega) (by omega) e0 e1)
      rw [← e0, ← e1] at this
      exact this

theorem OutInv.next {Qf : ℕ → ℕ → Elt F .bf16 → Prop} {n : ℕ} {O : S34816x3072.Idx → Elt F .bf16}
    (h : OutInv Qf n 272 O) : OutInv Qf (n + 1) 0 O := by
  intro z hz
  have : (z 0).val < 34816 := (z 0).isLt
  exact h z (by omega)

theorem OutInv.first {Qf : ℕ → ℕ → Elt F .bf16 → Prop} {O : S34816x3072.Idx → Elt F .bf16} : OutInv Qf 0 0 O := by
  intro z hz; omega

/-- What a token of a block and a column of the strip is due, from the two rows it takes. -/
def TokZ (P : ℕ → ℕ → ℕ → Elt F .f32 → Prop) (E R : ℕ → ℕ → ℕ → ℕ) (tw : S272x2x128.Idx → Elt F .f32) (b : ℕ) (hb : b < 272) (s col : ℕ) (v : Elt F .f32) : Prop :=
  ∃ (hs : s < 128) (y0 y1 : Elt F .f32), P (E b 0 s) (R b 0 s) col y0 ∧ P (E b 1 s) (R b 1 s) col y1 ∧
    v = FloatOps.addf (FloatOps.mulf y0 (tw (ix3 (⟨b, hb⟩ : Fin 272) (0 : Fin 2) (⟨s, hs⟩ : Fin 128)))) (FloatOps.mulf y1 (tw (ix3 (⟨b, hb⟩ : Fin 272) (1 : Fin 2) (⟨s, hs⟩ : Fin 128))))

/-- What the rows and weights of a strip must give the result. -/
def OutOK (P : ℕ → ℕ → ℕ → Elt F .f32 → Prop) (E R : ℕ → ℕ → ℕ → ℕ) (tw : S272x2x128.Idx → Elt F .f32) (Qf : ℕ → ℕ → Elt F .bf16 → Prop) (n : ℕ) : Prop :=
  ∀ (b : ℕ) (hb : b < 272) (s col : ℕ) (v : Elt F .f32), col < 1024 → TokZ P E R tw b hb s col v → Qf (b * 128 + s) (n * 1024 + col) (FloatOps.truncf .bf16 bitsLt_bf16_f32 v)

theorem t2_loop_wp (ok)
    (X1 : BufTy.Contents (Elt F) arg1.view.ty) (X2 : BufTy.Contents (Elt F) arg2.view.ty) (X3 : BufTy.Contents (Elt F) arg3.view.ty) (X4 : BufTy.Contents (Elt F) arg4.view.ty)
    (X6 : BufTy.Contents (Elt F) arg6.view.ty) (X10 : BufTy.Contents (Elt F) arg10.view.ty)
    (X7 : BufTy.Contents (Elt F) arg7.view.ty) (X8 : BufTy.Contents (Elt F) arg8.view.ty)
    (E R : ℕ → ℕ → ℕ → ℕ) (Qf : ℕ → ℕ → Elt F .bf16 → Prop) (P : ℕ → ℕ → ℕ → Elt F .f32 → Prop)
    (hP : PayOK P (arg3.view.read (Elt F) X3) (arg4.view.read (Elt F) X4) (arg6.view.read (Elt F) X6) (arg10.view.read (Elt F) X10))
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (b : Fin 272) (g : Fin 2) (s : Fin 128), TokOK off (doneAt off np b.val 16) (E b.val g.val s.val) (R b.val g.val s.val) (arg7.view.read (Elt F) X7 (ix3 b g s)))
    (hQ : OutOK P E R (arg8.view.read (Elt F) X8) Qf (i 0).val) :
    iprop((arg1.view.loc (c : Thread nD τ) ↦[arg1.view.set]{fullShare} X1) ∗ Ring4 c arg13 arg18 (RingInv P off (doneAt off np 0 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val 0))
    ⊢ wp (M := 𝕄) frame (wpE (defs₀ (F := F)) Variants.none (c : Thread nD τ) none) (Set.univ : Set ℕ)
        (Scf.Loop.for k0_t2_loop ok PUnit.unit (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24))
        (fun _ => iprop((arg1.view.loc (c : Thread nD τ) ↦[arg1.view.set]{fullShare} X1) ∗ Ring4 c arg13 arg18 (RingInv P off (doneAt off np 272 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val 272))) := by
  refine BIBase.Entails.trans ?_ (Scf.wp_for frame _ _ _ _ _ ok PUnit.unit _
    (fun k _ => iprop((arg1.view.loc (c : Thread nD τ) ↦[arg1.view.set]{fullShare} X1) ∗ Ring4 c arg13 arg18 (RingInv P off (doneAt off np k 0)) ∗ Rest4 c arg2 arg3 arg4 arg6 arg10 arg11 arg12 arg20 arg21 X2 X3 X4 X6 X10 ∗ Rest2 c arg7 arg8 arg9 arg14 arg15 arg16 arg17 arg22 arg23 arg24 X7 X8 (OutInv Qf (i 0).val k)))
    (fun k acc => t2_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k X1 X2 X3 X4 X6 X10 X7 X8 (OutInv Qf (i 0).val k.val) (OutInv Qf (i 0).val (k.val + 1)) (E k.val) (R k.val)
      (TokZ P E R (arg8.view.read (Elt F) X8) k.val (t2_lt k)) P hP off np hf hX1 hX2 (fun g s => hX7 ⟨k.val, t2_lt k⟩ g s)
      (fun s col y0 y1 hc h0 h1 => ⟨s.isLt, y0, y1, h0, h1, rfl⟩)
      (fun O O' hO hs => hO.step hs (fun s col x hs' hc hx => by
        obtain ⟨v, hv, rfl⟩ := hx
        exact hQ k.val (t2_lt k) s col v hc hv))))
  iintro H
  isplitl [H]
  · iexact H
  · iintro %acc H
    have e1 := t2_trips
    simp only [Scf.Loop.trips] at e1
    rw [e1]
    iexact H

/-- The buffers of one grid point besides the words needed: operands whole at their contents, the scratch at anything, counters at zero. -/
def Pt (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) : sProp 𝕄 :=
  iprop(∃ (f10 : BufTy.Contents (Elt F) arg10.view.ty) (f11 : BufTy.Contents (Elt F) arg11.view.ty) (f12 : BufTy.Contents (Elt F) arg12.view.ty) (W : Waits sig Unit),
    (arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg5.view.loc (c : Thread nD τ) ↦[arg5.view.set]{fullShare} X5) ∗
    (arg6.view.loc (c : Thread nD τ) ↦[arg6.view.set]{fullShare} X6) ∗
    (arg10.view.loc (c : Thread nD τ) ↦[arg10.view.set]{fullShare} f10) ∗
    (arg11.view.loc (c : Thread nD τ) ↦[arg11.view.set]{fullShare} f11) ∗
    (arg12.view.loc (c : Thread nD τ) ↦[arg12.view.set]{fullShare} f12) ∗
    semVal ((c : Thread nD τ), SemLoc.dma arg19.sem) 0 ∗ semVal ((c : Thread nD τ), SemLoc.dma arg20.sem) 0 ∗ semVal ((c : Thread nD τ), SemLoc.dma arg21.sem) 0 ∗ owes (c : Thread nD τ) 0 W)

theorem point_wp
    (X1 : BufTy.Contents (Elt F) arg1.view.ty) (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (X8 : BufTy.Contents (Elt F) arg8.view.ty)
    (E R : ℕ → ℕ → ℕ → ℕ) (Qf : ℕ → ℕ → Elt F .bf16 → Prop) (P : ℕ → ℕ → ℕ → Elt F .f32 → Prop)
    (hP : ∀ Wt : S16x1536x1024.Idx → Elt F .fp8e4m3, (∀ (e : Fin 16) (k : Fin 1536) (n : Fin 1024) (hn : (i 0).val * 1024 + n.val < 3072), Wt (ix3 e k n) = arg5.view.read (Elt F) X5 (ix3 e k (⟨(i 0).val * 1024 + n.val, hn⟩ : Fin 3072))) →
      PayOK P (arg3.view.read (Elt F) X3) (arg4.view.read (Elt F) X4) (arg6.view.read (Elt F) X6) Wt)
    (off : ℕ → ℕ) (np : ℕ → ℕ → ℕ) (hf : HF off np)
    (hX1 : ∀ x : S272x16.Idx, arg1.view.read (Elt F) X1 x = BitVec.ofNat 32 (np ((x 0).val + 1) (x 1).val))
    (hX2 : ∀ x : S16.Idx, arg2.view.read (Elt F) X2 x = BitVec.ofNat 32 (off (x 0).val))
    (hX7 : ∀ (b : Fin 272) (g : Fin 2) (s : Fin 128), TokOK off (doneAt off np b.val 16) (E b.val g.val s.val) (R b.val g.val s.val) (arg7.view.read (Elt F) X7 (ix3 b g s)))
    (hQ : OutOK P E R (arg8.view.read (Elt F) X8) Qf (i 0).val) :
    iprop((arg1.view.loc (c : Thread nD τ) ↦[arg1.view.set]{fullShare} X1) ∗ Ring4 c arg13 arg18 (fun _ _ => True) ∗ Pt c arg2 arg3 arg4 arg5 arg6 arg10 arg11 arg12 arg19 arg20 arg21 X2 X3 X4 X5 X6 ∗ Rest2 c arg7 arg8 arg9 arg14 arg15 arg16 arg17 arg22 arg23 arg24 X7 X8 (OutInv Qf (i 0).val 0))
    ⊢ wp (M := 𝕄) frame (wpE (defs₀ (F := F)) Variants.none (c : Thread nD τ) none) (Set.univ : Set ℕ)
        (cc0_moe_down_combine_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24)
        (fun _ => iprop((arg1.view.loc (c : Thread nD τ) ↦[arg1.view.set]{fullShare} X1) ∗ Ring4 c arg13 arg18 (fun _ _ => True) ∗ Pt c arg2 arg3 arg4 arg5 arg6 arg10 arg11 arg12 arg19 arg20 arg21 X2 X3 X4 X5 X6 ∗ Rest2 c arg7 arg8 arg9 arg14 arg15 arg16 arg17 arg22 arg23 arg24 X7 X8 (OutInv Qf ((i 0).val + 1) 0))) := by
  unfold Pt
  iintro ⟨H1, HR, ⟨%f10, %f11, %f12, %W, H2, H3, H4, H5, H6, H10, H11, H12, Hs19, Hs20, Hs21, HW⟩, HZ⟩
  unfold cc0_moe_down_combine_skel
  sl_exec
  have hT := t1_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t1_ok X2 off hf.off_le hX2
  iapply (seq_wp c hT)
  isplitl [H2 HR]
  · isplitl [H2]
    · iexact H2
    · unfold Ring4
      icases HR with ⟨%Y, %D, H13, H18, -⟩
      iexists _, _
      isplitl [H13]
      · iexact H13
      isplitl [H18]
      · iexact H18
      ipureintro
      intro x hx; omega
  iintro %a ⟨H2, HR⟩
  ihave HK := (keep c arg10 _) $$ H10
  icases HK with ⟨%X10, H10, %h10⟩
  have hP' := hP (arg10.view.read (Elt F) X10) (fun e k n hn => by
    rw [h10]
    exact strip_read i arg5 arg10 X5 arg10.view.junk (point_wp.sl.dma0 (F := F) i arg5 X5) (by unfold point_wp.sl.dma0; rfl) e k n hn)
  have hT2 := t2_loop_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 k0_t2_ok X1 X2 X3 X4 X6 X10 X7 X8 E R Qf P hP' off np hf hX1 hX2 hX7 hQ
  iapply (seq_wp c hT2)
  isplitl [H1 H2 H3 H4 H6 H10 H11 H12 Hs20 Hs21 HW HR HZ]
  · isplitl [H1]
    · iexact H1
    isplitl [HR]
    · unfold Ring4
      icases HR with ⟨%Y, %D, H13, H18, %hD⟩
      iexists _, _
      isplitl [H13]
      · iexact H13
      isplitl [H18]
      · iexact H18
      ipureintro
      exact ring_start hf hD
    isplitl [H2 H3 H4 H6 H10 H11 H12 Hs20 Hs21 HW]
    · unfold Rest4
      iexists _; iexists _; iexists _
      sl_close
    · iexact HZ
  iintro %a2 ⟨H1, HR, H4, HZ⟩
  unfold Ring4 Rest4 Rest2
  icases HR with ⟨%Y, %D, H13, H18, -⟩
  icases H4 with ⟨%g11, %g12, %W2, H2, H3, H4, H6, H10, H11, H12, Hs20, Hs21, HW⟩
  icases HZ with ⟨%O, %f14, %f15, %f16, %f17, H7, H8, H9, H14, H15, H16, H17, Hs22, Hs23, Hs24, %hO⟩
  sl_step
  isplitl [H1]
  · iexact H1
  isplitl [H13 H18]
  · iexists _, _
    isplitl [H13]
    · iexact H13
    isplitl [H18]
    · iexact H18
    ipureintro
    trivial
  isplitl [H2 H3 H4 H5 H6 H10 H11 H12 Hs19 Hs20 Hs21 HW]
  · iexists _; iexists _; iexists _; iexists _
    sl_close
  iexists _; iexists _; iexists _; iexists _; iexists _
  isplitl [H7]
  · iexact H7
  isplitl [H8]
  · iexact H8
  isplitl [H9]
  · iexact H9
  isplitl [H14]
  · iexact H14
  isplitl [H15]
  · iexact H15
  isplitl [H16]
  · iexact H16
  isplitl [H17]
  · iexact H17
  isplitl [Hs22]
  · iexact Hs22
  isplitl [Hs23]
  · iexact Hs23
  isplitl [Hs24]
  · iexact Hs24
  ipureintro
  exact hO.next

end Cert.Kernel.Hand
-- ==== Proof.Bits.Run.lean ====
module

public import proofs.«01_k».proof.Proof.Bits.Body
public import proofs.«01_k».proof.Proof.Gen.Kernel.Frame
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The five arrays the kernel reads where they are. -/
def H0 : Finset (Ref sig .tc) := {main_arg0, main_v67, main_arg3, main_v52, main_v54}
/-- The result, which the kernel writes where it is. -/
def R0 : Finset (Ref sig .tc) := {main_v69}

/-- The kernel's own six transfer counters. -/
abbrev osem0 : Fin 6 → SemLoc sig := fun j =>
  (![SemLoc.dma 4, SemLoc.dma 5, SemLoc.dma 6, SemLoc.dma 7, SemLoc.dma 8, SemLoc.dma 9] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5] (by decide) (by decide)]; rfl

theorem H0_sub : H0 ⊆ Pipeline.restRefs sig spec0 := by decide
theorem R0_sub : R0 ⊆ Pipeline.restRefs sig spec0 \ H0 := by decide

/-- A buffer held whole at given contents. -/
abbrev hbPt0 (c : Dev nD) (b : Ref sig .tc) (f : Buf (Elt F) ((c : Thread nD τ).loc b)) : sProp 𝕄 :=
  ((c : Thread nD τ).loc b) ↦{fullShare} f

theorem hbmPts0_eq (c : Dev nD) :
    (bigSep H0 (fun b => ((c : Thread nD τ).loc b) ↦{fullShare} V m c b) : sProp 𝕄)
      = iprop(hbPt0 c main_arg0 (V m c main_arg0) ∗ hbPt0 c main_v67 (V m c main_v67) ∗ hbPt0 c main_arg3 (V m c main_arg3)
          ∗ hbPt0 c main_v52 (V m c main_v52) ∗ hbPt0 c main_v54 (V m c main_v54)) := by
  rw [BI.bigSep_eq_bigSepL_of_eq [main_arg0, main_v67, main_arg3, main_v52, main_v54] (by decide) (by decide)]; rfl

theorem routed0_eq (c : Dev nD) (W : (b : Ref sig .tc) → Buf (Elt F) ((c.tc : Thread nD τ).loc b)) :
    (Pipeline.routed R0 c W : sProp 𝕄) = hbPt0 c main_v69 (W main_v69) := by
  unfold Pipeline.routed; rw [BI.bigSep_eq_bigSepL_of_eq [main_v69] (by decide) (by decide)]; rfl

theorem ownedPts0_eq (c : Dev nD) :
    (Pipeline.owned R0 c : sProp 𝕄) = iprop(∃ f, hbPt0 c main_v69 f) := by
  unfold Pipeline.owned; rw [BI.bigSep_eq_bigSepL_of_eq [main_v69] (by decide) (by decide)]; rfl

/-- The kernel's scratch, each buffer whole at some contents. -/
def scr0 (c : Dev nD) : sProp 𝕄 :=
  iprop((∃ f, hbPt0 (F := F) c cc0_scratch0 f) ∗ (∃ f, hbPt0 (F := F) c cc0_scratch1 f) ∗ (∃ f, hbPt0 (F := F) c cc0_scratch2 f)
    ∗ (∃ f, hbPt0 (F := F) c cc0_scratch3 f) ∗ (∃ f, hbPt0 (F := F) c cc0_scratch4 f) ∗ (∃ f, hbPt0 (F := F) c cc0_scratch5 f)
    ∗ (∃ f, hbPt0 (F := F) c cc0_scratch6 f) ∗ (∃ f, hbPt0 (F := F) c cc0_scratch7 f) ∗ (∃ f, hbPt0 (F := F) c cc0_scratch8 f))

theorem scr0_eq (c : Dev nD) :
    (Pipeline.scopedRest (Ix := Unit) (Name := ℕ) (U := Pipeline.UD sig nD τ) (Lvl := ℕ) (Val := Elt F) spec0 c : sProp 𝕄) = scr0 c := by
  rw [scopedRest0_eq]; rfl

/-- What the body keeps from point to point: the scratch, the generator register, the counters at zero, the arrays it
    reads, and the result right on the strips done. -/
def PhiN (Qf : ℕ → ℕ → Elt F .bf16 → Prop) (c : Dev nD) (n : ℕ) : sProp 𝕄 :=
  iprop(scr0 c ∗ (∃ r, prngReg c r)
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V m c b)
    ∗ ∃ O : S34816x3072.Idx → Elt F .bf16, hbPt0 c main_v69 O ∗ ⌜OutInv Qf n 0 O⌝)

variable (Qf : Dev nD → ℕ → ℕ → Elt F .bf16 → Prop)

/-- The proof data: the three staged inputs as they are, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiN m (Qf c) c t.val
  q _ := fullShare
  owed _ := 0

theorem A_eq (c : Dev nD) (w : Fin cfg0.W) : (dats m Qf 0 c).A w = V m c (Pipeline.arrRef spec0 w) := by
  dsimp only [dats]
theorem after_0 (c : Dev nD) (t : Fin cfg0.N) : (dats m Qf 0 c).after 0 t = iblk m c 0 t := by dsimp only [dats]
theorem after_1 (c : Dev nD) (t : Fin cfg0.N) : (dats m Qf 0 c).after 1 t = iblk m c 1 t := by dsimp only [dats]
theorem after_2 (c : Dev nD) (t : Fin cfg0.N) : (dats m Qf 0 c).after 2 t = iblk m c 2 t := by dsimp only [dats]

theorem before_0 (c : Dev nD) (t : Fin cfg0.N) (d) : (dats m Qf 0 c).before 0 t d = iblk m c 0 t :=
  ((dats m Qf 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m Qf 0 c).before 1 t d = iblk m c 1 t :=
  ((dats m Qf 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m Qf 0 c).before 2 t d = iblk m c 2 t :=
  ((dats m Qf 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

set_option maxHeartbeats 800000 in
/-- The program up to the kernel. -/
theorem hmainU (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- What the arrays the body reads must be for it to be right at strip `n`. -/
structure PtOK (n : ℕ) (A1 : S272x16.Idx → Elt F .i32) (A2 : S16.Idx → Elt F .i32) (A3 : S69632x1536.Idx → Elt F .fp8e4m3) (A4 : S2176x2x128.Idx → Elt F .f32)
    (A5 : S16x1536x3072.Idx → Elt F .fp8e4m3) (A6 : S16x1x1024.Idx → Elt F .f32) (A7 : S272x2x128.Idx → Elt F .i32) (A8 : S272x2x128.Idx → Elt F .f32)
    (q : ℕ → ℕ → Elt F .bf16 → Prop) (off : ℕ → ℕ) (np : ℕ → ℕ → ℕ) (E R : ℕ → ℕ → ℕ → ℕ) (P : ℕ → ℕ → ℕ → Elt F .f32 → Prop) : Prop where
  hf : HF off np
  hX1 : ∀ x : S272x16.Idx, A1 x = BitVec.ofNat 32 (np ((x 0).val + 1) (x 1).val)
  hX2 : ∀ x : S16.Idx, A2 x = BitVec.ofNat 32 (off (x 0).val)
  hX7 : ∀ (b : Fin 272) (g : Fin 2) (s : Fin 128), TokOK off (doneAt off np b.val 16) (E b.val g.val s.val) (R b.val g.val s.val) (A7 (ix3 b g s))
  hP : ∀ Wt : S16x1536x1024.Idx → Elt F .fp8e4m3, (∀ (e : Fin 16) (k : Fin 1536) (j : Fin 1024) (hn : n * 1024 + j.val < 3072), Wt (ix3 e k j) = A5 (ix3 e k (⟨n * 1024 + j.val, hn⟩ : Fin 3072))) →
      PayOK P A3 A4 A6 Wt
  hQ : OutOK P E R A8 q n

/-- What the arrays the host prepares must be for the body to be right at core `c`. -/
def HostOK (c : Dev nD) (off : ℕ → ℕ) (np : ℕ → ℕ → ℕ) (E R : ℕ → ℕ → ℕ → ℕ) (P : ℕ → ℕ → ℕ → ℕ → Elt F .f32 → Prop) : Prop :=
  ∀ t : Fin cfg0.N, PtOK t.val (iblk m c 0 t) (iblk m c 1 t) (V m c main_arg0) (V m c main_v67) (V m c main_arg3) (iblk m c 2 t) (V m c main_v52) (V m c main_v54) (Qf c) off np E R (P t.val)

theorem coord0 (t : Fin cfg0.N) : (grid0.coords t 0).val = t.val := by
  revert t; decide

def bodyPre (c : Dev nD) (t : Fin cfg0.N) : sProp 𝕄 :=
  iprop((dats m Qf 0 c).Φ t.castSucc ∗ (dats m Qf 0 c).owesAt () t.castSucc
    ∗ (∃ d, owns (c : Thread nD τ) (st0_0 t) fullShare ((dats m Qf 0 c).before 0 t d))
    ∗ (∃ d, owns (c : Thread nD τ) (st0_1 t) fullShare ((dats m Qf 0 c).before 1 t d))
    ∗ (∃ d, owns (c : Thread nD τ) (st0_2 t) fullShare ((dats m Qf 0 c).before 2 t d)))
def bodyPost (c : Dev nD) (t : Fin cfg0.N) : sProp 𝕄 :=
  iprop((dats m Qf 0 c).Φ t.succ ∗ (dats m Qf 0 c).owesAt () t.succ
    ∗ owns (c : Thread nD τ) (st0_0 t) fullShare ((dats m Qf 0 c).after 0 t)
    ∗ owns (c : Thread nD τ) (st0_1 t) fullShare ((dats m Qf 0 c).after 1 t)
    ∗ owns (c : Thread nD τ) (st0_2 t) fullShare ((dats m Qf 0 c).after 2 t))

/-- A run of a program proved between two assertions, to any postcondition that follows. -/
theorem wp_to (c : Dev nD) {α : Type} {p : Prog (TpuEff nD τ sig (Elt F) Λ₀ .tc) α} {A B : sProp 𝕄} (h : A ⊢ wp frame (wpE (defs₀ (F := F)) Variants.none (c : Thread nD τ) none) Set.univ p (fun _ => B))
    {Q : α → sProp 𝕄} :
    iprop(A ∗ (∀ a, B -∗ Q a)) ⊢ wp frame (wpE (defs₀ (F := F)) Variants.none (c : Thread nD τ) none) Set.univ p Q := by
  iintro ⟨HA, HK⟩
  iapply (wp_wand_r frame _ _)
  isplitl [HA]
  · iapply h; iexact HA
  · iintro %a HB
    iapply HK; iexact HB

/-- What a point of the grid holds besides the staged inputs, with the result at `O`. -/
def ptPre (c : Dev nD) (X3 : Buf (Elt F) ((c : Thread nD τ).loc main_arg0)) (X4 : Buf (Elt F) ((c : Thread nD τ).loc main_v67)) (X5 : Buf (Elt F) ((c : Thread nD τ).loc main_arg3))
    (X7 : Buf (Elt F) ((c : Thread nD τ).loc main_v52)) (X8 : Buf (Elt F) ((c : Thread nD τ).loc main_v54)) (q : ℕ → ℕ → Elt F .bf16 → Prop) (n : ℕ) : sProp 𝕄 :=
  iprop(scr0 c ∗ (semVal ((c : Thread nD τ), SemLoc.dma 4) 0 ∗ semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0 ∗ semVal ((c : Thread nD τ), SemLoc.dma 9) 0)
      ∗ (hbPt0 c main_arg0 X3 ∗ hbPt0 c main_v67 X4 ∗ hbPt0 c main_arg3 X5 ∗ hbPt0 c main_v52 X7 ∗ hbPt0 c main_v54 X8)
      ∗ (∃ O : S34816x3072.Idx → Elt F .bf16, hbPt0 c main_v69 O ∗ ⌜OutInv q n 0 O⌝) ∗ (∃ W : Waits sig Unit, owes (c : Thread nD τ) 0 W))

set_option maxHeartbeats 4000000 in
theorem body_at (c : Dev nD) (t : Fin cfg0.N) (A1 : S272x16.Idx → Elt F .i32) (A2 : S16.Idx → Elt F .i32) (A6 : S16x1x1024.Idx → Elt F .f32)
    (X3 : Buf (Elt F) ((c : Thread nD τ).loc main_arg0)) (X4 : Buf (Elt F) ((c : Thread nD τ).loc main_v67)) (X5 : Buf (Elt F) ((c : Thread nD τ).loc main_arg3))
    (X7 : Buf (Elt F) ((c : Thread nD τ).loc main_v52)) (X8 : Buf (Elt F) ((c : Thread nD τ).loc main_v54)) (q : ℕ → ℕ → Elt F .bf16 → Prop)
    {off : ℕ → ℕ} {np : ℕ → ℕ → ℕ} {E R : ℕ → ℕ → ℕ → ℕ} {P : ℕ → ℕ → ℕ → Elt F .f32 → Prop}
    (hok : PtOK t.val A1 A2 X3 X4 X5 A6 X7 X8 q off np E R P) :
    iprop(ptPre c X3 X4 X5 X7 X8 q t.val ∗ owns (c : Thread nD τ) (st0_0 t) fullShare A1 ∗ owns (c : Thread nD τ) (st0_1 t) fullShare A2 ∗ owns (c : Thread nD τ) (st0_2 t) fullShare A6)
    ⊢ wp (M := 𝕄) frame (wpE (defs₀ (F := F)) Variants.none (c : Thread nD τ) none) (Set.univ : Set ℕ) (bodyAt0 t)
        (fun _ => iprop(ptPre c X3 X4 X5 X7 X8 q (t.val + 1) ∗ owns (c : Thread nD τ) (st0_0 t) fullShare A1 ∗ owns (c : Thread nD τ) (st0_1 t) fullShare A2 ∗ owns (c : Thread nD τ) (st0_2 t) fullShare A6)) := by
  unfold bodyAt0 ptPre scr0 owns
  simp only [cc0_moe_down_combine_eq_skeleton]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, ⟨Hq4, Hq5, Hq6, Hq7, Hq8, Hq9⟩, ⟨H3, H4, H5, H7, H8⟩, ⟨%O, H9, %hO⟩, ⟨%W, HW⟩⟩, ⟨%X1, %hX1, H1⟩, ⟨%X2, %hX2, H2⟩, ⟨%X6, %hX6, H6⟩⟩
  have hT := point_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_arg0) (Memref.isWhole_whole _) (Memref.whole main_v67) (Memref.isWhole_whole _) (Memref.whole main_arg3) (Memref.isWhole_whole _) (win0_2.stage (cfg0.slots t 2)) (hstage0_2 ((cfg0.slots t 2).cast nbuf0_2)) (Memref.whole main_v52) (Memref.isWhole_whole _) (Memref.whole main_v54) (Memref.isWhole_whole _) (Memref.whole main_v69) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14
    X1 X2 X3 X4 X5 X6 X7 X8 E R q P
    (by
      intro Wt hW
      rw [hX6]
      refine hok.hP Wt (fun e k n hn => ?_)
      have := hW e k n (by rw [coord0]; exact hn)
      simp only [coord0] at this
      exact this) off np hok.hf
    (fun x => by rw [hX1]; exact hok.hX1 x) (fun x => by rw [hX2]; exact hok.hX2 x) hok.hX7
    (by rw [coord0]; exact hok.hQ)
  rw [coord0] at hT
  iapply (wp_to c hT)
  unfold Ring4 Pt Rest2
  simp only [Memref.view_whole, View.set_whole]
  isplitl [H10 H11 H12 H13 H14 H15 H16 H17 H18 Hq4 Hq5 Hq6 Hq7 Hq8 Hq9 H3 H4 H5 H7 H8 H9 HW H1 H2 H6]
  · isplitl [H1]
    · iexact H1
    isplitl [H13 H18]
    · iexists f13, f18
      isplitl [H13]; · iexact H13
      isplitl [H18]; · iexact H18
      ipureintro; trivial
    isplitl [H2 H3 H4 H5 H6 H10 H11 H12 Hq4 Hq5 Hq6 HW]
    · iexists f10, f11, f12, W
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [Hq4]; · iexact Hq4
      isplitl [Hq5]; · iexact Hq5
      isplitl [Hq6]; · iexact Hq6
      iexact HW
    · iexists O, f14, f15, f16, f17
      isplitl [H7]; · iexact H7
      isplitl [H8]; · iexact H8
      isplitl [H9]; · iexact H9
      isplitl [H14]; · iexact H14
      isplitl [H15]; · iexact H15
      isplitl [H16]; · iexact H16
      isplitl [H17]; · iexact H17
      isplitl [Hq7]; · iexact Hq7
      isplitl [Hq8]; · iexact Hq8
      isplitl [Hq9]; · iexact Hq9
      ipureintro; exact hO
  iintro %a ⟨H1, ⟨%g13, %g18, H13, H18, -⟩, ⟨%g10, %g11, %g12, %W', H2, H3, H4, H5, H6, H10, H11, H12, Hq4, Hq5, Hq6, HW⟩, ⟨%O', %g14, %g15, %g16, %g17, H7, H8, H9, H14, H15, H16, H17, Hq7, Hq8, Hq9, %hO'⟩⟩
  isplitl [H10 H11 H12 H13 H14 H15 H16 H17 H18 Hq4 Hq5 Hq6 Hq7 Hq8 Hq9 H3 H4 H5 H7 H8 H9 HW]
  · isplitl [H10 H11 H12 H13 H14 H15 H16 H17 H18]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    isplitl [Hq4 Hq5 Hq6 Hq7 Hq8 Hq9]
    · isplitl [Hq4]; · iexact Hq4
      isplitl [Hq5]; · iexact Hq5
      isplitl [Hq6]; · iexact Hq6
      isplitl [Hq7]; · iexact Hq7
      isplitl [Hq8]; · iexact Hq8
      iexact Hq9
    isplitl [H3 H4 H5 H7 H8]
    · isplitl [H3]; · iexact H3
      isplitl [H4]; · iexact H4
      isplitl [H5]; · iexact H5
      isplitl [H7]; · iexact H7
      iexact H8
    isplitl [H9]
    · iexists O'
      isplitl [H9]; · iexact H9
      ipureintro; exact hO'
    iexists W'; iexact HW
  isplitl [H1]
  · iexists X1
    isplitr
    · ipureintro; exact hX1
    · iexact H1
  isplitl [H2]
  · iexists X2
    isplitr
    · ipureintro; exact hX2
    · iexact H2
  · iexists X6
    isplitr
    · ipureintro; exact hX6
    · iexact H6

theorem sound_body (c : Dev nD) (t : Fin cfg0.N) {off : ℕ → ℕ} {np : ℕ → ℕ → ℕ} {E R : ℕ → ℕ → ℕ → ℕ} {P : ℕ → ℕ → ℕ → ℕ → Elt F .f32 → Prop}
    (hok : HostOK m Qf c off np E R P) :
    bodyPre m Qf c t ⊢ wp frame (wpE (defs₀ (F := F)) Variants.none c none) Set.univ (bodyAt0 t) (fun _ => bodyPost m Qf c t) := by
  have hB := body_at (F := F) c t _ _ _ _ _ _ _ _ _ (hok t)
  unfold bodyPre bodyPost
  rw [after_0, after_1, after_2]
  rw [show (dats m Qf 0 c).Φ t.castSucc = PhiN m (Qf c) c t.val from rfl, show (dats m Qf 0 c).Φ t.succ = PhiN m (Qf c) c (t.val + 1) from rfl]
  unfold Dat.owesAt Pipeline.owesWithin PhiN
  rw [show (dats m Qf 0 c).owed t.castSucc = 0 from rfl, show (dats m Qf 0 c).owed t.succ = 0 from rfl, hbmPts0_eq, ownSems00_eq]
  generalize bodyAt0 (F := F) t = pr at hB ⊢
  iintro ⟨⟨HS, Hg, HQ, HH, HO⟩, ⟨%W, -, HW⟩, ⟨%d0, H1⟩, ⟨%d1, H2⟩, ⟨%d2, H6⟩⟩
  rw [before_0, before_1, before_2]
  iapply (wp_to c hB)
  unfold ptPre
  isplitl [HS HQ HH HO HW H1 H2 H6]
  · isplitl [HS HQ HH HO HW]
    · isplitl [HS]; · iexact HS
      isplitl [HQ]; · iexact HQ
      isplitl [HH]; · iexact HH
      isplitl [HO]; · iexact HO
      iexists W; iexact HW
    isplitl [H1]; · iexact H1
    isplitl [H2]; · iexact H2
    iexact H6
  iintro %a ⟨⟨HS, HQ, HH, HO, ⟨%W', HW⟩⟩, H1, H2, H6⟩
  isplitl [HS Hg HQ HH HO]
  · isplitl [HS]; · iexact HS
    isplitl [Hg]; · iexact Hg
    isplitl [HQ]; · iexact HQ
    isplitl [HH]; · iexact HH
    iexact HO
  isplitl [HW]
  · iexists W'
    isplitr
    · ipureintro; exact fun _ _ => Or.inl trivial
    · iexact HW
  isplitl [H1]; · iexact H1
  isplitl [H2]; · iexact H2
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) {off : ℕ → ℕ} {np : ℕ → ℕ → ℕ} {E R : ℕ → ℕ → ℕ → ℕ} {P : ℕ → ℕ → ℕ → ℕ → Elt F .f32 → Prop}
    (hok : HostOK m Qf c off np E R P) : BodyObligation (dats (F := F) m Qf 0 c) (defs₀ (F := F)) Variants.none () Set.univ := fun t => by
  rw [bigSep_W0, bigSep_W0, defs₀_row]
  exact triple_restated (sound_body m Qf c t hok) rfl .rfl fun _ => .rfl

/-- The host's arrays are right at every core. -/
def AllOK : Prop := ∀ c : Dev nD, ∃ off np E R P, HostOK m Qf c off np E R P

set_option backward.isDefEq.respectTransparency.types false in
/-- The whole run, with the result named: at any contents that the result's per-element specification pins. -/
theorem run_value (hok : AllOK m Qf) (Y : (c : Dev nD) → S34816x3072.Idx → Elt F .bf16)
    (hY : ∀ (c : Dev nD) (z : S34816x3072.Idx) (x : Elt F .bf16), Qf c (z 0).val (z 1).val x → x = Y c z) :
    θ_run defs (onTc (τ := τ) (main (F := F))) (s₀ m ρ) (fun r => (∀ c : Dev nD, r.2.mem ((c.tc : Thread nD τ).loc main_v69) = Y c) ∧ Pipeline.FramePostR cfgs (dats m Qf) 0 R0 (V m) r ∧ r.2.sem = fun _ => 0) :=
  Pipeline.θ_run_frame_dmaRG cfgs (dats m Qf) (0 : Fin 1) launch0 osem0 defs₀ Variants.none ownSemFacts0 H0 R0 H0_sub R0_sub m ρ main
    (hbody := fun c => by obtain ⟨off, np, E, R, P, h⟩ := hok c; exact (body_obligation m Qf c h).loose)
    (hshare := fun c => (dats m Qf 0 c).share_full fun _ => rfl)
    (howed := fun _ _ => rfl) (V := V m) (hmain := hmainU m Variants.none) (hA := A_eq m Qf)
    (G := fun c => Function.update (V m c) main_v69 (Y c))
    (hin := fun c => by
      rw [Pipeline.ΦDRG_eq, scr0_eq, routed0_eq]
      show _ ⊢ PhiN m (Qf c) c 0
      unfold PhiN
      iintro ⟨H1, H2, H3, H4, H5⟩
      isplitl [H1]; · iexact H1
      isplitl [H2]; · iexact H2
      isplitl [H3]; · iexact H3
      isplitl [H4]; · iexact H4
      iexists _
      isplitl [H5]; · iexact H5
      ipureintro; exact OutInv.first)
    (hout := fun c => by
      rw [Pipeline.ΦDRG_eq, scr0_eq, routed0_eq, Function.update_self]
      show PhiN m (Qf c) c 3 ⊢ _
      unfold PhiN
      iintro ⟨H1, H2, H3, H4, ⟨%O, H5, %hO⟩⟩
      have hE : O = Y c := funext fun z => hY c z _ (hO z (Or.inl (z 1).isLt))
      subst hE
      isplitl [H1]; · iexact H1
      isplitl [H2]; · iexact H2
      isplitl [H3]; · iexact H3
      isplitl [H4]; · iexact H4
      iexact H5)
    (Q' := _)
    (hQ' := fun r h => ⟨fun c => (h.1.written c (b := main_v69) (by decide)).trans (Function.update_self _ _ _), h.1.toR, h.2⟩)

set_option backward.isDefEq.respectTransparency.types false in
theorem run_main (hok : AllOK m Qf) :
    θ_run defs (onTc (τ := τ) (main (F := F))) (s₀ m ρ) (fun r => Pipeline.FramePostR cfgs (dats m Qf) 0 R0 (V m) r ∧ r.2.sem = fun _ => 0) :=
  Pipeline.θ_run_frame_dmaR (Q' := _) cfgs (dats m Qf) (0 : Fin 1) launch0 osem0 defs₀ Variants.none ownSemFacts0 H0 R0 H0_sub R0_sub m ρ main
    (hbody := fun c => by obtain ⟨off, np, E, R, P, h⟩ := hok c; exact (body_obligation m Qf c h).loose)
    (hshare := fun c => (dats m Qf 0 c).share_full fun _ => rfl)
    (howed := fun _ _ => rfl) (V := V m) (hmain := hmainU m Variants.none) (hA := A_eq m Qf)
    (hin := fun c => by
      rw [Pipeline.ΦDR_eq, scr0_eq, ownedPts0_eq]
      show _ ⊢ PhiN m (Qf c) c 0
      unfold PhiN
      iintro ⟨H1, H2, H3, H4, ⟨%f, H5⟩⟩
      isplitl [H1]; · iexact H1
      isplitl [H2]; · iexact H2
      isplitl [H3]; · iexact H3
      isplitl [H4]; · iexact H4
      iexists _
      isplitl [H5]; · iexact H5
      ipureintro; exact OutInv.first)
    (hout := fun c => by
      rw [Pipeline.ΦDR_eq, scr0_eq, ownedPts0_eq]
      show PhiN m (Qf c) c 3 ⊢ _
      unfold PhiN
      iintro ⟨H1, H2, H3, H4, ⟨%O, H5, -⟩⟩
      isplitl [H1]; · iexact H1
      isplitl [H2]; · iexact H2
      isplitl [H3]; · iexact H3
      isplitl [H4]; · iexact H4
      iexists _; iexact H5)

/-- The frame's post from the run's. -/
theorem frame_post {r : PUnit × MemSt nD τ sig (Elt F)} (h : Pipeline.FramePostR cfgs (dats m Qf) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Finset.mem_sdiff.mpr ⟨Pipeline.mem_restRefs_of main_arg0 (by decide) (by decide), by decide⟩)).trans (V_main_arg0 m c),
   ((h c).2 main_arg1 (Finset.mem_sdiff.mpr ⟨Pipeline.mem_restRefs_of main_arg1 (by decide) (by decide), by decide⟩)).trans (V_main_arg1 m c),
   ((h c).2 main_arg2 (Finset.mem_sdiff.mpr ⟨Pipeline.mem_restRefs_of main_arg2 (by decide) (by decide), by decide⟩)).trans (V_main_arg2 m c),
   ((h c).2 main_arg3 (Finset.mem_sdiff.mpr ⟨Pipeline.mem_restRefs_of main_arg3 (by decide) (by decide), by decide⟩)).trans (V_main_arg3 m c),
   ((h c).2 main_arg4 (Finset.mem_sdiff.mpr ⟨Pipeline.mem_restRefs_of main_arg4 (by decide) (by decide), by decide⟩)).trans (V_main_arg4 m c),
   ((h c).2 main_arg5 (Finset.mem_sdiff.mpr ⟨Pipeline.mem_restRefs_of main_arg5 (by decide) (by decide), by decide⟩)).trans (V_main_arg5 m c),
   ((h c).2 main_arg6 (Finset.mem_sdiff.mpr ⟨Pipeline.mem_restRefs_of main_arg6 (by decide) (by decide), by decide⟩)).trans (V_main_arg6 m c)⟩

end Cert.Kernel.Hand

end
-- ==== Proof.Bits.Fits.lean ====
module

public import proofs.«01_k».proof.Proof.Bits.Fit
public import proofs.«01_k».proof.Proof.Bits.HostV
public import proofs.«01_k».proof.Proof.Bits.Run

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

theorem index0 (t : Fin cfg0.N) : win0_0.index t (0 : Fin 2) = 0 ∧ win0_0.index t (1 : Fin 2) = 0 := by revert t; decide
theorem index1 (t : Fin cfg0.N) : win0_1.index t (0 : Fin 1) = 0 := by revert t; decide
theorem index2 (t : Fin cfg0.N) : win0_2.index t (0 : Fin 3) = 0 ∧ win0_2.index t (1 : Fin 3) = 0 ∧ win0_2.index t (2 : Fin 3) = t.val := by revert t; decide

theorem iblk0 (c : Dev nD) (t : Fin cfg0.N) (x : S272x16.Idx) : iblk m c 0 t x = (V m c main_v31 : S272x16.Idx → Elt F .i32) x := by
  obtain ⟨e0, e1⟩ := index0 t
  show V m c main_v31 (((cfg0.win 0).blk t).view.emb x) = V m c main_v31 x
  congr 1
  funext a; apply Fin.ext
  match a with
  | ⟨0, _⟩ => show win0_0.index t (0 : Fin 2) * 272 + 1 * (x 0).val = (x 0).val; omega
  | ⟨1, _⟩ => show win0_0.index t (1 : Fin 2) * 16 + 1 * (x 1).val = (x 1).val; omega

theorem iblk1 (c : Dev nD) (t : Fin cfg0.N) (x : S16.Idx) : iblk m c 1 t x = (V m c main_v1 : S16.Idx → Elt F .i32) x := by
  have e0 := index1 t
  show V m c main_v1 (((cfg0.win 1).blk t).view.emb x) = V m c main_v1 x
  congr 1
  funext a; apply Fin.ext
  match a with
  | ⟨0, _⟩ => show win0_1.index t (0 : Fin 1) * 16 + 1 * (x 0).val = (x 0).val; omega

theorem iblk2 (c : Dev nD) (t : Fin cfg0.N) (e : Fin 16) (j : Fin 1024) (hn : t.val * 1024 + j.val < 3072) :
    iblk m c 2 t (ix3 e (0 : Fin 1) j) = (V m c main_v68 : S16x1x3072.Idx → Elt F .f32) (ix3 e (0 : Fin 1) (⟨t.val * 1024 + j.val, hn⟩ : Fin 3072)) := by
  obtain ⟨e0, e1, e2⟩ := index2 t
  show V m c main_v68 (((cfg0.win 2).blk t).view.emb (ix3 e (0 : Fin 1) j)) = V m c main_v68 _
  congr 1
  funext a; apply Fin.ext
  match a with
  | ⟨0, _⟩ => show win0_2.index t (0 : Fin 3) * 16 + 1 * e.val = e.val; omega
  | ⟨1, _⟩ => show win0_2.index t (1 : Fin 3) * 1 + 1 * 0 = 0; omega
  | ⟨2, _⟩ => show win0_2.index t (2 : Fin 3) * 1024 + 1 * j.val = t.val * 1024 + j.val; omega

abbrev ar2 (c : Dev nD) : IVec S16 32 := m ((c : Thread nD τ).loc main_arg2)
abbrev ar5 (c : Dev nD) : IVec S34816x2 32 := m ((c : Thread nD τ).loc main_arg5)
abbrev oOff (c : Dev nD) : ℕ → ℕ := nOff (kOff (ar2 m c))
abbrev oNp (c : Dev nD) : ℕ → ℕ → ℕ := nNp (kOff (ar2 m c)) (kNeed (kOff (ar2 m c)) (kIdx (ar5 m c)))
abbrev oE (c : Dev nD) : ℕ → ℕ → ℕ → ℕ := nAt (kExpert (kEnds (ar2 m c)) (kIdx (ar5 m c)))
abbrev oR (c : Dev nD) : ℕ → ℕ → ℕ → ℕ := nAt (kIdx (ar5 m c))
abbrev OK (c : Dev nD) : Prop := PreOK (kOff (ar2 m c)) (kEnds (ar2 m c)) (kIdx (ar5 m c)) (kExpert (kEnds (ar2 m c)) (kIdx (ar5 m c))) (kNeed (kOff (ar2 m c)) (kIdx (ar5 m c)))

theorem ok_of_pre (c : Dev nD) {a0 : FVec F S69632x1536 .fp8e4m3} {a1 : FVec F S69632 .f32} {a3 : FVec F S16x1536x3072 .fp8e4m3} {a4 : FVec F S16x3072 .f32} {a6 : FVec F S34816x2 .f32}
    (h : Cert.Pre_sorted_by_expert.fn (F := F) a0 a1 (ar2 m c) a3 a4 (ar5 m c) a6 = fun _ => 1#1) : OK m c := by
  obtain ⟨h1, h2, h3, h4, h5⟩ := pre_all h
  exact preOK h1 h2 h3 h4 h5

theorem fits (Qf : Dev nD → ℕ → ℕ → Elt F .bf16 → Prop) (c : Dev nD) (h : OK m c) (P : ℕ → ℕ → ℕ → ℕ → Elt F .f32 → Prop)
    (hP : ∀ (t : Fin cfg0.N) (Wt : S16x1536x1024.Idx → Elt F .fp8e4m3) (W6 : S16x1x1024.Idx → Elt F .f32),
      (∀ (e : Fin 16) (k : Fin 1536) (j : Fin 1024) (hn : t.val * 1024 + j.val < 3072), Wt (ix3 e k j) = (m ((c : Thread nD τ).loc main_arg3) : S16x1536x3072.Idx → Elt F .fp8e4m3) (ix3 e k (⟨t.val * 1024 + j.val, hn⟩ : Fin 3072))) →
      (∀ (e : Fin 16) (j : Fin 1024) (hn : t.val * 1024 + j.val < 3072), W6 (ix3 e (0 : Fin 1) j) = kWs (m ((c : Thread nD τ).loc main_arg4)) (ix3 e (0 : Fin 1) (⟨t.val * 1024 + j.val, hn⟩ : Fin 3072))) →
      PayOK (P t.val) (m ((c : Thread nD τ).loc main_arg0)) (kHs (kPad (m ((c : Thread nD τ).loc main_arg1)))) W6 Wt)
    (hQ : ∀ t : Fin cfg0.N, OutOK (P t.val) (oE m c) (oR m c) (kTw (m ((c : Thread nD τ).loc main_arg6))) (Qf c) t.val) :
    HostOK m Qf c (oOff m c) (oNp m c) (oE m c) (oR m c) P := by
  intro t
  refine ⟨hf_of h, fun x => ?_, fun x => ?_, fun b g s => ?_, fun Wt hW => ?_, ?_⟩
  · rw [iblk0, V_v31]
    obtain ⟨b, e, rfl⟩ : ∃ b e, x = ix2 b e := ⟨x 0, x 1, eq_ix2 x⟩
    have := nNp_eq (kOff (ar2 m c)) (kNeed (kOff (ar2 m c)) (kIdx (ar5 m c))) b e
    show _ = BitVec.ofNat 32 (nNp _ _ (b.val + 1) e.val)
    rw [this]; simp
  · rw [iblk1, V_v1]
    obtain ⟨e, rfl⟩ : ∃ e, x = ix1 e := ⟨x 0, eq_ix1 x⟩
    have := nOff_eq (kOff (ar2 m c)) e
    show _ = BitVec.ofNat 32 (nOff _ e.val)
    rw [this]; simp
  · have e := V_v52 m c
    rw [e]
    exact tok_of h b g s
  · rw [V_v67, V_main_arg0]
    refine hP t Wt _ ?_ ?_
    · intro e k j hn; rw [hW e k j hn, V_main_arg3]
    · intro e j hn; rw [iblk2 m c t e j hn, V_v68]
  · rw [V_v54]; exact hQ t

/-- The launch runs, ends with every argument as it was and every counter at zero. -/
theorem frame_run (ρ : Dev nD → PrngReg) (h : ∀ c, OK m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c => frame_post m (fun _ _ _ _ => True) hr.1 c, hr.2⟩)
    (run_main m ρ (fun _ _ _ _ => True) (fun c => ⟨_, _, _, _, fun _ _ _ _ _ => True,
      fits m _ c (h c) _ (fun t Wt W6 _ _ => by intro e s hs h32 lhs wb r0 r1 _ _ _ _ p q cc hcc ws _ _; trivial)
        (fun t => by intro b hb s col v _ _; trivial)⟩))

end Cert.Kernel.Hand

end
-- ==== Proof.Ideal.Val.lean ====
/- The entries of the kernel's blocks over the extended reals: the product of 256 rows with an expert's strip, the scales
   of rows and columns, and the host's rearranged operands, each read at an index; and with them what the ring holds
   of a row (`rowVal`, `rowP_ok`). -/
module

public import proofs.«01_k».proof.Proof.Ideal.Fits
public import Idealize.ShloMosaic.PureOps.Ideal.Laws

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.ShloMosaic.Pointwise
open Idealize.SL.Sem

theorem prod_at (lhs : Vec Ideal S256x1536 .fp8e4m3) (wb : Vec Ideal S1x1536x1024 .fp8e4m3) (p : Fin 256) (n : Fin 1024) :
    (k0_pay1 lhs wb (ix2 p n) : EReal) = ∑ k : Fin 1536, (lhs (ix2 p k) : EReal) * wb (ix3 (0 : Fin 1) k n) := by
  pointwise [k0_pay1]

theorem rs_at (r0 r1 : Vec Ideal S1x128 .f32) (p : Fin 256) (q : Fin 128) :
    k0_pay2 r0 r1 (ix2 p q) = if h : p.val < 128 then r0 (ix2 (0 : Fin 1) (⟨p.val, h⟩ : Fin 128)) else r1 (ix2 (0 : Fin 1) (⟨p.val - 128, by omega⟩ : Fin 128)) := by
  pointwise [k0_pay2]

theorem kHs_y (y : S2184x32.Idx → Elt Ideal .f32) (i : Fin 2176) (g : Fin 2) (q : Fin 128) :
    kHs y (ix3 i g q) = y (ix2 (⟨i.val + (g.val * 128 + q.val) / 32, by omega⟩ : Fin 2184) (⟨q.val % 32, by omega⟩ : Fin 32)) := by
  pointwise [kHs]
  have hg := g.isLt
  have hq := q.isLt
  split_ifs <;> refine congrArg y (congrArg₂ ix2 (Fin.ext ?_) (Fin.ext ?_)) <;> simp only <;> omega

theorem kPad_at (x : S69632.Idx → Elt Ideal .f32) (i : Fin 2184) (j : Fin 32) (h : i.val * 32 + j.val < 69632) :
    kPad x (ix2 i j) = x (ix1 (⟨i.val * 32 + j.val, h⟩ : Fin 69632)) := by
  pointwise [kPad]
  rw [dif_pos h]

theorem kTw_at (x : S34816x2.Idx → Elt Ideal .f32) (b : Fin 272) (g : Fin 2) (s : Fin 128) :
    kTw x (ix3 b g s) = x (ix2 (⟨b.val * 128 + s.val, by omega⟩ : Fin 34816) g) := by
  pointwise [kTw]

theorem kIdx_at (x : IVec S34816x2 32) (b : Fin 272) (g : Fin 2) (s : Fin 128) :
    kIdx x (ix3 b g s) = x (ix2 (⟨b.val * 128 + s.val, by omega⟩ : Fin 34816) g) := by
  pointwise [kIdx]

theorem kWs_at (x : S16x3072.Idx → Elt Ideal .f32) (e : Fin 16) (n : Fin 3072) :
    kWs x (ix3 e (0 : Fin 1) n) = x (ix2 e n) := by
  pointwise [kWs]

theorem hs_at (x : S69632.Idx → Elt Ideal .f32) (i : Fin 2176) (g : Fin 2) (q : Fin 128) (h : i.val * 32 + g.val * 128 + q.val < 69632) :
    kHs (kPad x) (ix3 i g q) = x (ix1 (⟨i.val * 32 + g.val * 128 + q.val, h⟩ : Fin 69632)) := by
  rw [kHs_y, kPad_at _ _ _ (by simp only; omega)]
  exact congrArg (fun z => x (ix1 z)) (Fin.ext (by simp only; omega))

/-- The entry of a row of one expert's product, scaled by row and by column, over the extended reals. -/
def rowVal (H : S69632x1536.Idx → Ideal .fp8e4m3) (hs : S69632.Idx → Ideal .f32) (W : S16x1536x3072.Idx → Ideal .fp8e4m3) (ws : S16x3072.Idx → Ideal .f32)
    (e : Fin 16) (r : Fin 69632) (n : Fin 3072) : EReal :=
  (∑ k : Fin 1536, (H (ix2 r k) : EReal) * W (ix3 e k n)) * hs (ix1 r) * ws (ix2 e n)

/-- What the ring is to hold of a row. -/
def rowP (H : S69632x1536.Idx → Ideal .fp8e4m3) (hs : S69632.Idx → Ideal .f32) (W : S16x1536x3072.Idx → Ideal .fp8e4m3) (ws : S16x3072.Idx → Ideal .f32)
    (t e r col : ℕ) (y : Elt Ideal .f32) : Prop :=
  ∀ (he : e < 16) (hr : r < 69632) (hn : t * 1024 + col < 3072), y = rowVal H hs W ws ⟨e, he⟩ ⟨r, hr⟩ ⟨t * 1024 + col, hn⟩

theorem rowP_ok (H : S69632x1536.Idx → Ideal .fp8e4m3) (hs : S69632.Idx → Ideal .f32) (W : S16x1536x3072.Idx → Ideal .fp8e4m3) (ws : S16x3072.Idx → Ideal .f32)
    (t : ℕ) (Wt : S16x1536x1024.Idx → Ideal .fp8e4m3) (W6 : S16x1x1024.Idx → Ideal .f32)
    (h3 : ∀ (e : Fin 16) (k : Fin 1536) (j : Fin 1024) (hn : t * 1024 + j.val < 3072), Wt (ix3 e k j) = W (ix3 e k (⟨t * 1024 + j.val, hn⟩ : Fin 3072)))
    (h6 : ∀ (e : Fin 16) (j : Fin 1024) (hn : t * 1024 + j.val < 3072), W6 (ix3 e (0 : Fin 1) j) = kWs (F := Ideal) ws (ix3 e (0 : Fin 1) (⟨t * 1024 + j.val, hn⟩ : Fin 3072))) :
    PayOK (F := Ideal) (rowP H hs W ws t) H (kHs (F := Ideal) (kPad (F := Ideal) hs)) W6 Wt := by
  intro e s hs' h32 lhs wb r0 r1 hl hw h0 h1 p q cc hcc w hws hr he hr' hn
  unfold itemPay rowVal
  have e1 := prod_at lhs wb p (⟨128 * cc + q.val, by omega⟩ : Fin 1024)
  have e2 : k0_pay2 r0 r1 (ix2 p q) = hs (ix1 (⟨s + p.val, hr⟩ : Fin 69632)) := by
    rw [rs_at]
    have hp := p.isLt
    split_ifs with h
    · rw [h0, hs_at _ _ _ _ (by show s / 32 * 32 + 0 * 128 + p.val < 69632; omega)]
      exact congrArg (fun z => hs (ix1 z)) (Fin.ext (by show s / 32 * 32 + 0 * 128 + p.val = s + p.val; omega))
    · rw [h1, hs_at _ _ _ _ (by show s / 32 * 32 + 1 * 128 + (p.val - 128) < 69632; omega)]
      exact congrArg (fun z => hs (ix1 z)) (Fin.ext (by show s / 32 * 32 + 1 * 128 + (p.val - 128) = s + p.val; omega))
  have e3 : w (ix3 (0 : Fin 1) (0 : Fin 1) q) = ws (ix2 e (⟨t * 1024 + (128 * cc + q.val), hn⟩ : Fin 3072)) := by
    rw [hws, h6 e _ hn, kWs_at]
  have e4 : (∑ k : Fin 1536, (lhs (ix2 p k) : EReal) * wb (ix3 (0 : Fin 1) k (⟨128 * cc + q.val, by omega⟩ : Fin 1024)))
      = ∑ k : Fin 1536, (H (ix2 (⟨s + p.val, hr⟩ : Fin 69632) k) : EReal) * W (ix3 e k (⟨t * 1024 + (128 * cc + q.val), hn⟩ : Fin 3072)) :=
    Finset.sum_congr rfl fun k _ => by rw [hl p k hr, hw, h3 e k _ hn]
  rw [e2, e3]
  rw [e4] at e1
  exact congrArg (fun z : EReal => z * (hs (ix1 (⟨s + p.val, hr⟩ : Fin 69632)) : EReal) * (ws (ix2 e (⟨t * 1024 + (128 * cc + q.val), hn⟩ : Fin 3072)) : EReal)) e1

end Cert.KernelIdeal.Hand

end
-- ==== Proof.Ref.Run.lean ====
/- The reference's host operations after its kernel region, as functions of their operands, and the contents they leave in
   the result array (`tail_v37`), read one list of operations after the other. -/
module

public import proofs.«01_k».proof.Proof.Gen.ReferenceIdeal.Frame
public import Idealize.ShloMosaic.Lib.StableHlo.ReadAt
public import Idealize.ShloMosaic.Lib.StableHlo.RunClose
public import Idealize.ShloMosaic.Lib.Claim

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (M : Valuation τ sig (Elt F))

/-! ## The reference's host operations, as functions of their operands -/

def rEnds (a : IVec S16 32) : IVec S16 32 :=
  Host.reduceWindow IntOp.addi ![16] ![1] ![15] ![0] a (broadcastInDim S_ ![] bcast_S_S_ (constantI S_ 32 0#32)) reduceWindows_S16_S16_w16s1p15_0 h_S_
/-- Which rows are each expert's. -/
def rMask (ends a : IVec S16 32) : IVec S16x69632x1 1 :=
  broadcastInDim S16x69632x1 ![0, 1] bcast_S16x69632_S16x69632x1_0_1 (andi
    (cmpi .sge (broadcastInDim S16x69632 ![0, 1] bcast_S1x69632_S16x69632_0_1 (broadcastInDim S1x69632 ![1] bcast_S69632_S1x69632_1 (iotaInDim S69632 32 0)))
      (broadcastInDim S16x69632 ![0, 1] bcast_S16x1_S16x69632_0_1 (broadcastInDim S16x1 ![0] bcast_S16_S16x1_0 (subi ends a))))
    (cmpi .slt (broadcastInDim S16x69632 ![0, 1] bcast_S1x69632_S16x69632_0_1 (broadcastInDim S1x69632 ![1] bcast_S69632_S1x69632_1 (iotaInDim S69632 32 0)))
      (broadcastInDim S16x69632 ![0, 1] bcast_S16x1_S16x69632_0_1 (broadcastInDim S16x1 ![0] bcast_S16_S16x1_0 ends))))
/-- Every expert's product of every row, scaled. -/
def rScaled (w : FVec F S16x1536x3072 .f32) (h : FVec F S69632x1536 .f32) (hs : FVec F S69632 .f32) (ws : FVec F S16x3072 .f32) : FVec F S16x69632x3072 .f32 :=
  mulf (mulf (transpose S16x69632x3072 [0, 2, 1] (Host.dotGeneral dot_S16x1536x3072_S69632x1536_S16x3072x69632_1_1_02_0_n_n none w h) transposes_S16x3072x69632_S16x69632x3072_0_2_1)
      (broadcastInDim S16x69632x3072 ![0, 1, 2] bcast_S1x69632x1_S16x69632x3072_0_1_2 (broadcastInDim S1x69632x1 ![1] bcast_S69632_S1x69632x1_1 hs)))
    (broadcastInDim S16x69632x3072 ![0, 1, 2] bcast_S16x1x3072_S16x69632x3072_0_1_2 (broadcastInDim S16x1x3072 ![0, 2] bcast_S16x3072_S16x1x3072_0_2 ws))
def rSel (mask : IVec S16x69632x1 1) (x : FVec F S16x69632x3072 .f32) (z : FVec F S_ .f32) : FVec F S16x69632x3072 .f32 :=
  select (broadcastInDim S16x69632x3072 ![0, 1, 2] bcast_S16x69632x1_S16x69632x3072_0_1_2 mask) x (broadcastInDim S16x69632x3072 ![] bcast_S_S16x69632x3072 z)
def rRows (x : FVec F S16x69632x3072 .f32) : FVec F S69632x3072 .f32 :=
  Host.reduceAdd x (constant S_ .f32 0x00000000#32) reducesTo_S16x69632x3072_S69632x3072_d0 h_S_
def rIdx (a : IVec S34816x2 32) : IVec S34816x2x1 32 :=
  broadcastInDim S34816x2x1 ![0, 1] bcast_S34816x2_S34816x2x1_0_1 (select (cmpi .slt a (broadcastInDim S34816x2 ![] bcast_S_S34816x2 (constantI S_ 32 0#32)))
    (addi a (broadcastInDim S34816x2 ![] bcast_S_S34816x2 (constantI S_ 32 69632#32))) a)
def rOut (y : FVec F S69632x3072 .f32) (a : IVec S34816x2 32) (tw : FVec F S34816x2 .f32) : FVec F S34816x3072 .bf16 :=
  truncf .bf16 (Host.reduceAdd (mulf (Host.gather gather_S69632x3072_S34816x2x1_S34816x2x3072_2_0_n_n_0_2_13072 y (rIdx a))
    (broadcastInDim S34816x2x3072 ![0, 1, 2] bcast_S34816x2x1_S34816x2x3072_0_1_2 (broadcastInDim S34816x2x1 ![0, 1] bcast_S34816x2_S34816x2x1_0_1 tw)))
    (constant S_ .f32 0x00000000#32) reducesTo_S34816x2x3072_S34816x3072_d1 h_S_) bitsLt_bf16_f32

theorem afterApp (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

abbrev at_ (b : Ref sig .tc) : DevRef τ sig := Proc.devRef .tc b

theorem s0_v1 : (StableHlo.after (hostOps1 (F := F)) M (at_ main_v1) : IVec S16 32) = rEnds (M (at_ main_arg2) : IVec S16 32) := by
  simp only [hostOps1, at_]
  after_results_simp
  all_goals try simp -implicitDefEqProofs only [StableHlo.TRef.toBuf, StableHlo.TRef.ofBuf, cast_cast, cast_eq]
  all_goals rfl

theorem s0_arg1 : StableHlo.after (hostOps1 (F := F)) M (at_ main_arg1) = M (at_ main_arg1) := by
  simp only [hostOps1, at_]
  after_results_simp

theorem s0_arg2 : StableHlo.after (hostOps1 (F := F)) M (at_ main_arg2) = M (at_ main_arg2) := by
  simp only [hostOps1, at_]
  after_results_simp

theorem s0_arg4 : StableHlo.after (hostOps1 (F := F)) M (at_ main_arg4) = M (at_ main_arg4) := by
  simp only [hostOps1, at_]
  after_results_simp

theorem s0_arg5 : StableHlo.after (hostOps1 (F := F)) M (at_ main_arg5) = M (at_ main_arg5) := by
  simp only [hostOps1, at_]
  after_results_simp

theorem s0_arg6 : StableHlo.after (hostOps1 (F := F)) M (at_ main_arg6) = M (at_ main_arg6) := by
  simp only [hostOps1, at_]
  after_results_simp

theorem s0_v0_0 : StableHlo.after (hostOps1 (F := F)) M (at_ main_v0_0) = M (at_ main_v0_0) := by
  simp only [hostOps1, at_]
  after_results_simp

theorem s0_v0_1 : StableHlo.after (hostOps1 (F := F)) M (at_ main_v0_1) = M (at_ main_v0_1) := by
  simp only [hostOps1, at_]
  after_results_simp

theorem s1_v22 : (StableHlo.after (hostOps1_1 (F := F)) M (at_ main_v22) : FVec F S16x69632x3072 .f32) = rScaled (M (at_ main_v0_1)) (M (at_ main_v0_0)) (M (at_ main_arg1)) (M (at_ main_arg4)) := by
  simp only [hostOps1_1, at_]
  after_results_simp
  all_goals try simp -implicitDefEqProofs only [StableHlo.TRef.toBuf, StableHlo.TRef.ofBuf, cast_cast, cast_eq]
  all_goals rfl

theorem s1_v23 : (StableHlo.after (hostOps1_1 (F := F)) M (at_ main_v23) : IVec S16x69632x1 1) = rMask (M (at_ main_v1)) (M (at_ main_arg2)) := by
  simp only [hostOps1_1, at_]
  after_results_simp
  all_goals try simp -implicitDefEqProofs only [StableHlo.TRef.toBuf, StableHlo.TRef.ofBuf, cast_cast, cast_eq]
  all_goals rfl

theorem s1_cst : (StableHlo.after (hostOps1_1 (F := F)) M (at_ main_cst) : FVec F S_ .f32) = constant S_ .f32 0x00000000#32 := by
  simp only [hostOps1_1, at_]
  after_results_simp
  all_goals try simp -implicitDefEqProofs only [StableHlo.TRef.toBuf, StableHlo.TRef.ofBuf, cast_cast, cast_eq]
  all_goals rfl

theorem s1_arg5 : StableHlo.after (hostOps1_1 (F := F)) M (at_ main_arg5) = M (at_ main_arg5) := by
  simp only [hostOps1_1, at_]
  after_results_simp

theorem s1_arg6 : StableHlo.after (hostOps1_1 (F := F)) M (at_ main_arg6) = M (at_ main_arg6) := by
  simp only [hostOps1_1, at_]
  after_results_simp

theorem s2_v24 : (StableHlo.after (hostOps1_2 (F := F)) M (at_ main_v24) : FVec F S16x69632x3072 .f32) = rSel (M (at_ main_v23)) (M (at_ main_v22)) (M (at_ main_cst)) := by
  simp only [hostOps1_2, at_]
  after_results_simp
  all_goals try simp -implicitDefEqProofs only [StableHlo.TRef.toBuf, StableHlo.TRef.ofBuf, cast_cast, cast_eq]
  all_goals rfl

theorem s2_arg5 : StableHlo.after (hostOps1_2 (F := F)) M (at_ main_arg5) = M (at_ main_arg5) := by
  simp only [hostOps1_2, at_]
  after_results_simp

theorem s2_arg6 : StableHlo.after (hostOps1_2 (F := F)) M (at_ main_arg6) = M (at_ main_arg6) := by
  simp only [hostOps1_2, at_]
  after_results_simp

theorem s3_v37 : (StableHlo.after (hostOps1_3 (F := F)) M (at_ main_v37) : FVec F S34816x3072 .bf16) = rOut (rRows (M (at_ main_v24))) (M (at_ main_arg5)) (M (at_ main_arg6)) := by
  simp only [hostOps1_3, at_]
  after_results_simp
  all_goals try simp -implicitDefEqProofs only [StableHlo.TRef.toBuf, StableHlo.TRef.ofBuf, cast_cast, cast_eq]
  all_goals rfl

variable (m : (ℓ : Loc nD τ sig) → Buf (Elt F) ℓ) (ρ : Dev nD → PrngReg)

/-- The reference's result, from its arguments. -/
def refOut (a0 : FVec F S69632x1536 .fp8e4m3) (a1 : FVec F S69632 .f32) (a2 : IVec S16 32) (a3 : FVec F S16x1536x3072 .fp8e4m3) (a4 : FVec F S16x3072 .f32)
    (a5 : IVec S34816x2 32) (a6 : FVec F S34816x2 .f32) : FVec F S34816x3072 .bf16 :=
  rOut (rRows (rSel (rMask (rEnds a2) a2) (rScaled (k0_pay2 a3) (k0_pay1 a0) a1 a4) (constant S_ .f32 0x00000000#32))) a5 a6

theorem tail_v37 (c : Dev nD) (W : Valuation τ sig (Elt F)) :
    (StableHlo.after (List.flatten [hostOps1, hostOps1_1, hostOps1_2, hostOps1_3]) W (at_ main_v37) : FVec F S34816x3072 .bf16)
      = rOut (rRows (rSel (rMask (rEnds (W (at_ main_arg2))) (W (at_ main_arg2))) (rScaled (W (at_ main_v0_1)) (W (at_ main_v0_0)) (W (at_ main_arg1)) (W (at_ main_arg4)))
          (constant S_ .f32 0x00000000#32))) (W (at_ main_arg5)) (W (at_ main_arg6)) := by
  simp only [List.flatten_cons, List.flatten_nil, List.append_nil, afterApp]
  rw [s3_v37, s2_v24, s2_arg5, s2_arg6, s1_v22, s1_v23, s1_cst, s1_arg5, s1_arg6, s0_v1, s0_arg1, s0_arg2, s0_arg4, s0_arg5, s0_arg6, s0_v0_0, s0_v0_1]

end Cert.ReferenceIdeal.Hand

end
-- ==== Proof.Ref.Read.lean ====
/- The reference's result at an index, at ideal values: a sum over a token's two rows of the row's value times its weight,
   a row's value being a sum over the experts of which the mask keeps one. -/
module

public import proofs.«01_k».proof.Proof.Ref.Run
public import Idealize.ShloMosaic.Lib.Pointwise
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pointwise
open Idealize.SL.Sem

theorem rMask_at (ends a : IVec S16 32) (e : Fin 16) (r : Fin 69632) (z : Fin 1) :
    rMask ends a (ix3 e r z) = IntOp.andi (IntOp.cmpi .sge (BitVec.ofNat 32 r.val) (IntOp.subi (ends (ix1 e)) (a (ix1 e))))
      (IntOp.cmpi .slt (BitVec.ofNat 32 r.val) (ends (ix1 e))) := by
  unfold rMask
  pointwise

theorem rScaled_at (w : FVec Ideal S16x1536x3072 .f32) (h : FVec Ideal S69632x1536 .f32) (hs : FVec Ideal S69632 .f32) (ws : FVec Ideal S16x3072 .f32)
    (e : Fin 16) (r : Fin 69632) (n : Fin 3072) :
    (rScaled w h hs ws (ix3 e r n) : EReal) = (∑ k : Fin 1536, (w (ix3 e k n) : EReal) * (h (ix2 r k) : EReal)) * (hs (ix1 r) : EReal) * (ws (ix2 e n) : EReal) := by
  unfold rScaled
  pointwise

theorem rSel_at (mask : IVec S16x69632x1 1) (x : FVec Ideal S16x69632x3072 .f32) (z : FVec Ideal S_ .f32) (e : Fin 16) (r : Fin 69632) (n : Fin 3072) :
    rSel mask x z (ix3 e r n) = if mask (ix3 e r 0) = 1#1 then x (ix3 e r n) else z ix0 := by
  unfold rSel
  pointwise
  rfl

theorem rRows_at (x : FVec Ideal S16x69632x3072 .f32) (r : Fin 69632) (n : Fin 3072) :
    (rRows x (ix2 r n) : EReal) = ∑ e : Fin 16, (x (ix3 e r n) : EReal) := by
  unfold rRows
  pointwise

theorem gather_at {α : Type} (y : S69632x3072.Idx → α) (idx : IVec S34816x2x1 32) (t : Fin 34816) (g : Fin 2) (n : Fin 3072) :
    Host.gather gather_S69632x3072_S34816x2x1_S34816x2x3072_2_0_n_n_0_2_13072 y idx (ix3 t g n)
      = y (ix2 ⟨min (idx (ix3 t g 0)).toInt.toNat 69631, by omega⟩ n) := by
  unfold Host.gather
  congr 1
  funext a
  refine Fin.ext ?_
  generalize hd : gather_S69632x3072_S34816x2x1_S34816x2x3072_2_0_n_n_0_2_13072 = d
  show d.start (ix3 t g n) idx a + d.batchCoord (ix3 t g n) a + d.offCoord (ix3 t g n) a = _
  have h01 : a = 0 ∨ a = 1 := by
    match a with
    | ⟨0, _⟩ => exact Or.inl rfl
    | ⟨1, _⟩ => exact Or.inr rfl
  rcases h01 with rfl | rfl
  · subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S69632x3072_S34816x2x1_S34816x2x3072_2_0_n_n_0_2_13072.startIndexMap from List.mem_singleton.mpr rfl)]
    have hsi : gather_S69632x3072_S34816x2x1_S34816x2x3072_2_0_n_n_0_2_13072.siIdx (ix3 t g n) ⟨List.idxOf (0 : Fin 2) gather_S69632x3072_S34816x2x1_S34816x2x3072_2_0_n_n_0_2_13072.startIndexMap,
        List.idxOf_lt_length_iff.2 (List.mem_singleton.mpr rfl)⟩ = ix3 t g 0 := by
      funext b; refine Fin.ext ?_
      match b with
      | ⟨0, _⟩ => rfl
      | ⟨1, _⟩ => rfl
      | ⟨2, _⟩ => rfl
    rw [hsi]
    rfl
  · subst hd
    rw [GatherDims.batchCoord_eq_zero _ _ _ List.not_mem_nil]
    simp only [Nat.add_zero]
    unfold GatherDims.start
    rw [dif_neg (show ¬ (1 : Fin 2) ∈ gather_S69632x3072_S34816x2x1_S34816x2x3072_2_0_n_n_0_2_13072.startIndexMap from by
      intro h; exact absurd (List.mem_singleton.mp h) (by decide))]
    unfold GatherDims.offCoord
    rw [dif_pos (show (1 : Fin 2) ∈ gather_S69632x3072_S34816x2x1_S34816x2x3072_2_0_n_n_0_2_13072.sKept from
      (GatherDims.mem_sKept _ _).mpr ⟨fun h => absurd (List.mem_singleton.mp h) (by decide), List.not_mem_nil⟩)]
    exact Nat.zero_add _

theorem rIdx_at (a : IVec S34816x2 32) (t : Fin 34816) (g : Fin 2) (h : (a (ix2 t g)).toNat < 69632) : rIdx a (ix3 t g 0) = a (ix2 t g) := by
  have e : rIdx a (ix3 t g 0) = if IntOp.cmpi .slt (a (ix2 t g)) 0#32 = 1#1 then IntOp.addi (a (ix2 t g)) 69632#32 else a (ix2 t g) := by
    unfold rIdx
    pointwise
    rfl
  rw [e, if_neg]
  intro hc
  have h2 : (a (ix2 t g)).toInt = ((a (ix2 t g)).toNat : Int) := by rw [BitVec.toInt_eq_toNat_cond]; split <;> omega
  have hn : ¬ ((a (ix2 t g)).toInt < (0#32 : BitVec 32).toInt) := by
    rw [h2, show (0#32 : BitVec 32).toInt = 0 by decide]; omega
  have hb : (a (ix2 t g)).slt 0#32 = false := by simpa [BitVec.slt] using hn
  have : BitVec.ofBool ((a (ix2 t g)).slt 0#32) = 1#1 := hc
  rw [hb] at this
  exact absurd this (by decide)

theorem rOut_at (y : FVec Ideal S69632x3072 .f32) (a : IVec S34816x2 32) (tw : FVec Ideal S34816x2 .f32) (t : Fin 34816) (n : Fin 3072)
    (h0 : (a (ix2 t 0)).toNat < 69632) (h1 : (a (ix2 t 1)).toNat < 69632) :
    rOut y a tw (ix2 t n) = FloatOps.truncf (F := Ideal) .bf16 bitsLt_bf16_f32
      ((FloatOps.addf (FloatOps.mulf (y (ix2 ⟨(a (ix2 t 0)).toNat, h0⟩ n)) (tw (ix2 t 0))) (FloatOps.mulf (y (ix2 ⟨(a (ix2 t 1)).toNat, h1⟩ n)) (tw (ix2 t 1))) : Ideal .f32)) := by
  unfold rOut
  pointwise
  rw [Fin.sum_univ_two, gather_at, gather_at]
  have e0 : min (rIdx a (ix3 t 0 0)).toInt.toNat 69631 = (a (ix2 t 0)).toNat := by
    rw [rIdx_at a t 0 h0, BitVec.toInt_eq_toNat_cond]; split <;> omega
  have e1 : min (rIdx a (ix3 t 1 0)).toInt.toNat 69631 = (a (ix2 t 1)).toNat := by
    rw [rIdx_at a t 1 h1, BitVec.toInt_eq_toNat_cond]; split <;> omega
  simp only [e0, e1]

theorem zero_at : ((constant S_ .f32 0x00000000#32 : FVec Ideal S_ .f32) ix0 : EReal) = 0 := by
  pointwise

theorem pay1_at (x : FVec Ideal S69632x1536 .fp8e4m3) (i : S69632x1536.Idx) : (k0_pay1 (F := Ideal) x i : EReal) = (x i : EReal) := rfl
theorem pay2_at (x : FVec Ideal S16x1536x3072 .fp8e4m3) (i : S16x1536x3072.Idx) : (k0_pay2 (F := Ideal) x i : EReal) = (x i : EReal) := rfl

end Cert.ReferenceIdeal.Hand

end
-- ==== Proof.Ref.Ends.lean ====
/- The reference's run as one function of its arguments: the kernel region leaves each code array widened, and the host
   operations after it read those two arrays and the other arguments. -/
module

public import proofs.«01_k».proof.Proof.Ref.Run
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-! ## Each window's block is its whole array -/

theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb0 (t : Fin cfg0.N) (j : S69632x1536.Idx) : ((cfg0.win 0).blk t).view.emb j = j := by
  obtain ⟨e0, e1⟩ := idx_zero0 t
  funext a; apply Fin.ext
  match a with
  | ⟨0, _⟩ => show win0_0.index t (0 : Fin 2) * 69632 + 1 * (j 0).val = (j 0).val; omega
  | ⟨1, _⟩ => show win0_0.index t (1 : Fin 2) * 1536 + 1 * (j 1).val = (j 1).val; omega

theorem emb1 (t : Fin cfg0.N) (j : S16x1536x3072.Idx) : ((cfg0.win 1).blk t).view.emb j = j := by
  obtain ⟨e0, e1, e2⟩ := idx_zero1 t
  funext a; apply Fin.ext
  match a with
  | ⟨0, _⟩ => show win0_1.index t (0 : Fin 3) * 16 + 1 * (j 0).val = (j 0).val; omega
  | ⟨1, _⟩ => show win0_1.index t (1 : Fin 3) * 1536 + 1 * (j 1).val = (j 1).val; omega
  | ⟨2, _⟩ => show win0_1.index t (2 : Fin 3) * 3072 + 1 * (j 2).val = (j 2).val; omega

theorem emb2 (t : Fin cfg0.N) (j : S69632x1536.Idx) : ((cfg0.win 2).blk t).view.emb j = j := by
  obtain ⟨e0, e1⟩ := idx_zero2 t
  funext a; apply Fin.ext
  match a with
  | ⟨0, _⟩ => show win0_2.index t (0 : Fin 2) * 69632 + 1 * (j 0).val = (j 0).val; omega
  | ⟨1, _⟩ => show win0_2.index t (1 : Fin 2) * 1536 + 1 * (j 1).val = (j 1).val; omega

theorem emb3 (t : Fin cfg0.N) (j : S16x1536x3072.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 1536 + 1 * (j 1).val = (j 1).val; omega
  | ⟨2, _⟩ => show win0_3.index t (2 : Fin 3) * 3072 + 1 * (j 2).val = (j 2).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_arg3 := by
  funext j; show V m c main_arg3 (((cfg0.win 1).blk t).view.emb j) = V m c main_arg3 j; rw [emb1]

theorem hz2 : (![0, 0] : Fin 2 → Nat) = fun _ => 0 := by decide
theorem hz3 : (![0, 0, 0] : Fin 3 → Nat) = fun _ => 0 := by decide

theorem out2_eq (x0 : Vec F S69632x1536 .fp8e4m3) (x1 : Vec F S16x1536x3072 .fp8e4m3) : out0_2 x0 x1 = k0_pay1 x0 := by
  unfold out0_2
  rw [View.canon_unit_zero hz2, View.ld_unit_zero hz2]

theorem out3_eq (x0 : Vec F S69632x1536 .fp8e4m3) (x1 : Vec F S16x1536x3072 .fp8e4m3) : out0_3 x0 x1 = k0_pay2 x1 := by
  unfold out0_3
  rw [View.canon_unit_zero hz3, View.ld_unit_zero hz3]

theorem cut2_eq (t : Fin cfg0.N) (X : Vec F S69632x1536 .f32) :
    (cfg0.win 2).cut (grid0.coords t) X = ((cfg0.win 2).blk t).view.read (Elt F) X := by
  funext j
  show X j = X (((cfg0.win 2).blk t).view.emb j)
  rw [emb2]

theorem cut3_eq (t : Fin cfg0.N) (X : Vec F S16x1536x3072 .f32) :
    (cfg0.win 3).cut (grid0.coords t) X = ((cfg0.win 3).blk t).view.read (Elt F) X := by
  funext j
  show X j = X (((cfg0.win 3).blk t).view.emb j)
  rw [emb3]

theorem flushed2_eq (c : Dev nD) (t : Fin cfg0.N) :
    (dats m 0 c).flushed 2 t = ((cfg0.win 2).blk t).view.read (Elt F) (k0_pay1 (V m c main_arg0)) := by
  show (cfg0.win 2).cut (grid0.coords t) ((dats m 0 c).after 2 t) = _
  rw [after0_2, out2_eq, iblk0_eq]
  exact cut2_eq t _

theorem flushed3_eq (c : Dev nD) (t : Fin cfg0.N) :
    (dats m 0 c).flushed 3 t = ((cfg0.win 3).blk t).view.read (Elt F) (k0_pay2 (V m c main_arg3)) := by
  show (cfg0.win 3).cut (grid0.coords t) ((dats m 0 c).after 3 t) = _
  rw [after0_3, out3_eq, iblk1_eq]
  exact cut3_eq t _

theorem covered2 (i : S69632x1536.Idx) :
    ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

theorem covered3 (i : S16x1536x3072.Idx) :
    ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

/-- The first result array of the region: the row codes widened. -/
theorem final2 (c : Dev nD) : (dats m 0 c).arrAt 2 cfg0.N = k0_pay1 (m ((c : Thread nD τ).loc main_arg0)) :=
  ((dats m 0 c).arrAt_eq_of_cover 2 (k0_pay1 (V m c main_arg0)) (fun t _ => flushed2_eq m c t) covered2).trans
    (by rw [V_main_arg0])

/-- The second: the weight codes widened. -/
theorem final3 (c : Dev nD) : (dats m 0 c).arrAt 3 cfg0.N = k0_pay2 (m ((c : Thread nD τ).loc main_arg3)) :=
  ((dats m 0 c).arrAt_eq_of_cover 3 (k0_pay2 (V m c main_arg3)) (fun t _ => flushed3_eq m c t) covered3).trans
    (by rw [V_main_arg3])

theorem arr_inj : Function.Injective (Pipeline.arrRef spec0) := by decide

/-- The result array the reference ends with. -/
theorem tail_val (c : Dev nD) : Pipeline.afterTail₀ cfgs (dats m) 0 (V0 m) [hostOps1, hostOps1_1, hostOps1_2, hostOps1_3] c main_v37
    = refOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  unfold Pipeline.afterTail₀
  refine (tail_v37 c _).trans ?_
  unfold refOut
  have e0 := (Pipeline.withArrays_arr spec0 arr_inj c (V0 m c) (fun w => (dats m 0 c).arrAt w cfg0.N) 2).trans (final2 m c)
  have e1 := (Pipeline.withArrays_arr spec0 arr_inj c (V0 m c) (fun w => (dats m 0 c).arrAt w cfg0.N) 3).trans (final3 m c)
  have a1 := (Pipeline.withArrays_of_ne spec0 c (V0 m c) (fun w => (dats m 0 c).arrAt w cfg0.N) main_arg1 (by exact (by decide : ∀ w, Pipeline.arrRef spec0 w ≠ main_arg1))).trans (V_main_arg1 m c)
  have a2 := (Pipeline.withArrays_of_ne spec0 c (V0 m c) (fun w => (dats m 0 c).arrAt w cfg0.N) main_arg2 (by exact (by decide : ∀ w, Pipeline.arrRef spec0 w ≠ main_arg2))).trans (V_main_arg2 m c)
  have a4 := (Pipeline.withArrays_of_ne spec0 c (V0 m c) (fun w => (dats m 0 c).arrAt w cfg0.N) main_arg4 (by exact (by decide : ∀ w, Pipeline.arrRef spec0 w ≠ main_arg4))).trans (V_main_arg4 m c)
  have a5 := (Pipeline.withArrays_of_ne spec0 c (V0 m c) (fun w => (dats m 0 c).arrAt w cfg0.N) main_arg5 (by exact (by decide : ∀ w, Pipeline.arrRef spec0 w ≠ main_arg5))).trans (V_main_arg5 m c)
  have a6 := (Pipeline.withArrays_of_ne spec0 c (V0 m c) (fun w => (dats m 0 c).arrAt w cfg0.N) main_arg6 (by exact (by decide : ∀ w, Pipeline.arrRef spec0 w ≠ main_arg6))).trans (V_main_arg6 m c)
  exact congr (congr (congrArg rOut (congrArg rRows (congrArg₂ (fun k x => rSel k x (constant S_ .f32 0x00000000#32))
    (congrArg (fun a => rMask (rEnds a) a) a2) (congr (congr (congr (congrArg rScaled e1) e0) a1) a4)))) a5) a6

/-- The reference runs to the end from any memory: its result is `refOut` of its arguments, and they are unchanged. -/
theorem ref_run : θ_run defs (onTc (τ := τ) (main (F := F))) ⟨m, fun _ => 0, ρ⟩ (fun r => ∀ c : Dev nD,
      r.2.mem ((c.tc : Thread nD τ).loc main_v37) = refOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v37 (Pipeline.mem_restRefs_of main_v37 (by decide) (by decide))).trans (tail_val m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.ReferenceIdeal.Hand

end
-- ==== Proof.Value.lean ====
/- The kernel's result and the reference's are the same array, over the extended reals: each entry is the sum over a
   token's two rows of the row's value times its weight, and a row's value is its expert's product, scaled by row and by
   column. The reference sums over all experts under a mask, which at a row that a token reads keeps exactly the
   expert that the kernel names for it. -/
module

public import proofs.«01_k».proof.Proof.Ideal.Val
public import proofs.«01_k».proof.Proof.Ref.Read
public import proofs.«01_k».proof.Proof.Ref.Ends

@[expose] public section

set_option maxRecDepth 16384

noncomputable section

namespace Cert.Proof.Value

open Cert.KernelIdeal Cert.KernelIdeal.Gen Cert.KernelIdeal.Hand
open Idealize.ShloMosaic Idealize.ShloMosaic.TcCoe Idealize.ShloMosaic.Tactic
open Idealize.ShloMosaic.Pointwise
open Idealize.SL.Sem

theorem ends_eq (a : IVec S16 32) : Cert.ReferenceIdeal.Hand.rEnds a = kEnds a := rfl

theorem toInt_of_lt {x : BitVec 32} {n : ℕ} (hn : n ≤ 69632) (h : x.toNat ≤ n) : x.toInt = (x.toNat : Int) := by
  rw [BitVec.toInt_eq_toNat_cond]; split <;> omega

theorem and_mk {a b : BitVec 1} (ha : a = 1#1) (hb : b = 1#1) : IntOp.andi a b = 1#1 := by subst ha hb; decide

/-- At a row that a token reads, the mask keeps the expert named for it and no other. -/
theorem mask_iff {a2 : IVec S16 32} {x ex : IVec S272x2x128 32} {need : IVec S272x16 32} (h : PreOK (kOff a2) (kEnds a2) x ex need)
    (b : Fin 272) (g : Fin 2) (s : Fin 128) (r : Fin 69632) (hr : r.val = (x (ix3 b g s)).toNat) (e : Fin 16) :
    Cert.ReferenceIdeal.Hand.rMask (Cert.ReferenceIdeal.Hand.rEnds a2) a2 (ix3 e r 0) = 1#1 ↔ (ex (ix3 b g s)).toNat = e.val := by
  have hx : BitVec.ofNat 32 r.val = x (ix3 b g s) := by rw [hr]; simp
  have hoff : IntOp.subi (Cert.ReferenceIdeal.Hand.rEnds a2 (ix1 e)) (a2 (ix1 e)) = kOff a2 (ix1 e) := rfl
  rw [Cert.ReferenceIdeal.Hand.rMask_at, hx, hoff, ends_eq]
  have hxi := toInt_of_lt (le_refl _) (le_of_lt (h.x_lt b g s))
  have hoi := toInt_of_lt (le_refl _) (h.off_le e)
  constructor
  · intro hc
    obtain ⟨h1, h2⟩ := and_one hc
    by_contra hne
    exact h.other b g s e hne ⟨i_sge.mp h1, i_slt.mp h2⟩
  · intro he
    obtain ⟨h1, h2, _, _⟩ := h.mine b g s e he
    exact and_mk (i_sge.mpr (by rw [hxi, hoi]; exact_mod_cast h1)) (i_slt.mpr h2)

/-- So the reference's row is the row of that expert's product, scaled. -/
theorem row_eq (a0 : FVec Ideal S69632x1536 .fp8e4m3) (a1 : FVec Ideal S69632 .f32) (a3 : FVec Ideal S16x1536x3072 .fp8e4m3) (a4 : FVec Ideal S16x3072 .f32)
    {a2 : IVec S16 32} {x ex : IVec S272x2x128 32} {need : IVec S272x16 32} (h : PreOK (kOff a2) (kEnds a2) x ex need)
    (b : Fin 272) (g : Fin 2) (s : Fin 128) (r : Fin 69632) (hr : r.val = (x (ix3 b g s)).toNat) (e : Fin 16) (he : (ex (ix3 b g s)).toNat = e.val) (n : Fin 3072) :
    (Cert.ReferenceIdeal.Hand.rRows (Cert.ReferenceIdeal.Hand.rSel (Cert.ReferenceIdeal.Hand.rMask (Cert.ReferenceIdeal.Hand.rEnds a2) a2)
      (Cert.ReferenceIdeal.Hand.rScaled (Cert.ReferenceIdeal.Gen.k0_pay2 a3) (Cert.ReferenceIdeal.Gen.k0_pay1 a0) a1 a4)
      (constant Cert.ReferenceIdeal.S_ .f32 0x00000000#32)) (ix2 r n) : EReal) = rowVal a0 a1 a3 a4 e r n := by
  rw [Cert.ReferenceIdeal.Hand.rRows_at, Finset.sum_eq_single e]
  · rw [Cert.ReferenceIdeal.Hand.rSel_at, if_pos ((mask_iff h b g s r hr e).mpr he), Cert.ReferenceIdeal.Hand.rScaled_at]
    unfold rowVal
    congr 2
    exact Finset.sum_congr rfl fun k _ => by
      rw [Cert.ReferenceIdeal.Hand.pay1_at, Cert.ReferenceIdeal.Hand.pay2_at]; exact mul_comm _ _
  · intro e' _ hne
    rw [Cert.ReferenceIdeal.Hand.rSel_at, if_neg (fun hc => hne (Fin.ext (((mask_iff h b g s r hr e').mp hc).symm.trans he)))]
    exact Cert.ReferenceIdeal.Hand.zero_at
  · intro hc; exact absurd (Finset.mem_univ e) hc

theorem row_of (a0 : FVec Ideal S69632x1536 .fp8e4m3) (a1 : FVec Ideal S69632 .f32) (a3 : FVec Ideal S16x1536x3072 .fp8e4m3) (a4 : FVec Ideal S16x3072 .f32)
    {a2 : IVec S16 32} {x ex : IVec S272x2x128 32} {need : IVec S272x16 32} (h : PreOK (kOff a2) (kEnds a2) x ex need)
    (b : Fin 272) (g : Fin 2) (s : Fin 128) (r : Fin 69632) (hr : r.val = (x (ix3 b g s)).toNat) (n : Fin 3072) (t col : ℕ) (hn : n.val = t * 1024 + col)
    (y : Elt Ideal .f32) (hy : rowP a0 a1 a3 a4 t (ex (ix3 b g s)).toNat (x (ix3 b g s)).toNat col y) :
    y = Cert.ReferenceIdeal.Hand.rRows (Cert.ReferenceIdeal.Hand.rSel (Cert.ReferenceIdeal.Hand.rMask (Cert.ReferenceIdeal.Hand.rEnds a2) a2)
      (Cert.ReferenceIdeal.Hand.rScaled (Cert.ReferenceIdeal.Gen.k0_pay2 a3) (Cert.ReferenceIdeal.Gen.k0_pay1 a0) a1 a4)
      (constant Cert.ReferenceIdeal.S_ .f32 0x00000000#32)) (ix2 r n) := by
  have hE := h.ex_lt b g s
  have h1 := hy hE (h.x_lt b g s) (by omega)
  have h2 := row_eq a0 a1 a3 a4 h b g s r hr ⟨(ex (ix3 b g s)).toNat, hE⟩ rfl n
  have en : n = ⟨t * 1024 + col, by omega⟩ := Fin.ext hn
  have er : r = ⟨(x (ix3 b g s)).toNat, h.x_lt b g s⟩ := Fin.ext hr
  rw [← en, ← er] at h1
  exact h1.trans h2.symm

variable (m : (ℓ : Loc nD τ sig) → Buf (Elt Ideal) ℓ)

/-- The result both programs end with, at the kernel's arguments. -/
def Y (c : Dev nD) : FVec Ideal S34816x3072 .bf16 :=
  Cert.ReferenceIdeal.Hand.refOut (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The specification of the result, entry by entry. -/
def Qf (c : Dev nD) (row col : ℕ) (x : Elt Ideal .bf16) : Prop :=
  ∀ (hr : row < 34816) (hc : col < 3072), x = Y m c (ix2 (⟨row, hr⟩ : Fin 34816) (⟨col, hc⟩ : Fin 3072))

theorem out_ok (c : Dev nD) (h : OK m c) (t : ℕ) :
    OutOK (F := Ideal) (rowP (m ((c : Thread nD τ).loc main_arg0)) (m ((c : Thread nD τ).loc main_arg1)) (m ((c : Thread nD τ).loc main_arg3)) (m ((c : Thread nD τ).loc main_arg4)) t)
      (oE m c) (oR m c) (kTw (m ((c : Thread nD τ).loc main_arg6))) (Qf m c) t := by
  intro b hb s col v hcol hv hrow hc
  obtain ⟨hs, y0, y1, h0, h1, rfl⟩ := hv
  have hx : ∀ g : Fin 2, (ar5 m c (ix2 (⟨b * 128 + s, hrow⟩ : Fin 34816) g)) = kIdx (ar5 m c) (ix3 (⟨b, hb⟩ : Fin 272) g (⟨s, hs⟩ : Fin 128)) :=
    fun g => (kIdx_at (ar5 m c) ⟨b, hb⟩ g ⟨s, hs⟩).symm
  have hlt : ∀ g : Fin 2, (ar5 m c (ix2 (⟨b * 128 + s, hrow⟩ : Fin 34816) g)).toNat < 69632 := fun g => by rw [hx]; exact h.x_lt _ _ _
  have key : ∀ (g : Fin 2) (y : Elt Ideal .f32), rowP (m ((c : Thread nD τ).loc main_arg0)) (m ((c : Thread nD τ).loc main_arg1)) (m ((c : Thread nD τ).loc main_arg3)) (m ((c : Thread nD τ).loc main_arg4)) t
      (oE m c b g.val s) (oR m c b g.val s) col y →
      y = Cert.ReferenceIdeal.Hand.rRows (Cert.ReferenceIdeal.Hand.rSel (Cert.ReferenceIdeal.Hand.rMask (Cert.ReferenceIdeal.Hand.rEnds (ar2 m c)) (ar2 m c))
        (Cert.ReferenceIdeal.Hand.rScaled (Cert.ReferenceIdeal.Gen.k0_pay2 (m ((c : Thread nD τ).loc main_arg3))) (Cert.ReferenceIdeal.Gen.k0_pay1 (m ((c : Thread nD τ).loc main_arg0))) (m ((c : Thread nD τ).loc main_arg1)) (m ((c : Thread nD τ).loc main_arg4)))
        (constant Cert.ReferenceIdeal.S_ .f32 0x00000000#32)) (ix2 (⟨(ar5 m c (ix2 (⟨b * 128 + s, hrow⟩ : Fin 34816) g)).toNat, hlt g⟩ : Fin 69632) (⟨t * 1024 + col, hc⟩ : Fin 3072)) := by
    intro g y hy
    have eE : oE m c b g.val s = _ := nAt_eq _ (⟨b, hb⟩ : Fin 272) g (⟨s, hs⟩ : Fin 128)
    have eR : oR m c b g.val s = _ := nAt_eq _ (⟨b, hb⟩ : Fin 272) g (⟨s, hs⟩ : Fin 128)
    rw [eE, eR] at hy
    exact row_of _ _ _ _ h ⟨b, hb⟩ g ⟨s, hs⟩ ⟨_, hlt g⟩ (congrArg BitVec.toNat (hx g)) ⟨t * 1024 + col, hc⟩ t col rfl y hy
  rw [key 0 y0 h0, key 1 y1 h1, kTw_at, kTw_at]
  unfold Y Cert.ReferenceIdeal.Hand.refOut
  exact (Cert.ReferenceIdeal.Hand.rOut_at _ (ar5 m c) _ (⟨b * 128 + s, hrow⟩ : Fin 34816) (⟨t * 1024 + col, hc⟩ : Fin 3072) (hlt 0) (hlt 1)).symm

theorem all_ok (h : ∀ c, OK m c) : AllOK m (Qf m) := fun c =>
  ⟨_, _, _, _, rowP (m ((c : Thread nD τ).loc main_arg0)) (m ((c : Thread nD τ).loc main_arg1)) (m ((c : Thread nD τ).loc main_arg3)) (m ((c : Thread nD τ).loc main_arg4)),
    fits m (Qf m) c (h c) _ (fun t Wt W6 h3 h6 => rowP_ok _ _ _ _ t.val Wt W6 h3 h6) (fun t => out_ok m c (h c) t.val)⟩

/-- The kernel's run, its result named. -/
theorem kernel_run (ρ : Dev nD → PrngReg) (h : ∀ c, OK m c) :
    θ_run (defs (F := Ideal)) (onTc (τ := τ) (main (F := Ideal))) ⟨m, fun _ => 0, ρ⟩ (fun r => ∀ c : Dev nD,
      r.2.mem ((c.tc : Thread nD τ).loc main_v69) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨hr.1 c, frame_post m (Qf m) hr.2.1 c⟩)
    (run_value m ρ (Qf m) (all_ok m h) (Y m) (fun c z x hq => (hq (z 0).isLt (z 1).isLt).trans (congrArg (Y m c) (eq_ix2 z).symm)))

theorem refOut_congr {a0 b0 : FVec Ideal S69632x1536 .fp8e4m3} {a1 b1 : FVec Ideal S69632 .f32} {a2 b2 : IVec S16 32} {a3 b3 : FVec Ideal S16x1536x3072 .fp8e4m3}
    {a4 b4 : FVec Ideal S16x3072 .f32} {a5 b5 : IVec S34816x2 32} {a6 b6 : FVec Ideal S34816x2 .f32}
    (h0 : b0 = a0) (h1 : b1 = a1) (h2 : b2 = a2) (h3 : b3 = a3) (h4 : b4 = a4) (h5 : b5 = a5) (h6 : b6 = a6) :
    Cert.ReferenceIdeal.Hand.refOut b0 b1 b2 b3 b4 b5 b6 = Cert.ReferenceIdeal.Hand.refOut a0 a1 a2 a3 a4 a5 a6 := by
  subst h0 h1 h2 h3 h4 h5 h6; rfl

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Pre_sorted_by_expert
public import proofs.«01_k».proof.Proof.Ideal.Fits
public import proofs.«01_k».proof.Proof.Bits.Fits
public import proofs.«01_k».proof.Proof.Value
public import Idealize.ShloMosaic.Adequacy
public import Idealize.ShloMosaic.Init

@[expose] public section

open Idealize.ShloMosaic Idealize.SL.Sem

theorem Cert.Proof.claim : Cert.Claim :=
  ⟨Cert.Kernel.Gen.facts, Cert.KernelIdeal.Gen.facts, Cert.ReferenceIdeal.Gen.facts, Cert.Pre_sorted_by_expert.Gen.facts,
    fun m g h => Cert.Kernel.Hand.frame_run m g (fun c => Cert.Kernel.Hand.ok_of_pre m c (h c)),
    fun m g h => Cert.KernelIdeal.Hand.frame_run m g (fun c => Cert.KernelIdeal.Hand.ok_of_pre m c (h c)),
    fun m g _ => Cert.ReferenceIdeal.Gen.frame m g, trivial,
    fun m g m' g' hpre hag => ⟨Cert.Proof.Value.Y m,
      Cert.Proof.Value.kernel_run m g (fun c => Cert.KernelIdeal.Hand.ok_of_pre m c (hpre c)),
      (θ_run Cert.ReferenceIdeal.defs _ _).mono (fun r hr c => by
        obtain ⟨h0, h1, h2, h3, h4, h5, h6⟩ := hag c
        exact ⟨(hr c).1.trans (Cert.Proof.Value.refOut_congr h0 h1 h2 h3 h4 h5 h6), (hr c).2⟩) (Cert.ReferenceIdeal.Hand.ref_run m' g')⟩⟩
